-- ==== Defs.lean ====
def Pre_ConvBwd (m : (ℓ : Loc Cert.ConvBwd.nD Cert.ConvBwd.τ Cert.ConvBwd.sig) → Buf (Elt Bits) ℓ) : Prop :=
  True

def Pre_ConvBwdIdeal (m : (ℓ : Loc Cert.ConvBwdIdeal.nD Cert.ConvBwdIdeal.τ Cert.ConvBwdIdeal.sig) → Buf (Elt Ideal) ℓ) : Prop :=
  True

def Pre_ConvBwdRefIdeal (m : (ℓ : Loc Cert.ConvBwdRefIdeal.nD Cert.ConvBwdRefIdeal.τ Cert.ConvBwdRefIdeal.sig) → Buf (Elt Ideal) ℓ) : Prop :=
  True

def Pre_AttnBwd (m : (ℓ : Loc Cert.AttnBwd.nD Cert.AttnBwd.τ Cert.AttnBwd.sig) → Buf (Elt Bits) ℓ) : Prop :=
  True

def Pre_AttnBwdIdeal (m : (ℓ : Loc Cert.AttnBwdIdeal.nD Cert.AttnBwdIdeal.τ Cert.AttnBwdIdeal.sig) → Buf (Elt Ideal) ℓ) : Prop :=
  True

def Pre_AttnBwdIdeal_attn_bwd_finite [hPre_attn_bwd_finite : Cert.Pre_attn_bwd_finite.Facts] (m : (ℓ : Loc Cert.AttnBwdIdeal.nD Cert.AttnBwdIdeal.τ Cert.AttnBwdIdeal.sig) → Buf (Elt Ideal) ℓ) : Prop :=
  ∀ c : Dev Cert.AttnBwdIdeal.nD,
    (Cert.Pre_attn_bwd_finite.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3))).1 = (fun _ => 1#1)
    ∧ (Cert.Pre_attn_bwd_finite.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3))).2 = (fun _ => 1#1)

def Pre_AttnBwdRefIdeal (m : (ℓ : Loc Cert.AttnBwdRefIdeal.nD Cert.AttnBwdRefIdeal.τ Cert.AttnBwdRefIdeal.sig) → Buf (Elt Ideal) ℓ) : Prop :=
  True

def Pre_AttnBwdRefIdeal_attn_bwd_finite [hPre_attn_bwd_finite : Cert.Pre_attn_bwd_finite.Facts] (m : (ℓ : Loc Cert.AttnBwdRefIdeal.nD Cert.AttnBwdRefIdeal.τ Cert.AttnBwdRefIdeal.sig) → Buf (Elt Ideal) ℓ) : Prop :=
  ∀ c : Dev Cert.AttnBwdRefIdeal.nD,
    (Cert.Pre_attn_bwd_finite.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2)) (m ((c.tc : Thread Cert.AttnBwdRefIdeal.nD Cert.AttnBwdRefIdeal.τ).loc Cert.AttnBwdRefIdeal.main_arg3))).1 = (fun _ => 1#1)
    ∧ (Cert.Pre_attn_bwd_finite.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2)) (m ((c.tc : Thread Cert.AttnBwdRefIdeal.nD Cert.AttnBwdRefIdeal.τ).loc Cert.AttnBwdRefIdeal.main_arg3))).2 = (fun _ => 1#1)

def Pre_NormLastBwd (m : (ℓ : Loc Cert.NormLastBwd.nD Cert.NormLastBwd.τ Cert.NormLastBwd.sig) → Buf (Elt Bits) ℓ) : Prop :=
  True

def Pre_NormLastBwdIdeal (m : (ℓ : Loc Cert.NormLastBwdIdeal.nD Cert.NormLastBwdIdeal.τ Cert.NormLastBwdIdeal.sig) → Buf (Elt Ideal) ℓ) : Prop :=
  True

def Pre_NormLastBwdRefIdeal (m : (ℓ : Loc Cert.NormLastBwdRefIdeal.nD Cert.NormLastBwdRefIdeal.τ Cert.NormLastBwdRefIdeal.sig) → Buf (Elt Ideal) ℓ) : Prop :=
  True

def Pre_NormMidBwd (m : (ℓ : Loc Cert.NormMidBwd.nD Cert.NormMidBwd.τ Cert.NormMidBwd.sig) → Buf (Elt Bits) ℓ) : Prop :=
  True

def Pre_NormMidBwdIdeal (m : (ℓ : Loc Cert.NormMidBwdIdeal.nD Cert.NormMidBwdIdeal.τ Cert.NormMidBwdIdeal.sig) → Buf (Elt Ideal) ℓ) : Prop :=
  True

def Pre_NormMidBwdRefIdeal (m : (ℓ : Loc Cert.NormMidBwdRefIdeal.nD Cert.NormMidBwdRefIdeal.τ Cert.NormMidBwdRefIdeal.sig) → Buf (Elt Ideal) ℓ) : Prop :=
  True

def Pre_NormMemBwd (m : (ℓ : Loc Cert.NormMemBwd.nD Cert.NormMemBwd.τ Cert.NormMemBwd.sig) → Buf (Elt Bits) ℓ) : Prop :=
  True

def Pre_NormMemBwdIdeal (m : (ℓ : Loc Cert.NormMemBwdIdeal.nD Cert.NormMemBwdIdeal.τ Cert.NormMemBwdIdeal.sig) → Buf (Elt Ideal) ℓ) : Prop :=
  True

def Pre_NormMemBwdRefIdeal (m : (ℓ : Loc Cert.NormMemBwdRefIdeal.nD Cert.NormMemBwdRefIdeal.τ Cert.NormMemBwdRefIdeal.sig) → Buf (Elt Ideal) ℓ) : Prop :=
  True

def Pre_NormFirstBwd (m : (ℓ : Loc Cert.NormFirstBwd.nD Cert.NormFirstBwd.τ Cert.NormFirstBwd.sig) → Buf (Elt Bits) ℓ) : Prop :=
  True

def Pre_NormFirstBwdIdeal (m : (ℓ : Loc Cert.NormFirstBwdIdeal.nD Cert.NormFirstBwdIdeal.τ Cert.NormFirstBwdIdeal.sig) → Buf (Elt Ideal) ℓ) : Prop :=
  True

def Pre_NormFirstBwdRefIdeal (m : (ℓ : Loc Cert.NormFirstBwdRefIdeal.nD Cert.NormFirstBwdRefIdeal.τ Cert.NormFirstBwdRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_DownBwd (m : (ℓ : Loc Cert.DownBwd.nD Cert.DownBwd.τ Cert.DownBwd.sig) → Buf (Elt Bits) ℓ) : Prop :=
  True

def Pre_DownBwdIdeal (m : (ℓ : Loc Cert.DownBwdIdeal.nD Cert.DownBwdIdeal.τ Cert.DownBwdIdeal.sig) → Buf (Elt Ideal) ℓ) : Prop :=
  True

def Pre_DownBwdRefIdeal (m : (ℓ : Loc Cert.DownBwdRefIdeal.nD Cert.DownBwdRefIdeal.τ Cert.DownBwdRefIdeal.sig) → Buf (Elt Ideal) ℓ) : Prop :=
  True

def Pre_GmlpBwd (m : (ℓ : Loc Cert.GmlpBwd.nD Cert.GmlpBwd.τ Cert.GmlpBwd.sig) → Buf (Elt Bits) ℓ) : Prop :=
  True

def Pre_GmlpBwdIdeal (m : (ℓ : Loc Cert.GmlpBwdIdeal.nD Cert.GmlpBwdIdeal.τ Cert.GmlpBwdIdeal.sig) → Buf (Elt Ideal) ℓ) : Prop :=
  True

def Pre_GmlpBwdIdeal_gmlp_bwd_finite [hPre_gmlp_bwd_finite : Cert.Pre_gmlp_bwd_finite.Facts] (m : (ℓ : Loc Cert.GmlpBwdIdeal.nD Cert.GmlpBwdIdeal.τ Cert.GmlpBwdIdeal.sig) → Buf (Elt Ideal) ℓ) : Prop :=
  ∀ c : Dev Cert.GmlpBwdIdeal.nD,
    (Cert.Pre_gmlp_bwd_finite.fn (F := Ideal) (m ((c.tc : Thread Cert.GmlpBwdIdeal.nD Cert.GmlpBwdIdeal.τ).loc Cert.GmlpBwdIdeal.main_arg0)) (m ((c.tc : Thread Cert.GmlpBwdIdeal.nD Cert.GmlpBwdIdeal.τ).loc Cert.GmlpBwdIdeal.main_arg1)) (m ((c.tc : Thread Cert.GmlpBwdIdeal.nD Cert.GmlpBwdIdeal.τ).loc Cert.GmlpBwdIdeal.main_arg2)) (m ((c.tc : Thread Cert.GmlpBwdIdeal.nD Cert.GmlpBwdIdeal.τ).loc Cert.GmlpBwdIdeal.main_arg3)) (m ((c.tc : Thread Cert.GmlpBwdIdeal.nD Cert.GmlpBwdIdeal.τ).loc Cert.GmlpBwdIdeal.main_arg4))).1 = (fun _ => 1#1)
    ∧ (Cert.Pre_gmlp_bwd_finite.fn (F := Ideal) (m ((c.tc : Thread Cert.GmlpBwdIdeal.nD Cert.GmlpBwdIdeal.τ).loc Cert.GmlpBwdIdeal.main_arg0)) (m ((c.tc : Thread Cert.GmlpBwdIdeal.nD Cert.GmlpBwdIdeal.τ).loc Cert.GmlpBwdIdeal.main_arg1)) (m ((c.tc : Thread Cert.GmlpBwdIdeal.nD Cert.GmlpBwdIdeal.τ).loc Cert.GmlpBwdIdeal.main_arg2)) (m ((c.tc : Thread Cert.GmlpBwdIdeal.nD Cert.GmlpBwdIdeal.τ).loc Cert.GmlpBwdIdeal.main_arg3)) (m ((c.tc : Thread Cert.GmlpBwdIdeal.nD Cert.GmlpBwdIdeal.τ).loc Cert.GmlpBwdIdeal.main_arg4))).2.1 = (fun _ => 1#1)
    ∧ (Cert.Pre_gmlp_bwd_finite.fn (F := Ideal) (m ((c.tc : Thread Cert.GmlpBwdIdeal.nD Cert.GmlpBwdIdeal.τ).loc Cert.GmlpBwdIdeal.main_arg0)) (m ((c.tc : Thread Cert.GmlpBwdIdeal.nD Cert.GmlpBwdIdeal.τ).loc Cert.GmlpBwdIdeal.main_arg1)) (m ((c.tc : Thread Cert.GmlpBwdIdeal.nD Cert.GmlpBwdIdeal.τ).loc Cert.GmlpBwdIdeal.main_arg2)) (m ((c.tc : Thread Cert.GmlpBwdIdeal.nD Cert.GmlpBwdIdeal.τ).loc Cert.GmlpBwdIdeal.main_arg3)) (m ((c.tc : Thread Cert.GmlpBwdIdeal.nD Cert.GmlpBwdIdeal.τ).loc Cert.GmlpBwdIdeal.main_arg4))).2.2.1 = (fun _ => 1#1)
    ∧ (Cert.Pre_gmlp_bwd_finite.fn (F := Ideal) (m ((c.tc : Thread Cert.GmlpBwdIdeal.nD Cert.GmlpBwdIdeal.τ).loc Cert.GmlpBwdIdeal.main_arg0)) (m ((c.tc : Thread Cert.GmlpBwdIdeal.nD Cert.GmlpBwdIdeal.τ).loc Cert.GmlpBwdIdeal.main_arg1)) (m ((c.tc : Thread Cert.GmlpBwdIdeal.nD Cert.GmlpBwdIdeal.τ).loc Cert.GmlpBwdIdeal.main_arg2)) (m ((c.tc : Thread Cert.GmlpBwdIdeal.nD Cert.GmlpBwdIdeal.τ).loc Cert.GmlpBwdIdeal.main_arg3)) (m ((c.tc : Thread Cert.GmlpBwdIdeal.nD Cert.GmlpBwdIdeal.τ).loc Cert.GmlpBwdIdeal.main_arg4))).2.2.2 = (fun _ => 1#1)

def Pre_GmlpBwdRefIdeal (m : (ℓ : Loc Cert.GmlpBwdRefIdeal.nD Cert.GmlpBwdRefIdeal.τ Cert.GmlpBwdRefIdeal.sig) → Buf (Elt Ideal) ℓ) : Prop :=
  True

def Pre_GmlpBwdRefIdeal_gmlp_bwd_finite [hPre_gmlp_bwd_finite : Cert.Pre_gmlp_bwd_finite.Facts] (m : (ℓ : Loc Cert.GmlpBwdRefIdeal.nD Cert.GmlpBwdRefIdeal.τ Cert.GmlpBwdRefIdeal.sig) → Buf (Elt Ideal) ℓ) : Prop :=
  ∀ c : Dev Cert.GmlpBwdRefIdeal.nD,
    (Cert.Pre_gmlp_bwd_finite.fn (F := Ideal) (m ((c.tc : Thread Cert.GmlpBwdRefIdeal.nD Cert.GmlpBwdRefIdeal.τ).loc Cert.GmlpBwdRefIdeal.main_arg0)) (m ((c.tc : Thread Cert.GmlpBwdRefIdeal.nD Cert.GmlpBwdRefIdeal.τ).loc Cert.GmlpBwdRefIdeal.main_arg1)) (m ((c.tc : Thread Cert.GmlpBwdRefIdeal.nD Cert.GmlpBwdRefIdeal.τ).loc Cert.GmlpBwdRefIdeal.main_arg2)) (m ((c.tc : Thread Cert.GmlpBwdRefIdeal.nD Cert.GmlpBwdRefIdeal.τ).loc Cert.GmlpBwdRefIdeal.main_arg3)) (m ((c.tc : Thread Cert.GmlpBwdRefIdeal.nD Cert.GmlpBwdRefIdeal.τ).loc Cert.GmlpBwdRefIdeal.main_arg4))).1 = (fun _ => 1#1)
    ∧ (Cert.Pre_gmlp_bwd_finite.fn (F := Ideal) (m ((c.tc : Thread Cert.GmlpBwdRefIdeal.nD Cert.GmlpBwdRefIdeal.τ).loc Cert.GmlpBwdRefIdeal.main_arg0)) (m ((c.tc : Thread Cert.GmlpBwdRefIdeal.nD Cert.GmlpBwdRefIdeal.τ).loc Cert.GmlpBwdRefIdeal.main_arg1)) (m ((c.tc : Thread Cert.GmlpBwdRefIdeal.nD Cert.GmlpBwdRefIdeal.τ).loc Cert.GmlpBwdRefIdeal.main_arg2)) (m ((c.tc : Thread Cert.GmlpBwdRefIdeal.nD Cert.GmlpBwdRefIdeal.τ).loc Cert.GmlpBwdRefIdeal.main_arg3)) (m ((c.tc : Thread Cert.GmlpBwdRefIdeal.nD Cert.GmlpBwdRefIdeal.τ).loc Cert.GmlpBwdRefIdeal.main_arg4))).2.1 = (fun _ => 1#1)
    ∧ (Cert.Pre_gmlp_bwd_finite.fn (F := Ideal) (m ((c.tc : Thread Cert.GmlpBwdRefIdeal.nD Cert.GmlpBwdRefIdeal.τ).loc Cert.GmlpBwdRefIdeal.main_arg0)) (m ((c.tc : Thread Cert.GmlpBwdRefIdeal.nD Cert.GmlpBwdRefIdeal.τ).loc Cert.GmlpBwdRefIdeal.main_arg1)) (m ((c.tc : Thread Cert.GmlpBwdRefIdeal.nD Cert.GmlpBwdRefIdeal.τ).loc Cert.GmlpBwdRefIdeal.main_arg2)) (m ((c.tc : Thread Cert.GmlpBwdRefIdeal.nD Cert.GmlpBwdRefIdeal.τ).loc Cert.GmlpBwdRefIdeal.main_arg3)) (m ((c.tc : Thread Cert.GmlpBwdRefIdeal.nD Cert.GmlpBwdRefIdeal.τ).loc Cert.GmlpBwdRefIdeal.main_arg4))).2.2.1 = (fun _ => 1#1)
    ∧ (Cert.Pre_gmlp_bwd_finite.fn (F := Ideal) (m ((c.tc : Thread Cert.GmlpBwdRefIdeal.nD Cert.GmlpBwdRefIdeal.τ).loc Cert.GmlpBwdRefIdeal.main_arg0)) (m ((c.tc : Thread Cert.GmlpBwdRefIdeal.nD Cert.GmlpBwdRefIdeal.τ).loc Cert.GmlpBwdRefIdeal.main_arg1)) (m ((c.tc : Thread Cert.GmlpBwdRefIdeal.nD Cert.GmlpBwdRefIdeal.τ).loc Cert.GmlpBwdRefIdeal.main_arg2)) (m ((c.tc : Thread Cert.GmlpBwdRefIdeal.nD Cert.GmlpBwdRefIdeal.τ).loc Cert.GmlpBwdRefIdeal.main_arg3)) (m ((c.tc : Thread Cert.GmlpBwdRefIdeal.nD Cert.GmlpBwdRefIdeal.τ).loc Cert.GmlpBwdRefIdeal.main_arg4))).2.2.2 = (fun _ => 1#1)

def Pre_PoolBwd (m : (ℓ : Loc Cert.PoolBwd.nD Cert.PoolBwd.τ Cert.PoolBwd.sig) → Buf (Elt Bits) ℓ) : Prop :=
  True

def Pre_PoolBwdIdeal (m : (ℓ : Loc Cert.PoolBwdIdeal.nD Cert.PoolBwdIdeal.τ Cert.PoolBwdIdeal.sig) → Buf (Elt Ideal) ℓ) : Prop :=
  True

def Pre_PoolBwdIdeal_pool_bwd_finite [hPre_pool_bwd_finite : Cert.Pre_pool_bwd_finite.Facts] (m : (ℓ : Loc Cert.PoolBwdIdeal.nD Cert.PoolBwdIdeal.τ Cert.PoolBwdIdeal.sig) → Buf (Elt Ideal) ℓ) : Prop :=
  ∀ c : Dev Cert.PoolBwdIdeal.nD,
    (Cert.Pre_pool_bwd_finite.fn (F := Ideal) (m ((c.tc : Thread Cert.PoolBwdIdeal.nD Cert.PoolBwdIdeal.τ).loc Cert.PoolBwdIdeal.main_arg0)) (m ((c.tc : Thread Cert.PoolBwdIdeal.nD Cert.PoolBwdIdeal.τ).loc Cert.PoolBwdIdeal.main_arg1)) (m ((c.tc : Thread Cert.PoolBwdIdeal.nD Cert.PoolBwdIdeal.τ).loc Cert.PoolBwdIdeal.main_arg2)) (m ((c.tc : Thread Cert.PoolBwdIdeal.nD Cert.PoolBwdIdeal.τ).loc Cert.PoolBwdIdeal.main_arg3))).1 = (fun _ => 1#1)
    ∧ (Cert.Pre_pool_bwd_finite.fn (F := Ideal) (m ((c.tc : Thread Cert.PoolBwdIdeal.nD Cert.PoolBwdIdeal.τ).loc Cert.PoolBwdIdeal.main_arg0)) (m ((c.tc : Thread Cert.PoolBwdIdeal.nD Cert.PoolBwdIdeal.τ).loc Cert.PoolBwdIdeal.main_arg1)) (m ((c.tc : Thread Cert.PoolBwdIdeal.nD Cert.PoolBwdIdeal.τ).loc Cert.PoolBwdIdeal.main_arg2)) (m ((c.tc : Thread Cert.PoolBwdIdeal.nD Cert.PoolBwdIdeal.τ).loc Cert.PoolBwdIdeal.main_arg3))).2.1 = (fun _ => 1#1)
    ∧ (Cert.Pre_pool_bwd_finite.fn (F := Ideal) (m ((c.tc : Thread Cert.PoolBwdIdeal.nD Cert.PoolBwdIdeal.τ).loc Cert.PoolBwdIdeal.main_arg0)) (m ((c.tc : Thread Cert.PoolBwdIdeal.nD Cert.PoolBwdIdeal.τ).loc Cert.PoolBwdIdeal.main_arg1)) (m ((c.tc : Thread Cert.PoolBwdIdeal.nD Cert.PoolBwdIdeal.τ).loc Cert.PoolBwdIdeal.main_arg2)) (m ((c.tc : Thread Cert.PoolBwdIdeal.nD Cert.PoolBwdIdeal.τ).loc Cert.PoolBwdIdeal.main_arg3))).2.2.1 = (fun _ => 1#1)
    ∧ (Cert.Pre_pool_bwd_finite.fn (F := Ideal) (m ((c.tc : Thread Cert.PoolBwdIdeal.nD Cert.PoolBwdIdeal.τ).loc Cert.PoolBwdIdeal.main_arg0)) (m ((c.tc : Thread Cert.PoolBwdIdeal.nD Cert.PoolBwdIdeal.τ).loc Cert.PoolBwdIdeal.main_arg1)) (m ((c.tc : Thread Cert.PoolBwdIdeal.nD Cert.PoolBwdIdeal.τ).loc Cert.PoolBwdIdeal.main_arg2)) (m ((c.tc : Thread Cert.PoolBwdIdeal.nD Cert.PoolBwdIdeal.τ).loc Cert.PoolBwdIdeal.main_arg3))).2.2.2 = (fun _ => 1#1)

def Pre_PoolBwdRefIdeal (m : (ℓ : Loc Cert.PoolBwdRefIdeal.nD Cert.PoolBwdRefIdeal.τ Cert.PoolBwdRefIdeal.sig) → Buf (Elt Ideal) ℓ) : Prop :=
  True

def Pre_PoolBwdRefIdeal_pool_bwd_finite [hPre_pool_bwd_finite : Cert.Pre_pool_bwd_finite.Facts] (m : (ℓ : Loc Cert.PoolBwdRefIdeal.nD Cert.PoolBwdRefIdeal.τ Cert.PoolBwdRefIdeal.sig) → Buf (Elt Ideal) ℓ) : Prop :=
  ∀ c : Dev Cert.PoolBwdRefIdeal.nD,
    (Cert.Pre_pool_bwd_finite.fn (F := Ideal) (m ((c.tc : Thread Cert.PoolBwdRefIdeal.nD Cert.PoolBwdRefIdeal.τ).loc Cert.PoolBwdRefIdeal.main_arg0)) (m ((c.tc : Thread Cert.PoolBwdRefIdeal.nD Cert.PoolBwdRefIdeal.τ).loc Cert.PoolBwdRefIdeal.main_arg1)) (m ((c.tc : Thread Cert.PoolBwdRefIdeal.nD Cert.PoolBwdRefIdeal.τ).loc Cert.PoolBwdRefIdeal.main_arg2)) (m ((c.tc : Thread Cert.PoolBwdRefIdeal.nD Cert.PoolBwdRefIdeal.τ).loc Cert.PoolBwdRefIdeal.main_arg3))).1 = (fun _ => 1#1)
    ∧ (Cert.Pre_pool_bwd_finite.fn (F := Ideal) (m ((c.tc : Thread Cert.PoolBwdRefIdeal.nD Cert.PoolBwdRefIdeal.τ).loc Cert.PoolBwdRefIdeal.main_arg0)) (m ((c.tc : Thread Cert.PoolBwdRefIdeal.nD Cert.PoolBwdRefIdeal.τ).loc Cert.PoolBwdRefIdeal.main_arg1)) (m ((c.tc : Thread Cert.PoolBwdRefIdeal.nD Cert.PoolBwdRefIdeal.τ).loc Cert.PoolBwdRefIdeal.main_arg2)) (m ((c.tc : Thread Cert.PoolBwdRefIdeal.nD Cert.PoolBwdRefIdeal.τ).loc Cert.PoolBwdRefIdeal.main_arg3))).2.1 = (fun _ => 1#1)
    ∧ (Cert.Pre_pool_bwd_finite.fn (F := Ideal) (m ((c.tc : Thread Cert.PoolBwdRefIdeal.nD Cert.PoolBwdRefIdeal.τ).loc Cert.PoolBwdRefIdeal.main_arg0)) (m ((c.tc : Thread Cert.PoolBwdRefIdeal.nD Cert.PoolBwdRefIdeal.τ).loc Cert.PoolBwdRefIdeal.main_arg1)) (m ((c.tc : Thread Cert.PoolBwdRefIdeal.nD Cert.PoolBwdRefIdeal.τ).loc Cert.PoolBwdRefIdeal.main_arg2)) (m ((c.tc : Thread Cert.PoolBwdRefIdeal.nD Cert.PoolBwdRefIdeal.τ).loc Cert.PoolBwdRefIdeal.main_arg3))).2.2.1 = (fun _ => 1#1)
    ∧ (Cert.Pre_pool_bwd_finite.fn (F := Ideal) (m ((c.tc : Thread Cert.PoolBwdRefIdeal.nD Cert.PoolBwdRefIdeal.τ).loc Cert.PoolBwdRefIdeal.main_arg0)) (m ((c.tc : Thread Cert.PoolBwdRefIdeal.nD Cert.PoolBwdRefIdeal.τ).loc Cert.PoolBwdRefIdeal.main_arg1)) (m ((c.tc : Thread Cert.PoolBwdRefIdeal.nD Cert.PoolBwdRefIdeal.τ).loc Cert.PoolBwdRefIdeal.main_arg2)) (m ((c.tc : Thread Cert.PoolBwdRefIdeal.nD Cert.PoolBwdRefIdeal.τ).loc Cert.PoolBwdRefIdeal.main_arg3))).2.2.2 = (fun _ => 1#1)

def Pre_SwishBwd (m : (ℓ : Loc Cert.SwishBwd.nD Cert.SwishBwd.τ Cert.SwishBwd.sig) → Buf (Elt Bits) ℓ) : Prop :=
  True

def Pre_SwishBwdIdeal (m : (ℓ : Loc Cert.SwishBwdIdeal.nD Cert.SwishBwdIdeal.τ Cert.SwishBwdIdeal.sig) → Buf (Elt Ideal) ℓ) : Prop :=
  True

def Pre_SwishBwdIdeal_swish_bwd_finite [hPre_swish_bwd_finite : Cert.Pre_swish_bwd_finite.Facts] (m : (ℓ : Loc Cert.SwishBwdIdeal.nD Cert.SwishBwdIdeal.τ Cert.SwishBwdIdeal.sig) → Buf (Elt Ideal) ℓ) : Prop :=
  ∀ c : Dev Cert.SwishBwdIdeal.nD,
    (Cert.Pre_swish_bwd_finite.fn (F := Ideal) (m ((c.tc : Thread Cert.SwishBwdIdeal.nD Cert.SwishBwdIdeal.τ).loc Cert.SwishBwdIdeal.main_arg0)) (m ((c.tc : Thread Cert.SwishBwdIdeal.nD Cert.SwishBwdIdeal.τ).loc Cert.SwishBwdIdeal.main_arg1)) (m ((c.tc : Thread Cert.SwishBwdIdeal.nD Cert.SwishBwdIdeal.τ).loc Cert.SwishBwdIdeal.main_arg2)) (m ((c.tc : Thread Cert.SwishBwdIdeal.nD Cert.SwishBwdIdeal.τ).loc Cert.SwishBwdIdeal.main_arg3))).1 = (fun _ => 1#1)
    ∧ (Cert.Pre_swish_bwd_finite.fn (F := Ideal) (m ((c.tc : Thread Cert.SwishBwdIdeal.nD Cert.SwishBwdIdeal.τ).loc Cert.SwishBwdIdeal.main_arg0)) (m ((c.tc : Thread Cert.SwishBwdIdeal.nD Cert.SwishBwdIdeal.τ).loc Cert.SwishBwdIdeal.main_arg1)) (m ((c.tc : Thread Cert.SwishBwdIdeal.nD Cert.SwishBwdIdeal.τ).loc Cert.SwishBwdIdeal.main_arg2)) (m ((c.tc : Thread Cert.SwishBwdIdeal.nD Cert.SwishBwdIdeal.τ).loc Cert.SwishBwdIdeal.main_arg3))).2 = (fun _ => 1#1)

def Pre_SwishBwdRefIdeal (m : (ℓ : Loc Cert.SwishBwdRefIdeal.nD Cert.SwishBwdRefIdeal.τ Cert.SwishBwdRefIdeal.sig) → Buf (Elt Ideal) ℓ) : Prop :=
  True

def Pre_SwishBwdRefIdeal_swish_bwd_finite [hPre_swish_bwd_finite : Cert.Pre_swish_bwd_finite.Facts] (m : (ℓ : Loc Cert.SwishBwdRefIdeal.nD Cert.SwishBwdRefIdeal.τ Cert.SwishBwdRefIdeal.sig) → Buf (Elt Ideal) ℓ) : Prop :=
  ∀ c : Dev Cert.SwishBwdRefIdeal.nD,
    (Cert.Pre_swish_bwd_finite.fn (F := Ideal) (m ((c.tc : Thread Cert.SwishBwdRefIdeal.nD Cert.SwishBwdRefIdeal.τ).loc Cert.SwishBwdRefIdeal.main_arg0)) (m ((c.tc : Thread Cert.SwishBwdRefIdeal.nD Cert.SwishBwdRefIdeal.τ).loc Cert.SwishBwdRefIdeal.main_arg1)) (m ((c.tc : Thread Cert.SwishBwdRefIdeal.nD Cert.SwishBwdRefIdeal.τ).loc Cert.SwishBwdRefIdeal.main_arg2)) (m ((c.tc : Thread Cert.SwishBwdRefIdeal.nD Cert.SwishBwdRefIdeal.τ).loc Cert.SwishBwdRefIdeal.main_arg3))).1 = (fun _ => 1#1)
    ∧ (Cert.Pre_swish_bwd_finite.fn (F := Ideal) (m ((c.tc : Thread Cert.SwishBwdRefIdeal.nD Cert.SwishBwdRefIdeal.τ).loc Cert.SwishBwdRefIdeal.main_arg0)) (m ((c.tc : Thread Cert.SwishBwdRefIdeal.nD Cert.SwishBwdRefIdeal.τ).loc Cert.SwishBwdRefIdeal.main_arg1)) (m ((c.tc : Thread Cert.SwishBwdRefIdeal.nD Cert.SwishBwdRefIdeal.τ).loc Cert.SwishBwdRefIdeal.main_arg2)) (m ((c.tc : Thread Cert.SwishBwdRefIdeal.nD Cert.SwishBwdRefIdeal.τ).loc Cert.SwishBwdRefIdeal.main_arg3))).2 = (fun _ => 1#1)

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdRefIdeal (m : (ℓ : Loc Cert.AttnFwdRefIdeal.nD Cert.AttnFwdRefIdeal.τ Cert.AttnFwdRefIdeal.sig) → Buf (Elt Ideal) ℓ) : Prop :=
  True

def Pre_GmlpFwd (m : (ℓ : Loc Cert.GmlpFwd.nD Cert.GmlpFwd.τ Cert.GmlpFwd.sig) → Buf (Elt Bits) ℓ) : Prop :=
  True

def Pre_GmlpFwdIdeal (m : (ℓ : Loc Cert.GmlpFwdIdeal.nD Cert.GmlpFwdIdeal.τ Cert.GmlpFwdIdeal.sig) → Buf (Elt Ideal) ℓ) : Prop :=
  True

def Pre_GmlpFwdRefIdeal (m : (ℓ : Loc Cert.GmlpFwdRefIdeal.nD Cert.GmlpFwdRefIdeal.τ Cert.GmlpFwdRefIdeal.sig) → Buf (Elt Ideal) ℓ) : Prop :=
  True

def Pre_PoolFwd (m : (ℓ : Loc Cert.PoolFwd.nD Cert.PoolFwd.τ Cert.PoolFwd.sig) → Buf (Elt Bits) ℓ) : Prop :=
  True

def Pre_PoolFwdIdeal (m : (ℓ : Loc Cert.PoolFwdIdeal.nD Cert.PoolFwdIdeal.τ Cert.PoolFwdIdeal.sig) → Buf (Elt Ideal) ℓ) : Prop :=
  True

def Pre_PoolFwdIdeal_pool_fwd_finite [hPre_pool_fwd_finite : Cert.Pre_pool_fwd_finite.Facts] (m : (ℓ : Loc Cert.PoolFwdIdeal.nD Cert.PoolFwdIdeal.τ Cert.PoolFwdIdeal.sig) → Buf (Elt Ideal) ℓ) : Prop :=
  ∀ c : Dev Cert.PoolFwdIdeal.nD,
    (Cert.Pre_pool_fwd_finite.fn (F := Ideal) (m ((c.tc : Thread Cert.PoolFwdIdeal.nD Cert.PoolFwdIdeal.τ).loc Cert.PoolFwdIdeal.main_arg0)) (m ((c.tc : Thread Cert.PoolFwdIdeal.nD Cert.PoolFwdIdeal.τ).loc Cert.PoolFwdIdeal.main_arg1)) (m ((c.tc : Thread Cert.PoolFwdIdeal.nD Cert.PoolFwdIdeal.τ).loc Cert.PoolFwdIdeal.main_arg2))) = (fun _ => 1#1)

def Pre_PoolFwdRefIdeal (m : (ℓ : Loc Cert.PoolFwdRefIdeal.nD Cert.PoolFwdRefIdeal.τ Cert.PoolFwdRefIdeal.sig) → Buf (Elt Ideal) ℓ) : Prop :=
  True

def Pre_PoolFwdRefIdeal_pool_fwd_finite [hPre_pool_fwd_finite : Cert.Pre_pool_fwd_finite.Facts] (m : (ℓ : Loc Cert.PoolFwdRefIdeal.nD Cert.PoolFwdRefIdeal.τ Cert.PoolFwdRefIdeal.sig) → Buf (Elt Ideal) ℓ) : Prop :=
  ∀ c : Dev Cert.PoolFwdRefIdeal.nD,
    (Cert.Pre_pool_fwd_finite.fn (F := Ideal) (m ((c.tc : Thread Cert.PoolFwdRefIdeal.nD Cert.PoolFwdRefIdeal.τ).loc Cert.PoolFwdRefIdeal.main_arg0)) (m ((c.tc : Thread Cert.PoolFwdRefIdeal.nD Cert.PoolFwdRefIdeal.τ).loc Cert.PoolFwdRefIdeal.main_arg1)) (m ((c.tc : Thread Cert.PoolFwdRefIdeal.nD Cert.PoolFwdRefIdeal.τ).loc Cert.PoolFwdRefIdeal.main_arg2))) = (fun _ => 1#1)

def Pre_ConvFwd (m : (ℓ : Loc Cert.ConvFwd.nD Cert.ConvFwd.τ Cert.ConvFwd.sig) → Buf (Elt Bits) ℓ) : Prop :=
  True

def Pre_ConvFwdIdeal (m : (ℓ : Loc Cert.ConvFwdIdeal.nD Cert.ConvFwdIdeal.τ Cert.ConvFwdIdeal.sig) → Buf (Elt Ideal) ℓ) : Prop :=
  True

def Pre_ConvFwdRefIdeal (m : (ℓ : Loc Cert.ConvFwdRefIdeal.nD Cert.ConvFwdRefIdeal.τ Cert.ConvFwdRefIdeal.sig) → Buf (Elt Ideal) ℓ) : Prop :=
  True

def Pre_SwishFwd (m : (ℓ : Loc Cert.SwishFwd.nD Cert.SwishFwd.τ Cert.SwishFwd.sig) → Buf (Elt Bits) ℓ) : Prop :=
  True

def Pre_SwishFwdIdeal (m : (ℓ : Loc Cert.SwishFwdIdeal.nD Cert.SwishFwdIdeal.τ Cert.SwishFwdIdeal.sig) → Buf (Elt Ideal) ℓ) : Prop :=
  True

def Pre_SwishFwdRefIdeal (m : (ℓ : Loc Cert.SwishFwdRefIdeal.nD Cert.SwishFwdRefIdeal.τ Cert.SwishFwdRefIdeal.sig) → Buf (Elt Ideal) ℓ) : Prop :=
  True

def Pre_NormFirstFwd (m : (ℓ : Loc Cert.NormFirstFwd.nD Cert.NormFirstFwd.τ Cert.NormFirstFwd.sig) → Buf (Elt Bits) ℓ) : Prop :=
  True

def Pre_NormFirstFwdIdeal (m : (ℓ : Loc Cert.NormFirstFwdIdeal.nD Cert.NormFirstFwdIdeal.τ Cert.NormFirstFwdIdeal.sig) → Buf (Elt Ideal) ℓ) : Prop :=
  True

def Pre_NormFirstFwdRefIdeal (m : (ℓ : Loc Cert.NormFirstFwdRefIdeal.nD Cert.NormFirstFwdRefIdeal.τ Cert.NormFirstFwdRefIdeal.sig) → Buf (Elt Ideal) ℓ) : Prop :=
  True

def Pre_NormMemFwd (m : (ℓ : Loc Cert.NormMemFwd.nD Cert.NormMemFwd.τ Cert.NormMemFwd.sig) → Buf (Elt Bits) ℓ) : Prop :=
  True

def Pre_NormMemFwdIdeal (m : (ℓ : Loc Cert.NormMemFwdIdeal.nD Cert.NormMemFwdIdeal.τ Cert.NormMemFwdIdeal.sig) → Buf (Elt Ideal) ℓ) : Prop :=
  True

def Pre_NormMemFwdRefIdeal (m : (ℓ : Loc Cert.NormMemFwdRefIdeal.nD Cert.NormMemFwdRefIdeal.τ Cert.NormMemFwdRefIdeal.sig) → Buf (Elt Ideal) ℓ) : Prop :=
  True

def Pre_NormMidFwd (m : (ℓ : Loc Cert.NormMidFwd.nD Cert.NormMidFwd.τ Cert.NormMidFwd.sig) → Buf (Elt Bits) ℓ) : Prop :=
  True

def Pre_NormMidFwdIdeal (m : (ℓ : Loc Cert.NormMidFwdIdeal.nD Cert.NormMidFwdIdeal.τ Cert.NormMidFwdIdeal.sig) → Buf (Elt Ideal) ℓ) : Prop :=
  True

def Pre_NormMidFwdRefIdeal (m : (ℓ : Loc Cert.NormMidFwdRefIdeal.nD Cert.NormMidFwdRefIdeal.τ Cert.NormMidFwdRefIdeal.sig) → Buf (Elt Ideal) ℓ) : Prop :=
  True

def Pre_NormLastFwd (m : (ℓ : Loc Cert.NormLastFwd.nD Cert.NormLastFwd.τ Cert.NormLastFwd.sig) → Buf (Elt Bits) ℓ) : Prop :=
  True

def Pre_NormLastFwdIdeal (m : (ℓ : Loc Cert.NormLastFwdIdeal.nD Cert.NormLastFwdIdeal.τ Cert.NormLastFwdIdeal.sig) → Buf (Elt Ideal) ℓ) : Prop :=
  True

def Pre_NormLastFwdRefIdeal (m : (ℓ : Loc Cert.NormLastFwdRefIdeal.nD Cert.NormLastFwdRefIdeal.τ Cert.NormLastFwdRefIdeal.sig) → Buf (Elt Ideal) ℓ) : Prop :=
  True

def Pre_UpFwd (m : (ℓ : Loc Cert.UpFwd.nD Cert.UpFwd.τ Cert.UpFwd.sig) → Buf (Elt Bits) ℓ) : Prop :=
  True

def Pre_UpFwdIdeal (m : (ℓ : Loc Cert.UpFwdIdeal.nD Cert.UpFwdIdeal.τ Cert.UpFwdIdeal.sig) → Buf (Elt Ideal) ℓ) : Prop :=
  True

def Pre_UpFwdRefIdeal (m : (ℓ : Loc Cert.UpFwdRefIdeal.nD Cert.UpFwdRefIdeal.τ Cert.UpFwdRefIdeal.sig) → Buf (Elt Ideal) ℓ) : Prop :=
  True

def Pre_DownFwd (m : (ℓ : Loc Cert.DownFwd.nD Cert.DownFwd.τ Cert.DownFwd.sig) → Buf (Elt Bits) ℓ) : Prop :=
  True

def Pre_DownFwdIdeal (m : (ℓ : Loc Cert.DownFwdIdeal.nD Cert.DownFwdIdeal.τ Cert.DownFwdIdeal.sig) → Buf (Elt Ideal) ℓ) : Prop :=
  True

def Pre_DownFwdRefIdeal (m : (ℓ : Loc Cert.DownFwdRefIdeal.nD Cert.DownFwdRefIdeal.τ Cert.DownFwdRefIdeal.sig) → Buf (Elt Ideal) ℓ) : Prop :=
  True

def Pre_InFwd (m : (ℓ : Loc Cert.InFwd.nD Cert.InFwd.τ Cert.InFwd.sig) → Buf (Elt Bits) ℓ) : Prop :=
  True

def Pre_InFwdIdeal (m : (ℓ : Loc Cert.InFwdIdeal.nD Cert.InFwdIdeal.τ Cert.InFwdIdeal.sig) → Buf (Elt Ideal) ℓ) : Prop :=
  True

def Pre_InFwdRefIdeal (m : (ℓ : Loc Cert.InFwdRefIdeal.nD Cert.InFwdRefIdeal.τ Cert.InFwdRefIdeal.sig) → Buf (Elt Ideal) ℓ) : Prop :=
  True

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_OutDxRefIdeal (m : (ℓ : Loc Cert.OutDxRefIdeal.nD Cert.OutDxRefIdeal.τ Cert.OutDxRefIdeal.sig) → Buf (Elt Ideal) ℓ) : Prop :=
  True

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpDxRefIdeal (m : (ℓ : Loc Cert.UpDxRefIdeal.nD Cert.UpDxRefIdeal.τ Cert.UpDxRefIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwRefIdeal (m : (ℓ : Loc Cert.UpDwRefIdeal.nD Cert.UpDwRefIdeal.τ Cert.UpDwRefIdeal.sig) → Buf (Elt Ideal) ℓ) : Prop :=
  True

def Pre_AdamwUp (m : (ℓ : Loc Cert.AdamwUp.nD Cert.AdamwUp.τ Cert.AdamwUp.sig) → Buf (Elt Bits) ℓ) : Prop :=
  True

def Pre_AdamwUpIdeal (m : (ℓ : Loc Cert.AdamwUpIdeal.nD Cert.AdamwUpIdeal.τ Cert.AdamwUpIdeal.sig) → Buf (Elt Ideal) ℓ) : Prop :=
  True

def Pre_AdamwUpRefIdeal (m : (ℓ : Loc Cert.AdamwUpRefIdeal.nD Cert.AdamwUpRefIdeal.τ Cert.AdamwUpRefIdeal.sig) → Buf (Elt Ideal) ℓ) : Prop :=
  True

def Pre_AdamwTaps (m : (ℓ : Loc Cert.AdamwTaps.nD Cert.AdamwTaps.τ Cert.AdamwTaps.sig) → Buf (Elt Bits) ℓ) : Prop :=
  True

def Pre_AdamwTapsIdeal (m : (ℓ : Loc Cert.AdamwTapsIdeal.nD Cert.AdamwTapsIdeal.τ Cert.AdamwTapsIdeal.sig) → Buf (Elt Ideal) ℓ) : Prop :=
  True

def Pre_AdamwTapsRefIdeal (m : (ℓ : Loc Cert.AdamwTapsRefIdeal.nD Cert.AdamwTapsRefIdeal.τ Cert.AdamwTapsRefIdeal.sig) → Buf (Elt Ideal) ℓ) : Prop :=
  True

def Pre_DeviceSum (m : (ℓ : Loc Cert.DeviceSum.nD Cert.DeviceSum.τ Cert.DeviceSum.sig) → Buf (Elt Bits) ℓ) : Prop :=
  True

def Pre_DeviceSumIdeal (m : (ℓ : Loc Cert.DeviceSumIdeal.nD Cert.DeviceSumIdeal.τ Cert.DeviceSumIdeal.sig) → Buf (Elt Ideal) ℓ) : Prop :=
  True

def Pre_DeviceSumRefIdeal (m : (ℓ : Loc Cert.DeviceSumRefIdeal.nD Cert.DeviceSumRefIdeal.τ Cert.DeviceSumRefIdeal.sig) → Buf (Elt Ideal) ℓ) : Prop :=
  True

def quiescent_ConvBwd [hConvBwd : Cert.ConvBwd.Facts] : Prop :=
  ∀ (m : (ℓ : Loc Cert.ConvBwd.nD Cert.ConvBwd.τ Cert.ConvBwd.sig) → Buf (Elt Bits) ℓ) (g : Dev Cert.ConvBwd.nD → PrngReg), Pre_ConvBwd m →
    θ_run (Cert.ConvBwd.defs (F := Bits)) (onTc (τ := Cert.ConvBwd.τ) (Cert.ConvBwd.main (F := Bits))) ⟨m, fun _ => 0, g⟩ (fun r => (∀ c : Dev Cert.ConvBwd.nD,
      r.2.mem ((c.tc : Thread Cert.ConvBwd.nD Cert.ConvBwd.τ).loc Cert.ConvBwd.main_arg0) = m ((c.tc : Thread Cert.ConvBwd.nD Cert.ConvBwd.τ).loc Cert.ConvBwd.main_arg0)
      ∧ r.2.mem ((c.tc : Thread Cert.ConvBwd.nD Cert.ConvBwd.τ).loc Cert.ConvBwd.main_arg1) = m ((c.tc : Thread Cert.ConvBwd.nD Cert.ConvBwd.τ).loc Cert.ConvBwd.main_arg1)
      ∧ r.2.mem ((c.tc : Thread Cert.ConvBwd.nD Cert.ConvBwd.τ).loc Cert.ConvBwd.main_arg2) = m ((c.tc : Thread Cert.ConvBwd.nD Cert.ConvBwd.τ).loc Cert.ConvBwd.main_arg2))
      ∧ r.2.sem = fun _ => 0)

def quiescent_ConvBwdIdeal [hConvBwdIdeal : Cert.ConvBwdIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg), Pre_ConvBwdIdeal m →
    θ_run (Cert.ConvBwdIdeal.defs (F := Ideal)) (onTc (τ := Cert.ConvBwdIdeal.τ) (Cert.ConvBwdIdeal.main (F := Ideal))) ⟨m, fun _ => 0, g⟩ (fun r => (∀ c : Dev Cert.ConvBwdIdeal.nD,
      r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
      ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
      ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2))
      ∧ r.2.sem = fun _ => 0)

def quiescent_ConvBwdRefIdeal [hConvBwdRefIdeal : Cert.ConvBwdRefIdeal.Facts] : Prop :=
  ∀ (m : (ℓ : Loc Cert.ConvBwdRefIdeal.nD Cert.ConvBwdRefIdeal.τ Cert.ConvBwdRefIdeal.sig) → Buf (Elt Ideal) ℓ) (g : Dev Cert.ConvBwdRefIdeal.nD → PrngReg), Pre_ConvBwdRefIdeal m →
    θ_run (Cert.ConvBwdRefIdeal.defs (F := Ideal)) (onTc (τ := Cert.ConvBwdRefIdeal.τ) (Cert.ConvBwdRefIdeal.main (F := Ideal))) ⟨m, fun _ => 0, g⟩ (fun r => (∀ c : Dev Cert.ConvBwdRefIdeal.nD,
      r.2.mem ((c.tc : Thread Cert.ConvBwdRefIdeal.nD Cert.ConvBwdRefIdeal.τ).loc Cert.ConvBwdRefIdeal.main_arg0) = m ((c.tc : Thread Cert.ConvBwdRefIdeal.nD Cert.ConvBwdRefIdeal.τ).loc Cert.ConvBwdRefIdeal.main_arg0)
      ∧ r.2.mem ((c.tc : Thread Cert.ConvBwdRefIdeal.nD Cert.ConvBwdRefIdeal.τ).loc Cert.ConvBwdRefIdeal.main_arg1) = m ((c.tc : Thread Cert.ConvBwdRefIdeal.nD Cert.ConvBwdRefIdeal.τ).loc Cert.ConvBwdRefIdeal.main_arg1)
      ∧ r.2.mem ((c.tc : Thread Cert.ConvBwdRefIdeal.nD Cert.ConvBwdRefIdeal.τ).loc Cert.ConvBwdRefIdeal.main_arg2) = m ((c.tc : Thread Cert.ConvBwdRefIdeal.nD Cert.ConvBwdRefIdeal.τ).loc Cert.ConvBwdRefIdeal.main_arg2))
      ∧ r.2.sem = fun _ => 0)

def quiescent_AttnBwd [hAttnBwd : Cert.AttnBwd.Facts] : Prop :=
  ∀ (m : (ℓ : Loc Cert.AttnBwd.nD Cert.AttnBwd.τ Cert.AttnBwd.sig) → Buf (Elt Bits) ℓ) (g : Dev Cert.AttnBwd.nD → PrngReg), Pre_AttnBwd m →
    θ_run (Cert.AttnBwd.defs (F := Bits)) (onTc (τ := Cert.AttnBwd.τ) (Cert.AttnBwd.main (F := Bits))) ⟨m, fun _ => 0, g⟩ (fun r => (∀ c : Dev Cert.AttnBwd.nD,
      r.2.mem ((c.tc : Thread Cert.AttnBwd.nD Cert.AttnBwd.τ).loc Cert.AttnBwd.main_arg0) = m ((c.tc : Thread Cert.AttnBwd.nD Cert.AttnBwd.τ).loc Cert.AttnBwd.main_arg0)
      ∧ r.2.mem ((c.tc : Thread Cert.AttnBwd.nD Cert.AttnBwd.τ).loc Cert.AttnBwd.main_arg1) = m ((c.tc : Thread Cert.AttnBwd.nD Cert.AttnBwd.τ).loc Cert.AttnBwd.main_arg1)
      ∧ r.2.mem ((c.tc : Thread Cert.AttnBwd.nD Cert.AttnBwd.τ).loc Cert.AttnBwd.main_arg2) = m ((c.tc : Thread Cert.AttnBwd.nD Cert.AttnBwd.τ).loc Cert.AttnBwd.main_arg2)
      ∧ r.2.mem ((c.tc : Thread Cert.AttnBwd.nD Cert.AttnBwd.τ).loc Cert.AttnBwd.main_arg3) = m ((c.tc : Thread Cert.AttnBwd.nD Cert.AttnBwd.τ).loc Cert.AttnBwd.main_arg3))
      ∧ r.2.sem = fun _ => 0)

def quiescent_AttnBwdIdeal [hAttnBwdIdeal : Cert.AttnBwdIdeal.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3))
      ∧ r.2.sem = fun _ => 0)

def quiescent_AttnBwdIdeal_pre_attn_bwd_finite [hAttnBwdIdeal : Cert.AttnBwdIdeal.Facts] [hPre_attn_bwd_finite : Cert.Pre_attn_bwd_finite.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal_attn_bwd_finite m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3))
      ∧ r.2.sem = fun _ => 0)

def quiescent_AttnBwdRefIdeal [hAttnBwdRefIdeal : Cert.AttnBwdRefIdeal.Facts] : Prop :=
  ∀ (m : (ℓ : Loc Cert.AttnBwdRefIdeal.nD Cert.AttnBwdRefIdeal.τ Cert.AttnBwdRefIdeal.sig) → Buf (Elt Ideal) ℓ) (g : Dev Cert.AttnBwdRefIdeal.nD → PrngReg), Pre_AttnBwdRefIdeal m →
    θ_run (Cert.AttnBwdRefIdeal.defs (F := Ideal)) (onTc (τ := Cert.AttnBwdRefIdeal.τ) (Cert.AttnBwdRefIdeal.main (F := Ideal))) ⟨m, fun _ => 0, g⟩ (fun r => (∀ c : Dev Cert.AttnBwdRefIdeal.nD,
      r.2.mem ((c.tc : Thread Cert.AttnBwdRefIdeal.nD Cert.AttnBwdRefIdeal.τ).loc Cert.AttnBwdRefIdeal.main_arg0) = m ((c.tc : Thread Cert.AttnBwdRefIdeal.nD Cert.AttnBwdRefIdeal.τ).loc Cert.AttnBwdRefIdeal.main_arg0)
      ∧ r.2.mem ((c.tc : Thread Cert.AttnBwdRefIdeal.nD Cert.AttnBwdRefIdeal.τ).loc Cert.AttnBwdRefIdeal.main_arg1) = m ((c.tc : Thread Cert.AttnBwdRefIdeal.nD Cert.AttnBwdRefIdeal.τ).loc Cert.AttnBwdRefIdeal.main_arg1)
      ∧ r.2.mem ((c.tc : Thread Cert.AttnBwdRefIdeal.nD Cert.AttnBwdRefIdeal.τ).loc Cert.AttnBwdRefIdeal.main_arg2) = m ((c.tc : Thread Cert.AttnBwdRefIdeal.nD Cert.AttnBwdRefIdeal.τ).loc Cert.AttnBwdRefIdeal.main_arg2)
      ∧ r.2.mem ((c.tc : Thread Cert.AttnBwdRefIdeal.nD Cert.AttnBwdRefIdeal.τ).loc Cert.AttnBwdRefIdeal.main_arg3) = m ((c.tc : Thread Cert.AttnBwdRefIdeal.nD Cert.AttnBwdRefIdeal.τ).loc Cert.AttnBwdRefIdeal.main_arg3))
      ∧ r.2.sem = fun _ => 0)

def quiescent_AttnBwdRefIdeal_pre_attn_bwd_finite [hAttnBwdRefIdeal : Cert.AttnBwdRefIdeal.Facts] [hPre_attn_bwd_finite : Cert.Pre_attn_bwd_finite.Facts] : Prop :=
  ∀ (m : (ℓ : Loc Cert.AttnBwdRefIdeal.nD Cert.AttnBwdRefIdeal.τ Cert.AttnBwdRefIdeal.sig) → Buf (Elt Ideal) ℓ) (g : Dev Cert.AttnBwdRefIdeal.nD → PrngReg), Pre_AttnBwdRefIdeal_attn_bwd_finite m →
    θ_run (Cert.AttnBwdRefIdeal.defs (F := Ideal)) (onTc (τ := Cert.AttnBwdRefIdeal.τ) (Cert.AttnBwdRefIdeal.main (F := Ideal))) ⟨m, fun _ => 0, g⟩ (fun r => (∀ c : Dev Cert.AttnBwdRefIdeal.nD,
      r.2.mem ((c.tc : Thread Cert.AttnBwdRefIdeal.nD Cert.AttnBwdRefIdeal.τ).loc Cert.AttnBwdRefIdeal.main_arg0) = m ((c.tc : Thread Cert.AttnBwdRefIdeal.nD Cert.AttnBwdRefIdeal.τ).loc Cert.AttnBwdRefIdeal.main_arg0)
      ∧ r.2.mem ((c.tc : Thread Cert.AttnBwdRefIdeal.nD Cert.AttnBwdRefIdeal.τ).loc Cert.AttnBwdRefIdeal.main_arg1) = m ((c.tc : Thread Cert.AttnBwdRefIdeal.nD Cert.AttnBwdRefIdeal.τ).loc Cert.AttnBwdRefIdeal.main_arg1)
      ∧ r.2.mem ((c.tc : Thread Cert.AttnBwdRefIdeal.nD Cert.AttnBwdRefIdeal.τ).loc Cert.AttnBwdRefIdeal.main_arg2) = m ((c.tc : Thread Cert.AttnBwdRefIdeal.nD Cert.AttnBwdRefIdeal.τ).loc Cert.AttnBwdRefIdeal.main_arg2)
      ∧ r.2.mem ((c.tc : Thread Cert.AttnBwdRefIdeal.nD Cert.AttnBwdRefIdeal.τ).loc Cert.AttnBwdRefIdeal.main_arg3) = m ((c.tc : Thread Cert.AttnBwdRefIdeal.nD Cert.AttnBwdRefIdeal.τ).loc Cert.AttnBwdRefIdeal.main_arg3))
      ∧ r.2.sem = fun _ => 0)

def quiescent_NormLastBwd [hNormLastBwd : Cert.NormLastBwd.Facts] : Prop :=
  ∀ (m : (ℓ : Loc Cert.NormLastBwd.nD Cert.NormLastBwd.τ Cert.NormLastBwd.sig) → Buf (Elt Bits) ℓ) (g : Dev Cert.NormLastBwd.nD → PrngReg), Pre_NormLastBwd m →
    θ_run (Cert.NormLastBwd.defs (F := Bits)) (onTc (τ := Cert.NormLastBwd.τ) (Cert.NormLastBwd.main (F := Bits))) ⟨m, fun _ => 0, g⟩ (fun r => (∀ c : Dev Cert.NormLastBwd.nD,
      r.2.mem ((c.tc : Thread Cert.NormLastBwd.nD Cert.NormLastBwd.τ).loc Cert.NormLastBwd.main_arg0) = m ((c.tc : Thread Cert.NormLastBwd.nD Cert.NormLastBwd.τ).loc Cert.NormLastBwd.main_arg0)
      ∧ r.2.mem ((c.tc : Thread Cert.NormLastBwd.nD Cert.NormLastBwd.τ).loc Cert.NormLastBwd.main_arg1) = m ((c.tc : Thread Cert.NormLastBwd.nD Cert.NormLastBwd.τ).loc Cert.NormLastBwd.main_arg1)
      ∧ r.2.mem ((c.tc : Thread Cert.NormLastBwd.nD Cert.NormLastBwd.τ).loc Cert.NormLastBwd.main_arg2) = m ((c.tc : Thread Cert.NormLastBwd.nD Cert.NormLastBwd.τ).loc Cert.NormLastBwd.main_arg2)
      ∧ r.2.mem ((c.tc : Thread Cert.NormLastBwd.nD Cert.NormLastBwd.τ).loc Cert.NormLastBwd.main_arg3) = m ((c.tc : Thread Cert.NormLastBwd.nD Cert.NormLastBwd.τ).loc Cert.NormLastBwd.main_arg3))
      ∧ r.2.sem = fun _ => 0)

def quiescent_NormLastBwdIdeal [hNormLastBwdIdeal : Cert.NormLastBwdIdeal.Facts] : Prop :=
  ∀ (m : (ℓ : Loc Cert.NormLastBwdIdeal.nD Cert.NormLastBwdIdeal.τ Cert.NormLastBwdIdeal.sig) → Buf (Elt Ideal) ℓ) (g : Dev Cert.NormLastBwdIdeal.nD → PrngReg), Pre_NormLastBwdIdeal m →
    θ_run (Cert.NormLastBwdIdeal.defs (F := Ideal)) (onTc (τ := Cert.NormLastBwdIdeal.τ) (Cert.NormLastBwdIdeal.main (F := Ideal))) ⟨m, fun _ => 0, g⟩ (fun r => (∀ c : Dev Cert.NormLastBwdIdeal.nD,
      r.2.mem ((c.tc : Thread Cert.NormLastBwdIdeal.nD Cert.NormLastBwdIdeal.τ).loc Cert.NormLastBwdIdeal.main_arg0) = m ((c.tc : Thread Cert.NormLastBwdIdeal.nD Cert.NormLastBwdIdeal.τ).loc Cert.NormLastBwdIdeal.main_arg0)
      ∧ r.2.mem ((c.tc : Thread Cert.NormLastBwdIdeal.nD Cert.NormLastBwdIdeal.τ).loc Cert.NormLastBwdIdeal.main_arg1) = m ((c.tc : Thread Cert.NormLastBwdIdeal.nD Cert.NormLastBwdIdeal.τ).loc Cert.NormLastBwdIdeal.main_arg1)
      ∧ r.2.mem ((c.tc : Thread Cert.NormLastBwdIdeal.nD Cert.NormLastBwdIdeal.τ).loc Cert.NormLastBwdIdeal.main_arg2) = m ((c.tc : Thread Cert.NormLastBwdIdeal.nD Cert.NormLastBwdIdeal.τ).loc Cert.NormLastBwdIdeal.main_arg2)
      ∧ r.2.mem ((c.tc : Thread Cert.NormLastBwdIdeal.nD Cert.NormLastBwdIdeal.τ).loc Cert.NormLastBwdIdeal.main_arg3) = m ((c.tc : Thread Cert.NormLastBwdIdeal.nD Cert.NormLastBwdIdeal.τ).loc Cert.NormLastBwdIdeal.main_arg3))
      ∧ r.2.sem = fun _ => 0)

def quiescent_NormLastBwdRefIdeal [hNormLastBwdRefIdeal : Cert.NormLastBwdRefIdeal.Facts] : Prop :=
  ∀ (m : (ℓ : Loc Cert.NormLastBwdRefIdeal.nD Cert.NormLastBwdRefIdeal.τ Cert.NormLastBwdRefIdeal.sig) → Buf (Elt Ideal) ℓ) (g : Dev Cert.NormLastBwdRefIdeal.nD → PrngReg), Pre_NormLastBwdRefIdeal m →
    θ_run (Cert.NormLastBwdRefIdeal.defs (F := Ideal)) (onTc (τ := Cert.NormLastBwdRefIdeal.τ) (Cert.NormLastBwdRefIdeal.main (F := Ideal))) ⟨m, fun _ => 0, g⟩ (fun r => (∀ c : Dev Cert.NormLastBwdRefIdeal.nD,
      r.2.mem ((c.tc : Thread Cert.NormLastBwdRefIdeal.nD Cert.NormLastBwdRefIdeal.τ).loc Cert.NormLastBwdRefIdeal.main_arg0) = m ((c.tc : Thread Cert.NormLastBwdRefIdeal.nD Cert.NormLastBwdRefIdeal.τ).loc Cert.NormLastBwdRefIdeal.main_arg0)
      ∧ r.2.mem ((c.tc : Thread Cert.NormLastBwdRefIdeal.nD Cert.NormLastBwdRefIdeal.τ).loc Cert.NormLastBwdRefIdeal.main_arg1) = m ((c.tc : Thread Cert.NormLastBwdRefIdeal.nD Cert.NormLastBwdRefIdeal.τ).loc Cert.NormLastBwdRefIdeal.main_arg1)
      ∧ r.2.mem ((c.tc : Thread Cert.NormLastBwdRefIdeal.nD Cert.NormLastBwdRefIdeal.τ).loc Cert.NormLastBwdRefIdeal.main_arg2) = m ((c.tc : Thread Cert.NormLastBwdRefIdeal.nD Cert.NormLastBwdRefIdeal.τ).loc Cert.NormLastBwdRefIdeal.main_arg2)
      ∧ r.2.mem ((c.tc : Thread Cert.NormLastBwdRefIdeal.nD Cert.NormLastBwdRefIdeal.τ).loc Cert.NormLastBwdRefIdeal.main_arg3) = m ((c.tc : Thread Cert.NormLastBwdRefIdeal.nD Cert.NormLastBwdRefIdeal.τ).loc Cert.NormLastBwdRefIdeal.main_arg3))
      ∧ r.2.sem = fun _ => 0)

def quiescent_NormMidBwd [hNormMidBwd : Cert.NormMidBwd.Facts] : Prop :=
  ∀ (m : (ℓ : Loc Cert.NormMidBwd.nD Cert.NormMidBwd.τ Cert.NormMidBwd.sig) → Buf (Elt Bits) ℓ) (g : Dev Cert.NormMidBwd.nD → PrngReg), Pre_NormMidBwd m →
    θ_run (Cert.NormMidBwd.defs (F := Bits)) (onTc (τ := Cert.NormMidBwd.τ) (Cert.NormMidBwd.main (F := Bits))) ⟨m, fun _ => 0, g⟩ (fun r => (∀ c : Dev Cert.NormMidBwd.nD,
      r.2.mem ((c.tc : Thread Cert.NormMidBwd.nD Cert.NormMidBwd.τ).loc Cert.NormMidBwd.main_arg0) = m ((c.tc : Thread Cert.NormMidBwd.nD Cert.NormMidBwd.τ).loc Cert.NormMidBwd.main_arg0)
      ∧ r.2.mem ((c.tc : Thread Cert.NormMidBwd.nD Cert.NormMidBwd.τ).loc Cert.NormMidBwd.main_arg1) = m ((c.tc : Thread Cert.NormMidBwd.nD Cert.NormMidBwd.τ).loc Cert.NormMidBwd.main_arg1)
      ∧ r.2.mem ((c.tc : Thread Cert.NormMidBwd.nD Cert.NormMidBwd.τ).loc Cert.NormMidBwd.main_arg2) = m ((c.tc : Thread Cert.NormMidBwd.nD Cert.NormMidBwd.τ).loc Cert.NormMidBwd.main_arg2)
      ∧ r.2.mem ((c.tc : Thread Cert.NormMidBwd.nD Cert.NormMidBwd.τ).loc Cert.NormMidBwd.main_arg3) = m ((c.tc : Thread Cert.NormMidBwd.nD Cert.NormMidBwd.τ).loc Cert.NormMidBwd.main_arg3)
      ∧ r.2.mem ((c.tc : Thread Cert.NormMidBwd.nD Cert.NormMidBwd.τ).loc Cert.NormMidBwd.main_arg4) = m ((c.tc : Thread Cert.NormMidBwd.nD Cert.NormMidBwd.τ).loc Cert.NormMidBwd.main_arg4)
      ∧ r.2.mem ((c.tc : Thread Cert.NormMidBwd.nD Cert.NormMidBwd.τ).loc Cert.NormMidBwd.main_arg5) = m ((c.tc : Thread Cert.NormMidBwd.nD Cert.NormMidBwd.τ).loc Cert.NormMidBwd.main_arg5))
      ∧ r.2.sem = fun _ => 0)

def quiescent_NormMidBwdIdeal [hNormMidBwdIdeal : Cert.NormMidBwdIdeal.Facts] : Prop :=
  ∀ (m : (ℓ : Loc Cert.NormMidBwdIdeal.nD Cert.NormMidBwdIdeal.τ Cert.NormMidBwdIdeal.sig) → Buf (Elt Ideal) ℓ) (g : Dev Cert.NormMidBwdIdeal.nD → PrngReg), Pre_NormMidBwdIdeal m →
    θ_run (Cert.NormMidBwdIdeal.defs (F := Ideal)) (onTc (τ := Cert.NormMidBwdIdeal.τ) (Cert.NormMidBwdIdeal.main (F := Ideal))) ⟨m, fun _ => 0, g⟩ (fun r => (∀ c : Dev Cert.NormMidBwdIdeal.nD,
      r.2.mem ((c.tc : Thread Cert.NormMidBwdIdeal.nD Cert.NormMidBwdIdeal.τ).loc Cert.NormMidBwdIdeal.main_arg0) = m ((c.tc : Thread Cert.NormMidBwdIdeal.nD Cert.NormMidBwdIdeal.τ).loc Cert.NormMidBwdIdeal.main_arg0)
      ∧ r.2.mem ((c.tc : Thread Cert.NormMidBwdIdeal.nD Cert.NormMidBwdIdeal.τ).loc Cert.NormMidBwdIdeal.main_arg1) = m ((c.tc : Thread Cert.NormMidBwdIdeal.nD Cert.NormMidBwdIdeal.τ).loc Cert.NormMidBwdIdeal.main_arg1)
      ∧ r.2.mem ((c.tc : Thread Cert.NormMidBwdIdeal.nD Cert.NormMidBwdIdeal.τ).loc Cert.NormMidBwdIdeal.main_arg2) = m ((c.tc : Thread Cert.NormMidBwdIdeal.nD Cert.NormMidBwdIdeal.τ).loc Cert.NormMidBwdIdeal.main_arg2)
      ∧ r.2.mem ((c.tc : Thread Cert.NormMidBwdIdeal.nD Cert.NormMidBwdIdeal.τ).loc Cert.NormMidBwdIdeal.main_arg3) = m ((c.tc : Thread Cert.NormMidBwdIdeal.nD Cert.NormMidBwdIdeal.τ).loc Cert.NormMidBwdIdeal.main_arg3)
      ∧ r.2.mem ((c.tc : Thread Cert.NormMidBwdIdeal.nD Cert.NormMidBwdIdeal.τ).loc Cert.NormMidBwdIdeal.main_arg4) = m ((c.tc : Thread Cert.NormMidBwdIdeal.nD Cert.NormMidBwdIdeal.τ).loc Cert.NormMidBwdIdeal.main_arg4)
      ∧ r.2.mem ((c.tc : Thread Cert.NormMidBwdIdeal.nD Cert.NormMidBwdIdeal.τ).loc Cert.NormMidBwdIdeal.main_arg5) = m ((c.tc : Thread Cert.NormMidBwdIdeal.nD Cert.NormMidBwdIdeal.τ).loc Cert.NormMidBwdIdeal.main_arg5))
      ∧ r.2.sem = fun _ => 0)

def quiescent_NormMidBwdRefIdeal [hNormMidBwdRefIdeal : Cert.NormMidBwdRefIdeal.Facts] : Prop :=
  ∀ (m : (ℓ : Loc Cert.NormMidBwdRefIdeal.nD Cert.NormMidBwdRefIdeal.τ Cert.NormMidBwdRefIdeal.sig) → Buf (Elt Ideal) ℓ) (g : Dev Cert.NormMidBwdRefIdeal.nD → PrngReg), Pre_NormMidBwdRefIdeal m →
    θ_run (Cert.NormMidBwdRefIdeal.defs (F := Ideal)) (onTc (τ := Cert.NormMidBwdRefIdeal.τ) (Cert.NormMidBwdRefIdeal.main (F := Ideal))) ⟨m, fun _ => 0, g⟩ (fun r => (∀ c : Dev Cert.NormMidBwdRefIdeal.nD,
      r.2.mem ((c.tc : Thread Cert.NormMidBwdRefIdeal.nD Cert.NormMidBwdRefIdeal.τ).loc Cert.NormMidBwdRefIdeal.main_arg0) = m ((c.tc : Thread Cert.NormMidBwdRefIdeal.nD Cert.NormMidBwdRefIdeal.τ).loc Cert.NormMidBwdRefIdeal.main_arg0)
      ∧ r.2.mem ((c.tc : Thread Cert.NormMidBwdRefIdeal.nD Cert.NormMidBwdRefIdeal.τ).loc Cert.NormMidBwdRefIdeal.main_arg1) = m ((c.tc : Thread Cert.NormMidBwdRefIdeal.nD Cert.NormMidBwdRefIdeal.τ).loc Cert.NormMidBwdRefIdeal.main_arg1)
      ∧ r.2.mem ((c.tc : Thread Cert.NormMidBwdRefIdeal.nD Cert.NormMidBwdRefIdeal.τ).loc Cert.NormMidBwdRefIdeal.main_arg2) = m ((c.tc : Thread Cert.NormMidBwdRefIdeal.nD Cert.NormMidBwdRefIdeal.τ).loc Cert.NormMidBwdRefIdeal.main_arg2)
      ∧ r.2.mem ((c.tc : Thread Cert.NormMidBwdRefIdeal.nD Cert.NormMidBwdRefIdeal.τ).loc Cert.NormMidBwdRefIdeal.main_arg3) = m ((c.tc : Thread Cert.NormMidBwdRefIdeal.nD Cert.NormMidBwdRefIdeal.τ).loc Cert.NormMidBwdRefIdeal.main_arg3)
      ∧ r.2.mem ((c.tc : Thread Cert.NormMidBwdRefIdeal.nD Cert.NormMidBwdRefIdeal.τ).loc Cert.NormMidBwdRefIdeal.main_arg4) = m ((c.tc : Thread Cert.NormMidBwdRefIdeal.nD Cert.NormMidBwdRefIdeal.τ).loc Cert.NormMidBwdRefIdeal.main_arg4)
      ∧ r.2.mem ((c.tc : Thread Cert.NormMidBwdRefIdeal.nD Cert.NormMidBwdRefIdeal.τ).loc Cert.NormMidBwdRefIdeal.main_arg5) = m ((c.tc : Thread Cert.NormMidBwdRefIdeal.nD Cert.NormMidBwdRefIdeal.τ).loc Cert.NormMidBwdRefIdeal.main_arg5))
      ∧ r.2.sem = fun _ => 0)

def quiescent_NormMemBwd [hNormMemBwd : Cert.NormMemBwd.Facts] : Prop :=
  ∀ (m : (ℓ : Loc Cert.NormMemBwd.nD Cert.NormMemBwd.τ Cert.NormMemBwd.sig) → Buf (Elt Bits) ℓ) (g : Dev Cert.NormMemBwd.nD → PrngReg), Pre_NormMemBwd m →
    θ_run (Cert.NormMemBwd.defs (F := Bits)) (onTc (τ := Cert.NormMemBwd.τ) (Cert.NormMemBwd.main (F := Bits))) ⟨m, fun _ => 0, g⟩ (fun r => (∀ c : Dev Cert.NormMemBwd.nD,
      r.2.mem ((c.tc : Thread Cert.NormMemBwd.nD Cert.NormMemBwd.τ).loc Cert.NormMemBwd.main_arg0) = m ((c.tc : Thread Cert.NormMemBwd.nD Cert.NormMemBwd.τ).loc Cert.NormMemBwd.main_arg0)
      ∧ r.2.mem ((c.tc : Thread Cert.NormMemBwd.nD Cert.NormMemBwd.τ).loc Cert.NormMemBwd.main_arg1) = m ((c.tc : Thread Cert.NormMemBwd.nD Cert.NormMemBwd.τ).loc Cert.NormMemBwd.main_arg1)
      ∧ r.2.mem ((c.tc : Thread Cert.NormMemBwd.nD Cert.NormMemBwd.τ).loc Cert.NormMemBwd.main_arg2) = m ((c.tc : Thread Cert.NormMemBwd.nD Cert.NormMemBwd.τ).loc Cert.NormMemBwd.main_arg2))
      ∧ r.2.sem = fun _ => 0)

def quiescent_NormMemBwdIdeal [hNormMemBwdIdeal : Cert.NormMemBwdIdeal.Facts] : Prop :=
  ∀ (m : (ℓ : Loc Cert.NormMemBwdIdeal.nD Cert.NormMemBwdIdeal.τ Cert.NormMemBwdIdeal.sig) → Buf (Elt Ideal) ℓ) (g : Dev Cert.NormMemBwdIdeal.nD → PrngReg), Pre_NormMemBwdIdeal m →
    θ_run (Cert.NormMemBwdIdeal.defs (F := Ideal)) (onTc (τ := Cert.NormMemBwdIdeal.τ) (Cert.NormMemBwdIdeal.main (F := Ideal))) ⟨m, fun _ => 0, g⟩ (fun r => (∀ c : Dev Cert.NormMemBwdIdeal.nD,
      r.2.mem ((c.tc : Thread Cert.NormMemBwdIdeal.nD Cert.NormMemBwdIdeal.τ).loc Cert.NormMemBwdIdeal.main_arg0) = m ((c.tc : Thread Cert.NormMemBwdIdeal.nD Cert.NormMemBwdIdeal.τ).loc Cert.NormMemBwdIdeal.main_arg0)
      ∧ r.2.mem ((c.tc : Thread Cert.NormMemBwdIdeal.nD Cert.NormMemBwdIdeal.τ).loc Cert.NormMemBwdIdeal.main_arg1) = m ((c.tc : Thread Cert.NormMemBwdIdeal.nD Cert.NormMemBwdIdeal.τ).loc Cert.NormMemBwdIdeal.main_arg1)
      ∧ r.2.mem ((c.tc : Thread Cert.NormMemBwdIdeal.nD Cert.NormMemBwdIdeal.τ).loc Cert.NormMemBwdIdeal.main_arg2) = m ((c.tc : Thread Cert.NormMemBwdIdeal.nD Cert.NormMemBwdIdeal.τ).loc Cert.NormMemBwdIdeal.main_arg2))
      ∧ r.2.sem = fun _ => 0)

def quiescent_NormMemBwdRefIdeal [hNormMemBwdRefIdeal : Cert.NormMemBwdRefIdeal.Facts] : Prop :=
  ∀ (m : (ℓ : Loc Cert.NormMemBwdRefIdeal.nD Cert.NormMemBwdRefIdeal.τ Cert.NormMemBwdRefIdeal.sig) → Buf (Elt Ideal) ℓ) (g : Dev Cert.NormMemBwdRefIdeal.nD → PrngReg), Pre_NormMemBwdRefIdeal m →
    θ_run (Cert.NormMemBwdRefIdeal.defs (F := Ideal)) (onTc (τ := Cert.NormMemBwdRefIdeal.τ) (Cert.NormMemBwdRefIdeal.main (F := Ideal))) ⟨m, fun _ => 0, g⟩ (fun r => (∀ c : Dev Cert.NormMemBwdRefIdeal.nD,
      r.2.mem ((c.tc : Thread Cert.NormMemBwdRefIdeal.nD Cert.NormMemBwdRefIdeal.τ).loc Cert.NormMemBwdRefIdeal.main_arg0) = m ((c.tc : Thread Cert.NormMemBwdRefIdeal.nD Cert.NormMemBwdRefIdeal.τ).loc Cert.NormMemBwdRefIdeal.main_arg0)
      ∧ r.2.mem ((c.tc : Thread Cert.NormMemBwdRefIdeal.nD Cert.NormMemBwdRefIdeal.τ).loc Cert.NormMemBwdRefIdeal.main_arg1) = m ((c.tc : Thread Cert.NormMemBwdRefIdeal.nD Cert.NormMemBwdRefIdeal.τ).loc Cert.NormMemBwdRefIdeal.main_arg1)
      ∧ r.2.mem ((c.tc : Thread Cert.NormMemBwdRefIdeal.nD Cert.NormMemBwdRefIdeal.τ).loc Cert.NormMemBwdRefIdeal.main_arg2) = m ((c.tc : Thread Cert.NormMemBwdRefIdeal.nD Cert.NormMemBwdRefIdeal.τ).loc Cert.NormMemBwdRefIdeal.main_arg2))
      ∧ r.2.sem = fun _ => 0)

def quiescent_NormFirstBwd [hNormFirstBwd : Cert.NormFirstBwd.Facts] : Prop :=
  ∀ (m : (ℓ : Loc Cert.NormFirstBwd.nD Cert.NormFirstBwd.τ Cert.NormFirstBwd.sig) → Buf (Elt Bits) ℓ) (g : Dev Cert.NormFirstBwd.nD → PrngReg), Pre_NormFirstBwd m →
    θ_run (Cert.NormFirstBwd.defs (F := Bits)) (onTc (τ := Cert.NormFirstBwd.τ) (Cert.NormFirstBwd.main (F := Bits))) ⟨m, fun _ => 0, g⟩ (fun r => (∀ c : Dev Cert.NormFirstBwd.nD,
      r.2.mem ((c.tc : Thread Cert.NormFirstBwd.nD Cert.NormFirstBwd.τ).loc Cert.NormFirstBwd.main_arg0) = m ((c.tc : Thread Cert.NormFirstBwd.nD Cert.NormFirstBwd.τ).loc Cert.NormFirstBwd.main_arg0)
      ∧ r.2.mem ((c.tc : Thread Cert.NormFirstBwd.nD Cert.NormFirstBwd.τ).loc Cert.NormFirstBwd.main_arg1) = m ((c.tc : Thread Cert.NormFirstBwd.nD Cert.NormFirstBwd.τ).loc Cert.NormFirstBwd.main_arg1)
      ∧ r.2.mem ((c.tc : Thread Cert.NormFirstBwd.nD Cert.NormFirstBwd.τ).loc Cert.NormFirstBwd.main_arg2) = m ((c.tc : Thread Cert.NormFirstBwd.nD Cert.NormFirstBwd.τ).loc Cert.NormFirstBwd.main_arg2)
      ∧ r.2.mem ((c.tc : Thread Cert.NormFirstBwd.nD Cert.NormFirstBwd.τ).loc Cert.NormFirstBwd.main_arg3) = m ((c.tc : Thread Cert.NormFirstBwd.nD Cert.NormFirstBwd.τ).loc Cert.NormFirstBwd.main_arg3))
      ∧ r.2.sem = fun _ => 0)

def quiescent_NormFirstBwdIdeal [hNormFirstBwdIdeal : Cert.NormFirstBwdIdeal.Facts] : Prop :=
  ∀ (m : (ℓ : Loc Cert.NormFirstBwdIdeal.nD Cert.NormFirstBwdIdeal.τ Cert.NormFirstBwdIdeal.sig) → Buf (Elt Ideal) ℓ) (g : Dev Cert.NormFirstBwdIdeal.nD → PrngReg), Pre_NormFirstBwdIdeal m →
    θ_run (Cert.NormFirstBwdIdeal.defs (F := Ideal)) (onTc (τ := Cert.NormFirstBwdIdeal.τ) (Cert.NormFirstBwdIdeal.main (F := Ideal))) ⟨m, fun _ => 0, g⟩ (fun r => (∀ c : Dev Cert.NormFirstBwdIdeal.nD,
      r.2.mem ((c.tc : Thread Cert.NormFirstBwdIdeal.nD Cert.NormFirstBwdIdeal.τ).loc Cert.NormFirstBwdIdeal.main_arg0) = m ((c.tc : Thread Cert.NormFirstBwdIdeal.nD Cert.NormFirstBwdIdeal.τ).loc Cert.NormFirstBwdIdeal.main_arg0)
      ∧ r.2.mem ((c.tc : Thread Cert.NormFirstBwdIdeal.nD Cert.NormFirstBwdIdeal.τ).loc Cert.NormFirstBwdIdeal.main_arg1) = m ((c.tc : Thread Cert.NormFirstBwdIdeal.nD Cert.NormFirstBwdIdeal.τ).loc Cert.NormFirstBwdIdeal.main_arg1)
      ∧ r.2.mem ((c.tc : Thread Cert.NormFirstBwdIdeal.nD Cert.NormFirstBwdIdeal.τ).loc Cert.NormFirstBwdIdeal.main_arg2) = m ((c.tc : Thread Cert.NormFirstBwdIdeal.nD Cert.NormFirstBwdIdeal.τ).loc Cert.NormFirstBwdIdeal.main_arg2)
      ∧ r.2.mem ((c.tc : Thread Cert.NormFirstBwdIdeal.nD Cert.NormFirstBwdIdeal.τ).loc Cert.NormFirstBwdIdeal.main_arg3) = m ((c.tc : Thread Cert.NormFirstBwdIdeal.nD Cert.NormFirstBwdIdeal.τ).loc Cert.NormFirstBwdIdeal.main_arg3))
      ∧ r.2.sem = fun _ => 0)

def quiescent_NormFirstBwdRefIdeal [hNormFirstBwdRefIdeal : Cert.NormFirstBwdRefIdeal.Facts] : Prop :=
  ∀ (m : (ℓ : Loc Cert.NormFirstBwdRefIdeal.nD Cert.NormFirstBwdRefIdeal.τ Cert.NormFirstBwdRefIdeal.sig) → Buf (Elt Ideal) ℓ) (g : Dev Cert.NormFirstBwdRefIdeal.nD → PrngReg), Pre_NormFirstBwdRefIdeal m →
    θ_run (Cert.NormFirstBwdRefIdeal.defs (F := Ideal)) (onTc (τ := Cert.NormFirstBwdRefIdeal.τ) (Cert.NormFirstBwdRefIdeal.main (F := Ideal))) ⟨m, fun _ => 0, g⟩ (fun r => (∀ c : Dev Cert.NormFirstBwdRefIdeal.nD,
      r.2.mem ((c.tc : Thread Cert.NormFirstBwdRefIdeal.nD Cert.NormFirstBwdRefIdeal.τ).loc Cert.NormFirstBwdRefIdeal.main_arg0) = m ((c.tc : Thread Cert.NormFirstBwdRefIdeal.nD Cert.NormFirstBwdRefIdeal.τ).loc Cert.NormFirstBwdRefIdeal.main_arg0)
      ∧ r.2.mem ((c.tc : Thread Cert.NormFirstBwdRefIdeal.nD Cert.NormFirstBwdRefIdeal.τ).loc Cert.NormFirstBwdRefIdeal.main_arg1) = m ((c.tc : Thread Cert.NormFirstBwdRefIdeal.nD Cert.NormFirstBwdRefIdeal.τ).loc Cert.NormFirstBwdRefIdeal.main_arg1)
      ∧ r.2.mem ((c.tc : Thread Cert.NormFirstBwdRefIdeal.nD Cert.NormFirstBwdRefIdeal.τ).loc Cert.NormFirstBwdRefIdeal.main_arg2) = m ((c.tc : Thread Cert.NormFirstBwdRefIdeal.nD Cert.NormFirstBwdRefIdeal.τ).loc Cert.NormFirstBwdRefIdeal.main_arg2)
      ∧ r.2.mem ((c.tc : Thread Cert.NormFirstBwdRefIdeal.nD Cert.NormFirstBwdRefIdeal.τ).loc Cert.NormFirstBwdRefIdeal.main_arg3) = m ((c.tc : Thread Cert.NormFirstBwdRefIdeal.nD Cert.NormFirstBwdRefIdeal.τ).loc Cert.NormFirstBwdRefIdeal.main_arg3))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1))
      ∧ r.2.sem = fun _ => 0)

def quiescent_DownBwd [hDownBwd : Cert.DownBwd.Facts] : Prop :=
  ∀ (m : (ℓ : Loc Cert.DownBwd.nD Cert.DownBwd.τ Cert.DownBwd.sig) → Buf (Elt Bits) ℓ) (g : Dev Cert.DownBwd.nD → PrngReg), Pre_DownBwd m →
    θ_run (Cert.DownBwd.defs (F := Bits)) (onTc (τ := Cert.DownBwd.τ) (Cert.DownBwd.main (F := Bits))) ⟨m, fun _ => 0, g⟩ (fun r => (∀ c : Dev Cert.DownBwd.nD,
      r.2.mem ((c.tc : Thread Cert.DownBwd.nD Cert.DownBwd.τ).loc Cert.DownBwd.main_arg0) = m ((c.tc : Thread Cert.DownBwd.nD Cert.DownBwd.τ).loc Cert.DownBwd.main_arg0)
      ∧ r.2.mem ((c.tc : Thread Cert.DownBwd.nD Cert.DownBwd.τ).loc Cert.DownBwd.main_arg1) = m ((c.tc : Thread Cert.DownBwd.nD Cert.DownBwd.τ).loc Cert.DownBwd.main_arg1)
      ∧ r.2.mem ((c.tc : Thread Cert.DownBwd.nD Cert.DownBwd.τ).loc Cert.DownBwd.main_arg2) = m ((c.tc : Thread Cert.DownBwd.nD Cert.DownBwd.τ).loc Cert.DownBwd.main_arg2))
      ∧ r.2.sem = fun _ => 0)

def quiescent_DownBwdIdeal [hDownBwdIdeal : Cert.DownBwdIdeal.Facts] : Prop :=
  ∀ (m : (ℓ : Loc Cert.DownBwdIdeal.nD Cert.DownBwdIdeal.τ Cert.DownBwdIdeal.sig) → Buf (Elt Ideal) ℓ) (g : Dev Cert.DownBwdIdeal.nD → PrngReg), Pre_DownBwdIdeal m →
    θ_run (Cert.DownBwdIdeal.defs (F := Ideal)) (onTc (τ := Cert.DownBwdIdeal.τ) (Cert.DownBwdIdeal.main (F := Ideal))) ⟨m, fun _ => 0, g⟩ (fun r => (∀ c : Dev Cert.DownBwdIdeal.nD,
      r.2.mem ((c.tc : Thread Cert.DownBwdIdeal.nD Cert.DownBwdIdeal.τ).loc Cert.DownBwdIdeal.main_arg0) = m ((c.tc : Thread Cert.DownBwdIdeal.nD Cert.DownBwdIdeal.τ).loc Cert.DownBwdIdeal.main_arg0)
      ∧ r.2.mem ((c.tc : Thread Cert.DownBwdIdeal.nD Cert.DownBwdIdeal.τ).loc Cert.DownBwdIdeal.main_arg1) = m ((c.tc : Thread Cert.DownBwdIdeal.nD Cert.DownBwdIdeal.τ).loc Cert.DownBwdIdeal.main_arg1)
      ∧ r.2.mem ((c.tc : Thread Cert.DownBwdIdeal.nD Cert.DownBwdIdeal.τ).loc Cert.DownBwdIdeal.main_arg2) = m ((c.tc : Thread Cert.DownBwdIdeal.nD Cert.DownBwdIdeal.τ).loc Cert.DownBwdIdeal.main_arg2))
      ∧ r.2.sem = fun _ => 0)

def quiescent_DownBwdRefIdeal [hDownBwdRefIdeal : Cert.DownBwdRefIdeal.Facts] : Prop :=
  ∀ (m : (ℓ : Loc Cert.DownBwdRefIdeal.nD Cert.DownBwdRefIdeal.τ Cert.DownBwdRefIdeal.sig) → Buf (Elt Ideal) ℓ) (g : Dev Cert.DownBwdRefIdeal.nD → PrngReg), Pre_DownBwdRefIdeal m →
    θ_run (Cert.DownBwdRefIdeal.defs (F := Ideal)) (onTc (τ := Cert.DownBwdRefIdeal.τ) (Cert.DownBwdRefIdeal.main (F := Ideal))) ⟨m, fun _ => 0, g⟩ (fun r => (∀ c : Dev Cert.DownBwdRefIdeal.nD,
      r.2.mem ((c.tc : Thread Cert.DownBwdRefIdeal.nD Cert.DownBwdRefIdeal.τ).loc Cert.DownBwdRefIdeal.main_arg0) = m ((c.tc : Thread Cert.DownBwdRefIdeal.nD Cert.DownBwdRefIdeal.τ).loc Cert.DownBwdRefIdeal.main_arg0)
      ∧ r.2.mem ((c.tc : Thread Cert.DownBwdRefIdeal.nD Cert.DownBwdRefIdeal.τ).loc Cert.DownBwdRefIdeal.main_arg1) = m ((c.tc : Thread Cert.DownBwdRefIdeal.nD Cert.DownBwdRefIdeal.τ).loc Cert.DownBwdRefIdeal.main_arg1)
      ∧ r.2.mem ((c.tc : Thread Cert.DownBwdRefIdeal.nD Cert.DownBwdRefIdeal.τ).loc Cert.DownBwdRefIdeal.main_arg2) = m ((c.tc : Thread Cert.DownBwdRefIdeal.nD Cert.DownBwdRefIdeal.τ).loc Cert.DownBwdRefIdeal.main_arg2))
      ∧ r.2.sem = fun _ => 0)

def quiescent_GmlpBwd [hGmlpBwd : Cert.GmlpBwd.Facts] : Prop :=
  ∀ (m : (ℓ : Loc Cert.GmlpBwd.nD Cert.GmlpBwd.τ Cert.GmlpBwd.sig) → Buf (Elt Bits) ℓ) (g : Dev Cert.GmlpBwd.nD → PrngReg), Pre_GmlpBwd m →
    θ_run (Cert.GmlpBwd.defs (F := Bits)) (onTc (τ := Cert.GmlpBwd.τ) (Cert.GmlpBwd.main (F := Bits))) ⟨m, fun _ => 0, g⟩ (fun r => (∀ c : Dev Cert.GmlpBwd.nD,
      r.2.mem ((c.tc : Thread Cert.GmlpBwd.nD Cert.GmlpBwd.τ).loc Cert.GmlpBwd.main_arg0) = m ((c.tc : Thread Cert.GmlpBwd.nD Cert.GmlpBwd.τ).loc Cert.GmlpBwd.main_arg0)
      ∧ r.2.mem ((c.tc : Thread Cert.GmlpBwd.nD Cert.GmlpBwd.τ).loc Cert.GmlpBwd.main_arg1) = m ((c.tc : Thread Cert.GmlpBwd.nD Cert.GmlpBwd.τ).loc Cert.GmlpBwd.main_arg1)
      ∧ r.2.mem ((c.tc : Thread Cert.GmlpBwd.nD Cert.GmlpBwd.τ).loc Cert.GmlpBwd.main_arg2) = m ((c.tc : Thread Cert.GmlpBwd.nD Cert.GmlpBwd.τ).loc Cert.GmlpBwd.main_arg2)
      ∧ r.2.mem ((c.tc : Thread Cert.GmlpBwd.nD Cert.GmlpBwd.τ).loc Cert.GmlpBwd.main_arg3) = m ((c.tc : Thread Cert.GmlpBwd.nD Cert.GmlpBwd.τ).loc Cert.GmlpBwd.main_arg3)
      ∧ r.2.mem ((c.tc : Thread Cert.GmlpBwd.nD Cert.GmlpBwd.τ).loc Cert.GmlpBwd.main_arg4) = m ((c.tc : Thread Cert.GmlpBwd.nD Cert.GmlpBwd.τ).loc Cert.GmlpBwd.main_arg4))
      ∧ r.2.sem = fun _ => 0)

def quiescent_GmlpBwdIdeal [hGmlpBwdIdeal : Cert.GmlpBwdIdeal.Facts] : Prop :=
  ∀ (m : (ℓ : Loc Cert.GmlpBwdIdeal.nD Cert.GmlpBwdIdeal.τ Cert.GmlpBwdIdeal.sig) → Buf (Elt Ideal) ℓ) (g : Dev Cert.GmlpBwdIdeal.nD → PrngReg), Pre_GmlpBwdIdeal m →
    θ_run (Cert.GmlpBwdIdeal.defs (F := Ideal)) (onTc (τ := Cert.GmlpBwdIdeal.τ) (Cert.GmlpBwdIdeal.main (F := Ideal))) ⟨m, fun _ => 0, g⟩ (fun r => (∀ c : Dev Cert.GmlpBwdIdeal.nD,
      r.2.mem ((c.tc : Thread Cert.GmlpBwdIdeal.nD Cert.GmlpBwdIdeal.τ).loc Cert.GmlpBwdIdeal.main_arg0) = m ((c.tc : Thread Cert.GmlpBwdIdeal.nD Cert.GmlpBwdIdeal.τ).loc Cert.GmlpBwdIdeal.main_arg0)
      ∧ r.2.mem ((c.tc : Thread Cert.GmlpBwdIdeal.nD Cert.GmlpBwdIdeal.τ).loc Cert.GmlpBwdIdeal.main_arg1) = m ((c.tc : Thread Cert.GmlpBwdIdeal.nD Cert.GmlpBwdIdeal.τ).loc Cert.GmlpBwdIdeal.main_arg1)
      ∧ r.2.mem ((c.tc : Thread Cert.GmlpBwdIdeal.nD Cert.GmlpBwdIdeal.τ).loc Cert.GmlpBwdIdeal.main_arg2) = m ((c.tc : Thread Cert.GmlpBwdIdeal.nD Cert.GmlpBwdIdeal.τ).loc Cert.GmlpBwdIdeal.main_arg2)
      ∧ r.2.mem ((c.tc : Thread Cert.GmlpBwdIdeal.nD Cert.GmlpBwdIdeal.τ).loc Cert.GmlpBwdIdeal.main_arg3) = m ((c.tc : Thread Cert.GmlpBwdIdeal.nD Cert.GmlpBwdIdeal.τ).loc Cert.GmlpBwdIdeal.main_arg3)
      ∧ r.2.mem ((c.tc : Thread Cert.GmlpBwdIdeal.nD Cert.GmlpBwdIdeal.τ).loc Cert.GmlpBwdIdeal.main_arg4) = m ((c.tc : Thread Cert.GmlpBwdIdeal.nD Cert.GmlpBwdIdeal.τ).loc Cert.GmlpBwdIdeal.main_arg4))
      ∧ r.2.sem = fun _ => 0)

def quiescent_GmlpBwdIdeal_pre_gmlp_bwd_finite [hGmlpBwdIdeal : Cert.GmlpBwdIdeal.Facts] [hPre_gmlp_bwd_finite : Cert.Pre_gmlp_bwd_finite.Facts] : Prop :=
  ∀ (m : (ℓ : Loc Cert.GmlpBwdIdeal.nD Cert.GmlpBwdIdeal.τ Cert.GmlpBwdIdeal.sig) → Buf (Elt Ideal) ℓ) (g : Dev Cert.GmlpBwdIdeal.nD → PrngReg), Pre_GmlpBwdIdeal_gmlp_bwd_finite m →
    θ_run (Cert.GmlpBwdIdeal.defs (F := Ideal)) (onTc (τ := Cert.GmlpBwdIdeal.τ) (Cert.GmlpBwdIdeal.main (F := Ideal))) ⟨m, fun _ => 0, g⟩ (fun r => (∀ c : Dev Cert.GmlpBwdIdeal.nD,
      r.2.mem ((c.tc : Thread Cert.GmlpBwdIdeal.nD Cert.GmlpBwdIdeal.τ).loc Cert.GmlpBwdIdeal.main_arg0) = m ((c.tc : Thread Cert.GmlpBwdIdeal.nD Cert.GmlpBwdIdeal.τ).loc Cert.GmlpBwdIdeal.main_arg0)
      ∧ r.2.mem ((c.tc : Thread Cert.GmlpBwdIdeal.nD Cert.GmlpBwdIdeal.τ).loc Cert.GmlpBwdIdeal.main_arg1) = m ((c.tc : Thread Cert.GmlpBwdIdeal.nD Cert.GmlpBwdIdeal.τ).loc Cert.GmlpBwdIdeal.main_arg1)
      ∧ r.2.mem ((c.tc : Thread Cert.GmlpBwdIdeal.nD Cert.GmlpBwdIdeal.τ).loc Cert.GmlpBwdIdeal.main_arg2) = m ((c.tc : Thread Cert.GmlpBwdIdeal.nD Cert.GmlpBwdIdeal.τ).loc Cert.GmlpBwdIdeal.main_arg2)
      ∧ r.2.mem ((c.tc : Thread Cert.GmlpBwdIdeal.nD Cert.GmlpBwdIdeal.τ).loc Cert.GmlpBwdIdeal.main_arg3) = m ((c.tc : Thread Cert.GmlpBwdIdeal.nD Cert.GmlpBwdIdeal.τ).loc Cert.GmlpBwdIdeal.main_arg3)
      ∧ r.2.mem ((c.tc : Thread Cert.GmlpBwdIdeal.nD Cert.GmlpBwdIdeal.τ).loc Cert.GmlpBwdIdeal.main_arg4) = m ((c.tc : Thread Cert.GmlpBwdIdeal.nD Cert.GmlpBwdIdeal.τ).loc Cert.GmlpBwdIdeal.main_arg4))
      ∧ r.2.sem = fun _ => 0)

def quiescent_GmlpBwdRefIdeal [hGmlpBwdRefIdeal : Cert.GmlpBwdRefIdeal.Facts] : Prop :=
  ∀ (m : (ℓ : Loc Cert.GmlpBwdRefIdeal.nD Cert.GmlpBwdRefIdeal.τ Cert.GmlpBwdRefIdeal.sig) → Buf (Elt Ideal) ℓ) (g : Dev Cert.GmlpBwdRefIdeal.nD → PrngReg), Pre_GmlpBwdRefIdeal m →
    θ_run (Cert.GmlpBwdRefIdeal.defs (F := Ideal)) (onTc (τ := Cert.GmlpBwdRefIdeal.τ) (Cert.GmlpBwdRefIdeal.main (F := Ideal))) ⟨m, fun _ => 0, g⟩ (fun r => (∀ c : Dev Cert.GmlpBwdRefIdeal.nD,
      r.2.mem ((c.tc : Thread Cert.GmlpBwdRefIdeal.nD Cert.GmlpBwdRefIdeal.τ).loc Cert.GmlpBwdRefIdeal.main_arg0) = m ((c.tc : Thread Cert.GmlpBwdRefIdeal.nD Cert.GmlpBwdRefIdeal.τ).loc Cert.GmlpBwdRefIdeal.main_arg0)
      ∧ r.2.mem ((c.tc : Thread Cert.GmlpBwdRefIdeal.nD Cert.GmlpBwdRefIdeal.τ).loc Cert.GmlpBwdRefIdeal.main_arg1) = m ((c.tc : Thread Cert.GmlpBwdRefIdeal.nD Cert.GmlpBwdRefIdeal.τ).loc Cert.GmlpBwdRefIdeal.main_arg1)
      ∧ r.2.mem ((c.tc : Thread Cert.GmlpBwdRefIdeal.nD Cert.GmlpBwdRefIdeal.τ).loc Cert.GmlpBwdRefIdeal.main_arg2) = m ((c.tc : Thread Cert.GmlpBwdRefIdeal.nD Cert.GmlpBwdRefIdeal.τ).loc Cert.GmlpBwdRefIdeal.main_arg2)
      ∧ r.2.mem ((c.tc : Thread Cert.GmlpBwdRefIdeal.nD Cert.GmlpBwdRefIdeal.τ).loc Cert.GmlpBwdRefIdeal.main_arg3) = m ((c.tc : Thread Cert.GmlpBwdRefIdeal.nD Cert.GmlpBwdRefIdeal.τ).loc Cert.GmlpBwdRefIdeal.main_arg3)
      ∧ r.2.mem ((c.tc : Thread Cert.GmlpBwdRefIdeal.nD Cert.GmlpBwdRefIdeal.τ).loc Cert.GmlpBwdRefIdeal.main_arg4) = m ((c.tc : Thread Cert.GmlpBwdRefIdeal.nD Cert.GmlpBwdRefIdeal.τ).loc Cert.GmlpBwdRefIdeal.main_arg4))
      ∧ r.2.sem = fun _ => 0)

def quiescent_GmlpBwdRefIdeal_pre_gmlp_bwd_finite [hGmlpBwdRefIdeal : Cert.GmlpBwdRefIdeal.Facts] [hPre_gmlp_bwd_finite : Cert.Pre_gmlp_bwd_finite.Facts] : Prop :=
  ∀ (m : (ℓ : Loc Cert.GmlpBwdRefIdeal.nD Cert.GmlpBwdRefIdeal.τ Cert.GmlpBwdRefIdeal.sig) → Buf (Elt Ideal) ℓ) (g : Dev Cert.GmlpBwdRefIdeal.nD → PrngReg), Pre_GmlpBwdRefIdeal_gmlp_bwd_finite m →
    θ_run (Cert.GmlpBwdRefIdeal.defs (F := Ideal)) (onTc (τ := Cert.GmlpBwdRefIdeal.τ) (Cert.GmlpBwdRefIdeal.main (F := Ideal))) ⟨m, fun _ => 0, g⟩ (fun r => (∀ c : Dev Cert.GmlpBwdRefIdeal.nD,
      r.2.mem ((c.tc : Thread Cert.GmlpBwdRefIdeal.nD Cert.GmlpBwdRefIdeal.τ).loc Cert.GmlpBwdRefIdeal.main_arg0) = m ((c.tc : Thread Cert.GmlpBwdRefIdeal.nD Cert.GmlpBwdRefIdeal.τ).loc Cert.GmlpBwdRefIdeal.main_arg0)
      ∧ r.2.mem ((c.tc : Thread Cert.GmlpBwdRefIdeal.nD Cert.GmlpBwdRefIdeal.τ).loc Cert.GmlpBwdRefIdeal.main_arg1) = m ((c.tc : Thread Cert.GmlpBwdRefIdeal.nD Cert.GmlpBwdRefIdeal.τ).loc Cert.GmlpBwdRefIdeal.main_arg1)
      ∧ r.2.mem ((c.tc : Thread Cert.GmlpBwdRefIdeal.nD Cert.GmlpBwdRefIdeal.τ).loc Cert.GmlpBwdRefIdeal.main_arg2) = m ((c.tc : Thread Cert.GmlpBwdRefIdeal.nD Cert.GmlpBwdRefIdeal.τ).loc Cert.GmlpBwdRefIdeal.main_arg2)
      ∧ r.2.mem ((c.tc : Thread Cert.GmlpBwdRefIdeal.nD Cert.GmlpBwdRefIdeal.τ).loc Cert.GmlpBwdRefIdeal.main_arg3) = m ((c.tc : Thread Cert.GmlpBwdRefIdeal.nD Cert.GmlpBwdRefIdeal.τ).loc Cert.GmlpBwdRefIdeal.main_arg3)
      ∧ r.2.mem ((c.tc : Thread Cert.GmlpBwdRefIdeal.nD Cert.GmlpBwdRefIdeal.τ).loc Cert.GmlpBwdRefIdeal.main_arg4) = m ((c.tc : Thread Cert.GmlpBwdRefIdeal.nD Cert.GmlpBwdRefIdeal.τ).loc Cert.GmlpBwdRefIdeal.main_arg4))
      ∧ r.2.sem = fun _ => 0)

def quiescent_PoolBwd [hPoolBwd : Cert.PoolBwd.Facts] : Prop :=
  ∀ (m : (ℓ : Loc Cert.PoolBwd.nD Cert.PoolBwd.τ Cert.PoolBwd.sig) → Buf (Elt Bits) ℓ) (g : Dev Cert.PoolBwd.nD → PrngReg), Pre_PoolBwd m →
    θ_run (Cert.PoolBwd.defs (F := Bits)) (onTc (τ := Cert.PoolBwd.τ) (Cert.PoolBwd.main (F := Bits))) ⟨m, fun _ => 0, g⟩ (fun r => (∀ c : Dev Cert.PoolBwd.nD,
      r.2.mem ((c.tc : Thread Cert.PoolBwd.nD Cert.PoolBwd.τ).loc Cert.PoolBwd.main_arg0) = m ((c.tc : Thread Cert.PoolBwd.nD Cert.PoolBwd.τ).loc Cert.PoolBwd.main_arg0)
      ∧ r.2.mem ((c.tc : Thread Cert.PoolBwd.nD Cert.PoolBwd.τ).loc Cert.PoolBwd.main_arg1) = m ((c.tc : Thread Cert.PoolBwd.nD Cert.PoolBwd.τ).loc Cert.PoolBwd.main_arg1)
      ∧ r.2.mem ((c.tc : Thread Cert.PoolBwd.nD Cert.PoolBwd.τ).loc Cert.PoolBwd.main_arg2) = m ((c.tc : Thread Cert.PoolBwd.nD Cert.PoolBwd.τ).loc Cert.PoolBwd.main_arg2)
      ∧ r.2.mem ((c.tc : Thread Cert.PoolBwd.nD Cert.PoolBwd.τ).loc Cert.PoolBwd.main_arg3) = m ((c.tc : Thread Cert.PoolBwd.nD Cert.PoolBwd.τ).loc Cert.PoolBwd.main_arg3))
      ∧ r.2.sem = fun _ => 0)

def quiescent_PoolBwdIdeal [hPoolBwdIdeal : Cert.PoolBwdIdeal.Facts] : Prop :=
  ∀ (m : (ℓ : Loc Cert.PoolBwdIdeal.nD Cert.PoolBwdIdeal.τ Cert.PoolBwdIdeal.sig) → Buf (Elt Ideal) ℓ) (g : Dev Cert.PoolBwdIdeal.nD → PrngReg), Pre_PoolBwdIdeal m →
    θ_run (Cert.PoolBwdIdeal.defs (F := Ideal)) (onTc (τ := Cert.PoolBwdIdeal.τ) (Cert.PoolBwdIdeal.main (F := Ideal))) ⟨m, fun _ => 0, g⟩ (fun r => (∀ c : Dev Cert.PoolBwdIdeal.nD,
      r.2.mem ((c.tc : Thread Cert.PoolBwdIdeal.nD Cert.PoolBwdIdeal.τ).loc Cert.PoolBwdIdeal.main_arg0) = m ((c.tc : Thread Cert.PoolBwdIdeal.nD Cert.PoolBwdIdeal.τ).loc Cert.PoolBwdIdeal.main_arg0)
      ∧ r.2.mem ((c.tc : Thread Cert.PoolBwdIdeal.nD Cert.PoolBwdIdeal.τ).loc Cert.PoolBwdIdeal.main_arg1) = m ((c.tc : Thread Cert.PoolBwdIdeal.nD Cert.PoolBwdIdeal.τ).loc Cert.PoolBwdIdeal.main_arg1)
      ∧ r.2.mem ((c.tc : Thread Cert.PoolBwdIdeal.nD Cert.PoolBwdIdeal.τ).loc Cert.PoolBwdIdeal.main_arg2) = m ((c.tc : Thread Cert.PoolBwdIdeal.nD Cert.PoolBwdIdeal.τ).loc Cert.PoolBwdIdeal.main_arg2)
      ∧ r.2.mem ((c.tc : Thread Cert.PoolBwdIdeal.nD Cert.PoolBwdIdeal.τ).loc Cert.PoolBwdIdeal.main_arg3) = m ((c.tc : Thread Cert.PoolBwdIdeal.nD Cert.PoolBwdIdeal.τ).loc Cert.PoolBwdIdeal.main_arg3))
      ∧ r.2.sem = fun _ => 0)

def quiescent_PoolBwdIdeal_pre_pool_bwd_finite [hPoolBwdIdeal : Cert.PoolBwdIdeal.Facts] [hPre_pool_bwd_finite : Cert.Pre_pool_bwd_finite.Facts] : Prop :=
  ∀ (m : (ℓ : Loc Cert.PoolBwdIdeal.nD Cert.PoolBwdIdeal.τ Cert.PoolBwdIdeal.sig) → Buf (Elt Ideal) ℓ) (g : Dev Cert.PoolBwdIdeal.nD → PrngReg), Pre_PoolBwdIdeal_pool_bwd_finite m →
    θ_run (Cert.PoolBwdIdeal.defs (F := Ideal)) (onTc (τ := Cert.PoolBwdIdeal.τ) (Cert.PoolBwdIdeal.main (F := Ideal))) ⟨m, fun _ => 0, g⟩ (fun r => (∀ c : Dev Cert.PoolBwdIdeal.nD,
      r.2.mem ((c.tc : Thread Cert.PoolBwdIdeal.nD Cert.PoolBwdIdeal.τ).loc Cert.PoolBwdIdeal.main_arg0) = m ((c.tc : Thread Cert.PoolBwdIdeal.nD Cert.PoolBwdIdeal.τ).loc Cert.PoolBwdIdeal.main_arg0)
      ∧ r.2.mem ((c.tc : Thread Cert.PoolBwdIdeal.nD Cert.PoolBwdIdeal.τ).loc Cert.PoolBwdIdeal.main_arg1) = m ((c.tc : Thread Cert.PoolBwdIdeal.nD Cert.PoolBwdIdeal.τ).loc Cert.PoolBwdIdeal.main_arg1)
      ∧ r.2.mem ((c.tc : Thread Cert.PoolBwdIdeal.nD Cert.PoolBwdIdeal.τ).loc Cert.PoolBwdIdeal.main_arg2) = m ((c.tc : Thread Cert.PoolBwdIdeal.nD Cert.PoolBwdIdeal.τ).loc Cert.PoolBwdIdeal.main_arg2)
      ∧ r.2.mem ((c.tc : Thread Cert.PoolBwdIdeal.nD Cert.PoolBwdIdeal.τ).loc Cert.PoolBwdIdeal.main_arg3) = m ((c.tc : Thread Cert.PoolBwdIdeal.nD Cert.PoolBwdIdeal.τ).loc Cert.PoolBwdIdeal.main_arg3))
      ∧ r.2.sem = fun _ => 0)

def quiescent_PoolBwdRefIdeal [hPoolBwdRefIdeal : Cert.PoolBwdRefIdeal.Facts] : Prop :=
  ∀ (m : (ℓ : Loc Cert.PoolBwdRefIdeal.nD Cert.PoolBwdRefIdeal.τ Cert.PoolBwdRefIdeal.sig) → Buf (Elt Ideal) ℓ) (g : Dev Cert.PoolBwdRefIdeal.nD → PrngReg), Pre_PoolBwdRefIdeal m →
    θ_run (Cert.PoolBwdRefIdeal.defs (F := Ideal)) (onTc (τ := Cert.PoolBwdRefIdeal.τ) (Cert.PoolBwdRefIdeal.main (F := Ideal))) ⟨m, fun _ => 0, g⟩ (fun r => (∀ c : Dev Cert.PoolBwdRefIdeal.nD,
      r.2.mem ((c.tc : Thread Cert.PoolBwdRefIdeal.nD Cert.PoolBwdRefIdeal.τ).loc Cert.PoolBwdRefIdeal.main_arg0) = m ((c.tc : Thread Cert.PoolBwdRefIdeal.nD Cert.PoolBwdRefIdeal.τ).loc Cert.PoolBwdRefIdeal.main_arg0)
      ∧ r.2.mem ((c.tc : Thread Cert.PoolBwdRefIdeal.nD Cert.PoolBwdRefIdeal.τ).loc Cert.PoolBwdRefIdeal.main_arg1) = m ((c.tc : Thread Cert.PoolBwdRefIdeal.nD Cert.PoolBwdRefIdeal.τ).loc Cert.PoolBwdRefIdeal.main_arg1)
      ∧ r.2.mem ((c.tc : Thread Cert.PoolBwdRefIdeal.nD Cert.PoolBwdRefIdeal.τ).loc Cert.PoolBwdRefIdeal.main_arg2) = m ((c.tc : Thread Cert.PoolBwdRefIdeal.nD Cert.PoolBwdRefIdeal.τ).loc Cert.PoolBwdRefIdeal.main_arg2)
      ∧ r.2.mem ((c.tc : Thread Cert.PoolBwdRefIdeal.nD Cert.PoolBwdRefIdeal.τ).loc Cert.PoolBwdRefIdeal.main_arg3) = m ((c.tc : Thread Cert.PoolBwdRefIdeal.nD Cert.PoolBwdRefIdeal.τ).loc Cert.PoolBwdRefIdeal.main_arg3))
      ∧ r.2.sem = fun _ => 0)

def quiescent_PoolBwdRefIdeal_pre_pool_bwd_finite [hPoolBwdRefIdeal : Cert.PoolBwdRefIdeal.Facts] [hPre_pool_bwd_finite : Cert.Pre_pool_bwd_finite.Facts] : Prop :=
  ∀ (m : (ℓ : Loc Cert.PoolBwdRefIdeal.nD Cert.PoolBwdRefIdeal.τ Cert.PoolBwdRefIdeal.sig) → Buf (Elt Ideal) ℓ) (g : Dev Cert.PoolBwdRefIdeal.nD → PrngReg), Pre_PoolBwdRefIdeal_pool_bwd_finite m →
    θ_run (Cert.PoolBwdRefIdeal.defs (F := Ideal)) (onTc (τ := Cert.PoolBwdRefIdeal.τ) (Cert.PoolBwdRefIdeal.main (F := Ideal))) ⟨m, fun _ => 0, g⟩ (fun r => (∀ c : Dev Cert.PoolBwdRefIdeal.nD,
      r.2.mem ((c.tc : Thread Cert.PoolBwdRefIdeal.nD Cert.PoolBwdRefIdeal.τ).loc Cert.PoolBwdRefIdeal.main_arg0) = m ((c.tc : Thread Cert.PoolBwdRefIdeal.nD Cert.PoolBwdRefIdeal.τ).loc Cert.PoolBwdRefIdeal.main_arg0)
      ∧ r.2.mem ((c.tc : Thread Cert.PoolBwdRefIdeal.nD Cert.PoolBwdRefIdeal.τ).loc Cert.PoolBwdRefIdeal.main_arg1) = m ((c.tc : Thread Cert.PoolBwdRefIdeal.nD Cert.PoolBwdRefIdeal.τ).loc Cert.PoolBwdRefIdeal.main_arg1)
      ∧ r.2.mem ((c.tc : Thread Cert.PoolBwdRefIdeal.nD Cert.PoolBwdRefIdeal.τ).loc Cert.PoolBwdRefIdeal.main_arg2) = m ((c.tc : Thread Cert.PoolBwdRefIdeal.nD Cert.PoolBwdRefIdeal.τ).loc Cert.PoolBwdRefIdeal.main_arg2)
      ∧ r.2.mem ((c.tc : Thread Cert.PoolBwdRefIdeal.nD Cert.PoolBwdRefIdeal.τ).loc Cert.PoolBwdRefIdeal.main_arg3) = m ((c.tc : Thread Cert.PoolBwdRefIdeal.nD Cert.PoolBwdRefIdeal.τ).loc Cert.PoolBwdRefIdeal.main_arg3))
      ∧ r.2.sem = fun _ => 0)

def quiescent_SwishBwd [hSwishBwd : Cert.SwishBwd.Facts] : Prop :=
  ∀ (m : (ℓ : Loc Cert.SwishBwd.nD Cert.SwishBwd.τ Cert.SwishBwd.sig) → Buf (Elt Bits) ℓ) (g : Dev Cert.SwishBwd.nD → PrngReg), Pre_SwishBwd m →
    θ_run (Cert.SwishBwd.defs (F := Bits)) (onTc (τ := Cert.SwishBwd.τ) (Cert.SwishBwd.main (F := Bits))) ⟨m, fun _ => 0, g⟩ (fun r => (∀ c : Dev Cert.SwishBwd.nD,
      r.2.mem ((c.tc : Thread Cert.SwishBwd.nD Cert.SwishBwd.τ).loc Cert.SwishBwd.main_arg0) = m ((c.tc : Thread Cert.SwishBwd.nD Cert.SwishBwd.τ).loc Cert.SwishBwd.main_arg0)
      ∧ r.2.mem ((c.tc : Thread Cert.SwishBwd.nD Cert.SwishBwd.τ).loc Cert.SwishBwd.main_arg1) = m ((c.tc : Thread Cert.SwishBwd.nD Cert.SwishBwd.τ).loc Cert.SwishBwd.main_arg1)
      ∧ r.2.mem ((c.tc : Thread Cert.SwishBwd.nD Cert.SwishBwd.τ).loc Cert.SwishBwd.main_arg2) = m ((c.tc : Thread Cert.SwishBwd.nD Cert.SwishBwd.τ).loc Cert.SwishBwd.main_arg2)
      ∧ r.2.mem ((c.tc : Thread Cert.SwishBwd.nD Cert.SwishBwd.τ).loc Cert.SwishBwd.main_arg3) = m ((c.tc : Thread Cert.SwishBwd.nD Cert.SwishBwd.τ).loc Cert.SwishBwd.main_arg3))
      ∧ r.2.sem = fun _ => 0)

def quiescent_SwishBwdIdeal [hSwishBwdIdeal : Cert.SwishBwdIdeal.Facts] : Prop :=
  ∀ (m : (ℓ : Loc Cert.SwishBwdIdeal.nD Cert.SwishBwdIdeal.τ Cert.SwishBwdIdeal.sig) → Buf (Elt Ideal) ℓ) (g : Dev Cert.SwishBwdIdeal.nD → PrngReg), Pre_SwishBwdIdeal m →
    θ_run (Cert.SwishBwdIdeal.defs (F := Ideal)) (onTc (τ := Cert.SwishBwdIdeal.τ) (Cert.SwishBwdIdeal.main (F := Ideal))) ⟨m, fun _ => 0, g⟩ (fun r => (∀ c : Dev Cert.SwishBwdIdeal.nD,
      r.2.mem ((c.tc : Thread Cert.SwishBwdIdeal.nD Cert.SwishBwdIdeal.τ).loc Cert.SwishBwdIdeal.main_arg0) = m ((c.tc : Thread Cert.SwishBwdIdeal.nD Cert.SwishBwdIdeal.τ).loc Cert.SwishBwdIdeal.main_arg0)
      ∧ r.2.mem ((c.tc : Thread Cert.SwishBwdIdeal.nD Cert.SwishBwdIdeal.τ).loc Cert.SwishBwdIdeal.main_arg1) = m ((c.tc : Thread Cert.SwishBwdIdeal.nD Cert.SwishBwdIdeal.τ).loc Cert.SwishBwdIdeal.main_arg1)
      ∧ r.2.mem ((c.tc : Thread Cert.SwishBwdIdeal.nD Cert.SwishBwdIdeal.τ).loc Cert.SwishBwdIdeal.main_arg2) = m ((c.tc : Thread Cert.SwishBwdIdeal.nD Cert.SwishBwdIdeal.τ).loc Cert.SwishBwdIdeal.main_arg2)
      ∧ r.2.mem ((c.tc : Thread Cert.SwishBwdIdeal.nD Cert.SwishBwdIdeal.τ).loc Cert.SwishBwdIdeal.main_arg3) = m ((c.tc : Thread Cert.SwishBwdIdeal.nD Cert.SwishBwdIdeal.τ).loc Cert.SwishBwdIdeal.main_arg3))
      ∧ r.2.sem = fun _ => 0)

def quiescent_SwishBwdIdeal_pre_swish_bwd_finite [hSwishBwdIdeal : Cert.SwishBwdIdeal.Facts] [hPre_swish_bwd_finite : Cert.Pre_swish_bwd_finite.Facts] : Prop :=
  ∀ (m : (ℓ : Loc Cert.SwishBwdIdeal.nD Cert.SwishBwdIdeal.τ Cert.SwishBwdIdeal.sig) → Buf (Elt Ideal) ℓ) (g : Dev Cert.SwishBwdIdeal.nD → PrngReg), Pre_SwishBwdIdeal_swish_bwd_finite m →
    θ_run (Cert.SwishBwdIdeal.defs (F := Ideal)) (onTc (τ := Cert.SwishBwdIdeal.τ) (Cert.SwishBwdIdeal.main (F := Ideal))) ⟨m, fun _ => 0, g⟩ (fun r => (∀ c : Dev Cert.SwishBwdIdeal.nD,
      r.2.mem ((c.tc : Thread Cert.SwishBwdIdeal.nD Cert.SwishBwdIdeal.τ).loc Cert.SwishBwdIdeal.main_arg0) = m ((c.tc : Thread Cert.SwishBwdIdeal.nD Cert.SwishBwdIdeal.τ).loc Cert.SwishBwdIdeal.main_arg0)
      ∧ r.2.mem ((c.tc : Thread Cert.SwishBwdIdeal.nD Cert.SwishBwdIdeal.τ).loc Cert.SwishBwdIdeal.main_arg1) = m ((c.tc : Thread Cert.SwishBwdIdeal.nD Cert.SwishBwdIdeal.τ).loc Cert.SwishBwdIdeal.main_arg1)
      ∧ r.2.mem ((c.tc : Thread Cert.SwishBwdIdeal.nD Cert.SwishBwdIdeal.τ).loc Cert.SwishBwdIdeal.main_arg2) = m ((c.tc : Thread Cert.SwishBwdIdeal.nD Cert.SwishBwdIdeal.τ).loc Cert.SwishBwdIdeal.main_arg2)
      ∧ r.2.mem ((c.tc : Thread Cert.SwishBwdIdeal.nD Cert.SwishBwdIdeal.τ).loc Cert.SwishBwdIdeal.main_arg3) = m ((c.tc : Thread Cert.SwishBwdIdeal.nD Cert.SwishBwdIdeal.τ).loc Cert.SwishBwdIdeal.main_arg3))
      ∧ r.2.sem = fun _ => 0)

def quiescent_SwishBwdRefIdeal [hSwishBwdRefIdeal : Cert.SwishBwdRefIdeal.Facts] : Prop :=
  ∀ (m : (ℓ : Loc Cert.SwishBwdRefIdeal.nD Cert.SwishBwdRefIdeal.τ Cert.SwishBwdRefIdeal.sig) → Buf (Elt Ideal) ℓ) (g : Dev Cert.SwishBwdRefIdeal.nD → PrngReg), Pre_SwishBwdRefIdeal m →
    θ_run (Cert.SwishBwdRefIdeal.defs (F := Ideal)) (onTc (τ := Cert.SwishBwdRefIdeal.τ) (Cert.SwishBwdRefIdeal.main (F := Ideal))) ⟨m, fun _ => 0, g⟩ (fun r => (∀ c : Dev Cert.SwishBwdRefIdeal.nD,
      r.2.mem ((c.tc : Thread Cert.SwishBwdRefIdeal.nD Cert.SwishBwdRefIdeal.τ).loc Cert.SwishBwdRefIdeal.main_arg0) = m ((c.tc : Thread Cert.SwishBwdRefIdeal.nD Cert.SwishBwdRefIdeal.τ).loc Cert.SwishBwdRefIdeal.main_arg0)
      ∧ r.2.mem ((c.tc : Thread Cert.SwishBwdRefIdeal.nD Cert.SwishBwdRefIdeal.τ).loc Cert.SwishBwdRefIdeal.main_arg1) = m ((c.tc : Thread Cert.SwishBwdRefIdeal.nD Cert.SwishBwdRefIdeal.τ).loc Cert.SwishBwdRefIdeal.main_arg1)
      ∧ r.2.mem ((c.tc : Thread Cert.SwishBwdRefIdeal.nD Cert.SwishBwdRefIdeal.τ).loc Cert.SwishBwdRefIdeal.main_arg2) = m ((c.tc : Thread Cert.SwishBwdRefIdeal.nD Cert.SwishBwdRefIdeal.τ).loc Cert.SwishBwdRefIdeal.main_arg2)
      ∧ r.2.mem ((c.tc : Thread Cert.SwishBwdRefIdeal.nD Cert.SwishBwdRefIdeal.τ).loc Cert.SwishBwdRefIdeal.main_arg3) = m ((c.tc : Thread Cert.SwishBwdRefIdeal.nD Cert.SwishBwdRefIdeal.τ).loc Cert.SwishBwdRefIdeal.main_arg3))
      ∧ r.2.sem = fun _ => 0)

def quiescent_SwishBwdRefIdeal_pre_swish_bwd_finite [hSwishBwdRefIdeal : Cert.SwishBwdRefIdeal.Facts] [hPre_swish_bwd_finite : Cert.Pre_swish_bwd_finite.Facts] : Prop :=
  ∀ (m : (ℓ : Loc Cert.SwishBwdRefIdeal.nD Cert.SwishBwdRefIdeal.τ Cert.SwishBwdRefIdeal.sig) → Buf (Elt Ideal) ℓ) (g : Dev Cert.SwishBwdRefIdeal.nD → PrngReg), Pre_SwishBwdRefIdeal_swish_bwd_finite m →
    θ_run (Cert.SwishBwdRefIdeal.defs (F := Ideal)) (onTc (τ := Cert.SwishBwdRefIdeal.τ) (Cert.SwishBwdRefIdeal.main (F := Ideal))) ⟨m, fun _ => 0, g⟩ (fun r => (∀ c : Dev Cert.SwishBwdRefIdeal.nD,
      r.2.mem ((c.tc : Thread Cert.SwishBwdRefIdeal.nD Cert.SwishBwdRefIdeal.τ).loc Cert.SwishBwdRefIdeal.main_arg0) = m ((c.tc : Thread Cert.SwishBwdRefIdeal.nD Cert.SwishBwdRefIdeal.τ).loc Cert.SwishBwdRefIdeal.main_arg0)
      ∧ r.2.mem ((c.tc : Thread Cert.SwishBwdRefIdeal.nD Cert.SwishBwdRefIdeal.τ).loc Cert.SwishBwdRefIdeal.main_arg1) = m ((c.tc : Thread Cert.SwishBwdRefIdeal.nD Cert.SwishBwdRefIdeal.τ).loc Cert.SwishBwdRefIdeal.main_arg1)
      ∧ r.2.mem ((c.tc : Thread Cert.SwishBwdRefIdeal.nD Cert.SwishBwdRefIdeal.τ).loc Cert.SwishBwdRefIdeal.main_arg2) = m ((c.tc : Thread Cert.SwishBwdRefIdeal.nD Cert.SwishBwdRefIdeal.τ).loc Cert.SwishBwdRefIdeal.main_arg2)
      ∧ r.2.mem ((c.tc : Thread Cert.SwishBwdRefIdeal.nD Cert.SwishBwdRefIdeal.τ).loc Cert.SwishBwdRefIdeal.main_arg3) = m ((c.tc : Thread Cert.SwishBwdRefIdeal.nD Cert.SwishBwdRefIdeal.τ).loc Cert.SwishBwdRefIdeal.main_arg3))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1)
      ∧ r.2.mem ((c.tc : Thread Cert.AttnFwd.nD Cert.AttnFwd.τ).loc Cert.AttnFwd.main_arg2) = m ((c.tc : Thread Cert.AttnFwd.nD Cert.AttnFwd.τ).loc Cert.AttnFwd.main_arg2))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ r.2.sem = fun _ => 0)

def quiescent_AttnFwdRefIdeal [hAttnFwdRefIdeal : Cert.AttnFwdRefIdeal.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2))
      ∧ r.2.sem = fun _ => 0)

def quiescent_GmlpFwd [hGmlpFwd : Cert.GmlpFwd.Facts] : Prop :=
  ∀ (m : (ℓ : Loc Cert.GmlpFwd.nD Cert.GmlpFwd.τ Cert.GmlpFwd.sig) → Buf (Elt Bits) ℓ) (g : Dev Cert.GmlpFwd.nD → PrngReg), Pre_GmlpFwd m →
    θ_run (Cert.GmlpFwd.defs (F := Bits)) (onTc (τ := Cert.GmlpFwd.τ) (Cert.GmlpFwd.main (F := Bits))) ⟨m, fun _ => 0, g⟩ (fun r => (∀ c : Dev Cert.GmlpFwd.nD,
      r.2.mem ((c.tc : Thread Cert.GmlpFwd.nD Cert.GmlpFwd.τ).loc Cert.GmlpFwd.main_arg0) = m ((c.tc : Thread Cert.GmlpFwd.nD Cert.GmlpFwd.τ).loc Cert.GmlpFwd.main_arg0)
      ∧ r.2.mem ((c.tc : Thread Cert.GmlpFwd.nD Cert.GmlpFwd.τ).loc Cert.GmlpFwd.main_arg1) = m ((c.tc : Thread Cert.GmlpFwd.nD Cert.GmlpFwd.τ).loc Cert.GmlpFwd.main_arg1)
      ∧ r.2.mem ((c.tc : Thread Cert.GmlpFwd.nD Cert.GmlpFwd.τ).loc Cert.GmlpFwd.main_arg2) = m ((c.tc : Thread Cert.GmlpFwd.nD Cert.GmlpFwd.τ).loc Cert.GmlpFwd.main_arg2)
      ∧ r.2.mem ((c.tc : Thread Cert.GmlpFwd.nD Cert.GmlpFwd.τ).loc Cert.GmlpFwd.main_arg3) = m ((c.tc : Thread Cert.GmlpFwd.nD Cert.GmlpFwd.τ).loc Cert.GmlpFwd.main_arg3))
      ∧ r.2.sem = fun _ => 0)

def quiescent_GmlpFwdIdeal [hGmlpFwdIdeal : Cert.GmlpFwdIdeal.Facts] : Prop :=
  ∀ (m : (ℓ : Loc Cert.GmlpFwdIdeal.nD Cert.GmlpFwdIdeal.τ Cert.GmlpFwdIdeal.sig) → Buf (Elt Ideal) ℓ) (g : Dev Cert.GmlpFwdIdeal.nD → PrngReg), Pre_GmlpFwdIdeal m →
    θ_run (Cert.GmlpFwdIdeal.defs (F := Ideal)) (onTc (τ := Cert.GmlpFwdIdeal.τ) (Cert.GmlpFwdIdeal.main (F := Ideal))) ⟨m, fun _ => 0, g⟩ (fun r => (∀ c : Dev Cert.GmlpFwdIdeal.nD,
      r.2.mem ((c.tc : Thread Cert.GmlpFwdIdeal.nD Cert.GmlpFwdIdeal.τ).loc Cert.GmlpFwdIdeal.main_arg0) = m ((c.tc : Thread Cert.GmlpFwdIdeal.nD Cert.GmlpFwdIdeal.τ).loc Cert.GmlpFwdIdeal.main_arg0)
      ∧ r.2.mem ((c.tc : Thread Cert.GmlpFwdIdeal.nD Cert.GmlpFwdIdeal.τ).loc Cert.GmlpFwdIdeal.main_arg1) = m ((c.tc : Thread Cert.GmlpFwdIdeal.nD Cert.GmlpFwdIdeal.τ).loc Cert.GmlpFwdIdeal.main_arg1)
      ∧ r.2.mem ((c.tc : Thread Cert.GmlpFwdIdeal.nD Cert.GmlpFwdIdeal.τ).loc Cert.GmlpFwdIdeal.main_arg2) = m ((c.tc : Thread Cert.GmlpFwdIdeal.nD Cert.GmlpFwdIdeal.τ).loc Cert.GmlpFwdIdeal.main_arg2)
      ∧ r.2.mem ((c.tc : Thread Cert.GmlpFwdIdeal.nD Cert.GmlpFwdIdeal.τ).loc Cert.GmlpFwdIdeal.main_arg3) = m ((c.tc : Thread Cert.GmlpFwdIdeal.nD Cert.GmlpFwdIdeal.τ).loc Cert.GmlpFwdIdeal.main_arg3))
      ∧ r.2.sem = fun _ => 0)

def quiescent_GmlpFwdRefIdeal [hGmlpFwdRefIdeal : Cert.GmlpFwdRefIdeal.Facts] : Prop :=
  ∀ (m : (ℓ : Loc Cert.GmlpFwdRefIdeal.nD Cert.GmlpFwdRefIdeal.τ Cert.GmlpFwdRefIdeal.sig) → Buf (Elt Ideal) ℓ) (g : Dev Cert.GmlpFwdRefIdeal.nD → PrngReg), Pre_GmlpFwdRefIdeal m →
    θ_run (Cert.GmlpFwdRefIdeal.defs (F := Ideal)) (onTc (τ := Cert.GmlpFwdRefIdeal.τ) (Cert.GmlpFwdRefIdeal.main (F := Ideal))) ⟨m, fun _ => 0, g⟩ (fun r => (∀ c : Dev Cert.GmlpFwdRefIdeal.nD,
      r.2.mem ((c.tc : Thread Cert.GmlpFwdRefIdeal.nD Cert.GmlpFwdRefIdeal.τ).loc Cert.GmlpFwdRefIdeal.main_arg0) = m ((c.tc : Thread Cert.GmlpFwdRefIdeal.nD Cert.GmlpFwdRefIdeal.τ).loc Cert.GmlpFwdRefIdeal.main_arg0)
      ∧ r.2.mem ((c.tc : Thread Cert.GmlpFwdRefIdeal.nD Cert.GmlpFwdRefIdeal.τ).loc Cert.GmlpFwdRefIdeal.main_arg1) = m ((c.tc : Thread Cert.GmlpFwdRefIdeal.nD Cert.GmlpFwdRefIdeal.τ).loc Cert.GmlpFwdRefIdeal.main_arg1)
      ∧ r.2.mem ((c.tc : Thread Cert.GmlpFwdRefIdeal.nD Cert.GmlpFwdRefIdeal.τ).loc Cert.GmlpFwdRefIdeal.main_arg2) = m ((c.tc : Thread Cert.GmlpFwdRefIdeal.nD Cert.GmlpFwdRefIdeal.τ).loc Cert.GmlpFwdRefIdeal.main_arg2)
      ∧ r.2.mem ((c.tc : Thread Cert.GmlpFwdRefIdeal.nD Cert.GmlpFwdRefIdeal.τ).loc Cert.GmlpFwdRefIdeal.main_arg3) = m ((c.tc : Thread Cert.GmlpFwdRefIdeal.nD Cert.GmlpFwdRefIdeal.τ).loc Cert.GmlpFwdRefIdeal.main_arg3))
      ∧ r.2.sem = fun _ => 0)

def quiescent_PoolFwd [hPoolFwd : Cert.PoolFwd.Facts] : Prop :=
  ∀ (m : (ℓ : Loc Cert.PoolFwd.nD Cert.PoolFwd.τ Cert.PoolFwd.sig) → Buf (Elt Bits) ℓ) (g : Dev Cert.PoolFwd.nD → PrngReg), Pre_PoolFwd m →
    θ_run (Cert.PoolFwd.defs (F := Bits)) (onTc (τ := Cert.PoolFwd.τ) (Cert.PoolFwd.main (F := Bits))) ⟨m, fun _ => 0, g⟩ (fun r => (∀ c : Dev Cert.PoolFwd.nD,
      r.2.mem ((c.tc : Thread Cert.PoolFwd.nD Cert.PoolFwd.τ).loc Cert.PoolFwd.main_arg0) = m ((c.tc : Thread Cert.PoolFwd.nD Cert.PoolFwd.τ).loc Cert.PoolFwd.main_arg0)
      ∧ r.2.mem ((c.tc : Thread Cert.PoolFwd.nD Cert.PoolFwd.τ).loc Cert.PoolFwd.main_arg1) = m ((c.tc : Thread Cert.PoolFwd.nD Cert.PoolFwd.τ).loc Cert.PoolFwd.main_arg1)
      ∧ r.2.mem ((c.tc : Thread Cert.PoolFwd.nD Cert.PoolFwd.τ).loc Cert.PoolFwd.main_arg2) = m ((c.tc : Thread Cert.PoolFwd.nD Cert.PoolFwd.τ).loc Cert.PoolFwd.main_arg2))
      ∧ r.2.sem = fun _ => 0)

def quiescent_PoolFwdIdeal [hPoolFwdIdeal : Cert.PoolFwdIdeal.Facts] : Prop :=
  ∀ (m : (ℓ : Loc Cert.PoolFwdIdeal.nD Cert.PoolFwdIdeal.τ Cert.PoolFwdIdeal.sig) → Buf (Elt Ideal) ℓ) (g : Dev Cert.PoolFwdIdeal.nD → PrngReg), Pre_PoolFwdIdeal m →
    θ_run (Cert.PoolFwdIdeal.defs (F := Ideal)) (onTc (τ := Cert.PoolFwdIdeal.τ) (Cert.PoolFwdIdeal.main (F := Ideal))) ⟨m, fun _ => 0, g⟩ (fun r => (∀ c : Dev Cert.PoolFwdIdeal.nD,
      r.2.mem ((c.tc : Thread Cert.PoolFwdIdeal.nD Cert.PoolFwdIdeal.τ).loc Cert.PoolFwdIdeal.main_arg0) = m ((c.tc : Thread Cert.PoolFwdIdeal.nD Cert.PoolFwdIdeal.τ).loc Cert.PoolFwdIdeal.main_arg0)
      ∧ r.2.mem ((c.tc : Thread Cert.PoolFwdIdeal.nD Cert.PoolFwdIdeal.τ).loc Cert.PoolFwdIdeal.main_arg1) = m ((c.tc : Thread Cert.PoolFwdIdeal.nD Cert.PoolFwdIdeal.τ).loc Cert.PoolFwdIdeal.main_arg1)
      ∧ r.2.mem ((c.tc : Thread Cert.PoolFwdIdeal.nD Cert.PoolFwdIdeal.τ).loc Cert.PoolFwdIdeal.main_arg2) = m ((c.tc : Thread Cert.PoolFwdIdeal.nD Cert.PoolFwdIdeal.τ).loc Cert.PoolFwdIdeal.main_arg2))
      ∧ r.2.sem = fun _ => 0)

def quiescent_PoolFwdIdeal_pre_pool_fwd_finite [hPoolFwdIdeal : Cert.PoolFwdIdeal.Facts] [hPre_pool_fwd_finite : Cert.Pre_pool_fwd_finite.Facts] : Prop :=
  ∀ (m : (ℓ : Loc Cert.PoolFwdIdeal.nD Cert.PoolFwdIdeal.τ Cert.PoolFwdIdeal.sig) → Buf (Elt Ideal) ℓ) (g : Dev Cert.PoolFwdIdeal.nD → PrngReg), Pre_PoolFwdIdeal_pool_fwd_finite m →
    θ_run (Cert.PoolFwdIdeal.defs (F := Ideal)) (onTc (τ := Cert.PoolFwdIdeal.τ) (Cert.PoolFwdIdeal.main (F := Ideal))) ⟨m, fun _ => 0, g⟩ (fun r => (∀ c : Dev Cert.PoolFwdIdeal.nD,
      r.2.mem ((c.tc : Thread Cert.PoolFwdIdeal.nD Cert.PoolFwdIdeal.τ).loc Cert.PoolFwdIdeal.main_arg0) = m ((c.tc : Thread Cert.PoolFwdIdeal.nD Cert.PoolFwdIdeal.τ).loc Cert.PoolFwdIdeal.main_arg0)
      ∧ r.2.mem ((c.tc : Thread Cert.PoolFwdIdeal.nD Cert.PoolFwdIdeal.τ).loc Cert.PoolFwdIdeal.main_arg1) = m ((c.tc : Thread Cert.PoolFwdIdeal.nD Cert.PoolFwdIdeal.τ).loc Cert.PoolFwdIdeal.main_arg1)
      ∧ r.2.mem ((c.tc : Thread Cert.PoolFwdIdeal.nD Cert.PoolFwdIdeal.τ).loc Cert.PoolFwdIdeal.main_arg2) = m ((c.tc : Thread Cert.PoolFwdIdeal.nD Cert.PoolFwdIdeal.τ).loc Cert.PoolFwdIdeal.main_arg2))
      ∧ r.2.sem = fun _ => 0)

def quiescent_PoolFwdRefIdeal [hPoolFwdRefIdeal : Cert.PoolFwdRefIdeal.Facts] : Prop :=
  ∀ (m : (ℓ : Loc Cert.PoolFwdRefIdeal.nD Cert.PoolFwdRefIdeal.τ Cert.PoolFwdRefIdeal.sig) → Buf (Elt Ideal) ℓ) (g : Dev Cert.PoolFwdRefIdeal.nD → PrngReg), Pre_PoolFwdRefIdeal m →
    θ_run (Cert.PoolFwdRefIdeal.defs (F := Ideal)) (onTc (τ := Cert.PoolFwdRefIdeal.τ) (Cert.PoolFwdRefIdeal.main (F := Ideal))) ⟨m, fun _ => 0, g⟩ (fun r => (∀ c : Dev Cert.PoolFwdRefIdeal.nD,
      r.2.mem ((c.tc : Thread Cert.PoolFwdRefIdeal.nD Cert.PoolFwdRefIdeal.τ).loc Cert.PoolFwdRefIdeal.main_arg0) = m ((c.tc : Thread Cert.PoolFwdRefIdeal.nD Cert.PoolFwdRefIdeal.τ).loc Cert.PoolFwdRefIdeal.main_arg0)
      ∧ r.2.mem ((c.tc : Thread Cert.PoolFwdRefIdeal.nD Cert.PoolFwdRefIdeal.τ).loc Cert.PoolFwdRefIdeal.main_arg1) = m ((c.tc : Thread Cert.PoolFwdRefIdeal.nD Cert.PoolFwdRefIdeal.τ).loc Cert.PoolFwdRefIdeal.main_arg1)
      ∧ r.2.mem ((c.tc : Thread Cert.PoolFwdRefIdeal.nD Cert.PoolFwdRefIdeal.τ).loc Cert.PoolFwdRefIdeal.main_arg2) = m ((c.tc : Thread Cert.PoolFwdRefIdeal.nD Cert.PoolFwdRefIdeal.τ).loc Cert.PoolFwdRefIdeal.main_arg2))
      ∧ r.2.sem = fun _ => 0)

def quiescent_PoolFwdRefIdeal_pre_pool_fwd_finite [hPoolFwdRefIdeal : Cert.PoolFwdRefIdeal.Facts] [hPre_pool_fwd_finite : Cert.Pre_pool_fwd_finite.Facts] : Prop :=
  ∀ (m : (ℓ : Loc Cert.PoolFwdRefIdeal.nD Cert.PoolFwdRefIdeal.τ Cert.PoolFwdRefIdeal.sig) → Buf (Elt Ideal) ℓ) (g : Dev Cert.PoolFwdRefIdeal.nD → PrngReg), Pre_PoolFwdRefIdeal_pool_fwd_finite m →
    θ_run (Cert.PoolFwdRefIdeal.defs (F := Ideal)) (onTc (τ := Cert.PoolFwdRefIdeal.τ) (Cert.PoolFwdRefIdeal.main (F := Ideal))) ⟨m, fun _ => 0, g⟩ (fun r => (∀ c : Dev Cert.PoolFwdRefIdeal.nD,
      r.2.mem ((c.tc : Thread Cert.PoolFwdRefIdeal.nD Cert.PoolFwdRefIdeal.τ).loc Cert.PoolFwdRefIdeal.main_arg0) = m ((c.tc : Thread Cert.PoolFwdRefIdeal.nD Cert.PoolFwdRefIdeal.τ).loc Cert.PoolFwdRefIdeal.main_arg0)
      ∧ r.2.mem ((c.tc : Thread Cert.PoolFwdRefIdeal.nD Cert.PoolFwdRefIdeal.τ).loc Cert.PoolFwdRefIdeal.main_arg1) = m ((c.tc : Thread Cert.PoolFwdRefIdeal.nD Cert.PoolFwdRefIdeal.τ).loc Cert.PoolFwdRefIdeal.main_arg1)
      ∧ r.2.mem ((c.tc : Thread Cert.PoolFwdRefIdeal.nD Cert.PoolFwdRefIdeal.τ).loc Cert.PoolFwdRefIdeal.main_arg2) = m ((c.tc : Thread Cert.PoolFwdRefIdeal.nD Cert.PoolFwdRefIdeal.τ).loc Cert.PoolFwdRefIdeal.main_arg2))
      ∧ r.2.sem = fun _ => 0)

def quiescent_ConvFwd [hConvFwd : Cert.ConvFwd.Facts] : Prop :=
  ∀ (m : (ℓ : Loc Cert.ConvFwd.nD Cert.ConvFwd.τ Cert.ConvFwd.sig) → Buf (Elt Bits) ℓ) (g : Dev Cert.ConvFwd.nD → PrngReg), Pre_ConvFwd m →
    θ_run (Cert.ConvFwd.defs (F := Bits)) (onTc (τ := Cert.ConvFwd.τ) (Cert.ConvFwd.main (F := Bits))) ⟨m, fun _ => 0, g⟩ (fun r => (∀ c : Dev Cert.ConvFwd.nD,
      r.2.mem ((c.tc : Thread Cert.ConvFwd.nD Cert.ConvFwd.τ).loc Cert.ConvFwd.main_arg0) = m ((c.tc : Thread Cert.ConvFwd.nD Cert.ConvFwd.τ).loc Cert.ConvFwd.main_arg0)
      ∧ r.2.mem ((c.tc : Thread Cert.ConvFwd.nD Cert.ConvFwd.τ).loc Cert.ConvFwd.main_arg1) = m ((c.tc : Thread Cert.ConvFwd.nD Cert.ConvFwd.τ).loc Cert.ConvFwd.main_arg1)
      ∧ r.2.mem ((c.tc : Thread Cert.ConvFwd.nD Cert.ConvFwd.τ).loc Cert.ConvFwd.main_arg2) = m ((c.tc : Thread Cert.ConvFwd.nD Cert.ConvFwd.τ).loc Cert.ConvFwd.main_arg2))
      ∧ r.2.sem = fun _ => 0)

def quiescent_ConvFwdIdeal [hConvFwdIdeal : Cert.ConvFwdIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg), Pre_ConvFwdIdeal m →
    θ_run (Cert.ConvFwdIdeal.defs (F := Ideal)) (onTc (τ := Cert.ConvFwdIdeal.τ) (Cert.ConvFwdIdeal.main (F := Ideal))) ⟨m, fun _ => 0, g⟩ (fun r => (∀ c : Dev Cert.ConvFwdIdeal.nD,
      r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
      ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
      ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2))
      ∧ r.2.sem = fun _ => 0)

def quiescent_ConvFwdRefIdeal [hConvFwdRefIdeal : Cert.ConvFwdRefIdeal.Facts] : Prop :=
  ∀ (m : (ℓ : Loc Cert.ConvFwdRefIdeal.nD Cert.ConvFwdRefIdeal.τ Cert.ConvFwdRefIdeal.sig) → Buf (Elt Ideal) ℓ) (g : Dev Cert.ConvFwdRefIdeal.nD → PrngReg), Pre_ConvFwdRefIdeal m →
    θ_run (Cert.ConvFwdRefIdeal.defs (F := Ideal)) (onTc (τ := Cert.ConvFwdRefIdeal.τ) (Cert.ConvFwdRefIdeal.main (F := Ideal))) ⟨m, fun _ => 0, g⟩ (fun r => (∀ c : Dev Cert.ConvFwdRefIdeal.nD,
      r.2.mem ((c.tc : Thread Cert.ConvFwdRefIdeal.nD Cert.ConvFwdRefIdeal.τ).loc Cert.ConvFwdRefIdeal.main_arg0) = m ((c.tc : Thread Cert.ConvFwdRefIdeal.nD Cert.ConvFwdRefIdeal.τ).loc Cert.ConvFwdRefIdeal.main_arg0)
      ∧ r.2.mem ((c.tc : Thread Cert.ConvFwdRefIdeal.nD Cert.ConvFwdRefIdeal.τ).loc Cert.ConvFwdRefIdeal.main_arg1) = m ((c.tc : Thread Cert.ConvFwdRefIdeal.nD Cert.ConvFwdRefIdeal.τ).loc Cert.ConvFwdRefIdeal.main_arg1)
      ∧ r.2.mem ((c.tc : Thread Cert.ConvFwdRefIdeal.nD Cert.ConvFwdRefIdeal.τ).loc Cert.ConvFwdRefIdeal.main_arg2) = m ((c.tc : Thread Cert.ConvFwdRefIdeal.nD Cert.ConvFwdRefIdeal.τ).loc Cert.ConvFwdRefIdeal.main_arg2))
      ∧ r.2.sem = fun _ => 0)

def quiescent_SwishFwd [hSwishFwd : Cert.SwishFwd.Facts] : Prop :=
  ∀ (m : (ℓ : Loc Cert.SwishFwd.nD Cert.SwishFwd.τ Cert.SwishFwd.sig) → Buf (Elt Bits) ℓ) (g : Dev Cert.SwishFwd.nD → PrngReg), Pre_SwishFwd m →
    θ_run (Cert.SwishFwd.defs (F := Bits)) (onTc (τ := Cert.SwishFwd.τ) (Cert.SwishFwd.main (F := Bits))) ⟨m, fun _ => 0, g⟩ (fun r => (∀ c : Dev Cert.SwishFwd.nD,
      r.2.mem ((c.tc : Thread Cert.SwishFwd.nD Cert.SwishFwd.τ).loc Cert.SwishFwd.main_arg0) = m ((c.tc : Thread Cert.SwishFwd.nD Cert.SwishFwd.τ).loc Cert.SwishFwd.main_arg0)
      ∧ r.2.mem ((c.tc : Thread Cert.SwishFwd.nD Cert.SwishFwd.τ).loc Cert.SwishFwd.main_arg1) = m ((c.tc : Thread Cert.SwishFwd.nD Cert.SwishFwd.τ).loc Cert.SwishFwd.main_arg1)
      ∧ r.2.mem ((c.tc : Thread Cert.SwishFwd.nD Cert.SwishFwd.τ).loc Cert.SwishFwd.main_arg2) = m ((c.tc : Thread Cert.SwishFwd.nD Cert.SwishFwd.τ).loc Cert.SwishFwd.main_arg2))
      ∧ r.2.sem = fun _ => 0)

def quiescent_SwishFwdIdeal [hSwishFwdIdeal : Cert.SwishFwdIdeal.Facts] : Prop :=
  ∀ (m : (ℓ : Loc Cert.SwishFwdIdeal.nD Cert.SwishFwdIdeal.τ Cert.SwishFwdIdeal.sig) → Buf (Elt Ideal) ℓ) (g : Dev Cert.SwishFwdIdeal.nD → PrngReg), Pre_SwishFwdIdeal m →
    θ_run (Cert.SwishFwdIdeal.defs (F := Ideal)) (onTc (τ := Cert.SwishFwdIdeal.τ) (Cert.SwishFwdIdeal.main (F := Ideal))) ⟨m, fun _ => 0, g⟩ (fun r => (∀ c : Dev Cert.SwishFwdIdeal.nD,
      r.2.mem ((c.tc : Thread Cert.SwishFwdIdeal.nD Cert.SwishFwdIdeal.τ).loc Cert.SwishFwdIdeal.main_arg0) = m ((c.tc : Thread Cert.SwishFwdIdeal.nD Cert.SwishFwdIdeal.τ).loc Cert.SwishFwdIdeal.main_arg0)
      ∧ r.2.mem ((c.tc : Thread Cert.SwishFwdIdeal.nD Cert.SwishFwdIdeal.τ).loc Cert.SwishFwdIdeal.main_arg1) = m ((c.tc : Thread Cert.SwishFwdIdeal.nD Cert.SwishFwdIdeal.τ).loc Cert.SwishFwdIdeal.main_arg1)
      ∧ r.2.mem ((c.tc : Thread Cert.SwishFwdIdeal.nD Cert.SwishFwdIdeal.τ).loc Cert.SwishFwdIdeal.main_arg2) = m ((c.tc : Thread Cert.SwishFwdIdeal.nD Cert.SwishFwdIdeal.τ).loc Cert.SwishFwdIdeal.main_arg2))
      ∧ r.2.sem = fun _ => 0)

def quiescent_SwishFwdRefIdeal [hSwishFwdRefIdeal : Cert.SwishFwdRefIdeal.Facts] : Prop :=
  ∀ (m : (ℓ : Loc Cert.SwishFwdRefIdeal.nD Cert.SwishFwdRefIdeal.τ Cert.SwishFwdRefIdeal.sig) → Buf (Elt Ideal) ℓ) (g : Dev Cert.SwishFwdRefIdeal.nD → PrngReg), Pre_SwishFwdRefIdeal m →
    θ_run (Cert.SwishFwdRefIdeal.defs (F := Ideal)) (onTc (τ := Cert.SwishFwdRefIdeal.τ) (Cert.SwishFwdRefIdeal.main (F := Ideal))) ⟨m, fun _ => 0, g⟩ (fun r => (∀ c : Dev Cert.SwishFwdRefIdeal.nD,
      r.2.mem ((c.tc : Thread Cert.SwishFwdRefIdeal.nD Cert.SwishFwdRefIdeal.τ).loc Cert.SwishFwdRefIdeal.main_arg0) = m ((c.tc : Thread Cert.SwishFwdRefIdeal.nD Cert.SwishFwdRefIdeal.τ).loc Cert.SwishFwdRefIdeal.main_arg0)
      ∧ r.2.mem ((c.tc : Thread Cert.SwishFwdRefIdeal.nD Cert.SwishFwdRefIdeal.τ).loc Cert.SwishFwdRefIdeal.main_arg1) = m ((c.tc : Thread Cert.SwishFwdRefIdeal.nD Cert.SwishFwdRefIdeal.τ).loc Cert.SwishFwdRefIdeal.main_arg1)
      ∧ r.2.mem ((c.tc : Thread Cert.SwishFwdRefIdeal.nD Cert.SwishFwdRefIdeal.τ).loc Cert.SwishFwdRefIdeal.main_arg2) = m ((c.tc : Thread Cert.SwishFwdRefIdeal.nD Cert.SwishFwdRefIdeal.τ).loc Cert.SwishFwdRefIdeal.main_arg2))
      ∧ r.2.sem = fun _ => 0)

def quiescent_NormFirstFwd [hNormFirstFwd : Cert.NormFirstFwd.Facts] : Prop :=
  ∀ (m : (ℓ : Loc Cert.NormFirstFwd.nD Cert.NormFirstFwd.τ Cert.NormFirstFwd.sig) → Buf (Elt Bits) ℓ) (g : Dev Cert.NormFirstFwd.nD → PrngReg), Pre_NormFirstFwd m →
    θ_run (Cert.NormFirstFwd.defs (F := Bits)) (onTc (τ := Cert.NormFirstFwd.τ) (Cert.NormFirstFwd.main (F := Bits))) ⟨m, fun _ => 0, g⟩ (fun r => (∀ c : Dev Cert.NormFirstFwd.nD,
      r.2.mem ((c.tc : Thread Cert.NormFirstFwd.nD Cert.NormFirstFwd.τ).loc Cert.NormFirstFwd.main_arg0) = m ((c.tc : Thread Cert.NormFirstFwd.nD Cert.NormFirstFwd.τ).loc Cert.NormFirstFwd.main_arg0)
      ∧ r.2.mem ((c.tc : Thread Cert.NormFirstFwd.nD Cert.NormFirstFwd.τ).loc Cert.NormFirstFwd.main_arg1) = m ((c.tc : Thread Cert.NormFirstFwd.nD Cert.NormFirstFwd.τ).loc Cert.NormFirstFwd.main_arg1))
      ∧ r.2.sem = fun _ => 0)

def quiescent_NormFirstFwdIdeal [hNormFirstFwdIdeal : Cert.NormFirstFwdIdeal.Facts] : Prop :=
  ∀ (m : (ℓ : Loc Cert.NormFirstFwdIdeal.nD Cert.NormFirstFwdIdeal.τ Cert.NormFirstFwdIdeal.sig) → Buf (Elt Ideal) ℓ) (g : Dev Cert.NormFirstFwdIdeal.nD → PrngReg), Pre_NormFirstFwdIdeal m →
    θ_run (Cert.NormFirstFwdIdeal.defs (F := Ideal)) (onTc (τ := Cert.NormFirstFwdIdeal.τ) (Cert.NormFirstFwdIdeal.main (F := Ideal))) ⟨m, fun _ => 0, g⟩ (fun r => (∀ c : Dev Cert.NormFirstFwdIdeal.nD,
      r.2.mem ((c.tc : Thread Cert.NormFirstFwdIdeal.nD Cert.NormFirstFwdIdeal.τ).loc Cert.NormFirstFwdIdeal.main_arg0) = m ((c.tc : Thread Cert.NormFirstFwdIdeal.nD Cert.NormFirstFwdIdeal.τ).loc Cert.NormFirstFwdIdeal.main_arg0)
      ∧ r.2.mem ((c.tc : Thread Cert.NormFirstFwdIdeal.nD Cert.NormFirstFwdIdeal.τ).loc Cert.NormFirstFwdIdeal.main_arg1) = m ((c.tc : Thread Cert.NormFirstFwdIdeal.nD Cert.NormFirstFwdIdeal.τ).loc Cert.NormFirstFwdIdeal.main_arg1))
      ∧ r.2.sem = fun _ => 0)

def quiescent_NormFirstFwdRefIdeal [hNormFirstFwdRefIdeal : Cert.NormFirstFwdRefIdeal.Facts] : Prop :=
  ∀ (m : (ℓ : Loc Cert.NormFirstFwdRefIdeal.nD Cert.NormFirstFwdRefIdeal.τ Cert.NormFirstFwdRefIdeal.sig) → Buf (Elt Ideal) ℓ) (g : Dev Cert.NormFirstFwdRefIdeal.nD → PrngReg), Pre_NormFirstFwdRefIdeal m →
    θ_run (Cert.NormFirstFwdRefIdeal.defs (F := Ideal)) (onTc (τ := Cert.NormFirstFwdRefIdeal.τ) (Cert.NormFirstFwdRefIdeal.main (F := Ideal))) ⟨m, fun _ => 0, g⟩ (fun r => (∀ c : Dev Cert.NormFirstFwdRefIdeal.nD,
      r.2.mem ((c.tc : Thread Cert.NormFirstFwdRefIdeal.nD Cert.NormFirstFwdRefIdeal.τ).loc Cert.NormFirstFwdRefIdeal.main_arg0) = m ((c.tc : Thread Cert.NormFirstFwdRefIdeal.nD Cert.NormFirstFwdRefIdeal.τ).loc Cert.NormFirstFwdRefIdeal.main_arg0)
      ∧ r.2.mem ((c.tc : Thread Cert.NormFirstFwdRefIdeal.nD Cert.NormFirstFwdRefIdeal.τ).loc Cert.NormFirstFwdRefIdeal.main_arg1) = m ((c.tc : Thread Cert.NormFirstFwdRefIdeal.nD Cert.NormFirstFwdRefIdeal.τ).loc Cert.NormFirstFwdRefIdeal.main_arg1))
      ∧ r.2.sem = fun _ => 0)

def quiescent_NormMemFwd [hNormMemFwd : Cert.NormMemFwd.Facts] : Prop :=
  ∀ (m : (ℓ : Loc Cert.NormMemFwd.nD Cert.NormMemFwd.τ Cert.NormMemFwd.sig) → Buf (Elt Bits) ℓ) (g : Dev Cert.NormMemFwd.nD → PrngReg), Pre_NormMemFwd m →
    θ_run (Cert.NormMemFwd.defs (F := Bits)) (onTc (τ := Cert.NormMemFwd.τ) (Cert.NormMemFwd.main (F := Bits))) ⟨m, fun _ => 0, g⟩ (fun r => (∀ c : Dev Cert.NormMemFwd.nD,
      r.2.mem ((c.tc : Thread Cert.NormMemFwd.nD Cert.NormMemFwd.τ).loc Cert.NormMemFwd.main_arg0) = m ((c.tc : Thread Cert.NormMemFwd.nD Cert.NormMemFwd.τ).loc Cert.NormMemFwd.main_arg0)
      ∧ r.2.mem ((c.tc : Thread Cert.NormMemFwd.nD Cert.NormMemFwd.τ).loc Cert.NormMemFwd.main_arg1) = m ((c.tc : Thread Cert.NormMemFwd.nD Cert.NormMemFwd.τ).loc Cert.NormMemFwd.main_arg1))
      ∧ r.2.sem = fun _ => 0)

def quiescent_NormMemFwdIdeal [hNormMemFwdIdeal : Cert.NormMemFwdIdeal.Facts] : Prop :=
  ∀ (m : (ℓ : Loc Cert.NormMemFwdIdeal.nD Cert.NormMemFwdIdeal.τ Cert.NormMemFwdIdeal.sig) → Buf (Elt Ideal) ℓ) (g : Dev Cert.NormMemFwdIdeal.nD → PrngReg), Pre_NormMemFwdIdeal m →
    θ_run (Cert.NormMemFwdIdeal.defs (F := Ideal)) (onTc (τ := Cert.NormMemFwdIdeal.τ) (Cert.NormMemFwdIdeal.main (F := Ideal))) ⟨m, fun _ => 0, g⟩ (fun r => (∀ c : Dev Cert.NormMemFwdIdeal.nD,
      r.2.mem ((c.tc : Thread Cert.NormMemFwdIdeal.nD Cert.NormMemFwdIdeal.τ).loc Cert.NormMemFwdIdeal.main_arg0) = m ((c.tc : Thread Cert.NormMemFwdIdeal.nD Cert.NormMemFwdIdeal.τ).loc Cert.NormMemFwdIdeal.main_arg0)
      ∧ r.2.mem ((c.tc : Thread Cert.NormMemFwdIdeal.nD Cert.NormMemFwdIdeal.τ).loc Cert.NormMemFwdIdeal.main_arg1) = m ((c.tc : Thread Cert.NormMemFwdIdeal.nD Cert.NormMemFwdIdeal.τ).loc Cert.NormMemFwdIdeal.main_arg1))
      ∧ r.2.sem = fun _ => 0)

def quiescent_NormMemFwdRefIdeal [hNormMemFwdRefIdeal : Cert.NormMemFwdRefIdeal.Facts] : Prop :=
  ∀ (m : (ℓ : Loc Cert.NormMemFwdRefIdeal.nD Cert.NormMemFwdRefIdeal.τ Cert.NormMemFwdRefIdeal.sig) → Buf (Elt Ideal) ℓ) (g : Dev Cert.NormMemFwdRefIdeal.nD → PrngReg), Pre_NormMemFwdRefIdeal m →
    θ_run (Cert.NormMemFwdRefIdeal.defs (F := Ideal)) (onTc (τ := Cert.NormMemFwdRefIdeal.τ) (Cert.NormMemFwdRefIdeal.main (F := Ideal))) ⟨m, fun _ => 0, g⟩ (fun r => (∀ c : Dev Cert.NormMemFwdRefIdeal.nD,
      r.2.mem ((c.tc : Thread Cert.NormMemFwdRefIdeal.nD Cert.NormMemFwdRefIdeal.τ).loc Cert.NormMemFwdRefIdeal.main_arg0) = m ((c.tc : Thread Cert.NormMemFwdRefIdeal.nD Cert.NormMemFwdRefIdeal.τ).loc Cert.NormMemFwdRefIdeal.main_arg0)
      ∧ r.2.mem ((c.tc : Thread Cert.NormMemFwdRefIdeal.nD Cert.NormMemFwdRefIdeal.τ).loc Cert.NormMemFwdRefIdeal.main_arg1) = m ((c.tc : Thread Cert.NormMemFwdRefIdeal.nD Cert.NormMemFwdRefIdeal.τ).loc Cert.NormMemFwdRefIdeal.main_arg1))
      ∧ r.2.sem = fun _ => 0)

def quiescent_NormMidFwd [hNormMidFwd : Cert.NormMidFwd.Facts] : Prop :=
  ∀ (m : (ℓ : Loc Cert.NormMidFwd.nD Cert.NormMidFwd.τ Cert.NormMidFwd.sig) → Buf (Elt Bits) ℓ) (g : Dev Cert.NormMidFwd.nD → PrngReg), Pre_NormMidFwd m →
    θ_run (Cert.NormMidFwd.defs (F := Bits)) (onTc (τ := Cert.NormMidFwd.τ) (Cert.NormMidFwd.main (F := Bits))) ⟨m, fun _ => 0, g⟩ (fun r => (∀ c : Dev Cert.NormMidFwd.nD,
      r.2.mem ((c.tc : Thread Cert.NormMidFwd.nD Cert.NormMidFwd.τ).loc Cert.NormMidFwd.main_arg0) = m ((c.tc : Thread Cert.NormMidFwd.nD Cert.NormMidFwd.τ).loc Cert.NormMidFwd.main_arg0)
      ∧ r.2.mem ((c.tc : Thread Cert.NormMidFwd.nD Cert.NormMidFwd.τ).loc Cert.NormMidFwd.main_arg1) = m ((c.tc : Thread Cert.NormMidFwd.nD Cert.NormMidFwd.τ).loc Cert.NormMidFwd.main_arg1)
      ∧ r.2.mem ((c.tc : Thread Cert.NormMidFwd.nD Cert.NormMidFwd.τ).loc Cert.NormMidFwd.main_arg2) = m ((c.tc : Thread Cert.NormMidFwd.nD Cert.NormMidFwd.τ).loc Cert.NormMidFwd.main_arg2)
      ∧ r.2.mem ((c.tc : Thread Cert.NormMidFwd.nD Cert.NormMidFwd.τ).loc Cert.NormMidFwd.main_arg3) = m ((c.tc : Thread Cert.NormMidFwd.nD Cert.NormMidFwd.τ).loc Cert.NormMidFwd.main_arg3))
      ∧ r.2.sem = fun _ => 0)

def quiescent_NormMidFwdIdeal [hNormMidFwdIdeal : Cert.NormMidFwdIdeal.Facts] : Prop :=
  ∀ (m : (ℓ : Loc Cert.NormMidFwdIdeal.nD Cert.NormMidFwdIdeal.τ Cert.NormMidFwdIdeal.sig) → Buf (Elt Ideal) ℓ) (g : Dev Cert.NormMidFwdIdeal.nD → PrngReg), Pre_NormMidFwdIdeal m →
    θ_run (Cert.NormMidFwdIdeal.defs (F := Ideal)) (onTc (τ := Cert.NormMidFwdIdeal.τ) (Cert.NormMidFwdIdeal.main (F := Ideal))) ⟨m, fun _ => 0, g⟩ (fun r => (∀ c : Dev Cert.NormMidFwdIdeal.nD,
      r.2.mem ((c.tc : Thread Cert.NormMidFwdIdeal.nD Cert.NormMidFwdIdeal.τ).loc Cert.NormMidFwdIdeal.main_arg0) = m ((c.tc : Thread Cert.NormMidFwdIdeal.nD Cert.NormMidFwdIdeal.τ).loc Cert.NormMidFwdIdeal.main_arg0)
      ∧ r.2.mem ((c.tc : Thread Cert.NormMidFwdIdeal.nD Cert.NormMidFwdIdeal.τ).loc Cert.NormMidFwdIdeal.main_arg1) = m ((c.tc : Thread Cert.NormMidFwdIdeal.nD Cert.NormMidFwdIdeal.τ).loc Cert.NormMidFwdIdeal.main_arg1)
      ∧ r.2.mem ((c.tc : Thread Cert.NormMidFwdIdeal.nD Cert.NormMidFwdIdeal.τ).loc Cert.NormMidFwdIdeal.main_arg2) = m ((c.tc : Thread Cert.NormMidFwdIdeal.nD Cert.NormMidFwdIdeal.τ).loc Cert.NormMidFwdIdeal.main_arg2)
      ∧ r.2.mem ((c.tc : Thread Cert.NormMidFwdIdeal.nD Cert.NormMidFwdIdeal.τ).loc Cert.NormMidFwdIdeal.main_arg3) = m ((c.tc : Thread Cert.NormMidFwdIdeal.nD Cert.NormMidFwdIdeal.τ).loc Cert.NormMidFwdIdeal.main_arg3))
      ∧ r.2.sem = fun _ => 0)

def quiescent_NormMidFwdRefIdeal [hNormMidFwdRefIdeal : Cert.NormMidFwdRefIdeal.Facts] : Prop :=
  ∀ (m : (ℓ : Loc Cert.NormMidFwdRefIdeal.nD Cert.NormMidFwdRefIdeal.τ Cert.NormMidFwdRefIdeal.sig) → Buf (Elt Ideal) ℓ) (g : Dev Cert.NormMidFwdRefIdeal.nD → PrngReg), Pre_NormMidFwdRefIdeal m →
    θ_run (Cert.NormMidFwdRefIdeal.defs (F := Ideal)) (onTc (τ := Cert.NormMidFwdRefIdeal.τ) (Cert.NormMidFwdRefIdeal.main (F := Ideal))) ⟨m, fun _ => 0, g⟩ (fun r => (∀ c : Dev Cert.NormMidFwdRefIdeal.nD,
      r.2.mem ((c.tc : Thread Cert.NormMidFwdRefIdeal.nD Cert.NormMidFwdRefIdeal.τ).loc Cert.NormMidFwdRefIdeal.main_arg0) = m ((c.tc : Thread Cert.NormMidFwdRefIdeal.nD Cert.NormMidFwdRefIdeal.τ).loc Cert.NormMidFwdRefIdeal.main_arg0)
      ∧ r.2.mem ((c.tc : Thread Cert.NormMidFwdRefIdeal.nD Cert.NormMidFwdRefIdeal.τ).loc Cert.NormMidFwdRefIdeal.main_arg1) = m ((c.tc : Thread Cert.NormMidFwdRefIdeal.nD Cert.NormMidFwdRefIdeal.τ).loc Cert.NormMidFwdRefIdeal.main_arg1)
      ∧ r.2.mem ((c.tc : Thread Cert.NormMidFwdRefIdeal.nD Cert.NormMidFwdRefIdeal.τ).loc Cert.NormMidFwdRefIdeal.main_arg2) = m ((c.tc : Thread Cert.NormMidFwdRefIdeal.nD Cert.NormMidFwdRefIdeal.τ).loc Cert.NormMidFwdRefIdeal.main_arg2)
      ∧ r.2.mem ((c.tc : Thread Cert.NormMidFwdRefIdeal.nD Cert.NormMidFwdRefIdeal.τ).loc Cert.NormMidFwdRefIdeal.main_arg3) = m ((c.tc : Thread Cert.NormMidFwdRefIdeal.nD Cert.NormMidFwdRefIdeal.τ).loc Cert.NormMidFwdRefIdeal.main_arg3))
      ∧ r.2.sem = fun _ => 0)

def quiescent_NormLastFwd [hNormLastFwd : Cert.NormLastFwd.Facts] : Prop :=
  ∀ (m : (ℓ : Loc Cert.NormLastFwd.nD Cert.NormLastFwd.τ Cert.NormLastFwd.sig) → Buf (Elt Bits) ℓ) (g : Dev Cert.NormLastFwd.nD → PrngReg), Pre_NormLastFwd m →
    θ_run (Cert.NormLastFwd.defs (F := Bits)) (onTc (τ := Cert.NormLastFwd.τ) (Cert.NormLastFwd.main (F := Bits))) ⟨m, fun _ => 0, g⟩ (fun r => (∀ c : Dev Cert.NormLastFwd.nD,
      r.2.mem ((c.tc : Thread Cert.NormLastFwd.nD Cert.NormLastFwd.τ).loc Cert.NormLastFwd.main_arg0) = m ((c.tc : Thread Cert.NormLastFwd.nD Cert.NormLastFwd.τ).loc Cert.NormLastFwd.main_arg0)
      ∧ r.2.mem ((c.tc : Thread Cert.NormLastFwd.nD Cert.NormLastFwd.τ).loc Cert.NormLastFwd.main_arg1) = m ((c.tc : Thread Cert.NormLastFwd.nD Cert.NormLastFwd.τ).loc Cert.NormLastFwd.main_arg1)
      ∧ r.2.mem ((c.tc : Thread Cert.NormLastFwd.nD Cert.NormLastFwd.τ).loc Cert.NormLastFwd.main_arg2) = m ((c.tc : Thread Cert.NormLastFwd.nD Cert.NormLastFwd.τ).loc Cert.NormLastFwd.main_arg2))
      ∧ r.2.sem = fun _ => 0)

def quiescent_NormLastFwdIdeal [hNormLastFwdIdeal : Cert.NormLastFwdIdeal.Facts] : Prop :=
  ∀ (m : (ℓ : Loc Cert.NormLastFwdIdeal.nD Cert.NormLastFwdIdeal.τ Cert.NormLastFwdIdeal.sig) → Buf (Elt Ideal) ℓ) (g : Dev Cert.NormLastFwdIdeal.nD → PrngReg), Pre_NormLastFwdIdeal m →
    θ_run (Cert.NormLastFwdIdeal.defs (F := Ideal)) (onTc (τ := Cert.NormLastFwdIdeal.τ) (Cert.NormLastFwdIdeal.main (F := Ideal))) ⟨m, fun _ => 0, g⟩ (fun r => (∀ c : Dev Cert.NormLastFwdIdeal.nD,
      r.2.mem ((c.tc : Thread Cert.NormLastFwdIdeal.nD Cert.NormLastFwdIdeal.τ).loc Cert.NormLastFwdIdeal.main_arg0) = m ((c.tc : Thread Cert.NormLastFwdIdeal.nD Cert.NormLastFwdIdeal.τ).loc Cert.NormLastFwdIdeal.main_arg0)
      ∧ r.2.mem ((c.tc : Thread Cert.NormLastFwdIdeal.nD Cert.NormLastFwdIdeal.τ).loc Cert.NormLastFwdIdeal.main_arg1) = m ((c.tc : Thread Cert.NormLastFwdIdeal.nD Cert.NormLastFwdIdeal.τ).loc Cert.NormLastFwdIdeal.main_arg1)
      ∧ r.2.mem ((c.tc : Thread Cert.NormLastFwdIdeal.nD Cert.NormLastFwdIdeal.τ).loc Cert.NormLastFwdIdeal.main_arg2) = m ((c.tc : Thread Cert.NormLastFwdIdeal.nD Cert.NormLastFwdIdeal.τ).loc Cert.NormLastFwdIdeal.main_arg2))
      ∧ r.2.sem = fun _ => 0)

def quiescent_NormLastFwdRefIdeal [hNormLastFwdRefIdeal : Cert.NormLastFwdRefIdeal.Facts] : Prop :=
  ∀ (m : (ℓ : Loc Cert.NormLastFwdRefIdeal.nD Cert.NormLastFwdRefIdeal.τ Cert.NormLastFwdRefIdeal.sig) → Buf (Elt Ideal) ℓ) (g : Dev Cert.NormLastFwdRefIdeal.nD → PrngReg), Pre_NormLastFwdRefIdeal m →
    θ_run (Cert.NormLastFwdRefIdeal.defs (F := Ideal)) (onTc (τ := Cert.NormLastFwdRefIdeal.τ) (Cert.NormLastFwdRefIdeal.main (F := Ideal))) ⟨m, fun _ => 0, g⟩ (fun r => (∀ c : Dev Cert.NormLastFwdRefIdeal.nD,
      r.2.mem ((c.tc : Thread Cert.NormLastFwdRefIdeal.nD Cert.NormLastFwdRefIdeal.τ).loc Cert.NormLastFwdRefIdeal.main_arg0) = m ((c.tc : Thread Cert.NormLastFwdRefIdeal.nD Cert.NormLastFwdRefIdeal.τ).loc Cert.NormLastFwdRefIdeal.main_arg0)
      ∧ r.2.mem ((c.tc : Thread Cert.NormLastFwdRefIdeal.nD Cert.NormLastFwdRefIdeal.τ).loc Cert.NormLastFwdRefIdeal.main_arg1) = m ((c.tc : Thread Cert.NormLastFwdRefIdeal.nD Cert.NormLastFwdRefIdeal.τ).loc Cert.NormLastFwdRefIdeal.main_arg1)
      ∧ r.2.mem ((c.tc : Thread Cert.NormLastFwdRefIdeal.nD Cert.NormLastFwdRefIdeal.τ).loc Cert.NormLastFwdRefIdeal.main_arg2) = m ((c.tc : Thread Cert.NormLastFwdRefIdeal.nD Cert.NormLastFwdRefIdeal.τ).loc Cert.NormLastFwdRefIdeal.main_arg2))
      ∧ r.2.sem = fun _ => 0)

def quiescent_UpFwd [hUpFwd : Cert.UpFwd.Facts] : Prop :=
  ∀ (m : (ℓ : Loc Cert.UpFwd.nD Cert.UpFwd.τ Cert.UpFwd.sig) → Buf (Elt Bits) ℓ) (g : Dev Cert.UpFwd.nD → PrngReg), Pre_UpFwd m →
    θ_run (Cert.UpFwd.defs (F := Bits)) (onTc (τ := Cert.UpFwd.τ) (Cert.UpFwd.main (F := Bits))) ⟨m, fun _ => 0, g⟩ (fun r => (∀ c : Dev Cert.UpFwd.nD,
      r.2.mem ((c.tc : Thread Cert.UpFwd.nD Cert.UpFwd.τ).loc Cert.UpFwd.main_arg0) = m ((c.tc : Thread Cert.UpFwd.nD Cert.UpFwd.τ).loc Cert.UpFwd.main_arg0)
      ∧ r.2.mem ((c.tc : Thread Cert.UpFwd.nD Cert.UpFwd.τ).loc Cert.UpFwd.main_arg1) = m ((c.tc : Thread Cert.UpFwd.nD Cert.UpFwd.τ).loc Cert.UpFwd.main_arg1))
      ∧ r.2.sem = fun _ => 0)

def quiescent_UpFwdIdeal [hUpFwdIdeal : Cert.UpFwdIdeal.Facts] : Prop :=
  ∀ (m : (ℓ : Loc Cert.UpFwdIdeal.nD Cert.UpFwdIdeal.τ Cert.UpFwdIdeal.sig) → Buf (Elt Ideal) ℓ) (g : Dev Cert.UpFwdIdeal.nD → PrngReg), Pre_UpFwdIdeal m →
    θ_run (Cert.UpFwdIdeal.defs (F := Ideal)) (onTc (τ := Cert.UpFwdIdeal.τ) (Cert.UpFwdIdeal.main (F := Ideal))) ⟨m, fun _ => 0, g⟩ (fun r => (∀ c : Dev Cert.UpFwdIdeal.nD,
      r.2.mem ((c.tc : Thread Cert.UpFwdIdeal.nD Cert.UpFwdIdeal.τ).loc Cert.UpFwdIdeal.main_arg0) = m ((c.tc : Thread Cert.UpFwdIdeal.nD Cert.UpFwdIdeal.τ).loc Cert.UpFwdIdeal.main_arg0)
      ∧ r.2.mem ((c.tc : Thread Cert.UpFwdIdeal.nD Cert.UpFwdIdeal.τ).loc Cert.UpFwdIdeal.main_arg1) = m ((c.tc : Thread Cert.UpFwdIdeal.nD Cert.UpFwdIdeal.τ).loc Cert.UpFwdIdeal.main_arg1))
      ∧ r.2.sem = fun _ => 0)

def quiescent_UpFwdRefIdeal [hUpFwdRefIdeal : Cert.UpFwdRefIdeal.Facts] : Prop :=
  ∀ (m : (ℓ : Loc Cert.UpFwdRefIdeal.nD Cert.UpFwdRefIdeal.τ Cert.UpFwdRefIdeal.sig) → Buf (Elt Ideal) ℓ) (g : Dev Cert.UpFwdRefIdeal.nD → PrngReg), Pre_UpFwdRefIdeal m →
    θ_run (Cert.UpFwdRefIdeal.defs (F := Ideal)) (onTc (τ := Cert.UpFwdRefIdeal.τ) (Cert.UpFwdRefIdeal.main (F := Ideal))) ⟨m, fun _ => 0, g⟩ (fun r => (∀ c : Dev Cert.UpFwdRefIdeal.nD,
      r.2.mem ((c.tc : Thread Cert.UpFwdRefIdeal.nD Cert.UpFwdRefIdeal.τ).loc Cert.UpFwdRefIdeal.main_arg0) = m ((c.tc : Thread Cert.UpFwdRefIdeal.nD Cert.UpFwdRefIdeal.τ).loc Cert.UpFwdRefIdeal.main_arg0)
      ∧ r.2.mem ((c.tc : Thread Cert.UpFwdRefIdeal.nD Cert.UpFwdRefIdeal.τ).loc Cert.UpFwdRefIdeal.main_arg1) = m ((c.tc : Thread Cert.UpFwdRefIdeal.nD Cert.UpFwdRefIdeal.τ).loc Cert.UpFwdRefIdeal.main_arg1))
      ∧ r.2.sem = fun _ => 0)

def quiescent_DownFwd [hDownFwd : Cert.DownFwd.Facts] : Prop :=
  ∀ (m : (ℓ : Loc Cert.DownFwd.nD Cert.DownFwd.τ Cert.DownFwd.sig) → Buf (Elt Bits) ℓ) (g : Dev Cert.DownFwd.nD → PrngReg), Pre_DownFwd m →
    θ_run (Cert.DownFwd.defs (F := Bits)) (onTc (τ := Cert.DownFwd.τ) (Cert.DownFwd.main (F := Bits))) ⟨m, fun _ => 0, g⟩ (fun r => (∀ c : Dev Cert.DownFwd.nD,
      r.2.mem ((c.tc : Thread Cert.DownFwd.nD Cert.DownFwd.τ).loc Cert.DownFwd.main_arg0) = m ((c.tc : Thread Cert.DownFwd.nD Cert.DownFwd.τ).loc Cert.DownFwd.main_arg0)
      ∧ r.2.mem ((c.tc : Thread Cert.DownFwd.nD Cert.DownFwd.τ).loc Cert.DownFwd.main_arg1) = m ((c.tc : Thread Cert.DownFwd.nD Cert.DownFwd.τ).loc Cert.DownFwd.main_arg1))
      ∧ r.2.sem = fun _ => 0)

def quiescent_DownFwdIdeal [hDownFwdIdeal : Cert.DownFwdIdeal.Facts] : Prop :=
  ∀ (m : (ℓ : Loc Cert.DownFwdIdeal.nD Cert.DownFwdIdeal.τ Cert.DownFwdIdeal.sig) → Buf (Elt Ideal) ℓ) (g : Dev Cert.DownFwdIdeal.nD → PrngReg), Pre_DownFwdIdeal m →
    θ_run (Cert.DownFwdIdeal.defs (F := Ideal)) (onTc (τ := Cert.DownFwdIdeal.τ) (Cert.DownFwdIdeal.main (F := Ideal))) ⟨m, fun _ => 0, g⟩ (fun r => (∀ c : Dev Cert.DownFwdIdeal.nD,
      r.2.mem ((c.tc : Thread Cert.DownFwdIdeal.nD Cert.DownFwdIdeal.τ).loc Cert.DownFwdIdeal.main_arg0) = m ((c.tc : Thread Cert.DownFwdIdeal.nD Cert.DownFwdIdeal.τ).loc Cert.DownFwdIdeal.main_arg0)
      ∧ r.2.mem ((c.tc : Thread Cert.DownFwdIdeal.nD Cert.DownFwdIdeal.τ).loc Cert.DownFwdIdeal.main_arg1) = m ((c.tc : Thread Cert.DownFwdIdeal.nD Cert.DownFwdIdeal.τ).loc Cert.DownFwdIdeal.main_arg1))
      ∧ r.2.sem = fun _ => 0)

def quiescent_DownFwdRefIdeal [hDownFwdRefIdeal : Cert.DownFwdRefIdeal.Facts] : Prop :=
  ∀ (m : (ℓ : Loc Cert.DownFwdRefIdeal.nD Cert.DownFwdRefIdeal.τ Cert.DownFwdRefIdeal.sig) → Buf (Elt Ideal) ℓ) (g : Dev Cert.DownFwdRefIdeal.nD → PrngReg), Pre_DownFwdRefIdeal m →
    θ_run (Cert.DownFwdRefIdeal.defs (F := Ideal)) (onTc (τ := Cert.DownFwdRefIdeal.τ) (Cert.DownFwdRefIdeal.main (F := Ideal))) ⟨m, fun _ => 0, g⟩ (fun r => (∀ c : Dev Cert.DownFwdRefIdeal.nD,
      r.2.mem ((c.tc : Thread Cert.DownFwdRefIdeal.nD Cert.DownFwdRefIdeal.τ).loc Cert.DownFwdRefIdeal.main_arg0) = m ((c.tc : Thread Cert.DownFwdRefIdeal.nD Cert.DownFwdRefIdeal.τ).loc Cert.DownFwdRefIdeal.main_arg0)
      ∧ r.2.mem ((c.tc : Thread Cert.DownFwdRefIdeal.nD Cert.DownFwdRefIdeal.τ).loc Cert.DownFwdRefIdeal.main_arg1) = m ((c.tc : Thread Cert.DownFwdRefIdeal.nD Cert.DownFwdRefIdeal.τ).loc Cert.DownFwdRefIdeal.main_arg1))
      ∧ r.2.sem = fun _ => 0)

def quiescent_InFwd [hInFwd : Cert.InFwd.Facts] : Prop :=
  ∀ (m : (ℓ : Loc Cert.InFwd.nD Cert.InFwd.τ Cert.InFwd.sig) → Buf (Elt Bits) ℓ) (g : Dev Cert.InFwd.nD → PrngReg), Pre_InFwd m →
    θ_run (Cert.InFwd.defs (F := Bits)) (onTc (τ := Cert.InFwd.τ) (Cert.InFwd.main (F := Bits))) ⟨m, fun _ => 0, g⟩ (fun r => (∀ c : Dev Cert.InFwd.nD,
      r.2.mem ((c.tc : Thread Cert.InFwd.nD Cert.InFwd.τ).loc Cert.InFwd.main_arg0) = m ((c.tc : Thread Cert.InFwd.nD Cert.InFwd.τ).loc Cert.InFwd.main_arg0)
      ∧ r.2.mem ((c.tc : Thread Cert.InFwd.nD Cert.InFwd.τ).loc Cert.InFwd.main_arg1) = m ((c.tc : Thread Cert.InFwd.nD Cert.InFwd.τ).loc Cert.InFwd.main_arg1))
      ∧ r.2.sem = fun _ => 0)

def quiescent_InFwdIdeal [hInFwdIdeal : Cert.InFwdIdeal.Facts] : Prop :=
  ∀ (m : (ℓ : Loc Cert.InFwdIdeal.nD Cert.InFwdIdeal.τ Cert.InFwdIdeal.sig) → Buf (Elt Ideal) ℓ) (g : Dev Cert.InFwdIdeal.nD → PrngReg), Pre_InFwdIdeal m →
    θ_run (Cert.InFwdIdeal.defs (F := Ideal)) (onTc (τ := Cert.InFwdIdeal.τ) (Cert.InFwdIdeal.main (F := Ideal))) ⟨m, fun _ => 0, g⟩ (fun r => (∀ c : Dev Cert.InFwdIdeal.nD,
      r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
      ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1))
      ∧ r.2.sem = fun _ => 0)

def quiescent_InFwdRefIdeal [hInFwdRefIdeal : Cert.InFwdRefIdeal.Facts] : Prop :=
  ∀ (m : (ℓ : Loc Cert.InFwdRefIdeal.nD Cert.InFwdRefIdeal.τ Cert.InFwdRefIdeal.sig) → Buf (Elt Ideal) ℓ) (g : Dev Cert.InFwdRefIdeal.nD → PrngReg), Pre_InFwdRefIdeal m →
    θ_run (Cert.InFwdRefIdeal.defs (F := Ideal)) (onTc (τ := Cert.InFwdRefIdeal.τ) (Cert.InFwdRefIdeal.main (F := Ideal))) ⟨m, fun _ => 0, g⟩ (fun r => (∀ c : Dev Cert.InFwdRefIdeal.nD,
      r.2.mem ((c.tc : Thread Cert.InFwdRefIdeal.nD Cert.InFwdRefIdeal.τ).loc Cert.InFwdRefIdeal.main_arg0) = m ((c.tc : Thread Cert.InFwdRefIdeal.nD Cert.InFwdRefIdeal.τ).loc Cert.InFwdRefIdeal.main_arg0)
      ∧ r.2.mem ((c.tc : Thread Cert.InFwdRefIdeal.nD Cert.InFwdRefIdeal.τ).loc Cert.InFwdRefIdeal.main_arg1) = m ((c.tc : Thread Cert.InFwdRefIdeal.nD Cert.InFwdRefIdeal.τ).loc Cert.InFwdRefIdeal.main_arg1))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ r.2.sem = fun _ => 0)

def quiescent_OutDxRefIdeal [hOutDxRefIdeal : Cert.OutDxRefIdeal.Facts] : Prop :=
  ∀ (m : (ℓ : Loc Cert.OutDxRefIdeal.nD Cert.OutDxRefIdeal.τ Cert.OutDxRefIdeal.sig) → Buf (Elt Ideal) ℓ) (g : Dev Cert.OutDxRefIdeal.nD → PrngReg), Pre_OutDxRefIdeal m →
    θ_run (Cert.OutDxRefIdeal.defs (F := Ideal)) (onTc (τ := Cert.OutDxRefIdeal.τ) (Cert.OutDxRefIdeal.main (F := Ideal))) ⟨m, fun _ => 0, g⟩ (fun r => (∀ c : Dev Cert.OutDxRefIdeal.nD,
      r.2.mem ((c.tc : Thread Cert.OutDxRefIdeal.nD Cert.OutDxRefIdeal.τ).loc Cert.OutDxRefIdeal.main_arg0) = m ((c.tc : Thread Cert.OutDxRefIdeal.nD Cert.OutDxRefIdeal.τ).loc Cert.OutDxRefIdeal.main_arg0)
      ∧ r.2.mem ((c.tc : Thread Cert.OutDxRefIdeal.nD Cert.OutDxRefIdeal.τ).loc Cert.OutDxRefIdeal.main_arg1) = m ((c.tc : Thread Cert.OutDxRefIdeal.nD Cert.OutDxRefIdeal.τ).loc Cert.OutDxRefIdeal.main_arg1))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ r.2.sem = fun _ => 0)

def quiescent_UpDxRefIdeal [hUpDxRefIdeal : Cert.UpDxRefIdeal.Facts] : Prop :=
  ∀ (m : (ℓ : Loc Cert.UpDxRefIdeal.nD Cert.UpDxRefIdeal.τ Cert.UpDxRefIdeal.sig) → Buf (Elt Ideal) ℓ) (g : Dev Cert.UpDxRefIdeal.nD → PrngReg), Pre_UpDxRefIdeal m →
    θ_run (Cert.UpDxRefIdeal.defs (F := Ideal)) (onTc (τ := Cert.UpDxRefIdeal.τ) (Cert.UpDxRefIdeal.main (F := Ideal))) ⟨m, fun _ => 0, g⟩ (fun r => (∀ c : Dev Cert.UpDxRefIdeal.nD,
      r.2.mem ((c.tc : Thread Cert.UpDxRefIdeal.nD Cert.UpDxRefIdeal.τ).loc Cert.UpDxRefIdeal.main_arg0) = m ((c.tc : Thread Cert.UpDxRefIdeal.nD Cert.UpDxRefIdeal.τ).loc Cert.UpDxRefIdeal.main_arg0)
      ∧ r.2.mem ((c.tc : Thread Cert.UpDxRefIdeal.nD Cert.UpDxRefIdeal.τ).loc Cert.UpDxRefIdeal.main_arg1) = m ((c.tc : Thread Cert.UpDxRefIdeal.nD Cert.UpDxRefIdeal.τ).loc Cert.UpDxRefIdeal.main_arg1))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ r.2.sem = fun _ => 0)

def quiescent_UpDwRefIdeal [hUpDwRefIdeal : Cert.UpDwRefIdeal.Facts] : Prop :=
  ∀ (m : (ℓ : Loc Cert.UpDwRefIdeal.nD Cert.UpDwRefIdeal.τ Cert.UpDwRefIdeal.sig) → Buf (Elt Ideal) ℓ) (g : Dev Cert.UpDwRefIdeal.nD → PrngReg), Pre_UpDwRefIdeal m →
    θ_run (Cert.UpDwRefIdeal.defs (F := Ideal)) (onTc (τ := Cert.UpDwRefIdeal.τ) (Cert.UpDwRefIdeal.main (F := Ideal))) ⟨m, fun _ => 0, g⟩ (fun r => (∀ c : Dev Cert.UpDwRefIdeal.nD,
      r.2.mem ((c.tc : Thread Cert.UpDwRefIdeal.nD Cert.UpDwRefIdeal.τ).loc Cert.UpDwRefIdeal.main_arg0) = m ((c.tc : Thread Cert.UpDwRefIdeal.nD Cert.UpDwRefIdeal.τ).loc Cert.UpDwRefIdeal.main_arg0)
      ∧ r.2.mem ((c.tc : Thread Cert.UpDwRefIdeal.nD Cert.UpDwRefIdeal.τ).loc Cert.UpDwRefIdeal.main_arg1) = m ((c.tc : Thread Cert.UpDwRefIdeal.nD Cert.UpDwRefIdeal.τ).loc Cert.UpDwRefIdeal.main_arg1))
      ∧ r.2.sem = fun _ => 0)

def quiescent_AdamwUp [hAdamwUp : Cert.AdamwUp.Facts] : Prop :=
  ∀ (m : (ℓ : Loc Cert.AdamwUp.nD Cert.AdamwUp.τ Cert.AdamwUp.sig) → Buf (Elt Bits) ℓ) (g : Dev Cert.AdamwUp.nD → PrngReg), Pre_AdamwUp m →
    θ_run (Cert.AdamwUp.defs (F := Bits)) (onTc (τ := Cert.AdamwUp.τ) (Cert.AdamwUp.main (F := Bits))) ⟨m, fun _ => 0, g⟩ (fun r => (∀ c : Dev Cert.AdamwUp.nD,
      r.2.mem ((c.tc : Thread Cert.AdamwUp.nD Cert.AdamwUp.τ).loc Cert.AdamwUp.main_arg0) = m ((c.tc : Thread Cert.AdamwUp.nD Cert.AdamwUp.τ).loc Cert.AdamwUp.main_arg0)
      ∧ r.2.mem ((c.tc : Thread Cert.AdamwUp.nD Cert.AdamwUp.τ).loc Cert.AdamwUp.main_arg1) = m ((c.tc : Thread Cert.AdamwUp.nD Cert.AdamwUp.τ).loc Cert.AdamwUp.main_arg1)
      ∧ r.2.mem ((c.tc : Thread Cert.AdamwUp.nD Cert.AdamwUp.τ).loc Cert.AdamwUp.main_arg2) = m ((c.tc : Thread Cert.AdamwUp.nD Cert.AdamwUp.τ).loc Cert.AdamwUp.main_arg2)
      ∧ r.2.mem ((c.tc : Thread Cert.AdamwUp.nD Cert.AdamwUp.τ).loc Cert.AdamwUp.main_arg3) = m ((c.tc : Thread Cert.AdamwUp.nD Cert.AdamwUp.τ).loc Cert.AdamwUp.main_arg3)
      ∧ r.2.mem ((c.tc : Thread Cert.AdamwUp.nD Cert.AdamwUp.τ).loc Cert.AdamwUp.main_arg4) = m ((c.tc : Thread Cert.AdamwUp.nD Cert.AdamwUp.τ).loc Cert.AdamwUp.main_arg4)
      ∧ r.2.mem ((c.tc : Thread Cert.AdamwUp.nD Cert.AdamwUp.τ).loc Cert.AdamwUp.main_arg5) = m ((c.tc : Thread Cert.AdamwUp.nD Cert.AdamwUp.τ).loc Cert.AdamwUp.main_arg5)
      ∧ r.2.mem ((c.tc : Thread Cert.AdamwUp.nD Cert.AdamwUp.τ).loc Cert.AdamwUp.main_arg6) = m ((c.tc : Thread Cert.AdamwUp.nD Cert.AdamwUp.τ).loc Cert.AdamwUp.main_arg6)
      ∧ r.2.mem ((c.tc : Thread Cert.AdamwUp.nD Cert.AdamwUp.τ).loc Cert.AdamwUp.main_arg7) = m ((c.tc : Thread Cert.AdamwUp.nD Cert.AdamwUp.τ).loc Cert.AdamwUp.main_arg7))
      ∧ r.2.sem = fun _ => 0)

def quiescent_AdamwUpIdeal [hAdamwUpIdeal : Cert.AdamwUpIdeal.Facts] : Prop :=
  ∀ (m : (ℓ : Loc Cert.AdamwUpIdeal.nD Cert.AdamwUpIdeal.τ Cert.AdamwUpIdeal.sig) → Buf (Elt Ideal) ℓ) (g : Dev Cert.AdamwUpIdeal.nD → PrngReg), Pre_AdamwUpIdeal m →
    θ_run (Cert.AdamwUpIdeal.defs (F := Ideal)) (onTc (τ := Cert.AdamwUpIdeal.τ) (Cert.AdamwUpIdeal.main (F := Ideal))) ⟨m, fun _ => 0, g⟩ (fun r => (∀ c : Dev Cert.AdamwUpIdeal.nD,
      r.2.mem ((c.tc : Thread Cert.AdamwUpIdeal.nD Cert.AdamwUpIdeal.τ).loc Cert.AdamwUpIdeal.main_arg0) = m ((c.tc : Thread Cert.AdamwUpIdeal.nD Cert.AdamwUpIdeal.τ).loc Cert.AdamwUpIdeal.main_arg0)
      ∧ r.2.mem ((c.tc : Thread Cert.AdamwUpIdeal.nD Cert.AdamwUpIdeal.τ).loc Cert.AdamwUpIdeal.main_arg1) = m ((c.tc : Thread Cert.AdamwUpIdeal.nD Cert.AdamwUpIdeal.τ).loc Cert.AdamwUpIdeal.main_arg1)
      ∧ r.2.mem ((c.tc : Thread Cert.AdamwUpIdeal.nD Cert.AdamwUpIdeal.τ).loc Cert.AdamwUpIdeal.main_arg2) = m ((c.tc : Thread Cert.AdamwUpIdeal.nD Cert.AdamwUpIdeal.τ).loc Cert.AdamwUpIdeal.main_arg2)
      ∧ r.2.mem ((c.tc : Thread Cert.AdamwUpIdeal.nD Cert.AdamwUpIdeal.τ).loc Cert.AdamwUpIdeal.main_arg3) = m ((c.tc : Thread Cert.AdamwUpIdeal.nD Cert.AdamwUpIdeal.τ).loc Cert.AdamwUpIdeal.main_arg3)
      ∧ r.2.mem ((c.tc : Thread Cert.AdamwUpIdeal.nD Cert.AdamwUpIdeal.τ).loc Cert.AdamwUpIdeal.main_arg4) = m ((c.tc : Thread Cert.AdamwUpIdeal.nD Cert.AdamwUpIdeal.τ).loc Cert.AdamwUpIdeal.main_arg4)
      ∧ r.2.mem ((c.tc : Thread Cert.AdamwUpIdeal.nD Cert.AdamwUpIdeal.τ).loc Cert.AdamwUpIdeal.main_arg5) = m ((c.tc : Thread Cert.AdamwUpIdeal.nD Cert.AdamwUpIdeal.τ).loc Cert.AdamwUpIdeal.main_arg5)
      ∧ r.2.mem ((c.tc : Thread Cert.AdamwUpIdeal.nD Cert.AdamwUpIdeal.τ).loc Cert.AdamwUpIdeal.main_arg6) = m ((c.tc : Thread Cert.AdamwUpIdeal.nD Cert.AdamwUpIdeal.τ).loc Cert.AdamwUpIdeal.main_arg6)
      ∧ r.2.mem ((c.tc : Thread Cert.AdamwUpIdeal.nD Cert.AdamwUpIdeal.τ).loc Cert.AdamwUpIdeal.main_arg7) = m ((c.tc : Thread Cert.AdamwUpIdeal.nD Cert.AdamwUpIdeal.τ).loc Cert.AdamwUpIdeal.main_arg7))
      ∧ r.2.sem = fun _ => 0)

def quiescent_AdamwUpRefIdeal [hAdamwUpRefIdeal : Cert.AdamwUpRefIdeal.Facts] : Prop :=
  ∀ (m : (ℓ : Loc Cert.AdamwUpRefIdeal.nD Cert.AdamwUpRefIdeal.τ Cert.AdamwUpRefIdeal.sig) → Buf (Elt Ideal) ℓ) (g : Dev Cert.AdamwUpRefIdeal.nD → PrngReg), Pre_AdamwUpRefIdeal m →
    θ_run (Cert.AdamwUpRefIdeal.defs (F := Ideal)) (onTc (τ := Cert.AdamwUpRefIdeal.τ) (Cert.AdamwUpRefIdeal.main (F := Ideal))) ⟨m, fun _ => 0, g⟩ (fun r => (∀ c : Dev Cert.AdamwUpRefIdeal.nD,
      r.2.mem ((c.tc : Thread Cert.AdamwUpRefIdeal.nD Cert.AdamwUpRefIdeal.τ).loc Cert.AdamwUpRefIdeal.main_arg0) = m ((c.tc : Thread Cert.AdamwUpRefIdeal.nD Cert.AdamwUpRefIdeal.τ).loc Cert.AdamwUpRefIdeal.main_arg0)
      ∧ r.2.mem ((c.tc : Thread Cert.AdamwUpRefIdeal.nD Cert.AdamwUpRefIdeal.τ).loc Cert.AdamwUpRefIdeal.main_arg1) = m ((c.tc : Thread Cert.AdamwUpRefIdeal.nD Cert.AdamwUpRefIdeal.τ).loc Cert.AdamwUpRefIdeal.main_arg1)
      ∧ r.2.mem ((c.tc : Thread Cert.AdamwUpRefIdeal.nD Cert.AdamwUpRefIdeal.τ).loc Cert.AdamwUpRefIdeal.main_arg2) = m ((c.tc : Thread Cert.AdamwUpRefIdeal.nD Cert.AdamwUpRefIdeal.τ).loc Cert.AdamwUpRefIdeal.main_arg2)
      ∧ r.2.mem ((c.tc : Thread Cert.AdamwUpRefIdeal.nD Cert.AdamwUpRefIdeal.τ).loc Cert.AdamwUpRefIdeal.main_arg3) = m ((c.tc : Thread Cert.AdamwUpRefIdeal.nD Cert.AdamwUpRefIdeal.τ).loc Cert.AdamwUpRefIdeal.main_arg3)
      ∧ r.2.mem ((c.tc : Thread Cert.AdamwUpRefIdeal.nD Cert.AdamwUpRefIdeal.τ).loc Cert.AdamwUpRefIdeal.main_arg4) = m ((c.tc : Thread Cert.AdamwUpRefIdeal.nD Cert.AdamwUpRefIdeal.τ).loc Cert.AdamwUpRefIdeal.main_arg4)
      ∧ r.2.mem ((c.tc : Thread Cert.AdamwUpRefIdeal.nD Cert.AdamwUpRefIdeal.τ).loc Cert.AdamwUpRefIdeal.main_arg5) = m ((c.tc : Thread Cert.AdamwUpRefIdeal.nD Cert.AdamwUpRefIdeal.τ).loc Cert.AdamwUpRefIdeal.main_arg5)
      ∧ r.2.mem ((c.tc : Thread Cert.AdamwUpRefIdeal.nD Cert.AdamwUpRefIdeal.τ).loc Cert.AdamwUpRefIdeal.main_arg6) = m ((c.tc : Thread Cert.AdamwUpRefIdeal.nD Cert.AdamwUpRefIdeal.τ).loc Cert.AdamwUpRefIdeal.main_arg6)
      ∧ r.2.mem ((c.tc : Thread Cert.AdamwUpRefIdeal.nD Cert.AdamwUpRefIdeal.τ).loc Cert.AdamwUpRefIdeal.main_arg7) = m ((c.tc : Thread Cert.AdamwUpRefIdeal.nD Cert.AdamwUpRefIdeal.τ).loc Cert.AdamwUpRefIdeal.main_arg7))
      ∧ r.2.sem = fun _ => 0)

def quiescent_AdamwTaps [hAdamwTaps : Cert.AdamwTaps.Facts] : Prop :=
  ∀ (m : (ℓ : Loc Cert.AdamwTaps.nD Cert.AdamwTaps.τ Cert.AdamwTaps.sig) → Buf (Elt Bits) ℓ) (g : Dev Cert.AdamwTaps.nD → PrngReg), Pre_AdamwTaps m →
    θ_run (Cert.AdamwTaps.defs (F := Bits)) (onTc (τ := Cert.AdamwTaps.τ) (Cert.AdamwTaps.main (F := Bits))) ⟨m, fun _ => 0, g⟩ (fun r => (∀ c : Dev Cert.AdamwTaps.nD,
      r.2.mem ((c.tc : Thread Cert.AdamwTaps.nD Cert.AdamwTaps.τ).loc Cert.AdamwTaps.main_arg0) = m ((c.tc : Thread Cert.AdamwTaps.nD Cert.AdamwTaps.τ).loc Cert.AdamwTaps.main_arg0)
      ∧ r.2.mem ((c.tc : Thread Cert.AdamwTaps.nD Cert.AdamwTaps.τ).loc Cert.AdamwTaps.main_arg1) = m ((c.tc : Thread Cert.AdamwTaps.nD Cert.AdamwTaps.τ).loc Cert.AdamwTaps.main_arg1)
      ∧ r.2.mem ((c.tc : Thread Cert.AdamwTaps.nD Cert.AdamwTaps.τ).loc Cert.AdamwTaps.main_arg2) = m ((c.tc : Thread Cert.AdamwTaps.nD Cert.AdamwTaps.τ).loc Cert.AdamwTaps.main_arg2)
      ∧ r.2.mem ((c.tc : Thread Cert.AdamwTaps.nD Cert.AdamwTaps.τ).loc Cert.AdamwTaps.main_arg3) = m ((c.tc : Thread Cert.AdamwTaps.nD Cert.AdamwTaps.τ).loc Cert.AdamwTaps.main_arg3))
      ∧ r.2.sem = fun _ => 0)

def quiescent_AdamwTapsIdeal [hAdamwTapsIdeal : Cert.AdamwTapsIdeal.Facts] : Prop :=
  ∀ (m : (ℓ : Loc Cert.AdamwTapsIdeal.nD Cert.AdamwTapsIdeal.τ Cert.AdamwTapsIdeal.sig) → Buf (Elt Ideal) ℓ) (g : Dev Cert.AdamwTapsIdeal.nD → PrngReg), Pre_AdamwTapsIdeal m →
    θ_run (Cert.AdamwTapsIdeal.defs (F := Ideal)) (onTc (τ := Cert.AdamwTapsIdeal.τ) (Cert.AdamwTapsIdeal.main (F := Ideal))) ⟨m, fun _ => 0, g⟩ (fun r => (∀ c : Dev Cert.AdamwTapsIdeal.nD,
      r.2.mem ((c.tc : Thread Cert.AdamwTapsIdeal.nD Cert.AdamwTapsIdeal.τ).loc Cert.AdamwTapsIdeal.main_arg0) = m ((c.tc : Thread Cert.AdamwTapsIdeal.nD Cert.AdamwTapsIdeal.τ).loc Cert.AdamwTapsIdeal.main_arg0)
      ∧ r.2.mem ((c.tc : Thread Cert.AdamwTapsIdeal.nD Cert.AdamwTapsIdeal.τ).loc Cert.AdamwTapsIdeal.main_arg1) = m ((c.tc : Thread Cert.AdamwTapsIdeal.nD Cert.AdamwTapsIdeal.τ).loc Cert.AdamwTapsIdeal.main_arg1)
      ∧ r.2.mem ((c.tc : Thread Cert.AdamwTapsIdeal.nD Cert.AdamwTapsIdeal.τ).loc Cert.AdamwTapsIdeal.main_arg2) = m ((c.tc : Thread Cert.AdamwTapsIdeal.nD Cert.AdamwTapsIdeal.τ).loc Cert.AdamwTapsIdeal.main_arg2)
      ∧ r.2.mem ((c.tc : Thread Cert.AdamwTapsIdeal.nD Cert.AdamwTapsIdeal.τ).loc Cert.AdamwTapsIdeal.main_arg3) = m ((c.tc : Thread Cert.AdamwTapsIdeal.nD Cert.AdamwTapsIdeal.τ).loc Cert.AdamwTapsIdeal.main_arg3))
      ∧ r.2.sem = fun _ => 0)

def quiescent_AdamwTapsRefIdeal [hAdamwTapsRefIdeal : Cert.AdamwTapsRefIdeal.Facts] : Prop :=
  ∀ (m : (ℓ : Loc Cert.AdamwTapsRefIdeal.nD Cert.AdamwTapsRefIdeal.τ Cert.AdamwTapsRefIdeal.sig) → Buf (Elt Ideal) ℓ) (g : Dev Cert.AdamwTapsRefIdeal.nD → PrngReg), Pre_AdamwTapsRefIdeal m →
    θ_run (Cert.AdamwTapsRefIdeal.defs (F := Ideal)) (onTc (τ := Cert.AdamwTapsRefIdeal.τ) (Cert.AdamwTapsRefIdeal.main (F := Ideal))) ⟨m, fun _ => 0, g⟩ (fun r => (∀ c : Dev Cert.AdamwTapsRefIdeal.nD,
      r.2.mem ((c.tc : Thread Cert.AdamwTapsRefIdeal.nD Cert.AdamwTapsRefIdeal.τ).loc Cert.AdamwTapsRefIdeal.main_arg0) = m ((c.tc : Thread Cert.AdamwTapsRefIdeal.nD Cert.AdamwTapsRefIdeal.τ).loc Cert.AdamwTapsRefIdeal.main_arg0)
      ∧ r.2.mem ((c.tc : Thread Cert.AdamwTapsRefIdeal.nD Cert.AdamwTapsRefIdeal.τ).loc Cert.AdamwTapsRefIdeal.main_arg1) = m ((c.tc : Thread Cert.AdamwTapsRefIdeal.nD Cert.AdamwTapsRefIdeal.τ).loc Cert.AdamwTapsRefIdeal.main_arg1)
      ∧ r.2.mem ((c.tc : Thread Cert.AdamwTapsRefIdeal.nD Cert.AdamwTapsRefIdeal.τ).loc Cert.AdamwTapsRefIdeal.main_arg2) = m ((c.tc : Thread Cert.AdamwTapsRefIdeal.nD Cert.AdamwTapsRefIdeal.τ).loc Cert.AdamwTapsRefIdeal.main_arg2)
      ∧ r.2.mem ((c.tc : Thread Cert.AdamwTapsRefIdeal.nD Cert.AdamwTapsRefIdeal.τ).loc Cert.AdamwTapsRefIdeal.main_arg3) = m ((c.tc : Thread Cert.AdamwTapsRefIdeal.nD Cert.AdamwTapsRefIdeal.τ).loc Cert.AdamwTapsRefIdeal.main_arg3))
      ∧ r.2.sem = fun _ => 0)

def quiescent_DeviceSum [hDeviceSum : Cert.DeviceSum.Facts] : Prop :=
  ∀ (m : (ℓ : Loc Cert.DeviceSum.nD Cert.DeviceSum.τ Cert.DeviceSum.sig) → Buf (Elt Bits) ℓ) (g : Dev Cert.DeviceSum.nD → PrngReg), Pre_DeviceSum m →
    θ_run (Cert.DeviceSum.defs (F := Bits)) (onTc (τ := Cert.DeviceSum.τ) (Cert.DeviceSum.main (F := Bits))) ⟨m, fun _ => 0, g⟩ (fun r => (∀ c : Dev Cert.DeviceSum.nD,
      r.2.mem ((c.tc : Thread Cert.DeviceSum.nD Cert.DeviceSum.τ).loc Cert.DeviceSum.main_arg0) = m ((c.tc : Thread Cert.DeviceSum.nD Cert.DeviceSum.τ).loc Cert.DeviceSum.main_arg0))
      ∧ r.2.sem = fun _ => 0)

def quiescent_DeviceSumIdeal [hDeviceSumIdeal : Cert.DeviceSumIdeal.Facts] : Prop :=
  ∀ (m : (ℓ : Loc Cert.DeviceSumIdeal.nD Cert.DeviceSumIdeal.τ Cert.DeviceSumIdeal.sig) → Buf (Elt Ideal) ℓ) (g : Dev Cert.DeviceSumIdeal.nD → PrngReg), Pre_DeviceSumIdeal m →
    θ_run (Cert.DeviceSumIdeal.defs (F := Ideal)) (onTc (τ := Cert.DeviceSumIdeal.τ) (Cert.DeviceSumIdeal.main (F := Ideal))) ⟨m, fun _ => 0, g⟩ (fun r => (∀ c : Dev Cert.DeviceSumIdeal.nD,
      r.2.mem ((c.tc : Thread Cert.DeviceSumIdeal.nD Cert.DeviceSumIdeal.τ).loc Cert.DeviceSumIdeal.main_arg0) = m ((c.tc : Thread Cert.DeviceSumIdeal.nD Cert.DeviceSumIdeal.τ).loc Cert.DeviceSumIdeal.main_arg0))
      ∧ r.2.sem = fun _ => 0)

def quiescent_DeviceSumRefIdeal [hDeviceSumRefIdeal : Cert.DeviceSumRefIdeal.Facts] : Prop :=
  ∀ (m : (ℓ : Loc Cert.DeviceSumRefIdeal.nD Cert.DeviceSumRefIdeal.τ Cert.DeviceSumRefIdeal.sig) → Buf (Elt Ideal) ℓ) (g : Dev Cert.DeviceSumRefIdeal.nD → PrngReg), Pre_DeviceSumRefIdeal m →
    θ_run (Cert.DeviceSumRefIdeal.defs (F := Ideal)) (onTc (τ := Cert.DeviceSumRefIdeal.τ) (Cert.DeviceSumRefIdeal.main (F := Ideal))) ⟨m, fun _ => 0, g⟩ (fun r => (∀ c : Dev Cert.DeviceSumRefIdeal.nD,
      r.2.mem ((c.tc : Thread Cert.DeviceSumRefIdeal.nD Cert.DeviceSumRefIdeal.τ).loc Cert.DeviceSumRefIdeal.main_arg0) = m ((c.tc : Thread Cert.DeviceSumRefIdeal.nD Cert.DeviceSumRefIdeal.τ).loc Cert.DeviceSumRefIdeal.main_arg0))
      ∧ r.2.sem = fun _ => 0)

def preserves_ConvBwd_ConvBwdIdeal : Prop :=
  True

def algebraic_ConvBwdIdeal_ConvBwdRefIdeal [hConvBwdIdeal : Cert.ConvBwdIdeal.Facts] [hConvBwdRefIdeal : Cert.ConvBwdRefIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg)
    (m' : (ℓ : Loc Cert.ConvBwdRefIdeal.nD Cert.ConvBwdRefIdeal.τ Cert.ConvBwdRefIdeal.sig) → Buf (Elt Ideal) ℓ) (g' : Dev Cert.ConvBwdRefIdeal.nD → PrngReg), Pre_ConvBwdIdeal m →
    (∀ c : Dev Cert.ConvBwdIdeal.nD,
      m' ((c.tc : Thread Cert.ConvBwdRefIdeal.nD Cert.ConvBwdRefIdeal.τ).loc Cert.ConvBwdRefIdeal.main_arg0) = m ((c.tc : Thread Cert.ConvBwdIdeal.nD Cert.ConvBwdIdeal.τ).loc Cert.ConvBwdIdeal.main_arg0)
      ∧ m' ((c.tc : Thread Cert.ConvBwdRefIdeal.nD Cert.ConvBwdRefIdeal.τ).loc Cert.ConvBwdRefIdeal.main_arg1) = m ((c.tc : Thread Cert.ConvBwdIdeal.nD Cert.ConvBwdIdeal.τ).loc Cert.ConvBwdIdeal.main_arg1)
      ∧ m' ((c.tc : Thread Cert.ConvBwdRefIdeal.nD Cert.ConvBwdRefIdeal.τ).loc Cert.ConvBwdRefIdeal.main_arg2) = m ((c.tc : Thread Cert.ConvBwdIdeal.nD Cert.ConvBwdIdeal.τ).loc Cert.ConvBwdIdeal.main_arg2)) →
    ∃ (v0 : (c : Dev Cert.ConvBwdIdeal.nD) → Buf (Elt Ideal) ((c.tc : Thread Cert.ConvBwdIdeal.nD Cert.ConvBwdIdeal.τ).loc Cert.ConvBwdIdeal.main_v3_0)) (v1 : (c : Dev Cert.ConvBwdIdeal.nD) → Buf (Elt Ideal) ((c.tc : Thread Cert.ConvBwdIdeal.nD Cert.ConvBwdIdeal.τ).loc Cert.ConvBwdIdeal.main_v3_1)) (v2 : (c : Dev Cert.ConvBwdIdeal.nD) → Buf (Elt Ideal) ((c.tc : Thread Cert.ConvBwdIdeal.nD Cert.ConvBwdIdeal.τ).loc Cert.ConvBwdIdeal.main_v3_2)) (v3 : (c : Dev Cert.ConvBwdIdeal.nD) → Buf (Elt Ideal) ((c.tc : Thread Cert.ConvBwdIdeal.nD Cert.ConvBwdIdeal.τ).loc Cert.ConvBwdIdeal.main_v3_3)),
      θ_run (Cert.ConvBwdIdeal.defs (F := Ideal)) (onTc (τ := Cert.ConvBwdIdeal.τ) (Cert.ConvBwdIdeal.main (F := Ideal))) ⟨m, fun _ => 0, g⟩ (fun r => ∀ c : Dev Cert.ConvBwdIdeal.nD,
          r.2.mem ((c.tc : Thread Cert.ConvBwdIdeal.nD Cert.ConvBwdIdeal.τ).loc Cert.ConvBwdIdeal.main_v3_0) = v0 c
          ∧ r.2.mem ((c.tc : Thread Cert.ConvBwdIdeal.nD Cert.ConvBwdIdeal.τ).loc Cert.ConvBwdIdeal.main_v3_1) = v1 c
          ∧ r.2.mem ((c.tc : Thread Cert.ConvBwdIdeal.nD Cert.ConvBwdIdeal.τ).loc Cert.ConvBwdIdeal.main_v3_2) = v2 c
          ∧ r.2.mem ((c.tc : Thread Cert.ConvBwdIdeal.nD Cert.ConvBwdIdeal.τ).loc Cert.ConvBwdIdeal.main_v3_3) = v3 c
          ∧ r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
          ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
          ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2))
      ∧ θ_run (Cert.ConvBwdRefIdeal.defs (F := Ideal)) (onTc (τ := Cert.ConvBwdRefIdeal.τ) (Cert.ConvBwdRefIdeal.main (F := Ideal))) ⟨m', fun _ => 0, g'⟩ (fun r => ∀ c : Dev Cert.ConvBwdRefIdeal.nD,
          r.2.mem ((c.tc : Thread Cert.ConvBwdRefIdeal.nD Cert.ConvBwdRefIdeal.τ).loc Cert.ConvBwdRefIdeal.main_v581) = v0 c
          ∧ r.2.mem ((c.tc : Thread Cert.ConvBwdRefIdeal.nD Cert.ConvBwdRefIdeal.τ).loc Cert.ConvBwdRefIdeal.main_v582) = v1 c
          ∧ r.2.mem ((c.tc : Thread Cert.ConvBwdRefIdeal.nD Cert.ConvBwdRefIdeal.τ).loc Cert.ConvBwdRefIdeal.main_v575) = v2 c
          ∧ r.2.mem ((c.tc : Thread Cert.ConvBwdRefIdeal.nD Cert.ConvBwdRefIdeal.τ).loc Cert.ConvBwdRefIdeal.main_v236) = v3 c
          ∧ r.2.mem ((c.tc : Thread Cert.ConvBwdRefIdeal.nD Cert.ConvBwdRefIdeal.τ).loc Cert.ConvBwdRefIdeal.main_arg0) = m' ((c.tc : Thread Cert.ConvBwdRefIdeal.nD Cert.ConvBwdRefIdeal.τ).loc Cert.ConvBwdRefIdeal.main_arg0)
          ∧ r.2.mem ((c.tc : Thread Cert.ConvBwdRefIdeal.nD Cert.ConvBwdRefIdeal.τ).loc Cert.ConvBwdRefIdeal.main_arg1) = m' ((c.tc : Thread Cert.ConvBwdRefIdeal.nD Cert.ConvBwdRefIdeal.τ).loc Cert.ConvBwdRefIdeal.main_arg1)
          ∧ r.2.mem ((c.tc : Thread Cert.ConvBwdRefIdeal.nD Cert.ConvBwdRefIdeal.τ).loc Cert.ConvBwdRefIdeal.main_arg2) = m' ((c.tc : Thread Cert.ConvBwdRefIdeal.nD Cert.ConvBwdRefIdeal.τ).loc Cert.ConvBwdRefIdeal.main_arg2))

def preserves_AttnBwd_AttnBwdIdeal : Prop :=
  True

def algebraic_AttnBwdIdeal_AttnBwdRefIdeal_pre_attn_bwd_finite [hAttnBwdIdeal : Cert.AttnBwdIdeal.Facts] [hAttnBwdRefIdeal : Cert.AttnBwdRefIdeal.Facts] [hPre_attn_bwd_finite : Cert.Pre_attn_bwd_finite.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg)
    (m' : (ℓ : Loc Cert.AttnBwdRefIdeal.nD Cert.AttnBwdRefIdeal.τ Cert.AttnBwdRefIdeal.sig) → Buf (Elt Ideal) ℓ) (g' : Dev Cert.AttnBwdRefIdeal.nD → PrngReg), Pre_AttnBwdIdeal_attn_bwd_finite m →
    (∀ c : Dev Cert.AttnBwdIdeal.nD,
      m' ((c.tc : Thread Cert.AttnBwdRefIdeal.nD Cert.AttnBwdRefIdeal.τ).loc Cert.AttnBwdRefIdeal.main_arg0) = m ((c.tc : Thread Cert.AttnBwdIdeal.nD Cert.AttnBwdIdeal.τ).loc Cert.AttnBwdIdeal.main_arg0)
      ∧ m' ((c.tc : Thread Cert.AttnBwdRefIdeal.nD Cert.AttnBwdRefIdeal.τ).loc Cert.AttnBwdRefIdeal.main_arg1) = m ((c.tc : Thread Cert.AttnBwdIdeal.nD Cert.AttnBwdIdeal.τ).loc Cert.AttnBwdIdeal.main_arg1)
      ∧ m' ((c.tc : Thread Cert.AttnBwdRefIdeal.nD Cert.AttnBwdRefIdeal.τ).loc Cert.AttnBwdRefIdeal.main_arg2) = m ((c.tc : Thread Cert.AttnBwdIdeal.nD Cert.AttnBwdIdeal.τ).loc Cert.AttnBwdIdeal.main_arg2)
      ∧ m' ((c.tc : Thread Cert.AttnBwdRefIdeal.nD Cert.AttnBwdRefIdeal.τ).loc Cert.AttnBwdRefIdeal.main_arg3) = m ((c.tc : Thread Cert.AttnBwdIdeal.nD Cert.AttnBwdIdeal.τ).loc Cert.AttnBwdIdeal.main_arg3)) →
    ∃ (v0 : (c : Dev Cert.AttnBwdIdeal.nD) → Buf (Elt Ideal) ((c.tc : Thread Cert.AttnBwdIdeal.nD Cert.AttnBwdIdeal.τ).loc Cert.AttnBwdIdeal.main_v0_0)) (v1 : (c : Dev Cert.AttnBwdIdeal.nD) → Buf (Elt Ideal) ((c.tc : Thread Cert.AttnBwdIdeal.nD Cert.AttnBwdIdeal.τ).loc Cert.AttnBwdIdeal.main_v0_1)) (v2 : (c : Dev Cert.AttnBwdIdeal.nD) → Buf (Elt Ideal) ((c.tc : Thread Cert.AttnBwdIdeal.nD Cert.AttnBwdIdeal.τ).loc Cert.AttnBwdIdeal.main_v0_2)),
      θ_run (Cert.AttnBwdIdeal.defs (F := Ideal)) (onTc (τ := Cert.AttnBwdIdeal.τ) (Cert.AttnBwdIdeal.main (F := Ideal))) ⟨m, fun _ => 0, g⟩ (fun r => ∀ c : Dev Cert.AttnBwdIdeal.nD,
          r.2.mem ((c.tc : Thread Cert.AttnBwdIdeal.nD Cert.AttnBwdIdeal.τ).loc Cert.AttnBwdIdeal.main_v0_0) = v0 c
          ∧ r.2.mem ((c.tc : Thread Cert.AttnBwdIdeal.nD Cert.AttnBwdIdeal.τ).loc Cert.AttnBwdIdeal.main_v0_1) = v1 c
          ∧ r.2.mem ((c.tc : Thread Cert.AttnBwdIdeal.nD Cert.AttnBwdIdeal.τ).loc Cert.AttnBwdIdeal.main_v0_2) = v2 c
          ∧ r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
          ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
          ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
          ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3))
      ∧ θ_run (Cert.AttnBwdRefIdeal.defs (F := Ideal)) (onTc (τ := Cert.AttnBwdRefIdeal.τ) (Cert.AttnBwdRefIdeal.main (F := Ideal))) ⟨m', fun _ => 0, g'⟩ (fun r => ∀ c : Dev Cert.AttnBwdRefIdeal.nD,
          r.2.mem ((c.tc : Thread Cert.AttnBwdRefIdeal.nD Cert.AttnBwdRefIdeal.τ).loc Cert.AttnBwdRefIdeal.main_v67) = v0 c
          ∧ r.2.mem ((c.tc : Thread Cert.AttnBwdRefIdeal.nD Cert.AttnBwdRefIdeal.τ).loc Cert.AttnBwdRefIdeal.main_v68) = v1 c
          ∧ r.2.mem ((c.tc : Thread Cert.AttnBwdRefIdeal.nD Cert.AttnBwdRefIdeal.τ).loc Cert.AttnBwdRefIdeal.main_v69) = v2 c
          ∧ r.2.mem ((c.tc : Thread Cert.AttnBwdRefIdeal.nD Cert.AttnBwdRefIdeal.τ).loc Cert.AttnBwdRefIdeal.main_arg0) = m' ((c.tc : Thread Cert.AttnBwdRefIdeal.nD Cert.AttnBwdRefIdeal.τ).loc Cert.AttnBwdRefIdeal.main_arg0)
          ∧ r.2.mem ((c.tc : Thread Cert.AttnBwdRefIdeal.nD Cert.AttnBwdRefIdeal.τ).loc Cert.AttnBwdRefIdeal.main_arg1) = m' ((c.tc : Thread Cert.AttnBwdRefIdeal.nD Cert.AttnBwdRefIdeal.τ).loc Cert.AttnBwdRefIdeal.main_arg1)
          ∧ r.2.mem ((c.tc : Thread Cert.AttnBwdRefIdeal.nD Cert.AttnBwdRefIdeal.τ).loc Cert.AttnBwdRefIdeal.main_arg2) = m' ((c.tc : Thread Cert.AttnBwdRefIdeal.nD Cert.AttnBwdRefIdeal.τ).loc Cert.AttnBwdRefIdeal.main_arg2)
          ∧ r.2.mem ((c.tc : Thread Cert.AttnBwdRefIdeal.nD Cert.AttnBwdRefIdeal.τ).loc Cert.AttnBwdRefIdeal.main_arg3) = m' ((c.tc : Thread Cert.AttnBwdRefIdeal.nD Cert.AttnBwdRefIdeal.τ).loc Cert.AttnBwdRefIdeal.main_arg3))

def preserves_NormLastBwd_NormLastBwdIdeal : Prop :=
  True

def algebraic_NormLastBwdIdeal_NormLastBwdRefIdeal [hNormLastBwdIdeal : Cert.NormLastBwdIdeal.Facts] [hNormLastBwdRefIdeal : Cert.NormLastBwdRefIdeal.Facts] : Prop :=
  ∀ (m : (ℓ : Loc Cert.NormLastBwdIdeal.nD Cert.NormLastBwdIdeal.τ Cert.NormLastBwdIdeal.sig) → Buf (Elt Ideal) ℓ) (g : Dev Cert.NormLastBwdIdeal.nD → PrngReg)
    (m' : (ℓ : Loc Cert.NormLastBwdRefIdeal.nD Cert.NormLastBwdRefIdeal.τ Cert.NormLastBwdRefIdeal.sig) → Buf (Elt Ideal) ℓ) (g' : Dev Cert.NormLastBwdRefIdeal.nD → PrngReg), Pre_NormLastBwdIdeal m →
    (∀ c : Dev Cert.NormLastBwdIdeal.nD,
      m' ((c.tc : Thread Cert.NormLastBwdRefIdeal.nD Cert.NormLastBwdRefIdeal.τ).loc Cert.NormLastBwdRefIdeal.main_arg0) = m ((c.tc : Thread Cert.NormLastBwdIdeal.nD Cert.NormLastBwdIdeal.τ).loc Cert.NormLastBwdIdeal.main_arg0)
      ∧ m' ((c.tc : Thread Cert.NormLastBwdRefIdeal.nD Cert.NormLastBwdRefIdeal.τ).loc Cert.NormLastBwdRefIdeal.main_arg1) = m ((c.tc : Thread Cert.NormLastBwdIdeal.nD Cert.NormLastBwdIdeal.τ).loc Cert.NormLastBwdIdeal.main_arg1)
      ∧ m' ((c.tc : Thread Cert.NormLastBwdRefIdeal.nD Cert.NormLastBwdRefIdeal.τ).loc Cert.NormLastBwdRefIdeal.main_arg2) = m ((c.tc : Thread Cert.NormLastBwdIdeal.nD Cert.NormLastBwdIdeal.τ).loc Cert.NormLastBwdIdeal.main_arg2)
      ∧ m' ((c.tc : Thread Cert.NormLastBwdRefIdeal.nD Cert.NormLastBwdRefIdeal.τ).loc Cert.NormLastBwdRefIdeal.main_arg3) = m ((c.tc : Thread Cert.NormLastBwdIdeal.nD Cert.NormLastBwdIdeal.τ).loc Cert.NormLastBwdIdeal.main_arg3)) →
    ∃ (v0 : (c : Dev Cert.NormLastBwdIdeal.nD) → Buf (Elt Ideal) ((c.tc : Thread Cert.NormLastBwdIdeal.nD Cert.NormLastBwdIdeal.τ).loc Cert.NormLastBwdIdeal.main_v13_0)) (v1 : (c : Dev Cert.NormLastBwdIdeal.nD) → Buf (Elt Ideal) ((c.tc : Thread Cert.NormLastBwdIdeal.nD Cert.NormLastBwdIdeal.τ).loc Cert.NormLastBwdIdeal.main_v13_1)) (v2 : (c : Dev Cert.NormLastBwdIdeal.nD) → Buf (Elt Ideal) ((c.tc : Thread Cert.NormLastBwdIdeal.nD Cert.NormLastBwdIdeal.τ).loc Cert.NormLastBwdIdeal.main_v13_2)),
      θ_run (Cert.NormLastBwdIdeal.defs (F := Ideal)) (onTc (τ := Cert.NormLastBwdIdeal.τ) (Cert.NormLastBwdIdeal.main (F := Ideal))) ⟨m, fun _ => 0, g⟩ (fun r => ∀ c : Dev Cert.NormLastBwdIdeal.nD,
          r.2.mem ((c.tc : Thread Cert.NormLastBwdIdeal.nD Cert.NormLastBwdIdeal.τ).loc Cert.NormLastBwdIdeal.main_v13_0) = v0 c
          ∧ r.2.mem ((c.tc : Thread Cert.NormLastBwdIdeal.nD Cert.NormLastBwdIdeal.τ).loc Cert.NormLastBwdIdeal.main_v13_1) = v1 c
          ∧ r.2.mem ((c.tc : Thread Cert.NormLastBwdIdeal.nD Cert.NormLastBwdIdeal.τ).loc Cert.NormLastBwdIdeal.main_v13_2) = v2 c
          ∧ r.2.mem ((c.tc : Thread Cert.NormLastBwdIdeal.nD Cert.NormLastBwdIdeal.τ).loc Cert.NormLastBwdIdeal.main_arg0) = m ((c.tc : Thread Cert.NormLastBwdIdeal.nD Cert.NormLastBwdIdeal.τ).loc Cert.NormLastBwdIdeal.main_arg0)
          ∧ r.2.mem ((c.tc : Thread Cert.NormLastBwdIdeal.nD Cert.NormLastBwdIdeal.τ).loc Cert.NormLastBwdIdeal.main_arg1) = m ((c.tc : Thread Cert.NormLastBwdIdeal.nD Cert.NormLastBwdIdeal.τ).loc Cert.NormLastBwdIdeal.main_arg1)
          ∧ r.2.mem ((c.tc : Thread Cert.NormLastBwdIdeal.nD Cert.NormLastBwdIdeal.τ).loc Cert.NormLastBwdIdeal.main_arg2) = m ((c.tc : Thread Cert.NormLastBwdIdeal.nD Cert.NormLastBwdIdeal.τ).loc Cert.NormLastBwdIdeal.main_arg2)
          ∧ r.2.mem ((c.tc : Thread Cert.NormLastBwdIdeal.nD Cert.NormLastBwdIdeal.τ).loc Cert.NormLastBwdIdeal.main_arg3) = m ((c.tc : Thread Cert.NormLastBwdIdeal.nD Cert.NormLastBwdIdeal.τ).loc Cert.NormLastBwdIdeal.main_arg3))
      ∧ θ_run (Cert.NormLastBwdRefIdeal.defs (F := Ideal)) (onTc (τ := Cert.NormLastBwdRefIdeal.τ) (Cert.NormLastBwdRefIdeal.main (F := Ideal))) ⟨m', fun _ => 0, g'⟩ (fun r => ∀ c : Dev Cert.NormLastBwdRefIdeal.nD,
          r.2.mem ((c.tc : Thread Cert.NormLastBwdRefIdeal.nD Cert.NormLastBwdRefIdeal.τ).loc Cert.NormLastBwdRefIdeal.main_arg3) = v0 c
          ∧ r.2.mem ((c.tc : Thread Cert.NormLastBwdRefIdeal.nD Cert.NormLastBwdRefIdeal.τ).loc Cert.NormLastBwdRefIdeal.main_v36) = v1 c
          ∧ r.2.mem ((c.tc : Thread Cert.NormLastBwdRefIdeal.nD Cert.NormLastBwdRefIdeal.τ).loc Cert.NormLastBwdRefIdeal.main_v19) = v2 c
          ∧ r.2.mem ((c.tc : Thread Cert.NormLastBwdRefIdeal.nD Cert.NormLastBwdRefIdeal.τ).loc Cert.NormLastBwdRefIdeal.main_arg0) = m' ((c.tc : Thread Cert.NormLastBwdRefIdeal.nD Cert.NormLastBwdRefIdeal.τ).loc Cert.NormLastBwdRefIdeal.main_arg0)
          ∧ r.2.mem ((c.tc : Thread Cert.NormLastBwdRefIdeal.nD Cert.NormLastBwdRefIdeal.τ).loc Cert.NormLastBwdRefIdeal.main_arg1) = m' ((c.tc : Thread Cert.NormLastBwdRefIdeal.nD Cert.NormLastBwdRefIdeal.τ).loc Cert.NormLastBwdRefIdeal.main_arg1)
          ∧ r.2.mem ((c.tc : Thread Cert.NormLastBwdRefIdeal.nD Cert.NormLastBwdRefIdeal.τ).loc Cert.NormLastBwdRefIdeal.main_arg2) = m' ((c.tc : Thread Cert.NormLastBwdRefIdeal.nD Cert.NormLastBwdRefIdeal.τ).loc Cert.NormLastBwdRefIdeal.main_arg2)
          ∧ r.2.mem ((c.tc : Thread Cert.NormLastBwdRefIdeal.nD Cert.NormLastBwdRefIdeal.τ).loc Cert.NormLastBwdRefIdeal.main_arg3) = m' ((c.tc : Thread Cert.NormLastBwdRefIdeal.nD Cert.NormLastBwdRefIdeal.τ).loc Cert.NormLastBwdRefIdeal.main_arg3))

def preserves_NormMidBwd_NormMidBwdIdeal : Prop :=
  True

def algebraic_NormMidBwdIdeal_NormMidBwdRefIdeal [hNormMidBwdIdeal : Cert.NormMidBwdIdeal.Facts] [hNormMidBwdRefIdeal : Cert.NormMidBwdRefIdeal.Facts] : Prop :=
  ∀ (m : (ℓ : Loc Cert.NormMidBwdIdeal.nD Cert.NormMidBwdIdeal.τ Cert.NormMidBwdIdeal.sig) → Buf (Elt Ideal) ℓ) (g : Dev Cert.NormMidBwdIdeal.nD → PrngReg)
    (m' : (ℓ : Loc Cert.NormMidBwdRefIdeal.nD Cert.NormMidBwdRefIdeal.τ Cert.NormMidBwdRefIdeal.sig) → Buf (Elt Ideal) ℓ) (g' : Dev Cert.NormMidBwdRefIdeal.nD → PrngReg), Pre_NormMidBwdIdeal m →
    (∀ c : Dev Cert.NormMidBwdIdeal.nD,
      m' ((c.tc : Thread Cert.NormMidBwdRefIdeal.nD Cert.NormMidBwdRefIdeal.τ).loc Cert.NormMidBwdRefIdeal.main_arg0) = m ((c.tc : Thread Cert.NormMidBwdIdeal.nD Cert.NormMidBwdIdeal.τ).loc Cert.NormMidBwdIdeal.main_arg0)
      ∧ m' ((c.tc : Thread Cert.NormMidBwdRefIdeal.nD Cert.NormMidBwdRefIdeal.τ).loc Cert.NormMidBwdRefIdeal.main_arg1) = m ((c.tc : Thread Cert.NormMidBwdIdeal.nD Cert.NormMidBwdIdeal.τ).loc Cert.NormMidBwdIdeal.main_arg1)
      ∧ m' ((c.tc : Thread Cert.NormMidBwdRefIdeal.nD Cert.NormMidBwdRefIdeal.τ).loc Cert.NormMidBwdRefIdeal.main_arg2) = m ((c.tc : Thread Cert.NormMidBwdIdeal.nD Cert.NormMidBwdIdeal.τ).loc Cert.NormMidBwdIdeal.main_arg2)
      ∧ m' ((c.tc : Thread Cert.NormMidBwdRefIdeal.nD Cert.NormMidBwdRefIdeal.τ).loc Cert.NormMidBwdRefIdeal.main_arg3) = m ((c.tc : Thread Cert.NormMidBwdIdeal.nD Cert.NormMidBwdIdeal.τ).loc Cert.NormMidBwdIdeal.main_arg3)
      ∧ m' ((c.tc : Thread Cert.NormMidBwdRefIdeal.nD Cert.NormMidBwdRefIdeal.τ).loc Cert.NormMidBwdRefIdeal.main_arg4) = m ((c.tc : Thread Cert.NormMidBwdIdeal.nD Cert.NormMidBwdIdeal.τ).loc Cert.NormMidBwdIdeal.main_arg4)
      ∧ m' ((c.tc : Thread Cert.NormMidBwdRefIdeal.nD Cert.NormMidBwdRefIdeal.τ).loc Cert.NormMidBwdRefIdeal.main_arg5) = m ((c.tc : Thread Cert.NormMidBwdIdeal.nD Cert.NormMidBwdIdeal.τ).loc Cert.NormMidBwdIdeal.main_arg5)) →
    ∃ (v0 : (c : Dev Cert.NormMidBwdIdeal.nD) → Buf (Elt Ideal) ((c.tc : Thread Cert.NormMidBwdIdeal.nD Cert.NormMidBwdIdeal.τ).loc Cert.NormMidBwdIdeal.main_v13_0)) (v1 : (c : Dev Cert.NormMidBwdIdeal.nD) → Buf (Elt Ideal) ((c.tc : Thread Cert.NormMidBwdIdeal.nD Cert.NormMidBwdIdeal.τ).loc Cert.NormMidBwdIdeal.main_v13_1)) (v2 : (c : Dev Cert.NormMidBwdIdeal.nD) → Buf (Elt Ideal) ((c.tc : Thread Cert.NormMidBwdIdeal.nD Cert.NormMidBwdIdeal.τ).loc Cert.NormMidBwdIdeal.main_v13_2)) (v3 : (c : Dev Cert.NormMidBwdIdeal.nD) → Buf (Elt Ideal) ((c.tc : Thread Cert.NormMidBwdIdeal.nD Cert.NormMidBwdIdeal.τ).loc Cert.NormMidBwdIdeal.main_v13_3)),
      θ_run (Cert.NormMidBwdIdeal.defs (F := Ideal)) (onTc (τ := Cert.NormMidBwdIdeal.τ) (Cert.NormMidBwdIdeal.main (F := Ideal))) ⟨m, fun _ => 0, g⟩ (fun r => ∀ c : Dev Cert.NormMidBwdIdeal.nD,
          r.2.mem ((c.tc : Thread Cert.NormMidBwdIdeal.nD Cert.NormMidBwdIdeal.τ).loc Cert.NormMidBwdIdeal.main_v13_0) = v0 c
          ∧ r.2.mem ((c.tc : Thread Cert.NormMidBwdIdeal.nD Cert.NormMidBwdIdeal.τ).loc Cert.NormMidBwdIdeal.main_v13_1) = v1 c
          ∧ r.2.mem ((c.tc : Thread Cert.NormMidBwdIdeal.nD Cert.NormMidBwdIdeal.τ).loc Cert.NormMidBwdIdeal.main_v13_2) = v2 c
          ∧ r.2.mem ((c.tc : Thread Cert.NormMidBwdIdeal.nD Cert.NormMidBwdIdeal.τ).loc Cert.NormMidBwdIdeal.main_v13_3) = v3 c
          ∧ r.2.mem ((c.tc : Thread Cert.NormMidBwdIdeal.nD Cert.NormMidBwdIdeal.τ).loc Cert.NormMidBwdIdeal.main_arg0) = m ((c.tc : Thread Cert.NormMidBwdIdeal.nD Cert.NormMidBwdIdeal.τ).loc Cert.NormMidBwdIdeal.main_arg0)
          ∧ r.2.mem ((c.tc : Thread Cert.NormMidBwdIdeal.nD Cert.NormMidBwdIdeal.τ).loc Cert.NormMidBwdIdeal.main_arg1) = m ((c.tc : Thread Cert.NormMidBwdIdeal.nD Cert.NormMidBwdIdeal.τ).loc Cert.NormMidBwdIdeal.main_arg1)
          ∧ r.2.mem ((c.tc : Thread Cert.NormMidBwdIdeal.nD Cert.NormMidBwdIdeal.τ).loc Cert.NormMidBwdIdeal.main_arg2) = m ((c.tc : Thread Cert.NormMidBwdIdeal.nD Cert.NormMidBwdIdeal.τ).loc Cert.NormMidBwdIdeal.main_arg2)
          ∧ r.2.mem ((c.tc : Thread Cert.NormMidBwdIdeal.nD Cert.NormMidBwdIdeal.τ).loc Cert.NormMidBwdIdeal.main_arg3) = m ((c.tc : Thread Cert.NormMidBwdIdeal.nD Cert.NormMidBwdIdeal.τ).loc Cert.NormMidBwdIdeal.main_arg3)
          ∧ r.2.mem ((c.tc : Thread Cert.NormMidBwdIdeal.nD Cert.NormMidBwdIdeal.τ).loc Cert.NormMidBwdIdeal.main_arg4) = m ((c.tc : Thread Cert.NormMidBwdIdeal.nD Cert.NormMidBwdIdeal.τ).loc Cert.NormMidBwdIdeal.main_arg4)
          ∧ r.2.mem ((c.tc : Thread Cert.NormMidBwdIdeal.nD Cert.NormMidBwdIdeal.τ).loc Cert.NormMidBwdIdeal.main_arg5) = m ((c.tc : Thread Cert.NormMidBwdIdeal.nD Cert.NormMidBwdIdeal.τ).loc Cert.NormMidBwdIdeal.main_arg5))
      ∧ θ_run (Cert.NormMidBwdRefIdeal.defs (F := Ideal)) (onTc (τ := Cert.NormMidBwdRefIdeal.τ) (Cert.NormMidBwdRefIdeal.main (F := Ideal))) ⟨m', fun _ => 0, g'⟩ (fun r => ∀ c : Dev Cert.NormMidBwdRefIdeal.nD,
          r.2.mem ((c.tc : Thread Cert.NormMidBwdRefIdeal.nD Cert.NormMidBwdRefIdeal.τ).loc Cert.NormMidBwdRefIdeal.main_v50) = v0 c
          ∧ r.2.mem ((c.tc : Thread Cert.NormMidBwdRefIdeal.nD Cert.NormMidBwdRefIdeal.τ).loc Cert.NormMidBwdRefIdeal.main_v71) = v1 c
          ∧ r.2.mem ((c.tc : Thread Cert.NormMidBwdRefIdeal.nD Cert.NormMidBwdRefIdeal.τ).loc Cert.NormMidBwdRefIdeal.main_v54) = v2 c
          ∧ r.2.mem ((c.tc : Thread Cert.NormMidBwdRefIdeal.nD Cert.NormMidBwdRefIdeal.τ).loc Cert.NormMidBwdRefIdeal.main_v33) = v3 c
          ∧ r.2.mem ((c.tc : Thread Cert.NormMidBwdRefIdeal.nD Cert.NormMidBwdRefIdeal.τ).loc Cert.NormMidBwdRefIdeal.main_arg0) = m' ((c.tc : Thread Cert.NormMidBwdRefIdeal.nD Cert.NormMidBwdRefIdeal.τ).loc Cert.NormMidBwdRefIdeal.main_arg0)
          ∧ r.2.mem ((c.tc : Thread Cert.NormMidBwdRefIdeal.nD Cert.NormMidBwdRefIdeal.τ).loc Cert.NormMidBwdRefIdeal.main_arg1) = m' ((c.tc : Thread Cert.NormMidBwdRefIdeal.nD Cert.NormMidBwdRefIdeal.τ).loc Cert.NormMidBwdRefIdeal.main_arg1)
          ∧ r.2.mem ((c.tc : Thread Cert.NormMidBwdRefIdeal.nD Cert.NormMidBwdRefIdeal.τ).loc Cert.NormMidBwdRefIdeal.main_arg2) = m' ((c.tc : Thread Cert.NormMidBwdRefIdeal.nD Cert.NormMidBwdRefIdeal.τ).loc Cert.NormMidBwdRefIdeal.main_arg2)
          ∧ r.2.mem ((c.tc : Thread Cert.NormMidBwdRefIdeal.nD Cert.NormMidBwdRefIdeal.τ).loc Cert.NormMidBwdRefIdeal.main_arg3) = m' ((c.tc : Thread Cert.NormMidBwdRefIdeal.nD Cert.NormMidBwdRefIdeal.τ).loc Cert.NormMidBwdRefIdeal.main_arg3)
          ∧ r.2.mem ((c.tc : Thread Cert.NormMidBwdRefIdeal.nD Cert.NormMidBwdRefIdeal.τ).loc Cert.NormMidBwdRefIdeal.main_arg4) = m' ((c.tc : Thread Cert.NormMidBwdRefIdeal.nD Cert.NormMidBwdRefIdeal.τ).loc Cert.NormMidBwdRefIdeal.main_arg4)
          ∧ r.2.mem ((c.tc : Thread Cert.NormMidBwdRefIdeal.nD Cert.NormMidBwdRefIdeal.τ).loc Cert.NormMidBwdRefIdeal.main_arg5) = m' ((c.tc : Thread Cert.NormMidBwdRefIdeal.nD Cert.NormMidBwdRefIdeal.τ).loc Cert.NormMidBwdRefIdeal.main_arg5))

def preserves_NormMemBwd_NormMemBwdIdeal : Prop :=
  True

def algebraic_NormMemBwdIdeal_NormMemBwdRefIdeal [hNormMemBwdIdeal : Cert.NormMemBwdIdeal.Facts] [hNormMemBwdRefIdeal : Cert.NormMemBwdRefIdeal.Facts] : Prop :=
  ∀ (m : (ℓ : Loc Cert.NormMemBwdIdeal.nD Cert.NormMemBwdIdeal.τ Cert.NormMemBwdIdeal.sig) → Buf (Elt Ideal) ℓ) (g : Dev Cert.NormMemBwdIdeal.nD → PrngReg)
    (m' : (ℓ : Loc Cert.NormMemBwdRefIdeal.nD Cert.NormMemBwdRefIdeal.τ Cert.NormMemBwdRefIdeal.sig) → Buf (Elt Ideal) ℓ) (g' : Dev Cert.NormMemBwdRefIdeal.nD → PrngReg), Pre_NormMemBwdIdeal m →
    (∀ c : Dev Cert.NormMemBwdIdeal.nD,
      m' ((c.tc : Thread Cert.NormMemBwdRefIdeal.nD Cert.NormMemBwdRefIdeal.τ).loc Cert.NormMemBwdRefIdeal.main_arg0) = m ((c.tc : Thread Cert.NormMemBwdIdeal.nD Cert.NormMemBwdIdeal.τ).loc Cert.NormMemBwdIdeal.main_arg0)
      ∧ m' ((c.tc : Thread Cert.NormMemBwdRefIdeal.nD Cert.NormMemBwdRefIdeal.τ).loc Cert.NormMemBwdRefIdeal.main_arg1) = m ((c.tc : Thread Cert.NormMemBwdIdeal.nD Cert.NormMemBwdIdeal.τ).loc Cert.NormMemBwdIdeal.main_arg1)
      ∧ m' ((c.tc : Thread Cert.NormMemBwdRefIdeal.nD Cert.NormMemBwdRefIdeal.τ).loc Cert.NormMemBwdRefIdeal.main_arg2) = m ((c.tc : Thread Cert.NormMemBwdIdeal.nD Cert.NormMemBwdIdeal.τ).loc Cert.NormMemBwdIdeal.main_arg2)) →
    ∃ (v0 : (c : Dev Cert.NormMemBwdIdeal.nD) → Buf (Elt Ideal) ((c.tc : Thread Cert.NormMemBwdIdeal.nD Cert.NormMemBwdIdeal.τ).loc Cert.NormMemBwdIdeal.main_v0_0)) (v1 : (c : Dev Cert.NormMemBwdIdeal.nD) → Buf (Elt Ideal) ((c.tc : Thread Cert.NormMemBwdIdeal.nD Cert.NormMemBwdIdeal.τ).loc Cert.NormMemBwdIdeal.main_v0_1)),
      θ_run (Cert.NormMemBwdIdeal.defs (F := Ideal)) (onTc (τ := Cert.NormMemBwdIdeal.τ) (Cert.NormMemBwdIdeal.main (F := Ideal))) ⟨m, fun _ => 0, g⟩ (fun r => ∀ c : Dev Cert.NormMemBwdIdeal.nD,
          r.2.mem ((c.tc : Thread Cert.NormMemBwdIdeal.nD Cert.NormMemBwdIdeal.τ).loc Cert.NormMemBwdIdeal.main_v0_0) = v0 c
          ∧ r.2.mem ((c.tc : Thread Cert.NormMemBwdIdeal.nD Cert.NormMemBwdIdeal.τ).loc Cert.NormMemBwdIdeal.main_v0_1) = v1 c
          ∧ r.2.mem ((c.tc : Thread Cert.NormMemBwdIdeal.nD Cert.NormMemBwdIdeal.τ).loc Cert.NormMemBwdIdeal.main_arg0) = m ((c.tc : Thread Cert.NormMemBwdIdeal.nD Cert.NormMemBwdIdeal.τ).loc Cert.NormMemBwdIdeal.main_arg0)
          ∧ r.2.mem ((c.tc : Thread Cert.NormMemBwdIdeal.nD Cert.NormMemBwdIdeal.τ).loc Cert.NormMemBwdIdeal.main_arg1) = m ((c.tc : Thread Cert.NormMemBwdIdeal.nD Cert.NormMemBwdIdeal.τ).loc Cert.NormMemBwdIdeal.main_arg1)
          ∧ r.2.mem ((c.tc : Thread Cert.NormMemBwdIdeal.nD Cert.NormMemBwdIdeal.τ).loc Cert.NormMemBwdIdeal.main_arg2) = m ((c.tc : Thread Cert.NormMemBwdIdeal.nD Cert.NormMemBwdIdeal.τ).loc Cert.NormMemBwdIdeal.main_arg2))
      ∧ θ_run (Cert.NormMemBwdRefIdeal.defs (F := Ideal)) (onTc (τ := Cert.NormMemBwdRefIdeal.τ) (Cert.NormMemBwdRefIdeal.main (F := Ideal))) ⟨m', fun _ => 0, g'⟩ (fun r => ∀ c : Dev Cert.NormMemBwdRefIdeal.nD,
          r.2.mem ((c.tc : Thread Cert.NormMemBwdRefIdeal.nD Cert.NormMemBwdRefIdeal.τ).loc Cert.NormMemBwdRefIdeal.main_v33) = v0 c
          ∧ r.2.mem ((c.tc : Thread Cert.NormMemBwdRefIdeal.nD Cert.NormMemBwdRefIdeal.τ).loc Cert.NormMemBwdRefIdeal.main_v17) = v1 c
          ∧ r.2.mem ((c.tc : Thread Cert.NormMemBwdRefIdeal.nD Cert.NormMemBwdRefIdeal.τ).loc Cert.NormMemBwdRefIdeal.main_arg0) = m' ((c.tc : Thread Cert.NormMemBwdRefIdeal.nD Cert.NormMemBwdRefIdeal.τ).loc Cert.NormMemBwdRefIdeal.main_arg0)
          ∧ r.2.mem ((c.tc : Thread Cert.NormMemBwdRefIdeal.nD Cert.NormMemBwdRefIdeal.τ).loc Cert.NormMemBwdRefIdeal.main_arg1) = m' ((c.tc : Thread Cert.NormMemBwdRefIdeal.nD Cert.NormMemBwdRefIdeal.τ).loc Cert.NormMemBwdRefIdeal.main_arg1)
          ∧ r.2.mem ((c.tc : Thread Cert.NormMemBwdRefIdeal.nD Cert.NormMemBwdRefIdeal.τ).loc Cert.NormMemBwdRefIdeal.main_arg2) = m' ((c.tc : Thread Cert.NormMemBwdRefIdeal.nD Cert.NormMemBwdRefIdeal.τ).loc Cert.NormMemBwdRefIdeal.main_arg2))

def preserves_NormFirstBwd_NormFirstBwdIdeal : Prop :=
  True

def algebraic_NormFirstBwdIdeal_NormFirstBwdRefIdeal [hNormFirstBwdIdeal : Cert.NormFirstBwdIdeal.Facts] [hNormFirstBwdRefIdeal : Cert.NormFirstBwdRefIdeal.Facts] : Prop :=
  ∀ (m : (ℓ : Loc Cert.NormFirstBwdIdeal.nD Cert.NormFirstBwdIdeal.τ Cert.NormFirstBwdIdeal.sig) → Buf (Elt Ideal) ℓ) (g : Dev Cert.NormFirstBwdIdeal.nD → PrngReg)
    (m' : (ℓ : Loc Cert.NormFirstBwdRefIdeal.nD Cert.NormFirstBwdRefIdeal.τ Cert.NormFirstBwdRefIdeal.sig) → Buf (Elt Ideal) ℓ) (g' : Dev Cert.NormFirstBwdRefIdeal.nD → PrngReg), Pre_NormFirstBwdIdeal m →
    (∀ c : Dev Cert.NormFirstBwdIdeal.nD,
      m' ((c.tc : Thread Cert.NormFirstBwdRefIdeal.nD Cert.NormFirstBwdRefIdeal.τ).loc Cert.NormFirstBwdRefIdeal.main_arg0) = m ((c.tc : Thread Cert.NormFirstBwdIdeal.nD Cert.NormFirstBwdIdeal.τ).loc Cert.NormFirstBwdIdeal.main_arg0)
      ∧ m' ((c.tc : Thread Cert.NormFirstBwdRefIdeal.nD Cert.NormFirstBwdRefIdeal.τ).loc Cert.NormFirstBwdRefIdeal.main_arg1) = m ((c.tc : Thread Cert.NormFirstBwdIdeal.nD Cert.NormFirstBwdIdeal.τ).loc Cert.NormFirstBwdIdeal.main_arg1)
      ∧ m' ((c.tc : Thread Cert.NormFirstBwdRefIdeal.nD Cert.NormFirstBwdRefIdeal.τ).loc Cert.NormFirstBwdRefIdeal.main_arg2) = m ((c.tc : Thread Cert.NormFirstBwdIdeal.nD Cert.NormFirstBwdIdeal.τ).loc Cert.NormFirstBwdIdeal.main_arg2)
      ∧ m' ((c.tc : Thread Cert.NormFirstBwdRefIdeal.nD Cert.NormFirstBwdRefIdeal.τ).loc Cert.NormFirstBwdRefIdeal.main_arg3) = m ((c.tc : Thread Cert.NormFirstBwdIdeal.nD Cert.NormFirstBwdIdeal.τ).loc Cert.NormFirstBwdIdeal.main_arg3)) →
    ∃ (v0 : (c : Dev Cert.NormFirstBwdIdeal.nD) → Buf (Elt Ideal) ((c.tc : Thread Cert.NormFirstBwdIdeal.nD Cert.NormFirstBwdIdeal.τ).loc Cert.NormFirstBwdIdeal.main_v0_0)) (v1 : (c : Dev Cert.NormFirstBwdIdeal.nD) → Buf (Elt Ideal) ((c.tc : Thread Cert.NormFirstBwdIdeal.nD Cert.NormFirstBwdIdeal.τ).loc Cert.NormFirstBwdIdeal.main_v0_1)),
      θ_run (Cert.NormFirstBwdIdeal.defs (F := Ideal)) (onTc (τ := Cert.NormFirstBwdIdeal.τ) (Cert.NormFirstBwdIdeal.main (F := Ideal))) ⟨m, fun _ => 0, g⟩ (fun r => ∀ c : Dev Cert.NormFirstBwdIdeal.nD,
          r.2.mem ((c.tc : Thread Cert.NormFirstBwdIdeal.nD Cert.NormFirstBwdIdeal.τ).loc Cert.NormFirstBwdIdeal.main_v0_0) = v0 c
          ∧ r.2.mem ((c.tc : Thread Cert.NormFirstBwdIdeal.nD Cert.NormFirstBwdIdeal.τ).loc Cert.NormFirstBwdIdeal.main_v0_1) = v1 c
          ∧ r.2.mem ((c.tc : Thread Cert.NormFirstBwdIdeal.nD Cert.NormFirstBwdIdeal.τ).loc Cert.NormFirstBwdIdeal.main_arg0) = m ((c.tc : Thread Cert.NormFirstBwdIdeal.nD Cert.NormFirstBwdIdeal.τ).loc Cert.NormFirstBwdIdeal.main_arg0)
          ∧ r.2.mem ((c.tc : Thread Cert.NormFirstBwdIdeal.nD Cert.NormFirstBwdIdeal.τ).loc Cert.NormFirstBwdIdeal.main_arg1) = m ((c.tc : Thread Cert.NormFirstBwdIdeal.nD Cert.NormFirstBwdIdeal.τ).loc Cert.NormFirstBwdIdeal.main_arg1)
          ∧ r.2.mem ((c.tc : Thread Cert.NormFirstBwdIdeal.nD Cert.NormFirstBwdIdeal.τ).loc Cert.NormFirstBwdIdeal.main_arg2) = m ((c.tc : Thread Cert.NormFirstBwdIdeal.nD Cert.NormFirstBwdIdeal.τ).loc Cert.NormFirstBwdIdeal.main_arg2)
          ∧ r.2.mem ((c.tc : Thread Cert.NormFirstBwdIdeal.nD Cert.NormFirstBwdIdeal.τ).loc Cert.NormFirstBwdIdeal.main_arg3) = m ((c.tc : Thread Cert.NormFirstBwdIdeal.nD Cert.NormFirstBwdIdeal.τ).loc Cert.NormFirstBwdIdeal.main_arg3))
      ∧ θ_run (Cert.NormFirstBwdRefIdeal.defs (F := Ideal)) (onTc (τ := Cert.NormFirstBwdRefIdeal.τ) (Cert.NormFirstBwdRefIdeal.main (F := Ideal))) ⟨m', fun _ => 0, g'⟩ (fun r => ∀ c : Dev Cert.NormFirstBwdRefIdeal.nD,
          r.2.mem ((c.tc : Thread Cert.NormFirstBwdRefIdeal.nD Cert.NormFirstBwdRefIdeal.τ).loc Cert.NormFirstBwdRefIdeal.main_v34) = v0 c
          ∧ r.2.mem ((c.tc : Thread Cert.NormFirstBwdRefIdeal.nD Cert.NormFirstBwdRefIdeal.τ).loc Cert.NormFirstBwdRefIdeal.main_v17) = v1 c
          ∧ r.2.mem ((c.tc : Thread Cert.NormFirstBwdRefIdeal.nD Cert.NormFirstBwdRefIdeal.τ).loc Cert.NormFirstBwdRefIdeal.main_arg0) = m' ((c.tc : Thread Cert.NormFirstBwdRefIdeal.nD Cert.NormFirstBwdRefIdeal.τ).loc Cert.NormFirstBwdRefIdeal.main_arg0)
          ∧ r.2.mem ((c.tc : Thread Cert.NormFirstBwdRefIdeal.nD Cert.NormFirstBwdRefIdeal.τ).loc Cert.NormFirstBwdRefIdeal.main_arg1) = m' ((c.tc : Thread Cert.NormFirstBwdRefIdeal.nD Cert.NormFirstBwdRefIdeal.τ).loc Cert.NormFirstBwdRefIdeal.main_arg1)
          ∧ r.2.mem ((c.tc : Thread Cert.NormFirstBwdRefIdeal.nD Cert.NormFirstBwdRefIdeal.τ).loc Cert.NormFirstBwdRefIdeal.main_arg2) = m' ((c.tc : Thread Cert.NormFirstBwdRefIdeal.nD Cert.NormFirstBwdRefIdeal.τ).loc Cert.NormFirstBwdRefIdeal.main_arg2)
          ∧ r.2.mem ((c.tc : Thread Cert.NormFirstBwdRefIdeal.nD Cert.NormFirstBwdRefIdeal.τ).loc Cert.NormFirstBwdRefIdeal.main_arg3) = m' ((c.tc : Thread Cert.NormFirstBwdRefIdeal.nD Cert.NormFirstBwdRefIdeal.τ).loc Cert.NormFirstBwdRefIdeal.main_arg3))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)) →
    ∃ (v0 : (c : Dev Cert.LossIdeal.nD) → Buf (Elt Ideal) ((c.tc : Thread Cert.LossIdeal.nD Cert.LossIdeal.τ).loc Cert.LossIdeal.main_v1)) (v1 : (c : Dev Cert.LossIdeal.nD) → Buf (Elt Ideal) ((c.tc : Thread Cert.LossIdeal.nD Cert.LossIdeal.τ).loc Cert.LossIdeal.main_v0_0)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v1) = v0 c
          ∧ r.2.mem ((c.tc : Thread Cert.LossIdeal.nD Cert.LossIdeal.τ).loc Cert.LossIdeal.main_v0_0) = v1 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v8) = v0 c
          ∧ r.2.mem ((c.tc : Thread Cert.LossRefIdeal.nD Cert.LossRefIdeal.τ).loc Cert.LossRefIdeal.main_v14) = v1 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1))

def preserves_DownBwd_DownBwdIdeal : Prop :=
  True

def algebraic_DownBwdIdeal_DownBwdRefIdeal [hDownBwdIdeal : Cert.DownBwdIdeal.Facts] [hDownBwdRefIdeal : Cert.DownBwdRefIdeal.Facts] : Prop :=
  ∀ (m : (ℓ : Loc Cert.DownBwdIdeal.nD Cert.DownBwdIdeal.τ Cert.DownBwdIdeal.sig) → Buf (Elt Ideal) ℓ) (g : Dev Cert.DownBwdIdeal.nD → PrngReg)
    (m' : (ℓ : Loc Cert.DownBwdRefIdeal.nD Cert.DownBwdRefIdeal.τ Cert.DownBwdRefIdeal.sig) → Buf (Elt Ideal) ℓ) (g' : Dev Cert.DownBwdRefIdeal.nD → PrngReg), Pre_DownBwdIdeal m →
    (∀ c : Dev Cert.DownBwdIdeal.nD,
      m' ((c.tc : Thread Cert.DownBwdRefIdeal.nD Cert.DownBwdRefIdeal.τ).loc Cert.DownBwdRefIdeal.main_arg0) = m ((c.tc : Thread Cert.DownBwdIdeal.nD Cert.DownBwdIdeal.τ).loc Cert.DownBwdIdeal.main_arg0)
      ∧ m' ((c.tc : Thread Cert.DownBwdRefIdeal.nD Cert.DownBwdRefIdeal.τ).loc Cert.DownBwdRefIdeal.main_arg1) = m ((c.tc : Thread Cert.DownBwdIdeal.nD Cert.DownBwdIdeal.τ).loc Cert.DownBwdIdeal.main_arg1)
      ∧ m' ((c.tc : Thread Cert.DownBwdRefIdeal.nD Cert.DownBwdRefIdeal.τ).loc Cert.DownBwdRefIdeal.main_arg2) = m ((c.tc : Thread Cert.DownBwdIdeal.nD Cert.DownBwdIdeal.τ).loc Cert.DownBwdIdeal.main_arg2)) →
    ∃ (v0 : (c : Dev Cert.DownBwdIdeal.nD) → Buf (Elt Ideal) ((c.tc : Thread Cert.DownBwdIdeal.nD Cert.DownBwdIdeal.τ).loc Cert.DownBwdIdeal.main_v0)),
      θ_run (Cert.DownBwdIdeal.defs (F := Ideal)) (onTc (τ := Cert.DownBwdIdeal.τ) (Cert.DownBwdIdeal.main (F := Ideal))) ⟨m, fun _ => 0, g⟩ (fun r => ∀ c : Dev Cert.DownBwdIdeal.nD,
          r.2.mem ((c.tc : Thread Cert.DownBwdIdeal.nD Cert.DownBwdIdeal.τ).loc Cert.DownBwdIdeal.main_v0) = v0 c
          ∧ r.2.mem ((c.tc : Thread Cert.DownBwdIdeal.nD Cert.DownBwdIdeal.τ).loc Cert.DownBwdIdeal.main_arg0) = m ((c.tc : Thread Cert.DownBwdIdeal.nD Cert.DownBwdIdeal.τ).loc Cert.DownBwdIdeal.main_arg0)
          ∧ r.2.mem ((c.tc : Thread Cert.DownBwdIdeal.nD Cert.DownBwdIdeal.τ).loc Cert.DownBwdIdeal.main_arg1) = m ((c.tc : Thread Cert.DownBwdIdeal.nD Cert.DownBwdIdeal.τ).loc Cert.DownBwdIdeal.main_arg1)
          ∧ r.2.mem ((c.tc : Thread Cert.DownBwdIdeal.nD Cert.DownBwdIdeal.τ).loc Cert.DownBwdIdeal.main_arg2) = m ((c.tc : Thread Cert.DownBwdIdeal.nD Cert.DownBwdIdeal.τ).loc Cert.DownBwdIdeal.main_arg2))
      ∧ θ_run (Cert.DownBwdRefIdeal.defs (F := Ideal)) (onTc (τ := Cert.DownBwdRefIdeal.τ) (Cert.DownBwdRefIdeal.main (F := Ideal))) ⟨m', fun _ => 0, g'⟩ (fun r => ∀ c : Dev Cert.DownBwdRefIdeal.nD,
          r.2.mem ((c.tc : Thread Cert.DownBwdRefIdeal.nD Cert.DownBwdRefIdeal.τ).loc Cert.DownBwdRefIdeal.main_v15) = v0 c
          ∧ r.2.mem ((c.tc : Thread Cert.DownBwdRefIdeal.nD Cert.DownBwdRefIdeal.τ).loc Cert.DownBwdRefIdeal.main_arg0) = m' ((c.tc : Thread Cert.DownBwdRefIdeal.nD Cert.DownBwdRefIdeal.τ).loc Cert.DownBwdRefIdeal.main_arg0)
          ∧ r.2.mem ((c.tc : Thread Cert.DownBwdRefIdeal.nD Cert.DownBwdRefIdeal.τ).loc Cert.DownBwdRefIdeal.main_arg1) = m' ((c.tc : Thread Cert.DownBwdRefIdeal.nD Cert.DownBwdRefIdeal.τ).loc Cert.DownBwdRefIdeal.main_arg1)
          ∧ r.2.mem ((c.tc : Thread Cert.DownBwdRefIdeal.nD Cert.DownBwdRefIdeal.τ).loc Cert.DownBwdRefIdeal.main_arg2) = m' ((c.tc : Thread Cert.DownBwdRefIdeal.nD Cert.DownBwdRefIdeal.τ).loc Cert.DownBwdRefIdeal.main_arg2))

def preserves_GmlpBwd_GmlpBwdIdeal : Prop :=
  True

def algebraic_GmlpBwdIdeal_GmlpBwdRefIdeal_pre_gmlp_bwd_finite [hGmlpBwdIdeal : Cert.GmlpBwdIdeal.Facts] [hGmlpBwdRefIdeal : Cert.GmlpBwdRefIdeal.Facts] [hPre_gmlp_bwd_finite : Cert.Pre_gmlp_bwd_finite.Facts] : Prop :=
  ∀ (m : (ℓ : Loc Cert.GmlpBwdIdeal.nD Cert.GmlpBwdIdeal.τ Cert.GmlpBwdIdeal.sig) → Buf (Elt Ideal) ℓ) (g : Dev Cert.GmlpBwdIdeal.nD → PrngReg)
    (m' : (ℓ : Loc Cert.GmlpBwdRefIdeal.nD Cert.GmlpBwdRefIdeal.τ Cert.GmlpBwdRefIdeal.sig) → Buf (Elt Ideal) ℓ) (g' : Dev Cert.GmlpBwdRefIdeal.nD → PrngReg), Pre_GmlpBwdIdeal_gmlp_bwd_finite m →
    (∀ c : Dev Cert.GmlpBwdIdeal.nD,
      m' ((c.tc : Thread Cert.GmlpBwdRefIdeal.nD Cert.GmlpBwdRefIdeal.τ).loc Cert.GmlpBwdRefIdeal.main_arg0) = m ((c.tc : Thread Cert.GmlpBwdIdeal.nD Cert.GmlpBwdIdeal.τ).loc Cert.GmlpBwdIdeal.main_arg0)
      ∧ m' ((c.tc : Thread Cert.GmlpBwdRefIdeal.nD Cert.GmlpBwdRefIdeal.τ).loc Cert.GmlpBwdRefIdeal.main_arg1) = m ((c.tc : Thread Cert.GmlpBwdIdeal.nD Cert.GmlpBwdIdeal.τ).loc Cert.GmlpBwdIdeal.main_arg1)
      ∧ m' ((c.tc : Thread Cert.GmlpBwdRefIdeal.nD Cert.GmlpBwdRefIdeal.τ).loc Cert.GmlpBwdRefIdeal.main_arg2) = m ((c.tc : Thread Cert.GmlpBwdIdeal.nD Cert.GmlpBwdIdeal.τ).loc Cert.GmlpBwdIdeal.main_arg2)
      ∧ m' ((c.tc : Thread Cert.GmlpBwdRefIdeal.nD Cert.GmlpBwdRefIdeal.τ).loc Cert.GmlpBwdRefIdeal.main_arg3) = m ((c.tc : Thread Cert.GmlpBwdIdeal.nD Cert.GmlpBwdIdeal.τ).loc Cert.GmlpBwdIdeal.main_arg3)
      ∧ m' ((c.tc : Thread Cert.GmlpBwdRefIdeal.nD Cert.GmlpBwdRefIdeal.τ).loc Cert.GmlpBwdRefIdeal.main_arg4) = m ((c.tc : Thread Cert.GmlpBwdIdeal.nD Cert.GmlpBwdIdeal.τ).loc Cert.GmlpBwdIdeal.main_arg4)) →
    ∃ (v0 : (c : Dev Cert.GmlpBwdIdeal.nD) → Buf (Elt Ideal) ((c.tc : Thread Cert.GmlpBwdIdeal.nD Cert.GmlpBwdIdeal.τ).loc Cert.GmlpBwdIdeal.main_v2_0)) (v1 : (c : Dev Cert.GmlpBwdIdeal.nD) → Buf (Elt Ideal) ((c.tc : Thread Cert.GmlpBwdIdeal.nD Cert.GmlpBwdIdeal.τ).loc Cert.GmlpBwdIdeal.main_v2_1)) (v2 : (c : Dev Cert.GmlpBwdIdeal.nD) → Buf (Elt Ideal) ((c.tc : Thread Cert.GmlpBwdIdeal.nD Cert.GmlpBwdIdeal.τ).loc Cert.GmlpBwdIdeal.main_v2_2)) (v3 : (c : Dev Cert.GmlpBwdIdeal.nD) → Buf (Elt Ideal) ((c.tc : Thread Cert.GmlpBwdIdeal.nD Cert.GmlpBwdIdeal.τ).loc Cert.GmlpBwdIdeal.main_v2_3)) (v4 : (c : Dev Cert.GmlpBwdIdeal.nD) → Buf (Elt Ideal) ((c.tc : Thread Cert.GmlpBwdIdeal.nD Cert.GmlpBwdIdeal.τ).loc Cert.GmlpBwdIdeal.main_v2_4)),
      θ_run (Cert.GmlpBwdIdeal.defs (F := Ideal)) (onTc (τ := Cert.GmlpBwdIdeal.τ) (Cert.GmlpBwdIdeal.main (F := Ideal))) ⟨m, fun _ => 0, g⟩ (fun r => ∀ c : Dev Cert.GmlpBwdIdeal.nD,
          r.2.mem ((c.tc : Thread Cert.GmlpBwdIdeal.nD Cert.GmlpBwdIdeal.τ).loc Cert.GmlpBwdIdeal.main_v2_0) = v0 c
          ∧ r.2.mem ((c.tc : Thread Cert.GmlpBwdIdeal.nD Cert.GmlpBwdIdeal.τ).loc Cert.GmlpBwdIdeal.main_v2_1) = v1 c
          ∧ r.2.mem ((c.tc : Thread Cert.GmlpBwdIdeal.nD Cert.GmlpBwdIdeal.τ).loc Cert.GmlpBwdIdeal.main_v2_2) = v2 c
          ∧ r.2.mem ((c.tc : Thread Cert.GmlpBwdIdeal.nD Cert.GmlpBwdIdeal.τ).loc Cert.GmlpBwdIdeal.main_v2_3) = v3 c
          ∧ r.2.mem ((c.tc : Thread Cert.GmlpBwdIdeal.nD Cert.GmlpBwdIdeal.τ).loc Cert.GmlpBwdIdeal.main_v2_4) = v4 c
          ∧ r.2.mem ((c.tc : Thread Cert.GmlpBwdIdeal.nD Cert.GmlpBwdIdeal.τ).loc Cert.GmlpBwdIdeal.main_arg0) = m ((c.tc : Thread Cert.GmlpBwdIdeal.nD Cert.GmlpBwdIdeal.τ).loc Cert.GmlpBwdIdeal.main_arg0)
          ∧ r.2.mem ((c.tc : Thread Cert.GmlpBwdIdeal.nD Cert.GmlpBwdIdeal.τ).loc Cert.GmlpBwdIdeal.main_arg1) = m ((c.tc : Thread Cert.GmlpBwdIdeal.nD Cert.GmlpBwdIdeal.τ).loc Cert.GmlpBwdIdeal.main_arg1)
          ∧ r.2.mem ((c.tc : Thread Cert.GmlpBwdIdeal.nD Cert.GmlpBwdIdeal.τ).loc Cert.GmlpBwdIdeal.main_arg2) = m ((c.tc : Thread Cert.GmlpBwdIdeal.nD Cert.GmlpBwdIdeal.τ).loc Cert.GmlpBwdIdeal.main_arg2)
          ∧ r.2.mem ((c.tc : Thread Cert.GmlpBwdIdeal.nD Cert.GmlpBwdIdeal.τ).loc Cert.GmlpBwdIdeal.main_arg3) = m ((c.tc : Thread Cert.GmlpBwdIdeal.nD Cert.GmlpBwdIdeal.τ).loc Cert.GmlpBwdIdeal.main_arg3)
          ∧ r.2.mem ((c.tc : Thread Cert.GmlpBwdIdeal.nD Cert.GmlpBwdIdeal.τ).loc Cert.GmlpBwdIdeal.main_arg4) = m ((c.tc : Thread Cert.GmlpBwdIdeal.nD Cert.GmlpBwdIdeal.τ).loc Cert.GmlpBwdIdeal.main_arg4))
      ∧ θ_run (Cert.GmlpBwdRefIdeal.defs (F := Ideal)) (onTc (τ := Cert.GmlpBwdRefIdeal.τ) (Cert.GmlpBwdRefIdeal.main (F := Ideal))) ⟨m', fun _ => 0, g'⟩ (fun r => ∀ c : Dev Cert.GmlpBwdRefIdeal.nD,
          r.2.mem ((c.tc : Thread Cert.GmlpBwdRefIdeal.nD Cert.GmlpBwdRefIdeal.τ).loc Cert.GmlpBwdRefIdeal.main_v159) = v0 c
          ∧ r.2.mem ((c.tc : Thread Cert.GmlpBwdRefIdeal.nD Cert.GmlpBwdRefIdeal.τ).loc Cert.GmlpBwdRefIdeal.main_v160) = v1 c
          ∧ r.2.mem ((c.tc : Thread Cert.GmlpBwdRefIdeal.nD Cert.GmlpBwdRefIdeal.τ).loc Cert.GmlpBwdRefIdeal.main_v161) = v2 c
          ∧ r.2.mem ((c.tc : Thread Cert.GmlpBwdRefIdeal.nD Cert.GmlpBwdRefIdeal.τ).loc Cert.GmlpBwdRefIdeal.main_v101) = v3 c
          ∧ r.2.mem ((c.tc : Thread Cert.GmlpBwdRefIdeal.nD Cert.GmlpBwdRefIdeal.τ).loc Cert.GmlpBwdRefIdeal.main_v162) = v4 c
          ∧ r.2.mem ((c.tc : Thread Cert.GmlpBwdRefIdeal.nD Cert.GmlpBwdRefIdeal.τ).loc Cert.GmlpBwdRefIdeal.main_arg0) = m' ((c.tc : Thread Cert.GmlpBwdRefIdeal.nD Cert.GmlpBwdRefIdeal.τ).loc Cert.GmlpBwdRefIdeal.main_arg0)
          ∧ r.2.mem ((c.tc : Thread Cert.GmlpBwdRefIdeal.nD Cert.GmlpBwdRefIdeal.τ).loc Cert.GmlpBwdRefIdeal.main_arg1) = m' ((c.tc : Thread Cert.GmlpBwdRefIdeal.nD Cert.GmlpBwdRefIdeal.τ).loc Cert.GmlpBwdRefIdeal.main_arg1)
          ∧ r.2.mem ((c.tc : Thread Cert.GmlpBwdRefIdeal.nD Cert.GmlpBwdRefIdeal.τ).loc Cert.GmlpBwdRefIdeal.main_arg2) = m' ((c.tc : Thread Cert.GmlpBwdRefIdeal.nD Cert.GmlpBwdRefIdeal.τ).loc Cert.GmlpBwdRefIdeal.main_arg2)
          ∧ r.2.mem ((c.tc : Thread Cert.GmlpBwdRefIdeal.nD Cert.GmlpBwdRefIdeal.τ).loc Cert.GmlpBwdRefIdeal.main_arg3) = m' ((c.tc : Thread Cert.GmlpBwdRefIdeal.nD Cert.GmlpBwdRefIdeal.τ).loc Cert.GmlpBwdRefIdeal.main_arg3)
          ∧ r.2.mem ((c.tc : Thread Cert.GmlpBwdRefIdeal.nD Cert.GmlpBwdRefIdeal.τ).loc Cert.GmlpBwdRefIdeal.main_arg4) = m' ((c.tc : Thread Cert.GmlpBwdRefIdeal.nD Cert.GmlpBwdRefIdeal.τ).loc Cert.GmlpBwdRefIdeal.main_arg4))

def preserves_PoolBwd_PoolBwdIdeal : Prop :=
  True

def algebraic_PoolBwdIdeal_PoolBwdRefIdeal_pre_pool_bwd_finite [hPoolBwdIdeal : Cert.PoolBwdIdeal.Facts] [hPoolBwdRefIdeal : Cert.PoolBwdRefIdeal.Facts] [hPre_pool_bwd_finite : Cert.Pre_pool_bwd_finite.Facts] : Prop :=
  ∀ (m : (ℓ : Loc Cert.PoolBwdIdeal.nD Cert.PoolBwdIdeal.τ Cert.PoolBwdIdeal.sig) → Buf (Elt Ideal) ℓ) (g : Dev Cert.PoolBwdIdeal.nD → PrngReg)
    (m' : (ℓ : Loc Cert.PoolBwdRefIdeal.nD Cert.PoolBwdRefIdeal.τ Cert.PoolBwdRefIdeal.sig) → Buf (Elt Ideal) ℓ) (g' : Dev Cert.PoolBwdRefIdeal.nD → PrngReg), Pre_PoolBwdIdeal_pool_bwd_finite m →
    (∀ c : Dev Cert.PoolBwdIdeal.nD,
      m' ((c.tc : Thread Cert.PoolBwdRefIdeal.nD Cert.PoolBwdRefIdeal.τ).loc Cert.PoolBwdRefIdeal.main_arg0) = m ((c.tc : Thread Cert.PoolBwdIdeal.nD Cert.PoolBwdIdeal.τ).loc Cert.PoolBwdIdeal.main_arg0)
      ∧ m' ((c.tc : Thread Cert.PoolBwdRefIdeal.nD Cert.PoolBwdRefIdeal.τ).loc Cert.PoolBwdRefIdeal.main_arg1) = m ((c.tc : Thread Cert.PoolBwdIdeal.nD Cert.PoolBwdIdeal.τ).loc Cert.PoolBwdIdeal.main_arg1)
      ∧ m' ((c.tc : Thread Cert.PoolBwdRefIdeal.nD Cert.PoolBwdRefIdeal.τ).loc Cert.PoolBwdRefIdeal.main_arg2) = m ((c.tc : Thread Cert.PoolBwdIdeal.nD Cert.PoolBwdIdeal.τ).loc Cert.PoolBwdIdeal.main_arg2)
      ∧ m' ((c.tc : Thread Cert.PoolBwdRefIdeal.nD Cert.PoolBwdRefIdeal.τ).loc Cert.PoolBwdRefIdeal.main_arg3) = m ((c.tc : Thread Cert.PoolBwdIdeal.nD Cert.PoolBwdIdeal.τ).loc Cert.PoolBwdIdeal.main_arg3)) →
    ∃ (v0 : (c : Dev Cert.PoolBwdIdeal.nD) → Buf (Elt Ideal) ((c.tc : Thread Cert.PoolBwdIdeal.nD Cert.PoolBwdIdeal.τ).loc Cert.PoolBwdIdeal.main_v0_0)) (v1 : (c : Dev Cert.PoolBwdIdeal.nD) → Buf (Elt Ideal) ((c.tc : Thread Cert.PoolBwdIdeal.nD Cert.PoolBwdIdeal.τ).loc Cert.PoolBwdIdeal.main_v0_1)) (v2 : (c : Dev Cert.PoolBwdIdeal.nD) → Buf (Elt Ideal) ((c.tc : Thread Cert.PoolBwdIdeal.nD Cert.PoolBwdIdeal.τ).loc Cert.PoolBwdIdeal.main_v0_2)),
      θ_run (Cert.PoolBwdIdeal.defs (F := Ideal)) (onTc (τ := Cert.PoolBwdIdeal.τ) (Cert.PoolBwdIdeal.main (F := Ideal))) ⟨m, fun _ => 0, g⟩ (fun r => ∀ c : Dev Cert.PoolBwdIdeal.nD,
          r.2.mem ((c.tc : Thread Cert.PoolBwdIdeal.nD Cert.PoolBwdIdeal.τ).loc Cert.PoolBwdIdeal.main_v0_0) = v0 c
          ∧ r.2.mem ((c.tc : Thread Cert.PoolBwdIdeal.nD Cert.PoolBwdIdeal.τ).loc Cert.PoolBwdIdeal.main_v0_1) = v1 c
          ∧ r.2.mem ((c.tc : Thread Cert.PoolBwdIdeal.nD Cert.PoolBwdIdeal.τ).loc Cert.PoolBwdIdeal.main_v0_2) = v2 c
          ∧ r.2.mem ((c.tc : Thread Cert.PoolBwdIdeal.nD Cert.PoolBwdIdeal.τ).loc Cert.PoolBwdIdeal.main_arg0) = m ((c.tc : Thread Cert.PoolBwdIdeal.nD Cert.PoolBwdIdeal.τ).loc Cert.PoolBwdIdeal.main_arg0)
          ∧ r.2.mem ((c.tc : Thread Cert.PoolBwdIdeal.nD Cert.PoolBwdIdeal.τ).loc Cert.PoolBwdIdeal.main_arg1) = m ((c.tc : Thread Cert.PoolBwdIdeal.nD Cert.PoolBwdIdeal.τ).loc Cert.PoolBwdIdeal.main_arg1)
          ∧ r.2.mem ((c.tc : Thread Cert.PoolBwdIdeal.nD Cert.PoolBwdIdeal.τ).loc Cert.PoolBwdIdeal.main_arg2) = m ((c.tc : Thread Cert.PoolBwdIdeal.nD Cert.PoolBwdIdeal.τ).loc Cert.PoolBwdIdeal.main_arg2)
          ∧ r.2.mem ((c.tc : Thread Cert.PoolBwdIdeal.nD Cert.PoolBwdIdeal.τ).loc Cert.PoolBwdIdeal.main_arg3) = m ((c.tc : Thread Cert.PoolBwdIdeal.nD Cert.PoolBwdIdeal.τ).loc Cert.PoolBwdIdeal.main_arg3))
      ∧ θ_run (Cert.PoolBwdRefIdeal.defs (F := Ideal)) (onTc (τ := Cert.PoolBwdRefIdeal.τ) (Cert.PoolBwdRefIdeal.main (F := Ideal))) ⟨m', fun _ => 0, g'⟩ (fun r => ∀ c : Dev Cert.PoolBwdRefIdeal.nD,
          r.2.mem ((c.tc : Thread Cert.PoolBwdRefIdeal.nD Cert.PoolBwdRefIdeal.τ).loc Cert.PoolBwdRefIdeal.main_v131) = v0 c
          ∧ r.2.mem ((c.tc : Thread Cert.PoolBwdRefIdeal.nD Cert.PoolBwdRefIdeal.τ).loc Cert.PoolBwdRefIdeal.main_v81) = v1 c
          ∧ r.2.mem ((c.tc : Thread Cert.PoolBwdRefIdeal.nD Cert.PoolBwdRefIdeal.τ).loc Cert.PoolBwdRefIdeal.main_v76) = v2 c
          ∧ r.2.mem ((c.tc : Thread Cert.PoolBwdRefIdeal.nD Cert.PoolBwdRefIdeal.τ).loc Cert.PoolBwdRefIdeal.main_arg0) = m' ((c.tc : Thread Cert.PoolBwdRefIdeal.nD Cert.PoolBwdRefIdeal.τ).loc Cert.PoolBwdRefIdeal.main_arg0)
          ∧ r.2.mem ((c.tc : Thread Cert.PoolBwdRefIdeal.nD Cert.PoolBwdRefIdeal.τ).loc Cert.PoolBwdRefIdeal.main_arg1) = m' ((c.tc : Thread Cert.PoolBwdRefIdeal.nD Cert.PoolBwdRefIdeal.τ).loc Cert.PoolBwdRefIdeal.main_arg1)
          ∧ r.2.mem ((c.tc : Thread Cert.PoolBwdRefIdeal.nD Cert.PoolBwdRefIdeal.τ).loc Cert.PoolBwdRefIdeal.main_arg2) = m' ((c.tc : Thread Cert.PoolBwdRefIdeal.nD Cert.PoolBwdRefIdeal.τ).loc Cert.PoolBwdRefIdeal.main_arg2)
          ∧ r.2.mem ((c.tc : Thread Cert.PoolBwdRefIdeal.nD Cert.PoolBwdRefIdeal.τ).loc Cert.PoolBwdRefIdeal.main_arg3) = m' ((c.tc : Thread Cert.PoolBwdRefIdeal.nD Cert.PoolBwdRefIdeal.τ).loc Cert.PoolBwdRefIdeal.main_arg3))

def preserves_SwishBwd_SwishBwdIdeal : Prop :=
  True

def algebraic_SwishBwdIdeal_SwishBwdRefIdeal_pre_swish_bwd_finite [hSwishBwdIdeal : Cert.SwishBwdIdeal.Facts] [hSwishBwdRefIdeal : Cert.SwishBwdRefIdeal.Facts] [hPre_swish_bwd_finite : Cert.Pre_swish_bwd_finite.Facts] : Prop :=
  ∀ (m : (ℓ : Loc Cert.SwishBwdIdeal.nD Cert.SwishBwdIdeal.τ Cert.SwishBwdIdeal.sig) → Buf (Elt Ideal) ℓ) (g : Dev Cert.SwishBwdIdeal.nD → PrngReg)
    (m' : (ℓ : Loc Cert.SwishBwdRefIdeal.nD Cert.SwishBwdRefIdeal.τ Cert.SwishBwdRefIdeal.sig) → Buf (Elt Ideal) ℓ) (g' : Dev Cert.SwishBwdRefIdeal.nD → PrngReg), Pre_SwishBwdIdeal_swish_bwd_finite m →
    (∀ c : Dev Cert.SwishBwdIdeal.nD,
      m' ((c.tc : Thread Cert.SwishBwdRefIdeal.nD Cert.SwishBwdRefIdeal.τ).loc Cert.SwishBwdRefIdeal.main_arg0) = m ((c.tc : Thread Cert.SwishBwdIdeal.nD Cert.SwishBwdIdeal.τ).loc Cert.SwishBwdIdeal.main_arg0)
      ∧ m' ((c.tc : Thread Cert.SwishBwdRefIdeal.nD Cert.SwishBwdRefIdeal.τ).loc Cert.SwishBwdRefIdeal.main_arg1) = m ((c.tc : Thread Cert.SwishBwdIdeal.nD Cert.SwishBwdIdeal.τ).loc Cert.SwishBwdIdeal.main_arg1)
      ∧ m' ((c.tc : Thread Cert.SwishBwdRefIdeal.nD Cert.SwishBwdRefIdeal.τ).loc Cert.SwishBwdRefIdeal.main_arg2) = m ((c.tc : Thread Cert.SwishBwdIdeal.nD Cert.SwishBwdIdeal.τ).loc Cert.SwishBwdIdeal.main_arg2)
      ∧ m' ((c.tc : Thread Cert.SwishBwdRefIdeal.nD Cert.SwishBwdRefIdeal.τ).loc Cert.SwishBwdRefIdeal.main_arg3) = m ((c.tc : Thread Cert.SwishBwdIdeal.nD Cert.SwishBwdIdeal.τ).loc Cert.SwishBwdIdeal.main_arg3)) →
    ∃ (v0 : (c : Dev Cert.SwishBwdIdeal.nD) → Buf (Elt Ideal) ((c.tc : Thread Cert.SwishBwdIdeal.nD Cert.SwishBwdIdeal.τ).loc Cert.SwishBwdIdeal.main_v0_0)) (v1 : (c : Dev Cert.SwishBwdIdeal.nD) → Buf (Elt Ideal) ((c.tc : Thread Cert.SwishBwdIdeal.nD Cert.SwishBwdIdeal.τ).loc Cert.SwishBwdIdeal.main_v0_1)) (v2 : (c : Dev Cert.SwishBwdIdeal.nD) → Buf (Elt Ideal) ((c.tc : Thread Cert.SwishBwdIdeal.nD Cert.SwishBwdIdeal.τ).loc Cert.SwishBwdIdeal.main_v0_2)),
      θ_run (Cert.SwishBwdIdeal.defs (F := Ideal)) (onTc (τ := Cert.SwishBwdIdeal.τ) (Cert.SwishBwdIdeal.main (F := Ideal))) ⟨m, fun _ => 0, g⟩ (fun r => ∀ c : Dev Cert.SwishBwdIdeal.nD,
          r.2.mem ((c.tc : Thread Cert.SwishBwdIdeal.nD Cert.SwishBwdIdeal.τ).loc Cert.SwishBwdIdeal.main_v0_0) = v0 c
          ∧ r.2.mem ((c.tc : Thread Cert.SwishBwdIdeal.nD Cert.SwishBwdIdeal.τ).loc Cert.SwishBwdIdeal.main_v0_1) = v1 c
          ∧ r.2.mem ((c.tc : Thread Cert.SwishBwdIdeal.nD Cert.SwishBwdIdeal.τ).loc Cert.SwishBwdIdeal.main_v0_2) = v2 c
          ∧ r.2.mem ((c.tc : Thread Cert.SwishBwdIdeal.nD Cert.SwishBwdIdeal.τ).loc Cert.SwishBwdIdeal.main_arg0) = m ((c.tc : Thread Cert.SwishBwdIdeal.nD Cert.SwishBwdIdeal.τ).loc Cert.SwishBwdIdeal.main_arg0)
          ∧ r.2.mem ((c.tc : Thread Cert.SwishBwdIdeal.nD Cert.SwishBwdIdeal.τ).loc Cert.SwishBwdIdeal.main_arg1) = m ((c.tc : Thread Cert.SwishBwdIdeal.nD Cert.SwishBwdIdeal.τ).loc Cert.SwishBwdIdeal.main_arg1)
          ∧ r.2.mem ((c.tc : Thread Cert.SwishBwdIdeal.nD Cert.SwishBwdIdeal.τ).loc Cert.SwishBwdIdeal.main_arg2) = m ((c.tc : Thread Cert.SwishBwdIdeal.nD Cert.SwishBwdIdeal.τ).loc Cert.SwishBwdIdeal.main_arg2)
          ∧ r.2.mem ((c.tc : Thread Cert.SwishBwdIdeal.nD Cert.SwishBwdIdeal.τ).loc Cert.SwishBwdIdeal.main_arg3) = m ((c.tc : Thread Cert.SwishBwdIdeal.nD Cert.SwishBwdIdeal.τ).loc Cert.SwishBwdIdeal.main_arg3))
      ∧ θ_run (Cert.SwishBwdRefIdeal.defs (F := Ideal)) (onTc (τ := Cert.SwishBwdRefIdeal.τ) (Cert.SwishBwdRefIdeal.main (F := Ideal))) ⟨m', fun _ => 0, g'⟩ (fun r => ∀ c : Dev Cert.SwishBwdRefIdeal.nD,
          r.2.mem ((c.tc : Thread Cert.SwishBwdRefIdeal.nD Cert.SwishBwdRefIdeal.τ).loc Cert.SwishBwdRefIdeal.main_v60) = v0 c
          ∧ r.2.mem ((c.tc : Thread Cert.SwishBwdRefIdeal.nD Cert.SwishBwdRefIdeal.τ).loc Cert.SwishBwdRefIdeal.main_v34) = v1 c
          ∧ r.2.mem ((c.tc : Thread Cert.SwishBwdRefIdeal.nD Cert.SwishBwdRefIdeal.τ).loc Cert.SwishBwdRefIdeal.main_v31) = v2 c
          ∧ r.2.mem ((c.tc : Thread Cert.SwishBwdRefIdeal.nD Cert.SwishBwdRefIdeal.τ).loc Cert.SwishBwdRefIdeal.main_arg0) = m' ((c.tc : Thread Cert.SwishBwdRefIdeal.nD Cert.SwishBwdRefIdeal.τ).loc Cert.SwishBwdRefIdeal.main_arg0)
          ∧ r.2.mem ((c.tc : Thread Cert.SwishBwdRefIdeal.nD Cert.SwishBwdRefIdeal.τ).loc Cert.SwishBwdRefIdeal.main_arg1) = m' ((c.tc : Thread Cert.SwishBwdRefIdeal.nD Cert.SwishBwdRefIdeal.τ).loc Cert.SwishBwdRefIdeal.main_arg1)
          ∧ r.2.mem ((c.tc : Thread Cert.SwishBwdRefIdeal.nD Cert.SwishBwdRefIdeal.τ).loc Cert.SwishBwdRefIdeal.main_arg2) = m' ((c.tc : Thread Cert.SwishBwdRefIdeal.nD Cert.SwishBwdRefIdeal.τ).loc Cert.SwishBwdRefIdeal.main_arg2)
          ∧ r.2.mem ((c.tc : Thread Cert.SwishBwdRefIdeal.nD Cert.SwishBwdRefIdeal.τ).loc Cert.SwishBwdRefIdeal.main_arg3) = m' ((c.tc : Thread Cert.SwishBwdRefIdeal.nD Cert.SwishBwdRefIdeal.τ).loc Cert.SwishBwdRefIdeal.main_arg3))

def preserves_AttnFwd_AttnFwdIdeal : Prop :=
  True

def algebraic_AttnFwdIdeal_AttnFwdRefIdeal [hAttnFwdIdeal : Cert.AttnFwdIdeal.Facts] [hAttnFwdRefIdeal : Cert.AttnFwdRefIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdRefIdeal.nD Cert.AttnFwdRefIdeal.τ Cert.AttnFwdRefIdeal.sig) → Buf (Elt Ideal) ℓ) (g' : Dev Cert.AttnFwdRefIdeal.nD → PrngReg), Pre_AttnFwdIdeal m →
    (∀ c : Dev Cert.AttnFwdIdeal.nD,
      m' ((c.tc : Thread Cert.AttnFwdRefIdeal.nD Cert.AttnFwdRefIdeal.τ).loc Cert.AttnFwdRefIdeal.main_arg0) = m ((c.tc : Thread Cert.AttnFwdIdeal.nD Cert.AttnFwdIdeal.τ).loc Cert.AttnFwdIdeal.main_arg0)
      ∧ m' ((c.tc : Thread Cert.AttnFwdRefIdeal.nD Cert.AttnFwdRefIdeal.τ).loc Cert.AttnFwdRefIdeal.main_arg1) = m ((c.tc : Thread Cert.AttnFwdIdeal.nD Cert.AttnFwdIdeal.τ).loc Cert.AttnFwdIdeal.main_arg1)
      ∧ m' ((c.tc : Thread Cert.AttnFwdRefIdeal.nD Cert.AttnFwdRefIdeal.τ).loc Cert.AttnFwdRefIdeal.main_arg2) = m ((c.tc : Thread Cert.AttnFwdIdeal.nD Cert.AttnFwdIdeal.τ).loc Cert.AttnFwdIdeal.main_arg2)) →
    ∃ (v0 : (c : Dev Cert.AttnFwdIdeal.nD) → Buf (Elt Ideal) ((c.tc : Thread Cert.AttnFwdIdeal.nD Cert.AttnFwdIdeal.τ).loc Cert.AttnFwdIdeal.main_v0)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v0) = v0 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
          ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ θ_run (Cert.AttnFwdRefIdeal.defs (F := Ideal)) (onTc (τ := Cert.AttnFwdRefIdeal.τ) (Cert.AttnFwdRefIdeal.main (F := Ideal))) ⟨m', fun _ => 0, g'⟩ (fun r => ∀ c : Dev Cert.AttnFwdRefIdeal.nD,
          r.2.mem ((c.tc : Thread Cert.AttnFwdRefIdeal.nD Cert.AttnFwdRefIdeal.τ).loc Cert.AttnFwdRefIdeal.main_v23) = v0 c
          ∧ r.2.mem ((c.tc : Thread Cert.AttnFwdRefIdeal.nD Cert.AttnFwdRefIdeal.τ).loc Cert.AttnFwdRefIdeal.main_arg0) = m' ((c.tc : Thread Cert.AttnFwdRefIdeal.nD Cert.AttnFwdRefIdeal.τ).loc Cert.AttnFwdRefIdeal.main_arg0)
          ∧ r.2.mem ((c.tc : Thread Cert.AttnFwdRefIdeal.nD Cert.AttnFwdRefIdeal.τ).loc Cert.AttnFwdRefIdeal.main_arg1) = m' ((c.tc : Thread Cert.AttnFwdRefIdeal.nD Cert.AttnFwdRefIdeal.τ).loc Cert.AttnFwdRefIdeal.main_arg1)
          ∧ r.2.mem ((c.tc : Thread Cert.AttnFwdRefIdeal.nD Cert.AttnFwdRefIdeal.τ).loc Cert.AttnFwdRefIdeal.main_arg2) = m' ((c.tc : Thread Cert.AttnFwdRefIdeal.nD Cert.AttnFwdRefIdeal.τ).loc Cert.AttnFwdRefIdeal.main_arg2))

def preserves_GmlpFwd_GmlpFwdIdeal : Prop :=
  True

def algebraic_GmlpFwdIdeal_GmlpFwdRefIdeal [hGmlpFwdIdeal : Cert.GmlpFwdIdeal.Facts] [hGmlpFwdRefIdeal : Cert.GmlpFwdRefIdeal.Facts] : Prop :=
  ∀ (m : (ℓ : Loc Cert.GmlpFwdIdeal.nD Cert.GmlpFwdIdeal.τ Cert.GmlpFwdIdeal.sig) → Buf (Elt Ideal) ℓ) (g : Dev Cert.GmlpFwdIdeal.nD → PrngReg)
    (m' : (ℓ : Loc Cert.GmlpFwdRefIdeal.nD Cert.GmlpFwdRefIdeal.τ Cert.GmlpFwdRefIdeal.sig) → Buf (Elt Ideal) ℓ) (g' : Dev Cert.GmlpFwdRefIdeal.nD → PrngReg), Pre_GmlpFwdIdeal m →
    (∀ c : Dev Cert.GmlpFwdIdeal.nD,
      m' ((c.tc : Thread Cert.GmlpFwdRefIdeal.nD Cert.GmlpFwdRefIdeal.τ).loc Cert.GmlpFwdRefIdeal.main_arg0) = m ((c.tc : Thread Cert.GmlpFwdIdeal.nD Cert.GmlpFwdIdeal.τ).loc Cert.GmlpFwdIdeal.main_arg0)
      ∧ m' ((c.tc : Thread Cert.GmlpFwdRefIdeal.nD Cert.GmlpFwdRefIdeal.τ).loc Cert.GmlpFwdRefIdeal.main_arg1) = m ((c.tc : Thread Cert.GmlpFwdIdeal.nD Cert.GmlpFwdIdeal.τ).loc Cert.GmlpFwdIdeal.main_arg1)
      ∧ m' ((c.tc : Thread Cert.GmlpFwdRefIdeal.nD Cert.GmlpFwdRefIdeal.τ).loc Cert.GmlpFwdRefIdeal.main_arg2) = m ((c.tc : Thread Cert.GmlpFwdIdeal.nD Cert.GmlpFwdIdeal.τ).loc Cert.GmlpFwdIdeal.main_arg2)
      ∧ m' ((c.tc : Thread Cert.GmlpFwdRefIdeal.nD Cert.GmlpFwdRefIdeal.τ).loc Cert.GmlpFwdRefIdeal.main_arg3) = m ((c.tc : Thread Cert.GmlpFwdIdeal.nD Cert.GmlpFwdIdeal.τ).loc Cert.GmlpFwdIdeal.main_arg3)) →
    ∃ (v0 : (c : Dev Cert.GmlpFwdIdeal.nD) → Buf (Elt Ideal) ((c.tc : Thread Cert.GmlpFwdIdeal.nD Cert.GmlpFwdIdeal.τ).loc Cert.GmlpFwdIdeal.main_v2)),
      θ_run (Cert.GmlpFwdIdeal.defs (F := Ideal)) (onTc (τ := Cert.GmlpFwdIdeal.τ) (Cert.GmlpFwdIdeal.main (F := Ideal))) ⟨m, fun _ => 0, g⟩ (fun r => ∀ c : Dev Cert.GmlpFwdIdeal.nD,
          r.2.mem ((c.tc : Thread Cert.GmlpFwdIdeal.nD Cert.GmlpFwdIdeal.τ).loc Cert.GmlpFwdIdeal.main_v2) = v0 c
          ∧ r.2.mem ((c.tc : Thread Cert.GmlpFwdIdeal.nD Cert.GmlpFwdIdeal.τ).loc Cert.GmlpFwdIdeal.main_arg0) = m ((c.tc : Thread Cert.GmlpFwdIdeal.nD Cert.GmlpFwdIdeal.τ).loc Cert.GmlpFwdIdeal.main_arg0)
          ∧ r.2.mem ((c.tc : Thread Cert.GmlpFwdIdeal.nD Cert.GmlpFwdIdeal.τ).loc Cert.GmlpFwdIdeal.main_arg1) = m ((c.tc : Thread Cert.GmlpFwdIdeal.nD Cert.GmlpFwdIdeal.τ).loc Cert.GmlpFwdIdeal.main_arg1)
          ∧ r.2.mem ((c.tc : Thread Cert.GmlpFwdIdeal.nD Cert.GmlpFwdIdeal.τ).loc Cert.GmlpFwdIdeal.main_arg2) = m ((c.tc : Thread Cert.GmlpFwdIdeal.nD Cert.GmlpFwdIdeal.τ).loc Cert.GmlpFwdIdeal.main_arg2)
          ∧ r.2.mem ((c.tc : Thread Cert.GmlpFwdIdeal.nD Cert.GmlpFwdIdeal.τ).loc Cert.GmlpFwdIdeal.main_arg3) = m ((c.tc : Thread Cert.GmlpFwdIdeal.nD Cert.GmlpFwdIdeal.τ).loc Cert.GmlpFwdIdeal.main_arg3))
      ∧ θ_run (Cert.GmlpFwdRefIdeal.defs (F := Ideal)) (onTc (τ := Cert.GmlpFwdRefIdeal.τ) (Cert.GmlpFwdRefIdeal.main (F := Ideal))) ⟨m', fun _ => 0, g'⟩ (fun r => ∀ c : Dev Cert.GmlpFwdRefIdeal.nD,
          r.2.mem ((c.tc : Thread Cert.GmlpFwdRefIdeal.nD Cert.GmlpFwdRefIdeal.τ).loc Cert.GmlpFwdRefIdeal.main_v54) = v0 c
          ∧ r.2.mem ((c.tc : Thread Cert.GmlpFwdRefIdeal.nD Cert.GmlpFwdRefIdeal.τ).loc Cert.GmlpFwdRefIdeal.main_arg0) = m' ((c.tc : Thread Cert.GmlpFwdRefIdeal.nD Cert.GmlpFwdRefIdeal.τ).loc Cert.GmlpFwdRefIdeal.main_arg0)
          ∧ r.2.mem ((c.tc : Thread Cert.GmlpFwdRefIdeal.nD Cert.GmlpFwdRefIdeal.τ).loc Cert.GmlpFwdRefIdeal.main_arg1) = m' ((c.tc : Thread Cert.GmlpFwdRefIdeal.nD Cert.GmlpFwdRefIdeal.τ).loc Cert.GmlpFwdRefIdeal.main_arg1)
          ∧ r.2.mem ((c.tc : Thread Cert.GmlpFwdRefIdeal.nD Cert.GmlpFwdRefIdeal.τ).loc Cert.GmlpFwdRefIdeal.main_arg2) = m' ((c.tc : Thread Cert.GmlpFwdRefIdeal.nD Cert.GmlpFwdRefIdeal.τ).loc Cert.GmlpFwdRefIdeal.main_arg2)
          ∧ r.2.mem ((c.tc : Thread Cert.GmlpFwdRefIdeal.nD Cert.GmlpFwdRefIdeal.τ).loc Cert.GmlpFwdRefIdeal.main_arg3) = m' ((c.tc : Thread Cert.GmlpFwdRefIdeal.nD Cert.GmlpFwdRefIdeal.τ).loc Cert.GmlpFwdRefIdeal.main_arg3))

def preserves_PoolFwd_PoolFwdIdeal : Prop :=
  True

def algebraic_PoolFwdIdeal_PoolFwdRefIdeal_pre_pool_fwd_finite [hPoolFwdIdeal : Cert.PoolFwdIdeal.Facts] [hPoolFwdRefIdeal : Cert.PoolFwdRefIdeal.Facts] [hPre_pool_fwd_finite : Cert.Pre_pool_fwd_finite.Facts] : Prop :=
  ∀ (m : (ℓ : Loc Cert.PoolFwdIdeal.nD Cert.PoolFwdIdeal.τ Cert.PoolFwdIdeal.sig) → Buf (Elt Ideal) ℓ) (g : Dev Cert.PoolFwdIdeal.nD → PrngReg)
    (m' : (ℓ : Loc Cert.PoolFwdRefIdeal.nD Cert.PoolFwdRefIdeal.τ Cert.PoolFwdRefIdeal.sig) → Buf (Elt Ideal) ℓ) (g' : Dev Cert.PoolFwdRefIdeal.nD → PrngReg), Pre_PoolFwdIdeal_pool_fwd_finite m →
    (∀ c : Dev Cert.PoolFwdIdeal.nD,
      m' ((c.tc : Thread Cert.PoolFwdRefIdeal.nD Cert.PoolFwdRefIdeal.τ).loc Cert.PoolFwdRefIdeal.main_arg0) = m ((c.tc : Thread Cert.PoolFwdIdeal.nD Cert.PoolFwdIdeal.τ).loc Cert.PoolFwdIdeal.main_arg0)
      ∧ m' ((c.tc : Thread Cert.PoolFwdRefIdeal.nD Cert.PoolFwdRefIdeal.τ).loc Cert.PoolFwdRefIdeal.main_arg1) = m ((c.tc : Thread Cert.PoolFwdIdeal.nD Cert.PoolFwdIdeal.τ).loc Cert.PoolFwdIdeal.main_arg1)
      ∧ m' ((c.tc : Thread Cert.PoolFwdRefIdeal.nD Cert.PoolFwdRefIdeal.τ).loc Cert.PoolFwdRefIdeal.main_arg2) = m ((c.tc : Thread Cert.PoolFwdIdeal.nD Cert.PoolFwdIdeal.τ).loc Cert.PoolFwdIdeal.main_arg2)) →
    ∃ (v0 : (c : Dev Cert.PoolFwdIdeal.nD) → Buf (Elt Ideal) ((c.tc : Thread Cert.PoolFwdIdeal.nD Cert.PoolFwdIdeal.τ).loc Cert.PoolFwdIdeal.main_v0)),
      θ_run (Cert.PoolFwdIdeal.defs (F := Ideal)) (onTc (τ := Cert.PoolFwdIdeal.τ) (Cert.PoolFwdIdeal.main (F := Ideal))) ⟨m, fun _ => 0, g⟩ (fun r => ∀ c : Dev Cert.PoolFwdIdeal.nD,
          r.2.mem ((c.tc : Thread Cert.PoolFwdIdeal.nD Cert.PoolFwdIdeal.τ).loc Cert.PoolFwdIdeal.main_v0) = v0 c
          ∧ r.2.mem ((c.tc : Thread Cert.PoolFwdIdeal.nD Cert.PoolFwdIdeal.τ).loc Cert.PoolFwdIdeal.main_arg0) = m ((c.tc : Thread Cert.PoolFwdIdeal.nD Cert.PoolFwdIdeal.τ).loc Cert.PoolFwdIdeal.main_arg0)
          ∧ r.2.mem ((c.tc : Thread Cert.PoolFwdIdeal.nD Cert.PoolFwdIdeal.τ).loc Cert.PoolFwdIdeal.main_arg1) = m ((c.tc : Thread Cert.PoolFwdIdeal.nD Cert.PoolFwdIdeal.τ).loc Cert.PoolFwdIdeal.main_arg1)
          ∧ r.2.mem ((c.tc : Thread Cert.PoolFwdIdeal.nD Cert.PoolFwdIdeal.τ).loc Cert.PoolFwdIdeal.main_arg2) = m ((c.tc : Thread Cert.PoolFwdIdeal.nD Cert.PoolFwdIdeal.τ).loc Cert.PoolFwdIdeal.main_arg2))
      ∧ θ_run (Cert.PoolFwdRefIdeal.defs (F := Ideal)) (onTc (τ := Cert.PoolFwdRefIdeal.τ) (Cert.PoolFwdRefIdeal.main (F := Ideal))) ⟨m', fun _ => 0, g'⟩ (fun r => ∀ c : Dev Cert.PoolFwdRefIdeal.nD,
          r.2.mem ((c.tc : Thread Cert.PoolFwdRefIdeal.nD Cert.PoolFwdRefIdeal.τ).loc Cert.PoolFwdRefIdeal.main_v67) = v0 c
          ∧ r.2.mem ((c.tc : Thread Cert.PoolFwdRefIdeal.nD Cert.PoolFwdRefIdeal.τ).loc Cert.PoolFwdRefIdeal.main_arg0) = m' ((c.tc : Thread Cert.PoolFwdRefIdeal.nD Cert.PoolFwdRefIdeal.τ).loc Cert.PoolFwdRefIdeal.main_arg0)
          ∧ r.2.mem ((c.tc : Thread Cert.PoolFwdRefIdeal.nD Cert.PoolFwdRefIdeal.τ).loc Cert.PoolFwdRefIdeal.main_arg1) = m' ((c.tc : Thread Cert.PoolFwdRefIdeal.nD Cert.PoolFwdRefIdeal.τ).loc Cert.PoolFwdRefIdeal.main_arg1)
          ∧ r.2.mem ((c.tc : Thread Cert.PoolFwdRefIdeal.nD Cert.PoolFwdRefIdeal.τ).loc Cert.PoolFwdRefIdeal.main_arg2) = m' ((c.tc : Thread Cert.PoolFwdRefIdeal.nD Cert.PoolFwdRefIdeal.τ).loc Cert.PoolFwdRefIdeal.main_arg2))

def preserves_ConvFwd_ConvFwdIdeal : Prop :=
  True

def algebraic_ConvFwdIdeal_ConvFwdRefIdeal [hConvFwdIdeal : Cert.ConvFwdIdeal.Facts] [hConvFwdRefIdeal : Cert.ConvFwdRefIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg)
    (m' : (ℓ : Loc Cert.ConvFwdRefIdeal.nD Cert.ConvFwdRefIdeal.τ Cert.ConvFwdRefIdeal.sig) → Buf (Elt Ideal) ℓ) (g' : Dev Cert.ConvFwdRefIdeal.nD → PrngReg), Pre_ConvFwdIdeal m →
    (∀ c : Dev Cert.ConvFwdIdeal.nD,
      m' ((c.tc : Thread Cert.ConvFwdRefIdeal.nD Cert.ConvFwdRefIdeal.τ).loc Cert.ConvFwdRefIdeal.main_arg0) = m ((c.tc : Thread Cert.ConvFwdIdeal.nD Cert.ConvFwdIdeal.τ).loc Cert.ConvFwdIdeal.main_arg0)
      ∧ m' ((c.tc : Thread Cert.ConvFwdRefIdeal.nD Cert.ConvFwdRefIdeal.τ).loc Cert.ConvFwdRefIdeal.main_arg1) = m ((c.tc : Thread Cert.ConvFwdIdeal.nD Cert.ConvFwdIdeal.τ).loc Cert.ConvFwdIdeal.main_arg1)
      ∧ m' ((c.tc : Thread Cert.ConvFwdRefIdeal.nD Cert.ConvFwdRefIdeal.τ).loc Cert.ConvFwdRefIdeal.main_arg2) = m ((c.tc : Thread Cert.ConvFwdIdeal.nD Cert.ConvFwdIdeal.τ).loc Cert.ConvFwdIdeal.main_arg2)) →
    ∃ (v0 : (c : Dev Cert.ConvFwdIdeal.nD) → Buf (Elt Ideal) ((c.tc : Thread Cert.ConvFwdIdeal.nD Cert.ConvFwdIdeal.τ).loc Cert.ConvFwdIdeal.main_v3)),
      θ_run (Cert.ConvFwdIdeal.defs (F := Ideal)) (onTc (τ := Cert.ConvFwdIdeal.τ) (Cert.ConvFwdIdeal.main (F := Ideal))) ⟨m, fun _ => 0, g⟩ (fun r => ∀ c : Dev Cert.ConvFwdIdeal.nD,
          r.2.mem ((c.tc : Thread Cert.ConvFwdIdeal.nD Cert.ConvFwdIdeal.τ).loc Cert.ConvFwdIdeal.main_v3) = v0 c
          ∧ r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
          ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
          ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2))
      ∧ θ_run (Cert.ConvFwdRefIdeal.defs (F := Ideal)) (onTc (τ := Cert.ConvFwdRefIdeal.τ) (Cert.ConvFwdRefIdeal.main (F := Ideal))) ⟨m', fun _ => 0, g'⟩ (fun r => ∀ c : Dev Cert.ConvFwdRefIdeal.nD,
          r.2.mem ((c.tc : Thread Cert.ConvFwdRefIdeal.nD Cert.ConvFwdRefIdeal.τ).loc Cert.ConvFwdRefIdeal.main_v228) = v0 c
          ∧ r.2.mem ((c.tc : Thread Cert.ConvFwdRefIdeal.nD Cert.ConvFwdRefIdeal.τ).loc Cert.ConvFwdRefIdeal.main_arg0) = m' ((c.tc : Thread Cert.ConvFwdRefIdeal.nD Cert.ConvFwdRefIdeal.τ).loc Cert.ConvFwdRefIdeal.main_arg0)
          ∧ r.2.mem ((c.tc : Thread Cert.ConvFwdRefIdeal.nD Cert.ConvFwdRefIdeal.τ).loc Cert.ConvFwdRefIdeal.main_arg1) = m' ((c.tc : Thread Cert.ConvFwdRefIdeal.nD Cert.ConvFwdRefIdeal.τ).loc Cert.ConvFwdRefIdeal.main_arg1)
          ∧ r.2.mem ((c.tc : Thread Cert.ConvFwdRefIdeal.nD Cert.ConvFwdRefIdeal.τ).loc Cert.ConvFwdRefIdeal.main_arg2) = m' ((c.tc : Thread Cert.ConvFwdRefIdeal.nD Cert.ConvFwdRefIdeal.τ).loc Cert.ConvFwdRefIdeal.main_arg2))

def preserves_SwishFwd_SwishFwdIdeal : Prop :=
  True

def algebraic_SwishFwdIdeal_SwishFwdRefIdeal [hSwishFwdIdeal : Cert.SwishFwdIdeal.Facts] [hSwishFwdRefIdeal : Cert.SwishFwdRefIdeal.Facts] : Prop :=
  ∀ (m : (ℓ : Loc Cert.SwishFwdIdeal.nD Cert.SwishFwdIdeal.τ Cert.SwishFwdIdeal.sig) → Buf (Elt Ideal) ℓ) (g : Dev Cert.SwishFwdIdeal.nD → PrngReg)
    (m' : (ℓ : Loc Cert.SwishFwdRefIdeal.nD Cert.SwishFwdRefIdeal.τ Cert.SwishFwdRefIdeal.sig) → Buf (Elt Ideal) ℓ) (g' : Dev Cert.SwishFwdRefIdeal.nD → PrngReg), Pre_SwishFwdIdeal m →
    (∀ c : Dev Cert.SwishFwdIdeal.nD,
      m' ((c.tc : Thread Cert.SwishFwdRefIdeal.nD Cert.SwishFwdRefIdeal.τ).loc Cert.SwishFwdRefIdeal.main_arg0) = m ((c.tc : Thread Cert.SwishFwdIdeal.nD Cert.SwishFwdIdeal.τ).loc Cert.SwishFwdIdeal.main_arg0)
      ∧ m' ((c.tc : Thread Cert.SwishFwdRefIdeal.nD Cert.SwishFwdRefIdeal.τ).loc Cert.SwishFwdRefIdeal.main_arg1) = m ((c.tc : Thread Cert.SwishFwdIdeal.nD Cert.SwishFwdIdeal.τ).loc Cert.SwishFwdIdeal.main_arg1)
      ∧ m' ((c.tc : Thread Cert.SwishFwdRefIdeal.nD Cert.SwishFwdRefIdeal.τ).loc Cert.SwishFwdRefIdeal.main_arg2) = m ((c.tc : Thread Cert.SwishFwdIdeal.nD Cert.SwishFwdIdeal.τ).loc Cert.SwishFwdIdeal.main_arg2)) →
    ∃ (v0 : (c : Dev Cert.SwishFwdIdeal.nD) → Buf (Elt Ideal) ((c.tc : Thread Cert.SwishFwdIdeal.nD Cert.SwishFwdIdeal.τ).loc Cert.SwishFwdIdeal.main_v0)),
      θ_run (Cert.SwishFwdIdeal.defs (F := Ideal)) (onTc (τ := Cert.SwishFwdIdeal.τ) (Cert.SwishFwdIdeal.main (F := Ideal))) ⟨m, fun _ => 0, g⟩ (fun r => ∀ c : Dev Cert.SwishFwdIdeal.nD,
          r.2.mem ((c.tc : Thread Cert.SwishFwdIdeal.nD Cert.SwishFwdIdeal.τ).loc Cert.SwishFwdIdeal.main_v0) = v0 c
          ∧ r.2.mem ((c.tc : Thread Cert.SwishFwdIdeal.nD Cert.SwishFwdIdeal.τ).loc Cert.SwishFwdIdeal.main_arg0) = m ((c.tc : Thread Cert.SwishFwdIdeal.nD Cert.SwishFwdIdeal.τ).loc Cert.SwishFwdIdeal.main_arg0)
          ∧ r.2.mem ((c.tc : Thread Cert.SwishFwdIdeal.nD Cert.SwishFwdIdeal.τ).loc Cert.SwishFwdIdeal.main_arg1) = m ((c.tc : Thread Cert.SwishFwdIdeal.nD Cert.SwishFwdIdeal.τ).loc Cert.SwishFwdIdeal.main_arg1)
          ∧ r.2.mem ((c.tc : Thread Cert.SwishFwdIdeal.nD Cert.SwishFwdIdeal.τ).loc Cert.SwishFwdIdeal.main_arg2) = m ((c.tc : Thread Cert.SwishFwdIdeal.nD Cert.SwishFwdIdeal.τ).loc Cert.SwishFwdIdeal.main_arg2))
      ∧ θ_run (Cert.SwishFwdRefIdeal.defs (F := Ideal)) (onTc (τ := Cert.SwishFwdRefIdeal.τ) (Cert.SwishFwdRefIdeal.main (F := Ideal))) ⟨m', fun _ => 0, g'⟩ (fun r => ∀ c : Dev Cert.SwishFwdRefIdeal.nD,
          r.2.mem ((c.tc : Thread Cert.SwishFwdRefIdeal.nD Cert.SwishFwdRefIdeal.τ).loc Cert.SwishFwdRefIdeal.main_v23) = v0 c
          ∧ r.2.mem ((c.tc : Thread Cert.SwishFwdRefIdeal.nD Cert.SwishFwdRefIdeal.τ).loc Cert.SwishFwdRefIdeal.main_arg0) = m' ((c.tc : Thread Cert.SwishFwdRefIdeal.nD Cert.SwishFwdRefIdeal.τ).loc Cert.SwishFwdRefIdeal.main_arg0)
          ∧ r.2.mem ((c.tc : Thread Cert.SwishFwdRefIdeal.nD Cert.SwishFwdRefIdeal.τ).loc Cert.SwishFwdRefIdeal.main_arg1) = m' ((c.tc : Thread Cert.SwishFwdRefIdeal.nD Cert.SwishFwdRefIdeal.τ).loc Cert.SwishFwdRefIdeal.main_arg1)
          ∧ r.2.mem ((c.tc : Thread Cert.SwishFwdRefIdeal.nD Cert.SwishFwdRefIdeal.τ).loc Cert.SwishFwdRefIdeal.main_arg2) = m' ((c.tc : Thread Cert.SwishFwdRefIdeal.nD Cert.SwishFwdRefIdeal.τ).loc Cert.SwishFwdRefIdeal.main_arg2))

def preserves_NormFirstFwd_NormFirstFwdIdeal : Prop :=
  True

def algebraic_NormFirstFwdIdeal_NormFirstFwdRefIdeal [hNormFirstFwdIdeal : Cert.NormFirstFwdIdeal.Facts] [hNormFirstFwdRefIdeal : Cert.NormFirstFwdRefIdeal.Facts] : Prop :=
  ∀ (m : (ℓ : Loc Cert.NormFirstFwdIdeal.nD Cert.NormFirstFwdIdeal.τ Cert.NormFirstFwdIdeal.sig) → Buf (Elt Ideal) ℓ) (g : Dev Cert.NormFirstFwdIdeal.nD → PrngReg)
    (m' : (ℓ : Loc Cert.NormFirstFwdRefIdeal.nD Cert.NormFirstFwdRefIdeal.τ Cert.NormFirstFwdRefIdeal.sig) → Buf (Elt Ideal) ℓ) (g' : Dev Cert.NormFirstFwdRefIdeal.nD → PrngReg), Pre_NormFirstFwdIdeal m →
    (∀ c : Dev Cert.NormFirstFwdIdeal.nD,
      m' ((c.tc : Thread Cert.NormFirstFwdRefIdeal.nD Cert.NormFirstFwdRefIdeal.τ).loc Cert.NormFirstFwdRefIdeal.main_arg0) = m ((c.tc : Thread Cert.NormFirstFwdIdeal.nD Cert.NormFirstFwdIdeal.τ).loc Cert.NormFirstFwdIdeal.main_arg0)
      ∧ m' ((c.tc : Thread Cert.NormFirstFwdRefIdeal.nD Cert.NormFirstFwdRefIdeal.τ).loc Cert.NormFirstFwdRefIdeal.main_arg1) = m ((c.tc : Thread Cert.NormFirstFwdIdeal.nD Cert.NormFirstFwdIdeal.τ).loc Cert.NormFirstFwdIdeal.main_arg1)) →
    ∃ (v0 : (c : Dev Cert.NormFirstFwdIdeal.nD) → Buf (Elt Ideal) ((c.tc : Thread Cert.NormFirstFwdIdeal.nD Cert.NormFirstFwdIdeal.τ).loc Cert.NormFirstFwdIdeal.main_v0)),
      θ_run (Cert.NormFirstFwdIdeal.defs (F := Ideal)) (onTc (τ := Cert.NormFirstFwdIdeal.τ) (Cert.NormFirstFwdIdeal.main (F := Ideal))) ⟨m, fun _ => 0, g⟩ (fun r => ∀ c : Dev Cert.NormFirstFwdIdeal.nD,
          r.2.mem ((c.tc : Thread Cert.NormFirstFwdIdeal.nD Cert.NormFirstFwdIdeal.τ).loc Cert.NormFirstFwdIdeal.main_v0) = v0 c
          ∧ r.2.mem ((c.tc : Thread Cert.NormFirstFwdIdeal.nD Cert.NormFirstFwdIdeal.τ).loc Cert.NormFirstFwdIdeal.main_arg0) = m ((c.tc : Thread Cert.NormFirstFwdIdeal.nD Cert.NormFirstFwdIdeal.τ).loc Cert.NormFirstFwdIdeal.main_arg0)
          ∧ r.2.mem ((c.tc : Thread Cert.NormFirstFwdIdeal.nD Cert.NormFirstFwdIdeal.τ).loc Cert.NormFirstFwdIdeal.main_arg1) = m ((c.tc : Thread Cert.NormFirstFwdIdeal.nD Cert.NormFirstFwdIdeal.τ).loc Cert.NormFirstFwdIdeal.main_arg1))
      ∧ θ_run (Cert.NormFirstFwdRefIdeal.defs (F := Ideal)) (onTc (τ := Cert.NormFirstFwdRefIdeal.τ) (Cert.NormFirstFwdRefIdeal.main (F := Ideal))) ⟨m', fun _ => 0, g'⟩ (fun r => ∀ c : Dev Cert.NormFirstFwdRefIdeal.nD,
          r.2.mem ((c.tc : Thread Cert.NormFirstFwdRefIdeal.nD Cert.NormFirstFwdRefIdeal.τ).loc Cert.NormFirstFwdRefIdeal.main_v12) = v0 c
          ∧ r.2.mem ((c.tc : Thread Cert.NormFirstFwdRefIdeal.nD Cert.NormFirstFwdRefIdeal.τ).loc Cert.NormFirstFwdRefIdeal.main_arg0) = m' ((c.tc : Thread Cert.NormFirstFwdRefIdeal.nD Cert.NormFirstFwdRefIdeal.τ).loc Cert.NormFirstFwdRefIdeal.main_arg0)
          ∧ r.2.mem ((c.tc : Thread Cert.NormFirstFwdRefIdeal.nD Cert.NormFirstFwdRefIdeal.τ).loc Cert.NormFirstFwdRefIdeal.main_arg1) = m' ((c.tc : Thread Cert.NormFirstFwdRefIdeal.nD Cert.NormFirstFwdRefIdeal.τ).loc Cert.NormFirstFwdRefIdeal.main_arg1))

def preserves_NormMemFwd_NormMemFwdIdeal : Prop :=
  True

def algebraic_NormMemFwdIdeal_NormMemFwdRefIdeal [hNormMemFwdIdeal : Cert.NormMemFwdIdeal.Facts] [hNormMemFwdRefIdeal : Cert.NormMemFwdRefIdeal.Facts] : Prop :=
  ∀ (m : (ℓ : Loc Cert.NormMemFwdIdeal.nD Cert.NormMemFwdIdeal.τ Cert.NormMemFwdIdeal.sig) → Buf (Elt Ideal) ℓ) (g : Dev Cert.NormMemFwdIdeal.nD → PrngReg)
    (m' : (ℓ : Loc Cert.NormMemFwdRefIdeal.nD Cert.NormMemFwdRefIdeal.τ Cert.NormMemFwdRefIdeal.sig) → Buf (Elt Ideal) ℓ) (g' : Dev Cert.NormMemFwdRefIdeal.nD → PrngReg), Pre_NormMemFwdIdeal m →
    (∀ c : Dev Cert.NormMemFwdIdeal.nD,
      m' ((c.tc : Thread Cert.NormMemFwdRefIdeal.nD Cert.NormMemFwdRefIdeal.τ).loc Cert.NormMemFwdRefIdeal.main_arg0) = m ((c.tc : Thread Cert.NormMemFwdIdeal.nD Cert.NormMemFwdIdeal.τ).loc Cert.NormMemFwdIdeal.main_arg0)
      ∧ m' ((c.tc : Thread Cert.NormMemFwdRefIdeal.nD Cert.NormMemFwdRefIdeal.τ).loc Cert.NormMemFwdRefIdeal.main_arg1) = m ((c.tc : Thread Cert.NormMemFwdIdeal.nD Cert.NormMemFwdIdeal.τ).loc Cert.NormMemFwdIdeal.main_arg1)) →
    ∃ (v0 : (c : Dev Cert.NormMemFwdIdeal.nD) → Buf (Elt Ideal) ((c.tc : Thread Cert.NormMemFwdIdeal.nD Cert.NormMemFwdIdeal.τ).loc Cert.NormMemFwdIdeal.main_v0)),
      θ_run (Cert.NormMemFwdIdeal.defs (F := Ideal)) (onTc (τ := Cert.NormMemFwdIdeal.τ) (Cert.NormMemFwdIdeal.main (F := Ideal))) ⟨m, fun _ => 0, g⟩ (fun r => ∀ c : Dev Cert.NormMemFwdIdeal.nD,
          r.2.mem ((c.tc : Thread Cert.NormMemFwdIdeal.nD Cert.NormMemFwdIdeal.τ).loc Cert.NormMemFwdIdeal.main_v0) = v0 c
          ∧ r.2.mem ((c.tc : Thread Cert.NormMemFwdIdeal.nD Cert.NormMemFwdIdeal.τ).loc Cert.NormMemFwdIdeal.main_arg0) = m ((c.tc : Thread Cert.NormMemFwdIdeal.nD Cert.NormMemFwdIdeal.τ).loc Cert.NormMemFwdIdeal.main_arg0)
          ∧ r.2.mem ((c.tc : Thread Cert.NormMemFwdIdeal.nD Cert.NormMemFwdIdeal.τ).loc Cert.NormMemFwdIdeal.main_arg1) = m ((c.tc : Thread Cert.NormMemFwdIdeal.nD Cert.NormMemFwdIdeal.τ).loc Cert.NormMemFwdIdeal.main_arg1))
      ∧ θ_run (Cert.NormMemFwdRefIdeal.defs (F := Ideal)) (onTc (τ := Cert.NormMemFwdRefIdeal.τ) (Cert.NormMemFwdRefIdeal.main (F := Ideal))) ⟨m', fun _ => 0, g'⟩ (fun r => ∀ c : Dev Cert.NormMemFwdRefIdeal.nD,
          r.2.mem ((c.tc : Thread Cert.NormMemFwdRefIdeal.nD Cert.NormMemFwdRefIdeal.τ).loc Cert.NormMemFwdRefIdeal.main_v12) = v0 c
          ∧ r.2.mem ((c.tc : Thread Cert.NormMemFwdRefIdeal.nD Cert.NormMemFwdRefIdeal.τ).loc Cert.NormMemFwdRefIdeal.main_arg0) = m' ((c.tc : Thread Cert.NormMemFwdRefIdeal.nD Cert.NormMemFwdRefIdeal.τ).loc Cert.NormMemFwdRefIdeal.main_arg0)
          ∧ r.2.mem ((c.tc : Thread Cert.NormMemFwdRefIdeal.nD Cert.NormMemFwdRefIdeal.τ).loc Cert.NormMemFwdRefIdeal.main_arg1) = m' ((c.tc : Thread Cert.NormMemFwdRefIdeal.nD Cert.NormMemFwdRefIdeal.τ).loc Cert.NormMemFwdRefIdeal.main_arg1))

def preserves_NormMidFwd_NormMidFwdIdeal : Prop :=
  True

def algebraic_NormMidFwdIdeal_NormMidFwdRefIdeal [hNormMidFwdIdeal : Cert.NormMidFwdIdeal.Facts] [hNormMidFwdRefIdeal : Cert.NormMidFwdRefIdeal.Facts] : Prop :=
  ∀ (m : (ℓ : Loc Cert.NormMidFwdIdeal.nD Cert.NormMidFwdIdeal.τ Cert.NormMidFwdIdeal.sig) → Buf (Elt Ideal) ℓ) (g : Dev Cert.NormMidFwdIdeal.nD → PrngReg)
    (m' : (ℓ : Loc Cert.NormMidFwdRefIdeal.nD Cert.NormMidFwdRefIdeal.τ Cert.NormMidFwdRefIdeal.sig) → Buf (Elt Ideal) ℓ) (g' : Dev Cert.NormMidFwdRefIdeal.nD → PrngReg), Pre_NormMidFwdIdeal m →
    (∀ c : Dev Cert.NormMidFwdIdeal.nD,
      m' ((c.tc : Thread Cert.NormMidFwdRefIdeal.nD Cert.NormMidFwdRefIdeal.τ).loc Cert.NormMidFwdRefIdeal.main_arg0) = m ((c.tc : Thread Cert.NormMidFwdIdeal.nD Cert.NormMidFwdIdeal.τ).loc Cert.NormMidFwdIdeal.main_arg0)
      ∧ m' ((c.tc : Thread Cert.NormMidFwdRefIdeal.nD Cert.NormMidFwdRefIdeal.τ).loc Cert.NormMidFwdRefIdeal.main_arg1) = m ((c.tc : Thread Cert.NormMidFwdIdeal.nD Cert.NormMidFwdIdeal.τ).loc Cert.NormMidFwdIdeal.main_arg1)
      ∧ m' ((c.tc : Thread Cert.NormMidFwdRefIdeal.nD Cert.NormMidFwdRefIdeal.τ).loc Cert.NormMidFwdRefIdeal.main_arg2) = m ((c.tc : Thread Cert.NormMidFwdIdeal.nD Cert.NormMidFwdIdeal.τ).loc Cert.NormMidFwdIdeal.main_arg2)
      ∧ m' ((c.tc : Thread Cert.NormMidFwdRefIdeal.nD Cert.NormMidFwdRefIdeal.τ).loc Cert.NormMidFwdRefIdeal.main_arg3) = m ((c.tc : Thread Cert.NormMidFwdIdeal.nD Cert.NormMidFwdIdeal.τ).loc Cert.NormMidFwdIdeal.main_arg3)) →
    ∃ (v0 : (c : Dev Cert.NormMidFwdIdeal.nD) → Buf (Elt Ideal) ((c.tc : Thread Cert.NormMidFwdIdeal.nD Cert.NormMidFwdIdeal.τ).loc Cert.NormMidFwdIdeal.main_v0_0)) (v1 : (c : Dev Cert.NormMidFwdIdeal.nD) → Buf (Elt Ideal) ((c.tc : Thread Cert.NormMidFwdIdeal.nD Cert.NormMidFwdIdeal.τ).loc Cert.NormMidFwdIdeal.main_v0_1)),
      θ_run (Cert.NormMidFwdIdeal.defs (F := Ideal)) (onTc (τ := Cert.NormMidFwdIdeal.τ) (Cert.NormMidFwdIdeal.main (F := Ideal))) ⟨m, fun _ => 0, g⟩ (fun r => ∀ c : Dev Cert.NormMidFwdIdeal.nD,
          r.2.mem ((c.tc : Thread Cert.NormMidFwdIdeal.nD Cert.NormMidFwdIdeal.τ).loc Cert.NormMidFwdIdeal.main_v0_0) = v0 c
          ∧ r.2.mem ((c.tc : Thread Cert.NormMidFwdIdeal.nD Cert.NormMidFwdIdeal.τ).loc Cert.NormMidFwdIdeal.main_v0_1) = v1 c
          ∧ r.2.mem ((c.tc : Thread Cert.NormMidFwdIdeal.nD Cert.NormMidFwdIdeal.τ).loc Cert.NormMidFwdIdeal.main_arg0) = m ((c.tc : Thread Cert.NormMidFwdIdeal.nD Cert.NormMidFwdIdeal.τ).loc Cert.NormMidFwdIdeal.main_arg0)
          ∧ r.2.mem ((c.tc : Thread Cert.NormMidFwdIdeal.nD Cert.NormMidFwdIdeal.τ).loc Cert.NormMidFwdIdeal.main_arg1) = m ((c.tc : Thread Cert.NormMidFwdIdeal.nD Cert.NormMidFwdIdeal.τ).loc Cert.NormMidFwdIdeal.main_arg1)
          ∧ r.2.mem ((c.tc : Thread Cert.NormMidFwdIdeal.nD Cert.NormMidFwdIdeal.τ).loc Cert.NormMidFwdIdeal.main_arg2) = m ((c.tc : Thread Cert.NormMidFwdIdeal.nD Cert.NormMidFwdIdeal.τ).loc Cert.NormMidFwdIdeal.main_arg2)
          ∧ r.2.mem ((c.tc : Thread Cert.NormMidFwdIdeal.nD Cert.NormMidFwdIdeal.τ).loc Cert.NormMidFwdIdeal.main_arg3) = m ((c.tc : Thread Cert.NormMidFwdIdeal.nD Cert.NormMidFwdIdeal.τ).loc Cert.NormMidFwdIdeal.main_arg3))
      ∧ θ_run (Cert.NormMidFwdRefIdeal.defs (F := Ideal)) (onTc (τ := Cert.NormMidFwdRefIdeal.τ) (Cert.NormMidFwdRefIdeal.main (F := Ideal))) ⟨m', fun _ => 0, g'⟩ (fun r => ∀ c : Dev Cert.NormMidFwdRefIdeal.nD,
          r.2.mem ((c.tc : Thread Cert.NormMidFwdRefIdeal.nD Cert.NormMidFwdRefIdeal.τ).loc Cert.NormMidFwdRefIdeal.main_v12) = v0 c
          ∧ r.2.mem ((c.tc : Thread Cert.NormMidFwdRefIdeal.nD Cert.NormMidFwdRefIdeal.τ).loc Cert.NormMidFwdRefIdeal.main_v25) = v1 c
          ∧ r.2.mem ((c.tc : Thread Cert.NormMidFwdRefIdeal.nD Cert.NormMidFwdRefIdeal.τ).loc Cert.NormMidFwdRefIdeal.main_arg0) = m' ((c.tc : Thread Cert.NormMidFwdRefIdeal.nD Cert.NormMidFwdRefIdeal.τ).loc Cert.NormMidFwdRefIdeal.main_arg0)
          ∧ r.2.mem ((c.tc : Thread Cert.NormMidFwdRefIdeal.nD Cert.NormMidFwdRefIdeal.τ).loc Cert.NormMidFwdRefIdeal.main_arg1) = m' ((c.tc : Thread Cert.NormMidFwdRefIdeal.nD Cert.NormMidFwdRefIdeal.τ).loc Cert.NormMidFwdRefIdeal.main_arg1)
          ∧ r.2.mem ((c.tc : Thread Cert.NormMidFwdRefIdeal.nD Cert.NormMidFwdRefIdeal.τ).loc Cert.NormMidFwdRefIdeal.main_arg2) = m' ((c.tc : Thread Cert.NormMidFwdRefIdeal.nD Cert.NormMidFwdRefIdeal.τ).loc Cert.NormMidFwdRefIdeal.main_arg2)
          ∧ r.2.mem ((c.tc : Thread Cert.NormMidFwdRefIdeal.nD Cert.NormMidFwdRefIdeal.τ).loc Cert.NormMidFwdRefIdeal.main_arg3) = m' ((c.tc : Thread Cert.NormMidFwdRefIdeal.nD Cert.NormMidFwdRefIdeal.τ).loc Cert.NormMidFwdRefIdeal.main_arg3))

def preserves_NormLastFwd_NormLastFwdIdeal : Prop :=
  True

def algebraic_NormLastFwdIdeal_NormLastFwdRefIdeal [hNormLastFwdIdeal : Cert.NormLastFwdIdeal.Facts] [hNormLastFwdRefIdeal : Cert.NormLastFwdRefIdeal.Facts] : Prop :=
  ∀ (m : (ℓ : Loc Cert.NormLastFwdIdeal.nD Cert.NormLastFwdIdeal.τ Cert.NormLastFwdIdeal.sig) → Buf (Elt Ideal) ℓ) (g : Dev Cert.NormLastFwdIdeal.nD → PrngReg)
    (m' : (ℓ : Loc Cert.NormLastFwdRefIdeal.nD Cert.NormLastFwdRefIdeal.τ Cert.NormLastFwdRefIdeal.sig) → Buf (Elt Ideal) ℓ) (g' : Dev Cert.NormLastFwdRefIdeal.nD → PrngReg), Pre_NormLastFwdIdeal m →
    (∀ c : Dev Cert.NormLastFwdIdeal.nD,
      m' ((c.tc : Thread Cert.NormLastFwdRefIdeal.nD Cert.NormLastFwdRefIdeal.τ).loc Cert.NormLastFwdRefIdeal.main_arg0) = m ((c.tc : Thread Cert.NormLastFwdIdeal.nD Cert.NormLastFwdIdeal.τ).loc Cert.NormLastFwdIdeal.main_arg0)
      ∧ m' ((c.tc : Thread Cert.NormLastFwdRefIdeal.nD Cert.NormLastFwdRefIdeal.τ).loc Cert.NormLastFwdRefIdeal.main_arg1) = m ((c.tc : Thread Cert.NormLastFwdIdeal.nD Cert.NormLastFwdIdeal.τ).loc Cert.NormLastFwdIdeal.main_arg1)
      ∧ m' ((c.tc : Thread Cert.NormLastFwdRefIdeal.nD Cert.NormLastFwdRefIdeal.τ).loc Cert.NormLastFwdRefIdeal.main_arg2) = m ((c.tc : Thread Cert.NormLastFwdIdeal.nD Cert.NormLastFwdIdeal.τ).loc Cert.NormLastFwdIdeal.main_arg2)) →
    ∃ (v0 : (c : Dev Cert.NormLastFwdIdeal.nD) → Buf (Elt Ideal) ((c.tc : Thread Cert.NormLastFwdIdeal.nD Cert.NormLastFwdIdeal.τ).loc Cert.NormLastFwdIdeal.main_v0)),
      θ_run (Cert.NormLastFwdIdeal.defs (F := Ideal)) (onTc (τ := Cert.NormLastFwdIdeal.τ) (Cert.NormLastFwdIdeal.main (F := Ideal))) ⟨m, fun _ => 0, g⟩ (fun r => ∀ c : Dev Cert.NormLastFwdIdeal.nD,
          r.2.mem ((c.tc : Thread Cert.NormLastFwdIdeal.nD Cert.NormLastFwdIdeal.τ).loc Cert.NormLastFwdIdeal.main_v0) = v0 c
          ∧ r.2.mem ((c.tc : Thread Cert.NormLastFwdIdeal.nD Cert.NormLastFwdIdeal.τ).loc Cert.NormLastFwdIdeal.main_arg0) = m ((c.tc : Thread Cert.NormLastFwdIdeal.nD Cert.NormLastFwdIdeal.τ).loc Cert.NormLastFwdIdeal.main_arg0)
          ∧ r.2.mem ((c.tc : Thread Cert.NormLastFwdIdeal.nD Cert.NormLastFwdIdeal.τ).loc Cert.NormLastFwdIdeal.main_arg1) = m ((c.tc : Thread Cert.NormLastFwdIdeal.nD Cert.NormLastFwdIdeal.τ).loc Cert.NormLastFwdIdeal.main_arg1)
          ∧ r.2.mem ((c.tc : Thread Cert.NormLastFwdIdeal.nD Cert.NormLastFwdIdeal.τ).loc Cert.NormLastFwdIdeal.main_arg2) = m ((c.tc : Thread Cert.NormLastFwdIdeal.nD Cert.NormLastFwdIdeal.τ).loc Cert.NormLastFwdIdeal.main_arg2))
      ∧ θ_run (Cert.NormLastFwdRefIdeal.defs (F := Ideal)) (onTc (τ := Cert.NormLastFwdRefIdeal.τ) (Cert.NormLastFwdRefIdeal.main (F := Ideal))) ⟨m', fun _ => 0, g'⟩ (fun r => ∀ c : Dev Cert.NormLastFwdRefIdeal.nD,
          r.2.mem ((c.tc : Thread Cert.NormLastFwdRefIdeal.nD Cert.NormLastFwdRefIdeal.τ).loc Cert.NormLastFwdRefIdeal.main_v12) = v0 c
          ∧ r.2.mem ((c.tc : Thread Cert.NormLastFwdRefIdeal.nD Cert.NormLastFwdRefIdeal.τ).loc Cert.NormLastFwdRefIdeal.main_arg0) = m' ((c.tc : Thread Cert.NormLastFwdRefIdeal.nD Cert.NormLastFwdRefIdeal.τ).loc Cert.NormLastFwdRefIdeal.main_arg0)
          ∧ r.2.mem ((c.tc : Thread Cert.NormLastFwdRefIdeal.nD Cert.NormLastFwdRefIdeal.τ).loc Cert.NormLastFwdRefIdeal.main_arg1) = m' ((c.tc : Thread Cert.NormLastFwdRefIdeal.nD Cert.NormLastFwdRefIdeal.τ).loc Cert.NormLastFwdRefIdeal.main_arg1)
          ∧ r.2.mem ((c.tc : Thread Cert.NormLastFwdRefIdeal.nD Cert.NormLastFwdRefIdeal.τ).loc Cert.NormLastFwdRefIdeal.main_arg2) = m' ((c.tc : Thread Cert.NormLastFwdRefIdeal.nD Cert.NormLastFwdRefIdeal.τ).loc Cert.NormLastFwdRefIdeal.main_arg2))

def preserves_UpFwd_UpFwdIdeal : Prop :=
  True

def algebraic_UpFwdIdeal_UpFwdRefIdeal [hUpFwdIdeal : Cert.UpFwdIdeal.Facts] [hUpFwdRefIdeal : Cert.UpFwdRefIdeal.Facts] : Prop :=
  ∀ (m : (ℓ : Loc Cert.UpFwdIdeal.nD Cert.UpFwdIdeal.τ Cert.UpFwdIdeal.sig) → Buf (Elt Ideal) ℓ) (g : Dev Cert.UpFwdIdeal.nD → PrngReg)
    (m' : (ℓ : Loc Cert.UpFwdRefIdeal.nD Cert.UpFwdRefIdeal.τ Cert.UpFwdRefIdeal.sig) → Buf (Elt Ideal) ℓ) (g' : Dev Cert.UpFwdRefIdeal.nD → PrngReg), Pre_UpFwdIdeal m →
    (∀ c : Dev Cert.UpFwdIdeal.nD,
      m' ((c.tc : Thread Cert.UpFwdRefIdeal.nD Cert.UpFwdRefIdeal.τ).loc Cert.UpFwdRefIdeal.main_arg0) = m ((c.tc : Thread Cert.UpFwdIdeal.nD Cert.UpFwdIdeal.τ).loc Cert.UpFwdIdeal.main_arg0)
      ∧ m' ((c.tc : Thread Cert.UpFwdRefIdeal.nD Cert.UpFwdRefIdeal.τ).loc Cert.UpFwdRefIdeal.main_arg1) = m ((c.tc : Thread Cert.UpFwdIdeal.nD Cert.UpFwdIdeal.τ).loc Cert.UpFwdIdeal.main_arg1)) →
    ∃ (v0 : (c : Dev Cert.UpFwdIdeal.nD) → Buf (Elt Ideal) ((c.tc : Thread Cert.UpFwdIdeal.nD Cert.UpFwdIdeal.τ).loc Cert.UpFwdIdeal.main_v2_0)) (v1 : (c : Dev Cert.UpFwdIdeal.nD) → Buf (Elt Ideal) ((c.tc : Thread Cert.UpFwdIdeal.nD Cert.UpFwdIdeal.τ).loc Cert.UpFwdIdeal.main_v2_1)),
      θ_run (Cert.UpFwdIdeal.defs (F := Ideal)) (onTc (τ := Cert.UpFwdIdeal.τ) (Cert.UpFwdIdeal.main (F := Ideal))) ⟨m, fun _ => 0, g⟩ (fun r => ∀ c : Dev Cert.UpFwdIdeal.nD,
          r.2.mem ((c.tc : Thread Cert.UpFwdIdeal.nD Cert.UpFwdIdeal.τ).loc Cert.UpFwdIdeal.main_v2_0) = v0 c
          ∧ r.2.mem ((c.tc : Thread Cert.UpFwdIdeal.nD Cert.UpFwdIdeal.τ).loc Cert.UpFwdIdeal.main_v2_1) = v1 c
          ∧ r.2.mem ((c.tc : Thread Cert.UpFwdIdeal.nD Cert.UpFwdIdeal.τ).loc Cert.UpFwdIdeal.main_arg0) = m ((c.tc : Thread Cert.UpFwdIdeal.nD Cert.UpFwdIdeal.τ).loc Cert.UpFwdIdeal.main_arg0)
          ∧ r.2.mem ((c.tc : Thread Cert.UpFwdIdeal.nD Cert.UpFwdIdeal.τ).loc Cert.UpFwdIdeal.main_arg1) = m ((c.tc : Thread Cert.UpFwdIdeal.nD Cert.UpFwdIdeal.τ).loc Cert.UpFwdIdeal.main_arg1))
      ∧ θ_run (Cert.UpFwdRefIdeal.defs (F := Ideal)) (onTc (τ := Cert.UpFwdRefIdeal.τ) (Cert.UpFwdRefIdeal.main (F := Ideal))) ⟨m', fun _ => 0, g'⟩ (fun r => ∀ c : Dev Cert.UpFwdRefIdeal.nD,
          r.2.mem ((c.tc : Thread Cert.UpFwdRefIdeal.nD Cert.UpFwdRefIdeal.τ).loc Cert.UpFwdRefIdeal.main_v3) = v0 c
          ∧ r.2.mem ((c.tc : Thread Cert.UpFwdRefIdeal.nD Cert.UpFwdRefIdeal.τ).loc Cert.UpFwdRefIdeal.main_v6) = v1 c
          ∧ r.2.mem ((c.tc : Thread Cert.UpFwdRefIdeal.nD Cert.UpFwdRefIdeal.τ).loc Cert.UpFwdRefIdeal.main_arg0) = m' ((c.tc : Thread Cert.UpFwdRefIdeal.nD Cert.UpFwdRefIdeal.τ).loc Cert.UpFwdRefIdeal.main_arg0)
          ∧ r.2.mem ((c.tc : Thread Cert.UpFwdRefIdeal.nD Cert.UpFwdRefIdeal.τ).loc Cert.UpFwdRefIdeal.main_arg1) = m' ((c.tc : Thread Cert.UpFwdRefIdeal.nD Cert.UpFwdRefIdeal.τ).loc Cert.UpFwdRefIdeal.main_arg1))

def preserves_DownFwd_DownFwdIdeal : Prop :=
  True

def algebraic_DownFwdIdeal_DownFwdRefIdeal [hDownFwdIdeal : Cert.DownFwdIdeal.Facts] [hDownFwdRefIdeal : Cert.DownFwdRefIdeal.Facts] : Prop :=
  ∀ (m : (ℓ : Loc Cert.DownFwdIdeal.nD Cert.DownFwdIdeal.τ Cert.DownFwdIdeal.sig) → Buf (Elt Ideal) ℓ) (g : Dev Cert.DownFwdIdeal.nD → PrngReg)
    (m' : (ℓ : Loc Cert.DownFwdRefIdeal.nD Cert.DownFwdRefIdeal.τ Cert.DownFwdRefIdeal.sig) → Buf (Elt Ideal) ℓ) (g' : Dev Cert.DownFwdRefIdeal.nD → PrngReg), Pre_DownFwdIdeal m →
    (∀ c : Dev Cert.DownFwdIdeal.nD,
      m' ((c.tc : Thread Cert.DownFwdRefIdeal.nD Cert.DownFwdRefIdeal.τ).loc Cert.DownFwdRefIdeal.main_arg0) = m ((c.tc : Thread Cert.DownFwdIdeal.nD Cert.DownFwdIdeal.τ).loc Cert.DownFwdIdeal.main_arg0)
      ∧ m' ((c.tc : Thread Cert.DownFwdRefIdeal.nD Cert.DownFwdRefIdeal.τ).loc Cert.DownFwdRefIdeal.main_arg1) = m ((c.tc : Thread Cert.DownFwdIdeal.nD Cert.DownFwdIdeal.τ).loc Cert.DownFwdIdeal.main_arg1)) →
    ∃ (v0 : (c : Dev Cert.DownFwdIdeal.nD) → Buf (Elt Ideal) ((c.tc : Thread Cert.DownFwdIdeal.nD Cert.DownFwdIdeal.τ).loc Cert.DownFwdIdeal.main_v0)),
      θ_run (Cert.DownFwdIdeal.defs (F := Ideal)) (onTc (τ := Cert.DownFwdIdeal.τ) (Cert.DownFwdIdeal.main (F := Ideal))) ⟨m, fun _ => 0, g⟩ (fun r => ∀ c : Dev Cert.DownFwdIdeal.nD,
          r.2.mem ((c.tc : Thread Cert.DownFwdIdeal.nD Cert.DownFwdIdeal.τ).loc Cert.DownFwdIdeal.main_v0) = v0 c
          ∧ r.2.mem ((c.tc : Thread Cert.DownFwdIdeal.nD Cert.DownFwdIdeal.τ).loc Cert.DownFwdIdeal.main_arg0) = m ((c.tc : Thread Cert.DownFwdIdeal.nD Cert.DownFwdIdeal.τ).loc Cert.DownFwdIdeal.main_arg0)
          ∧ r.2.mem ((c.tc : Thread Cert.DownFwdIdeal.nD Cert.DownFwdIdeal.τ).loc Cert.DownFwdIdeal.main_arg1) = m ((c.tc : Thread Cert.DownFwdIdeal.nD Cert.DownFwdIdeal.τ).loc Cert.DownFwdIdeal.main_arg1))
      ∧ θ_run (Cert.DownFwdRefIdeal.defs (F := Ideal)) (onTc (τ := Cert.DownFwdRefIdeal.τ) (Cert.DownFwdRefIdeal.main (F := Ideal))) ⟨m', fun _ => 0, g'⟩ (fun r => ∀ c : Dev Cert.DownFwdRefIdeal.nD,
          r.2.mem ((c.tc : Thread Cert.DownFwdRefIdeal.nD Cert.DownFwdRefIdeal.τ).loc Cert.DownFwdRefIdeal.main_v2) = v0 c
          ∧ r.2.mem ((c.tc : Thread Cert.DownFwdRefIdeal.nD Cert.DownFwdRefIdeal.τ).loc Cert.DownFwdRefIdeal.main_arg0) = m' ((c.tc : Thread Cert.DownFwdRefIdeal.nD Cert.DownFwdRefIdeal.τ).loc Cert.DownFwdRefIdeal.main_arg0)
          ∧ r.2.mem ((c.tc : Thread Cert.DownFwdRefIdeal.nD Cert.DownFwdRefIdeal.τ).loc Cert.DownFwdRefIdeal.main_arg1) = m' ((c.tc : Thread Cert.DownFwdRefIdeal.nD Cert.DownFwdRefIdeal.τ).loc Cert.DownFwdRefIdeal.main_arg1))

def preserves_InFwd_InFwdIdeal : Prop :=
  True

def algebraic_InFwdIdeal_InFwdRefIdeal [hInFwdIdeal : Cert.InFwdIdeal.Facts] [hInFwdRefIdeal : Cert.InFwdRefIdeal.Facts] : Prop :=
  ∀ (m : (ℓ : Loc Cert.InFwdIdeal.nD Cert.InFwdIdeal.τ Cert.InFwdIdeal.sig) → Buf (Elt Ideal) ℓ) (g : Dev Cert.InFwdIdeal.nD → PrngReg)
    (m' : (ℓ : Loc Cert.InFwdRefIdeal.nD Cert.InFwdRefIdeal.τ Cert.InFwdRefIdeal.sig) → Buf (Elt Ideal) ℓ) (g' : Dev Cert.InFwdRefIdeal.nD → PrngReg), Pre_InFwdIdeal m →
    (∀ c : Dev Cert.InFwdIdeal.nD,
      m' ((c.tc : Thread Cert.InFwdRefIdeal.nD Cert.InFwdRefIdeal.τ).loc Cert.InFwdRefIdeal.main_arg0) = m ((c.tc : Thread Cert.InFwdIdeal.nD Cert.InFwdIdeal.τ).loc Cert.InFwdIdeal.main_arg0)
      ∧ m' ((c.tc : Thread Cert.InFwdRefIdeal.nD Cert.InFwdRefIdeal.τ).loc Cert.InFwdRefIdeal.main_arg1) = m ((c.tc : Thread Cert.InFwdIdeal.nD Cert.InFwdIdeal.τ).loc Cert.InFwdIdeal.main_arg1)) →
    ∃ (v0 : (c : Dev Cert.InFwdIdeal.nD) → Buf (Elt Ideal) ((c.tc : Thread Cert.InFwdIdeal.nD Cert.InFwdIdeal.τ).loc Cert.InFwdIdeal.main_v2)),
      θ_run (Cert.InFwdIdeal.defs (F := Ideal)) (onTc (τ := Cert.InFwdIdeal.τ) (Cert.InFwdIdeal.main (F := Ideal))) ⟨m, fun _ => 0, g⟩ (fun r => ∀ c : Dev Cert.InFwdIdeal.nD,
          r.2.mem ((c.tc : Thread Cert.InFwdIdeal.nD Cert.InFwdIdeal.τ).loc Cert.InFwdIdeal.main_v2) = v0 c
          ∧ r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
          ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1))
      ∧ θ_run (Cert.InFwdRefIdeal.defs (F := Ideal)) (onTc (τ := Cert.InFwdRefIdeal.τ) (Cert.InFwdRefIdeal.main (F := Ideal))) ⟨m', fun _ => 0, g'⟩ (fun r => ∀ c : Dev Cert.InFwdRefIdeal.nD,
          r.2.mem ((c.tc : Thread Cert.InFwdRefIdeal.nD Cert.InFwdRefIdeal.τ).loc Cert.InFwdRefIdeal.main_v2) = v0 c
          ∧ r.2.mem ((c.tc : Thread Cert.InFwdRefIdeal.nD Cert.InFwdRefIdeal.τ).loc Cert.InFwdRefIdeal.main_arg0) = m' ((c.tc : Thread Cert.InFwdRefIdeal.nD Cert.InFwdRefIdeal.τ).loc Cert.InFwdRefIdeal.main_arg0)
          ∧ r.2.mem ((c.tc : Thread Cert.InFwdRefIdeal.nD Cert.InFwdRefIdeal.τ).loc Cert.InFwdRefIdeal.main_arg1) = m' ((c.tc : Thread Cert.InFwdRefIdeal.nD Cert.InFwdRefIdeal.τ).loc Cert.InFwdRefIdeal.main_arg1))

def preserves_OutDx_OutDxIdeal : Prop :=
  True

def algebraic_OutDxIdeal_OutDxRefIdeal [hOutDxIdeal : Cert.OutDxIdeal.Facts] [hOutDxRefIdeal : Cert.OutDxRefIdeal.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.OutDxRefIdeal.nD Cert.OutDxRefIdeal.τ Cert.OutDxRefIdeal.sig) → Buf (Elt Ideal) ℓ) (g' : Dev Cert.OutDxRefIdeal.nD → PrngReg), Pre_OutDxIdeal m →
    (∀ c : Dev Cert.OutDxIdeal.nD,
      m' ((c.tc : Thread Cert.OutDxRefIdeal.nD Cert.OutDxRefIdeal.τ).loc Cert.OutDxRefIdeal.main_arg0) = m ((c.tc : Thread Cert.OutDxIdeal.nD Cert.OutDxIdeal.τ).loc Cert.OutDxIdeal.main_arg0)
      ∧ m' ((c.tc : Thread Cert.OutDxRefIdeal.nD Cert.OutDxRefIdeal.τ).loc Cert.OutDxRefIdeal.main_arg1) = m ((c.tc : Thread Cert.OutDxIdeal.nD Cert.OutDxIdeal.τ).loc Cert.OutDxIdeal.main_arg1)) →
    ∃ (v0 : (c : Dev Cert.OutDxIdeal.nD) → Buf (Elt Ideal) ((c.tc : Thread Cert.OutDxIdeal.nD Cert.OutDxIdeal.τ).loc Cert.OutDxIdeal.main_v0)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v0) = v0 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ θ_run (Cert.OutDxRefIdeal.defs (F := Ideal)) (onTc (τ := Cert.OutDxRefIdeal.τ) (Cert.OutDxRefIdeal.main (F := Ideal))) ⟨m', fun _ => 0, g'⟩ (fun r => ∀ c : Dev Cert.OutDxRefIdeal.nD,
          r.2.mem ((c.tc : Thread Cert.OutDxRefIdeal.nD Cert.OutDxRefIdeal.τ).loc Cert.OutDxRefIdeal.main_v4) = v0 c
          ∧ r.2.mem ((c.tc : Thread Cert.OutDxRefIdeal.nD Cert.OutDxRefIdeal.τ).loc Cert.OutDxRefIdeal.main_arg0) = m' ((c.tc : Thread Cert.OutDxRefIdeal.nD Cert.OutDxRefIdeal.τ).loc Cert.OutDxRefIdeal.main_arg0)
          ∧ r.2.mem ((c.tc : Thread Cert.OutDxRefIdeal.nD Cert.OutDxRefIdeal.τ).loc Cert.OutDxRefIdeal.main_arg1) = m' ((c.tc : Thread Cert.OutDxRefIdeal.nD Cert.OutDxRefIdeal.τ).loc Cert.OutDxRefIdeal.main_arg1))

def preserves_UpDx_UpDxIdeal : Prop :=
  True

def algebraic_UpDxIdeal_UpDxRefIdeal [hUpDxIdeal : Cert.UpDxIdeal.Facts] [hUpDxRefIdeal : Cert.UpDxRefIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpDxRefIdeal.nD Cert.UpDxRefIdeal.τ Cert.UpDxRefIdeal.sig) → Buf (Elt Ideal) ℓ) (g' : Dev Cert.UpDxRefIdeal.nD → PrngReg), Pre_UpDxIdeal m →
    (∀ c : Dev Cert.UpDxIdeal.nD,
      m' ((c.tc : Thread Cert.UpDxRefIdeal.nD Cert.UpDxRefIdeal.τ).loc Cert.UpDxRefIdeal.main_arg0) = m ((c.tc : Thread Cert.UpDxIdeal.nD Cert.UpDxIdeal.τ).loc Cert.UpDxIdeal.main_arg0)
      ∧ m' ((c.tc : Thread Cert.UpDxRefIdeal.nD Cert.UpDxRefIdeal.τ).loc Cert.UpDxRefIdeal.main_arg1) = m ((c.tc : Thread Cert.UpDxIdeal.nD Cert.UpDxIdeal.τ).loc Cert.UpDxIdeal.main_arg1)) →
    ∃ (v0 : (c : Dev Cert.UpDxIdeal.nD) → Buf (Elt Ideal) ((c.tc : Thread Cert.UpDxIdeal.nD Cert.UpDxIdeal.τ).loc Cert.UpDxIdeal.main_v2)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v2) = v0 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ θ_run (Cert.UpDxRefIdeal.defs (F := Ideal)) (onTc (τ := Cert.UpDxRefIdeal.τ) (Cert.UpDxRefIdeal.main (F := Ideal))) ⟨m', fun _ => 0, g'⟩ (fun r => ∀ c : Dev Cert.UpDxRefIdeal.nD,
          r.2.mem ((c.tc : Thread Cert.UpDxRefIdeal.nD Cert.UpDxRefIdeal.τ).loc Cert.UpDxRefIdeal.main_v4) = v0 c
          ∧ r.2.mem ((c.tc : Thread Cert.UpDxRefIdeal.nD Cert.UpDxRefIdeal.τ).loc Cert.UpDxRefIdeal.main_arg0) = m' ((c.tc : Thread Cert.UpDxRefIdeal.nD Cert.UpDxRefIdeal.τ).loc Cert.UpDxRefIdeal.main_arg0)
          ∧ r.2.mem ((c.tc : Thread Cert.UpDxRefIdeal.nD Cert.UpDxRefIdeal.τ).loc Cert.UpDxRefIdeal.main_arg1) = m' ((c.tc : Thread Cert.UpDxRefIdeal.nD Cert.UpDxRefIdeal.τ).loc Cert.UpDxRefIdeal.main_arg1))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v0)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v0) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v6) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1))

def preserves_UpDw_UpDwIdeal : Prop :=
  True

def algebraic_UpDwIdeal_UpDwRefIdeal [hUpDwIdeal : Cert.UpDwIdeal.Facts] [hUpDwRefIdeal : Cert.UpDwRefIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwRefIdeal.nD Cert.UpDwRefIdeal.τ Cert.UpDwRefIdeal.sig) → Buf (Elt Ideal) ℓ) (g' : Dev Cert.UpDwRefIdeal.nD → PrngReg), Pre_UpDwIdeal m →
    (∀ c : Dev Cert.UpDwIdeal.nD,
      m' ((c.tc : Thread Cert.UpDwRefIdeal.nD Cert.UpDwRefIdeal.τ).loc Cert.UpDwRefIdeal.main_arg0) = m ((c.tc : Thread Cert.UpDwIdeal.nD Cert.UpDwIdeal.τ).loc Cert.UpDwIdeal.main_arg0)
      ∧ m' ((c.tc : Thread Cert.UpDwRefIdeal.nD Cert.UpDwRefIdeal.τ).loc Cert.UpDwRefIdeal.main_arg1) = m ((c.tc : Thread Cert.UpDwIdeal.nD Cert.UpDwIdeal.τ).loc Cert.UpDwIdeal.main_arg1)) →
    ∃ (v0 : (c : Dev Cert.UpDwIdeal.nD) → Buf (Elt Ideal) ((c.tc : Thread Cert.UpDwIdeal.nD Cert.UpDwIdeal.τ).loc Cert.UpDwIdeal.main_v0)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v0) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ θ_run (Cert.UpDwRefIdeal.defs (F := Ideal)) (onTc (τ := Cert.UpDwRefIdeal.τ) (Cert.UpDwRefIdeal.main (F := Ideal))) ⟨m', fun _ => 0, g'⟩ (fun r => ∀ c : Dev Cert.UpDwRefIdeal.nD,
          r.2.mem ((c.tc : Thread Cert.UpDwRefIdeal.nD Cert.UpDwRefIdeal.τ).loc Cert.UpDwRefIdeal.main_v8) = v0 c
          ∧ r.2.mem ((c.tc : Thread Cert.UpDwRefIdeal.nD Cert.UpDwRefIdeal.τ).loc Cert.UpDwRefIdeal.main_arg0) = m' ((c.tc : Thread Cert.UpDwRefIdeal.nD Cert.UpDwRefIdeal.τ).loc Cert.UpDwRefIdeal.main_arg0)
          ∧ r.2.mem ((c.tc : Thread Cert.UpDwRefIdeal.nD Cert.UpDwRefIdeal.τ).loc Cert.UpDwRefIdeal.main_arg1) = m' ((c.tc : Thread Cert.UpDwRefIdeal.nD Cert.UpDwRefIdeal.τ).loc Cert.UpDwRefIdeal.main_arg1))

def preserves_AdamwUp_AdamwUpIdeal : Prop :=
  True

def algebraic_AdamwUpIdeal_AdamwUpRefIdeal [hAdamwUpIdeal : Cert.AdamwUpIdeal.Facts] [hAdamwUpRefIdeal : Cert.AdamwUpRefIdeal.Facts] : Prop :=
  ∀ (m : (ℓ : Loc Cert.AdamwUpIdeal.nD Cert.AdamwUpIdeal.τ Cert.AdamwUpIdeal.sig) → Buf (Elt Ideal) ℓ) (g : Dev Cert.AdamwUpIdeal.nD → PrngReg)
    (m' : (ℓ : Loc Cert.AdamwUpRefIdeal.nD Cert.AdamwUpRefIdeal.τ Cert.AdamwUpRefIdeal.sig) → Buf (Elt Ideal) ℓ) (g' : Dev Cert.AdamwUpRefIdeal.nD → PrngReg), Pre_AdamwUpIdeal m →
    (∀ c : Dev Cert.AdamwUpIdeal.nD,
      m' ((c.tc : Thread Cert.AdamwUpRefIdeal.nD Cert.AdamwUpRefIdeal.τ).loc Cert.AdamwUpRefIdeal.main_arg0) = m ((c.tc : Thread Cert.AdamwUpIdeal.nD Cert.AdamwUpIdeal.τ).loc Cert.AdamwUpIdeal.main_arg0)
      ∧ m' ((c.tc : Thread Cert.AdamwUpRefIdeal.nD Cert.AdamwUpRefIdeal.τ).loc Cert.AdamwUpRefIdeal.main_arg1) = m ((c.tc : Thread Cert.AdamwUpIdeal.nD Cert.AdamwUpIdeal.τ).loc Cert.AdamwUpIdeal.main_arg1)
      ∧ m' ((c.tc : Thread Cert.AdamwUpRefIdeal.nD Cert.AdamwUpRefIdeal.τ).loc Cert.AdamwUpRefIdeal.main_arg2) = m ((c.tc : Thread Cert.AdamwUpIdeal.nD Cert.AdamwUpIdeal.τ).loc Cert.AdamwUpIdeal.main_arg2)
      ∧ m' ((c.tc : Thread Cert.AdamwUpRefIdeal.nD Cert.AdamwUpRefIdeal.τ).loc Cert.AdamwUpRefIdeal.main_arg3) = m ((c.tc : Thread Cert.AdamwUpIdeal.nD Cert.AdamwUpIdeal.τ).loc Cert.AdamwUpIdeal.main_arg3)
      ∧ m' ((c.tc : Thread Cert.AdamwUpRefIdeal.nD Cert.AdamwUpRefIdeal.τ).loc Cert.AdamwUpRefIdeal.main_arg4) = m ((c.tc : Thread Cert.AdamwUpIdeal.nD Cert.AdamwUpIdeal.τ).loc Cert.AdamwUpIdeal.main_arg4)
      ∧ m' ((c.tc : Thread Cert.AdamwUpRefIdeal.nD Cert.AdamwUpRefIdeal.τ).loc Cert.AdamwUpRefIdeal.main_arg5) = m ((c.tc : Thread Cert.AdamwUpIdeal.nD Cert.AdamwUpIdeal.τ).loc Cert.AdamwUpIdeal.main_arg5)
      ∧ m' ((c.tc : Thread Cert.AdamwUpRefIdeal.nD Cert.AdamwUpRefIdeal.τ).loc Cert.AdamwUpRefIdeal.main_arg6) = m ((c.tc : Thread Cert.AdamwUpIdeal.nD Cert.AdamwUpIdeal.τ).loc Cert.AdamwUpIdeal.main_arg6)
      ∧ m' ((c.tc : Thread Cert.AdamwUpRefIdeal.nD Cert.AdamwUpRefIdeal.τ).loc Cert.AdamwUpRefIdeal.main_arg7) = m ((c.tc : Thread Cert.AdamwUpIdeal.nD Cert.AdamwUpIdeal.τ).loc Cert.AdamwUpIdeal.main_arg7)) →
    ∃ (v0 : (c : Dev Cert.AdamwUpIdeal.nD) → Buf (Elt Ideal) ((c.tc : Thread Cert.AdamwUpIdeal.nD Cert.AdamwUpIdeal.τ).loc Cert.AdamwUpIdeal.main_v0_0)) (v1 : (c : Dev Cert.AdamwUpIdeal.nD) → Buf (Elt Ideal) ((c.tc : Thread Cert.AdamwUpIdeal.nD Cert.AdamwUpIdeal.τ).loc Cert.AdamwUpIdeal.main_v0_1)) (v2 : (c : Dev Cert.AdamwUpIdeal.nD) → Buf (Elt Ideal) ((c.tc : Thread Cert.AdamwUpIdeal.nD Cert.AdamwUpIdeal.τ).loc Cert.AdamwUpIdeal.main_v0_2)) (v3 : (c : Dev Cert.AdamwUpIdeal.nD) → Buf (Elt Ideal) ((c.tc : Thread Cert.AdamwUpIdeal.nD Cert.AdamwUpIdeal.τ).loc Cert.AdamwUpIdeal.main_v0_3)),
      θ_run (Cert.AdamwUpIdeal.defs (F := Ideal)) (onTc (τ := Cert.AdamwUpIdeal.τ) (Cert.AdamwUpIdeal.main (F := Ideal))) ⟨m, fun _ => 0, g⟩ (fun r => ∀ c : Dev Cert.AdamwUpIdeal.nD,
          r.2.mem ((c.tc : Thread Cert.AdamwUpIdeal.nD Cert.AdamwUpIdeal.τ).loc Cert.AdamwUpIdeal.main_v0_0) = v0 c
          ∧ r.2.mem ((c.tc : Thread Cert.AdamwUpIdeal.nD Cert.AdamwUpIdeal.τ).loc Cert.AdamwUpIdeal.main_v0_1) = v1 c
          ∧ r.2.mem ((c.tc : Thread Cert.AdamwUpIdeal.nD Cert.AdamwUpIdeal.τ).loc Cert.AdamwUpIdeal.main_v0_2) = v2 c
          ∧ r.2.mem ((c.tc : Thread Cert.AdamwUpIdeal.nD Cert.AdamwUpIdeal.τ).loc Cert.AdamwUpIdeal.main_v0_3) = v3 c
          ∧ r.2.mem ((c.tc : Thread Cert.AdamwUpIdeal.nD Cert.AdamwUpIdeal.τ).loc Cert.AdamwUpIdeal.main_arg0) = m ((c.tc : Thread Cert.AdamwUpIdeal.nD Cert.AdamwUpIdeal.τ).loc Cert.AdamwUpIdeal.main_arg0)
          ∧ r.2.mem ((c.tc : Thread Cert.AdamwUpIdeal.nD Cert.AdamwUpIdeal.τ).loc Cert.AdamwUpIdeal.main_arg1) = m ((c.tc : Thread Cert.AdamwUpIdeal.nD Cert.AdamwUpIdeal.τ).loc Cert.AdamwUpIdeal.main_arg1)
          ∧ r.2.mem ((c.tc : Thread Cert.AdamwUpIdeal.nD Cert.AdamwUpIdeal.τ).loc Cert.AdamwUpIdeal.main_arg2) = m ((c.tc : Thread Cert.AdamwUpIdeal.nD Cert.AdamwUpIdeal.τ).loc Cert.AdamwUpIdeal.main_arg2)
          ∧ r.2.mem ((c.tc : Thread Cert.AdamwUpIdeal.nD Cert.AdamwUpIdeal.τ).loc Cert.AdamwUpIdeal.main_arg3) = m ((c.tc : Thread Cert.AdamwUpIdeal.nD Cert.AdamwUpIdeal.τ).loc Cert.AdamwUpIdeal.main_arg3)
          ∧ r.2.mem ((c.tc : Thread Cert.AdamwUpIdeal.nD Cert.AdamwUpIdeal.τ).loc Cert.AdamwUpIdeal.main_arg4) = m ((c.tc : Thread Cert.AdamwUpIdeal.nD Cert.AdamwUpIdeal.τ).loc Cert.AdamwUpIdeal.main_arg4)
          ∧ r.2.mem ((c.tc : Thread Cert.AdamwUpIdeal.nD Cert.AdamwUpIdeal.τ).loc Cert.AdamwUpIdeal.main_arg5) = m ((c.tc : Thread Cert.AdamwUpIdeal.nD Cert.AdamwUpIdeal.τ).loc Cert.AdamwUpIdeal.main_arg5)
          ∧ r.2.mem ((c.tc : Thread Cert.AdamwUpIdeal.nD Cert.AdamwUpIdeal.τ).loc Cert.AdamwUpIdeal.main_arg6) = m ((c.tc : Thread Cert.AdamwUpIdeal.nD Cert.AdamwUpIdeal.τ).loc Cert.AdamwUpIdeal.main_arg6)
          ∧ r.2.mem ((c.tc : Thread Cert.AdamwUpIdeal.nD Cert.AdamwUpIdeal.τ).loc Cert.AdamwUpIdeal.main_arg7) = m ((c.tc : Thread Cert.AdamwUpIdeal.nD Cert.AdamwUpIdeal.τ).loc Cert.AdamwUpIdeal.main_arg7))
      ∧ θ_run (Cert.AdamwUpRefIdeal.defs (F := Ideal)) (onTc (τ := Cert.AdamwUpRefIdeal.τ) (Cert.AdamwUpRefIdeal.main (F := Ideal))) ⟨m', fun _ => 0, g'⟩ (fun r => ∀ c : Dev Cert.AdamwUpRefIdeal.nD,
          r.2.mem ((c.tc : Thread Cert.AdamwUpRefIdeal.nD Cert.AdamwUpRefIdeal.τ).loc Cert.AdamwUpRefIdeal.main_v34) = v0 c
          ∧ r.2.mem ((c.tc : Thread Cert.AdamwUpRefIdeal.nD Cert.AdamwUpRefIdeal.τ).loc Cert.AdamwUpRefIdeal.main_v39) = v1 c
          ∧ r.2.mem ((c.tc : Thread Cert.AdamwUpRefIdeal.nD Cert.AdamwUpRefIdeal.τ).loc Cert.AdamwUpRefIdeal.main_v44) = v2 c
          ∧ r.2.mem ((c.tc : Thread Cert.AdamwUpRefIdeal.nD Cert.AdamwUpRefIdeal.τ).loc Cert.AdamwUpRefIdeal.main_v49) = v3 c
          ∧ r.2.mem ((c.tc : Thread Cert.AdamwUpRefIdeal.nD Cert.AdamwUpRefIdeal.τ).loc Cert.AdamwUpRefIdeal.main_arg0) = m' ((c.tc : Thread Cert.AdamwUpRefIdeal.nD Cert.AdamwUpRefIdeal.τ).loc Cert.AdamwUpRefIdeal.main_arg0)
          ∧ r.2.mem ((c.tc : Thread Cert.AdamwUpRefIdeal.nD Cert.AdamwUpRefIdeal.τ).loc Cert.AdamwUpRefIdeal.main_arg1) = m' ((c.tc : Thread Cert.AdamwUpRefIdeal.nD Cert.AdamwUpRefIdeal.τ).loc Cert.AdamwUpRefIdeal.main_arg1)
          ∧ r.2.mem ((c.tc : Thread Cert.AdamwUpRefIdeal.nD Cert.AdamwUpRefIdeal.τ).loc Cert.AdamwUpRefIdeal.main_arg2) = m' ((c.tc : Thread Cert.AdamwUpRefIdeal.nD Cert.AdamwUpRefIdeal.τ).loc Cert.AdamwUpRefIdeal.main_arg2)
          ∧ r.2.mem ((c.tc : Thread Cert.AdamwUpRefIdeal.nD Cert.AdamwUpRefIdeal.τ).loc Cert.AdamwUpRefIdeal.main_arg3) = m' ((c.tc : Thread Cert.AdamwUpRefIdeal.nD Cert.AdamwUpRefIdeal.τ).loc Cert.AdamwUpRefIdeal.main_arg3)
          ∧ r.2.mem ((c.tc : Thread Cert.AdamwUpRefIdeal.nD Cert.AdamwUpRefIdeal.τ).loc Cert.AdamwUpRefIdeal.main_arg4) = m' ((c.tc : Thread Cert.AdamwUpRefIdeal.nD Cert.AdamwUpRefIdeal.τ).loc Cert.AdamwUpRefIdeal.main_arg4)
          ∧ r.2.mem ((c.tc : Thread Cert.AdamwUpRefIdeal.nD Cert.AdamwUpRefIdeal.τ).loc Cert.AdamwUpRefIdeal.main_arg5) = m' ((c.tc : Thread Cert.AdamwUpRefIdeal.nD Cert.AdamwUpRefIdeal.τ).loc Cert.AdamwUpRefIdeal.main_arg5)
          ∧ r.2.mem ((c.tc : Thread Cert.AdamwUpRefIdeal.nD Cert.AdamwUpRefIdeal.τ).loc Cert.AdamwUpRefIdeal.main_arg6) = m' ((c.tc : Thread Cert.AdamwUpRefIdeal.nD Cert.AdamwUpRefIdeal.τ).loc Cert.AdamwUpRefIdeal.main_arg6)
          ∧ r.2.mem ((c.tc : Thread Cert.AdamwUpRefIdeal.nD Cert.AdamwUpRefIdeal.τ).loc Cert.AdamwUpRefIdeal.main_arg7) = m' ((c.tc : Thread Cert.AdamwUpRefIdeal.nD Cert.AdamwUpRefIdeal.τ).loc Cert.AdamwUpRefIdeal.main_arg7))

def preserves_AdamwTaps_AdamwTapsIdeal : Prop :=
  True

def algebraic_AdamwTapsIdeal_AdamwTapsRefIdeal [hAdamwTapsIdeal : Cert.AdamwTapsIdeal.Facts] [hAdamwTapsRefIdeal : Cert.AdamwTapsRefIdeal.Facts] : Prop :=
  ∀ (m : (ℓ : Loc Cert.AdamwTapsIdeal.nD Cert.AdamwTapsIdeal.τ Cert.AdamwTapsIdeal.sig) → Buf (Elt Ideal) ℓ) (g : Dev Cert.AdamwTapsIdeal.nD → PrngReg)
    (m' : (ℓ : Loc Cert.AdamwTapsRefIdeal.nD Cert.AdamwTapsRefIdeal.τ Cert.AdamwTapsRefIdeal.sig) → Buf (Elt Ideal) ℓ) (g' : Dev Cert.AdamwTapsRefIdeal.nD → PrngReg), Pre_AdamwTapsIdeal m →
    (∀ c : Dev Cert.AdamwTapsIdeal.nD,
      m' ((c.tc : Thread Cert.AdamwTapsRefIdeal.nD Cert.AdamwTapsRefIdeal.τ).loc Cert.AdamwTapsRefIdeal.main_arg0) = m ((c.tc : Thread Cert.AdamwTapsIdeal.nD Cert.AdamwTapsIdeal.τ).loc Cert.AdamwTapsIdeal.main_arg0)
      ∧ m' ((c.tc : Thread Cert.AdamwTapsRefIdeal.nD Cert.AdamwTapsRefIdeal.τ).loc Cert.AdamwTapsRefIdeal.main_arg1) = m ((c.tc : Thread Cert.AdamwTapsIdeal.nD Cert.AdamwTapsIdeal.τ).loc Cert.AdamwTapsIdeal.main_arg1)
      ∧ m' ((c.tc : Thread Cert.AdamwTapsRefIdeal.nD Cert.AdamwTapsRefIdeal.τ).loc Cert.AdamwTapsRefIdeal.main_arg2) = m ((c.tc : Thread Cert.AdamwTapsIdeal.nD Cert.AdamwTapsIdeal.τ).loc Cert.AdamwTapsIdeal.main_arg2)
      ∧ m' ((c.tc : Thread Cert.AdamwTapsRefIdeal.nD Cert.AdamwTapsRefIdeal.τ).loc Cert.AdamwTapsRefIdeal.main_arg3) = m ((c.tc : Thread Cert.AdamwTapsIdeal.nD Cert.AdamwTapsIdeal.τ).loc Cert.AdamwTapsIdeal.main_arg3)) →
    ∃ (v0 : (c : Dev Cert.AdamwTapsIdeal.nD) → Buf (Elt Ideal) ((c.tc : Thread Cert.AdamwTapsIdeal.nD Cert.AdamwTapsIdeal.τ).loc Cert.AdamwTapsIdeal.main_v4_0)) (v1 : (c : Dev Cert.AdamwTapsIdeal.nD) → Buf (Elt Ideal) ((c.tc : Thread Cert.AdamwTapsIdeal.nD Cert.AdamwTapsIdeal.τ).loc Cert.AdamwTapsIdeal.main_v4_1)) (v2 : (c : Dev Cert.AdamwTapsIdeal.nD) → Buf (Elt Ideal) ((c.tc : Thread Cert.AdamwTapsIdeal.nD Cert.AdamwTapsIdeal.τ).loc Cert.AdamwTapsIdeal.main_v4_2)),
      θ_run (Cert.AdamwTapsIdeal.defs (F := Ideal)) (onTc (τ := Cert.AdamwTapsIdeal.τ) (Cert.AdamwTapsIdeal.main (F := Ideal))) ⟨m, fun _ => 0, g⟩ (fun r => ∀ c : Dev Cert.AdamwTapsIdeal.nD,
          r.2.mem ((c.tc : Thread Cert.AdamwTapsIdeal.nD Cert.AdamwTapsIdeal.τ).loc Cert.AdamwTapsIdeal.main_v4_0) = v0 c
          ∧ r.2.mem ((c.tc : Thread Cert.AdamwTapsIdeal.nD Cert.AdamwTapsIdeal.τ).loc Cert.AdamwTapsIdeal.main_v4_1) = v1 c
          ∧ r.2.mem ((c.tc : Thread Cert.AdamwTapsIdeal.nD Cert.AdamwTapsIdeal.τ).loc Cert.AdamwTapsIdeal.main_v4_2) = v2 c
          ∧ r.2.mem ((c.tc : Thread Cert.AdamwTapsIdeal.nD Cert.AdamwTapsIdeal.τ).loc Cert.AdamwTapsIdeal.main_arg0) = m ((c.tc : Thread Cert.AdamwTapsIdeal.nD Cert.AdamwTapsIdeal.τ).loc Cert.AdamwTapsIdeal.main_arg0)
          ∧ r.2.mem ((c.tc : Thread Cert.AdamwTapsIdeal.nD Cert.AdamwTapsIdeal.τ).loc Cert.AdamwTapsIdeal.main_arg1) = m ((c.tc : Thread Cert.AdamwTapsIdeal.nD Cert.AdamwTapsIdeal.τ).loc Cert.AdamwTapsIdeal.main_arg1)
          ∧ r.2.mem ((c.tc : Thread Cert.AdamwTapsIdeal.nD Cert.AdamwTapsIdeal.τ).loc Cert.AdamwTapsIdeal.main_arg2) = m ((c.tc : Thread Cert.AdamwTapsIdeal.nD Cert.AdamwTapsIdeal.τ).loc Cert.AdamwTapsIdeal.main_arg2)
          ∧ r.2.mem ((c.tc : Thread Cert.AdamwTapsIdeal.nD Cert.AdamwTapsIdeal.τ).loc Cert.AdamwTapsIdeal.main_arg3) = m ((c.tc : Thread Cert.AdamwTapsIdeal.nD Cert.AdamwTapsIdeal.τ).loc Cert.AdamwTapsIdeal.main_arg3))
      ∧ θ_run (Cert.AdamwTapsRefIdeal.defs (F := Ideal)) (onTc (τ := Cert.AdamwTapsRefIdeal.τ) (Cert.AdamwTapsRefIdeal.main (F := Ideal))) ⟨m', fun _ => 0, g'⟩ (fun r => ∀ c : Dev Cert.AdamwTapsRefIdeal.nD,
          r.2.mem ((c.tc : Thread Cert.AdamwTapsRefIdeal.nD Cert.AdamwTapsRefIdeal.τ).loc Cert.AdamwTapsRefIdeal.main_v24) = v0 c
          ∧ r.2.mem ((c.tc : Thread Cert.AdamwTapsRefIdeal.nD Cert.AdamwTapsRefIdeal.τ).loc Cert.AdamwTapsRefIdeal.main_v25) = v1 c
          ∧ r.2.mem ((c.tc : Thread Cert.AdamwTapsRefIdeal.nD Cert.AdamwTapsRefIdeal.τ).loc Cert.AdamwTapsRefIdeal.main_v26) = v2 c
          ∧ r.2.mem ((c.tc : Thread Cert.AdamwTapsRefIdeal.nD Cert.AdamwTapsRefIdeal.τ).loc Cert.AdamwTapsRefIdeal.main_arg0) = m' ((c.tc : Thread Cert.AdamwTapsRefIdeal.nD Cert.AdamwTapsRefIdeal.τ).loc Cert.AdamwTapsRefIdeal.main_arg0)
          ∧ r.2.mem ((c.tc : Thread Cert.AdamwTapsRefIdeal.nD Cert.AdamwTapsRefIdeal.τ).loc Cert.AdamwTapsRefIdeal.main_arg1) = m' ((c.tc : Thread Cert.AdamwTapsRefIdeal.nD Cert.AdamwTapsRefIdeal.τ).loc Cert.AdamwTapsRefIdeal.main_arg1)
          ∧ r.2.mem ((c.tc : Thread Cert.AdamwTapsRefIdeal.nD Cert.AdamwTapsRefIdeal.τ).loc Cert.AdamwTapsRefIdeal.main_arg2) = m' ((c.tc : Thread Cert.AdamwTapsRefIdeal.nD Cert.AdamwTapsRefIdeal.τ).loc Cert.AdamwTapsRefIdeal.main_arg2)
          ∧ r.2.mem ((c.tc : Thread Cert.AdamwTapsRefIdeal.nD Cert.AdamwTapsRefIdeal.τ).loc Cert.AdamwTapsRefIdeal.main_arg3) = m' ((c.tc : Thread Cert.AdamwTapsRefIdeal.nD Cert.AdamwTapsRefIdeal.τ).loc Cert.AdamwTapsRefIdeal.main_arg3))

def preserves_DeviceSum_DeviceSumIdeal : Prop :=
  True

def algebraic_DeviceSumIdeal_DeviceSumRefIdeal [hDeviceSumIdeal : Cert.DeviceSumIdeal.Facts] [hDeviceSumRefIdeal : Cert.DeviceSumRefIdeal.Facts] : Prop :=
  ∀ (m : (ℓ : Loc Cert.DeviceSumIdeal.nD Cert.DeviceSumIdeal.τ Cert.DeviceSumIdeal.sig) → Buf (Elt Ideal) ℓ) (g : Dev Cert.DeviceSumIdeal.nD → PrngReg)
    (m' : (ℓ : Loc Cert.DeviceSumRefIdeal.nD Cert.DeviceSumRefIdeal.τ Cert.DeviceSumRefIdeal.sig) → Buf (Elt Ideal) ℓ) (g' : Dev Cert.DeviceSumRefIdeal.nD → PrngReg), Pre_DeviceSumIdeal m →
    (∀ c : Dev Cert.DeviceSumIdeal.nD,
      m' ((c.tc : Thread Cert.DeviceSumRefIdeal.nD Cert.DeviceSumRefIdeal.τ).loc Cert.DeviceSumRefIdeal.main_arg0) = m ((c.tc : Thread Cert.DeviceSumIdeal.nD Cert.DeviceSumIdeal.τ).loc Cert.DeviceSumIdeal.main_arg0)) →
    ∃ (v0 : (c : Dev Cert.DeviceSumIdeal.nD) → Buf (Elt Ideal) ((c.tc : Thread Cert.DeviceSumIdeal.nD Cert.DeviceSumIdeal.τ).loc Cert.DeviceSumIdeal.main_v0)),
      θ_run (Cert.DeviceSumIdeal.defs (F := Ideal)) (onTc (τ := Cert.DeviceSumIdeal.τ) (Cert.DeviceSumIdeal.main (F := Ideal))) ⟨m, fun _ => 0, g⟩ (fun r => ∀ c : Dev Cert.DeviceSumIdeal.nD,
          r.2.mem ((c.tc : Thread Cert.DeviceSumIdeal.nD Cert.DeviceSumIdeal.τ).loc Cert.DeviceSumIdeal.main_v0) = v0 c
          ∧ r.2.mem ((c.tc : Thread Cert.DeviceSumIdeal.nD Cert.DeviceSumIdeal.τ).loc Cert.DeviceSumIdeal.main_arg0) = m ((c.tc : Thread Cert.DeviceSumIdeal.nD Cert.DeviceSumIdeal.τ).loc Cert.DeviceSumIdeal.main_arg0))
      ∧ θ_run (Cert.DeviceSumRefIdeal.defs (F := Ideal)) (onTc (τ := Cert.DeviceSumRefIdeal.τ) (Cert.DeviceSumRefIdeal.main (F := Ideal))) ⟨m', fun _ => 0, g'⟩ (fun r => ∀ c : Dev Cert.DeviceSumRefIdeal.nD,
          r.2.mem ((c.tc : Thread Cert.DeviceSumRefIdeal.nD Cert.DeviceSumRefIdeal.τ).loc Cert.DeviceSumRefIdeal.main_v0) = v0 c
          ∧ r.2.mem ((c.tc : Thread Cert.DeviceSumRefIdeal.nD Cert.DeviceSumRefIdeal.τ).loc Cert.DeviceSumRefIdeal.main_arg0) = m' ((c.tc : Thread Cert.DeviceSumRefIdeal.nD Cert.DeviceSumRefIdeal.τ).loc Cert.DeviceSumRefIdeal.main_arg0))

def Claim : Prop :=
  ∃ (hConvBwd : Cert.ConvBwd.Facts) (hConvBwdIdeal : Cert.ConvBwdIdeal.Facts) (hConvBwdRefIdeal : Cert.ConvBwdRefIdeal.Facts) (hAttnBwd : Cert.AttnBwd.Facts) (hAttnBwdIdeal : Cert.AttnBwdIdeal.Facts) (hAttnBwdRefIdeal : Cert.AttnBwdRefIdeal.Facts) (hNormLastBwd : Cert.NormLastBwd.Facts) (hNormLastBwdIdeal : Cert.NormLastBwdIdeal.Facts) (hNormLastBwdRefIdeal : Cert.NormLastBwdRefIdeal.Facts) (hNormMidBwd : Cert.NormMidBwd.Facts) (hNormMidBwdIdeal : Cert.NormMidBwdIdeal.Facts) (hNormMidBwdRefIdeal : Cert.NormMidBwdRefIdeal.Facts) (hNormMemBwd : Cert.NormMemBwd.Facts) (hNormMemBwdIdeal : Cert.NormMemBwdIdeal.Facts) (hNormMemBwdRefIdeal : Cert.NormMemBwdRefIdeal.Facts) (hNormFirstBwd : Cert.NormFirstBwd.Facts) (hNormFirstBwdIdeal : Cert.NormFirstBwdIdeal.Facts) (hNormFirstBwdRefIdeal : Cert.NormFirstBwdRefIdeal.Facts) (hLoss : Cert.Loss.Facts) (hLossIdeal : Cert.LossIdeal.Facts) (hLossRefIdeal : Cert.LossRefIdeal.Facts) (hDownBwd : Cert.DownBwd.Facts) (hDownBwdIdeal : Cert.DownBwdIdeal.Facts) (hDownBwdRefIdeal : Cert.DownBwdRefIdeal.Facts) (hGmlpBwd : Cert.GmlpBwd.Facts) (hGmlpBwdIdeal : Cert.GmlpBwdIdeal.Facts) (hGmlpBwdRefIdeal : Cert.GmlpBwdRefIdeal.Facts) (hPoolBwd : Cert.PoolBwd.Facts) (hPoolBwdIdeal : Cert.PoolBwdIdeal.Facts) (hPoolBwdRefIdeal : Cert.PoolBwdRefIdeal.Facts) (hSwishBwd : Cert.SwishBwd.Facts) (hSwishBwdIdeal : Cert.SwishBwdIdeal.Facts) (hSwishBwdRefIdeal : Cert.SwishBwdRefIdeal.Facts) (hAttnFwd : Cert.AttnFwd.Facts) (hAttnFwdIdeal : Cert.AttnFwdIdeal.Facts) (hAttnFwdRefIdeal : Cert.AttnFwdRefIdeal.Facts) (hGmlpFwd : Cert.GmlpFwd.Facts) (hGmlpFwdIdeal : Cert.GmlpFwdIdeal.Facts) (hGmlpFwdRefIdeal : Cert.GmlpFwdRefIdeal.Facts) (hPoolFwd : Cert.PoolFwd.Facts) (hPoolFwdIdeal : Cert.PoolFwdIdeal.Facts) (hPoolFwdRefIdeal : Cert.PoolFwdRefIdeal.Facts) (hConvFwd : Cert.ConvFwd.Facts) (hConvFwdIdeal : Cert.ConvFwdIdeal.Facts) (hConvFwdRefIdeal : Cert.ConvFwdRefIdeal.Facts) (hSwishFwd : Cert.SwishFwd.Facts) (hSwishFwdIdeal : Cert.SwishFwdIdeal.Facts) (hSwishFwdRefIdeal : Cert.SwishFwdRefIdeal.Facts) (hNormFirstFwd : Cert.NormFirstFwd.Facts) (hNormFirstFwdIdeal : Cert.NormFirstFwdIdeal.Facts) (hNormFirstFwdRefIdeal : Cert.NormFirstFwdRefIdeal.Facts) (hNormMemFwd : Cert.NormMemFwd.Facts) (hNormMemFwdIdeal : Cert.NormMemFwdIdeal.Facts) (hNormMemFwdRefIdeal : Cert.NormMemFwdRefIdeal.Facts) (hNormMidFwd : Cert.NormMidFwd.Facts) (hNormMidFwdIdeal : Cert.NormMidFwdIdeal.Facts) (hNormMidFwdRefIdeal : Cert.NormMidFwdRefIdeal.Facts) (hNormLastFwd : Cert.NormLastFwd.Facts) (hNormLastFwdIdeal : Cert.NormLastFwdIdeal.Facts) (hNormLastFwdRefIdeal : Cert.NormLastFwdRefIdeal.Facts) (hUpFwd : Cert.UpFwd.Facts) (hUpFwdIdeal : Cert.UpFwdIdeal.Facts) (hUpFwdRefIdeal : Cert.UpFwdRefIdeal.Facts) (hDownFwd : Cert.DownFwd.Facts) (hDownFwdIdeal : Cert.DownFwdIdeal.Facts) (hDownFwdRefIdeal : Cert.DownFwdRefIdeal.Facts) (hInFwd : Cert.InFwd.Facts) (hInFwdIdeal : Cert.InFwdIdeal.Facts) (hInFwdRefIdeal : Cert.InFwdRefIdeal.Facts) (hOutDx : Cert.OutDx.Facts) (hOutDxIdeal : Cert.OutDxIdeal.Facts) (hOutDxRefIdeal : Cert.OutDxRefIdeal.Facts) (hUpDx : Cert.UpDx.Facts) (hUpDxIdeal : Cert.UpDxIdeal.Facts) (hUpDxRefIdeal : Cert.UpDxRefIdeal.Facts) (hDownDw : Cert.DownDw.Facts) (hDownDwIdeal : Cert.DownDwIdeal.Facts) (hDownDwRefIdeal : Cert.DownDwRefIdeal.Facts) (hUpDw : Cert.UpDw.Facts) (hUpDwIdeal : Cert.UpDwIdeal.Facts) (hUpDwRefIdeal : Cert.UpDwRefIdeal.Facts) (hAdamwUp : Cert.AdamwUp.Facts) (hAdamwUpIdeal : Cert.AdamwUpIdeal.Facts) (hAdamwUpRefIdeal : Cert.AdamwUpRefIdeal.Facts) (hAdamwTaps : Cert.AdamwTaps.Facts) (hAdamwTapsIdeal : Cert.AdamwTapsIdeal.Facts) (hAdamwTapsRefIdeal : Cert.AdamwTapsRefIdeal.Facts) (hDeviceSum : Cert.DeviceSum.Facts) (hDeviceSumIdeal : Cert.DeviceSumIdeal.Facts) (hDeviceSumRefIdeal : Cert.DeviceSumRefIdeal.Facts) (hPre_attn_bwd_finite : Cert.Pre_attn_bwd_finite.Facts) (hPre_gmlp_bwd_finite : Cert.Pre_gmlp_bwd_finite.Facts) (hPre_pool_bwd_finite : Cert.Pre_pool_bwd_finite.Facts) (hPre_swish_bwd_finite : Cert.Pre_swish_bwd_finite.Facts) (hPre_pool_fwd_finite : Cert.Pre_pool_fwd_finite.Facts),
    quiescent_ConvBwd (hConvBwd := hConvBwd)
    ∧ quiescent_ConvBwdIdeal (hConvBwdIdeal := hConvBwdIdeal)
    ∧ quiescent_ConvBwdRefIdeal (hConvBwdRefIdeal := hConvBwdRefIdeal)
    ∧ quiescent_AttnBwd (hAttnBwd := hAttnBwd)
    ∧ quiescent_AttnBwdIdeal (hAttnBwdIdeal := hAttnBwdIdeal)
    ∧ quiescent_AttnBwdIdeal_pre_attn_bwd_finite (hAttnBwdIdeal := hAttnBwdIdeal) (hPre_attn_bwd_finite := hPre_attn_bwd_finite)
    ∧ quiescent_AttnBwdRefIdeal (hAttnBwdRefIdeal := hAttnBwdRefIdeal)
    ∧ quiescent_AttnBwdRefIdeal_pre_attn_bwd_finite (hAttnBwdRefIdeal := hAttnBwdRefIdeal) (hPre_attn_bwd_finite := hPre_attn_bwd_finite)
    ∧ quiescent_NormLastBwd (hNormLastBwd := hNormLastBwd)
    ∧ quiescent_NormLastBwdIdeal (hNormLastBwdIdeal := hNormLastBwdIdeal)
    ∧ quiescent_NormLastBwdRefIdeal (hNormLastBwdRefIdeal := hNormLastBwdRefIdeal)
    ∧ quiescent_NormMidBwd (hNormMidBwd := hNormMidBwd)
    ∧ quiescent_NormMidBwdIdeal (hNormMidBwdIdeal := hNormMidBwdIdeal)
    ∧ quiescent_NormMidBwdRefIdeal (hNormMidBwdRefIdeal := hNormMidBwdRefIdeal)
    ∧ quiescent_NormMemBwd (hNormMemBwd := hNormMemBwd)
    ∧ quiescent_NormMemBwdIdeal (hNormMemBwdIdeal := hNormMemBwdIdeal)
    ∧ quiescent_NormMemBwdRefIdeal (hNormMemBwdRefIdeal := hNormMemBwdRefIdeal)
    ∧ quiescent_NormFirstBwd (hNormFirstBwd := hNormFirstBwd)
    ∧ quiescent_NormFirstBwdIdeal (hNormFirstBwdIdeal := hNormFirstBwdIdeal)
    ∧ quiescent_NormFirstBwdRefIdeal (hNormFirstBwdRefIdeal := hNormFirstBwdRefIdeal)
    ∧ quiescent_Loss (hLoss := hLoss)
    ∧ quiescent_LossIdeal (hLossIdeal := hLossIdeal)
    ∧ quiescent_LossRefIdeal (hLossRefIdeal := hLossRefIdeal)
    ∧ quiescent_DownBwd (hDownBwd := hDownBwd)
    ∧ quiescent_DownBwdIdeal (hDownBwdIdeal := hDownBwdIdeal)
    ∧ quiescent_DownBwdRefIdeal (hDownBwdRefIdeal := hDownBwdRefIdeal)
    ∧ quiescent_GmlpBwd (hGmlpBwd := hGmlpBwd)
    ∧ quiescent_GmlpBwdIdeal (hGmlpBwdIdeal := hGmlpBwdIdeal)
    ∧ quiescent_GmlpBwdIdeal_pre_gmlp_bwd_finite (hGmlpBwdIdeal := hGmlpBwdIdeal) (hPre_gmlp_bwd_finite := hPre_gmlp_bwd_finite)
    ∧ quiescent_GmlpBwdRefIdeal (hGmlpBwdRefIdeal := hGmlpBwdRefIdeal)
    ∧ quiescent_GmlpBwdRefIdeal_pre_gmlp_bwd_finite (hGmlpBwdRefIdeal := hGmlpBwdRefIdeal) (hPre_gmlp_bwd_finite := hPre_gmlp_bwd_finite)
    ∧ quiescent_PoolBwd (hPoolBwd := hPoolBwd)
    ∧ quiescent_PoolBwdIdeal (hPoolBwdIdeal := hPoolBwdIdeal)
    ∧ quiescent_PoolBwdIdeal_pre_pool_bwd_finite (hPoolBwdIdeal := hPoolBwdIdeal) (hPre_pool_bwd_finite := hPre_pool_bwd_finite)
    ∧ quiescent_PoolBwdRefIdeal (hPoolBwdRefIdeal := hPoolBwdRefIdeal)
    ∧ quiescent_PoolBwdRefIdeal_pre_pool_bwd_finite (hPoolBwdRefIdeal := hPoolBwdRefIdeal) (hPre_pool_bwd_finite := hPre_pool_bwd_finite)
    ∧ quiescent_SwishBwd (hSwishBwd := hSwishBwd)
    ∧ quiescent_SwishBwdIdeal (hSwishBwdIdeal := hSwishBwdIdeal)
    ∧ quiescent_SwishBwdIdeal_pre_swish_bwd_finite (hSwishBwdIdeal := hSwishBwdIdeal) (hPre_swish_bwd_finite := hPre_swish_bwd_finite)
    ∧ quiescent_SwishBwdRefIdeal (hSwishBwdRefIdeal := hSwishBwdRefIdeal)
    ∧ quiescent_SwishBwdRefIdeal_pre_swish_bwd_finite (hSwishBwdRefIdeal := hSwishBwdRefIdeal) (hPre_swish_bwd_finite := hPre_swish_bwd_finite)
    ∧ quiescent_AttnFwd (hAttnFwd := hAttnFwd)
    ∧ quiescent_AttnFwdIdeal (hAttnFwdIdeal := hAttnFwdIdeal)
    ∧ quiescent_AttnFwdRefIdeal (hAttnFwdRefIdeal := hAttnFwdRefIdeal)
    ∧ quiescent_GmlpFwd (hGmlpFwd := hGmlpFwd)
    ∧ quiescent_GmlpFwdIdeal (hGmlpFwdIdeal := hGmlpFwdIdeal)
    ∧ quiescent_GmlpFwdRefIdeal (hGmlpFwdRefIdeal := hGmlpFwdRefIdeal)
    ∧ quiescent_PoolFwd (hPoolFwd := hPoolFwd)
    ∧ quiescent_PoolFwdIdeal (hPoolFwdIdeal := hPoolFwdIdeal)
    ∧ quiescent_PoolFwdIdeal_pre_pool_fwd_finite (hPoolFwdIdeal := hPoolFwdIdeal) (hPre_pool_fwd_finite := hPre_pool_fwd_finite)
    ∧ quiescent_PoolFwdRefIdeal (hPoolFwdRefIdeal := hPoolFwdRefIdeal)
    ∧ quiescent_PoolFwdRefIdeal_pre_pool_fwd_finite (hPoolFwdRefIdeal := hPoolFwdRefIdeal) (hPre_pool_fwd_finite := hPre_pool_fwd_finite)
    ∧ quiescent_ConvFwd (hConvFwd := hConvFwd)
    ∧ quiescent_ConvFwdIdeal (hConvFwdIdeal := hConvFwdIdeal)
    ∧ quiescent_ConvFwdRefIdeal (hConvFwdRefIdeal := hConvFwdRefIdeal)
    ∧ quiescent_SwishFwd (hSwishFwd := hSwishFwd)
    ∧ quiescent_SwishFwdIdeal (hSwishFwdIdeal := hSwishFwdIdeal)
    ∧ quiescent_SwishFwdRefIdeal (hSwishFwdRefIdeal := hSwishFwdRefIdeal)
    ∧ quiescent_NormFirstFwd (hNormFirstFwd := hNormFirstFwd)
    ∧ quiescent_NormFirstFwdIdeal (hNormFirstFwdIdeal := hNormFirstFwdIdeal)
    ∧ quiescent_NormFirstFwdRefIdeal (hNormFirstFwdRefIdeal := hNormFirstFwdRefIdeal)
    ∧ quiescent_NormMemFwd (hNormMemFwd := hNormMemFwd)
    ∧ quiescent_NormMemFwdIdeal (hNormMemFwdIdeal := hNormMemFwdIdeal)
    ∧ quiescent_NormMemFwdRefIdeal (hNormMemFwdRefIdeal := hNormMemFwdRefIdeal)
    ∧ quiescent_NormMidFwd (hNormMidFwd := hNormMidFwd)
    ∧ quiescent_NormMidFwdIdeal (hNormMidFwdIdeal := hNormMidFwdIdeal)
    ∧ quiescent_NormMidFwdRefIdeal (hNormMidFwdRefIdeal := hNormMidFwdRefIdeal)
    ∧ quiescent_NormLastFwd (hNormLastFwd := hNormLastFwd)
    ∧ quiescent_NormLastFwdIdeal (hNormLastFwdIdeal := hNormLastFwdIdeal)
    ∧ quiescent_NormLastFwdRefIdeal (hNormLastFwdRefIdeal := hNormLastFwdRefIdeal)
    ∧ quiescent_UpFwd (hUpFwd := hUpFwd)
    ∧ quiescent_UpFwdIdeal (hUpFwdIdeal := hUpFwdIdeal)
    ∧ quiescent_UpFwdRefIdeal (hUpFwdRefIdeal := hUpFwdRefIdeal)
    ∧ quiescent_DownFwd (hDownFwd := hDownFwd)
    ∧ quiescent_DownFwdIdeal (hDownFwdIdeal := hDownFwdIdeal)
    ∧ quiescent_DownFwdRefIdeal (hDownFwdRefIdeal := hDownFwdRefIdeal)
    ∧ quiescent_InFwd (hInFwd := hInFwd)
    ∧ quiescent_InFwdIdeal (hInFwdIdeal := hInFwdIdeal)
    ∧ quiescent_InFwdRefIdeal (hInFwdRefIdeal := hInFwdRefIdeal)
    ∧ quiescent_OutDx (hOutDx := hOutDx)
    ∧ quiescent_OutDxIdeal (hOutDxIdeal := hOutDxIdeal)
    ∧ quiescent_OutDxRefIdeal (hOutDxRefIdeal := hOutDxRefIdeal)
    ∧ quiescent_UpDx (hUpDx := hUpDx)
    ∧ quiescent_UpDxIdeal (hUpDxIdeal := hUpDxIdeal)
    ∧ quiescent_UpDxRefIdeal (hUpDxRefIdeal := hUpDxRefIdeal)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_UpDw (hUpDw := hUpDw)
    ∧ quiescent_UpDwIdeal (hUpDwIdeal := hUpDwIdeal)
    ∧ quiescent_UpDwRefIdeal (hUpDwRefIdeal := hUpDwRefIdeal)
    ∧ quiescent_AdamwUp (hAdamwUp := hAdamwUp)
    ∧ quiescent_AdamwUpIdeal (hAdamwUpIdeal := hAdamwUpIdeal)
    ∧ quiescent_AdamwUpRefIdeal (hAdamwUpRefIdeal := hAdamwUpRefIdeal)
    ∧ quiescent_AdamwTaps (hAdamwTaps := hAdamwTaps)
    ∧ quiescent_AdamwTapsIdeal (hAdamwTapsIdeal := hAdamwTapsIdeal)
    ∧ quiescent_AdamwTapsRefIdeal (hAdamwTapsRefIdeal := hAdamwTapsRefIdeal)
    ∧ quiescent_DeviceSum (hDeviceSum := hDeviceSum)
    ∧ quiescent_DeviceSumIdeal (hDeviceSumIdeal := hDeviceSumIdeal)
    ∧ quiescent_DeviceSumRefIdeal (hDeviceSumRefIdeal := hDeviceSumRefIdeal)
    ∧ preserves_ConvBwd_ConvBwdIdeal
    ∧ algebraic_ConvBwdIdeal_ConvBwdRefIdeal (hConvBwdIdeal := hConvBwdIdeal) (hConvBwdRefIdeal := hConvBwdRefIdeal)
    ∧ preserves_AttnBwd_AttnBwdIdeal
    ∧ algebraic_AttnBwdIdeal_AttnBwdRefIdeal_pre_attn_bwd_finite (hAttnBwdIdeal := hAttnBwdIdeal) (hAttnBwdRefIdeal := hAttnBwdRefIdeal) (hPre_attn_bwd_finite := hPre_attn_bwd_finite)
    ∧ preserves_NormLastBwd_NormLastBwdIdeal
    ∧ algebraic_NormLastBwdIdeal_NormLastBwdRefIdeal (hNormLastBwdIdeal := hNormLastBwdIdeal) (hNormLastBwdRefIdeal := hNormLastBwdRefIdeal)
    ∧ preserves_NormMidBwd_NormMidBwdIdeal
    ∧ algebraic_NormMidBwdIdeal_NormMidBwdRefIdeal (hNormMidBwdIdeal := hNormMidBwdIdeal) (hNormMidBwdRefIdeal := hNormMidBwdRefIdeal)
    ∧ preserves_NormMemBwd_NormMemBwdIdeal
    ∧ algebraic_NormMemBwdIdeal_NormMemBwdRefIdeal (hNormMemBwdIdeal := hNormMemBwdIdeal) (hNormMemBwdRefIdeal := hNormMemBwdRefIdeal)
    ∧ preserves_NormFirstBwd_NormFirstBwdIdeal
    ∧ algebraic_NormFirstBwdIdeal_NormFirstBwdRefIdeal (hNormFirstBwdIdeal := hNormFirstBwdIdeal) (hNormFirstBwdRefIdeal := hNormFirstBwdRefIdeal)
    ∧ preserves_Loss_LossIdeal
    ∧ algebraic_LossIdeal_LossRefIdeal (hLossIdeal := hLossIdeal) (hLossRefIdeal := hLossRefIdeal)
    ∧ preserves_DownBwd_DownBwdIdeal
    ∧ algebraic_DownBwdIdeal_DownBwdRefIdeal (hDownBwdIdeal := hDownBwdIdeal) (hDownBwdRefIdeal := hDownBwdRefIdeal)
    ∧ preserves_GmlpBwd_GmlpBwdIdeal
    ∧ algebraic_GmlpBwdIdeal_GmlpBwdRefIdeal_pre_gmlp_bwd_finite (hGmlpBwdIdeal := hGmlpBwdIdeal) (hGmlpBwdRefIdeal := hGmlpBwdRefIdeal) (hPre_gmlp_bwd_finite := hPre_gmlp_bwd_finite)
    ∧ preserves_PoolBwd_PoolBwdIdeal
    ∧ algebraic_PoolBwdIdeal_PoolBwdRefIdeal_pre_pool_bwd_finite (hPoolBwdIdeal := hPoolBwdIdeal) (hPoolBwdRefIdeal := hPoolBwdRefIdeal) (hPre_pool_bwd_finite := hPre_pool_bwd_finite)
    ∧ preserves_SwishBwd_SwishBwdIdeal
    ∧ algebraic_SwishBwdIdeal_SwishBwdRefIdeal_pre_swish_bwd_finite (hSwishBwdIdeal := hSwishBwdIdeal) (hSwishBwdRefIdeal := hSwishBwdRefIdeal) (hPre_swish_bwd_finite := hPre_swish_bwd_finite)
    ∧ preserves_AttnFwd_AttnFwdIdeal
    ∧ algebraic_AttnFwdIdeal_AttnFwdRefIdeal (hAttnFwdIdeal := hAttnFwdIdeal) (hAttnFwdRefIdeal := hAttnFwdRefIdeal)
    ∧ preserves_GmlpFwd_GmlpFwdIdeal
    ∧ algebraic_GmlpFwdIdeal_GmlpFwdRefIdeal (hGmlpFwdIdeal := hGmlpFwdIdeal) (hGmlpFwdRefIdeal := hGmlpFwdRefIdeal)
    ∧ preserves_PoolFwd_PoolFwdIdeal
    ∧ algebraic_PoolFwdIdeal_PoolFwdRefIdeal_pre_pool_fwd_finite (hPoolFwdIdeal := hPoolFwdIdeal) (hPoolFwdRefIdeal := hPoolFwdRefIdeal) (hPre_pool_fwd_finite := hPre_pool_fwd_finite)
    ∧ preserves_ConvFwd_ConvFwdIdeal
    ∧ algebraic_ConvFwdIdeal_ConvFwdRefIdeal (hConvFwdIdeal := hConvFwdIdeal) (hConvFwdRefIdeal := hConvFwdRefIdeal)
    ∧ preserves_SwishFwd_SwishFwdIdeal
    ∧ algebraic_SwishFwdIdeal_SwishFwdRefIdeal (hSwishFwdIdeal := hSwishFwdIdeal) (hSwishFwdRefIdeal := hSwishFwdRefIdeal)
    ∧ preserves_NormFirstFwd_NormFirstFwdIdeal
    ∧ algebraic_NormFirstFwdIdeal_NormFirstFwdRefIdeal (hNormFirstFwdIdeal := hNormFirstFwdIdeal) (hNormFirstFwdRefIdeal := hNormFirstFwdRefIdeal)
    ∧ preserves_NormMemFwd_NormMemFwdIdeal
    ∧ algebraic_NormMemFwdIdeal_NormMemFwdRefIdeal (hNormMemFwdIdeal := hNormMemFwdIdeal) (hNormMemFwdRefIdeal := hNormMemFwdRefIdeal)
    ∧ preserves_NormMidFwd_NormMidFwdIdeal
    ∧ algebraic_NormMidFwdIdeal_NormMidFwdRefIdeal (hNormMidFwdIdeal := hNormMidFwdIdeal) (hNormMidFwdRefIdeal := hNormMidFwdRefIdeal)
    ∧ preserves_NormLastFwd_NormLastFwdIdeal
    ∧ algebraic_NormLastFwdIdeal_NormLastFwdRefIdeal (hNormLastFwdIdeal := hNormLastFwdIdeal) (hNormLastFwdRefIdeal := hNormLastFwdRefIdeal)
    ∧ preserves_UpFwd_UpFwdIdeal
    ∧ algebraic_UpFwdIdeal_UpFwdRefIdeal (hUpFwdIdeal := hUpFwdIdeal) (hUpFwdRefIdeal := hUpFwdRefIdeal)
    ∧ preserves_DownFwd_DownFwdIdeal
    ∧ algebraic_DownFwdIdeal_DownFwdRefIdeal (hDownFwdIdeal := hDownFwdIdeal) (hDownFwdRefIdeal := hDownFwdRefIdeal)
    ∧ preserves_InFwd_InFwdIdeal
    ∧ algebraic_InFwdIdeal_InFwdRefIdeal (hInFwdIdeal := hInFwdIdeal) (hInFwdRefIdeal := hInFwdRefIdeal)
    ∧ preserves_OutDx_OutDxIdeal
    ∧ algebraic_OutDxIdeal_OutDxRefIdeal (hOutDxIdeal := hOutDxIdeal) (hOutDxRefIdeal := hOutDxRefIdeal)
    ∧ preserves_UpDx_UpDxIdeal
    ∧ algebraic_UpDxIdeal_UpDxRefIdeal (hUpDxIdeal := hUpDxIdeal) (hUpDxRefIdeal := hUpDxRefIdeal)
    ∧ preserves_DownDw_DownDwIdeal
    ∧ algebraic_DownDwIdeal_DownDwRefIdeal (hDownDwIdeal := hDownDwIdeal) (hDownDwRefIdeal := hDownDwRefIdeal)
    ∧ preserves_UpDw_UpDwIdeal
    ∧ algebraic_UpDwIdeal_UpDwRefIdeal (hUpDwIdeal := hUpDwIdeal) (hUpDwRefIdeal := hUpDwRefIdeal)
    ∧ preserves_AdamwUp_AdamwUpIdeal
    ∧ algebraic_AdamwUpIdeal_AdamwUpRefIdeal (hAdamwUpIdeal := hAdamwUpIdeal) (hAdamwUpRefIdeal := hAdamwUpRefIdeal)
    ∧ preserves_AdamwTaps_AdamwTapsIdeal
    ∧ algebraic_AdamwTapsIdeal_AdamwTapsRefIdeal (hAdamwTapsIdeal := hAdamwTapsIdeal) (hAdamwTapsRefIdeal := hAdamwTapsRefIdeal)
    ∧ preserves_DeviceSum_DeviceSumIdeal
    ∧ algebraic_DeviceSumIdeal_DeviceSumRefIdeal (hDeviceSumIdeal := hDeviceSumIdeal) (hDeviceSumRefIdeal := hDeviceSumRefIdeal)
-- ==== Pre_attn_bwd_finite.lean ====
abbrev S2048x2048 : Shape := ⟨2, ![2048, 2048]⟩
abbrev S256x2048 : Shape := ⟨2, ![256, 2048]⟩
abbrev S_ : Shape := ⟨0, ![]⟩

class Facts : Prop where
  bitsLt_bf16_f32 : FTy.bits .bf16 < FTy.bits .f32
  bcast_S_S2048x2048 : S_.BroadcastsInDim S2048x2048 (![] : Fin 0 → Fin S2048x2048.rank)
  bcast_S_S256x2048 : S_.BroadcastsInDim S256x2048 (![] : Fin 0 → Fin S256x2048.rank)

variable [Facts]

def fn {F : FTy → Type} [FloatOps F] (main_arg0 : FVec F S2048x2048 .bf16) (main_arg1 : FVec F S256x2048 .bf16) (main_arg2 : FVec F S256x2048 .bf16) (main_arg3 : FVec F S2048x2048 .bf16) : IVec S2048x2048 1 × IVec S256x2048 1 :=
  let main_v0 : FVec F S2048x2048 .f32 := (extf .f32 · bitsLt_bf16_f32) main_arg0
  let main_v1 : FVec F S256x2048 .f32 := (extf .f32 · bitsLt_bf16_f32) main_arg1
  let main_v2 : FVec F S2048x2048 .f32 := Host.absf main_v0
  let main_cst : FVec F S_ .f32 := constant S_ .f32 0x7F800000#32
  let main_v3 : FVec F S2048x2048 .f32 := broadcastInDim S2048x2048 ![] bcast_S_S2048x2048 main_cst
  let main_v4 : IVec S2048x2048 1 := cmpf .olt main_v2 main_v3
  let main_v5 : FVec F S256x2048 .f32 := Host.absf main_v1
  let main_cst_0 : FVec F S_ .f32 := constant S_ .f32 0x7F800000#32
  let main_v6 : FVec F S256x2048 .f32 := broadcastInDim S256x2048 ![] bcast_S_S256x2048 main_cst_0
  let main_v7 : IVec S256x2048 1 := cmpf .olt main_v5 main_v6
  (main_v4, main_v7)
-- ==== Pre_gmlp_bwd_finite.lean ====
abbrev S2048x3584 : Shape := ⟨2, ![2048, 3584]⟩
abbrev S8x128 : Shape := ⟨2, ![8, 128]⟩
abbrev S8x128x128 : Shape := ⟨3, ![8, 128, 128]⟩
abbrev S2048x2048 : Shape := ⟨2, ![2048, 2048]⟩
abbrev S2048x1024 : Shape := ⟨2, ![2048, 1024]⟩
abbrev S_ : Shape := ⟨0, ![]⟩

class Facts : Prop where
  slices_S2048x3584_S2048x1024_0_0 : S2048x3584.Slices ![0, 0] S2048x1024
  slices_S2048x2048_S2048x1024_0_0 : S2048x2048.Slices ![0, 0] S2048x1024
  bcast_S_S2048x1024 : S_.BroadcastsInDim S2048x1024 (![] : Fin 0 → Fin S2048x1024.rank)
  bcast_S_S8x128 : S_.BroadcastsInDim S8x128 (![] : Fin 0 → Fin S8x128.rank)
  bcast_S_S8x128x128 : S_.BroadcastsInDim S8x128x128 (![] : Fin 0 → Fin S8x128x128.rank)

variable [Facts]

def fn {F : FTy → Type} [FloatOps F] (main_arg0 : FVec F S2048x3584 .f32) (main_arg1 : FVec F S8x128 .f32) (main_arg2 : FVec F S8x128x128 .f32) (main_arg3 : FVec F S8x128 .f32) (main_arg4 : FVec F S2048x2048 .f32) : IVec S2048x1024 1 × IVec S8x128 1 × IVec S8x128x128 1 × IVec S2048x1024 1 :=
  let main_v0 : FVec F S2048x1024 .f32 := (extractStridedSlice S2048x1024 ![0, 0] · slices_S2048x3584_S2048x1024_0_0) main_arg0
  let main_v1 : FVec F S2048x1024 .f32 := (extractStridedSlice S2048x1024 ![0, 0] · slices_S2048x2048_S2048x1024_0_0) main_arg4
  let main_v2 : FVec F S2048x1024 .f32 := Host.absf main_v0
  let main_cst : FVec F S_ .f32 := constant S_ .f32 0x7F800000#32
  let main_v3 : FVec F S2048x1024 .f32 := broadcastInDim S2048x1024 ![] bcast_S_S2048x1024 main_cst
  let main_v4 : IVec S2048x1024 1 := cmpf .olt main_v2 main_v3
  let main_v5 : FVec F S8x128 .f32 := Host.absf main_arg1
  let main_cst_0 : FVec F S_ .f32 := constant S_ .f32 0x7F800000#32
  let main_v6 : FVec F S8x128 .f32 := broadcastInDim S8x128 ![] bcast_S_S8x128 main_cst_0
  let main_v7 : IVec S8x128 1 := cmpf .olt main_v5 main_v6
  let main_v8 : FVec F S8x128x128 .f32 := Host.absf main_arg2
  let main_cst_1 : FVec F S_ .f32 := constant S_ .f32 0x7F800000#32
  let main_v9 : FVec F S8x128x128 .f32 := broadcastInDim S8x128x128 ![] bcast_S_S8x128x128 main_cst_1
  let main_v10 : IVec S8x128x128 1 := cmpf .olt main_v8 main_v9
  let main_v11 : FVec F S2048x1024 .f32 := Host.absf main_v1
  let main_cst_2 : FVec F S_ .f32 := constant S_ .f32 0x7F800000#32
  let main_v12 : FVec F S2048x1024 .f32 := broadcastInDim S2048x1024 ![] bcast_S_S2048x1024 main_cst_2
  let main_v13 : IVec S2048x1024 1 := cmpf .olt main_v11 main_v12
  (main_v4, main_v7, main_v10, main_v13)
-- ==== Pre_pool_bwd_finite.lean ====
abbrev S2048x3584 : Shape := ⟨2, ![2048, 3584]⟩
abbrev S4x128x128 : Shape := ⟨3, ![4, 128, 128]⟩
abbrev S1x512 : Shape := ⟨2, ![1, 512]⟩
abbrev S2048x2048 : Shape := ⟨2, ![2048, 2048]⟩
abbrev S2048x512 : Shape := ⟨2, ![2048, 512]⟩
abbrev S_ : Shape := ⟨0, ![]⟩

class Facts : Prop where
  slices_S2048x3584_S2048x512_0_2048 : S2048x3584.Slices ![0, 2048] S2048x512
  slices_S2048x2048_S2048x512_0_1024 : S2048x2048.Slices ![0, 1024] S2048x512
  bcast_S_S2048x512 : S_.BroadcastsInDim S2048x512 (![] : Fin 0 → Fin S2048x512.rank)
  bcast_S_S4x128x128 : S_.BroadcastsInDim S4x128x128 (![] : Fin 0 → Fin S4x128x128.rank)
  bcast_S_S1x512 : S_.BroadcastsInDim S1x512 (![] : Fin 0 → Fin S1x512.rank)

variable [Facts]

def fn {F : FTy → Type} [FloatOps F] (main_arg0 : FVec F S2048x3584 .f32) (main_arg1 : FVec F S4x128x128 .f32) (main_arg2 : FVec F S1x512 .f32) (main_arg3 : FVec F S2048x2048 .f32) : IVec S2048x512 1 × IVec S4x128x128 1 × IVec S1x512 1 × IVec S2048x512 1 :=
  let main_v0 : FVec F S2048x512 .f32 := (extractStridedSlice S2048x512 ![0, 2048] · slices_S2048x3584_S2048x512_0_2048) main_arg0
  let main_v1 : FVec F S2048x512 .f32 := (extractStridedSlice S2048x512 ![0, 1024] · slices_S2048x2048_S2048x512_0_1024) main_arg3
  let main_v2 : FVec F S2048x512 .f32 := Host.absf main_v0
  let main_cst : FVec F S_ .f32 := constant S_ .f32 0x7F800000#32
  let main_v3 : FVec F S2048x512 .f32 := broadcastInDim S2048x512 ![] bcast_S_S2048x512 main_cst
  let main_v4 : IVec S2048x512 1 := cmpf .olt main_v2 main_v3
  let main_v5 : FVec F S4x128x128 .f32 := Host.absf main_arg1
  let main_cst_0 : FVec F S_ .f32 := constant S_ .f32 0x7F800000#32
  let main_v6 : FVec F S4x128x128 .f32 := broadcastInDim S4x128x128 ![] bcast_S_S4x128x128 main_cst_0
  let main_v7 : IVec S4x128x128 1 := cmpf .olt main_v5 main_v6
  let main_v8 : FVec F S1x512 .f32 := Host.absf main_arg2
  let main_cst_1 : FVec F S_ .f32 := constant S_ .f32 0x7F800000#32
  let main_v9 : FVec F S1x512 .f32 := broadcastInDim S1x512 ![] bcast_S_S1x512 main_cst_1
  let main_v10 : IVec S1x512 1 := cmpf .olt main_v8 main_v9
  let main_v11 : FVec F S2048x512 .f32 := Host.absf main_v1
  let main_cst_2 : FVec F S_ .f32 := constant S_ .f32 0x7F800000#32
  let main_v12 : FVec F S2048x512 .f32 := broadcastInDim S2048x512 ![] bcast_S_S2048x512 main_cst_2
  let main_v13 : IVec S2048x512 1 := cmpf .olt main_v11 main_v12
  (main_v4, main_v7, main_v10, main_v13)
-- ==== Pre_pool_fwd_finite.lean ====
abbrev S2048x3584 : Shape := ⟨2, ![2048, 3584]⟩
abbrev S4x128x128 : Shape := ⟨3, ![4, 128, 128]⟩
abbrev S1x512 : Shape := ⟨2, ![1, 512]⟩
abbrev S2048x512 : Shape := ⟨2, ![2048, 512]⟩
abbrev S_ : Shape := ⟨0, ![]⟩

class Facts : Prop where
  slices_S2048x3584_S2048x512_0_2048 : S2048x3584.Slices ![0, 2048] S2048x512
  bcast_S_S2048x512 : S_.BroadcastsInDim S2048x512 (![] : Fin 0 → Fin S2048x512.rank)

variable [Facts]

def fn {F : FTy → Type} [FloatOps F] (main_arg0 : FVec F S2048x3584 .f32) (main_arg1 : FVec F S4x128x128 .f32) (main_arg2 : FVec F S1x512 .f32) : IVec S2048x512 1 :=
  let main_v0 : FVec F S2048x512 .f32 := (extractStridedSlice S2048x512 ![0, 2048] · slices_S2048x3584_S2048x512_0_2048) main_arg0
  let main_v1 : FVec F S2048x512 .f32 := Host.absf main_v0
  let main_cst : FVec F S_ .f32 := constant S_ .f32 0x7F800000#32
  let main_v2 : FVec F S2048x512 .f32 := broadcastInDim S2048x512 ![] bcast_S_S2048x512 main_cst
  let main_v3 : IVec S2048x512 1 := cmpf .olt main_v1 main_v2
  main_v3
-- ==== Pre_swish_bwd_finite.lean ====
abbrev S2048x512 : Shape := ⟨2, ![2048, 512]⟩
abbrev S1x512 : Shape := ⟨2, ![1, 512]⟩
abbrev S2048x2048 : Shape := ⟨2, ![2048, 2048]⟩
abbrev S_ : Shape := ⟨0, ![]⟩

class Facts : Prop where
  slices_S2048x2048_S2048x512_0_1536 : S2048x2048.Slices ![0, 1536] S2048x512
  bcast_S_S1x512 : S_.BroadcastsInDim S1x512 (![] : Fin 0 → Fin S1x512.rank)
  bcast_S_S2048x512 : S_.BroadcastsInDim S2048x512 (![] : Fin 0 → Fin S2048x512.rank)

variable [Facts]

def fn {F : FTy → Type} [FloatOps F] (main_arg0 : FVec F S2048x512 .f32) (main_arg1 : FVec F S1x512 .f32) (main_arg2 : FVec F S1x512 .f32) (main_arg3 : FVec F S2048x2048 .f32) : IVec S1x512 1 × IVec S2048x512 1 :=
  let main_v0 : FVec F S2048x512 .f32 := (extractStridedSlice S2048x512 ![0, 1536] · slices_S2048x2048_S2048x512_0_1536) main_arg3
  let main_v1 : FVec F S1x512 .f32 := Host.absf main_arg1
  let main_cst : FVec F S_ .f32 := constant S_ .f32 0x7F800000#32
  let main_v2 : FVec F S1x512 .f32 := broadcastInDim S1x512 ![] bcast_S_S1x512 main_cst
  let main_v3 : IVec S1x512 1 := cmpf .olt main_v1 main_v2
  let main_v4 : FVec F S2048x512 .f32 := Host.absf main_v0
  let main_cst_0 : FVec F S_ .f32 := constant S_ .f32 0x7F800000#32
  let main_v5 : FVec F S2048x512 .f32 := broadcastInDim S2048x512 ![] bcast_S_S2048x512 main_cst_0
  let main_v6 : IVec S2048x512 1 := cmpf .olt main_v4 main_v5
  (main_v3, main_v6)
-- ==== ConvBwd.lean ====
abbrev S2048x3584 : Shape := ⟨2, ![2048, 3584]⟩
abbrev S31x512 : Shape := ⟨2, ![31, 512]⟩
abbrev S2048x512 : Shape := ⟨2, ![2048, 512]⟩
abbrev S_ : Shape := ⟨0, ![]⟩
abbrev S32x512 : Shape := ⟨2, ![32, 512]⟩
abbrev S32x4x128 : Shape := ⟨3, ![32, 4, 128]⟩
abbrev S4x32x128 : Shape := ⟨3, ![4, 32, 128]⟩
abbrev S1x512 : Shape := ⟨2, ![1, 512]⟩
abbrev S2048x128 : Shape := ⟨2, ![2048, 128]⟩
abbrev S1x32x128 : Shape := ⟨3, ![1, 32, 128]⟩
abbrev S31x128 : Shape := ⟨2, ![31, 128]⟩
abbrev S1x128 : Shape := ⟨2, ![1, 128]⟩
abbrev S128 : Shape := ⟨1, ![128]⟩
abbrev S1x1x128 : Shape := ⟨3, ![1, 1, 128]⟩

abbrev nBuf : Space → Nat
  | .hbm => 12
  | .vmem => 16
  | .smem => 0
  | _ => 0

abbrev bufTy : (tb : Table) → Fin (tcTables nBuf tb) → BufTy
  | .hbm, ⟨0, _⟩ => ⟨S2048x3584, .f32⟩
  | .hbm, ⟨1, _⟩ => ⟨S31x512, .f32⟩
  | .hbm, ⟨2, _⟩ => ⟨S2048x512, .f32⟩
  | .hbm, ⟨3, _⟩ => ⟨S_, .i32⟩
  | .hbm, ⟨4, _⟩ => ⟨S_, .f32⟩
  | .hbm, ⟨5, _⟩ => ⟨S32x512, .f32⟩
  | .hbm, ⟨6, _⟩ => ⟨S32x4x128, .f32⟩
  | .hbm, ⟨7, _⟩ => ⟨S4x32x128, .f32⟩
  | .hbm, ⟨8, _⟩ => ⟨S2048x512, .bf16⟩
  | .hbm, ⟨9, _⟩ => ⟨S2048x512, .bf16⟩
  | .hbm, ⟨10, _⟩ => ⟨S31x512, .f32⟩
  | .hbm, ⟨11, _⟩ => ⟨S1x512, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S1x32x128, .f32⟩
  | .local _ .vmem, ⟨7, _⟩ => ⟨S1x32x128, .f32⟩
  | .local _ .vmem, ⟨8, _⟩ => ⟨S2048x128, .bf16⟩
  | .local _ .vmem, ⟨9, _⟩ => ⟨S2048x128, .bf16⟩
  | .local _ .vmem, ⟨10, _⟩ => ⟨S2048x128, .bf16⟩
  | .local _ .vmem, ⟨11, _⟩ => ⟨S2048x128, .bf16⟩
  | .local _ .vmem, ⟨12, _⟩ => ⟨S31x128, .f32⟩
  | .local _ .vmem, ⟨13, _⟩ => ⟨S31x128, .f32⟩
  | .local _ .vmem, ⟨14, _⟩ => ⟨S1x128, .f32⟩
  | .local _ .vmem, ⟨15, _⟩ => ⟨S1x128, .f32⟩
  | _, _ => ⟨S2048x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c20_i32 : BitVec 32 := 20#32
  let v0 : BitVec 32 := Scalar.addi c20_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c24_i32 : BitVec 32 := 24#32
  let v0 : BitVec 32 := Scalar.addi c24_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S31x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ConvBwdRefIdeal.lean ====
abbrev S2048x3584 : Shape := ⟨2, ![2048, 3584]⟩
abbrev S31x512 : Shape := ⟨2, ![31, 512]⟩
abbrev S2048x512 : Shape := ⟨2, ![2048, 512]⟩
abbrev S_ : Shape := ⟨0, ![]⟩
abbrev S1x512 : Shape := ⟨2, ![1, 512]⟩
abbrev S30x512 : Shape := ⟨2, ![30, 512]⟩
abbrev S2078x512 : Shape := ⟨2, ![2078, 512]⟩
abbrev S512 : Shape := ⟨1, ![512]⟩

abbrev nBuf : Space → Nat
  | .hbm => 717
  | .vmem => 0
  | .smem => 0
  | _ => 0

abbrev hbmTy0_0 (i : Nat) : BufTy := match i % 128 with
  | 0 => ⟨S2048x3584, .f32⟩
  | 1 => ⟨S31x512, .f32⟩
  | 2 => ⟨S2048x512, .f32⟩
  | 3 => ⟨S_, .f32⟩
  | 4 => ⟨S1x512, .f32⟩
  | 5 => ⟨S2048x512, .f32⟩
  | 6 => ⟨S2048x512, .f32⟩
  | 7 => ⟨S2048x512, .f32⟩
  | 8 => ⟨S2048x512, .f32⟩
  | 9 => ⟨S_, .f32⟩
  | 10 => ⟨S2048x512, .f32⟩
  | 11 => ⟨S2048x512, .f32⟩
  | 12 => ⟨S_, .f32⟩
  | 13 => ⟨S2048x512, .f32⟩
  | 14 => ⟨S2048x512, .f32⟩
  | 15 => ⟨S_, .f32⟩
  | 16 => ⟨S2048x512, .f32⟩
  | 17 => ⟨S2048x512, .f32⟩
  | 18 => ⟨S2048x512, .f32⟩
  | 19 => ⟨S2048x512, .f32⟩
  | 20 => ⟨S_, .f32⟩
  | 21 => ⟨S30x512, .f32⟩
  | 22 => ⟨S2078x512, .f32⟩
  | 23 => ⟨S_, .f32⟩
  | 24 => ⟨S30x512, .f32⟩
  | 25 => ⟨S1x512, .f32⟩
  | 26 => ⟨S512, .f32⟩
  | 27 => ⟨S2048x512, .f32⟩
  | 28 => ⟨S1x512, .f32⟩
  | 29 => ⟨S2048x512, .f32⟩
  | 30 => ⟨S2048x512, .f32⟩
  | 31 => ⟨S1x512, .f32⟩
  | 32 => ⟨S512, .f32⟩
  | 33 => ⟨S2048x512, .f32⟩
  | 34 => ⟨S1x512, .f32⟩
  | 35 => ⟨S2048x512, .f32⟩
  | 36 => ⟨S2048x512, .f32⟩
  | 37 => ⟨S2048x512, .f32⟩
  | 38 => ⟨S1x512, .f32⟩
  | 39 => ⟨S512, .f32⟩
  | 40 => ⟨S2048x512, .f32⟩
  | 41 => ⟨S1x512, .f32⟩
  | 42 => ⟨S2048x512, .f32⟩
  | 43 => ⟨S2048x512, .f32⟩
  | 44 => ⟨S2048x512, .f32⟩
  | 45 => ⟨S1x512, .f32⟩
  | 46 => ⟨S512, .f32⟩
  | 47 => ⟨S2048x512, .f32⟩
  | 48 => ⟨S1x512, .f32⟩
  | 49 => ⟨S2048x512, .f32⟩
  | 50 => ⟨S2048x512, .f32⟩
  | 51 => ⟨S2048x512, .f32⟩
  | 52 => ⟨S1x512, .f32⟩
  | 53 => ⟨S512, .f32⟩
  | 54 => ⟨S2048x512, .f32⟩
  | 55 => ⟨S1x512, .f32⟩
  | 56 => ⟨S2048x512, .f32⟩
  | 57 => ⟨S2048x512, .f32⟩
  | 58 => ⟨S2048x512, .f32⟩
  | 59 => ⟨S1x512, .f32⟩
  | 60 => ⟨S512, .f32⟩
  | 61 => ⟨S2048x512, .f32⟩
  | 62 => ⟨S1x512, .f32⟩
  | 63 => ⟨S2048x512, .f32⟩
  | 64 => ⟨S2048x512, .f32⟩
  | 65 => ⟨S2048x512, .f32⟩
  | 66 => ⟨S1x512, .f32⟩
  | 67 => ⟨S512, .f32⟩
  | 68 => ⟨S2048x512, .f32⟩
  | 69 => ⟨S1x512, .f32⟩
  | 70 => ⟨S2048x512, .f32⟩
  | 71 => ⟨S2048x512, .f32⟩
  | 72 => ⟨S2048x512, .f32⟩
  | 73 => ⟨S1x512, .f32⟩
  | 74 => ⟨S512, .f32⟩
  | 75 => ⟨S2048x512, .f32⟩
  | 76 => ⟨S1x512, .f32⟩
  | 77 => ⟨S2048x512, .f32⟩
  | 78 => ⟨S2048x512, .f32⟩
  | 79 => ⟨S2048x512, .f32⟩
  | 80 => ⟨S1x512, .f32⟩
  | 81 => ⟨S512, .f32⟩
  | 82 => ⟨S2048x512, .f32⟩
  | 83 => ⟨S1x512, .f32⟩
  | 84 => ⟨S2048x512, .f32⟩
  | 85 => ⟨S2048x512, .f32⟩
  | 86 => ⟨S2048x512, .f32⟩
  | 87 => ⟨S1x512, .f32⟩
  | 88 => ⟨S512, .f32⟩
  | 89 => ⟨S2048x512, .f32⟩
  | 90 => ⟨S1x512, .f32⟩
  | 91 => ⟨S2048x512, .f32⟩
  | 92 => ⟨S2048x512, .f32⟩
  | 93 => ⟨S2048x512, .f32⟩
  | 94 => ⟨S1x512, .f32⟩
  | 95 => ⟨S512, .f32⟩
  | 96 => ⟨S2048x512, .f32⟩
  | 97 => ⟨S1x512, .f32⟩
  | 98 => ⟨S2048x512, .f32⟩
  | 99 => ⟨S2048x512, .f32⟩
  | 100 => ⟨S2048x512, .f32⟩
  | 101 => ⟨S1x512, .f32⟩
  | 102 => ⟨S512, .f32⟩
  | 103 => ⟨S2048x512, .f32⟩
  | 104 => ⟨S1x512, .f32⟩
  | 105 => ⟨S2048x512, .f32⟩
  | 106 => ⟨S2048x512, .f32⟩
  | 107 => ⟨S2048x512, .f32⟩
  | 108 => ⟨S1x512, .f32⟩
  | 109 => ⟨S512, .f32⟩
  | 110 => ⟨S2048x512, .f32⟩
  | 111 => ⟨S1x512, .f32⟩
  | 112 => ⟨S2048x512, .f32⟩
  | 113 => ⟨S2048x512, .f32⟩
  | 114 => ⟨S2048x512, .f32⟩
  | 115 => ⟨S1x512, .f32⟩
  | 116 => ⟨S512, .f32⟩
  | 117 => ⟨S2048x512, .f32⟩
  | 118 => ⟨S1x512, .f32⟩
  | 119 => ⟨S2048x512, .f32⟩
  | 120 => ⟨S2048x512, .f32⟩
  | 121 => ⟨S2048x512, .f32⟩
  | 122 => ⟨S1x512, .f32⟩
  | 123 => ⟨S512, .f32⟩
  | 124 => ⟨S2048x512, .f32⟩
  | 125 => ⟨S1x512, .f32⟩
  | 126 => ⟨S2048x512, .f32⟩
  | 127 => ⟨S2048x512, .f32⟩
  | _ => ⟨S2048x3584, .f32⟩

abbrev hbmTy0_1 (i : Nat) : BufTy := match i % 128 with
  | 0 => ⟨S2048x512, .f32⟩
  | 1 => ⟨S1x512, .f32⟩
  | 2 => ⟨S512, .f32⟩
  | 3 => ⟨S2048x512, .f32⟩
  | 4 => ⟨S1x512, .f32⟩
  | 5 => ⟨S2048x512, .f32⟩
  | 6 => ⟨S2048x512, .f32⟩
  | 7 => ⟨S2048x512, .f32⟩
  | 8 => ⟨S1x512, .f32⟩
  | 9 => ⟨S512, .f32⟩
  | 10 => ⟨S2048x512, .f32⟩
  | 11 => ⟨S1x512, .f32⟩
  | 12 => ⟨S2048x512, .f32⟩
  | 13 => ⟨S2048x512, .f32⟩
  | 14 => ⟨S2048x512, .f32⟩
  | 15 => ⟨S1x512, .f32⟩
  | 16 => ⟨S512, .f32⟩
  | 17 => ⟨S2048x512, .f32⟩
  | 18 => ⟨S1x512, .f32⟩
  | 19 => ⟨S2048x512, .f32⟩
  | 20 => ⟨S2048x512, .f32⟩
  | 21 => ⟨S2048x512, .f32⟩
  | 22 => ⟨S1x512, .f32⟩
  | 23 => ⟨S512, .f32⟩
  | 24 => ⟨S2048x512, .f32⟩
  | 25 => ⟨S1x512, .f32⟩
  | 26 => ⟨S2048x512, .f32⟩
  | 27 => ⟨S2048x512, .f32⟩
  | 28 => ⟨S2048x512, .f32⟩
  | 29 => ⟨S1x512, .f32⟩
  | 30 => ⟨S512, .f32⟩
  | 31 => ⟨S2048x512, .f32⟩
  | 32 => ⟨S1x512, .f32⟩
  | 33 => ⟨S2048x512, .f32⟩
  | 34 => ⟨S2048x512, .f32⟩
  | 35 => ⟨S2048x512, .f32⟩
  | 36 => ⟨S1x512, .f32⟩
  | 37 => ⟨S512, .f32⟩
  | 38 => ⟨S2048x512, .f32⟩
  | 39 => ⟨S1x512, .f32⟩
  | 40 => ⟨S2048x512, .f32⟩
  | 41 => ⟨S2048x512, .f32⟩
  | 42 => ⟨S2048x512, .f32⟩
  | 43 => ⟨S1x512, .f32⟩
  | 44 => ⟨S512, .f32⟩
  | 45 => ⟨S2048x512, .f32⟩
  | 46 => ⟨S1x512, .f32⟩
  | 47 => ⟨S2048x512, .f32⟩
  | 48 => ⟨S2048x512, .f32⟩
  | 49 => ⟨S2048x512, .f32⟩
  | 50 => ⟨S1x512, .f32⟩
  | 51 => ⟨S512, .f32⟩
  | 52 => ⟨S2048x512, .f32⟩
  | 53 => ⟨S1x512, .f32⟩
  | 54 => ⟨S2048x512, .f32⟩
  | 55 => ⟨S2048x512, .f32⟩
  | 56 => ⟨S2048x512, .f32⟩
  | 57 => ⟨S1x512, .f32⟩
  | 58 => ⟨S512, .f32⟩
  | 59 => ⟨S2048x512, .f32⟩
  | 60 => ⟨S1x512, .f32⟩
  | 61 => ⟨S2048x512, .f32⟩
  | 62 => ⟨S2048x512, .f32⟩
  | 63 => ⟨S2048x512, .f32⟩
  | 64 => ⟨S1x512, .f32⟩
  | 65 => ⟨S512, .f32⟩
  | 66 => ⟨S2048x512, .f32⟩
  | 67 => ⟨S1x512, .f32⟩
  | 68 => ⟨S2048x512, .f32⟩
  | 69 => ⟨S2048x512, .f32⟩
  | 70 => ⟨S2048x512, .f32⟩
  | 71 => ⟨S1x512, .f32⟩
  | 72 => ⟨S512, .f32⟩
  | 73 => ⟨S2048x512, .f32⟩
  | 74 => ⟨S1x512, .f32⟩
  | 75 => ⟨S2048x512, .f32⟩
  | 76 => ⟨S2048x512, .f32⟩
  | 77 => ⟨S2048x512, .f32⟩
  | 78 => ⟨S1x512, .f32⟩
  | 79 => ⟨S512, .f32⟩
  | 80 => ⟨S2048x512, .f32⟩
  | 81 => ⟨S1x512, .f32⟩
  | 82 => ⟨S2048x512, .f32⟩
  | 83 => ⟨S2048x512, .f32⟩
  | 84 => ⟨S2048x512, .f32⟩
  | 85 => ⟨S1x512, .f32⟩
  | 86 => ⟨S512, .f32⟩
  | 87 => ⟨S2048x512, .f32⟩
  | 88 => ⟨S1x512, .f32⟩
  | 89 => ⟨S2048x512, .f32⟩
  | 90 => ⟨S2048x512, .f32⟩
  | 91 => ⟨S2048x512, .f32⟩
  | 92 => ⟨S1x512, .f32⟩
  | 93 => ⟨S512, .f32⟩
  | 94 => ⟨S2048x512, .f32⟩
  | 95 => ⟨S1x512, .f32⟩
  | 96 => ⟨S2048x512, .f32⟩
  | 97 => ⟨S2048x512, .f32⟩
  | 98 => ⟨S2048x512, .f32⟩
  | 99 => ⟨S1x512, .f32⟩
  | 100 => ⟨S512, .f32⟩
  | 101 => ⟨S2048x512, .f32⟩
  | 102 => ⟨S1x512, .f32⟩
  | 103 => ⟨S2048x512, .f32⟩
  | 104 => ⟨S2048x512, .f32⟩
  | 105 => ⟨S2048x512, .f32⟩
  | 106 => ⟨S1x512, .f32⟩
  | 107 => ⟨S512, .f32⟩
  | 108 => ⟨S2048x512, .f32⟩
  | 109 => ⟨S1x512, .f32⟩
  | 110 => ⟨S2048x512, .f32⟩
  | 111 => ⟨S2048x512, .f32⟩
  | 112 => ⟨S2048x512, .f32⟩
  | 113 => ⟨S2048x512, .f32⟩
  | 114 => ⟨S2048x512, .f32⟩
  | 115 => ⟨S2048x512, .f32⟩
  | 116 => ⟨S_, .f32⟩
  | 117 => ⟨S512, .f32⟩
  | 118 => ⟨S1x512, .f32⟩
  | 119 => ⟨S2048x512, .f32⟩
  | 120 => ⟨S2048x512, .f32⟩
  | 121 => ⟨S2048x512, .f32⟩
  | 122 => ⟨S_, .f32⟩
  | 123 => ⟨S512, .f32⟩
  | 124 => ⟨S1x512, .f32⟩
  | 125 => ⟨S_, .f32⟩
  | 126 => ⟨S512, .f32⟩
  | 127 => ⟨S_, .f32⟩
  | _ => ⟨S2048x3584, .f32⟩

abbrev hbmTy0_2 (i : Nat) : BufTy := match i % 128 with
  | 0 => ⟨S2078x512, .f32⟩
  | 1 => ⟨S1x512, .f32⟩
  | 2 => ⟨S_, .f32⟩
  | 3 => ⟨S31x512, .f32⟩
  | 4 => ⟨S2048x512, .f32⟩
  | 5 => ⟨S2048x512, .f32⟩
  | 6 => ⟨S2048x512, .f32⟩
  | 7 => ⟨S_, .f32⟩
  | 8 => ⟨S512, .f32⟩
  | 9 => ⟨S1x512, .f32⟩
  | 10 => ⟨S_, .f32⟩
  | 11 => ⟨S512, .f32⟩
  | 12 => ⟨S_, .f32⟩
  | 13 => ⟨S2078x512, .f32⟩
  | 14 => ⟨S2078x512, .f32⟩
  | 15 => ⟨S1x512, .f32⟩
  | 16 => ⟨S_, .f32⟩
  | 17 => ⟨S31x512, .f32⟩
  | 18 => ⟨S31x512, .f32⟩
  | 19 => ⟨S2048x512, .f32⟩
  | 20 => ⟨S2048x512, .f32⟩
  | 21 => ⟨S2048x512, .f32⟩
  | 22 => ⟨S_, .f32⟩
  | 23 => ⟨S512, .f32⟩
  | 24 => ⟨S1x512, .f32⟩
  | 25 => ⟨S_, .f32⟩
  | 26 => ⟨S512, .f32⟩
  | 27 => ⟨S_, .f32⟩
  | 28 => ⟨S2078x512, .f32⟩
  | 29 => ⟨S2078x512, .f32⟩
  | 30 => ⟨S1x512, .f32⟩
  | 31 => ⟨S_, .f32⟩
  | 32 => ⟨S31x512, .f32⟩
  | 33 => ⟨S31x512, .f32⟩
  | 34 => ⟨S2048x512, .f32⟩
  | 35 => ⟨S2048x512, .f32⟩
  | 36 => ⟨S2048x512, .f32⟩
  | 37 => ⟨S_, .f32⟩
  | 38 => ⟨S512, .f32⟩
  | 39 => ⟨S1x512, .f32⟩
  | 40 => ⟨S_, .f32⟩
  | 41 => ⟨S512, .f32⟩
  | 42 => ⟨S_, .f32⟩
  | 43 => ⟨S2078x512, .f32⟩
  | 44 => ⟨S2078x512, .f32⟩
  | 45 => ⟨S1x512, .f32⟩
  | 46 => ⟨S_, .f32⟩
  | 47 => ⟨S31x512, .f32⟩
  | 48 => ⟨S31x512, .f32⟩
  | 49 => ⟨S2048x512, .f32⟩
  | 50 => ⟨S2048x512, .f32⟩
  | 51 => ⟨S2048x512, .f32⟩
  | 52 => ⟨S_, .f32⟩
  | 53 => ⟨S512, .f32⟩
  | 54 => ⟨S1x512, .f32⟩
  | 55 => ⟨S_, .f32⟩
  | 56 => ⟨S512, .f32⟩
  | 57 => ⟨S_, .f32⟩
  | 58 => ⟨S2078x512, .f32⟩
  | 59 => ⟨S2078x512, .f32⟩
  | 60 => ⟨S1x512, .f32⟩
  | 61 => ⟨S_, .f32⟩
  | 62 => ⟨S31x512, .f32⟩
  | 63 => ⟨S31x512, .f32⟩
  | 64 => ⟨S2048x512, .f32⟩
  | 65 => ⟨S2048x512, .f32⟩
  | 66 => ⟨S2048x512, .f32⟩
  | 67 => ⟨S_, .f32⟩
  | 68 => ⟨S512, .f32⟩
  | 69 => ⟨S1x512, .f32⟩
  | 70 => ⟨S_, .f32⟩
  | 71 => ⟨S512, .f32⟩
  | 72 => ⟨S_, .f32⟩
  | 73 => ⟨S2078x512, .f32⟩
  | 74 => ⟨S2078x512, .f32⟩
  | 75 => ⟨S1x512, .f32⟩
  | 76 => ⟨S_, .f32⟩
  | 77 => ⟨S31x512, .f32⟩
  | 78 => ⟨S31x512, .f32⟩
  | 79 => ⟨S2048x512, .f32⟩
  | 80 => ⟨S2048x512, .f32⟩
  | 81 => ⟨S2048x512, .f32⟩
  | 82 => ⟨S_, .f32⟩
  | 83 => ⟨S512, .f32⟩
  | 84 => ⟨S1x512, .f32⟩
  | 85 => ⟨S_, .f32⟩
  | 86 => ⟨S512, .f32⟩
  | 87 => ⟨S_, .f32⟩
  | 88 => ⟨S2078x512, .f32⟩
  | 89 => ⟨S2078x512, .f32⟩
  | 90 => ⟨S1x512, .f32⟩
  | 91 => ⟨S_, .f32⟩
  | 92 => ⟨S31x512, .f32⟩
  | 93 => ⟨S31x512, .f32⟩
  | 94 => ⟨S2048x512, .f32⟩
  | 95 => ⟨S2048x512, .f32⟩
  | 96 => ⟨S2048x512, .f32⟩
  | 97 => ⟨S_, .f32⟩
  | 98 => ⟨S512, .f32⟩
  | 99 => ⟨S1x512, .f32⟩
  | 100 => ⟨S_, .f32⟩
  | 101 => ⟨S512, .f32⟩
  | 102 => ⟨S_, .f32⟩
  | 103 => ⟨S2078x512, .f32⟩
  | 104 => ⟨S2078x512, .f32⟩
  | 105 => ⟨S1x512, .f32⟩
  | 106 => ⟨S_, .f32⟩
  | 107 => ⟨S31x512, .f32⟩
  | 108 => ⟨S31x512, .f32⟩
  | 109 => ⟨S2048x512, .f32⟩
  | 110 => ⟨S2048x512, .f32⟩
  | 111 => ⟨S2048x512, .f32⟩
  | 112 => ⟨S_, .f32⟩
  | 113 => ⟨S512, .f32⟩
  | 114 => ⟨S1x512, .f32⟩
  | 115 => ⟨S_, .f32⟩
  | 116 => ⟨S512, .f32⟩
  | 117 => ⟨S_, .f32⟩
  | 118 => ⟨S2078x512, .f32⟩
  | 119 => ⟨S2078x512, .f32⟩
  | 120 => ⟨S1x512, .f32⟩
  | 121 => ⟨S_, .f32⟩
  | 122 => ⟨S31x512, .f32⟩
  | 123 => ⟨S31x512, .f32⟩
  | 124 => ⟨S2048x512, .f32⟩
  | 125 => ⟨S2048x512, .f32⟩
  | 126 => ⟨S2048x512, .f32⟩
  | 127 => ⟨S_, .f32⟩
  | _ => ⟨S2048x3584, .f32⟩

abbrev hbmTy0_3 (i : Nat) : BufTy := match i % 128 with
  | 0 => ⟨S512, .f32⟩
  | 1 => ⟨S1x512, .f32⟩
  | 2 => ⟨S_, .f32⟩
  | 3 => ⟨S512, .f32⟩
  | 4 => ⟨S_, .f32⟩
  | 5 => ⟨S2078x512, .f32⟩
  | 6 => ⟨S2078x512, .f32⟩
  | 7 => ⟨S1x512, .f32⟩
  | 8 => ⟨S_, .f32⟩
  | 9 => ⟨S31x512, .f32⟩
  | 10 => ⟨S31x512, .f32⟩
  | 11 => ⟨S2048x512, .f32⟩
  | 12 => ⟨S2048x512, .f32⟩
  | 13 => ⟨S2048x512, .f32⟩
  | 14 => ⟨S_, .f32⟩
  | 15 => ⟨S512, .f32⟩
  | 16 => ⟨S1x512, .f32⟩
  | 17 => ⟨S_, .f32⟩
  | 18 => ⟨S512, .f32⟩
  | 19 => ⟨S_, .f32⟩
  | 20 => ⟨S2078x512, .f32⟩
  | 21 => ⟨S2078x512, .f32⟩
  | 22 => ⟨S1x512, .f32⟩
  | 23 => ⟨S_, .f32⟩
  | 24 => ⟨S31x512, .f32⟩
  | 25 => ⟨S31x512, .f32⟩
  | 26 => ⟨S2048x512, .f32⟩
  | 27 => ⟨S2048x512, .f32⟩
  | 28 => ⟨S2048x512, .f32⟩
  | 29 => ⟨S_, .f32⟩
  | 30 => ⟨S512, .f32⟩
  | 31 => ⟨S1x512, .f32⟩
  | 32 => ⟨S_, .f32⟩
  | 33 => ⟨S512, .f32⟩
  | 34 => ⟨S_, .f32⟩
  | 35 => ⟨S2078x512, .f32⟩
  | 36 => ⟨S2078x512, .f32⟩
  | 37 => ⟨S1x512, .f32⟩
  | 38 => ⟨S_, .f32⟩
  | 39 => ⟨S31x512, .f32⟩
  | 40 => ⟨S31x512, .f32⟩
  | 41 => ⟨S2048x512, .f32⟩
  | 42 => ⟨S2048x512, .f32⟩
  | 43 => ⟨S2048x512, .f32⟩
  | 44 => ⟨S_, .f32⟩
  | 45 => ⟨S512, .f32⟩
  | 46 => ⟨S1x512, .f32⟩
  | 47 => ⟨S_, .f32⟩
  | 48 => ⟨S512, .f32⟩
  | 49 => ⟨S_, .f32⟩
  | 50 => ⟨S2078x512, .f32⟩
  | 51 => ⟨S2078x512, .f32⟩
  | 52 => ⟨S1x512, .f32⟩
  | 53 => ⟨S_, .f32⟩
  | 54 => ⟨S31x512, .f32⟩
  | 55 => ⟨S31x512, .f32⟩
  | 56 => ⟨S2048x512, .f32⟩
  | 57 => ⟨S2048x512, .f32⟩
  | 58 => ⟨S2048x512, .f32⟩
  | 59 => ⟨S_, .f32⟩
  | 60 => ⟨S512, .f32⟩
  | 61 => ⟨S1x512, .f32⟩
  | 62 => ⟨S_, .f32⟩
  | 63 => ⟨S512, .f32⟩
  | 64 => ⟨S_, .f32⟩
  | 65 => ⟨S2078x512, .f32⟩
  | 66 => ⟨S2078x512, .f32⟩
  | 67 => ⟨S1x512, .f32⟩
  | 68 => ⟨S_, .f32⟩
  | 69 => ⟨S31x512, .f32⟩
  | 70 => ⟨S31x512, .f32⟩
  | 71 => ⟨S2048x512, .f32⟩
  | 72 => ⟨S2048x512, .f32⟩
  | 73 => ⟨S2048x512, .f32⟩
  | 74 => ⟨S_, .f32⟩
  | 75 => ⟨S512, .f32⟩
  | 76 => ⟨S1x512, .f32⟩
  | 77 => ⟨S_, .f32⟩
  | 78 => ⟨S512, .f32⟩
  | 79 => ⟨S_, .f32⟩
  | 80 => ⟨S2078x512, .f32⟩
  | 81 => ⟨S2078x512, .f32⟩
  | 82 => ⟨S1x512, .f32⟩
  | 83 => ⟨S_, .f32⟩
  | 84 => ⟨S31x512, .f32⟩
  | 85 => ⟨S31x512, .f32⟩
  | 86 => ⟨S2048x512, .f32⟩
  | 87 => ⟨S2048x512, .f32⟩
  | 88 => ⟨S2048x512, .f32⟩
  | 89 => ⟨S_, .f32⟩
  | 90 => ⟨S512, .f32⟩
  | 91 => ⟨S1x512, .f32⟩
  | 92 => ⟨S_, .f32⟩
  | 93 => ⟨S512, .f32⟩
  | 94 => ⟨S_, .f32⟩
  | 95 => ⟨S2078x512, .f32⟩
  | 96 => ⟨S2078x512, .f32⟩
  | 97 => ⟨S1x512, .f32⟩
  | 98 => ⟨S_, .f32⟩
  | 99 => ⟨S31x512, .f32⟩
  | 100 => ⟨S31x512, .f32⟩
  | 101 => ⟨S2048x512, .f32⟩
  | 102 => ⟨S2048x512, .f32⟩
  | 103 => ⟨S2048x512, .f32⟩
  | 104 => ⟨S_, .f32⟩
  | 105 => ⟨S512, .f32⟩
  | 106 => ⟨S1x512, .f32⟩
  | 107 => ⟨S_, .f32⟩
  | 108 => ⟨S512, .f32⟩
  | 109 => ⟨S_, .f32⟩
  | 110 => ⟨S2078x512, .f32⟩
  | 111 => ⟨S2078x512, .f32⟩
  | 112 => ⟨S1x512, .f32⟩
  | 113 => ⟨S_, .f32⟩
  | 114 => ⟨S31x512, .f32⟩
  | 115 => ⟨S31x512, .f32⟩
  | 116 => ⟨S2048x512, .f32⟩
  | 117 => ⟨S2048x512, .f32⟩
  | 118 => ⟨S2048x512, .f32⟩
  | 119 => ⟨S_, .f32⟩
  | 120 => ⟨S512, .f32⟩
  | 121 => ⟨S1x512, .f32⟩
  | 122 => ⟨S_, .f32⟩
  | 123 => ⟨S512, .f32⟩
  | 124 => ⟨S_, .f32⟩
  | 125 => ⟨S2078x512, .f32⟩
  | 126 => ⟨S2078x512, .f32⟩
  | 127 => ⟨S1x512, .f32⟩
  | _ => ⟨S2048x3584, .f32⟩

abbrev hbmTy0_4 (i : Nat) : BufTy := match i % 128 with
  | 0 => ⟨S_, .f32⟩
  | 1 => ⟨S31x512, .f32⟩
  | 2 => ⟨S31x512, .f32⟩
  | 3 => ⟨S2048x512, .f32⟩
  | 4 => ⟨S2048x512, .f32⟩
  | 5 => ⟨S2048x512, .f32⟩
  | 6 => ⟨S_, .f32⟩
  | 7 => ⟨S512, .f32⟩
  | 8 => ⟨S1x512, .f32⟩
  | 9 => ⟨S_, .f32⟩
  | 10 => ⟨S512, .f32⟩
  | 11 => ⟨S_, .f32⟩
  | 12 => ⟨S2078x512, .f32⟩
  | 13 => ⟨S2078x512, .f32⟩
  | 14 => ⟨S1x512, .f32⟩
  | 15 => ⟨S_, .f32⟩
  | 16 => ⟨S31x512, .f32⟩
  | 17 => ⟨S31x512, .f32⟩
  | 18 => ⟨S2048x512, .f32⟩
  | 19 => ⟨S2048x512, .f32⟩
  | 20 => ⟨S2048x512, .f32⟩
  | 21 => ⟨S_, .f32⟩
  | 22 => ⟨S512, .f32⟩
  | 23 => ⟨S1x512, .f32⟩
  | 24 => ⟨S_, .f32⟩
  | 25 => ⟨S512, .f32⟩
  | 26 => ⟨S_, .f32⟩
  | 27 => ⟨S2078x512, .f32⟩
  | 28 => ⟨S2078x512, .f32⟩
  | 29 => ⟨S1x512, .f32⟩
  | 30 => ⟨S_, .f32⟩
  | 31 => ⟨S31x512, .f32⟩
  | 32 => ⟨S31x512, .f32⟩
  | 33 => ⟨S2048x512, .f32⟩
  | 34 => ⟨S2048x512, .f32⟩
  | 35 => ⟨S2048x512, .f32⟩
  | 36 => ⟨S_, .f32⟩
  | 37 => ⟨S512, .f32⟩
  | 38 => ⟨S1x512, .f32⟩
  | 39 => ⟨S_, .f32⟩
  | 40 => ⟨S512, .f32⟩
  | 41 => ⟨S_, .f32⟩
  | 42 => ⟨S2078x512, .f32⟩
  | 43 => ⟨S2078x512, .f32⟩
  | 44 => ⟨S1x512, .f32⟩
  | 45 => ⟨S_, .f32⟩
  | 46 => ⟨S31x512, .f32⟩
  | 47 => ⟨S31x512, .f32⟩
  | 48 => ⟨S2048x512, .f32⟩
  | 49 => ⟨S2048x512, .f32⟩
  | 50 => ⟨S2048x512, .f32⟩
  | 51 => ⟨S_, .f32⟩
  | 52 => ⟨S512, .f32⟩
  | 53 => ⟨S1x512, .f32⟩
  | 54 => ⟨S_, .f32⟩
  | 55 => ⟨S512, .f32⟩
  | 56 => ⟨S_, .f32⟩
  | 57 => ⟨S2078x512, .f32⟩
  | 58 => ⟨S2078x512, .f32⟩
  | 59 => ⟨S1x512, .f32⟩
  | 60 => ⟨S_, .f32⟩
  | 61 => ⟨S31x512, .f32⟩
  | 62 => ⟨S31x512, .f32⟩
  | 63 => ⟨S2048x512, .f32⟩
  | 64 => ⟨S2048x512, .f32⟩
  | 65 => ⟨S2048x512, .f32⟩
  | 66 => ⟨S_, .f32⟩
  | 67 => ⟨S512, .f32⟩
  | 68 => ⟨S1x512, .f32⟩
  | 69 => ⟨S_, .f32⟩
  | 70 => ⟨S512, .f32⟩
  | 71 => ⟨S_, .f32⟩
  | 72 => ⟨S2078x512, .f32⟩
  | 73 => ⟨S2078x512, .f32⟩
  | 74 => ⟨S1x512, .f32⟩
  | 75 => ⟨S_, .f32⟩
  | 76 => ⟨S31x512, .f32⟩
  | 77 => ⟨S31x512, .f32⟩
  | 78 => ⟨S2048x512, .f32⟩
  | 79 => ⟨S2048x512, .f32⟩
  | 80 => ⟨S2048x512, .f32⟩
  | 81 => ⟨S_, .f32⟩
  | 82 => ⟨S512, .f32⟩
  | 83 => ⟨S1x512, .f32⟩
  | 84 => ⟨S_, .f32⟩
  | 85 => ⟨S512, .f32⟩
  | 86 => ⟨S_, .f32⟩
  | 87 => ⟨S2078x512, .f32⟩
  | 88 => ⟨S2078x512, .f32⟩
  | 89 => ⟨S1x512, .f32⟩
  | 90 => ⟨S_, .f32⟩
  | 91 => ⟨S31x512, .f32⟩
  | 92 => ⟨S31x512, .f32⟩
  | 93 => ⟨S2048x512, .f32⟩
  | 94 => ⟨S2048x512, .f32⟩
  | 95 => ⟨S2048x512, .f32⟩
  | 96 => ⟨S_, .f32⟩
  | 97 => ⟨S512, .f32⟩
  | 98 => ⟨S1x512, .f32⟩
  | 99 => ⟨S_, .f32⟩
  | 100 => ⟨S512, .f32⟩
  | 101 => ⟨S_, .f32⟩
  | 102 => ⟨S2078x512, .f32⟩
  | 103 => ⟨S2078x512, .f32⟩
  | 104 => ⟨S1x512, .f32⟩
  | 105 => ⟨S_, .f32⟩
  | 106 => ⟨S31x512, .f32⟩
  | 107 => ⟨S31x512, .f32⟩
  | 108 => ⟨S2048x512, .f32⟩
  | 109 => ⟨S2048x512, .f32⟩
  | 110 => ⟨S2048x512, .f32⟩
  | 111 => ⟨S_, .f32⟩
  | 112 => ⟨S512, .f32⟩
  | 113 => ⟨S1x512, .f32⟩
  | 114 => ⟨S_, .f32⟩
  | 115 => ⟨S512, .f32⟩
  | 116 => ⟨S_, .f32⟩
  | 117 => ⟨S2078x512, .f32⟩
  | 118 => ⟨S2078x512, .f32⟩
  | 119 => ⟨S1x512, .f32⟩
  | 120 => ⟨S_, .f32⟩
  | 121 => ⟨S31x512, .f32⟩
  | 122 => ⟨S31x512, .f32⟩
  | 123 => ⟨S2048x512, .f32⟩
  | 124 => ⟨S2048x512, .f32⟩
  | 125 => ⟨S2048x512, .f32⟩
  | 126 => ⟨S_, .f32⟩
  | 127 => ⟨S512, .f32⟩
  | _ => ⟨S2048x3584, .f32⟩

abbrev hbmTy0_5 (i : Nat) : BufTy := match i % 128 with
  | 0 => ⟨S1x512, .f32⟩
  | 1 => ⟨S_, .f32⟩
  | 2 => ⟨S512, .f32⟩
  | 3 => ⟨S_, .f32⟩
  | 4 => ⟨S2078x512, .f32⟩
  | 5 => ⟨S2078x512, .f32⟩
  | 6 => ⟨S1x512, .f32⟩
  | 7 => ⟨S_, .f32⟩
  | 8 => ⟨S31x512, .f32⟩
  | 9 => ⟨S31x512, .f32⟩
  | 10 => ⟨S2048x512, .f32⟩
  | 11 => ⟨S2048x512, .f32⟩
  | 12 => ⟨S2048x512, .f32⟩
  | 13 => ⟨S_, .f32⟩
  | 14 => ⟨S512, .f32⟩
  | 15 => ⟨S1x512, .f32⟩
  | 16 => ⟨S_, .f32⟩
  | 17 => ⟨S512, .f32⟩
  | 18 => ⟨S_, .f32⟩
  | 19 => ⟨S2078x512, .f32⟩
  | 20 => ⟨S2078x512, .f32⟩
  | 21 => ⟨S1x512, .f32⟩
  | 22 => ⟨S_, .f32⟩
  | 23 => ⟨S31x512, .f32⟩
  | 24 => ⟨S31x512, .f32⟩
  | 25 => ⟨S2048x512, .f32⟩
  | 26 => ⟨S2048x512, .f32⟩
  | 27 => ⟨S2048x512, .f32⟩
  | 28 => ⟨S_, .f32⟩
  | 29 => ⟨S512, .f32⟩
  | 30 => ⟨S1x512, .f32⟩
  | 31 => ⟨S_, .f32⟩
  | 32 => ⟨S512, .f32⟩
  | 33 => ⟨S_, .f32⟩
  | 34 => ⟨S2078x512, .f32⟩
  | 35 => ⟨S2078x512, .f32⟩
  | 36 => ⟨S1x512, .f32⟩
  | 37 => ⟨S_, .f32⟩
  | 38 => ⟨S31x512, .f32⟩
  | 39 => ⟨S31x512, .f32⟩
  | 40 => ⟨S2048x512, .f32⟩
  | 41 => ⟨S2048x512, .f32⟩
  | 42 => ⟨S2048x512, .f32⟩
  | 43 => ⟨S_, .f32⟩
  | 44 => ⟨S512, .f32⟩
  | 45 => ⟨S1x512, .f32⟩
  | 46 => ⟨S_, .f32⟩
  | 47 => ⟨S512, .f32⟩
  | 48 => ⟨S_, .f32⟩
  | 49 => ⟨S2078x512, .f32⟩
  | 50 => ⟨S2078x512, .f32⟩
  | 51 => ⟨S1x512, .f32⟩
  | 52 => ⟨S_, .f32⟩
  | 53 => ⟨S31x512, .f32⟩
  | 54 => ⟨S31x512, .f32⟩
  | 55 => ⟨S2048x512, .f32⟩
  | 56 => ⟨S2048x512, .f32⟩
  | 57 => ⟨S2048x512, .f32⟩
  | 58 => ⟨S_, .f32⟩
  | 59 => ⟨S512, .f32⟩
  | 60 => ⟨S1x512, .f32⟩
  | 61 => ⟨S_, .f32⟩
  | 62 => ⟨S512, .f32⟩
  | 63 => ⟨S_, .f32⟩
  | 64 => ⟨S2078x512, .f32⟩
  | 65 => ⟨S2078x512, .f32⟩
  | 66 => ⟨S1x512, .f32⟩
  | 67 => ⟨S_, .f32⟩
  | 68 => ⟨S31x512, .f32⟩
  | 69 => ⟨S31x512, .f32⟩
  | 70 => ⟨S30x512, .f32⟩
  | 71 => ⟨S2048x512, .f32⟩
  | 72 => ⟨S2048x512, .f32⟩
  | 73 => ⟨S2048x512, .f32⟩
  | 74 => ⟨S2048x512, .f32⟩
  | 75 => ⟨S2048x512, .bf16⟩
  | 76 => ⟨S2048x512, .bf16⟩
  | _ => ⟨S2048x3584, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S2048x3584, .f32⟩

abbrev bufTy : (tb : Table) → Fin (tcTables nBuf tb) → BufTy
  | .hbm, ⟨i, _⟩ => hbmTy i
  | _, _ => ⟨S2048x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_cst_4 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩
abbrev main_v113 : Ref sig .tc := ⟨.hbm, 122, rfl⟩
abbrev main_v114 : Ref sig .tc := ⟨.hbm, 123, rfl⟩
abbrev main_v115 : Ref sig .tc := ⟨.hbm, 124, rfl⟩
abbrev main_v116 : Ref sig .tc := ⟨.hbm, 125, rfl⟩
abbrev main_v117 : Ref sig .tc := ⟨.hbm, 126, rfl⟩
abbrev main_v118 : Ref sig .tc := ⟨.hbm, 127, rfl⟩
abbrev main_v119 : Ref sig .tc := ⟨.hbm, 128, rfl⟩
abbrev main_v120 : Ref sig .tc := ⟨.hbm, 129, rfl⟩
abbrev main_v121 : Ref sig .tc := ⟨.hbm, 130, rfl⟩
abbrev main_v122 : Ref sig .tc := ⟨.hbm, 131, rfl⟩
abbrev main_v123 : Ref sig .tc := ⟨.hbm, 132, rfl⟩
abbrev main_v124 : Ref sig .tc := ⟨.hbm, 133, rfl⟩
abbrev main_v125 : Ref sig .tc := ⟨.hbm, 134, rfl⟩
abbrev main_v126 : Ref sig .tc := ⟨.hbm, 135, rfl⟩
abbrev main_v127 : Ref sig .tc := ⟨.hbm, 136, rfl⟩
abbrev main_v128 : Ref sig .tc := ⟨.hbm, 137, rfl⟩
abbrev main_v129 : Ref sig .tc := ⟨.hbm, 138, rfl⟩
abbrev main_v130 : Ref sig .tc := ⟨.hbm, 139, rfl⟩
abbrev main_v131 : Ref sig .tc := ⟨.hbm, 140, rfl⟩
abbrev main_v132 : Ref sig .tc := ⟨.hbm, 141, rfl⟩
abbrev main_v133 : Ref sig .tc := ⟨.hbm, 142, rfl⟩
abbrev main_v134 : Ref sig .tc := ⟨.hbm, 143, rfl⟩
abbrev main_v135 : Ref sig .tc := ⟨.hbm, 144, rfl⟩
abbrev main_v136 : Ref sig .tc := ⟨.hbm, 145, rfl⟩
abbrev main_v137 : Ref sig .tc := ⟨.hbm, 146, rfl⟩
abbrev main_v138 : Ref sig .tc := ⟨.hbm, 147, rfl⟩
abbrev main_v139 : Ref sig .tc := ⟨.hbm, 148, rfl⟩
abbrev main_v140 : Ref sig .tc := ⟨.hbm, 149, rfl⟩
abbrev main_v141 : Ref sig .tc := ⟨.hbm, 150, rfl⟩
abbrev main_v142 : Ref sig .tc := ⟨.hbm, 151, rfl⟩
abbrev main_v143 : Ref sig .tc := ⟨.hbm, 152, rfl⟩
abbrev main_v144 : Ref sig .tc := ⟨.hbm, 153, rfl⟩
abbrev main_v145 : Ref sig .tc := ⟨.hbm, 154, rfl⟩
abbrev main_v146 : Ref sig .tc := ⟨.hbm, 155, rfl⟩
abbrev main_v147 : Ref sig .tc := ⟨.hbm, 156, rfl⟩
abbrev main_v148 : Ref sig .tc := ⟨.hbm, 157, rfl⟩
abbrev main_v149 : Ref sig .tc := ⟨.hbm, 158, rfl⟩
abbrev main_v150 : Ref sig .tc := ⟨.hbm, 159, rfl⟩
abbrev main_v151 : Ref sig .tc := ⟨.hbm, 160, rfl⟩
abbrev main_v152 : Ref sig .tc := ⟨.hbm, 161, rfl⟩
abbrev main_v153 : Ref sig .tc := ⟨.hbm, 162, rfl⟩
abbrev main_v154 : Ref sig .tc := ⟨.hbm, 163, rfl⟩
abbrev main_v155 : Ref sig .tc := ⟨.hbm, 164, rfl⟩
abbrev main_v156 : Ref sig .tc := ⟨.hbm, 165, rfl⟩
abbrev main_v157 : Ref sig .tc := ⟨.hbm, 166, rfl⟩
abbrev main_v158 : Ref sig .tc := ⟨.hbm, 167, rfl⟩
abbrev main_v159 : Ref sig .tc := ⟨.hbm, 168, rfl⟩
abbrev main_v160 : Ref sig .tc := ⟨.hbm, 169, rfl⟩
abbrev main_v161 : Ref sig .tc := ⟨.hbm, 170, rfl⟩
abbrev main_v162 : Ref sig .tc := ⟨.hbm, 171, rfl⟩
abbrev main_v163 : Ref sig .tc := ⟨.hbm, 172, rfl⟩
abbrev main_v164 : Ref sig .tc := ⟨.hbm, 173, rfl⟩
abbrev main_v165 : Ref sig .tc := ⟨.hbm, 174, rfl⟩
abbrev main_v166 : Ref sig .tc := ⟨.hbm, 175, rfl⟩
abbrev main_v167 : Ref sig .tc := ⟨.hbm, 176, rfl⟩
abbrev main_v168 : Ref sig .tc := ⟨.hbm, 177, rfl⟩
abbrev main_v169 : Ref sig .tc := ⟨.hbm, 178, rfl⟩
abbrev main_v170 : Ref sig .tc := ⟨.hbm, 179, rfl⟩
abbrev main_v171 : Ref sig .tc := ⟨.hbm, 180, rfl⟩
abbrev main_v172 : Ref sig .tc := ⟨.hbm, 181, rfl⟩
abbrev main_v173 : Ref sig .tc := ⟨.hbm, 182, rfl⟩
abbrev main_v174 : Ref sig .tc := ⟨.hbm, 183, rfl⟩
abbrev main_v175 : Ref sig .tc := ⟨.hbm, 184, rfl⟩
abbrev main_v176 : Ref sig .tc := ⟨.hbm, 185, rfl⟩
abbrev main_v177 : Ref sig .tc := ⟨.hbm, 186, rfl⟩
abbrev main_v178 : Ref sig .tc := ⟨.hbm, 187, rfl⟩
abbrev main_v179 : Ref sig .tc := ⟨.hbm, 188, rfl⟩
abbrev main_v180 : Ref sig .tc := ⟨.hbm, 189, rfl⟩
abbrev main_v181 : Ref sig .tc := ⟨.hbm, 190, rfl⟩
abbrev main_v182 : Ref sig .tc := ⟨.hbm, 191, rfl⟩
abbrev main_v183 : Ref sig .tc := ⟨.hbm, 192, rfl⟩
abbrev main_v184 : Ref sig .tc := ⟨.hbm, 193, rfl⟩
abbrev main_v185 : Ref sig .tc := ⟨.hbm, 194, rfl⟩
abbrev main_v186 : Ref sig .tc := ⟨.hbm, 195, rfl⟩
abbrev main_v187 : Ref sig .tc := ⟨.hbm, 196, rfl⟩
abbrev main_v188 : Ref sig .tc := ⟨.hbm, 197, rfl⟩
abbrev main_v189 : Ref sig .tc := ⟨.hbm, 198, rfl⟩
abbrev main_v190 : Ref sig .tc := ⟨.hbm, 199, rfl⟩
abbrev main_v191 : Ref sig .tc := ⟨.hbm, 200, rfl⟩
abbrev main_v192 : Ref sig .tc := ⟨.hbm, 201, rfl⟩
abbrev main_v193 : Ref sig .tc := ⟨.hbm, 202, rfl⟩
abbrev main_v194 : Ref sig .tc := ⟨.hbm, 203, rfl⟩
abbrev main_v195 : Ref sig .tc := ⟨.hbm, 204, rfl⟩
abbrev main_v196 : Ref sig .tc := ⟨.hbm, 205, rfl⟩
abbrev main_v197 : Ref sig .tc := ⟨.hbm, 206, rfl⟩
abbrev main_v198 : Ref sig .tc := ⟨.hbm, 207, rfl⟩
abbrev main_v199 : Ref sig .tc := ⟨.hbm, 208, rfl⟩
abbrev main_v200 : Ref sig .tc := ⟨.hbm, 209, rfl⟩
abbrev main_v201 : Ref sig .tc := ⟨.hbm, 210, rfl⟩
abbrev main_v202 : Ref sig .tc := ⟨.hbm, 211, rfl⟩
abbrev main_v203 : Ref sig .tc := ⟨.hbm, 212, rfl⟩
abbrev main_v204 : Ref sig .tc := ⟨.hbm, 213, rfl⟩
abbrev main_v205 : Ref sig .tc := ⟨.hbm, 214, rfl⟩
abbrev main_v206 : Ref sig .tc := ⟨.hbm, 215, rfl⟩
abbrev main_v207 : Ref sig .tc := ⟨.hbm, 216, rfl⟩
abbrev main_v208 : Ref sig .tc := ⟨.hbm, 217, rfl⟩
abbrev main_v209 : Ref sig .tc := ⟨.hbm, 218, rfl⟩
abbrev main_v210 : Ref sig .tc := ⟨.hbm, 219, rfl⟩
abbrev main_v211 : Ref sig .tc := ⟨.hbm, 220, rfl⟩
abbrev main_v212 : Ref sig .tc := ⟨.hbm, 221, rfl⟩
abbrev main_v213 : Ref sig .tc := ⟨.hbm, 222, rfl⟩
abbrev main_v214 : Ref sig .tc := ⟨.hbm, 223, rfl⟩
abbrev main_v215 : Ref sig .tc := ⟨.hbm, 224, rfl⟩
abbrev main_v216 : Ref sig .tc := ⟨.hbm, 225, rfl⟩
abbrev main_v217 : Ref sig .tc := ⟨.hbm, 226, rfl⟩
abbrev main_v218 : Ref sig .tc := ⟨.hbm, 227, rfl⟩
abbrev main_v219 : Ref sig .tc := ⟨.hbm, 228, rfl⟩
abbrev main_v220 : Ref sig .tc := ⟨.hbm, 229, rfl⟩
abbrev main_v221 : Ref sig .tc := ⟨.hbm, 230, rfl⟩
abbrev main_v222 : Ref sig .tc := ⟨.hbm, 231, rfl⟩
abbrev main_v223 : Ref sig .tc := ⟨.hbm, 232, rfl⟩
abbrev main_v224 : Ref sig .tc := ⟨.hbm, 233, rfl⟩
abbrev main_v225 : Ref sig .tc := ⟨.hbm, 234, rfl⟩
abbrev main_v226 : Ref sig .tc := ⟨.hbm, 235, rfl⟩
abbrev main_v227 : Ref sig .tc := ⟨.hbm, 236, rfl⟩
abbrev main_v228 : Ref sig .tc := ⟨.hbm, 237, rfl⟩
abbrev main_v229 : Ref sig .tc := ⟨.hbm, 238, rfl⟩
abbrev main_v230 : Ref sig .tc := ⟨.hbm, 239, rfl⟩
abbrev main_v231 : Ref sig .tc := ⟨.hbm, 240, rfl⟩
abbrev main_v232 : Ref sig .tc := ⟨.hbm, 241, rfl⟩
abbrev main_v233 : Ref sig .tc := ⟨.hbm, 242, rfl⟩
abbrev main_v234 : Ref sig .tc := ⟨.hbm, 243, rfl⟩
abbrev main_cst_5 : Ref sig .tc := ⟨.hbm, 244, rfl⟩
abbrev main_v235 : Ref sig .tc := ⟨.hbm, 245, rfl⟩
abbrev main_v236 : Ref sig .tc := ⟨.hbm, 246, rfl⟩
abbrev main_v237 : Ref sig .tc := ⟨.hbm, 247, rfl⟩
abbrev main_v238 : Ref sig .tc := ⟨.hbm, 248, rfl⟩
abbrev main_v239 : Ref sig .tc := ⟨.hbm, 249, rfl⟩
abbrev main_cst_6 : Ref sig .tc := ⟨.hbm, 250, rfl⟩
abbrev main_v240 : Ref sig .tc := ⟨.hbm, 251, rfl⟩
abbrev main_v241 : Ref sig .tc := ⟨.hbm, 252, rfl⟩
abbrev main_cst_7 : Ref sig .tc := ⟨.hbm, 253, rfl⟩
abbrev main_v242 : Ref sig .tc := ⟨.hbm, 254, rfl⟩
abbrev main_cst_8 : Ref sig .tc := ⟨.hbm, 255, rfl⟩
abbrev main_v243 : Ref sig .tc := ⟨.hbm, 256, rfl⟩
abbrev main_v244 : Ref sig .tc := ⟨.hbm, 257, rfl⟩
abbrev main_cst_9 : Ref sig .tc := ⟨.hbm, 258, rfl⟩
abbrev main_v245 : Ref sig .tc := ⟨.hbm, 259, rfl⟩
abbrev main_v246 : Ref sig .tc := ⟨.hbm, 260, rfl⟩
abbrev main_v247 : Ref sig .tc := ⟨.hbm, 261, rfl⟩
abbrev main_v248 : Ref sig .tc := ⟨.hbm, 262, rfl⟩
abbrev main_cst_10 : Ref sig .tc := ⟨.hbm, 263, rfl⟩
abbrev main_v249 : Ref sig .tc := ⟨.hbm, 264, rfl⟩
abbrev main_v250 : Ref sig .tc := ⟨.hbm, 265, rfl⟩
abbrev main_cst_11 : Ref sig .tc := ⟨.hbm, 266, rfl⟩
abbrev main_v251 : Ref sig .tc := ⟨.hbm, 267, rfl⟩
abbrev main_cst_12 : Ref sig .tc := ⟨.hbm, 268, rfl⟩
abbrev main_v252 : Ref sig .tc := ⟨.hbm, 269, rfl⟩
abbrev main_v253 : Ref sig .tc := ⟨.hbm, 270, rfl⟩
abbrev main_v254 : Ref sig .tc := ⟨.hbm, 271, rfl⟩
abbrev main_cst_13 : Ref sig .tc := ⟨.hbm, 272, rfl⟩
abbrev main_v255 : Ref sig .tc := ⟨.hbm, 273, rfl⟩
abbrev main_v256 : Ref sig .tc := ⟨.hbm, 274, rfl⟩
abbrev main_v257 : Ref sig .tc := ⟨.hbm, 275, rfl⟩
abbrev main_v258 : Ref sig .tc := ⟨.hbm, 276, rfl⟩
abbrev main_v259 : Ref sig .tc := ⟨.hbm, 277, rfl⟩
abbrev main_cst_14 : Ref sig .tc := ⟨.hbm, 278, rfl⟩
abbrev main_v260 : Ref sig .tc := ⟨.hbm, 279, rfl⟩
abbrev main_v261 : Ref sig .tc := ⟨.hbm, 280, rfl⟩
abbrev main_cst_15 : Ref sig .tc := ⟨.hbm, 281, rfl⟩
abbrev main_v262 : Ref sig .tc := ⟨.hbm, 282, rfl⟩
abbrev main_cst_16 : Ref sig .tc := ⟨.hbm, 283, rfl⟩
abbrev main_v263 : Ref sig .tc := ⟨.hbm, 284, rfl⟩
abbrev main_v264 : Ref sig .tc := ⟨.hbm, 285, rfl⟩
abbrev main_v265 : Ref sig .tc := ⟨.hbm, 286, rfl⟩
abbrev main_cst_17 : Ref sig .tc := ⟨.hbm, 287, rfl⟩
abbrev main_v266 : Ref sig .tc := ⟨.hbm, 288, rfl⟩
abbrev main_v267 : Ref sig .tc := ⟨.hbm, 289, rfl⟩
abbrev main_v268 : Ref sig .tc := ⟨.hbm, 290, rfl⟩
abbrev main_v269 : Ref sig .tc := ⟨.hbm, 291, rfl⟩
abbrev main_v270 : Ref sig .tc := ⟨.hbm, 292, rfl⟩
abbrev main_cst_18 : Ref sig .tc := ⟨.hbm, 293, rfl⟩
abbrev main_v271 : Ref sig .tc := ⟨.hbm, 294, rfl⟩
abbrev main_v272 : Ref sig .tc := ⟨.hbm, 295, rfl⟩
abbrev main_cst_19 : Ref sig .tc := ⟨.hbm, 296, rfl⟩
abbrev main_v273 : Ref sig .tc := ⟨.hbm, 297, rfl⟩
abbrev main_cst_20 : Ref sig .tc := ⟨.hbm, 298, rfl⟩
abbrev main_v274 : Ref sig .tc := ⟨.hbm, 299, rfl⟩
abbrev main_v275 : Ref sig .tc := ⟨.hbm, 300, rfl⟩
abbrev main_v276 : Ref sig .tc := ⟨.hbm, 301, rfl⟩
abbrev main_cst_21 : Ref sig .tc := ⟨.hbm, 302, rfl⟩
abbrev main_v277 : Ref sig .tc := ⟨.hbm, 303, rfl⟩
abbrev main_v278 : Ref sig .tc := ⟨.hbm, 304, rfl⟩
abbrev main_v279 : Ref sig .tc := ⟨.hbm, 305, rfl⟩
abbrev main_v280 : Ref sig .tc := ⟨.hbm, 306, rfl⟩
abbrev main_v281 : Ref sig .tc := ⟨.hbm, 307, rfl⟩
abbrev main_cst_22 : Ref sig .tc := ⟨.hbm, 308, rfl⟩
abbrev main_v282 : Ref sig .tc := ⟨.hbm, 309, rfl⟩
abbrev main_v283 : Ref sig .tc := ⟨.hbm, 310, rfl⟩
abbrev main_cst_23 : Ref sig .tc := ⟨.hbm, 311, rfl⟩
abbrev main_v284 : Ref sig .tc := ⟨.hbm, 312, rfl⟩
abbrev main_cst_24 : Ref sig .tc := ⟨.hbm, 313, rfl⟩
abbrev main_v285 : Ref sig .tc := ⟨.hbm, 314, rfl⟩
abbrev main_v286 : Ref sig .tc := ⟨.hbm, 315, rfl⟩
abbrev main_v287 : Ref sig .tc := ⟨.hbm, 316, rfl⟩
abbrev main_cst_25 : Ref sig .tc := ⟨.hbm, 317, rfl⟩
abbrev main_v288 : Ref sig .tc := ⟨.hbm, 318, rfl⟩
abbrev main_v289 : Ref sig .tc := ⟨.hbm, 319, rfl⟩
abbrev main_v290 : Ref sig .tc := ⟨.hbm, 320, rfl⟩
abbrev main_v291 : Ref sig .tc := ⟨.hbm, 321, rfl⟩
abbrev main_v292 : Ref sig .tc := ⟨.hbm, 322, rfl⟩
abbrev main_cst_26 : Ref sig .tc := ⟨.hbm, 323, rfl⟩
abbrev main_v293 : Ref sig .tc := ⟨.hbm, 324, rfl⟩
abbrev main_v294 : Ref sig .tc := ⟨.hbm, 325, rfl⟩
abbrev main_cst_27 : Ref sig .tc := ⟨.hbm, 326, rfl⟩
abbrev main_v295 : Ref sig .tc := ⟨.hbm, 327, rfl⟩
abbrev main_cst_28 : Ref sig .tc := ⟨.hbm, 328, rfl⟩
abbrev main_v296 : Ref sig .tc := ⟨.hbm, 329, rfl⟩
abbrev main_v297 : Ref sig .tc := ⟨.hbm, 330, rfl⟩
abbrev main_v298 : Ref sig .tc := ⟨.hbm, 331, rfl⟩
abbrev main_cst_29 : Ref sig .tc := ⟨.hbm, 332, rfl⟩
abbrev main_v299 : Ref sig .tc := ⟨.hbm, 333, rfl⟩
abbrev main_v300 : Ref sig .tc := ⟨.hbm, 334, rfl⟩
abbrev main_v301 : Ref sig .tc := ⟨.hbm, 335, rfl⟩
abbrev main_v302 : Ref sig .tc := ⟨.hbm, 336, rfl⟩
abbrev main_v303 : Ref sig .tc := ⟨.hbm, 337, rfl⟩
abbrev main_cst_30 : Ref sig .tc := ⟨.hbm, 338, rfl⟩
abbrev main_v304 : Ref sig .tc := ⟨.hbm, 339, rfl⟩
abbrev main_v305 : Ref sig .tc := ⟨.hbm, 340, rfl⟩
abbrev main_cst_31 : Ref sig .tc := ⟨.hbm, 341, rfl⟩
abbrev main_v306 : Ref sig .tc := ⟨.hbm, 342, rfl⟩
abbrev main_cst_32 : Ref sig .tc := ⟨.hbm, 343, rfl⟩
abbrev main_v307 : Ref sig .tc := ⟨.hbm, 344, rfl⟩
abbrev main_v308 : Ref sig .tc := ⟨.hbm, 345, rfl⟩
abbrev main_v309 : Ref sig .tc := ⟨.hbm, 346, rfl⟩
abbrev main_cst_33 : Ref sig .tc := ⟨.hbm, 347, rfl⟩
abbrev main_v310 : Ref sig .tc := ⟨.hbm, 348, rfl⟩
abbrev main_v311 : Ref sig .tc := ⟨.hbm, 349, rfl⟩
abbrev main_v312 : Ref sig .tc := ⟨.hbm, 350, rfl⟩
abbrev main_v313 : Ref sig .tc := ⟨.hbm, 351, rfl⟩
abbrev main_v314 : Ref sig .tc := ⟨.hbm, 352, rfl⟩
abbrev main_cst_34 : Ref sig .tc := ⟨.hbm, 353, rfl⟩
abbrev main_v315 : Ref sig .tc := ⟨.hbm, 354, rfl⟩
abbrev main_v316 : Ref sig .tc := ⟨.hbm, 355, rfl⟩
abbrev main_cst_35 : Ref sig .tc := ⟨.hbm, 356, rfl⟩
abbrev main_v317 : Ref sig .tc := ⟨.hbm, 357, rfl⟩
abbrev main_cst_36 : Ref sig .tc := ⟨.hbm, 358, rfl⟩
abbrev main_v318 : Ref sig .tc := ⟨.hbm, 359, rfl⟩
abbrev main_v319 : Ref sig .tc := ⟨.hbm, 360, rfl⟩
abbrev main_v320 : Ref sig .tc := ⟨.hbm, 361, rfl⟩
abbrev main_cst_37 : Ref sig .tc := ⟨.hbm, 362, rfl⟩
abbrev main_v321 : Ref sig .tc := ⟨.hbm, 363, rfl⟩
abbrev main_v322 : Ref sig .tc := ⟨.hbm, 364, rfl⟩
abbrev main_v323 : Ref sig .tc := ⟨.hbm, 365, rfl⟩
abbrev main_v324 : Ref sig .tc := ⟨.hbm, 366, rfl⟩
abbrev main_v325 : Ref sig .tc := ⟨.hbm, 367, rfl⟩
abbrev main_cst_38 : Ref sig .tc := ⟨.hbm, 368, rfl⟩
abbrev main_v326 : Ref sig .tc := ⟨.hbm, 369, rfl⟩
abbrev main_v327 : Ref sig .tc := ⟨.hbm, 370, rfl⟩
abbrev main_cst_39 : Ref sig .tc := ⟨.hbm, 371, rfl⟩
abbrev main_v328 : Ref sig .tc := ⟨.hbm, 372, rfl⟩
abbrev main_cst_40 : Ref sig .tc := ⟨.hbm, 373, rfl⟩
abbrev main_v329 : Ref sig .tc := ⟨.hbm, 374, rfl⟩
abbrev main_v330 : Ref sig .tc := ⟨.hbm, 375, rfl⟩
abbrev main_v331 : Ref sig .tc := ⟨.hbm, 376, rfl⟩
abbrev main_cst_41 : Ref sig .tc := ⟨.hbm, 377, rfl⟩
abbrev main_v332 : Ref sig .tc := ⟨.hbm, 378, rfl⟩
abbrev main_v333 : Ref sig .tc := ⟨.hbm, 379, rfl⟩
abbrev main_v334 : Ref sig .tc := ⟨.hbm, 380, rfl⟩
abbrev main_v335 : Ref sig .tc := ⟨.hbm, 381, rfl⟩
abbrev main_v336 : Ref sig .tc := ⟨.hbm, 382, rfl⟩
abbrev main_cst_42 : Ref sig .tc := ⟨.hbm, 383, rfl⟩
abbrev main_v337 : Ref sig .tc := ⟨.hbm, 384, rfl⟩
abbrev main_v338 : Ref sig .tc := ⟨.hbm, 385, rfl⟩
abbrev main_cst_43 : Ref sig .tc := ⟨.hbm, 386, rfl⟩
abbrev main_v339 : Ref sig .tc := ⟨.hbm, 387, rfl⟩
abbrev main_cst_44 : Ref sig .tc := ⟨.hbm, 388, rfl⟩
abbrev main_v340 : Ref sig .tc := ⟨.hbm, 389, rfl⟩
abbrev main_v341 : Ref sig .tc := ⟨.hbm, 390, rfl⟩
abbrev main_v342 : Ref sig .tc := ⟨.hbm, 391, rfl⟩
abbrev main_cst_45 : Ref sig .tc := ⟨.hbm, 392, rfl⟩
abbrev main_v343 : Ref sig .tc := ⟨.hbm, 393, rfl⟩
abbrev main_v344 : Ref sig .tc := ⟨.hbm, 394, rfl⟩
abbrev main_v345 : Ref sig .tc := ⟨.hbm, 395, rfl⟩
abbrev main_v346 : Ref sig .tc := ⟨.hbm, 396, rfl⟩
abbrev main_v347 : Ref sig .tc := ⟨.hbm, 397, rfl⟩
abbrev main_cst_46 : Ref sig .tc := ⟨.hbm, 398, rfl⟩
abbrev main_v348 : Ref sig .tc := ⟨.hbm, 399, rfl⟩
abbrev main_v349 : Ref sig .tc := ⟨.hbm, 400, rfl⟩
abbrev main_cst_47 : Ref sig .tc := ⟨.hbm, 401, rfl⟩
abbrev main_v350 : Ref sig .tc := ⟨.hbm, 402, rfl⟩
abbrev main_cst_48 : Ref sig .tc := ⟨.hbm, 403, rfl⟩
abbrev main_v351 : Ref sig .tc := ⟨.hbm, 404, rfl⟩
abbrev main_v352 : Ref sig .tc := ⟨.hbm, 405, rfl⟩
abbrev main_v353 : Ref sig .tc := ⟨.hbm, 406, rfl⟩
abbrev main_cst_49 : Ref sig .tc := ⟨.hbm, 407, rfl⟩
abbrev main_v354 : Ref sig .tc := ⟨.hbm, 408, rfl⟩
abbrev main_v355 : Ref sig .tc := ⟨.hbm, 409, rfl⟩
abbrev main_v356 : Ref sig .tc := ⟨.hbm, 410, rfl⟩
abbrev main_v357 : Ref sig .tc := ⟨.hbm, 411, rfl⟩
abbrev main_v358 : Ref sig .tc := ⟨.hbm, 412, rfl⟩
abbrev main_cst_50 : Ref sig .tc := ⟨.hbm, 413, rfl⟩
abbrev main_v359 : Ref sig .tc := ⟨.hbm, 414, rfl⟩
abbrev main_v360 : Ref sig .tc := ⟨.hbm, 415, rfl⟩
abbrev main_cst_51 : Ref sig .tc := ⟨.hbm, 416, rfl⟩
abbrev main_v361 : Ref sig .tc := ⟨.hbm, 417, rfl⟩
abbrev main_cst_52 : Ref sig .tc := ⟨.hbm, 418, rfl⟩
abbrev main_v362 : Ref sig .tc := ⟨.hbm, 419, rfl⟩
abbrev main_v363 : Ref sig .tc := ⟨.hbm, 420, rfl⟩
abbrev main_v364 : Ref sig .tc := ⟨.hbm, 421, rfl⟩
abbrev main_cst_53 : Ref sig .tc := ⟨.hbm, 422, rfl⟩
abbrev main_v365 : Ref sig .tc := ⟨.hbm, 423, rfl⟩
abbrev main_v366 : Ref sig .tc := ⟨.hbm, 424, rfl⟩
abbrev main_v367 : Ref sig .tc := ⟨.hbm, 425, rfl⟩
abbrev main_v368 : Ref sig .tc := ⟨.hbm, 426, rfl⟩
abbrev main_v369 : Ref sig .tc := ⟨.hbm, 427, rfl⟩
abbrev main_cst_54 : Ref sig .tc := ⟨.hbm, 428, rfl⟩
abbrev main_v370 : Ref sig .tc := ⟨.hbm, 429, rfl⟩
abbrev main_v371 : Ref sig .tc := ⟨.hbm, 430, rfl⟩
abbrev main_cst_55 : Ref sig .tc := ⟨.hbm, 431, rfl⟩
abbrev main_v372 : Ref sig .tc := ⟨.hbm, 432, rfl⟩
abbrev main_cst_56 : Ref sig .tc := ⟨.hbm, 433, rfl⟩
abbrev main_v373 : Ref sig .tc := ⟨.hbm, 434, rfl⟩
abbrev main_v374 : Ref sig .tc := ⟨.hbm, 435, rfl⟩
abbrev main_v375 : Ref sig .tc := ⟨.hbm, 436, rfl⟩
abbrev main_cst_57 : Ref sig .tc := ⟨.hbm, 437, rfl⟩
abbrev main_v376 : Ref sig .tc := ⟨.hbm, 438, rfl⟩
abbrev main_v377 : Ref sig .tc := ⟨.hbm, 439, rfl⟩
abbrev main_v378 : Ref sig .tc := ⟨.hbm, 440, rfl⟩
abbrev main_v379 : Ref sig .tc := ⟨.hbm, 441, rfl⟩
abbrev main_v380 : Ref sig .tc := ⟨.hbm, 442, rfl⟩
abbrev main_cst_58 : Ref sig .tc := ⟨.hbm, 443, rfl⟩
abbrev main_v381 : Ref sig .tc := ⟨.hbm, 444, rfl⟩
abbrev main_v382 : Ref sig .tc := ⟨.hbm, 445, rfl⟩
abbrev main_cst_59 : Ref sig .tc := ⟨.hbm, 446, rfl⟩
abbrev main_v383 : Ref sig .tc := ⟨.hbm, 447, rfl⟩
abbrev main_cst_60 : Ref sig .tc := ⟨.hbm, 448, rfl⟩
abbrev main_v384 : Ref sig .tc := ⟨.hbm, 449, rfl⟩
abbrev main_v385 : Ref sig .tc := ⟨.hbm, 450, rfl⟩
abbrev main_v386 : Ref sig .tc := ⟨.hbm, 451, rfl⟩
abbrev main_cst_61 : Ref sig .tc := ⟨.hbm, 452, rfl⟩
abbrev main_v387 : Ref sig .tc := ⟨.hbm, 453, rfl⟩
abbrev main_v388 : Ref sig .tc := ⟨.hbm, 454, rfl⟩
abbrev main_v389 : Ref sig .tc := ⟨.hbm, 455, rfl⟩
abbrev main_v390 : Ref sig .tc := ⟨.hbm, 456, rfl⟩
abbrev main_v391 : Ref sig .tc := ⟨.hbm, 457, rfl⟩
abbrev main_cst_62 : Ref sig .tc := ⟨.hbm, 458, rfl⟩
abbrev main_v392 : Ref sig .tc := ⟨.hbm, 459, rfl⟩
abbrev main_v393 : Ref sig .tc := ⟨.hbm, 460, rfl⟩
abbrev main_cst_63 : Ref sig .tc := ⟨.hbm, 461, rfl⟩
abbrev main_v394 : Ref sig .tc := ⟨.hbm, 462, rfl⟩
abbrev main_cst_64 : Ref sig .tc := ⟨.hbm, 463, rfl⟩
abbrev main_v395 : Ref sig .tc := ⟨.hbm, 464, rfl⟩
abbrev main_v396 : Ref sig .tc := ⟨.hbm, 465, rfl⟩
abbrev main_v397 : Ref sig .tc := ⟨.hbm, 466, rfl⟩
abbrev main_cst_65 : Ref sig .tc := ⟨.hbm, 467, rfl⟩
abbrev main_v398 : Ref sig .tc := ⟨.hbm, 468, rfl⟩
abbrev main_v399 : Ref sig .tc := ⟨.hbm, 469, rfl⟩
abbrev main_v400 : Ref sig .tc := ⟨.hbm, 470, rfl⟩
abbrev main_v401 : Ref sig .tc := ⟨.hbm, 471, rfl⟩
abbrev main_v402 : Ref sig .tc := ⟨.hbm, 472, rfl⟩
abbrev main_cst_66 : Ref sig .tc := ⟨.hbm, 473, rfl⟩
abbrev main_v403 : Ref sig .tc := ⟨.hbm, 474, rfl⟩
abbrev main_v404 : Ref sig .tc := ⟨.hbm, 475, rfl⟩
abbrev main_cst_67 : Ref sig .tc := ⟨.hbm, 476, rfl⟩
abbrev main_v405 : Ref sig .tc := ⟨.hbm, 477, rfl⟩
abbrev main_cst_68 : Ref sig .tc := ⟨.hbm, 478, rfl⟩
abbrev main_v406 : Ref sig .tc := ⟨.hbm, 479, rfl⟩
abbrev main_v407 : Ref sig .tc := ⟨.hbm, 480, rfl⟩
abbrev main_v408 : Ref sig .tc := ⟨.hbm, 481, rfl⟩
abbrev main_cst_69 : Ref sig .tc := ⟨.hbm, 482, rfl⟩
abbrev main_v409 : Ref sig .tc := ⟨.hbm, 483, rfl⟩
abbrev main_v410 : Ref sig .tc := ⟨.hbm, 484, rfl⟩
abbrev main_v411 : Ref sig .tc := ⟨.hbm, 485, rfl⟩
abbrev main_v412 : Ref sig .tc := ⟨.hbm, 486, rfl⟩
abbrev main_v413 : Ref sig .tc := ⟨.hbm, 487, rfl⟩
abbrev main_cst_70 : Ref sig .tc := ⟨.hbm, 488, rfl⟩
abbrev main_v414 : Ref sig .tc := ⟨.hbm, 489, rfl⟩
abbrev main_v415 : Ref sig .tc := ⟨.hbm, 490, rfl⟩
abbrev main_cst_71 : Ref sig .tc := ⟨.hbm, 491, rfl⟩
abbrev main_v416 : Ref sig .tc := ⟨.hbm, 492, rfl⟩
abbrev main_cst_72 : Ref sig .tc := ⟨.hbm, 493, rfl⟩
abbrev main_v417 : Ref sig .tc := ⟨.hbm, 494, rfl⟩
abbrev main_v418 : Ref sig .tc := ⟨.hbm, 495, rfl⟩
abbrev main_v419 : Ref sig .tc := ⟨.hbm, 496, rfl⟩
abbrev main_cst_73 : Ref sig .tc := ⟨.hbm, 497, rfl⟩
abbrev main_v420 : Ref sig .tc := ⟨.hbm, 498, rfl⟩
abbrev main_v421 : Ref sig .tc := ⟨.hbm, 499, rfl⟩
abbrev main_v422 : Ref sig .tc := ⟨.hbm, 500, rfl⟩
abbrev main_v423 : Ref sig .tc := ⟨.hbm, 501, rfl⟩
abbrev main_v424 : Ref sig .tc := ⟨.hbm, 502, rfl⟩
abbrev main_cst_74 : Ref sig .tc := ⟨.hbm, 503, rfl⟩
abbrev main_v425 : Ref sig .tc := ⟨.hbm, 504, rfl⟩
abbrev main_v426 : Ref sig .tc := ⟨.hbm, 505, rfl⟩
abbrev main_cst_75 : Ref sig .tc := ⟨.hbm, 506, rfl⟩
abbrev main_v427 : Ref sig .tc := ⟨.hbm, 507, rfl⟩
abbrev main_cst_76 : Ref sig .tc := ⟨.hbm, 508, rfl⟩
abbrev main_v428 : Ref sig .tc := ⟨.hbm, 509, rfl⟩
abbrev main_v429 : Ref sig .tc := ⟨.hbm, 510, rfl⟩
abbrev main_v430 : Ref sig .tc := ⟨.hbm, 511, rfl⟩
abbrev main_cst_77 : Ref sig .tc := ⟨.hbm, 512, rfl⟩
abbrev main_v431 : Ref sig .tc := ⟨.hbm, 513, rfl⟩
abbrev main_v432 : Ref sig .tc := ⟨.hbm, 514, rfl⟩
abbrev main_v433 : Ref sig .tc := ⟨.hbm, 515, rfl⟩
abbrev main_v434 : Ref sig .tc := ⟨.hbm, 516, rfl⟩
abbrev main_v435 : Ref sig .tc := ⟨.hbm, 517, rfl⟩
abbrev main_cst_78 : Ref sig .tc := ⟨.hbm, 518, rfl⟩
abbrev main_v436 : Ref sig .tc := ⟨.hbm, 519, rfl⟩
abbrev main_v437 : Ref sig .tc := ⟨.hbm, 520, rfl⟩
abbrev main_cst_79 : Ref sig .tc := ⟨.hbm, 521, rfl⟩
abbrev main_v438 : Ref sig .tc := ⟨.hbm, 522, rfl⟩
abbrev main_cst_80 : Ref sig .tc := ⟨.hbm, 523, rfl⟩
abbrev main_v439 : Ref sig .tc := ⟨.hbm, 524, rfl⟩
abbrev main_v440 : Ref sig .tc := ⟨.hbm, 525, rfl⟩
abbrev main_v441 : Ref sig .tc := ⟨.hbm, 526, rfl⟩
abbrev main_cst_81 : Ref sig .tc := ⟨.hbm, 527, rfl⟩
abbrev main_v442 : Ref sig .tc := ⟨.hbm, 528, rfl⟩
abbrev main_v443 : Ref sig .tc := ⟨.hbm, 529, rfl⟩
abbrev main_v444 : Ref sig .tc := ⟨.hbm, 530, rfl⟩
abbrev main_v445 : Ref sig .tc := ⟨.hbm, 531, rfl⟩
abbrev main_v446 : Ref sig .tc := ⟨.hbm, 532, rfl⟩
abbrev main_cst_82 : Ref sig .tc := ⟨.hbm, 533, rfl⟩
abbrev main_v447 : Ref sig .tc := ⟨.hbm, 534, rfl⟩
abbrev main_v448 : Ref sig .tc := ⟨.hbm, 535, rfl⟩
abbrev main_cst_83 : Ref sig .tc := ⟨.hbm, 536, rfl⟩
abbrev main_v449 : Ref sig .tc := ⟨.hbm, 537, rfl⟩
abbrev main_cst_84 : Ref sig .tc := ⟨.hbm, 538, rfl⟩
abbrev main_v450 : Ref sig .tc := ⟨.hbm, 539, rfl⟩
abbrev main_v451 : Ref sig .tc := ⟨.hbm, 540, rfl⟩
abbrev main_v452 : Ref sig .tc := ⟨.hbm, 541, rfl⟩
abbrev main_cst_85 : Ref sig .tc := ⟨.hbm, 542, rfl⟩
abbrev main_v453 : Ref sig .tc := ⟨.hbm, 543, rfl⟩
abbrev main_v454 : Ref sig .tc := ⟨.hbm, 544, rfl⟩
abbrev main_v455 : Ref sig .tc := ⟨.hbm, 545, rfl⟩
abbrev main_v456 : Ref sig .tc := ⟨.hbm, 546, rfl⟩
abbrev main_v457 : Ref sig .tc := ⟨.hbm, 547, rfl⟩
abbrev main_cst_86 : Ref sig .tc := ⟨.hbm, 548, rfl⟩
abbrev main_v458 : Ref sig .tc := ⟨.hbm, 549, rfl⟩
abbrev main_v459 : Ref sig .tc := ⟨.hbm, 550, rfl⟩
abbrev main_cst_87 : Ref sig .tc := ⟨.hbm, 551, rfl⟩
abbrev main_v460 : Ref sig .tc := ⟨.hbm, 552, rfl⟩
abbrev main_cst_88 : Ref sig .tc := ⟨.hbm, 553, rfl⟩
abbrev main_v461 : Ref sig .tc := ⟨.hbm, 554, rfl⟩
abbrev main_v462 : Ref sig .tc := ⟨.hbm, 555, rfl⟩
abbrev main_v463 : Ref sig .tc := ⟨.hbm, 556, rfl⟩
abbrev main_cst_89 : Ref sig .tc := ⟨.hbm, 557, rfl⟩
abbrev main_v464 : Ref sig .tc := ⟨.hbm, 558, rfl⟩
abbrev main_v465 : Ref sig .tc := ⟨.hbm, 559, rfl⟩
abbrev main_v466 : Ref sig .tc := ⟨.hbm, 560, rfl⟩
abbrev main_v467 : Ref sig .tc := ⟨.hbm, 561, rfl⟩
abbrev main_v468 : Ref sig .tc := ⟨.hbm, 562, rfl⟩
abbrev main_cst_90 : Ref sig .tc := ⟨.hbm, 563, rfl⟩
abbrev main_v469 : Ref sig .tc := ⟨.hbm, 564, rfl⟩
abbrev main_v470 : Ref sig .tc := ⟨.hbm, 565, rfl⟩
abbrev main_cst_91 : Ref sig .tc := ⟨.hbm, 566, rfl⟩
abbrev main_v471 : Ref sig .tc := ⟨.hbm, 567, rfl⟩
abbrev main_cst_92 : Ref sig .tc := ⟨.hbm, 568, rfl⟩
abbrev main_v472 : Ref sig .tc := ⟨.hbm, 569, rfl⟩
abbrev main_v473 : Ref sig .tc := ⟨.hbm, 570, rfl⟩
abbrev main_v474 : Ref sig .tc := ⟨.hbm, 571, rfl⟩
abbrev main_cst_93 : Ref sig .tc := ⟨.hbm, 572, rfl⟩
abbrev main_v475 : Ref sig .tc := ⟨.hbm, 573, rfl⟩
abbrev main_v476 : Ref sig .tc := ⟨.hbm, 574, rfl⟩
abbrev main_v477 : Ref sig .tc := ⟨.hbm, 575, rfl⟩
abbrev main_v478 : Ref sig .tc := ⟨.hbm, 576, rfl⟩
abbrev main_v479 : Ref sig .tc := ⟨.hbm, 577, rfl⟩
abbrev main_cst_94 : Ref sig .tc := ⟨.hbm, 578, rfl⟩
abbrev main_v480 : Ref sig .tc := ⟨.hbm, 579, rfl⟩
abbrev main_v481 : Ref sig .tc := ⟨.hbm, 580, rfl⟩
abbrev main_cst_95 : Ref sig .tc := ⟨.hbm, 581, rfl⟩
abbrev main_v482 : Ref sig .tc := ⟨.hbm, 582, rfl⟩
abbrev main_cst_96 : Ref sig .tc := ⟨.hbm, 583, rfl⟩
abbrev main_v483 : Ref sig .tc := ⟨.hbm, 584, rfl⟩
abbrev main_v484 : Ref sig .tc := ⟨.hbm, 585, rfl⟩
abbrev main_v485 : Ref sig .tc := ⟨.hbm, 586, rfl⟩
abbrev main_cst_97 : Ref sig .tc := ⟨.hbm, 587, rfl⟩
abbrev main_v486 : Ref sig .tc := ⟨.hbm, 588, rfl⟩
abbrev main_v487 : Ref sig .tc := ⟨.hbm, 589, rfl⟩
abbrev main_v488 : Ref sig .tc := ⟨.hbm, 590, rfl⟩
abbrev main_v489 : Ref sig .tc := ⟨.hbm, 591, rfl⟩
abbrev main_v490 : Ref sig .tc := ⟨.hbm, 592, rfl⟩
abbrev main_cst_98 : Ref sig .tc := ⟨.hbm, 593, rfl⟩
abbrev main_v491 : Ref sig .tc := ⟨.hbm, 594, rfl⟩
abbrev main_v492 : Ref sig .tc := ⟨.hbm, 595, rfl⟩
abbrev main_cst_99 : Ref sig .tc := ⟨.hbm, 596, rfl⟩
abbrev main_v493 : Ref sig .tc := ⟨.hbm, 597, rfl⟩
abbrev main_cst_100 : Ref sig .tc := ⟨.hbm, 598, rfl⟩
abbrev main_v494 : Ref sig .tc := ⟨.hbm, 599, rfl⟩
abbrev main_v495 : Ref sig .tc := ⟨.hbm, 600, rfl⟩
abbrev main_v496 : Ref sig .tc := ⟨.hbm, 601, rfl⟩
abbrev main_cst_101 : Ref sig .tc := ⟨.hbm, 602, rfl⟩
abbrev main_v497 : Ref sig .tc := ⟨.hbm, 603, rfl⟩
abbrev main_v498 : Ref sig .tc := ⟨.hbm, 604, rfl⟩
abbrev main_v499 : Ref sig .tc := ⟨.hbm, 605, rfl⟩
abbrev main_v500 : Ref sig .tc := ⟨.hbm, 606, rfl⟩
abbrev main_v501 : Ref sig .tc := ⟨.hbm, 607, rfl⟩
abbrev main_cst_102 : Ref sig .tc := ⟨.hbm, 608, rfl⟩
abbrev main_v502 : Ref sig .tc := ⟨.hbm, 609, rfl⟩
abbrev main_v503 : Ref sig .tc := ⟨.hbm, 610, rfl⟩
abbrev main_cst_103 : Ref sig .tc := ⟨.hbm, 611, rfl⟩
abbrev main_v504 : Ref sig .tc := ⟨.hbm, 612, rfl⟩
abbrev main_cst_104 : Ref sig .tc := ⟨.hbm, 613, rfl⟩
abbrev main_v505 : Ref sig .tc := ⟨.hbm, 614, rfl⟩
abbrev main_v506 : Ref sig .tc := ⟨.hbm, 615, rfl⟩
abbrev main_v507 : Ref sig .tc := ⟨.hbm, 616, rfl⟩
abbrev main_cst_105 : Ref sig .tc := ⟨.hbm, 617, rfl⟩
abbrev main_v508 : Ref sig .tc := ⟨.hbm, 618, rfl⟩
abbrev main_v509 : Ref sig .tc := ⟨.hbm, 619, rfl⟩
abbrev main_v510 : Ref sig .tc := ⟨.hbm, 620, rfl⟩
abbrev main_v511 : Ref sig .tc := ⟨.hbm, 621, rfl⟩
abbrev main_v512 : Ref sig .tc := ⟨.hbm, 622, rfl⟩
abbrev main_cst_106 : Ref sig .tc := ⟨.hbm, 623, rfl⟩
abbrev main_v513 : Ref sig .tc := ⟨.hbm, 624, rfl⟩
abbrev main_v514 : Ref sig .tc := ⟨.hbm, 625, rfl⟩
abbrev main_cst_107 : Ref sig .tc := ⟨.hbm, 626, rfl⟩
abbrev main_v515 : Ref sig .tc := ⟨.hbm, 627, rfl⟩
abbrev main_cst_108 : Ref sig .tc := ⟨.hbm, 628, rfl⟩
abbrev main_v516 : Ref sig .tc := ⟨.hbm, 629, rfl⟩
abbrev main_v517 : Ref sig .tc := ⟨.hbm, 630, rfl⟩
abbrev main_v518 : Ref sig .tc := ⟨.hbm, 631, rfl⟩
abbrev main_cst_109 : Ref sig .tc := ⟨.hbm, 632, rfl⟩
abbrev main_v519 : Ref sig .tc := ⟨.hbm, 633, rfl⟩
abbrev main_v520 : Ref sig .tc := ⟨.hbm, 634, rfl⟩
abbrev main_v521 : Ref sig .tc := ⟨.hbm, 635, rfl⟩
abbrev main_v522 : Ref sig .tc := ⟨.hbm, 636, rfl⟩
abbrev main_v523 : Ref sig .tc := ⟨.hbm, 637, rfl⟩
abbrev main_cst_110 : Ref sig .tc := ⟨.hbm, 638, rfl⟩
abbrev main_v524 : Ref sig .tc := ⟨.hbm, 639, rfl⟩
abbrev main_v525 : Ref sig .tc := ⟨.hbm, 640, rfl⟩
abbrev main_cst_111 : Ref sig .tc := ⟨.hbm, 641, rfl⟩
abbrev main_v526 : Ref sig .tc := ⟨.hbm, 642, rfl⟩
abbrev main_cst_112 : Ref sig .tc := ⟨.hbm, 643, rfl⟩
abbrev main_v527 : Ref sig .tc := ⟨.hbm, 644, rfl⟩
abbrev main_v528 : Ref sig .tc := ⟨.hbm, 645, rfl⟩
abbrev main_v529 : Ref sig .tc := ⟨.hbm, 646, rfl⟩
abbrev main_cst_113 : Ref sig .tc := ⟨.hbm, 647, rfl⟩
abbrev main_v530 : Ref sig .tc := ⟨.hbm, 648, rfl⟩
abbrev main_v531 : Ref sig .tc := ⟨.hbm, 649, rfl⟩
abbrev main_v532 : Ref sig .tc := ⟨.hbm, 650, rfl⟩
abbrev main_v533 : Ref sig .tc := ⟨.hbm, 651, rfl⟩
abbrev main_v534 : Ref sig .tc := ⟨.hbm, 652, rfl⟩
abbrev main_cst_114 : Ref sig .tc := ⟨.hbm, 653, rfl⟩
abbrev main_v535 : Ref sig .tc := ⟨.hbm, 654, rfl⟩
abbrev main_v536 : Ref sig .tc := ⟨.hbm, 655, rfl⟩
abbrev main_cst_115 : Ref sig .tc := ⟨.hbm, 656, rfl⟩
abbrev main_v537 : Ref sig .tc := ⟨.hbm, 657, rfl⟩
abbrev main_cst_116 : Ref sig .tc := ⟨.hbm, 658, rfl⟩
abbrev main_v538 : Ref sig .tc := ⟨.hbm, 659, rfl⟩
abbrev main_v539 : Ref sig .tc := ⟨.hbm, 660, rfl⟩
abbrev main_v540 : Ref sig .tc := ⟨.hbm, 661, rfl⟩
abbrev main_cst_117 : Ref sig .tc := ⟨.hbm, 662, rfl⟩
abbrev main_v541 : Ref sig .tc := ⟨.hbm, 663, rfl⟩
abbrev main_v542 : Ref sig .tc := ⟨.hbm, 664, rfl⟩
abbrev main_v543 : Ref sig .tc := ⟨.hbm, 665, rfl⟩
abbrev main_v544 : Ref sig .tc := ⟨.hbm, 666, rfl⟩
abbrev main_v545 : Ref sig .tc := ⟨.hbm, 667, rfl⟩
abbrev main_cst_118 : Ref sig .tc := ⟨.hbm, 668, rfl⟩
abbrev main_v546 : Ref sig .tc := ⟨.hbm, 669, rfl⟩
abbrev main_v547 : Ref sig .tc := ⟨.hbm, 670, rfl⟩
abbrev main_cst_119 : Ref sig .tc := ⟨.hbm, 671, rfl⟩
abbrev main_v548 : Ref sig .tc := ⟨.hbm, 672, rfl⟩
abbrev main_cst_120 : Ref sig .tc := ⟨.hbm, 673, rfl⟩
abbrev main_v549 : Ref sig .tc := ⟨.hbm, 674, rfl⟩
abbrev main_v550 : Ref sig .tc := ⟨.hbm, 675, rfl⟩
abbrev main_v551 : Ref sig .tc := ⟨.hbm, 676, rfl⟩
abbrev main_cst_121 : Ref sig .tc := ⟨.hbm, 677, rfl⟩
abbrev main_v552 : Ref sig .tc := ⟨.hbm, 678, rfl⟩
abbrev main_v553 : Ref sig .tc := ⟨.hbm, 679, rfl⟩
abbrev main_v554 : Ref sig .tc := ⟨.hbm, 680, rfl⟩
abbrev main_v555 : Ref sig .tc := ⟨.hbm, 681, rfl⟩
abbrev main_v556 : Ref sig .tc := ⟨.hbm, 682, rfl⟩
abbrev main_cst_122 : Ref sig .tc := ⟨.hbm, 683, rfl⟩
abbrev main_v557 : Ref sig .tc := ⟨.hbm, 684, rfl⟩
abbrev main_v558 : Ref sig .tc := ⟨.hbm, 685, rfl⟩
abbrev main_cst_123 : Ref sig .tc := ⟨.hbm, 686, rfl⟩
abbrev main_v559 : Ref sig .tc := ⟨.hbm, 687, rfl⟩
abbrev main_cst_124 : Ref sig .tc := ⟨.hbm, 688, rfl⟩
abbrev main_v560 : Ref sig .tc := ⟨.hbm, 689, rfl⟩
abbrev main_v561 : Ref sig .tc := ⟨.hbm, 690, rfl⟩
abbrev main_v562 : Ref sig .tc := ⟨.hbm, 691, rfl⟩
abbrev main_cst_125 : Ref sig .tc := ⟨.hbm, 692, rfl⟩
abbrev main_v563 : Ref sig .tc := ⟨.hbm, 693, rfl⟩
abbrev main_v564 : Ref sig .tc := ⟨.hbm, 694, rfl⟩
abbrev main_v565 : Ref sig .tc := ⟨.hbm, 695, rfl⟩
abbrev main_v566 : Ref sig .tc := ⟨.hbm, 696, rfl⟩
abbrev main_v567 : Ref sig .tc := ⟨.hbm, 697, rfl⟩
abbrev main_cst_126 : Ref sig .tc := ⟨.hbm, 698, rfl⟩
abbrev main_v568 : Ref sig .tc := ⟨.hbm, 699, rfl⟩
abbrev main_v569 : Ref sig .tc := ⟨.hbm, 700, rfl⟩
abbrev main_cst_127 : Ref sig .tc := ⟨.hbm, 701, rfl⟩
abbrev main_v570 : Ref sig .tc := ⟨.hbm, 702, rfl⟩
abbrev main_cst_128 : Ref sig .tc := ⟨.hbm, 703, rfl⟩
abbrev main_v571 : Ref sig .tc := ⟨.hbm, 704, rfl⟩
abbrev main_v572 : Ref sig .tc := ⟨.hbm, 705, rfl⟩
abbrev main_v573 : Ref sig .tc := ⟨.hbm, 706, rfl⟩
abbrev main_cst_129 : Ref sig .tc := ⟨.hbm, 707, rfl⟩
abbrev main_v574 : Ref sig .tc := ⟨.hbm, 708, rfl⟩
abbrev main_v575 : Ref sig .tc := ⟨.hbm, 709, rfl⟩
abbrev main_v576 : Ref sig .tc := ⟨.hbm, 710, rfl⟩
abbrev main_v577 : Ref sig .tc := ⟨.hbm, 711, rfl⟩
abbrev main_v578 : Ref sig .tc := ⟨.hbm, 712, rfl⟩
abbrev main_v579 : Ref sig .tc := ⟨.hbm, 713, rfl⟩
abbrev main_v580 : Ref sig .tc := ⟨.hbm, 714, rfl⟩
abbrev main_v581 : Ref sig .tc := ⟨.hbm, 715, rfl⟩
abbrev main_v582 : Ref sig .tc := ⟨.hbm, 716, rfl⟩

abbrev nD : Nat := 1
abbrev τ : Topo := Topo.v7x

variable {F : FTy → Type} [FloatOps F]
-- ==== AttnBwd.lean ====
abbrev S2048x2048 : Shape := ⟨2, ![2048, 2048]⟩
abbrev S256x2048 : Shape := ⟨2, ![256, 2048]⟩
abbrev S2048x512 : Shape := ⟨2, ![2048, 512]⟩
abbrev S256x512 : Shape := ⟨2, ![256, 512]⟩
abbrev S2048x256 : Shape := ⟨2, ![2048, 256]⟩
abbrev S2048 : Shape := ⟨1, ![2048]⟩
abbrev S2048x1 : Shape := ⟨2, ![2048, 1]⟩

abbrev nBuf : Space → Nat
  | .hbm => 7
  | .vmem => 14
  | .smem => 0
  | _ => 0

abbrev bufTy : (tb : Table) → Fin (tcTables nBuf tb) → BufTy
  | .hbm, ⟨0, _⟩ => ⟨S2048x2048, .bf16⟩
  | .hbm, ⟨1, _⟩ => ⟨S256x2048, .bf16⟩
  | .hbm, ⟨2, _⟩ => ⟨S256x2048, .bf16⟩
  | .hbm, ⟨3, _⟩ => ⟨S2048x2048, .bf16⟩
  | .hbm, ⟨4, _⟩ => ⟨S2048x2048, .bf16⟩
  | .hbm, ⟨5, _⟩ => ⟨S256x2048, .bf16⟩
  | .hbm, ⟨6, _⟩ => ⟨S256x2048, .bf16⟩
  | .local _ .vmem, ⟨0, _⟩ => ⟨S2048x512, .bf16⟩
  | .local _ .vmem, ⟨1, _⟩ => ⟨S2048x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AttnBwdRefIdeal.lean ====
abbrev S2048x2048 : Shape := ⟨2, ![2048, 2048]⟩
abbrev S256x2048 : Shape := ⟨2, ![256, 2048]⟩
abbrev S2048x4x512 : Shape := ⟨3, ![2048, 4, 512]⟩
abbrev S256x4x512 : Shape := ⟨3, ![256, 4, 512]⟩
abbrev S4x2048x256 : Shape := ⟨3, ![4, 2048, 256]⟩
abbrev S_ : Shape := ⟨0, ![]⟩
abbrev S4x2048 : Shape := ⟨2, ![4, 2048]⟩
abbrev S4x2048x1 : Shape := ⟨3, ![4, 2048, 1]⟩
abbrev S4x512x2048 : Shape := ⟨3, ![4, 512, 2048]⟩
abbrev S4x512x256 : Shape := ⟨3, ![4, 512, 256]⟩
abbrev S4x256x512 : Shape := ⟨3, ![4, 256, 512]⟩
abbrev S4x2048x512 : Shape := ⟨3, ![4, 2048, 512]⟩

abbrev nBuf : Space → Nat
  | .hbm => 88
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S256x2048, .bf16⟩
  | .hbm, ⟨2, _⟩ => ⟨S256x2048, .bf16⟩
  | .hbm, ⟨3, _⟩ => ⟨S2048x2048, .bf16⟩
  | .hbm, ⟨4, _⟩ => ⟨S2048x2048, .f32⟩
  | .hbm, ⟨5, _⟩ => ⟨S256x2048, .f32⟩
  | .hbm, ⟨6, _⟩ => ⟨S256x2048, .f32⟩
  | .hbm, ⟨7, _⟩ => ⟨S2048x2048, .f32⟩
  | .hbm, ⟨8, _⟩ => ⟨S2048x4x512, .f32⟩
  | .hbm, ⟨9, _⟩ => ⟨S256x4x512, .f32⟩
  | .hbm, ⟨10, _⟩ => ⟨S256x4x512, .f32⟩
  | .hbm, ⟨11, _⟩ => ⟨S4x2048x256, .f32⟩
  | .hbm, ⟨12, _⟩ => ⟨S_, .f32⟩
  | .hbm, ⟨13, _⟩ => ⟨S4x2048x256, .f32⟩
  | .hbm, ⟨14, _⟩ => ⟨S4x2048x256, .f32⟩
  | .hbm, ⟨15, _⟩ => ⟨S_, .f32⟩
  | .hbm, ⟨16, _⟩ => ⟨S4x2048, .f32⟩
  | .hbm, ⟨17, _⟩ => ⟨S4x2048x1, .f32⟩
  | .hbm, ⟨18, _⟩ => ⟨S4x2048x256, .f32⟩
  | .hbm, ⟨19, _⟩ => ⟨S4x2048x256, .i1⟩
  | .hbm, ⟨20, _⟩ => ⟨S4x2048x256, .f32⟩
  | .hbm, ⟨21, _⟩ => ⟨S_, .f32⟩
  | .hbm, ⟨22, _⟩ => ⟨S4x2048, .f32⟩
  | .hbm, ⟨23, _⟩ => ⟨S_, .f32⟩
  | .hbm, ⟨24, _⟩ => ⟨S4x2048, .f32⟩
  | .hbm, ⟨25, _⟩ => ⟨S4x2048, .f32⟩
  | .hbm, ⟨26, _⟩ => ⟨S_, .f32⟩
  | .hbm, ⟨27, _⟩ => ⟨S4x2048, .f32⟩
  | .hbm, ⟨28, _⟩ => ⟨S4x2048, .i1⟩
  | .hbm, ⟨29, _⟩ => ⟨S_, .f32⟩
  | .hbm, ⟨30, _⟩ => ⟨S4x2048, .f32⟩
  | .hbm, ⟨31, _⟩ => ⟨S4x2048, .i1⟩
  | .hbm, ⟨32, _⟩ => ⟨S_, .f32⟩
  | .hbm, ⟨33, _⟩ => ⟨S4x2048, .f32⟩
  | .hbm, ⟨34, _⟩ => ⟨S_, .f32⟩
  | .hbm, ⟨35, _⟩ => ⟨S4x2048, .f32⟩
  | .hbm, ⟨36, _⟩ => ⟨S_, .f32⟩
  | .hbm, ⟨37, _⟩ => ⟨S4x2048, .f32⟩
  | .hbm, ⟨38, _⟩ => ⟨S4x2048, .f32⟩
  | .hbm, ⟨39, _⟩ => ⟨S4x2048, .f32⟩
  | .hbm, ⟨40, _⟩ => ⟨S4x2048x1, .f32⟩
  | .hbm, ⟨41, _⟩ => ⟨S4x2048x256, .f32⟩
  | .hbm, ⟨42, _⟩ => ⟨S4x2048x256, .f32⟩
  | .hbm, ⟨43, _⟩ => ⟨S4x2048x256, .f32⟩
  | .hbm, ⟨44, _⟩ => ⟨S_, .f32⟩
  | .hbm, ⟨45, _⟩ => ⟨S4x2048, .f32⟩
  | .hbm, ⟨46, _⟩ => ⟨S4x2048x1, .f32⟩
  | .hbm, ⟨47, _⟩ => ⟨S4x2048x256, .f32⟩
  | .hbm, ⟨48, _⟩ => ⟨S4x2048x256, .f32⟩
  | .hbm, ⟨49, _⟩ => ⟨S4x2048x1, .f32⟩
  | .hbm, ⟨50, _⟩ => ⟨S_, .f32⟩
  | .hbm, ⟨51, _⟩ => ⟨S4x2048x1, .f32⟩
  | .hbm, ⟨52, _⟩ => ⟨S4x2048x1, .f32⟩
  | .hbm, ⟨53, _⟩ => ⟨S4x512x2048, .f32⟩
  | .hbm, ⟨54, _⟩ => ⟨S2048x4x512, .f32⟩
  | .hbm, ⟨55, _⟩ => ⟨S2048x2048, .f32⟩
  | .hbm, ⟨56, _⟩ => ⟨S2048x4x512, .f32⟩
  | .hbm, ⟨57, _⟩ => ⟨S4x512x2048, .f32⟩
  | .hbm, ⟨58, _⟩ => ⟨S4x2048x256, .f32⟩
  | .hbm, ⟨59, _⟩ => ⟨S4x512x256, .f32⟩
  | .hbm, ⟨60, _⟩ => ⟨S256x4x512, .f32⟩
  | .hbm, ⟨61, _⟩ => ⟨S4x2048x256, .f32⟩
  | .hbm, ⟨62, _⟩ => ⟨S4x2048x256, .f32⟩
  | .hbm, ⟨63, _⟩ => ⟨S4x2048x256, .f32⟩
  | .hbm, ⟨64, _⟩ => ⟨S_, .f32⟩
  | .hbm, ⟨65, _⟩ => ⟨S4x2048, .f32⟩
  | .hbm, ⟨66, _⟩ => ⟨S4x2048x1, .f32⟩
  | .hbm, ⟨67, _⟩ => ⟨S4x2048x1, .f32⟩
  | .hbm, ⟨68, _⟩ => ⟨S4x2048x256, .f32⟩
  | .hbm, ⟨69, _⟩ => ⟨S4x2048x256, .f32⟩
  | .hbm, ⟨70, _⟩ => ⟨S_, .f32⟩
  | .hbm, ⟨71, _⟩ => ⟨S4x2048, .f32⟩
  | .hbm, ⟨72, _⟩ => ⟨S4x2048x256, .f32⟩
  | .hbm, ⟨73, _⟩ => ⟨S4x2048x256, .f32⟩
  | .hbm, ⟨74, _⟩ => ⟨S4x2048x256, .f32⟩
  | .hbm, ⟨75, _⟩ => ⟨S_, .f32⟩
  | .hbm, ⟨76, _⟩ => ⟨S4x2048x256, .f32⟩
  | .hbm, ⟨77, _⟩ => ⟨S4x2048x256, .f32⟩
  | .hbm, ⟨78, _⟩ => ⟨S4x256x512, .f32⟩
  | .hbm, ⟨79, _⟩ => ⟨S256x4x512, .f32⟩
  | .hbm, ⟨80, _⟩ => ⟨S4x2048x512, .f32⟩
  | .hbm, ⟨81, _⟩ => ⟨S2048x4x512, .f32⟩
  | .hbm, ⟨82, _⟩ => ⟨S256x2048, .f32⟩
  | .hbm, ⟨83, _⟩ => ⟨S256x2048, .f32⟩
  | .hbm, ⟨84, _⟩ => ⟨S2048x2048, .f32⟩
  | .hbm, ⟨85, _⟩ => ⟨S2048x2048, .bf16⟩
  | .hbm, ⟨86, _⟩ => ⟨S256x2048, .bf16⟩
  | .hbm, ⟨87, _⟩ => ⟨S256x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_8 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_9 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_10 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_11 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_12 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩

abbrev nD : Nat := 1
abbrev τ : Topo := Topo.v7x

variable {F : FTy → Type} [FloatOps F]
-- ==== NormLastBwd.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩
abbrev S256x2048 : Shape := ⟨2, ![256, 2048]⟩
abbrev S256 : Shape := ⟨1, ![256]⟩
abbrev S256x1 : Shape := ⟨2, ![256, 1]⟩

abbrev nBuf : Space → Nat
  | .hbm => 23
  | .vmem => 12
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S2048x2048, .f32⟩
  | .hbm, ⟨21, _⟩ => ⟨S2048x2048, .bf16⟩
  | .hbm, ⟨22, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13_0 : Ref sig .tc := ⟨.hbm, 20, rfl⟩
abbrev main_v13_1 : Ref sig .tc := ⟨.hbm, 21, rfl⟩
abbrev main_v13_2 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v32 : BitVec 32 := Scalar.extui v0
  let c0_i32_14 : BitVec 32 := 0#32
  let v33 : BitVec 1 := Scalar.cmpi .ne v32 c0_i32_14
  v33

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v34 : BitVec 1 := Scalar.xori v0 v_true
  let v35 : BitVec 32 := Scalar.extui v34
  let c0_i32_15 : BitVec 32 := 0#32
  let v36 : BitVec 1 := Scalar.cmpi .ne v35 c0_i32_15
  v36

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== NormLastBwdRefIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 49
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S2048, .f32⟩
  | .hbm, ⟨28, _⟩ => ⟨S1x2048, .f32⟩
  | .hbm, ⟨29, _⟩ => ⟨S2048x2048, .f32⟩
  | .hbm, ⟨30, _⟩ => ⟨S2048x2048, .f32⟩
  | .hbm, ⟨31, _⟩ => ⟨S2048x2048, .f32⟩
  | .hbm, ⟨32, _⟩ => ⟨S_, .f32⟩
  | .hbm, ⟨33, _⟩ => ⟨S2048, .f32⟩
  | .hbm, ⟨34, _⟩ => ⟨S2048x1, .f32⟩
  | .hbm, ⟨35, _⟩ => ⟨S2048x2048, .f32⟩
  | .hbm, ⟨36, _⟩ => ⟨S2048x2048, .f32⟩
  | .hbm, ⟨37, _⟩ => ⟨S2048x1, .f32⟩
  | .hbm, ⟨38, _⟩ => ⟨S_, .f32⟩
  | .hbm, ⟨39, _⟩ => ⟨S2048x1, .f32⟩
  | .hbm, ⟨40, _⟩ => ⟨S2048x1, .f32⟩
  | .hbm, ⟨41, _⟩ => ⟨S_, .f32⟩
  | .hbm, ⟨42, _⟩ => ⟨S2048, .f32⟩
  | .hbm, ⟨43, _⟩ => ⟨S2048x2048, .f32⟩
  | .hbm, ⟨44, _⟩ => ⟨S2048x2048, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== NormMidBwd.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩
abbrev S256x2048 : Shape := ⟨2, ![256, 2048]⟩
abbrev S256 : Shape := ⟨1, ![256]⟩
abbrev S256x1 : Shape := ⟨2, ![256, 1]⟩

abbrev nBuf : Space → Nat
  | .hbm => 26
  | .vmem => 16
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S1x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .bf16⟩
  | .hbm, ⟨24, _⟩ => ⟨S1x2048, .f32⟩
  | .hbm, ⟨25, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S1x2048, .f32⟩
  | .local _ .vmem, ⟨9, _⟩ => ⟨S1x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .bf16⟩
  | .local _ .vmem, ⟨13, _⟩ => ⟨S256x2048, .bf16⟩
  | .local _ .vmem, ⟨14, _⟩ => ⟨S1x2048, .f32⟩
  | .local _ .vmem, ⟨15, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13_0 : Ref sig .tc := ⟨.hbm, 22, rfl⟩
abbrev main_v13_1 : Ref sig .tc := ⟨.hbm, 23, rfl⟩
abbrev main_v13_2 : Ref sig .tc := ⟨.hbm, 24, rfl⟩
abbrev main_v13_3 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![8], ![false]⟩

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v67 : BitVec 32 := Scalar.extui v0
  let c0_i32_28 : BitVec 32 := 0#32
  let v68 : BitVec 1 := Scalar.cmpi .ne v67 c0_i32_28
  v68

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let true_29 : BitVec 1 := 1#1
  let v69 : BitVec 1 := Scalar.xori v0 true_29
  let v70 : BitVec 32 := Scalar.extui v69
  let c0_i32_30 : BitVec 32 := 0#32
  let v71 : BitVec 1 := Scalar.cmpi .ne v70 c0_i32_30
  v71

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v32 : BitVec 32 := Scalar.extui v0
  let c0_i32_12 : BitVec 32 := 0#32
  let v33 : BitVec 1 := Scalar.cmpi .ne v32 c0_i32_12
  v33

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v34 : BitVec 1 := Scalar.xori v0 v_true
  let v35 : BitVec 32 := Scalar.extui v34
  let c0_i32_13 : BitVec 32 := 0#32
  let v36 : BitVec 1 := Scalar.cmpi .ne v35 c0_i32_13
  v36

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== NormMidBwdRefIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 94
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S1x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S_, .f32⟩
  | .hbm, ⟨28, _⟩ => ⟨S2048, .f32⟩
  | .hbm, ⟨29, _⟩ => ⟨S2048x1, .f32⟩
  | .hbm, ⟨30, _⟩ => ⟨S_, .f32⟩
  | .hbm, ⟨31, _⟩ => ⟨S2048x1, .f32⟩
  | .hbm, ⟨32, _⟩ => ⟨S2048x1, .f32⟩
  | .hbm, ⟨33, _⟩ => ⟨S_, .f32⟩
  | .hbm, ⟨34, _⟩ => ⟨S2048x1, .f32⟩
  | .hbm, ⟨35, _⟩ => ⟨S2048x1, .f32⟩
  | .hbm, ⟨36, _⟩ => ⟨S2048x1, .f32⟩
  | .hbm, ⟨37, _⟩ => ⟨S2048x1, .f32⟩
  | .hbm, ⟨38, _⟩ => ⟨S_, .f32⟩
  | .hbm, ⟨39, _⟩ => ⟨S2048x1, .f32⟩
  | .hbm, ⟨40, _⟩ => ⟨S2048x1, .f32⟩
  | .hbm, ⟨41, _⟩ => ⟨S2048x2048, .f32⟩
  | .hbm, ⟨42, _⟩ => ⟨S2048x2048, .f32⟩
  | .hbm, ⟨43, _⟩ => ⟨S2048x2048, .f32⟩
  | .hbm, ⟨44, _⟩ => ⟨S2048x2048, .f32⟩
  | .hbm, ⟨45, _⟩ => ⟨S2048x2048, .f32⟩
  | .hbm, ⟨46, _⟩ => ⟨S_, .f32⟩
  | .hbm, ⟨47, _⟩ => ⟨S2048, .f32⟩
  | .hbm, ⟨48, _⟩ => ⟨S1x2048, .f32⟩
  | .hbm, ⟨49, _⟩ => ⟨S2048x2048, .f32⟩
  | .hbm, ⟨50, _⟩ => ⟨S2048x2048, .f32⟩
  | .hbm, ⟨51, _⟩ => ⟨S2048x2048, .f32⟩
  | .hbm, ⟨52, _⟩ => ⟨S_, .f32⟩
  | .hbm, ⟨53, _⟩ => ⟨S2048, .f32⟩
  | .hbm, ⟨54, _⟩ => ⟨S2048x1, .f32⟩
  | .hbm, ⟨55, _⟩ => ⟨S2048x2048, .f32⟩
  | .hbm, ⟨56, _⟩ => ⟨S2048x2048, .f32⟩
  | .hbm, ⟨57, _⟩ => ⟨S2048x2048, .f32⟩
  | .hbm, ⟨58, _⟩ => ⟨S2048x1, .f32⟩
  | .hbm, ⟨59, _⟩ => ⟨S_, .f32⟩
  | .hbm, ⟨60, _⟩ => ⟨S2048x1, .f32⟩
  | .hbm, ⟨61, _⟩ => ⟨S2048x1, .f32⟩
  | .hbm, ⟨62, _⟩ => ⟨S_, .f32⟩
  | .hbm, ⟨63, _⟩ => ⟨S2048, .f32⟩
  | .hbm, ⟨64, _⟩ => ⟨S2048x2048, .f32⟩
  | .hbm, ⟨65, _⟩ => ⟨S2048x2048, .f32⟩
  | .hbm, ⟨66, _⟩ => ⟨S2048x2048, .f32⟩
  | .hbm, ⟨67, _⟩ => ⟨S2048x2048, .f32⟩
  | .hbm, ⟨68, _⟩ => ⟨S2048x2048, .f32⟩
  | .hbm, ⟨69, _⟩ => ⟨S2048x2048, .f32⟩
  | .hbm, ⟨70, _⟩ => ⟨S2048x2048, .f32⟩
  | .hbm, ⟨71, _⟩ => ⟨S_, .f32⟩
  | .hbm, ⟨72, _⟩ => ⟨S2048, .f32⟩
  | .hbm, ⟨73, _⟩ => ⟨S1x2048, .f32⟩
  | .hbm, ⟨74, _⟩ => ⟨S2048x2048, .f32⟩
  | .hbm, ⟨75, _⟩ => ⟨S2048x2048, .f32⟩
  | .hbm, ⟨76, _⟩ => ⟨S2048x2048, .f32⟩
  | .hbm, ⟨77, _⟩ => ⟨S_, .f32⟩
  | .hbm, ⟨78, _⟩ => ⟨S2048, .f32⟩
  | .hbm, ⟨79, _⟩ => ⟨S2048x1, .f32⟩
  | .hbm, ⟨80, _⟩ => ⟨S2048x2048, .f32⟩
  | .hbm, ⟨81, _⟩ => ⟨S2048x2048, .f32⟩
  | .hbm, ⟨82, _⟩ => ⟨S2048x1, .f32⟩
  | .hbm, ⟨83, _⟩ => ⟨S_, .f32⟩
  | .hbm, ⟨84, _⟩ => ⟨S2048x1, .f32⟩
  | .hbm, ⟨85, _⟩ => ⟨S2048x1, .f32⟩
  | .hbm, ⟨86, _⟩ => ⟨S_, .f32⟩
  | .hbm, ⟨87, _⟩ => ⟨S2048, .f32⟩
  | .hbm, ⟨88, _⟩ => ⟨S2048x2048, .f32⟩
  | .hbm, ⟨89, _⟩ => ⟨S2048x2048, .f32⟩
  | .hbm, ⟨90, _⟩ => ⟨S2048x2048, .f32⟩
  | .hbm, ⟨91, _⟩ => ⟨S2048x2048, .f32⟩
  | .hbm, ⟨92, _⟩ => ⟨S2048x2048, .f32⟩
  | .hbm, ⟨93, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_6 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_8 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_9 : Ref sig .tc := ⟨.hbm, 59, rfl⟩
abbrev main_v43 : Ref sig .tc := ⟨.hbm, 60, rfl⟩
abbrev main_v44 : Ref sig .tc := ⟨.hbm, 61, rfl⟩
abbrev main_cst_10 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_11 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_12 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_13 : Ref sig .tc := ⟨.hbm, 83, rfl⟩
abbrev main_v63 : Ref sig .tc := ⟨.hbm, 84, rfl⟩
abbrev main_v64 : Ref sig .tc := ⟨.hbm, 85, rfl⟩
abbrev main_cst_14 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩

abbrev nD : Nat := 1
abbrev τ : Topo := Topo.v7x

variable {F : FTy → Type} [FloatOps F]
-- ==== NormMemBwd.lean ====
abbrev S256x2048 : Shape := ⟨2, ![256, 2048]⟩
abbrev S1x2048 : Shape := ⟨2, ![1, 2048]⟩
abbrev S256 : Shape := ⟨1, ![256]⟩
abbrev S256x1 : Shape := ⟨2, ![256, 1]⟩
abbrev S2048 : Shape := ⟨1, ![2048]⟩

abbrev nBuf : Space → Nat
  | .hbm => 5
  | .vmem => 5
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S256x2048, .f32⟩
  | .hbm, ⟨3, _⟩ => ⟨S256x2048, .f32⟩
  | .hbm, ⟨4, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S1x2048, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v29 : BitVec 32 := Scalar.extui v0
  let c0_i32_10 : BitVec 32 := 0#32
  let v30 : BitVec 1 := Scalar.cmpi .ne v29 c0_i32_10
  v30

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v31 : BitVec 1 := Scalar.xori v0 v_true
  let v32 : BitVec 32 := Scalar.extui v31
  let c0_i32_11 : BitVec 32 := 0#32
  let v33 : BitVec 1 := Scalar.cmpi .ne v32 c0_i32_11
  v33

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== NormMemBwdRefIdeal.lean ====
abbrev S256x2048 : Shape := ⟨2, ![256, 2048]⟩
abbrev S1x2048 : Shape := ⟨2, ![1, 2048]⟩
abbrev S_ : Shape := ⟨0, ![]⟩
abbrev S256 : Shape := ⟨1, ![256]⟩
abbrev S256x1 : Shape := ⟨2, ![256, 1]⟩
abbrev S2048 : Shape := ⟨1, ![2048]⟩

abbrev nBuf : Space → Nat
  | .hbm => 45
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S256x2048, .f32⟩
  | .hbm, ⟨3, _⟩ => ⟨S256x2048, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S_, .f32⟩
  | .hbm, ⟨16, _⟩ => ⟨S256x1, .f32⟩
  | .hbm, ⟨17, _⟩ => ⟨S256x1, .f32⟩
  | .hbm, ⟨18, _⟩ => ⟨S256x2048, .f32⟩
  | .hbm, ⟨19, _⟩ => ⟨S256x2048, .f32⟩
  | .hbm, ⟨20, _⟩ => ⟨S256x2048, .f32⟩
  | .hbm, ⟨21, _⟩ => ⟨S256x2048, .f32⟩
  | .hbm, ⟨22, _⟩ => ⟨S256x2048, .f32⟩
  | .hbm, ⟨23, _⟩ => ⟨S_, .f32⟩
  | .hbm, ⟨24, _⟩ => ⟨S2048, .f32⟩
  | .hbm, ⟨25, _⟩ => ⟨S1x2048, .f32⟩
  | .hbm, ⟨26, _⟩ => ⟨S256x2048, .f32⟩
  | .hbm, ⟨27, _⟩ => ⟨S256x2048, .f32⟩
  | .hbm, ⟨28, _⟩ => ⟨S256x2048, .f32⟩
  | .hbm, ⟨29, _⟩ => ⟨S_, .f32⟩
  | .hbm, ⟨30, _⟩ => ⟨S256, .f32⟩
  | .hbm, ⟨31, _⟩ => ⟨S256x1, .f32⟩
  | .hbm, ⟨32, _⟩ => ⟨S256x2048, .f32⟩
  | .hbm, ⟨33, _⟩ => ⟨S256x2048, .f32⟩
  | .hbm, ⟨34, _⟩ => ⟨S256x1, .f32⟩
  | .hbm, ⟨35, _⟩ => ⟨S_, .f32⟩
  | .hbm, ⟨36, _⟩ => ⟨S256x1, .f32⟩
  | .hbm, ⟨37, _⟩ => ⟨S256x1, .f32⟩
  | .hbm, ⟨38, _⟩ => ⟨S_, .f32⟩
  | .hbm, ⟨39, _⟩ => ⟨S256, .f32⟩
  | .hbm, ⟨40, _⟩ => ⟨S256x2048, .f32⟩
  | .hbm, ⟨41, _⟩ => ⟨S256x2048, .f32⟩
  | .hbm, ⟨42, _⟩ => ⟨S256x2048, .f32⟩
  | .hbm, ⟨43, _⟩ => ⟨S256x2048, .f32⟩
  | .hbm, ⟨44, _⟩ => ⟨S256x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]
-- ==== NormFirstBwd.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 6
  | .vmem => 10
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v31 : BitVec 32 := Scalar.extui v0
  let c0_i32_12 : BitVec 32 := 0#32
  let v32 : BitVec 1 := Scalar.cmpi .ne v31 c0_i32_12
  v32

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v33 : BitVec 1 := Scalar.xori v0 v_true
  let v34 : BitVec 32 := Scalar.extui v33
  let c0_i32_13 : BitVec 32 := 0#32
  let v35 : BitVec 1 := Scalar.cmpi .ne v34 c0_i32_13
  v35

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== NormFirstBwdRefIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 47
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048, .f32⟩
  | .hbm, ⟨32, _⟩ => ⟨S2048x1, .f32⟩
  | .hbm, ⟨33, _⟩ => ⟨S2048x2048, .f32⟩
  | .hbm, ⟨34, _⟩ => ⟨S2048x2048, .f32⟩
  | .hbm, ⟨35, _⟩ => ⟨S2048x2048, .f32⟩
  | .hbm, ⟨36, _⟩ => ⟨S2048x1, .f32⟩
  | .hbm, ⟨37, _⟩ => ⟨S_, .f32⟩
  | .hbm, ⟨38, _⟩ => ⟨S2048x1, .f32⟩
  | .hbm, ⟨39, _⟩ => ⟨S2048x1, .f32⟩
  | .hbm, ⟨40, _⟩ => ⟨S_, .f32⟩
  | .hbm, ⟨41, _⟩ => ⟨S2048, .f32⟩
  | .hbm, ⟨42, _⟩ => ⟨S2048x2048, .f32⟩
  | .hbm, ⟨43, _⟩ => ⟨S2048x2048, .f32⟩
  | .hbm, ⟨44, _⟩ => ⟨S2048x2048, .f32⟩
  | .hbm, ⟨45, _⟩ => ⟨S2048x2048, .f32⟩
  | .hbm, ⟨46, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Loss.lean ====
abbrev S2048x2048 : Shape := ⟨2, ![2048, 2048]⟩
abbrev S1x2048 : Shape := ⟨2, ![1, 2048]⟩
abbrev S256x2048 : Shape := ⟨2, ![256, 2048]⟩
abbrev S2048 : Shape := ⟨1, ![2048]⟩
abbrev S_ : Shape := ⟨0, ![]⟩

abbrev nBuf : Space → Nat
  | .hbm => 6
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S1x2048, .f32⟩
  | .hbm, ⟨4, _⟩ => ⟨S_, .f32⟩
  | .hbm, ⟨5, _⟩ => ⟨S_, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_cst : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v11 : BitVec 1 := Scalar.cmpi .eq arg0 c0_i32
  let v12 : BitVec 32 := Scalar.extui v11
  let c0_i32_7 : BitVec 32 := 0#32
  let v13 : BitVec 1 := Scalar.cmpi .ne v12 c0_i32_7
  v13

def k0_cond2 (i : grid0.Coords) : BitVec 1 :=
  let arg0 : BitVec 32 := BitVec.ofNat 32 (i 0).val
  let c0_i32_8 : BitVec 32 := 0#32
  let v14 : BitVec 1 := Scalar.cmpi .ne arg0 c0_i32_8
  let v15 : BitVec 32 := Scalar.extui v14
  let c0_i32_9 : BitVec 32 := 0#32
  let v16 : BitVec 1 := Scalar.cmpi .ne v15 c0_i32_9
  v16

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== LossRefIdeal.lean ====
abbrev S2048x2048 : Shape := ⟨2, ![2048, 2048]⟩
abbrev S_ : Shape := ⟨0, ![]⟩
abbrev S2048 : Shape := ⟨1, ![2048]⟩

abbrev nBuf : Space → Nat
  | .hbm => 25
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048, .f32⟩
  | .hbm, ⟨9, _⟩ => ⟨S_, .f32⟩
  | .hbm, ⟨10, _⟩ => ⟨S2048, .f32⟩
  | .hbm, ⟨11, _⟩ => ⟨S2048, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S2048, .f32⟩
  | .hbm, ⟨20, _⟩ => ⟨S_, .f32⟩
  | .hbm, ⟨21, _⟩ => ⟨S2048, .f32⟩
  | .hbm, ⟨22, _⟩ => ⟨S2048, .f32⟩
  | .hbm, ⟨23, _⟩ => ⟨S2048x2048, .f32⟩
  | .hbm, ⟨24, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩

abbrev nD : Nat := 1
abbrev τ : Topo := Topo.v7x

variable {F : FTy → Type} [FloatOps F]
-- ==== DownBwd.lean ====
abbrev S2048x8192 : Shape := ⟨2, ![2048, 8192]⟩
abbrev S8192x2048 : Shape := ⟨2, ![8192, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S2048x8192, .bf16⟩
  | .hbm, ⟨1, _⟩ => ⟨S8192x2048, .bf16⟩
  | .hbm, ⟨2, _⟩ => ⟨S2048x2048, .bf16⟩
  | .hbm, ⟨3, _⟩ => ⟨S2048x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownBwdRefIdeal.lean ====
abbrev S2048x8192 : Shape := ⟨2, ![2048, 8192]⟩
abbrev S8192x2048 : Shape := ⟨2, ![8192, 2048]⟩
abbrev S2048x2048 : Shape := ⟨2, ![2048, 2048]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S8192x2048, .bf16⟩
  | .hbm, ⟨2, _⟩ => ⟨S2048x2048, .bf16⟩
  | .hbm, ⟨3, _⟩ => ⟨S2048x8192, .f32⟩
  | .hbm, ⟨4, _⟩ => ⟨S_, .f32⟩
  | .hbm, ⟨5, _⟩ => ⟨S2048x8192, .f32⟩
  | .hbm, ⟨6, _⟩ => ⟨S2048x8192, .f32⟩
  | .hbm, ⟨7, _⟩ => ⟨S_, .f32⟩
  | .hbm, ⟨8, _⟩ => ⟨S2048x8192, .f32⟩
  | .hbm, ⟨9, _⟩ => ⟨S2048x8192, .i1⟩
  | .hbm, ⟨10, _⟩ => ⟨S_, .f32⟩
  | .hbm, ⟨11, _⟩ => ⟨S2048x8192, .f32⟩
  | .hbm, ⟨12, _⟩ => ⟨S2048x8192, .f32⟩
  | .hbm, ⟨13, _⟩ => ⟨S_, .f32⟩
  | .hbm, ⟨14, _⟩ => ⟨S2048x8192, .f32⟩
  | .hbm, ⟨15, _⟩ => ⟨S2048x8192, .f32⟩
  | .hbm, ⟨16, _⟩ => ⟨S8192x2048, .f32⟩
  | .hbm, ⟨17, _⟩ => ⟨S2048x2048, .f32⟩
  | .hbm, ⟨18, _⟩ => ⟨S2048x2048, .f32⟩
  | .hbm, ⟨19, _⟩ => ⟨S2048x8192, .f32⟩
  | .hbm, ⟨20, _⟩ => ⟨S2048x8192, .f32⟩
  | .hbm, ⟨21, _⟩ => ⟨S_, .f32⟩
  | .hbm, ⟨22, _⟩ => ⟨S2048x8192, .f32⟩
  | .hbm, ⟨23, _⟩ => ⟨S2048x8192, .f32⟩
  | .hbm, ⟨24, _⟩ => ⟨S2048x8192, .bf16⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]
-- ==== GmlpBwd.lean ====
abbrev S2048x3584 : Shape := ⟨2, ![2048, 3584]⟩
abbrev S8x128 : Shape := ⟨2, ![8, 128]⟩
abbrev S8x128x128 : Shape := ⟨3, ![8, 128, 128]⟩
abbrev S2048x2048 : Shape := ⟨2, ![2048, 2048]⟩
abbrev S8x1x128 : Shape := ⟨3, ![8, 1, 128]⟩
abbrev S8x128x1 : Shape := ⟨3, ![8, 128, 1]⟩
abbrev S2048x1024 : Shape := ⟨2, ![2048, 1024]⟩
abbrev S2048x128 : Shape := ⟨2, ![2048, 128]⟩
abbrev S1x1x128 : Shape := ⟨3, ![1, 1, 128]⟩
abbrev S1x128x128 : Shape := ⟨3, ![1, 128, 128]⟩
abbrev S1x128x1 : Shape := ⟨3, ![1, 128, 1]⟩
abbrev S1x128 : Shape := ⟨2, ![1, 128]⟩
abbrev S128x128 : Shape := ⟨2, ![128, 128]⟩
abbrev S128x1 : Shape := ⟨2, ![128, 1]⟩
abbrev S128 : Shape := ⟨1, ![128]⟩

abbrev nBuf : Space → Nat
  | .hbm => 12
  | .vmem => 22
  | .smem => 0
  | _ => 0

abbrev bufTy : (tb : Table) → Fin (tcTables nBuf tb) → BufTy
  | .hbm, ⟨0, _⟩ => ⟨S2048x3584, .f32⟩
  | .hbm, ⟨1, _⟩ => ⟨S8x128, .f32⟩
  | .hbm, ⟨2, _⟩ => ⟨S8x128x128, .f32⟩
  | .hbm, ⟨3, _⟩ => ⟨S8x128, .f32⟩
  | .hbm, ⟨4, _⟩ => ⟨S2048x2048, .f32⟩
  | .hbm, ⟨5, _⟩ => ⟨S8x1x128, .f32⟩
  | .hbm, ⟨6, _⟩ => ⟨S8x128x1, .f32⟩
  | .hbm, ⟨7, _⟩ => ⟨S2048x1024, .bf16⟩
  | .hbm, ⟨8, _⟩ => ⟨S2048x1024, .bf16⟩
  | .hbm, ⟨9, _⟩ => ⟨S8x1x128, .f32⟩
  | .hbm, ⟨10, _⟩ => ⟨S8x128x128, .f32⟩
  | .hbm, ⟨11, _⟩ => ⟨S8x128x1, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S1x1x128, .f32⟩
  | .local _ .vmem, ⟨7, _⟩ => ⟨S1x1x128, .f32⟩
  | .local _ .vmem, ⟨8, _⟩ => ⟨S1x128x128, .f32⟩
  | .local _ .vmem, ⟨9, _⟩ => ⟨S1x128x128, .f32⟩
  | .local _ .vmem, ⟨10, _⟩ => ⟨S1x128x1, .f32⟩
  | .local _ .vmem, ⟨11, _⟩ => ⟨S1x128x1, .f32⟩
  | .local _ .vmem, ⟨12, _⟩ => ⟨S2048x128, .bf16⟩
  | .local _ .vmem, ⟨13, _⟩ => ⟨S2048x128, .bf16⟩
  | .local _ .vmem, ⟨14, _⟩ => ⟨S2048x128, .bf16⟩
  | .local _ .vmem, ⟨15, _⟩ => ⟨S2048x128, .bf16⟩
  | .local _ .vmem, ⟨16, _⟩ => ⟨S1x1x128, .f32⟩
  | .local _ .vmem, ⟨17, _⟩ => ⟨S1x1x128, .f32⟩
  | .local _ .vmem, ⟨18, _⟩ => ⟨S1x128x128, .f32⟩
  | .local _ .vmem, ⟨19, _⟩ => ⟨S1x128x128, .f32⟩
  | .local _ .vmem, ⟨20, _⟩ => ⟨S1x128x1, .f32⟩
  | .local _ .vmem, ⟨21, _⟩ => ⟨S1x128x1, .f32⟩
  | _, _ => ⟨S2048x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_v2_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c4_i32 : BitVec 32 := 4#32
  let v9 : BitVec 32 := Scalar.addi c0_i32 c4_i32
  let c1_i32 : BitVec 32 := 1#32
  ⟨c0_i32, v9, c1_i32⟩
def k0_mult1 (k0_t1 : Fin k0_t1_loop.trips) : BitVec 32 :=
  let c0_i32 : BitVec 32 := 0#32
  let c1_i32 : BitVec 32 := 1#32
  let arg12 : BitVec 32 := Scf.iv c0_i32 c1_i32 k0_t1
  let c4_i32_20 : BitVec 32 := 4#32
  let v20 : BitVec 32 := Scalar.muli arg12 c4_i32_20
  let c0_i32_21 : BitVec 32 := 0#32
  let v21 : BitVec 32 := Scalar.addi v20 c0_i32_21
  let c128_i32 : BitVec 32 := 128#32
  let v22 : BitVec 32 := Scalar.muli v21 c128_i32
  v22
def k0_off1 (k0_t1 : Fin k0_t1_loop.trips) (c0_i32_21 : BitVec 32) : Fin 2 → Nat :=
  let c0_i32 : BitVec 32 := 0#32
  let c1_i32 : BitVec 32 := 1#32
  let arg12 : BitVec 32 := Scf.iv c0_i32 c1_i32 k0_t1
  let c4_i32_20 : BitVec 32 := 4#32
  let v20 : BitVec 32 := Scalar.muli arg12 c4_i32_20
  let v21 : BitVec 32 := Scalar.addi v20 c0_i32_21
  let c128_i32 : BitVec 32 := 128#32
  let v22 : BitVec 32 := Scalar.muli v21 c128_i32
  let v23 : BitVec 32 := v22
  let v24 : Index := Scalar.indexCast v23
  let c0_22 : Index := 0#32
  ![v24.toNat, 0]
def k0_mult2 (k0_t1 : Fin k0_t1_loop.trips) : BitVec 32 :=
  let c0_i32 : BitVec 32 := 0#32
  let c1_i32 : BitVec 32 := 1#32
  let arg12 : BitVec 32 := Scf.iv c0_i32 c1_i32 k0_t1
  let c4_i32_67 : BitVec 32 := 4#32
  let v177 : BitVec 32 := Scalar.muli arg12 c4_i32_67
  let c1_i32_68 : BitVec 32 := 1#32
  let v178 : BitVec 32 := Scalar.addi v177 c1_i32_68
  let c128_i32_69 : BitVec 32 := 128#32
  let v179 : BitVec 32 := Scalar.muli v178 c128_i32_69
  v179
def k0_mult3 (k0_t1 : Fin k0_t1_loop.trips) : BitVec 32 :=
  let c0_i32 : BitVec 32 := 0#32
  let c1_i32 : BitVec 32 := 1#32
  let arg12 : BitVec 32 := Scf.iv c0_i32 c1_i32 k0_t1
  let c4_i32_115 : BitVec 32 := 4#32
  let v334 : BitVec 32 := Scalar.muli arg12 c4_i32_115
  let c2_i32 : BitVec 32 := 2#32
  let v335 : BitVec 32 := Scalar.addi v334 c2_i32
  let c128_i32_116 : BitVec 32 := 128#32
  let v336 : BitVec 32 := Scalar.muli v335 c128_i32_116
  v336
def k0_mult4 (k0_t1 : Fin k0_t1_loop.trips) : BitVec 32 :=
  let c0_i32 : BitVec 32 := 0#32
  let c1_i32 : BitVec 32 := 1#32
  let arg12 : BitVec 32 := Scf.iv c0_i32 c1_i32 k0_t1
  let c4_i32_162 : BitVec 32 := 4#32
  let v491 : BitVec 32 := Scalar.muli arg12 c4_i32_162
  let c3_i32 : BitVec 32 := 3#32
  let v492 : BitVec 32 := Scalar.addi v491 c3_i32
  let c128_i32_163 : BitVec 32 := 128#32
  let v493 : BitVec 32 := Scalar.muli v492 c128_i32_163
  v493
def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x128x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== GmlpBwdRefIdeal.lean ====
abbrev S2048x3584 : Shape := ⟨2, ![2048, 3584]⟩
abbrev S8x128 : Shape := ⟨2, ![8, 128]⟩
abbrev S8x128x128 : Shape := ⟨3, ![8, 128, 128]⟩
abbrev S2048x2048 : Shape := ⟨2, ![2048, 2048]⟩
abbrev S2048x1024 : Shape := ⟨2, ![2048, 1024]⟩
abbrev S_ : Shape := ⟨0, ![]⟩
abbrev S2048x8x128 : Shape := ⟨3, ![2048, 8, 128]⟩
abbrev S2048x8 : Shape := ⟨2, ![2048, 8]⟩
abbrev S2048x8x1 : Shape := ⟨3, ![2048, 8, 1]⟩
abbrev S1x8x128 : Shape := ⟨3, ![1, 8, 128]⟩
abbrev S128x128 : Shape := ⟨2, ![128, 128]⟩
abbrev S16x128x8x128 : Shape := ⟨4, ![16, 128, 8, 128]⟩
abbrev S1x128x128 : Shape := ⟨3, ![1, 128, 128]⟩
abbrev S8x16x128x128 : Shape := ⟨4, ![8, 16, 128, 128]⟩
abbrev S128x8 : Shape := ⟨2, ![128, 8]⟩
abbrev S1x128x8x1 : Shape := ⟨4, ![1, 128, 8, 1]⟩
abbrev S8x1x128 : Shape := ⟨3, ![8, 1, 128]⟩
abbrev S8x128x1 : Shape := ⟨3, ![8, 128, 1]⟩

abbrev nBuf : Space → Nat
  | .hbm => 215
  | .vmem => 0
  | .smem => 0
  | _ => 0

abbrev hbmTy0_0 (i : Nat) : BufTy := match i % 128 with
  | 0 => ⟨S2048x3584, .f32⟩
  | 1 => ⟨S8x128, .f32⟩
  | 2 => ⟨S8x128x128, .f32⟩
  | 3 => ⟨S8x128, .f32⟩
  | 4 => ⟨S2048x2048, .f32⟩
  | 5 => ⟨S2048x1024, .f32⟩
  | 6 => ⟨S2048x1024, .f32⟩
  | 7 => ⟨S2048x1024, .f32⟩
  | 8 => ⟨S2048x1024, .f32⟩
  | 9 => ⟨S2048x1024, .f32⟩
  | 10 => ⟨S_, .f32⟩
  | 11 => ⟨S2048x1024, .f32⟩
  | 12 => ⟨S2048x1024, .f32⟩
  | 13 => ⟨S_, .f32⟩
  | 14 => ⟨S2048x1024, .f32⟩
  | 15 => ⟨S2048x1024, .f32⟩
  | 16 => ⟨S2048x1024, .f32⟩
  | 17 => ⟨S_, .f32⟩
  | 18 => ⟨S2048x1024, .f32⟩
  | 19 => ⟨S2048x1024, .f32⟩
  | 20 => ⟨S2048x1024, .f32⟩
  | 21 => ⟨S_, .f32⟩
  | 22 => ⟨S2048x1024, .f32⟩
  | 23 => ⟨S2048x1024, .f32⟩
  | 24 => ⟨S_, .f32⟩
  | 25 => ⟨S2048x1024, .f32⟩
  | 26 => ⟨S2048x1024, .f32⟩
  | 27 => ⟨S2048x1024, .f32⟩
  | 28 => ⟨S_, .f32⟩
  | 29 => ⟨S2048x1024, .f32⟩
  | 30 => ⟨S2048x1024, .f32⟩
  | 31 => ⟨S_, .f32⟩
  | 32 => ⟨S2048x1024, .f32⟩
  | 33 => ⟨S2048x1024, .f32⟩
  | 34 => ⟨S2048x1024, .f32⟩
  | 35 => ⟨S2048x1024, .f32⟩
  | 36 => ⟨S2048x1024, .f32⟩
  | 37 => ⟨S2048x1024, .f32⟩
  | 38 => ⟨S_, .f32⟩
  | 39 => ⟨S2048x1024, .f32⟩
  | 40 => ⟨S2048x1024, .f32⟩
  | 41 => ⟨S_, .f32⟩
  | 42 => ⟨S2048x1024, .f32⟩
  | 43 => ⟨S2048x1024, .f32⟩
  | 44 => ⟨S2048x1024, .f32⟩
  | 45 => ⟨S_, .f32⟩
  | 46 => ⟨S2048x1024, .f32⟩
  | 47 => ⟨S2048x1024, .f32⟩
  | 48 => ⟨S2048x1024, .f32⟩
  | 49 => ⟨S_, .f32⟩
  | 50 => ⟨S2048x1024, .f32⟩
  | 51 => ⟨S2048x1024, .f32⟩
  | 52 => ⟨S_, .f32⟩
  | 53 => ⟨S2048x1024, .f32⟩
  | 54 => ⟨S2048x1024, .f32⟩
  | 55 => ⟨S2048x1024, .f32⟩
  | 56 => ⟨S_, .f32⟩
  | 57 => ⟨S2048x1024, .f32⟩
  | 58 => ⟨S2048x1024, .f32⟩
  | 59 => ⟨S_, .f32⟩
  | 60 => ⟨S2048x1024, .f32⟩
  | 61 => ⟨S2048x1024, .f32⟩
  | 62 => ⟨S2048x1024, .f32⟩
  | 63 => ⟨S2048x8x128, .f32⟩
  | 64 => ⟨S2048x8x128, .f32⟩
  | 65 => ⟨S_, .f32⟩
  | 66 => ⟨S2048x8, .f32⟩
  | 67 => ⟨S2048x8x1, .f32⟩
  | 68 => ⟨S_, .f32⟩
  | 69 => ⟨S2048x8x1, .f32⟩
  | 70 => ⟨S2048x8x1, .f32⟩
  | 71 => ⟨S2048x8x128, .f32⟩
  | 72 => ⟨S2048x8x128, .f32⟩
  | 73 => ⟨S2048x8x128, .f32⟩
  | 74 => ⟨S_, .f32⟩
  | 75 => ⟨S2048x8x128, .f32⟩
  | 76 => ⟨S2048x8x128, .f32⟩
  | 77 => ⟨S_, .f32⟩
  | 78 => ⟨S2048x8, .f32⟩
  | 79 => ⟨S2048x8x1, .f32⟩
  | 80 => ⟨S_, .f32⟩
  | 81 => ⟨S2048x8x1, .f32⟩
  | 82 => ⟨S2048x8x1, .f32⟩
  | 83 => ⟨S2048x8x128, .f32⟩
  | 84 => ⟨S2048x8x128, .f32⟩
  | 85 => ⟨S_, .f32⟩
  | 86 => ⟨S2048x8x1, .f32⟩
  | 87 => ⟨S2048x8x1, .f32⟩
  | 88 => ⟨S2048x8x1, .f32⟩
  | 89 => ⟨S2048x8x1, .f32⟩
  | 90 => ⟨S_, .f32⟩
  | 91 => ⟨S2048x8x1, .f32⟩
  | 92 => ⟨S2048x8x1, .f32⟩
  | 93 => ⟨S2048x8x128, .f32⟩
  | 94 => ⟨S2048x8x128, .f32⟩
  | 95 => ⟨S1x8x128, .f32⟩
  | 96 => ⟨S2048x8x128, .f32⟩
  | 97 => ⟨S2048x8x128, .f32⟩
  | 98 => ⟨S_, .f32⟩
  | 99 => ⟨S128x128, .f32⟩
  | 100 => ⟨S128x128, .i32⟩
  | 101 => ⟨S_, .i32⟩
  | 102 => ⟨S128x128, .i32⟩
  | 103 => ⟨S128x128, .i32⟩
  | 104 => ⟨S128x128, .i32⟩
  | 105 => ⟨S128x128, .i1⟩
  | 106 => ⟨S_, .f32⟩
  | 107 => ⟨S128x128, .f32⟩
  | 108 => ⟨S128x128, .f32⟩
  | 109 => ⟨S16x128x8x128, .f32⟩
  | 110 => ⟨S1x128x128, .f32⟩
  | 111 => ⟨S8x128x128, .f32⟩
  | 112 => ⟨S8x128x128, .f32⟩
  | 113 => ⟨S8x16x128x128, .f32⟩
  | 114 => ⟨S16x128x8x128, .f32⟩
  | 115 => ⟨S128x8, .f32⟩
  | 116 => ⟨S1x128x8x1, .f32⟩
  | 117 => ⟨S16x128x8x128, .f32⟩
  | 118 => ⟨S16x128x8x128, .f32⟩
  | 119 => ⟨S2048x8x128, .f32⟩
  | 120 => ⟨S2048x8x128, .f32⟩
  | 121 => ⟨S2048x1024, .f32⟩
  | 122 => ⟨S2048x1024, .f32⟩
  | 123 => ⟨S2048x8x128, .f32⟩
  | 124 => ⟨S2048x8x128, .f32⟩
  | 125 => ⟨S2048x8x128, .f32⟩
  | 126 => ⟨S16x128x8x128, .f32⟩
  | 127 => ⟨S_, .f32⟩
  | _ => ⟨S2048x3584, .f32⟩

abbrev hbmTy0_1 (i : Nat) : BufTy := match i % 128 with
  | 0 => ⟨S128x8, .f32⟩
  | 1 => ⟨S1x128x8x1, .f32⟩
  | 2 => ⟨S_, .f32⟩
  | 3 => ⟨S128x8, .f32⟩
  | 4 => ⟨S8x128, .f32⟩
  | 5 => ⟨S8x16x128x128, .f32⟩
  | 6 => ⟨S8x128x128, .f32⟩
  | 7 => ⟨S8x16x128x128, .f32⟩
  | 8 => ⟨S16x128x8x128, .f32⟩
  | 9 => ⟨S8x128x128, .f32⟩
  | 10 => ⟨S8x128x128, .f32⟩
  | 11 => ⟨S2048x8x128, .f32⟩
  | 12 => ⟨S2048x8x128, .f32⟩
  | 13 => ⟨S_, .f32⟩
  | 14 => ⟨S8x128, .f32⟩
  | 15 => ⟨S1x8x128, .f32⟩
  | 16 => ⟨S2048x8x128, .f32⟩
  | 17 => ⟨S2048x8x128, .f32⟩
  | 18 => ⟨S_, .f32⟩
  | 19 => ⟨S8x128, .f32⟩
  | 20 => ⟨S2048x8x128, .f32⟩
  | 21 => ⟨S_, .f32⟩
  | 22 => ⟨S2048x8, .f32⟩
  | 23 => ⟨S2048x8x1, .f32⟩
  | 24 => ⟨S2048x8x128, .f32⟩
  | 25 => ⟨S2048x8x128, .f32⟩
  | 26 => ⟨S2048x8x1, .f32⟩
  | 27 => ⟨S2048x8x128, .f32⟩
  | 28 => ⟨S_, .f32⟩
  | 29 => ⟨S2048x8, .f32⟩
  | 30 => ⟨S2048x8x1, .f32⟩
  | 31 => ⟨S_, .f32⟩
  | 32 => ⟨S2048x8x1, .f32⟩
  | 33 => ⟨S2048x8x1, .f32⟩
  | 34 => ⟨S_, .f32⟩
  | 35 => ⟨S2048x8, .f32⟩
  | 36 => ⟨S2048x8x128, .f32⟩
  | 37 => ⟨S2048x8x128, .f32⟩
  | 38 => ⟨S2048x8x128, .f32⟩
  | 39 => ⟨S_, .f32⟩
  | 40 => ⟨S2048x8, .f32⟩
  | 41 => ⟨S2048x8x1, .f32⟩
  | 42 => ⟨S2048x8x128, .f32⟩
  | 43 => ⟨S2048x8x1, .f32⟩
  | 44 => ⟨S_, .f32⟩
  | 45 => ⟨S2048x8x1, .f32⟩
  | 46 => ⟨S2048x8x1, .f32⟩
  | 47 => ⟨S_, .f32⟩
  | 48 => ⟨S2048x8, .f32⟩
  | 49 => ⟨S2048x8x128, .f32⟩
  | 50 => ⟨S2048x8x128, .f32⟩
  | 51 => ⟨S2048x1024, .f32⟩
  | 52 => ⟨S2048x1024, .f32⟩
  | 53 => ⟨S2048x1024, .f32⟩
  | 54 => ⟨S2048x1024, .f32⟩
  | 55 => ⟨S_, .f32⟩
  | 56 => ⟨S2048x1024, .f32⟩
  | 57 => ⟨S2048x1024, .f32⟩
  | 58 => ⟨S2048x1024, .f32⟩
  | 59 => ⟨S_, .f32⟩
  | 60 => ⟨S2048x1024, .f32⟩
  | 61 => ⟨S2048x1024, .f32⟩
  | 62 => ⟨S2048x1024, .f32⟩
  | 63 => ⟨S_, .f32⟩
  | 64 => ⟨S2048x1024, .f32⟩
  | 65 => ⟨S2048x1024, .f32⟩
  | 66 => ⟨S2048x1024, .f32⟩
  | 67 => ⟨S2048x1024, .f32⟩
  | 68 => ⟨S2048x1024, .f32⟩
  | 69 => ⟨S2048x1024, .f32⟩
  | 70 => ⟨S_, .f32⟩
  | 71 => ⟨S2048x1024, .f32⟩
  | 72 => ⟨S2048x1024, .f32⟩
  | 73 => ⟨S2048x1024, .f32⟩
  | 74 => ⟨S_, .f32⟩
  | 75 => ⟨S2048x1024, .f32⟩
  | 76 => ⟨S2048x1024, .f32⟩
  | 77 => ⟨S2048x1024, .f32⟩
  | 78 => ⟨S_, .f32⟩
  | 79 => ⟨S2048x1024, .f32⟩
  | 80 => ⟨S2048x1024, .f32⟩
  | 81 => ⟨S2048x1024, .f32⟩
  | 82 => ⟨S2048x1024, .f32⟩
  | 83 => ⟨S2048x1024, .bf16⟩
  | 84 => ⟨S2048x1024, .bf16⟩
  | 85 => ⟨S8x1x128, .f32⟩
  | 86 => ⟨S8x128x1, .f32⟩
  | _ => ⟨S2048x3584, .f32⟩

abbrev hbmTy (i : Nat) : BufTy := match i / 128 with
  | 0 => hbmTy0_0 i
  | 1 => hbmTy0_1 i
  | _ => ⟨S2048x3584, .f32⟩

abbrev bufTy : (tb : Table) → Fin (tcTables nBuf tb) → BufTy
  | .hbm, ⟨i, _⟩ => hbmTy i
  | _, _ => ⟨S2048x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_8 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_9 : Ref sig .tc := ⟨.hbm, 49, rfl⟩
abbrev main_v34 : Ref sig .tc := ⟨.hbm, 50, rfl⟩
abbrev main_v35 : Ref sig .tc := ⟨.hbm, 51, rfl⟩
abbrev main_cst_10 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_11 : Ref sig .tc := ⟨.hbm, 56, rfl⟩
abbrev main_v39 : Ref sig .tc := ⟨.hbm, 57, rfl⟩
abbrev main_v40 : Ref sig .tc := ⟨.hbm, 58, rfl⟩
abbrev main_cst_12 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_13 : Ref sig .tc := ⟨.hbm, 65, rfl⟩
abbrev main_v46 : Ref sig .tc := ⟨.hbm, 66, rfl⟩
abbrev main_v47 : Ref sig .tc := ⟨.hbm, 67, rfl⟩
abbrev main_cst_14 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_15 : Ref sig .tc := ⟨.hbm, 74, rfl⟩
abbrev main_v53 : Ref sig .tc := ⟨.hbm, 75, rfl⟩
abbrev main_v54 : Ref sig .tc := ⟨.hbm, 76, rfl⟩
abbrev main_cst_16 : Ref sig .tc := ⟨.hbm, 77, rfl⟩
abbrev main_v55 : Ref sig .tc := ⟨.hbm, 78, rfl⟩
abbrev main_v56 : Ref sig .tc := ⟨.hbm, 79, rfl⟩
abbrev main_cst_17 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_18 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_19 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_cst_20 : Ref sig .tc := ⟨.hbm, 98, rfl⟩
abbrev main_v72 : Ref sig .tc := ⟨.hbm, 99, rfl⟩
abbrev main_call0_v0 : Ref sig .tc := ⟨.hbm, 100, rfl⟩
abbrev main_call0_c : Ref sig .tc := ⟨.hbm, 101, rfl⟩
abbrev main_call0_v1 : Ref sig .tc := ⟨.hbm, 102, rfl⟩
abbrev main_call0_v2 : Ref sig .tc := ⟨.hbm, 103, rfl⟩
abbrev main_call0_v3 : Ref sig .tc := ⟨.hbm, 104, rfl⟩
abbrev main_call0_v4 : Ref sig .tc := ⟨.hbm, 105, rfl⟩
abbrev main_call0_cst : Ref sig .tc := ⟨.hbm, 106, rfl⟩
abbrev main_call0_v5 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_cst_21 : Ref sig .tc := ⟨.hbm, 127, rfl⟩
abbrev main_v92 : Ref sig .tc := ⟨.hbm, 128, rfl⟩
abbrev main_v93 : Ref sig .tc := ⟨.hbm, 129, rfl⟩
abbrev main_cst_22 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_cst_23 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_cst_24 : Ref sig .tc := ⟨.hbm, 146, rfl⟩
abbrev main_v108 : Ref sig .tc := ⟨.hbm, 147, rfl⟩
abbrev main_v109 : Ref sig .tc := ⟨.hbm, 148, rfl⟩
abbrev main_cst_25 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_cst_26 : Ref sig .tc := ⟨.hbm, 156, rfl⟩
abbrev main_v116 : Ref sig .tc := ⟨.hbm, 157, rfl⟩
abbrev main_v117 : Ref sig .tc := ⟨.hbm, 158, rfl⟩
abbrev main_cst_27 : Ref sig .tc := ⟨.hbm, 159, rfl⟩
abbrev main_v118 : Ref sig .tc := ⟨.hbm, 160, rfl⟩
abbrev main_v119 : Ref sig .tc := ⟨.hbm, 161, rfl⟩
abbrev main_cst_28 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_cst_29 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_cst_30 : Ref sig .tc := ⟨.hbm, 172, rfl⟩
abbrev main_v128 : Ref sig .tc := ⟨.hbm, 173, rfl⟩
abbrev main_v129 : Ref sig .tc := ⟨.hbm, 174, rfl⟩
abbrev main_cst_31 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_cst_32 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_cst_33 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_cst_34 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩
abbrev main_cst_35 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_cst_36 : Ref sig .tc := ⟨.hbm, 202, rfl⟩
abbrev main_v152 : Ref sig .tc := ⟨.hbm, 203, rfl⟩
abbrev main_v153 : Ref sig .tc := ⟨.hbm, 204, rfl⟩
abbrev main_v154 : Ref sig .tc := ⟨.hbm, 205, rfl⟩
abbrev main_cst_37 : Ref sig .tc := ⟨.hbm, 206, rfl⟩
abbrev main_v155 : Ref sig .tc := ⟨.hbm, 207, rfl⟩
abbrev main_v156 : Ref sig .tc := ⟨.hbm, 208, rfl⟩
abbrev main_v157 : Ref sig .tc := ⟨.hbm, 209, rfl⟩
abbrev main_v158 : Ref sig .tc := ⟨.hbm, 210, rfl⟩
abbrev main_v159 : Ref sig .tc := ⟨.hbm, 211, rfl⟩
abbrev main_v160 : Ref sig .tc := ⟨.hbm, 212, rfl⟩
abbrev main_v161 : Ref sig .tc := ⟨.hbm, 213, rfl⟩
abbrev main_v162 : Ref sig .tc := ⟨.hbm, 214, rfl⟩

abbrev nD : Nat := 1
abbrev τ : Topo := Topo.v7x

variable {F : FTy → Type} [FloatOps F]
-- ==== PoolBwd.lean ====
abbrev S2048x3584 : Shape := ⟨2, ![2048, 3584]⟩
abbrev S4x128x128 : Shape := ⟨3, ![4, 128, 128]⟩
abbrev S1x512 : Shape := ⟨2, ![1, 512]⟩
abbrev S2048x2048 : Shape := ⟨2, ![2048, 2048]⟩
abbrev S2048x512 : Shape := ⟨2, ![2048, 512]⟩
abbrev S2048x128 : Shape := ⟨2, ![2048, 128]⟩
abbrev S1x128x128 : Shape := ⟨3, ![1, 128, 128]⟩
abbrev S128x128 : Shape := ⟨2, ![128, 128]⟩
abbrev S1x128 : Shape := ⟨2, ![1, 128]⟩
abbrev S2048x1 : Shape := ⟨2, ![2048, 1]⟩
abbrev S128 : Shape := ⟨1, ![128]⟩

abbrev nBuf : Space → Nat
  | .hbm => 7
  | .vmem => 7
  | .smem => 0
  | _ => 0

abbrev bufTy : (tb : Table) → Fin (tcTables nBuf tb) → BufTy
  | .hbm, ⟨0, _⟩ => ⟨S2048x3584, .f32⟩
  | .hbm, ⟨1, _⟩ => ⟨S4x128x128, .f32⟩
  | .hbm, ⟨2, _⟩ => ⟨S1x512, .f32⟩
  | .hbm, ⟨3, _⟩ => ⟨S2048x2048, .f32⟩
  | .hbm, ⟨4, _⟩ => ⟨S2048x512, .bf16⟩
  | .hbm, ⟨5, _⟩ => ⟨S4x128x128, .f32⟩
  | .hbm, ⟨6, _⟩ => ⟨S1x512, .f32⟩
  | .local _ .vmem, ⟨0, _⟩ => ⟨S2048x512, .f32⟩
  | .local _ .vmem, ⟨1, _⟩ => ⟨S2048x512, .f32⟩
  | .local _ .vmem, ⟨2, _⟩ => ⟨S4x128x128, .f32⟩
  | .local _ .vmem, ⟨3, _⟩ => ⟨S1x512, .f32⟩
  | .local _ .vmem, ⟨4, _⟩ => ⟨S2048x512, .bf16⟩
  | .local _ .vmem, ⟨5, _⟩ => ⟨S4x128x128, .f32⟩
  | .local _ .vmem, ⟨6, _⟩ => ⟨S1x512, .f32⟩
  | _, _ => ⟨S2048x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c4_i32 : BitVec 32 := 4#32
  let c0_i32_0 : BitVec 32 := 0#32
  ![c0_i32.toNat, c4_i32.toNat]

def cc0_transform_1 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2048x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== PoolBwdRefIdeal.lean ====
abbrev S2048x3584 : Shape := ⟨2, ![2048, 3584]⟩
abbrev S4x128x128 : Shape := ⟨3, ![4, 128, 128]⟩
abbrev S1x512 : Shape := ⟨2, ![1, 512]⟩
abbrev S2048x2048 : Shape := ⟨2, ![2048, 2048]⟩
abbrev S2048x512 : Shape := ⟨2, ![2048, 512]⟩
abbrev S2048x4x128 : Shape := ⟨3, ![2048, 4, 128]⟩
abbrev S_ : Shape := ⟨0, ![]⟩
abbrev S16x4x128 : Shape := ⟨3, ![16, 4, 128]⟩
abbrev S2064x4x128 : Shape := ⟨3, ![2064, 4, 128]⟩
abbrev S2048 : Shape := ⟨1, ![2048]⟩
abbrev S2048x1x128 : Shape := ⟨3, ![2048, 1, 128]⟩
abbrev S2048x128 : Shape := ⟨2, ![2048, 128]⟩
abbrev S2048x1 : Shape := ⟨2, ![2048, 1]⟩
abbrev S4x128x2048 : Shape := ⟨3, ![4, 128, 2048]⟩
abbrev S4x128 : Shape := ⟨2, ![4, 128]⟩
abbrev S1x4x128 : Shape := ⟨3, ![1, 4, 128]⟩
abbrev S4x2048x128 : Shape := ⟨3, ![4, 2048, 128]⟩

abbrev nBuf : Space → Nat
  | .hbm => 160
  | .vmem => 0
  | .smem => 0
  | _ => 0

abbrev hbmTy0_0 (i : Nat) : BufTy := match i % 128 with
  | 0 => ⟨S2048x3584, .f32⟩
  | 1 => ⟨S4x128x128, .f32⟩
  | 2 => ⟨S1x512, .f32⟩
  | 3 => ⟨S2048x2048, .f32⟩
  | 4 => ⟨S2048x512, .f32⟩
  | 5 => ⟨S2048x4x128, .f32⟩
  | 6 => ⟨S_, .f32⟩
  | 7 => ⟨S_, .f32⟩
  | 8 => ⟨S2048x4x128, .f32⟩
  | 9 => ⟨S_, .f32⟩
  | 10 => ⟨S16x4x128, .f32⟩
  | 11 => ⟨S2064x4x128, .f32⟩
  | 12 => ⟨S_, .f32⟩
  | 13 => ⟨S16x4x128, .f32⟩
  | 14 => ⟨S2048, .f32⟩
  | 15 => ⟨S2048x1x128, .f32⟩
  | 16 => ⟨S2048x128, .f32⟩
  | 17 => ⟨S2048x1x128, .f32⟩
  | 18 => ⟨S2048x128, .f32⟩
  | 19 => ⟨S2048x128, .f32⟩
  | 20 => ⟨S_, .f32⟩
  | 21 => ⟨S2048, .f32⟩
  | 22 => ⟨S2048, .f32⟩
  | 23 => ⟨S_, .f32⟩
  | 24 => ⟨S2048, .f32⟩
  | 25 => ⟨S2048, .f32⟩
  | 26 => ⟨S2048x1, .f32⟩
  | 27 => ⟨S2048x128, .f32⟩
  | 28 => ⟨S2048x128, .f32⟩
  | 29 => ⟨S2048x1x128, .f32⟩
  | 30 => ⟨S2048x128, .f32⟩
  | 31 => ⟨S2048x1x128, .f32⟩
  | 32 => ⟨S2048x128, .f32⟩
  | 33 => ⟨S2048x128, .f32⟩
  | 34 => ⟨S_, .f32⟩
  | 35 => ⟨S2048, .f32⟩
  | 36 => ⟨S2048, .f32⟩
  | 37 => ⟨S_, .f32⟩
  | 38 => ⟨S2048, .f32⟩
  | 39 => ⟨S2048, .f32⟩
  | 40 => ⟨S2048x1, .f32⟩
  | 41 => ⟨S2048x128, .f32⟩
  | 42 => ⟨S2048x128, .f32⟩
  | 43 => ⟨S2048x1x128, .f32⟩
  | 44 => ⟨S2048x128, .f32⟩
  | 45 => ⟨S2048x1x128, .f32⟩
  | 46 => ⟨S2048x128, .f32⟩
  | 47 => ⟨S2048x128, .f32⟩
  | 48 => ⟨S_, .f32⟩
  | 49 => ⟨S2048, .f32⟩
  | 50 => ⟨S2048, .f32⟩
  | 51 => ⟨S_, .f32⟩
  | 52 => ⟨S2048, .f32⟩
  | 53 => ⟨S2048, .f32⟩
  | 54 => ⟨S2048x1, .f32⟩
  | 55 => ⟨S2048x128, .f32⟩
  | 56 => ⟨S2048x128, .f32⟩
  | 57 => ⟨S2048x1x128, .f32⟩
  | 58 => ⟨S2048x128, .f32⟩
  | 59 => ⟨S2048x1x128, .f32⟩
  | 60 => ⟨S2048x128, .f32⟩
  | 61 => ⟨S2048x128, .f32⟩
  | 62 => ⟨S_, .f32⟩
  | 63 => ⟨S2048, .f32⟩
  | 64 => ⟨S2048, .f32⟩
  | 65 => ⟨S_, .f32⟩
  | 66 => ⟨S2048, .f32⟩
  | 67 => ⟨S2048, .f32⟩
  | 68 => ⟨S2048x1, .f32⟩
  | 69 => ⟨S2048x128, .f32⟩
  | 70 => ⟨S2048x128, .f32⟩
  | 71 => ⟨S2048x1x128, .f32⟩
  | 72 => ⟨S2048x1x128, .f32⟩
  | 73 => ⟨S2048x1x128, .f32⟩
  | 74 => ⟨S2048x1x128, .f32⟩
  | 75 => ⟨S2048x4x128, .f32⟩
  | 76 => ⟨S2048x4x128, .f32⟩
  | 77 => ⟨S4x128x2048, .f32⟩
  | 78 => ⟨S2048x4x128, .f32⟩
  | 79 => ⟨S4x128, .f32⟩
  | 80 => ⟨S1x4x128, .f32⟩
  | 81 => ⟨S2048x4x128, .f32⟩
  | 82 => ⟨S2048x4x128, .f32⟩
  | 83 => ⟨S2048x512, .f32⟩
  | 84 => ⟨S2048x512, .f32⟩
  | 85 => ⟨S2048x4x128, .f32⟩
  | 86 => ⟨S2048x4x128, .f32⟩
  | 87 => ⟨S_, .f32⟩
  | 88 => ⟨S4x128, .f32⟩
  | 89 => ⟨S1x4x128, .f32⟩
  | 90 => ⟨S2048x4x128, .f32⟩
  | 91 => ⟨S2048x4x128, .f32⟩
  | 92 => ⟨S_, .f32⟩
  | 93 => ⟨S4x128, .f32⟩
  | 94 => ⟨S1x512, .f32⟩
  | 95 => ⟨S4x128x2048, .f32⟩
  | 96 => ⟨S4x2048x128, .f32⟩
  | 97 => ⟨S2048x4x128, .f32⟩
  | 98 => ⟨S4x128x128, .f32⟩
  | 99 => ⟨S4x128x128, .f32⟩
  | 100 => ⟨S2048x4x128, .f32⟩
  | 101 => ⟨S2048x1x128, .f32⟩
  | 102 => ⟨S2048x128, .f32⟩
  | 103 => ⟨S2048x1x128, .f32⟩
  | 104 => ⟨S2048x128, .f32⟩
  | 105 => ⟨S2048x1x128, .f32⟩
  | 106 => ⟨S2048x128, .f32⟩
  | 107 => ⟨S2048x1x128, .f32⟩
  | 108 => ⟨S2048x128, .f32⟩
  | 109 => ⟨S2048x128, .f32⟩
  | 110 => ⟨S2048x128, .f32⟩
  | 111 => ⟨S2048x128, .f32⟩
  | 112 => ⟨S2048x1x128, .f32⟩
  | 113 => ⟨S_, .f32⟩
  | 114 => ⟨S2064x4x128, .f32⟩
  | 115 => ⟨S2048x1x128, .f32⟩
  | 116 => ⟨S_, .f32⟩
  | 117 => ⟨S2064x4x128, .f32⟩
  | 118 => ⟨S2064x4x128, .f32⟩
  | 119 => ⟨S2048x128, .f32⟩
  | 120 => ⟨S2048x128, .f32⟩
  | 121 => ⟨S2048x128, .f32⟩
  | 122 => ⟨S2048x1x128, .f32⟩
  | 123 => ⟨S_, .f32⟩
  | 124 => ⟨S2064x4x128, .f32⟩
  | 125 => ⟨S2064x4x128, .f32⟩
  | 126 => ⟨S2048x1x128, .f32⟩
  | 127 => ⟨S_, .f32⟩
  | _ => ⟨S2048x3584, .f32⟩

abbrev hbmTy0_1 (i : Nat) : BufTy := match i % 128 with
  | 0 => ⟨S2064x4x128, .f32⟩
  | 1 => ⟨S2064x4x128, .f32⟩
  | 2 => ⟨S2048x128, .f32⟩
  | 3 => ⟨S2048x128, .f32⟩
  | 4 => ⟨S2048x128, .f32⟩
  | 5 => ⟨S2048x1x128, .f32⟩
  | 6 => ⟨S_, .f32⟩
  | 7 => ⟨S2064x4x128, .f32⟩
  | 8 => ⟨S2064x4x128, .f32⟩
  | 9 => ⟨S2048x1x128, .f32⟩
  | 10 => ⟨S_, .f32⟩
  | 11 => ⟨S2064x4x128, .f32⟩
  | 12 => ⟨S2064x4x128, .f32⟩
  | 13 => ⟨S2048x128, .f32⟩
  | 14 => ⟨S2048x128, .f32⟩
  | 15 => ⟨S2048x128, .f32⟩
  | 16 => ⟨S2048x1x128, .f32⟩
  | 17 => ⟨S_, .f32⟩
  | 18 => ⟨S2064x4x128, .f32⟩
  | 19 => ⟨S2064x4x128, .f32⟩
  | 20 => ⟨S2048x1x128, .f32⟩
  | 21 => ⟨S_, .f32⟩
  | 22 => ⟨S2064x4x128, .f32⟩
  | 23 => ⟨S2064x4x128, .f32⟩
  | 24 => ⟨S16x4x128, .f32⟩
  | 25 => ⟨S2048x4x128, .f32⟩
  | 26 => ⟨S_, .f32⟩
  | 27 => ⟨S_, .f32⟩
  | 28 => ⟨S2048x4x128, .f32⟩
  | 29 => ⟨S2048x4x128, .f32⟩
  | 30 => ⟨S2048x512, .f32⟩
  | 31 => ⟨S2048x512, .bf16⟩
  | _ => ⟨S2048x3584, .f32⟩

abbrev hbmTy (i : Nat) : BufTy := match i / 128 with
  | 0 => hbmTy0_0 i
  | 1 => hbmTy0_1 i
  | _ => ⟨S2048x3584, .f32⟩

abbrev bufTy : (tb : Table) → Fin (tcTables nBuf tb) → BufTy
  | .hbm, ⟨i, _⟩ => hbmTy i
  | _, _ => ⟨S2048x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_call0_cst : Ref sig .tc := ⟨.hbm, 6, rfl⟩
abbrev main_call0_call0_v0 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_5 : Ref sig .tc := ⟨.hbm, 48, rfl⟩
abbrev main_v36 : Ref sig .tc := ⟨.hbm, 49, rfl⟩
abbrev main_v37 : Ref sig .tc := ⟨.hbm, 50, rfl⟩
abbrev main_cst_6 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_7 : Ref sig .tc := ⟨.hbm, 62, rfl⟩
abbrev main_v48 : Ref sig .tc := ⟨.hbm, 63, rfl⟩
abbrev main_v49 : Ref sig .tc := ⟨.hbm, 64, rfl⟩
abbrev main_cst_8 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_cst_9 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_cst_10 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_cst_11 : Ref sig .tc := ⟨.hbm, 113, rfl⟩
abbrev main_v95 : Ref sig .tc := ⟨.hbm, 114, rfl⟩
abbrev main_v96 : Ref sig .tc := ⟨.hbm, 115, rfl⟩
abbrev main_cst_12 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_cst_13 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_cst_14 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_cst_15 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_cst_16 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_cst_17 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_cst_18 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_call1_call0_cst : Ref sig .tc := ⟨.hbm, 154, rfl⟩
abbrev main_call1_call0_v0 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩

abbrev nD : Nat := 1
abbrev τ : Topo := Topo.v7x

variable {F : FTy → Type} [FloatOps F]
-- ==== SwishBwd.lean ====
abbrev S2048x512 : Shape := ⟨2, ![2048, 512]⟩
abbrev S1x512 : Shape := ⟨2, ![1, 512]⟩
abbrev S2048x2048 : Shape := ⟨2, ![2048, 2048]⟩
abbrev S256x512 : Shape := ⟨2, ![256, 512]⟩
abbrev S256 : Shape := ⟨1, ![256]⟩
abbrev S256x1 : Shape := ⟨2, ![256, 1]⟩
abbrev S512 : Shape := ⟨1, ![512]⟩

abbrev nBuf : Space → Nat
  | .hbm => 7
  | .vmem => 10
  | .smem => 0
  | _ => 0

abbrev bufTy : (tb : Table) → Fin (tcTables nBuf tb) → BufTy
  | .hbm, ⟨0, _⟩ => ⟨S2048x512, .f32⟩
  | .hbm, ⟨1, _⟩ => ⟨S1x512, .f32⟩
  | .hbm, ⟨2, _⟩ => ⟨S1x512, .f32⟩
  | .hbm, ⟨3, _⟩ => ⟨S2048x2048, .f32⟩
  | .hbm, ⟨4, _⟩ => ⟨S2048x512, .f32⟩
  | .hbm, ⟨5, _⟩ => ⟨S1x512, .f32⟩
  | .hbm, ⟨6, _⟩ => ⟨S1x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S1x512, .f32⟩
  | .local _ .vmem, ⟨5, _⟩ => ⟨S1x512, .f32⟩
  | .local _ .vmem, ⟨6, _⟩ => ⟨S256x512, .f32⟩
  | .local _ .vmem, ⟨7, _⟩ => ⟨S256x512, .f32⟩
  | .local _ .vmem, ⟨8, _⟩ => ⟨S1x512, .f32⟩
  | .local _ .vmem, ⟨9, _⟩ => ⟨S1x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v81 : BitVec 1 := Scalar.cmpi .eq arg0 c0_i32
  let v82 : BitVec 32 := Scalar.extui v81
  let c0_i32_30 : BitVec 32 := 0#32
  let v83 : BitVec 1 := Scalar.cmpi .ne v82 c0_i32_30
  v83

def k0_cond2 (i : grid0.Coords) : BitVec 1 :=
  let arg0 : BitVec 32 := BitVec.ofNat 32 (i 0).val
  let c0_i32_31 : BitVec 32 := 0#32
  let v84 : BitVec 1 := Scalar.cmpi .ne arg0 c0_i32_31
  let v85 : BitVec 32 := Scalar.extui v84
  let c0_i32_32 : BitVec 32 := 0#32
  let v86 : BitVec 1 := Scalar.cmpi .ne v85 c0_i32_32
  v86

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== SwishBwdRefIdeal.lean ====
abbrev S2048x512 : Shape := ⟨2, ![2048, 512]⟩
abbrev S1x512 : Shape := ⟨2, ![1, 512]⟩
abbrev S2048x2048 : Shape := ⟨2, ![2048, 2048]⟩
abbrev S_ : Shape := ⟨0, ![]⟩
abbrev S2048 : Shape := ⟨1, ![2048]⟩
abbrev S2048x1 : Shape := ⟨2, ![2048, 1]⟩
abbrev S512 : Shape := ⟨1, ![512]⟩

abbrev nBuf : Space → Nat
  | .hbm => 96
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S1x512, .f32⟩
  | .hbm, ⟨2, _⟩ => ⟨S1x512, .f32⟩
  | .hbm, ⟨3, _⟩ => ⟨S2048x2048, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S2048x512, .f32⟩
  | .hbm, ⟨11, _⟩ => ⟨S2048x512, .f32⟩
  | .hbm, ⟨12, _⟩ => ⟨S2048x512, .f32⟩
  | .hbm, ⟨13, _⟩ => ⟨S_, .f32⟩
  | .hbm, ⟨14, _⟩ => ⟨S2048x512, .f32⟩
  | .hbm, ⟨15, _⟩ => ⟨S2048x512, .f32⟩
  | .hbm, ⟨16, _⟩ => ⟨S_, .f32⟩
  | .hbm, ⟨17, _⟩ => ⟨S2048, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x512, .f32⟩
  | .hbm, ⟨23, _⟩ => ⟨S2048x512, .f32⟩
  | .hbm, ⟨24, _⟩ => ⟨S_, .f32⟩
  | .hbm, ⟨25, _⟩ => ⟨S2048x1, .f32⟩
  | .hbm, ⟨26, _⟩ => ⟨S2048x1, .f32⟩
  | .hbm, ⟨27, _⟩ => ⟨S2048x1, .f32⟩
  | .hbm, ⟨28, _⟩ => ⟨S2048x1, .f32⟩
  | .hbm, ⟨29, _⟩ => ⟨S_, .f32⟩
  | .hbm, ⟨30, _⟩ => ⟨S2048x1, .f32⟩
  | .hbm, ⟨31, _⟩ => ⟨S2048x1, .f32⟩
  | .hbm, ⟨32, _⟩ => ⟨S2048x512, .f32⟩
  | .hbm, ⟨33, _⟩ => ⟨S2048x512, .f32⟩
  | .hbm, ⟨34, _⟩ => ⟨S2048x512, .f32⟩
  | .hbm, ⟨35, _⟩ => ⟨S2048x512, .f32⟩
  | .hbm, ⟨36, _⟩ => ⟨S2048x512, .f32⟩
  | .hbm, ⟨37, _⟩ => ⟨S2048x512, .f32⟩
  | .hbm, ⟨38, _⟩ => ⟨S2048x512, .f32⟩
  | .hbm, ⟨39, _⟩ => ⟨S2048x512, .f32⟩
  | .hbm, ⟨40, _⟩ => ⟨S_, .f32⟩
  | .hbm, ⟨41, _⟩ => ⟨S2048x512, .f32⟩
  | .hbm, ⟨42, _⟩ => ⟨S2048x512, .f32⟩
  | .hbm, ⟨43, _⟩ => ⟨S_, .f32⟩
  | .hbm, ⟨44, _⟩ => ⟨S2048x512, .f32⟩
  | .hbm, ⟨45, _⟩ => ⟨S2048x512, .f32⟩
  | .hbm, ⟨46, _⟩ => ⟨S_, .f32⟩
  | .hbm, ⟨47, _⟩ => ⟨S2048x512, .f32⟩
  | .hbm, ⟨48, _⟩ => ⟨S2048x512, .f32⟩
  | .hbm, ⟨49, _⟩ => ⟨S2048x512, .f32⟩
  | .hbm, ⟨50, _⟩ => ⟨S2048x512, .f32⟩
  | .hbm, ⟨51, _⟩ => ⟨S2048x512, .f32⟩
  | .hbm, ⟨52, _⟩ => ⟨S2048x512, .f32⟩
  | .hbm, ⟨53, _⟩ => ⟨S2048x512, .f32⟩
  | .hbm, ⟨54, _⟩ => ⟨S2048x512, .f32⟩
  | .hbm, ⟨55, _⟩ => ⟨S2048x512, .f32⟩
  | .hbm, ⟨56, _⟩ => ⟨S_, .f32⟩
  | .hbm, ⟨57, _⟩ => ⟨S512, .f32⟩
  | .hbm, ⟨58, _⟩ => ⟨S1x512, .f32⟩
  | .hbm, ⟨59, _⟩ => ⟨S2048x512, .f32⟩
  | .hbm, ⟨60, _⟩ => ⟨S_, .f32⟩
  | .hbm, ⟨61, _⟩ => ⟨S512, .f32⟩
  | .hbm, ⟨62, _⟩ => ⟨S1x512, .f32⟩
  | .hbm, ⟨63, _⟩ => ⟨S2048x512, .f32⟩
  | .hbm, ⟨64, _⟩ => ⟨S2048x512, .f32⟩
  | .hbm, ⟨65, _⟩ => ⟨S2048x512, .f32⟩
  | .hbm, ⟨66, _⟩ => ⟨S_, .f32⟩
  | .hbm, ⟨67, _⟩ => ⟨S2048, .f32⟩
  | .hbm, ⟨68, _⟩ => ⟨S2048x1, .f32⟩
  | .hbm, ⟨69, _⟩ => ⟨S2048x512, .f32⟩
  | .hbm, ⟨70, _⟩ => ⟨S2048x512, .f32⟩
  | .hbm, ⟨71, _⟩ => ⟨S2048x1, .f32⟩
  | .hbm, ⟨72, _⟩ => ⟨S2048x512, .f32⟩
  | .hbm, ⟨73, _⟩ => ⟨S_, .f32⟩
  | .hbm, ⟨74, _⟩ => ⟨S2048, .f32⟩
  | .hbm, ⟨75, _⟩ => ⟨S2048x1, .f32⟩
  | .hbm, ⟨76, _⟩ => ⟨S_, .f32⟩
  | .hbm, ⟨77, _⟩ => ⟨S2048x1, .f32⟩
  | .hbm, ⟨78, _⟩ => ⟨S2048x1, .f32⟩
  | .hbm, ⟨79, _⟩ => ⟨S_, .f32⟩
  | .hbm, ⟨80, _⟩ => ⟨S2048, .f32⟩
  | .hbm, ⟨81, _⟩ => ⟨S2048x512, .f32⟩
  | .hbm, ⟨82, _⟩ => ⟨S2048x512, .f32⟩
  | .hbm, ⟨83, _⟩ => ⟨S2048x512, .f32⟩
  | .hbm, ⟨84, _⟩ => ⟨S_, .f32⟩
  | .hbm, ⟨85, _⟩ => ⟨S2048, .f32⟩
  | .hbm, ⟨86, _⟩ => ⟨S2048x1, .f32⟩
  | .hbm, ⟨87, _⟩ => ⟨S2048x512, .f32⟩
  | .hbm, ⟨88, _⟩ => ⟨S2048x1, .f32⟩
  | .hbm, ⟨89, _⟩ => ⟨S_, .f32⟩
  | .hbm, ⟨90, _⟩ => ⟨S2048x1, .f32⟩
  | .hbm, ⟨91, _⟩ => ⟨S2048x1, .f32⟩
  | .hbm, ⟨92, _⟩ => ⟨S_, .f32⟩
  | .hbm, ⟨93, _⟩ => ⟨S2048, .f32⟩
  | .hbm, ⟨94, _⟩ => ⟨S2048x512, .f32⟩
  | .hbm, ⟨95, _⟩ => ⟨S2048x512, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_v27_2 : Ref sig .tc := ⟨.hbm, 45, rfl⟩
abbrev main_call0_cst_1 : Ref sig .tc := ⟨.hbm, 46, rfl⟩
abbrev main_call0_v6 : Ref sig .tc := ⟨.hbm, 47, rfl⟩
abbrev main_call0_v7 : Ref sig .tc := ⟨.hbm, 48, rfl⟩
abbrev main_v27_1 : Ref sig .tc := ⟨.hbm, 49, rfl⟩
abbrev main_v27_0 : Ref sig .tc := ⟨.hbm, 50, rfl⟩
abbrev main_v28 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_v29 : Ref sig .tc := ⟨.hbm, 55, rfl⟩
abbrev main_cst_6 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_cst_7 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_cst_8 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_cst_9 : Ref sig .tc := ⟨.hbm, 73, rfl⟩
abbrev main_v44 : Ref sig .tc := ⟨.hbm, 74, rfl⟩
abbrev main_v45 : Ref sig .tc := ⟨.hbm, 75, rfl⟩
abbrev main_cst_10 : Ref sig .tc := ⟨.hbm, 76, rfl⟩
abbrev main_v46 : Ref sig .tc := ⟨.hbm, 77, rfl⟩
abbrev main_v47 : Ref sig .tc := ⟨.hbm, 78, rfl⟩
abbrev main_cst_11 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_cst_12 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_13 : Ref sig .tc := ⟨.hbm, 89, rfl⟩
abbrev main_v56 : Ref sig .tc := ⟨.hbm, 90, rfl⟩
abbrev main_v57 : Ref sig .tc := ⟨.hbm, 91, rfl⟩
abbrev main_cst_14 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩

abbrev nD : Nat := 1
abbrev τ : Topo := Topo.v7x

variable {F : FTy → Type} [FloatOps F]
-- ==== AttnFwd.lean ====
abbrev S2048x2048 : Shape := ⟨2, ![2048, 2048]⟩
abbrev S256x2048 : Shape := ⟨2, ![256, 2048]⟩
abbrev S2048x512 : Shape := ⟨2, ![2048, 512]⟩
abbrev S256x512 : Shape := ⟨2, ![256, 512]⟩
abbrev S2048x256 : Shape := ⟨2, ![2048, 256]⟩
abbrev S2048 : Shape := ⟨1, ![2048]⟩
abbrev S2048x1 : Shape := ⟨2, ![2048, 1]⟩

abbrev nBuf : Space → Nat
  | .hbm => 4
  | .vmem => 8
  | .smem => 0
  | _ => 0

abbrev bufTy : (tb : Table) → Fin (tcTables nBuf tb) → BufTy
  | .hbm, ⟨0, _⟩ => ⟨S2048x2048, .bf16⟩
  | .hbm, ⟨1, _⟩ => ⟨S256x2048, .bf16⟩
  | .hbm, ⟨2, _⟩ => ⟨S256x2048, .bf16⟩
  | .hbm, ⟨3, _⟩ => ⟨S2048x2048, .bf16⟩
  | .local _ .vmem, ⟨0, _⟩ => ⟨S2048x512, .bf16⟩
  | .local _ .vmem, ⟨1, _⟩ => ⟨S2048x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S2048x512, .bf16⟩
  | .local _ .vmem, ⟨7, _⟩ => ⟨S2048x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AttnFwdRefIdeal.lean ====
abbrev S2048x2048 : Shape := ⟨2, ![2048, 2048]⟩
abbrev S256x2048 : Shape := ⟨2, ![256, 2048]⟩
abbrev S2048x4x512 : Shape := ⟨3, ![2048, 4, 512]⟩
abbrev S256x4x512 : Shape := ⟨3, ![256, 4, 512]⟩
abbrev S4x2048x256 : Shape := ⟨3, ![4, 2048, 256]⟩
abbrev S_ : Shape := ⟨0, ![]⟩
abbrev S4x2048 : Shape := ⟨2, ![4, 2048]⟩
abbrev S4x2048x1 : Shape := ⟨3, ![4, 2048, 1]⟩
abbrev S4x512x2048 : Shape := ⟨3, ![4, 512, 2048]⟩

abbrev nBuf : Space → Nat
  | .hbm => 31
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S256x2048, .bf16⟩
  | .hbm, ⟨2, _⟩ => ⟨S256x2048, .bf16⟩
  | .hbm, ⟨3, _⟩ => ⟨S2048x2048, .f32⟩
  | .hbm, ⟨4, _⟩ => ⟨S256x2048, .f32⟩
  | .hbm, ⟨5, _⟩ => ⟨S256x2048, .f32⟩
  | .hbm, ⟨6, _⟩ => ⟨S2048x4x512, .f32⟩
  | .hbm, ⟨7, _⟩ => ⟨S256x4x512, .f32⟩
  | .hbm, ⟨8, _⟩ => ⟨S256x4x512, .f32⟩
  | .hbm, ⟨9, _⟩ => ⟨S4x2048x256, .f32⟩
  | .hbm, ⟨10, _⟩ => ⟨S_, .f32⟩
  | .hbm, ⟨11, _⟩ => ⟨S4x2048x256, .f32⟩
  | .hbm, ⟨12, _⟩ => ⟨S4x2048x256, .f32⟩
  | .hbm, ⟨13, _⟩ => ⟨S_, .f32⟩
  | .hbm, ⟨14, _⟩ => ⟨S4x2048, .f32⟩
  | .hbm, ⟨15, _⟩ => ⟨S_, .f32⟩
  | .hbm, ⟨16, _⟩ => ⟨S4x2048, .f32⟩
  | .hbm, ⟨17, _⟩ => ⟨S4x2048, .f32⟩
  | .hbm, ⟨18, _⟩ => ⟨S4x2048x1, .f32⟩
  | .hbm, ⟨19, _⟩ => ⟨S4x2048x256, .f32⟩
  | .hbm, ⟨20, _⟩ => ⟨S4x2048x256, .f32⟩
  | .hbm, ⟨21, _⟩ => ⟨S4x2048x256, .f32⟩
  | .hbm, ⟨22, _⟩ => ⟨S_, .f32⟩
  | .hbm, ⟨23, _⟩ => ⟨S4x2048, .f32⟩
  | .hbm, ⟨24, _⟩ => ⟨S4x2048x1, .f32⟩
  | .hbm, ⟨25, _⟩ => ⟨S4x2048x256, .f32⟩
  | .hbm, ⟨26, _⟩ => ⟨S4x2048x256, .f32⟩
  | .hbm, ⟨27, _⟩ => ⟨S4x512x2048, .f32⟩
  | .hbm, ⟨28, _⟩ => ⟨S2048x4x512, .f32⟩
  | .hbm, ⟨29, _⟩ => ⟨S2048x2048, .f32⟩
  | .hbm, ⟨30, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== GmlpFwd.lean ====
abbrev S2048x3584 : Shape := ⟨2, ![2048, 3584]⟩
abbrev S8x128 : Shape := ⟨2, ![8, 128]⟩
abbrev S8x128x128 : Shape := ⟨3, ![8, 128, 128]⟩
abbrev S8x1x128 : Shape := ⟨3, ![8, 1, 128]⟩
abbrev S8x128x1 : Shape := ⟨3, ![8, 128, 1]⟩
abbrev S2048x1024 : Shape := ⟨2, ![2048, 1024]⟩
abbrev S2048x128 : Shape := ⟨2, ![2048, 128]⟩
abbrev S1x1x128 : Shape := ⟨3, ![1, 1, 128]⟩
abbrev S1x128x128 : Shape := ⟨3, ![1, 128, 128]⟩
abbrev S1x128x1 : Shape := ⟨3, ![1, 128, 1]⟩
abbrev S1x128 : Shape := ⟨2, ![1, 128]⟩
abbrev S128x128 : Shape := ⟨2, ![128, 128]⟩
abbrev S128x1 : Shape := ⟨2, ![128, 1]⟩
abbrev S128 : Shape := ⟨1, ![128]⟩

abbrev nBuf : Space → Nat
  | .hbm => 7
  | .vmem => 12
  | .smem => 0
  | _ => 0

abbrev bufTy : (tb : Table) → Fin (tcTables nBuf tb) → BufTy
  | .hbm, ⟨0, _⟩ => ⟨S2048x3584, .f32⟩
  | .hbm, ⟨1, _⟩ => ⟨S8x128, .f32⟩
  | .hbm, ⟨2, _⟩ => ⟨S8x128x128, .f32⟩
  | .hbm, ⟨3, _⟩ => ⟨S8x128, .f32⟩
  | .hbm, ⟨4, _⟩ => ⟨S8x1x128, .f32⟩
  | .hbm, ⟨5, _⟩ => ⟨S8x128x1, .f32⟩
  | .hbm, ⟨6, _⟩ => ⟨S2048x1024, .bf16⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S1x1x128, .f32⟩
  | .local _ .vmem, ⟨5, _⟩ => ⟨S1x1x128, .f32⟩
  | .local _ .vmem, ⟨6, _⟩ => ⟨S1x128x128, .f32⟩
  | .local _ .vmem, ⟨7, _⟩ => ⟨S1x128x128, .f32⟩
  | .local _ .vmem, ⟨8, _⟩ => ⟨S1x128x1, .f32⟩
  | .local _ .vmem, ⟨9, _⟩ => ⟨S1x128x1, .f32⟩
  | .local _ .vmem, ⟨10, _⟩ => ⟨S2048x128, .bf16⟩
  | .local _ .vmem, ⟨11, _⟩ => ⟨S2048x128, .bf16⟩
  | _, _ => ⟨S2048x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c16_i32 : BitVec 32 := 16#32
  let v6 : BitVec 32 := Scalar.addi c0_i32 c16_i32
  let c1_i32 : BitVec 32 := 1#32
  ⟨c0_i32, v6, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c128_i32 : BitVec 32 := 128#32
  let v7 : BitVec 32 := Scalar.muli arg7 c128_i32
  v7
def k0_off1 (k0_t1 : Fin k0_t1_loop.trips) : Fin 2 → Nat :=
  let c0_i32 : BitVec 32 := 0#32
  let c1_i32 : BitVec 32 := 1#32
  let arg7 : BitVec 32 := Scf.iv c0_i32 c1_i32 k0_t1
  let c128_i32 : BitVec 32 := 128#32
  let v7 : BitVec 32 := Scalar.muli arg7 c128_i32
  let v8 : BitVec 32 := v7
  let v9 : Index := Scalar.indexCast v8
  let c0_9 : Index := 0#32
  ![v9.toNat, 0]
def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== GmlpFwdRefIdeal.lean ====
abbrev S2048x3584 : Shape := ⟨2, ![2048, 3584]⟩
abbrev S8x128 : Shape := ⟨2, ![8, 128]⟩
abbrev S8x128x128 : Shape := ⟨3, ![8, 128, 128]⟩
abbrev S2048x2048 : Shape := ⟨2, ![2048, 2048]⟩
abbrev S_ : Shape := ⟨0, ![]⟩
abbrev S2048x1024 : Shape := ⟨2, ![2048, 1024]⟩
abbrev S2048x8x128 : Shape := ⟨3, ![2048, 8, 128]⟩
abbrev S2048x8 : Shape := ⟨2, ![2048, 8]⟩
abbrev S2048x8x1 : Shape := ⟨3, ![2048, 8, 1]⟩
abbrev S1x8x128 : Shape := ⟨3, ![1, 8, 128]⟩
abbrev S128x128 : Shape := ⟨2, ![128, 128]⟩
abbrev S16x128x8x128 : Shape := ⟨4, ![16, 128, 8, 128]⟩
abbrev S1x128x128 : Shape := ⟨3, ![1, 128, 128]⟩
abbrev S8x16x128x128 : Shape := ⟨4, ![8, 16, 128, 128]⟩
abbrev S128x8 : Shape := ⟨2, ![128, 8]⟩
abbrev S1x128x8x1 : Shape := ⟨4, ![1, 128, 8, 1]⟩

abbrev nBuf : Space → Nat
  | .hbm => 77
  | .vmem => 0
  | .smem => 0
  | _ => 0

abbrev bufTy : (tb : Table) → Fin (tcTables nBuf tb) → BufTy
  | .hbm, ⟨0, _⟩ => ⟨S2048x3584, .f32⟩
  | .hbm, ⟨1, _⟩ => ⟨S8x128, .f32⟩
  | .hbm, ⟨2, _⟩ => ⟨S8x128x128, .f32⟩
  | .hbm, ⟨3, _⟩ => ⟨S8x128, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S_, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S_, .f32⟩
  | .hbm, ⟨16, _⟩ => ⟨S2048x2048, .f32⟩
  | .hbm, ⟨17, _⟩ => ⟨S2048x2048, .f32⟩
  | .hbm, ⟨18, _⟩ => ⟨S_, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x1024, .f32⟩
  | .hbm, ⟨23, _⟩ => ⟨S2048x1024, .f32⟩
  | .hbm, ⟨24, _⟩ => ⟨S2048x8x128, .f32⟩
  | .hbm, ⟨25, _⟩ => ⟨S2048x8x128, .f32⟩
  | .hbm, ⟨26, _⟩ => ⟨S_, .f32⟩
  | .hbm, ⟨27, _⟩ => ⟨S2048x8, .f32⟩
  | .hbm, ⟨28, _⟩ => ⟨S2048x8x1, .f32⟩
  | .hbm, ⟨29, _⟩ => ⟨S_, .f32⟩
  | .hbm, ⟨30, _⟩ => ⟨S2048x8x1, .f32⟩
  | .hbm, ⟨31, _⟩ => ⟨S2048x8x1, .f32⟩
  | .hbm, ⟨32, _⟩ => ⟨S2048x8x128, .f32⟩
  | .hbm, ⟨33, _⟩ => ⟨S2048x8x128, .f32⟩
  | .hbm, ⟨34, _⟩ => ⟨S2048x8x128, .f32⟩
  | .hbm, ⟨35, _⟩ => ⟨S_, .f32⟩
  | .hbm, ⟨36, _⟩ => ⟨S2048x8, .f32⟩
  | .hbm, ⟨37, _⟩ => ⟨S2048x8x1, .f32⟩
  | .hbm, ⟨38, _⟩ => ⟨S_, .f32⟩
  | .hbm, ⟨39, _⟩ => ⟨S2048x8x1, .f32⟩
  | .hbm, ⟨40, _⟩ => ⟨S2048x8x1, .f32⟩
  | .hbm, ⟨41, _⟩ => ⟨S2048x8x128, .f32⟩
  | .hbm, ⟨42, _⟩ => ⟨S2048x8x128, .f32⟩
  | .hbm, ⟨43, _⟩ => ⟨S_, .f32⟩
  | .hbm, ⟨44, _⟩ => ⟨S2048x8x1, .f32⟩
  | .hbm, ⟨45, _⟩ => ⟨S2048x8x1, .f32⟩
  | .hbm, ⟨46, _⟩ => ⟨S2048x8x1, .f32⟩
  | .hbm, ⟨47, _⟩ => ⟨S2048x8x128, .f32⟩
  | .hbm, ⟨48, _⟩ => ⟨S2048x8x128, .f32⟩
  | .hbm, ⟨49, _⟩ => ⟨S1x8x128, .f32⟩
  | .hbm, ⟨50, _⟩ => ⟨S2048x8x128, .f32⟩
  | .hbm, ⟨51, _⟩ => ⟨S2048x8x128, .f32⟩
  | .hbm, ⟨52, _⟩ => ⟨S_, .f32⟩
  | .hbm, ⟨53, _⟩ => ⟨S128x128, .f32⟩
  | .hbm, ⟨54, _⟩ => ⟨S128x128, .i32⟩
  | .hbm, ⟨55, _⟩ => ⟨S_, .i32⟩
  | .hbm, ⟨56, _⟩ => ⟨S128x128, .i32⟩
  | .hbm, ⟨57, _⟩ => ⟨S128x128, .i32⟩
  | .hbm, ⟨58, _⟩ => ⟨S128x128, .i32⟩
  | .hbm, ⟨59, _⟩ => ⟨S128x128, .i1⟩
  | .hbm, ⟨60, _⟩ => ⟨S_, .f32⟩
  | .hbm, ⟨61, _⟩ => ⟨S128x128, .f32⟩
  | .hbm, ⟨62, _⟩ => ⟨S128x128, .f32⟩
  | .hbm, ⟨63, _⟩ => ⟨S16x128x8x128, .f32⟩
  | .hbm, ⟨64, _⟩ => ⟨S1x128x128, .f32⟩
  | .hbm, ⟨65, _⟩ => ⟨S8x128x128, .f32⟩
  | .hbm, ⟨66, _⟩ => ⟨S8x128x128, .f32⟩
  | .hbm, ⟨67, _⟩ => ⟨S8x16x128x128, .f32⟩
  | .hbm, ⟨68, _⟩ => ⟨S16x128x8x128, .f32⟩
  | .hbm, ⟨69, _⟩ => ⟨S128x8, .f32⟩
  | .hbm, ⟨70, _⟩ => ⟨S1x128x8x1, .f32⟩
  | .hbm, ⟨71, _⟩ => ⟨S16x128x8x128, .f32⟩
  | .hbm, ⟨72, _⟩ => ⟨S16x128x8x128, .f32⟩
  | .hbm, ⟨73, _⟩ => ⟨S2048x8x128, .f32⟩
  | .hbm, ⟨74, _⟩ => ⟨S2048x8x128, .f32⟩
  | .hbm, ⟨75, _⟩ => ⟨S2048x1024, .f32⟩
  | .hbm, ⟨76, _⟩ => ⟨S2048x1024, .bf16⟩
  | _, _ => ⟨S2048x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_cst_6 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_8 : Ref sig .tc := ⟨.hbm, 52, rfl⟩
abbrev main_v39 : Ref sig .tc := ⟨.hbm, 53, rfl⟩
abbrev main_call0_v0 : Ref sig .tc := ⟨.hbm, 54, rfl⟩
abbrev main_call0_c : Ref sig .tc := ⟨.hbm, 55, rfl⟩
abbrev main_call0_v1 : Ref sig .tc := ⟨.hbm, 56, rfl⟩
abbrev main_call0_v2 : Ref sig .tc := ⟨.hbm, 57, rfl⟩
abbrev main_call0_v3 : Ref sig .tc := ⟨.hbm, 58, rfl⟩
abbrev main_call0_v4 : Ref sig .tc := ⟨.hbm, 59, rfl⟩
abbrev main_call0_cst : Ref sig .tc := ⟨.hbm, 60, rfl⟩
abbrev main_call0_v5 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]
-- ==== PoolFwd.lean ====
abbrev S2048x3584 : Shape := ⟨2, ![2048, 3584]⟩
abbrev S4x128x128 : Shape := ⟨3, ![4, 128, 128]⟩
abbrev S1x512 : Shape := ⟨2, ![1, 512]⟩
abbrev S2048x512 : Shape := ⟨2, ![2048, 512]⟩
abbrev S2048x128 : Shape := ⟨2, ![2048, 128]⟩
abbrev S1x128x128 : Shape := ⟨3, ![1, 128, 128]⟩
abbrev S128x128 : Shape := ⟨2, ![128, 128]⟩
abbrev S1x128 : Shape := ⟨2, ![1, 128]⟩
abbrev S2048x1 : Shape := ⟨2, ![2048, 1]⟩

abbrev nBuf : Space → Nat
  | .hbm => 4
  | .vmem => 4
  | .smem => 0
  | _ => 0

abbrev bufTy : (tb : Table) → Fin (tcTables nBuf tb) → BufTy
  | .hbm, ⟨0, _⟩ => ⟨S2048x3584, .f32⟩
  | .hbm, ⟨1, _⟩ => ⟨S4x128x128, .f32⟩
  | .hbm, ⟨2, _⟩ => ⟨S1x512, .f32⟩
  | .hbm, ⟨3, _⟩ => ⟨S2048x512, .bf16⟩
  | .local _ .vmem, ⟨0, _⟩ => ⟨S2048x512, .f32⟩
  | .local _ .vmem, ⟨1, _⟩ => ⟨S4x128x128, .f32⟩
  | .local _ .vmem, ⟨2, _⟩ => ⟨S1x512, .f32⟩
  | .local _ .vmem, ⟨3, _⟩ => ⟨S2048x512, .bf16⟩
  | _, _ => ⟨S2048x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c4_i32 : BitVec 32 := 4#32
  let c0_i32_0 : BitVec 32 := 0#32
  ![c0_i32.toNat, c4_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4x128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== PoolFwdRefIdeal.lean ====
abbrev S2048x3584 : Shape := ⟨2, ![2048, 3584]⟩
abbrev S4x128x128 : Shape := ⟨3, ![4, 128, 128]⟩
abbrev S1x512 : Shape := ⟨2, ![1, 512]⟩
abbrev S2048x512 : Shape := ⟨2, ![2048, 512]⟩
abbrev S2048x4x128 : Shape := ⟨3, ![2048, 4, 128]⟩
abbrev S_ : Shape := ⟨0, ![]⟩
abbrev S16x4x128 : Shape := ⟨3, ![16, 4, 128]⟩
abbrev S2064x4x128 : Shape := ⟨3, ![2064, 4, 128]⟩
abbrev S2048 : Shape := ⟨1, ![2048]⟩
abbrev S2048x1x128 : Shape := ⟨3, ![2048, 1, 128]⟩
abbrev S2048x128 : Shape := ⟨2, ![2048, 128]⟩
abbrev S2048x1 : Shape := ⟨2, ![2048, 1]⟩
abbrev S4x128x2048 : Shape := ⟨3, ![4, 128, 2048]⟩
abbrev S4x128 : Shape := ⟨2, ![4, 128]⟩
abbrev S1x4x128 : Shape := ⟨3, ![1, 4, 128]⟩

abbrev nBuf : Space → Nat
  | .hbm => 82
  | .vmem => 0
  | .smem => 0
  | _ => 0

abbrev bufTy : (tb : Table) → Fin (tcTables nBuf tb) → BufTy
  | .hbm, ⟨0, _⟩ => ⟨S2048x3584, .f32⟩
  | .hbm, ⟨1, _⟩ => ⟨S4x128x128, .f32⟩
  | .hbm, ⟨2, _⟩ => ⟨S1x512, .f32⟩
  | .hbm, ⟨3, _⟩ => ⟨S2048x512, .f32⟩
  | .hbm, ⟨4, _⟩ => ⟨S2048x4x128, .f32⟩
  | .hbm, ⟨5, _⟩ => ⟨S_, .f32⟩
  | .hbm, ⟨6, _⟩ => ⟨S_, .f32⟩
  | .hbm, ⟨7, _⟩ => ⟨S2048x4x128, .f32⟩
  | .hbm, ⟨8, _⟩ => ⟨S_, .f32⟩
  | .hbm, ⟨9, _⟩ => ⟨S16x4x128, .f32⟩
  | .hbm, ⟨10, _⟩ => ⟨S2064x4x128, .f32⟩
  | .hbm, ⟨11, _⟩ => ⟨S2048, .f32⟩
  | .hbm, ⟨12, _⟩ => ⟨S2048x1x128, .f32⟩
  | .hbm, ⟨13, _⟩ => ⟨S2048x128, .f32⟩
  | .hbm, ⟨14, _⟩ => ⟨S2048x1x128, .f32⟩
  | .hbm, ⟨15, _⟩ => ⟨S2048x128, .f32⟩
  | .hbm, ⟨16, _⟩ => ⟨S2048x128, .f32⟩
  | .hbm, ⟨17, _⟩ => ⟨S_, .f32⟩
  | .hbm, ⟨18, _⟩ => ⟨S2048, .f32⟩
  | .hbm, ⟨19, _⟩ => ⟨S2048, .f32⟩
  | .hbm, ⟨20, _⟩ => ⟨S_, .f32⟩
  | .hbm, ⟨21, _⟩ => ⟨S2048, .f32⟩
  | .hbm, ⟨22, _⟩ => ⟨S2048, .f32⟩
  | .hbm, ⟨23, _⟩ => ⟨S2048x1, .f32⟩
  | .hbm, ⟨24, _⟩ => ⟨S2048x128, .f32⟩
  | .hbm, ⟨25, _⟩ => ⟨S2048x128, .f32⟩
  | .hbm, ⟨26, _⟩ => ⟨S2048x1x128, .f32⟩
  | .hbm, ⟨27, _⟩ => ⟨S2048x128, .f32⟩
  | .hbm, ⟨28, _⟩ => ⟨S2048x1x128, .f32⟩
  | .hbm, ⟨29, _⟩ => ⟨S2048x128, .f32⟩
  | .hbm, ⟨30, _⟩ => ⟨S2048x128, .f32⟩
  | .hbm, ⟨31, _⟩ => ⟨S_, .f32⟩
  | .hbm, ⟨32, _⟩ => ⟨S2048, .f32⟩
  | .hbm, ⟨33, _⟩ => ⟨S2048, .f32⟩
  | .hbm, ⟨34, _⟩ => ⟨S_, .f32⟩
  | .hbm, ⟨35, _⟩ => ⟨S2048, .f32⟩
  | .hbm, ⟨36, _⟩ => ⟨S2048, .f32⟩
  | .hbm, ⟨37, _⟩ => ⟨S2048x1, .f32⟩
  | .hbm, ⟨38, _⟩ => ⟨S2048x128, .f32⟩
  | .hbm, ⟨39, _⟩ => ⟨S2048x128, .f32⟩
  | .hbm, ⟨40, _⟩ => ⟨S2048x1x128, .f32⟩
  | .hbm, ⟨41, _⟩ => ⟨S2048x128, .f32⟩
  | .hbm, ⟨42, _⟩ => ⟨S2048x1x128, .f32⟩
  | .hbm, ⟨43, _⟩ => ⟨S2048x128, .f32⟩
  | .hbm, ⟨44, _⟩ => ⟨S2048x128, .f32⟩
  | .hbm, ⟨45, _⟩ => ⟨S_, .f32⟩
  | .hbm, ⟨46, _⟩ => ⟨S2048, .f32⟩
  | .hbm, ⟨47, _⟩ => ⟨S2048, .f32⟩
  | .hbm, ⟨48, _⟩ => ⟨S_, .f32⟩
  | .hbm, ⟨49, _⟩ => ⟨S2048, .f32⟩
  | .hbm, ⟨50, _⟩ => ⟨S2048, .f32⟩
  | .hbm, ⟨51, _⟩ => ⟨S2048x1, .f32⟩
  | .hbm, ⟨52, _⟩ => ⟨S2048x128, .f32⟩
  | .hbm, ⟨53, _⟩ => ⟨S2048x128, .f32⟩
  | .hbm, ⟨54, _⟩ => ⟨S2048x1x128, .f32⟩
  | .hbm, ⟨55, _⟩ => ⟨S2048x128, .f32⟩
  | .hbm, ⟨56, _⟩ => ⟨S2048x1x128, .f32⟩
  | .hbm, ⟨57, _⟩ => ⟨S2048x128, .f32⟩
  | .hbm, ⟨58, _⟩ => ⟨S2048x128, .f32⟩
  | .hbm, ⟨59, _⟩ => ⟨S_, .f32⟩
  | .hbm, ⟨60, _⟩ => ⟨S2048, .f32⟩
  | .hbm, ⟨61, _⟩ => ⟨S2048, .f32⟩
  | .hbm, ⟨62, _⟩ => ⟨S_, .f32⟩
  | .hbm, ⟨63, _⟩ => ⟨S2048, .f32⟩
  | .hbm, ⟨64, _⟩ => ⟨S2048, .f32⟩
  | .hbm, ⟨65, _⟩ => ⟨S2048x1, .f32⟩
  | .hbm, ⟨66, _⟩ => ⟨S2048x128, .f32⟩
  | .hbm, ⟨67, _⟩ => ⟨S2048x128, .f32⟩
  | .hbm, ⟨68, _⟩ => ⟨S2048x1x128, .f32⟩
  | .hbm, ⟨69, _⟩ => ⟨S2048x1x128, .f32⟩
  | .hbm, ⟨70, _⟩ => ⟨S2048x1x128, .f32⟩
  | .hbm, ⟨71, _⟩ => ⟨S2048x1x128, .f32⟩
  | .hbm, ⟨72, _⟩ => ⟨S2048x4x128, .f32⟩
  | .hbm, ⟨73, _⟩ => ⟨S2048x4x128, .f32⟩
  | .hbm, ⟨74, _⟩ => ⟨S4x128x2048, .f32⟩
  | .hbm, ⟨75, _⟩ => ⟨S2048x4x128, .f32⟩
  | .hbm, ⟨76, _⟩ => ⟨S4x128, .f32⟩
  | .hbm, ⟨77, _⟩ => ⟨S1x4x128, .f32⟩
  | .hbm, ⟨78, _⟩ => ⟨S2048x4x128, .f32⟩
  | .hbm, ⟨79, _⟩ => ⟨S2048x4x128, .f32⟩
  | .hbm, ⟨80, _⟩ => ⟨S2048x512, .f32⟩
  | .hbm, ⟨81, _⟩ => ⟨S2048x512, .bf16⟩
  | _, _ => ⟨S2048x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_call0_cst : Ref sig .tc := ⟨.hbm, 5, rfl⟩
abbrev main_call0_call0_v0 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_4 : Ref sig .tc := ⟨.hbm, 45, rfl⟩
abbrev main_v35 : Ref sig .tc := ⟨.hbm, 46, rfl⟩
abbrev main_v36 : Ref sig .tc := ⟨.hbm, 47, rfl⟩
abbrev main_cst_5 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_6 : Ref sig .tc := ⟨.hbm, 59, rfl⟩
abbrev main_v47 : Ref sig .tc := ⟨.hbm, 60, rfl⟩
abbrev main_v48 : Ref sig .tc := ⟨.hbm, 61, rfl⟩
abbrev main_cst_7 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩

abbrev nD : Nat := 1
abbrev τ : Topo := Topo.v7x

variable {F : FTy → Type} [FloatOps F]
-- ==== ConvFwd.lean ====
abbrev S2048x3584 : Shape := ⟨2, ![2048, 3584]⟩
abbrev S31x512 : Shape := ⟨2, ![31, 512]⟩
abbrev S1x512 : Shape := ⟨2, ![1, 512]⟩
abbrev S_ : Shape := ⟨0, ![]⟩
abbrev S32x512 : Shape := ⟨2, ![32, 512]⟩
abbrev S32x4x128 : Shape := ⟨3, ![32, 4, 128]⟩
abbrev S4x32x128 : Shape := ⟨3, ![4, 32, 128]⟩
abbrev S2048x512 : Shape := ⟨2, ![2048, 512]⟩
abbrev S2048x128 : Shape := ⟨2, ![2048, 128]⟩
abbrev S1x32x128 : Shape := ⟨3, ![1, 32, 128]⟩
abbrev S1x128 : Shape := ⟨2, ![1, 128]⟩
abbrev S1x1x128 : Shape := ⟨3, ![1, 1, 128]⟩

abbrev nBuf : Space → Nat
  | .hbm => 9
  | .vmem => 10
  | .smem => 0
  | _ => 0

abbrev bufTy : (tb : Table) → Fin (tcTables nBuf tb) → BufTy
  | .hbm, ⟨0, _⟩ => ⟨S2048x3584, .f32⟩
  | .hbm, ⟨1, _⟩ => ⟨S31x512, .f32⟩
  | .hbm, ⟨2, _⟩ => ⟨S1x512, .f32⟩
  | .hbm, ⟨3, _⟩ => ⟨S_, .i32⟩
  | .hbm, ⟨4, _⟩ => ⟨S_, .f32⟩
  | .hbm, ⟨5, _⟩ => ⟨S32x512, .f32⟩
  | .hbm, ⟨6, _⟩ => ⟨S32x4x128, .f32⟩
  | .hbm, ⟨7, _⟩ => ⟨S4x32x128, .f32⟩
  | .hbm, ⟨8, _⟩ => ⟨S2048x512, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S1x32x128, .f32⟩
  | .local _ .vmem, ⟨5, _⟩ => ⟨S1x32x128, .f32⟩
  | .local _ .vmem, ⟨6, _⟩ => ⟨S1x128, .f32⟩
  | .local _ .vmem, ⟨7, _⟩ => ⟨S1x128, .f32⟩
  | .local _ .vmem, ⟨8, _⟩ => ⟨S2048x128, .f32⟩
  | .local _ .vmem, ⟨9, _⟩ => ⟨S2048x128, .f32⟩
  | _, _ => ⟨S2048x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c20_i32 : BitVec 32 := 20#32
  let v0 : BitVec 32 := Scalar.addi c20_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c24_i32 : BitVec 32 := 24#32
  let v0 : BitVec 32 := Scalar.addi c24_i32 arg0
  let c0_i32 : BitVec 32 := 0#32
  let c0_i32_0 : BitVec 32 := 0#32
  ![c0_i32.toNat, v0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ConvFwdRefIdeal.lean ====
abbrev S2048x3584 : Shape := ⟨2, ![2048, 3584]⟩
abbrev S31x512 : Shape := ⟨2, ![31, 512]⟩
abbrev S1x512 : Shape := ⟨2, ![1, 512]⟩
abbrev S2048x512 : Shape := ⟨2, ![2048, 512]⟩
abbrev S_ : Shape := ⟨0, ![]⟩
abbrev S30x512 : Shape := ⟨2, ![30, 512]⟩
abbrev S2078x512 : Shape := ⟨2, ![2078, 512]⟩
abbrev S512 : Shape := ⟨1, ![512]⟩

abbrev nBuf : Space → Nat
  | .hbm => 235
  | .vmem => 0
  | .smem => 0
  | _ => 0

abbrev hbmTy0_0 (i : Nat) : BufTy := match i % 128 with
  | 0 => ⟨S2048x3584, .f32⟩
  | 1 => ⟨S31x512, .f32⟩
  | 2 => ⟨S1x512, .f32⟩
  | 3 => ⟨S2048x512, .f32⟩
  | 4 => ⟨S2048x512, .f32⟩
  | 5 => ⟨S2048x512, .f32⟩
  | 6 => ⟨S2048x512, .f32⟩
  | 7 => ⟨S_, .f32⟩
  | 8 => ⟨S2048x512, .f32⟩
  | 9 => ⟨S2048x512, .f32⟩
  | 10 => ⟨S_, .f32⟩
  | 11 => ⟨S2048x512, .f32⟩
  | 12 => ⟨S2048x512, .f32⟩
  | 13 => ⟨S2048x512, .f32⟩
  | 14 => ⟨S_, .f32⟩
  | 15 => ⟨S30x512, .f32⟩
  | 16 => ⟨S2078x512, .f32⟩
  | 17 => ⟨S1x512, .f32⟩
  | 18 => ⟨S512, .f32⟩
  | 19 => ⟨S2048x512, .f32⟩
  | 20 => ⟨S1x512, .f32⟩
  | 21 => ⟨S2048x512, .f32⟩
  | 22 => ⟨S2048x512, .f32⟩
  | 23 => ⟨S1x512, .f32⟩
  | 24 => ⟨S512, .f32⟩
  | 25 => ⟨S2048x512, .f32⟩
  | 26 => ⟨S1x512, .f32⟩
  | 27 => ⟨S2048x512, .f32⟩
  | 28 => ⟨S2048x512, .f32⟩
  | 29 => ⟨S2048x512, .f32⟩
  | 30 => ⟨S1x512, .f32⟩
  | 31 => ⟨S512, .f32⟩
  | 32 => ⟨S2048x512, .f32⟩
  | 33 => ⟨S1x512, .f32⟩
  | 34 => ⟨S2048x512, .f32⟩
  | 35 => ⟨S2048x512, .f32⟩
  | 36 => ⟨S2048x512, .f32⟩
  | 37 => ⟨S1x512, .f32⟩
  | 38 => ⟨S512, .f32⟩
  | 39 => ⟨S2048x512, .f32⟩
  | 40 => ⟨S1x512, .f32⟩
  | 41 => ⟨S2048x512, .f32⟩
  | 42 => ⟨S2048x512, .f32⟩
  | 43 => ⟨S2048x512, .f32⟩
  | 44 => ⟨S1x512, .f32⟩
  | 45 => ⟨S512, .f32⟩
  | 46 => ⟨S2048x512, .f32⟩
  | 47 => ⟨S1x512, .f32⟩
  | 48 => ⟨S2048x512, .f32⟩
  | 49 => ⟨S2048x512, .f32⟩
  | 50 => ⟨S2048x512, .f32⟩
  | 51 => ⟨S1x512, .f32⟩
  | 52 => ⟨S512, .f32⟩
  | 53 => ⟨S2048x512, .f32⟩
  | 54 => ⟨S1x512, .f32⟩
  | 55 => ⟨S2048x512, .f32⟩
  | 56 => ⟨S2048x512, .f32⟩
  | 57 => ⟨S2048x512, .f32⟩
  | 58 => ⟨S1x512, .f32⟩
  | 59 => ⟨S512, .f32⟩
  | 60 => ⟨S2048x512, .f32⟩
  | 61 => ⟨S1x512, .f32⟩
  | 62 => ⟨S2048x512, .f32⟩
  | 63 => ⟨S2048x512, .f32⟩
  | 64 => ⟨S2048x512, .f32⟩
  | 65 => ⟨S1x512, .f32⟩
  | 66 => ⟨S512, .f32⟩
  | 67 => ⟨S2048x512, .f32⟩
  | 68 => ⟨S1x512, .f32⟩
  | 69 => ⟨S2048x512, .f32⟩
  | 70 => ⟨S2048x512, .f32⟩
  | 71 => ⟨S2048x512, .f32⟩
  | 72 => ⟨S1x512, .f32⟩
  | 73 => ⟨S512, .f32⟩
  | 74 => ⟨S2048x512, .f32⟩
  | 75 => ⟨S1x512, .f32⟩
  | 76 => ⟨S2048x512, .f32⟩
  | 77 => ⟨S2048x512, .f32⟩
  | 78 => ⟨S2048x512, .f32⟩
  | 79 => ⟨S1x512, .f32⟩
  | 80 => ⟨S512, .f32⟩
  | 81 => ⟨S2048x512, .f32⟩
  | 82 => ⟨S1x512, .f32⟩
  | 83 => ⟨S2048x512, .f32⟩
  | 84 => ⟨S2048x512, .f32⟩
  | 85 => ⟨S2048x512, .f32⟩
  | 86 => ⟨S1x512, .f32⟩
  | 87 => ⟨S512, .f32⟩
  | 88 => ⟨S2048x512, .f32⟩
  | 89 => ⟨S1x512, .f32⟩
  | 90 => ⟨S2048x512, .f32⟩
  | 91 => ⟨S2048x512, .f32⟩
  | 92 => ⟨S2048x512, .f32⟩
  | 93 => ⟨S1x512, .f32⟩
  | 94 => ⟨S512, .f32⟩
  | 95 => ⟨S2048x512, .f32⟩
  | 96 => ⟨S1x512, .f32⟩
  | 97 => ⟨S2048x512, .f32⟩
  | 98 => ⟨S2048x512, .f32⟩
  | 99 => ⟨S2048x512, .f32⟩
  | 100 => ⟨S1x512, .f32⟩
  | 101 => ⟨S512, .f32⟩
  | 102 => ⟨S2048x512, .f32⟩
  | 103 => ⟨S1x512, .f32⟩
  | 104 => ⟨S2048x512, .f32⟩
  | 105 => ⟨S2048x512, .f32⟩
  | 106 => ⟨S2048x512, .f32⟩
  | 107 => ⟨S1x512, .f32⟩
  | 108 => ⟨S512, .f32⟩
  | 109 => ⟨S2048x512, .f32⟩
  | 110 => ⟨S1x512, .f32⟩
  | 111 => ⟨S2048x512, .f32⟩
  | 112 => ⟨S2048x512, .f32⟩
  | 113 => ⟨S2048x512, .f32⟩
  | 114 => ⟨S1x512, .f32⟩
  | 115 => ⟨S512, .f32⟩
  | 116 => ⟨S2048x512, .f32⟩
  | 117 => ⟨S1x512, .f32⟩
  | 118 => ⟨S2048x512, .f32⟩
  | 119 => ⟨S2048x512, .f32⟩
  | 120 => ⟨S2048x512, .f32⟩
  | 121 => ⟨S1x512, .f32⟩
  | 122 => ⟨S512, .f32⟩
  | 123 => ⟨S2048x512, .f32⟩
  | 124 => ⟨S1x512, .f32⟩
  | 125 => ⟨S2048x512, .f32⟩
  | 126 => ⟨S2048x512, .f32⟩
  | 127 => ⟨S2048x512, .f32⟩
  | _ => ⟨S2048x3584, .f32⟩

abbrev hbmTy0_1 (i : Nat) : BufTy := match i % 128 with
  | 0 => ⟨S1x512, .f32⟩
  | 1 => ⟨S512, .f32⟩
  | 2 => ⟨S2048x512, .f32⟩
  | 3 => ⟨S1x512, .f32⟩
  | 4 => ⟨S2048x512, .f32⟩
  | 5 => ⟨S2048x512, .f32⟩
  | 6 => ⟨S2048x512, .f32⟩
  | 7 => ⟨S1x512, .f32⟩
  | 8 => ⟨S512, .f32⟩
  | 9 => ⟨S2048x512, .f32⟩
  | 10 => ⟨S1x512, .f32⟩
  | 11 => ⟨S2048x512, .f32⟩
  | 12 => ⟨S2048x512, .f32⟩
  | 13 => ⟨S2048x512, .f32⟩
  | 14 => ⟨S1x512, .f32⟩
  | 15 => ⟨S512, .f32⟩
  | 16 => ⟨S2048x512, .f32⟩
  | 17 => ⟨S1x512, .f32⟩
  | 18 => ⟨S2048x512, .f32⟩
  | 19 => ⟨S2048x512, .f32⟩
  | 20 => ⟨S2048x512, .f32⟩
  | 21 => ⟨S1x512, .f32⟩
  | 22 => ⟨S512, .f32⟩
  | 23 => ⟨S2048x512, .f32⟩
  | 24 => ⟨S1x512, .f32⟩
  | 25 => ⟨S2048x512, .f32⟩
  | 26 => ⟨S2048x512, .f32⟩
  | 27 => ⟨S2048x512, .f32⟩
  | 28 => ⟨S1x512, .f32⟩
  | 29 => ⟨S512, .f32⟩
  | 30 => ⟨S2048x512, .f32⟩
  | 31 => ⟨S1x512, .f32⟩
  | 32 => ⟨S2048x512, .f32⟩
  | 33 => ⟨S2048x512, .f32⟩
  | 34 => ⟨S2048x512, .f32⟩
  | 35 => ⟨S1x512, .f32⟩
  | 36 => ⟨S512, .f32⟩
  | 37 => ⟨S2048x512, .f32⟩
  | 38 => ⟨S1x512, .f32⟩
  | 39 => ⟨S2048x512, .f32⟩
  | 40 => ⟨S2048x512, .f32⟩
  | 41 => ⟨S2048x512, .f32⟩
  | 42 => ⟨S1x512, .f32⟩
  | 43 => ⟨S512, .f32⟩
  | 44 => ⟨S2048x512, .f32⟩
  | 45 => ⟨S1x512, .f32⟩
  | 46 => ⟨S2048x512, .f32⟩
  | 47 => ⟨S2048x512, .f32⟩
  | 48 => ⟨S2048x512, .f32⟩
  | 49 => ⟨S1x512, .f32⟩
  | 50 => ⟨S512, .f32⟩
  | 51 => ⟨S2048x512, .f32⟩
  | 52 => ⟨S1x512, .f32⟩
  | 53 => ⟨S2048x512, .f32⟩
  | 54 => ⟨S2048x512, .f32⟩
  | 55 => ⟨S2048x512, .f32⟩
  | 56 => ⟨S1x512, .f32⟩
  | 57 => ⟨S512, .f32⟩
  | 58 => ⟨S2048x512, .f32⟩
  | 59 => ⟨S1x512, .f32⟩
  | 60 => ⟨S2048x512, .f32⟩
  | 61 => ⟨S2048x512, .f32⟩
  | 62 => ⟨S2048x512, .f32⟩
  | 63 => ⟨S1x512, .f32⟩
  | 64 => ⟨S512, .f32⟩
  | 65 => ⟨S2048x512, .f32⟩
  | 66 => ⟨S1x512, .f32⟩
  | 67 => ⟨S2048x512, .f32⟩
  | 68 => ⟨S2048x512, .f32⟩
  | 69 => ⟨S2048x512, .f32⟩
  | 70 => ⟨S1x512, .f32⟩
  | 71 => ⟨S512, .f32⟩
  | 72 => ⟨S2048x512, .f32⟩
  | 73 => ⟨S1x512, .f32⟩
  | 74 => ⟨S2048x512, .f32⟩
  | 75 => ⟨S2048x512, .f32⟩
  | 76 => ⟨S2048x512, .f32⟩
  | 77 => ⟨S1x512, .f32⟩
  | 78 => ⟨S512, .f32⟩
  | 79 => ⟨S2048x512, .f32⟩
  | 80 => ⟨S1x512, .f32⟩
  | 81 => ⟨S2048x512, .f32⟩
  | 82 => ⟨S2048x512, .f32⟩
  | 83 => ⟨S2048x512, .f32⟩
  | 84 => ⟨S1x512, .f32⟩
  | 85 => ⟨S512, .f32⟩
  | 86 => ⟨S2048x512, .f32⟩
  | 87 => ⟨S1x512, .f32⟩
  | 88 => ⟨S2048x512, .f32⟩
  | 89 => ⟨S2048x512, .f32⟩
  | 90 => ⟨S2048x512, .f32⟩
  | 91 => ⟨S1x512, .f32⟩
  | 92 => ⟨S512, .f32⟩
  | 93 => ⟨S2048x512, .f32⟩
  | 94 => ⟨S1x512, .f32⟩
  | 95 => ⟨S2048x512, .f32⟩
  | 96 => ⟨S2048x512, .f32⟩
  | 97 => ⟨S2048x512, .f32⟩
  | 98 => ⟨S1x512, .f32⟩
  | 99 => ⟨S512, .f32⟩
  | 100 => ⟨S2048x512, .f32⟩
  | 101 => ⟨S1x512, .f32⟩
  | 102 => ⟨S2048x512, .f32⟩
  | 103 => ⟨S2048x512, .f32⟩
  | 104 => ⟨S2048x512, .f32⟩
  | 105 => ⟨S2048x512, .f32⟩
  | 106 => ⟨S2048x512, .f32⟩
  | _ => ⟨S2048x3584, .f32⟩

abbrev hbmTy (i : Nat) : BufTy := match i / 128 with
  | 0 => hbmTy0_0 i
  | 1 => hbmTy0_1 i
  | _ => ⟨S2048x3584, .f32⟩

abbrev bufTy : (tb : Table) → Fin (tcTables nBuf tb) → BufTy
  | .hbm, ⟨i, _⟩ => hbmTy i
  | _, _ => ⟨S2048x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_v74 : Ref sig .tc := ⟨.hbm, 80, rfl⟩
abbrev main_v75 : Ref sig .tc := ⟨.hbm, 81, rfl⟩
abbrev main_v76 : Ref sig .tc := ⟨.hbm, 82, rfl⟩
abbrev main_v77 : Ref sig .tc := ⟨.hbm, 83, rfl⟩
abbrev main_v78 : Ref sig .tc := ⟨.hbm, 84, rfl⟩
abbrev main_v79 : Ref sig .tc := ⟨.hbm, 85, rfl⟩
abbrev main_v80 : Ref sig .tc := ⟨.hbm, 86, rfl⟩
abbrev main_v81 : Ref sig .tc := ⟨.hbm, 87, rfl⟩
abbrev main_v82 : Ref sig .tc := ⟨.hbm, 88, rfl⟩
abbrev main_v83 : Ref sig .tc := ⟨.hbm, 89, rfl⟩
abbrev main_v84 : Ref sig .tc := ⟨.hbm, 90, rfl⟩
abbrev main_v85 : Ref sig .tc := ⟨.hbm, 91, rfl⟩
abbrev main_v86 : Ref sig .tc := ⟨.hbm, 92, rfl⟩
abbrev main_v87 : Ref sig .tc := ⟨.hbm, 93, rfl⟩
abbrev main_v88 : Ref sig .tc := ⟨.hbm, 94, rfl⟩
abbrev main_v89 : Ref sig .tc := ⟨.hbm, 95, rfl⟩
abbrev main_v90 : Ref sig .tc := ⟨.hbm, 96, rfl⟩
abbrev main_v91 : Ref sig .tc := ⟨.hbm, 97, rfl⟩
abbrev main_v92 : Ref sig .tc := ⟨.hbm, 98, rfl⟩
abbrev main_v93 : Ref sig .tc := ⟨.hbm, 99, rfl⟩
abbrev main_v94 : Ref sig .tc := ⟨.hbm, 100, rfl⟩
abbrev main_v95 : Ref sig .tc := ⟨.hbm, 101, rfl⟩
abbrev main_v96 : Ref sig .tc := ⟨.hbm, 102, rfl⟩
abbrev main_v97 : Ref sig .tc := ⟨.hbm, 103, rfl⟩
abbrev main_v98 : Ref sig .tc := ⟨.hbm, 104, rfl⟩
abbrev main_v99 : Ref sig .tc := ⟨.hbm, 105, rfl⟩
abbrev main_v100 : Ref sig .tc := ⟨.hbm, 106, rfl⟩
abbrev main_v101 : Ref sig .tc := ⟨.hbm, 107, rfl⟩
abbrev main_v102 : Ref sig .tc := ⟨.hbm, 108, rfl⟩
abbrev main_v103 : Ref sig .tc := ⟨.hbm, 109, rfl⟩
abbrev main_v104 : Ref sig .tc := ⟨.hbm, 110, rfl⟩
abbrev main_v105 : Ref sig .tc := ⟨.hbm, 111, rfl⟩
abbrev main_v106 : Ref sig .tc := ⟨.hbm, 112, rfl⟩
abbrev main_v107 : Ref sig .tc := ⟨.hbm, 113, rfl⟩
abbrev main_v108 : Ref sig .tc := ⟨.hbm, 114, rfl⟩
abbrev main_v109 : Ref sig .tc := ⟨.hbm, 115, rfl⟩
abbrev main_v110 : Ref sig .tc := ⟨.hbm, 116, rfl⟩
abbrev main_v111 : Ref sig .tc := ⟨.hbm, 117, rfl⟩
abbrev main_v112 : Ref sig .tc := ⟨.hbm, 118, rfl⟩
abbrev main_v113 : Ref sig .tc := ⟨.hbm, 119, rfl⟩
abbrev main_v114 : Ref sig .tc := ⟨.hbm, 120, rfl⟩
abbrev main_v115 : Ref sig .tc := ⟨.hbm, 121, rfl⟩
abbrev main_v116 : Ref sig .tc := ⟨.hbm, 122, rfl⟩
abbrev main_v117 : Ref sig .tc := ⟨.hbm, 123, rfl⟩
abbrev main_v118 : Ref sig .tc := ⟨.hbm, 124, rfl⟩
abbrev main_v119 : Ref sig .tc := ⟨.hbm, 125, rfl⟩
abbrev main_v120 : Ref sig .tc := ⟨.hbm, 126, rfl⟩
abbrev main_v121 : Ref sig .tc := ⟨.hbm, 127, rfl⟩
abbrev main_v122 : Ref sig .tc := ⟨.hbm, 128, rfl⟩
abbrev main_v123 : Ref sig .tc := ⟨.hbm, 129, rfl⟩
abbrev main_v124 : Ref sig .tc := ⟨.hbm, 130, rfl⟩
abbrev main_v125 : Ref sig .tc := ⟨.hbm, 131, rfl⟩
abbrev main_v126 : Ref sig .tc := ⟨.hbm, 132, rfl⟩
abbrev main_v127 : Ref sig .tc := ⟨.hbm, 133, rfl⟩
abbrev main_v128 : Ref sig .tc := ⟨.hbm, 134, rfl⟩
abbrev main_v129 : Ref sig .tc := ⟨.hbm, 135, rfl⟩
abbrev main_v130 : Ref sig .tc := ⟨.hbm, 136, rfl⟩
abbrev main_v131 : Ref sig .tc := ⟨.hbm, 137, rfl⟩
abbrev main_v132 : Ref sig .tc := ⟨.hbm, 138, rfl⟩
abbrev main_v133 : Ref sig .tc := ⟨.hbm, 139, rfl⟩
abbrev main_v134 : Ref sig .tc := ⟨.hbm, 140, rfl⟩
abbrev main_v135 : Ref sig .tc := ⟨.hbm, 141, rfl⟩
abbrev main_v136 : Ref sig .tc := ⟨.hbm, 142, rfl⟩
abbrev main_v137 : Ref sig .tc := ⟨.hbm, 143, rfl⟩
abbrev main_v138 : Ref sig .tc := ⟨.hbm, 144, rfl⟩
abbrev main_v139 : Ref sig .tc := ⟨.hbm, 145, rfl⟩
abbrev main_v140 : Ref sig .tc := ⟨.hbm, 146, rfl⟩
abbrev main_v141 : Ref sig .tc := ⟨.hbm, 147, rfl⟩
abbrev main_v142 : Ref sig .tc := ⟨.hbm, 148, rfl⟩
abbrev main_v143 : Ref sig .tc := ⟨.hbm, 149, rfl⟩
abbrev main_v144 : Ref sig .tc := ⟨.hbm, 150, rfl⟩
abbrev main_v145 : Ref sig .tc := ⟨.hbm, 151, rfl⟩
abbrev main_v146 : Ref sig .tc := ⟨.hbm, 152, rfl⟩
abbrev main_v147 : Ref sig .tc := ⟨.hbm, 153, rfl⟩
abbrev main_v148 : Ref sig .tc := ⟨.hbm, 154, rfl⟩
abbrev main_v149 : Ref sig .tc := ⟨.hbm, 155, rfl⟩
abbrev main_v150 : Ref sig .tc := ⟨.hbm, 156, rfl⟩
abbrev main_v151 : Ref sig .tc := ⟨.hbm, 157, rfl⟩
abbrev main_v152 : Ref sig .tc := ⟨.hbm, 158, rfl⟩
abbrev main_v153 : Ref sig .tc := ⟨.hbm, 159, rfl⟩
abbrev main_v154 : Ref sig .tc := ⟨.hbm, 160, rfl⟩
abbrev main_v155 : Ref sig .tc := ⟨.hbm, 161, rfl⟩
abbrev main_v156 : Ref sig .tc := ⟨.hbm, 162, rfl⟩
abbrev main_v157 : Ref sig .tc := ⟨.hbm, 163, rfl⟩
abbrev main_v158 : Ref sig .tc := ⟨.hbm, 164, rfl⟩
abbrev main_v159 : Ref sig .tc := ⟨.hbm, 165, rfl⟩
abbrev main_v160 : Ref sig .tc := ⟨.hbm, 166, rfl⟩
abbrev main_v161 : Ref sig .tc := ⟨.hbm, 167, rfl⟩
abbrev main_v162 : Ref sig .tc := ⟨.hbm, 168, rfl⟩
abbrev main_v163 : Ref sig .tc := ⟨.hbm, 169, rfl⟩
abbrev main_v164 : Ref sig .tc := ⟨.hbm, 170, rfl⟩
abbrev main_v165 : Ref sig .tc := ⟨.hbm, 171, rfl⟩
abbrev main_v166 : Ref sig .tc := ⟨.hbm, 172, rfl⟩
abbrev main_v167 : Ref sig .tc := ⟨.hbm, 173, rfl⟩
abbrev main_v168 : Ref sig .tc := ⟨.hbm, 174, rfl⟩
abbrev main_v169 : Ref sig .tc := ⟨.hbm, 175, rfl⟩
abbrev main_v170 : Ref sig .tc := ⟨.hbm, 176, rfl⟩
abbrev main_v171 : Ref sig .tc := ⟨.hbm, 177, rfl⟩
abbrev main_v172 : Ref sig .tc := ⟨.hbm, 178, rfl⟩
abbrev main_v173 : Ref sig .tc := ⟨.hbm, 179, rfl⟩
abbrev main_v174 : Ref sig .tc := ⟨.hbm, 180, rfl⟩
abbrev main_v175 : Ref sig .tc := ⟨.hbm, 181, rfl⟩
abbrev main_v176 : Ref sig .tc := ⟨.hbm, 182, rfl⟩
abbrev main_v177 : Ref sig .tc := ⟨.hbm, 183, rfl⟩
abbrev main_v178 : Ref sig .tc := ⟨.hbm, 184, rfl⟩
abbrev main_v179 : Ref sig .tc := ⟨.hbm, 185, rfl⟩
abbrev main_v180 : Ref sig .tc := ⟨.hbm, 186, rfl⟩
abbrev main_v181 : Ref sig .tc := ⟨.hbm, 187, rfl⟩
abbrev main_v182 : Ref sig .tc := ⟨.hbm, 188, rfl⟩
abbrev main_v183 : Ref sig .tc := ⟨.hbm, 189, rfl⟩
abbrev main_v184 : Ref sig .tc := ⟨.hbm, 190, rfl⟩
abbrev main_v185 : Ref sig .tc := ⟨.hbm, 191, rfl⟩
abbrev main_v186 : Ref sig .tc := ⟨.hbm, 192, rfl⟩
abbrev main_v187 : Ref sig .tc := ⟨.hbm, 193, rfl⟩
abbrev main_v188 : Ref sig .tc := ⟨.hbm, 194, rfl⟩
abbrev main_v189 : Ref sig .tc := ⟨.hbm, 195, rfl⟩
abbrev main_v190 : Ref sig .tc := ⟨.hbm, 196, rfl⟩
abbrev main_v191 : Ref sig .tc := ⟨.hbm, 197, rfl⟩
abbrev main_v192 : Ref sig .tc := ⟨.hbm, 198, rfl⟩
abbrev main_v193 : Ref sig .tc := ⟨.hbm, 199, rfl⟩
abbrev main_v194 : Ref sig .tc := ⟨.hbm, 200, rfl⟩
abbrev main_v195 : Ref sig .tc := ⟨.hbm, 201, rfl⟩
abbrev main_v196 : Ref sig .tc := ⟨.hbm, 202, rfl⟩
abbrev main_v197 : Ref sig .tc := ⟨.hbm, 203, rfl⟩
abbrev main_v198 : Ref sig .tc := ⟨.hbm, 204, rfl⟩
abbrev main_v199 : Ref sig .tc := ⟨.hbm, 205, rfl⟩
abbrev main_v200 : Ref sig .tc := ⟨.hbm, 206, rfl⟩
abbrev main_v201 : Ref sig .tc := ⟨.hbm, 207, rfl⟩
abbrev main_v202 : Ref sig .tc := ⟨.hbm, 208, rfl⟩
abbrev main_v203 : Ref sig .tc := ⟨.hbm, 209, rfl⟩
abbrev main_v204 : Ref sig .tc := ⟨.hbm, 210, rfl⟩
abbrev main_v205 : Ref sig .tc := ⟨.hbm, 211, rfl⟩
abbrev main_v206 : Ref sig .tc := ⟨.hbm, 212, rfl⟩
abbrev main_v207 : Ref sig .tc := ⟨.hbm, 213, rfl⟩
abbrev main_v208 : Ref sig .tc := ⟨.hbm, 214, rfl⟩
abbrev main_v209 : Ref sig .tc := ⟨.hbm, 215, rfl⟩
abbrev main_v210 : Ref sig .tc := ⟨.hbm, 216, rfl⟩
abbrev main_v211 : Ref sig .tc := ⟨.hbm, 217, rfl⟩
abbrev main_v212 : Ref sig .tc := ⟨.hbm, 218, rfl⟩
abbrev main_v213 : Ref sig .tc := ⟨.hbm, 219, rfl⟩
abbrev main_v214 : Ref sig .tc := ⟨.hbm, 220, rfl⟩
abbrev main_v215 : Ref sig .tc := ⟨.hbm, 221, rfl⟩
abbrev main_v216 : Ref sig .tc := ⟨.hbm, 222, rfl⟩
abbrev main_v217 : Ref sig .tc := ⟨.hbm, 223, rfl⟩
abbrev main_v218 : Ref sig .tc := ⟨.hbm, 224, rfl⟩
abbrev main_v219 : Ref sig .tc := ⟨.hbm, 225, rfl⟩
abbrev main_v220 : Ref sig .tc := ⟨.hbm, 226, rfl⟩
abbrev main_v221 : Ref sig .tc := ⟨.hbm, 227, rfl⟩
abbrev main_v222 : Ref sig .tc := ⟨.hbm, 228, rfl⟩
abbrev main_v223 : Ref sig .tc := ⟨.hbm, 229, rfl⟩
abbrev main_v224 : Ref sig .tc := ⟨.hbm, 230, rfl⟩
abbrev main_v225 : Ref sig .tc := ⟨.hbm, 231, rfl⟩
abbrev main_v226 : Ref sig .tc := ⟨.hbm, 232, rfl⟩
abbrev main_v227 : Ref sig .tc := ⟨.hbm, 233, rfl⟩
abbrev main_v228 : Ref sig .tc := ⟨.hbm, 234, rfl⟩

abbrev nD : Nat := 1
abbrev τ : Topo := Topo.v7x

variable {F : FTy → Type} [FloatOps F]
-- ==== SwishFwd.lean ====
abbrev S2048x512 : Shape := ⟨2, ![2048, 512]⟩
abbrev S1x512 : Shape := ⟨2, ![1, 512]⟩
abbrev S256x512 : Shape := ⟨2, ![256, 512]⟩
abbrev S256 : Shape := ⟨1, ![256]⟩
abbrev S256x1 : Shape := ⟨2, ![256, 1]⟩

abbrev nBuf : Space → Nat
  | .hbm => 4
  | .vmem => 6
  | .smem => 0
  | _ => 0

abbrev bufTy : (tb : Table) → Fin (tcTables nBuf tb) → BufTy
  | .hbm, ⟨0, _⟩ => ⟨S2048x512, .f32⟩
  | .hbm, ⟨1, _⟩ => ⟨S1x512, .f32⟩
  | .hbm, ⟨2, _⟩ => ⟨S1x512, .f32⟩
  | .hbm, ⟨3, _⟩ => ⟨S2048x512, .bf16⟩
  | .local _ .vmem, ⟨0, _⟩ => ⟨S256x512, .f32⟩
  | .local _ .vmem, ⟨1, _⟩ => ⟨S256x512, .f32⟩
  | .local _ .vmem, ⟨2, _⟩ => ⟨S1x512, .f32⟩
  | .local _ .vmem, ⟨3, _⟩ => ⟨S1x512, .f32⟩
  | .local _ .vmem, ⟨4, _⟩ => ⟨S256x512, .bf16⟩
  | .local _ .vmem, ⟨5, _⟩ => ⟨S256x512, .bf16⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== SwishFwdRefIdeal.lean ====
abbrev S2048x512 : Shape := ⟨2, ![2048, 512]⟩
abbrev S1x512 : Shape := ⟨2, ![1, 512]⟩
abbrev S_ : Shape := ⟨0, ![]⟩
abbrev S2048 : Shape := ⟨1, ![2048]⟩
abbrev S2048x1 : Shape := ⟨2, ![2048, 1]⟩

abbrev nBuf : Space → Nat
  | .hbm => 40
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S1x512, .f32⟩
  | .hbm, ⟨2, _⟩ => ⟨S1x512, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S2048x512, .f32⟩
  | .hbm, ⟨10, _⟩ => ⟨S2048x512, .f32⟩
  | .hbm, ⟨11, _⟩ => ⟨S2048x512, .f32⟩
  | .hbm, ⟨12, _⟩ => ⟨S_, .f32⟩
  | .hbm, ⟨13, _⟩ => ⟨S2048, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x512, .f32⟩
  | .hbm, ⟨19, _⟩ => ⟨S2048x512, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S2048x1, .f32⟩
  | .hbm, ⟨24, _⟩ => ⟨S2048x512, .f32⟩
  | .hbm, ⟨25, _⟩ => ⟨S2048x512, .f32⟩
  | .hbm, ⟨26, _⟩ => ⟨S2048x512, .f32⟩
  | .hbm, ⟨27, _⟩ => ⟨S2048x512, .f32⟩
  | .hbm, ⟨28, _⟩ => ⟨S2048x512, .f32⟩
  | .hbm, ⟨29, _⟩ => ⟨S2048x512, .f32⟩
  | .hbm, ⟨30, _⟩ => ⟨S2048x512, .f32⟩
  | .hbm, ⟨31, _⟩ => ⟨S2048x512, .f32⟩
  | .hbm, ⟨32, _⟩ => ⟨S_, .f32⟩
  | .hbm, ⟨33, _⟩ => ⟨S2048x512, .f32⟩
  | .hbm, ⟨34, _⟩ => ⟨S2048x512, .f32⟩
  | .hbm, ⟨35, _⟩ => ⟨S_, .f32⟩
  | .hbm, ⟨36, _⟩ => ⟨S2048x512, .f32⟩
  | .hbm, ⟨37, _⟩ => ⟨S2048x512, .f32⟩
  | .hbm, ⟨38, _⟩ => ⟨S2048x512, .f32⟩
  | .hbm, ⟨39, _⟩ => ⟨S2048x512, .bf16⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v22 : Ref sig .tc := ⟨.hbm, 38, rfl⟩
abbrev main_v23 : Ref sig .tc := ⟨.hbm, 39, rfl⟩

abbrev nD : Nat := 1
abbrev τ : Topo := Topo.v7x

variable {F : FTy → Type} [FloatOps F]
-- ==== NormFirstFwd.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormFirstFwdRefIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 18
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== NormMemFwd.lean ====
abbrev S256x2048 : Shape := ⟨2, ![256, 2048]⟩
abbrev S1x2048 : Shape := ⟨2, ![1, 2048]⟩
abbrev S256 : Shape := ⟨1, ![256]⟩
abbrev S256x1 : Shape := ⟨2, ![256, 1]⟩

abbrev nBuf : Space → Nat
  | .hbm => 3
  | .vmem => 3
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S256x2048, .bf16⟩
  | .local _ .vmem, ⟨0, _⟩ => ⟨S256x2048, .f32⟩
  | .local _ .vmem, ⟨1, _⟩ => ⟨S1x2048, .f32⟩
  | .local _ .vmem, ⟨2, _⟩ => ⟨S256x2048, .bf16⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== NormMemFwdRefIdeal.lean ====
abbrev S256x2048 : Shape := ⟨2, ![256, 2048]⟩
abbrev S1x2048 : Shape := ⟨2, ![1, 2048]⟩
abbrev S_ : Shape := ⟨0, ![]⟩
abbrev S256 : Shape := ⟨1, ![256]⟩
abbrev S256x1 : Shape := ⟨2, ![256, 1]⟩

abbrev nBuf : Space → Nat
  | .hbm => 18
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S256x2048, .f32⟩
  | .hbm, ⟨3, _⟩ => ⟨S_, .f32⟩
  | .hbm, ⟨4, _⟩ => ⟨S256, .f32⟩
  | .hbm, ⟨5, _⟩ => ⟨S256x1, .f32⟩
  | .hbm, ⟨6, _⟩ => ⟨S_, .f32⟩
  | .hbm, ⟨7, _⟩ => ⟨S256x1, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S256x1, .f32⟩
  | .hbm, ⟨13, _⟩ => ⟨S256x2048, .f32⟩
  | .hbm, ⟨14, _⟩ => ⟨S256x2048, .f32⟩
  | .hbm, ⟨15, _⟩ => ⟨S256x2048, .f32⟩
  | .hbm, ⟨16, _⟩ => ⟨S256x2048, .f32⟩
  | .hbm, ⟨17, _⟩ => ⟨S256x2048, .bf16⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== NormMidFwd.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 6
  | .vmem => 10
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S1x2048, .f32⟩
  | .hbm, ⟨4, _⟩ => ⟨S2048x2048, .f32⟩
  | .hbm, ⟨5, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== NormMidFwdRefIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 36
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S1x2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S2048x2048, .f32⟩
  | .hbm, ⟨21, _⟩ => ⟨S_, .f32⟩
  | .hbm, ⟨22, _⟩ => ⟨S2048, .f32⟩
  | .hbm, ⟨23, _⟩ => ⟨S2048x1, .f32⟩
  | .hbm, ⟨24, _⟩ => ⟨S_, .f32⟩
  | .hbm, ⟨25, _⟩ => ⟨S2048x1, .f32⟩
  | .hbm, ⟨26, _⟩ => ⟨S2048x1, .f32⟩
  | .hbm, ⟨27, _⟩ => ⟨S_, .f32⟩
  | .hbm, ⟨28, _⟩ => ⟨S2048x1, .f32⟩
  | .hbm, ⟨29, _⟩ => ⟨S2048x1, .f32⟩
  | .hbm, ⟨30, _⟩ => ⟨S2048x1, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S2048x2048, .f32⟩
  | .hbm, ⟨35, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== NormLastFwd.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 4
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S2048x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== NormLastFwdRefIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 19
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S2048x2048, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== UpFwd.lean ====
abbrev S2048x2048 : Shape := ⟨2, ![2048, 2048]⟩
abbrev S2048x8192 : Shape := ⟨2, ![2048, 8192]⟩
abbrev S2048x4x2048 : Shape := ⟨3, ![2048, 4, 2048]⟩
abbrev S4x2048x2048 : Shape := ⟨3, ![4, 2048, 2048]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 6
  | .vmem => 8
  | .smem => 0
  | _ => 0

abbrev bufTy : (tb : Table) → Fin (tcTables nBuf tb) → BufTy
  | .hbm, ⟨0, _⟩ => ⟨S2048x2048, .bf16⟩
  | .hbm, ⟨1, _⟩ => ⟨S2048x8192, .bf16⟩
  | .hbm, ⟨2, _⟩ => ⟨S2048x4x2048, .bf16⟩
  | .hbm, ⟨3, _⟩ => ⟨S4x2048x2048, .bf16⟩
  | .hbm, ⟨4, _⟩ => ⟨S2048x8192, .bf16⟩
  | .hbm, ⟨5, _⟩ => ⟨S2048x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== UpFwdRefIdeal.lean ====
abbrev S2048x2048 : Shape := ⟨2, ![2048, 2048]⟩
abbrev S2048x8192 : Shape := ⟨2, ![2048, 8192]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x8192, .bf16⟩
  | .hbm, ⟨2, _⟩ => ⟨S2048x2048, .f32⟩
  | .hbm, ⟨3, _⟩ => ⟨S2048x8192, .f32⟩
  | .hbm, ⟨4, _⟩ => ⟨S2048x8192, .f32⟩
  | .hbm, ⟨5, _⟩ => ⟨S2048x8192, .bf16⟩
  | .hbm, ⟨6, _⟩ => ⟨S_, .f32⟩
  | .hbm, ⟨7, _⟩ => ⟨S2048x8192, .f32⟩
  | .hbm, ⟨8, _⟩ => ⟨S2048x8192, .f32⟩
  | .hbm, ⟨9, _⟩ => ⟨S2048x8192, .f32⟩
  | .hbm, ⟨10, _⟩ => ⟨S2048x8192, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_cst : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== DownFwd.lean ====
abbrev S2048x8192 : Shape := ⟨2, ![2048, 8192]⟩
abbrev S8192x2048 : Shape := ⟨2, ![8192, 2048]⟩
abbrev S2048x2048 : Shape := ⟨2, ![2048, 2048]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x8192, .bf16⟩
  | .hbm, ⟨1, _⟩ => ⟨S8192x2048, .bf16⟩
  | .hbm, ⟨2, _⟩ => ⟨S2048x2048, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownFwdRefIdeal.lean ====
abbrev S2048x8192 : Shape := ⟨2, ![2048, 8192]⟩
abbrev S8192x2048 : Shape := ⟨2, ![8192, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S8192x2048, .bf16⟩
  | .hbm, ⟨2, _⟩ => ⟨S2048x8192, .f32⟩
  | .hbm, ⟨3, _⟩ => ⟨S8192x2048, .f32⟩
  | .hbm, ⟨4, _⟩ => ⟨S2048x2048, .f32⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== InFwd.lean ====
abbrev S2048x2048 : Shape := ⟨2, ![2048, 2048]⟩
abbrev S2048x3584 : Shape := ⟨2, ![2048, 3584]⟩
abbrev S2048x4x896 : Shape := ⟨3, ![2048, 4, 896]⟩
abbrev S4x2048x896 : Shape := ⟨3, ![4, 2048, 896]⟩
abbrev S1024x2048 : Shape := ⟨2, ![1024, 2048]⟩
abbrev S1x2048x896 : Shape := ⟨3, ![1, 2048, 896]⟩
abbrev S1024x896 : Shape := ⟨2, ![1024, 896]⟩
abbrev S2048x896 : Shape := ⟨2, ![2048, 896]⟩

abbrev nBuf : Space → Nat
  | .hbm => 5
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x3584, .bf16⟩
  | .hbm, ⟨2, _⟩ => ⟨S2048x4x896, .bf16⟩
  | .hbm, ⟨3, _⟩ => ⟨S4x2048x896, .bf16⟩
  | .hbm, ⟨4, _⟩ => ⟨S2048x3584, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x896, .bf16⟩
  | .local _ .vmem, ⟨3, _⟩ => ⟨S1x2048x896, .bf16⟩
  | .local _ .vmem, ⟨4, _⟩ => ⟨S1024x896, .f32⟩
  | .local _ .vmem, ⟨5, _⟩ => ⟨S1024x896, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InFwdRefIdeal.lean ====
abbrev S2048x2048 : Shape := ⟨2, ![2048, 2048]⟩
abbrev S2048x3584 : Shape := ⟨2, ![2048, 3584]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x3584, .bf16⟩
  | .hbm, ⟨2, _⟩ => ⟨S2048x2048, .f32⟩
  | .hbm, ⟨3, _⟩ => ⟨S2048x3584, .f32⟩
  | .hbm, ⟨4, _⟩ => ⟨S2048x3584, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== OutDx.lean ====
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDxRefIdeal.lean ====
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== UpDx.lean ====
abbrev S2048x8192 : Shape := ⟨2, ![2048, 8192]⟩
abbrev S2048x4x2048 : Shape := ⟨3, ![2048, 4, 2048]⟩
abbrev S4x2048x2048 : Shape := ⟨3, ![4, 2048, 2048]⟩
abbrev S2048x2048 : Shape := ⟨2, ![2048, 2048]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S2048x8192, .bf16⟩
  | .hbm, ⟨1, _⟩ => ⟨S2048x8192, .bf16⟩
  | .hbm, ⟨2, _⟩ => ⟨S2048x4x2048, .bf16⟩
  | .hbm, ⟨3, _⟩ => ⟨S4x2048x2048, .bf16⟩
  | .hbm, ⟨4, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32_7 : BitVec 32 := 3#32
  let v12 : BitVec 1 := Scalar.cmpi .eq arg2 c3_i32_7
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDxRefIdeal.lean ====
abbrev S2048x8192 : Shape := ⟨2, ![2048, 8192]⟩
abbrev S_ : Shape := ⟨0, ![]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S2048x8192, .bf16⟩
  | .hbm, ⟨2, _⟩ => ⟨S_, .f32⟩
  | .hbm, ⟨3, _⟩ => ⟨S2048x2048, .f32⟩
  | .hbm, ⟨4, _⟩ => ⟨S2048x8192, .f32⟩
  | .hbm, ⟨5, _⟩ => ⟨S2048x8192, .f32⟩
  | .hbm, ⟨6, _⟩ => ⟨S2048x8192, .f32⟩
  | .hbm, ⟨7, _⟩ => ⟨S2048x2048, .f32⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DownDw.lean ====
abbrev S2048x8192 : Shape := ⟨2, ![2048, 8192]⟩
abbrev S2048x2048 : Shape := ⟨2, ![2048, 2048]⟩
abbrev S8192x2048 : Shape := ⟨2, ![8192, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x8192, .bf16⟩
  | .hbm, ⟨1, _⟩ => ⟨S2048x2048, .bf16⟩
  | .hbm, ⟨2, _⟩ => ⟨S8192x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwRefIdeal.lean ====
abbrev S2048x8192 : Shape := ⟨2, ![2048, 8192]⟩
abbrev S2048x2048 : Shape := ⟨2, ![2048, 2048]⟩
abbrev S_ : Shape := ⟨0, ![]⟩
abbrev S8192x2048 : Shape := ⟨2, ![8192, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S2048x2048, .bf16⟩
  | .hbm, ⟨2, _⟩ => ⟨S_, .f32⟩
  | .hbm, ⟨3, _⟩ => ⟨S8192x2048, .f32⟩
  | .hbm, ⟨4, _⟩ => ⟨S2048x8192, .f32⟩
  | .hbm, ⟨5, _⟩ => ⟨S2048x2048, .f32⟩
  | .hbm, ⟨6, _⟩ => ⟨S2048x2048, .f32⟩
  | .hbm, ⟨7, _⟩ => ⟨S2048x8192, .f32⟩
  | .hbm, ⟨8, _⟩ => ⟨S8192x2048, .f32⟩
  | .hbm, ⟨9, _⟩ => ⟨S8192x2048, .bf16⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== UpDw.lean ====
abbrev S2048x2048 : Shape := ⟨2, ![2048, 2048]⟩
abbrev S2048x8192 : Shape := ⟨2, ![2048, 8192]⟩
abbrev S4x2048x2048 : Shape := ⟨3, ![4, 2048, 2048]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x8192, .bf16⟩
  | .hbm, ⟨2, _⟩ => ⟨S4x2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwRefIdeal.lean ====
abbrev S2048x2048 : Shape := ⟨2, ![2048, 2048]⟩
abbrev S2048x8192 : Shape := ⟨2, ![2048, 8192]⟩
abbrev S_ : Shape := ⟨0, ![]⟩
abbrev S8192x2048 : Shape := ⟨2, ![8192, 2048]⟩
abbrev S2048x4x2048 : Shape := ⟨3, ![2048, 4, 2048]⟩
abbrev S4x2048x2048 : Shape := ⟨3, ![4, 2048, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x8192, .bf16⟩
  | .hbm, ⟨2, _⟩ => ⟨S_, .f32⟩
  | .hbm, ⟨3, _⟩ => ⟨S2048x8192, .f32⟩
  | .hbm, ⟨4, _⟩ => ⟨S2048x2048, .f32⟩
  | .hbm, ⟨5, _⟩ => ⟨S2048x8192, .f32⟩
  | .hbm, ⟨6, _⟩ => ⟨S2048x8192, .f32⟩
  | .hbm, ⟨7, _⟩ => ⟨S8192x2048, .f32⟩
  | .hbm, ⟨8, _⟩ => ⟨S2048x8192, .f32⟩
  | .hbm, ⟨9, _⟩ => ⟨S2048x8192, .bf16⟩
  | .hbm, ⟨10, _⟩ => ⟨S2048x4x2048, .bf16⟩
  | .hbm, ⟨11, _⟩ => ⟨S4x2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== AdamwUp.lean ====
abbrev S2x2048x2048 : Shape := ⟨3, ![2, 2048, 2048]⟩
abbrev S2048x2048 : Shape := ⟨2, ![2048, 2048]⟩
abbrev S1x256x2048 : Shape := ⟨3, ![1, 256, 2048]⟩
abbrev S256x2048 : Shape := ⟨2, ![256, 2048]⟩

abbrev nBuf : Space → Nat
  | .hbm => 12
  | .vmem => 16
  | .smem => 0
  | _ => 0

abbrev bufTy : (tb : Table) → Fin (tcTables nBuf tb) → BufTy
  | .hbm, ⟨0, _⟩ => ⟨S2x2048x2048, .f32⟩
  | .hbm, ⟨1, _⟩ => ⟨S2048x2048, .f32⟩
  | .hbm, ⟨2, _⟩ => ⟨S2x2048x2048, .f32⟩
  | .hbm, ⟨3, _⟩ => ⟨S2x2048x2048, .f32⟩
  | .hbm, ⟨4, _⟩ => ⟨S2x2048x2048, .f32⟩
  | .hbm, ⟨5, _⟩ => ⟨S2x2048x2048, .f32⟩
  | .hbm, ⟨6, _⟩ => ⟨S2x2048x2048, .f32⟩
  | .hbm, ⟨7, _⟩ => ⟨S2x2048x2048, .f32⟩
  | .hbm, ⟨8, _⟩ => ⟨S2x2048x2048, .f32⟩
  | .hbm, ⟨9, _⟩ => ⟨S2x2048x2048, .f32⟩
  | .hbm, ⟨10, _⟩ => ⟨S2x2048x2048, .f32⟩
  | .hbm, ⟨11, _⟩ => ⟨S2x2048x2048, .f32⟩
  | .local _ .vmem, ⟨0, _⟩ => ⟨S1x256x2048, .f32⟩
  | .local _ .vmem, ⟨1, _⟩ => ⟨S1x256x2048, .f32⟩
  | .local _ .vmem, ⟨2, _⟩ => ⟨S256x2048, .f32⟩
  | .local _ .vmem, ⟨3, _⟩ => ⟨S256x2048, .f32⟩
  | .local _ .vmem, ⟨4, _⟩ => ⟨S1x256x2048, .f32⟩
  | .local _ .vmem, ⟨5, _⟩ => ⟨S1x256x2048, .f32⟩
  | .local _ .vmem, ⟨6, _⟩ => ⟨S1x256x2048, .f32⟩
  | .local _ .vmem, ⟨7, _⟩ => ⟨S1x256x2048, .f32⟩
  | .local _ .vmem, ⟨8, _⟩ => ⟨S1x256x2048, .f32⟩
  | .local _ .vmem, ⟨9, _⟩ => ⟨S1x256x2048, .f32⟩
  | .local _ .vmem, ⟨10, _⟩ => ⟨S1x256x2048, .f32⟩
  | .local _ .vmem, ⟨11, _⟩ => ⟨S1x256x2048, .f32⟩
  | .local _ .vmem, ⟨12, _⟩ => ⟨S1x256x2048, .f32⟩
  | .local _ .vmem, ⟨13, _⟩ => ⟨S1x256x2048, .f32⟩
  | .local _ .vmem, ⟨14, _⟩ => ⟨S1x256x2048, .f32⟩
  | .local _ .vmem, ⟨15, _⟩ => ⟨S1x256x2048, .f32⟩
  | _, _ => ⟨S2x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamwUpRefIdeal.lean ====
abbrev S2x2048x2048 : Shape := ⟨3, ![2, 2048, 2048]⟩
abbrev S2048x2048 : Shape := ⟨2, ![2048, 2048]⟩
abbrev S1x2048x2048 : Shape := ⟨3, ![1, 2048, 2048]⟩
abbrev S_ : Shape := ⟨0, ![]⟩

abbrev nBuf : Space → Nat
  | .hbm => 67
  | .vmem => 0
  | .smem => 0
  | _ => 0

abbrev bufTy : (tb : Table) → Fin (tcTables nBuf tb) → BufTy
  | .hbm, ⟨0, _⟩ => ⟨S2x2048x2048, .f32⟩
  | .hbm, ⟨1, _⟩ => ⟨S2048x2048, .f32⟩
  | .hbm, ⟨2, _⟩ => ⟨S2x2048x2048, .f32⟩
  | .hbm, ⟨3, _⟩ => ⟨S2x2048x2048, .f32⟩
  | .hbm, ⟨4, _⟩ => ⟨S2x2048x2048, .f32⟩
  | .hbm, ⟨5, _⟩ => ⟨S2x2048x2048, .f32⟩
  | .hbm, ⟨6, _⟩ => ⟨S2x2048x2048, .f32⟩
  | .hbm, ⟨7, _⟩ => ⟨S2x2048x2048, .f32⟩
  | .hbm, ⟨8, _⟩ => ⟨S1x2048x2048, .f32⟩
  | .hbm, ⟨9, _⟩ => ⟨S2048x2048, .f32⟩
  | .hbm, ⟨10, _⟩ => ⟨S1x2048x2048, .f32⟩
  | .hbm, ⟨11, _⟩ => ⟨S2048x2048, .f32⟩
  | .hbm, ⟨12, _⟩ => ⟨S1x2048x2048, .f32⟩
  | .hbm, ⟨13, _⟩ => ⟨S2048x2048, .f32⟩
  | .hbm, ⟨14, _⟩ => ⟨S_, .f32⟩
  | .hbm, ⟨15, _⟩ => ⟨S2048x2048, .f32⟩
  | .hbm, ⟨16, _⟩ => ⟨S2048x2048, .f32⟩
  | .hbm, ⟨17, _⟩ => ⟨S_, .f32⟩
  | .hbm, ⟨18, _⟩ => ⟨S2048x2048, .f32⟩
  | .hbm, ⟨19, _⟩ => ⟨S2048x2048, .f32⟩
  | .hbm, ⟨20, _⟩ => ⟨S2048x2048, .f32⟩
  | .hbm, ⟨21, _⟩ => ⟨S_, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S_, .f32⟩
  | .hbm, ⟨26, _⟩ => ⟨S2048x2048, .f32⟩
  | .hbm, ⟨27, _⟩ => ⟨S2048x2048, .f32⟩
  | .hbm, ⟨28, _⟩ => ⟨S2048x2048, .f32⟩
  | .hbm, ⟨29, _⟩ => ⟨S_, .f32⟩
  | .hbm, ⟨30, _⟩ => ⟨S2048x2048, .f32⟩
  | .hbm, ⟨31, _⟩ => ⟨S2048x2048, .f32⟩
  | .hbm, ⟨32, _⟩ => ⟨S_, .f32⟩
  | .hbm, ⟨33, _⟩ => ⟨S2048x2048, .f32⟩
  | .hbm, ⟨34, _⟩ => ⟨S2048x2048, .f32⟩
  | .hbm, ⟨35, _⟩ => ⟨S2048x2048, .f32⟩
  | .hbm, ⟨36, _⟩ => ⟨S_, .f32⟩
  | .hbm, ⟨37, _⟩ => ⟨S2048x2048, .f32⟩
  | .hbm, ⟨38, _⟩ => ⟨S2048x2048, .f32⟩
  | .hbm, ⟨39, _⟩ => ⟨S2048x2048, .f32⟩
  | .hbm, ⟨40, _⟩ => ⟨S_, .f32⟩
  | .hbm, ⟨41, _⟩ => ⟨S2048x2048, .f32⟩
  | .hbm, ⟨42, _⟩ => ⟨S2048x2048, .f32⟩
  | .hbm, ⟨43, _⟩ => ⟨S2048x2048, .f32⟩
  | .hbm, ⟨44, _⟩ => ⟨S_, .f32⟩
  | .hbm, ⟨45, _⟩ => ⟨S2048x2048, .f32⟩
  | .hbm, ⟨46, _⟩ => ⟨S2048x2048, .f32⟩
  | .hbm, ⟨47, _⟩ => ⟨S1x2048x2048, .f32⟩
  | .hbm, ⟨48, _⟩ => ⟨S2048x2048, .f32⟩
  | .hbm, ⟨49, _⟩ => ⟨S1x2048x2048, .f32⟩
  | .hbm, ⟨50, _⟩ => ⟨S1x2048x2048, .f32⟩
  | .hbm, ⟨51, _⟩ => ⟨S2x2048x2048, .f32⟩
  | .hbm, ⟨52, _⟩ => ⟨S1x2048x2048, .f32⟩
  | .hbm, ⟨53, _⟩ => ⟨S2048x2048, .f32⟩
  | .hbm, ⟨54, _⟩ => ⟨S1x2048x2048, .f32⟩
  | .hbm, ⟨55, _⟩ => ⟨S1x2048x2048, .f32⟩
  | .hbm, ⟨56, _⟩ => ⟨S2x2048x2048, .f32⟩
  | .hbm, ⟨57, _⟩ => ⟨S1x2048x2048, .f32⟩
  | .hbm, ⟨58, _⟩ => ⟨S2048x2048, .f32⟩
  | .hbm, ⟨59, _⟩ => ⟨S1x2048x2048, .f32⟩
  | .hbm, ⟨60, _⟩ => ⟨S1x2048x2048, .f32⟩
  | .hbm, ⟨61, _⟩ => ⟨S2x2048x2048, .f32⟩
  | .hbm, ⟨62, _⟩ => ⟨S1x2048x2048, .f32⟩
  | .hbm, ⟨63, _⟩ => ⟨S2048x2048, .f32⟩
  | .hbm, ⟨64, _⟩ => ⟨S1x2048x2048, .f32⟩
  | .hbm, ⟨65, _⟩ => ⟨S1x2048x2048, .f32⟩
  | .hbm, ⟨66, _⟩ => ⟨S2x2048x2048, .f32⟩
  | _, _ => ⟨S2x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_6 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_7 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩

abbrev nD : Nat := 1
abbrev τ : Topo := Topo.v7x

variable {F : FTy → Type} [FloatOps F]
-- ==== AdamwTaps.lean ====
abbrev S2x31x128 : Shape := ⟨3, ![2, 31, 128]⟩
abbrev S62x128 : Shape := ⟨2, ![62, 128]⟩

abbrev nBuf : Space → Nat
  | .hbm => 11
  | .vmem => 7
  | .smem => 0
  | _ => 0

abbrev bufTy : (tb : Table) → Fin (tcTables nBuf tb) → BufTy
  | .hbm, ⟨0, _⟩ => ⟨S2x31x128, .f32⟩
  | .hbm, ⟨1, _⟩ => ⟨S2x31x128, .f32⟩
  | .hbm, ⟨2, _⟩ => ⟨S2x31x128, .f32⟩
  | .hbm, ⟨3, _⟩ => ⟨S2x31x128, .f32⟩
  | .hbm, ⟨4, _⟩ => ⟨S62x128, .f32⟩
  | .hbm, ⟨5, _⟩ => ⟨S62x128, .f32⟩
  | .hbm, ⟨6, _⟩ => ⟨S62x128, .f32⟩
  | .hbm, ⟨7, _⟩ => ⟨S62x128, .f32⟩
  | .hbm, ⟨8, _⟩ => ⟨S62x128, .f32⟩
  | .hbm, ⟨9, _⟩ => ⟨S62x128, .f32⟩
  | .hbm, ⟨10, _⟩ => ⟨S62x128, .f32⟩
  | .local _ .vmem, ⟨0, _⟩ => ⟨S62x128, .f32⟩
  | .local _ .vmem, ⟨1, _⟩ => ⟨S62x128, .f32⟩
  | .local _ .vmem, ⟨2, _⟩ => ⟨S62x128, .f32⟩
  | .local _ .vmem, ⟨3, _⟩ => ⟨S62x128, .f32⟩
  | .local _ .vmem, ⟨4, _⟩ => ⟨S62x128, .f32⟩
  | .local _ .vmem, ⟨5, _⟩ => ⟨S62x128, .f32⟩
  | .local _ .vmem, ⟨6, _⟩ => ⟨S62x128, .f32⟩
  | _, _ => ⟨S2x31x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S62x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S62x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S62x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S62x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S62x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S62x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S62x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamwTapsRefIdeal.lean ====
abbrev S2x31x128 : Shape := ⟨3, ![2, 31, 128]⟩
abbrev S_ : Shape := ⟨0, ![]⟩
abbrev S62x128 : Shape := ⟨2, ![62, 128]⟩

abbrev nBuf : Space → Nat
  | .hbm => 40
  | .vmem => 0
  | .smem => 0
  | _ => 0

abbrev bufTy : (tb : Table) → Fin (tcTables nBuf tb) → BufTy
  | .hbm, ⟨0, _⟩ => ⟨S2x31x128, .f32⟩
  | .hbm, ⟨1, _⟩ => ⟨S2x31x128, .f32⟩
  | .hbm, ⟨2, _⟩ => ⟨S2x31x128, .f32⟩
  | .hbm, ⟨3, _⟩ => ⟨S2x31x128, .f32⟩
  | .hbm, ⟨4, _⟩ => ⟨S_, .f32⟩
  | .hbm, ⟨5, _⟩ => ⟨S2x31x128, .f32⟩
  | .hbm, ⟨6, _⟩ => ⟨S2x31x128, .f32⟩
  | .hbm, ⟨7, _⟩ => ⟨S_, .f32⟩
  | .hbm, ⟨8, _⟩ => ⟨S2x31x128, .f32⟩
  | .hbm, ⟨9, _⟩ => ⟨S2x31x128, .f32⟩
  | .hbm, ⟨10, _⟩ => ⟨S2x31x128, .f32⟩
  | .hbm, ⟨11, _⟩ => ⟨S_, .f32⟩
  | .hbm, ⟨12, _⟩ => ⟨S2x31x128, .f32⟩
  | .hbm, ⟨13, _⟩ => ⟨S2x31x128, .f32⟩
  | .hbm, ⟨14, _⟩ => ⟨S2x31x128, .f32⟩
  | .hbm, ⟨15, _⟩ => ⟨S_, .f32⟩
  | .hbm, ⟨16, _⟩ => ⟨S2x31x128, .f32⟩
  | .hbm, ⟨17, _⟩ => ⟨S2x31x128, .f32⟩
  | .hbm, ⟨18, _⟩ => ⟨S2x31x128, .f32⟩
  | .hbm, ⟨19, _⟩ => ⟨S_, .f32⟩
  | .hbm, ⟨20, _⟩ => ⟨S2x31x128, .f32⟩
  | .hbm, ⟨21, _⟩ => ⟨S2x31x128, .f32⟩
  | .hbm, ⟨22, _⟩ => ⟨S_, .f32⟩
  | .hbm, ⟨23, _⟩ => ⟨S2x31x128, .f32⟩
  | .hbm, ⟨24, _⟩ => ⟨S2x31x128, .f32⟩
  | .hbm, ⟨25, _⟩ => ⟨S2x31x128, .f32⟩
  | .hbm, ⟨26, _⟩ => ⟨S_, .f32⟩
  | .hbm, ⟨27, _⟩ => ⟨S2x31x128, .f32⟩
  | .hbm, ⟨28, _⟩ => ⟨S2x31x128, .f32⟩
  | .hbm, ⟨29, _⟩ => ⟨S2x31x128, .f32⟩
  | .hbm, ⟨30, _⟩ => ⟨S_, .f32⟩
  | .hbm, ⟨31, _⟩ => ⟨S2x31x128, .f32⟩
  | .hbm, ⟨32, _⟩ => ⟨S2x31x128, .f32⟩
  | .hbm, ⟨33, _⟩ => ⟨S2x31x128, .f32⟩
  | .hbm, ⟨34, _⟩ => ⟨S_, .f32⟩
  | .hbm, ⟨35, _⟩ => ⟨S2x31x128, .f32⟩
  | .hbm, ⟨36, _⟩ => ⟨S2x31x128, .f32⟩
  | .hbm, ⟨37, _⟩ => ⟨S62x128, .f32⟩
  | .hbm, ⟨38, _⟩ => ⟨S62x128, .f32⟩
  | .hbm, ⟨39, _⟩ => ⟨S62x128, .f32⟩
  | _, _ => ⟨S2x31x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== DeviceSum.lean ====
abbrev S8x1808x128 : Shape := ⟨3, ![8, 1808, 128]⟩
abbrev S1808x128 : Shape := ⟨2, ![1808, 128]⟩
abbrev S1x1808x128 : Shape := ⟨3, ![1, 1808, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x1808x128, .f32⟩
  | .hbm, ⟨1, _⟩ => ⟨S1808x128, .f32⟩
  | .local _ .vmem, ⟨0, _⟩ => ⟨S8x1808x128, .f32⟩
  | .local _ .vmem, ⟨1, _⟩ => ⟨S1808x128, .f32⟩
  | _, _ => ⟨S8x1808x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x1808x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1808x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== DeviceSumRefIdeal.lean ====
abbrev S8x1808x128 : Shape := ⟨3, ![8, 1808, 128]⟩
abbrev S_ : Shape := ⟨0, ![]⟩
abbrev S1808x128 : Shape := ⟨2, ![1808, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x1808x128, .f32⟩
  | .hbm, ⟨1, _⟩ => ⟨S_, .f32⟩
  | .hbm, ⟨2, _⟩ => ⟨S1808x128, .f32⟩
  | _, _ => ⟨S8x1808x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.ConvTaps.lean ====
/- The taps of the gated causal convolution's gradient, in the reference and on a block of columns. -/
module

public import proofs.«01_k».proof.Proof.Gen.ConvBwdIdeal.Value
public import proofs.«01_k».proof.Proof.Gen.ConvBwdRefIdeal.Read
public import Idealize.ShloMosaic.Lib.Pipeline.ValueKit
public import proofs.«01_k».proof.Defs

@[expose] public section

set_option maxRecDepth 16384

noncomputable section

namespace Cert.Conv

open Cert.ConvBwdIdeal Cert.ConvBwdIdeal.Gen Idealize.ShloMosaic Idealize.ShloMosaic.TcCoe Idealize.SL.Sem
open Idealize.ShloMosaic.Pipeline (Dat)

variable (m : (ℓ : Loc nD τ sig) → Buf (Elt Ideal) ℓ)

/-- One tap of the transposed filter at row `r`, column `j`: nothing past the last row. -/
def tap (w : FVec Ideal S31x512 .f32) (g : FVec Ideal S2048x512 .f32) (r : Fin 2048) (j : Fin 512) (d : ℕ) : EReal :=
  if h : d ≤ 30 ∧ r.val + d < 2048 then w (ix2 ⟨30 - d, by omega⟩ j) * g (ix2 ⟨r.val + d, h.2⟩ j) else 0

open Cert.ConvBwdRefIdeal.Read in
/-- The reference's derivative with respect to the filter's input is the sum of the taps. -/
theorem dh_ref (x1 : FVec Ideal S31x512 .f32) (x2 : FVec Ideal S2048x512 .f32) (r : Fin 2048) (j : Fin 512) :
    val_main_v577 (F := Ideal) x1 x2 (ix2 r j) = ∑ d ∈ Finset.range 31, tap x1 x2 r j d := by
  pointwise [val_main_v577, val_main_v572, val_main_v571, val_main_cst_128, val_main_v566, val_main_v565, val_main_v561, val_main_v560, val_main_cst_124, val_main_v555, val_main_v554, val_main_v550, val_main_v549, val_main_cst_120, val_main_v544, val_main_v543, val_main_v539, val_main_v538, val_main_cst_116, val_main_v533, val_main_v532, val_main_v528, val_main_v527, val_main_cst_112, val_main_v522, val_main_v521, val_main_v517, val_main_v516, val_main_cst_108, val_main_v511, val_main_v510, val_main_v506, val_main_v505, val_main_cst_104, val_main_v500, val_main_v499, val_main_v495, val_main_v494, val_main_cst_100, val_main_v489, val_main_v488, val_main_v484, val_main_v483, val_main_cst_96, val_main_v478, val_main_v477, val_main_v473, val_main_v472, val_main_cst_92, val_main_v467, val_main_v466, val_main_v462, val_main_v461, val_main_cst_88, val_main_v456, val_main_v455, val_main_v451, val_main_v450, val_main_cst_84, val_main_v445, val_main_v444, val_main_v440, val_main_v439, val_main_cst_80, val_main_v434, val_main_v433, val_main_v429, val_main_v428, val_main_cst_76, val_main_v423, val_main_v422, val_main_v418, val_main_v417, val_main_cst_72, val_main_v412, val_main_v411, val_main_v407, val_main_v406, val_main_cst_68, val_main_v401, val_main_v400, val_main_v396, val_main_v395, val_main_cst_64, val_main_v390, val_main_v389, val_main_v385, val_main_v384, val_main_cst_60, val_main_v379, val_main_v378, val_main_v374, val_main_v373, val_main_cst_56, val_main_v368, val_main_v367, val_main_v363, val_main_v362, val_main_cst_52, val_main_v357, val_main_v356, val_main_v352, val_main_v351, val_main_cst_48, val_main_v346, val_main_v345, val_main_v341, val_main_v340, val_main_cst_44, val_main_v335, val_main_v334, val_main_v330, val_main_v329, val_main_cst_40, val_main_v324, val_main_v323, val_main_v319, val_main_v318, val_main_cst_36, val_main_v313, val_main_v312, val_main_v308, val_main_v307, val_main_cst_32, val_main_v302, val_main_v301, val_main_v297, val_main_v296, val_main_cst_28, val_main_v291, val_main_v290, val_main_v286, val_main_v285, val_main_cst_24, val_main_v280, val_main_v279, val_main_v275, val_main_v274, val_main_cst_20, val_main_v269, val_main_v268, val_main_v264, val_main_v263, val_main_cst_16, val_main_v258, val_main_v257, val_main_v253, val_main_v252, val_main_cst_12, val_main_v247, val_main_v246, val_main_v243, val_main_cst_8, val_main_v238, val_main_v237, val_main_v234, val_main_v228, val_main_v226, val_main_v225, val_main_v221, val_main_v219, val_main_v218, val_main_v214, val_main_v212, val_main_v211, val_main_v207, val_main_v205, val_main_v204, val_main_v200, val_main_v198, val_main_v197, val_main_v193, val_main_v191, val_main_v190, val_main_v186, val_main_v184, val_main_v183, val_main_v179, val_main_v177, val_main_v176, val_main_v172, val_main_v170, val_main_v169, val_main_v165, val_main_v163, val_main_v162, val_main_v158, val_main_v156, val_main_v155, val_main_v151, val_main_v149, val_main_v148, val_main_v144, val_main_v142, val_main_v141, val_main_v137, val_main_v135, val_main_v134, val_main_v130, val_main_v128, val_main_v127, val_main_v123, val_main_v121, val_main_v120, val_main_v116, val_main_v114, val_main_v113, val_main_v109, val_main_v107, val_main_v106, val_main_v102, val_main_v100, val_main_v99, val_main_v95, val_main_v93, val_main_v92, val_main_v88, val_main_v86, val_main_v85, val_main_v81, val_main_v79, val_main_v78, val_main_v74, val_main_v72, val_main_v71, val_main_v67, val_main_v65, val_main_v64, val_main_v60, val_main_v58, val_main_v57, val_main_v53, val_main_v51, val_main_v50, val_main_v46, val_main_v44, val_main_v43, val_main_v39, val_main_v37, val_main_v36, val_main_v32, val_main_v30, val_main_v29, val_main_v25, val_main_v23, val_main_v22, val_main_v19, val_main_v17, val_main_v16]
  simp only [Finset.sum_range_succ, Finset.sum_range_zero, zero_add, tap]
  blk_point []
  all_goals first | (exfalso; omega) | (rw [dif_pos (And.intro (Nat.zero_le 30) r.isLt)]; rfl)

open Cert.ConvBwdRefIdeal.Read in
/-- The reference's derivative with respect to one row of the filter. -/
theorem dw_ref (x0 : FVec Ideal S2048x3584 .f32) (x2 : FVec Ideal S2048x512 .f32) (r : Fin 31) (j : Fin 512) :
    val_main_v575 (F := Ideal) x0 x2 (ix2 r j) = ∑ s : Fin 2048, x2 (ix2 s j) * val_main_v14 (F := Ideal) x0 (ix2 ⟨r.val + s.val, by omega⟩ j) := by
  pointwise [val_main_v575, val_main_v574, val_main_cst_129, val_main_v573, val_main_v570, val_main_cst_127, val_main_v569, val_main_v568, val_main_cst_126, val_main_v567, val_main_v564, val_main_v563, val_main_cst_125, val_main_v562, val_main_v559, val_main_cst_123, val_main_v558, val_main_v557, val_main_cst_122, val_main_v556, val_main_v553, val_main_v552, val_main_cst_121, val_main_v551, val_main_v548, val_main_cst_119, val_main_v547, val_main_v546, val_main_cst_118, val_main_v545, val_main_v542, val_main_v541, val_main_cst_117, val_main_v540, val_main_v537, val_main_cst_115, val_main_v536, val_main_v535, val_main_cst_114, val_main_v534, val_main_v531, val_main_v530, val_main_cst_113, val_main_v529, val_main_v526, val_main_cst_111, val_main_v525, val_main_v524, val_main_cst_110, val_main_v523, val_main_v520, val_main_v519, val_main_cst_109, val_main_v518, val_main_v515, val_main_cst_107, val_main_v514, val_main_v513, val_main_cst_106, val_main_v512, val_main_v509, val_main_v508, val_main_cst_105, val_main_v507, val_main_v504, val_main_cst_103, val_main_v503, val_main_v502, val_main_cst_102, val_main_v501, val_main_v498, val_main_v497, val_main_cst_101, val_main_v496, val_main_v493, val_main_cst_99, val_main_v492, val_main_v491, val_main_cst_98, val_main_v490, val_main_v487, val_main_v486, val_main_cst_97, val_main_v485, val_main_v482, val_main_cst_95, val_main_v481, val_main_v480, val_main_cst_94, val_main_v479, val_main_v476, val_main_v475, val_main_cst_93, val_main_v474, val_main_v471, val_main_cst_91, val_main_v470, val_main_v469, val_main_cst_90, val_main_v468, val_main_v465, val_main_v464, val_main_cst_89, val_main_v463, val_main_v460, val_main_cst_87, val_main_v459, val_main_v458, val_main_cst_86, val_main_v457, val_main_v454, val_main_v453, val_main_cst_85, val_main_v452, val_main_v449, val_main_cst_83, val_main_v448, val_main_v447, val_main_cst_82, val_main_v446, val_main_v443, val_main_v442, val_main_cst_81, val_main_v441, val_main_v438, val_main_cst_79, val_main_v437, val_main_v436, val_main_cst_78, val_main_v435, val_main_v432, val_main_v431, val_main_cst_77, val_main_v430, val_main_v427, val_main_cst_75, val_main_v426, val_main_v425, val_main_cst_74, val_main_v424, val_main_v421, val_main_v420, val_main_cst_73, val_main_v419, val_main_v416, val_main_cst_71, val_main_v415, val_main_v414, val_main_cst_70, val_main_v413, val_main_v410, val_main_v409, val_main_cst_69, val_main_v408, val_main_v405, val_main_cst_67, val_main_v404, val_main_v403, val_main_cst_66, val_main_v402, val_main_v399, val_main_v398, val_main_cst_65, val_main_v397, val_main_v394, val_main_cst_63, val_main_v393, val_main_v392, val_main_cst_62, val_main_v391, val_main_v388, val_main_v387, val_main_cst_61, val_main_v386, val_main_v383, val_main_cst_59, val_main_v382, val_main_v381, val_main_cst_58, val_main_v380, val_main_v377, val_main_v376, val_main_cst_57, val_main_v375, val_main_v372, val_main_cst_55, val_main_v371, val_main_v370, val_main_cst_54, val_main_v369, val_main_v366, val_main_v365, val_main_cst_53, val_main_v364, val_main_v361, val_main_cst_51, val_main_v360, val_main_v359, val_main_cst_50, val_main_v358, val_main_v355, val_main_v354, val_main_cst_49, val_main_v353, val_main_v350, val_main_cst_47, val_main_v349, val_main_v348, val_main_cst_46, val_main_v347, val_main_v344, val_main_v343, val_main_cst_45, val_main_v342, val_main_v339, val_main_cst_43, val_main_v338, val_main_v337, val_main_cst_42, val_main_v336, val_main_v333, val_main_v332, val_main_cst_41, val_main_v331, val_main_v328, val_main_cst_39, val_main_v327, val_main_v326, val_main_cst_38, val_main_v325, val_main_v322, val_main_v321, val_main_cst_37, val_main_v320, val_main_v317, val_main_cst_35, val_main_v316, val_main_v315, val_main_cst_34, val_main_v314, val_main_v311, val_main_v310, val_main_cst_33, val_main_v309, val_main_v306, val_main_cst_31, val_main_v305, val_main_v304, val_main_cst_30, val_main_v303, val_main_v300, val_main_v299, val_main_cst_29, val_main_v298, val_main_v295, val_main_cst_27, val_main_v294, val_main_v293, val_main_cst_26, val_main_v292, val_main_v289, val_main_v288, val_main_cst_25, val_main_v287, val_main_v284, val_main_cst_23, val_main_v283, val_main_v282, val_main_cst_22, val_main_v281, val_main_v278, val_main_v277, val_main_cst_21, val_main_v276, val_main_v273, val_main_cst_19, val_main_v272, val_main_v271, val_main_cst_18, val_main_v270, val_main_v267, val_main_v266, val_main_cst_17, val_main_v265, val_main_v262, val_main_cst_15, val_main_v261, val_main_v260, val_main_cst_14, val_main_v259, val_main_v256, val_main_v255, val_main_cst_13, val_main_v254, val_main_v251, val_main_cst_11, val_main_v250, val_main_v249, val_main_cst_10, val_main_v248, val_main_v245, val_main_cst_9, val_main_v244, val_main_v242, val_main_cst_7, val_main_v241, val_main_v240, val_main_cst_6, val_main_v239, val_main_v234, val_main_v227, val_main_v220, val_main_v213, val_main_v206, val_main_v199, val_main_v192, val_main_v185, val_main_v178, val_main_v171, val_main_v164, val_main_v157, val_main_v150, val_main_v143, val_main_v136, val_main_v129, val_main_v122, val_main_v115, val_main_v108, val_main_v101, val_main_v94, val_main_v87, val_main_v80, val_main_v73, val_main_v66, val_main_v59, val_main_v52, val_main_v45, val_main_v38, val_main_v31, val_main_v24, val_main_v18]
  obtain ⟨r, hr⟩ := r
  interval_cases r <;> simp

/-- The same tap on a block of columns. -/
def btap (w : FVec Ideal S1x32x128 .f32) (g : FVec Ideal S2048x128 .f32) (r : Fin 2048) (j : Fin 128) (d : ℕ) : EReal :=
  if r.val < 2048 - d then w (ix3 0 ⟨30 - d, by omega⟩ j) * g (ix2 ⟨(r.val + d) % 2048, Nat.mod_lt _ (by decide)⟩ j) else 0

set_option maxHeartbeats 3200000 in
/-- The kernel's derivative with respect to the filter's input, on a block of columns, is the sum of the taps. -/
theorem dh_blk (x0 x1 x2 : FVec Ideal S2048x128 .f32) (x3 : FVec Ideal S1x32x128 .f32) (r : Fin 2048) (j : Fin 128) :
    k0_pay75 (F := Ideal) (View.ld x2 r0_0) (k0_pay80 x0 x1 x2 x3) (k0_pay81 x0 x1 x2 x3) (View.ld x3 r0_63) (ix2 r j) = ∑ d ∈ Finset.range 31, btap x3 x2 r j d := by
  unfold k0_pay80 k0_pay81
  pointwise [k0_pay1, k0_pay5, k0_pay8, k0_pay12, k0_pay14, k0_pay15, k0_pay17, k0_pay19, k0_pay20, k0_pay22, k0_pay25, k0_pay31, k0_pay33, k0_pay35, k0_pay36, k0_pay38, k0_pay41, k0_pay45, k0_pay48, k0_pay50, k0_pay51, k0_pay52, k0_pay54, k0_pay57, k0_pay61, k0_pay64, k0_pay66, k0_pay67, k0_pay68, k0_pay69, k0_pay71, k0_pay73, k0_pay75, k0_pay76]
  simp (disch := word_cmp_side) only [hlo_ix, Nat.reduceSub, Finset.sum_range_succ, Finset.sum_range_zero, zero_add, btap]
  blk_point []
  all_goals first | (exfalso; omega) | (rw [if_pos r.isLt]; blk_point [])

end Cert.Conv
-- ==== Proof.ConvGrads.lean ====
/- The gradient of the gated causal convolution: the kernel's four arrays are the reference's. -/
module

public import proofs.«01_k».proof.Proof.Gen.ConvBwdIdeal.Value
public import proofs.«01_k».proof.Proof.Gen.ConvBwdRefIdeal.Read
public import Idealize.ShloMosaic.Lib.Pipeline.ValueKit
public import proofs.«01_k».proof.Proof.ConvTaps
public import proofs.«01_k».proof.Defs

@[expose] public section

set_option maxRecDepth 16384

noncomputable section

namespace Cert.Conv

open Cert.ConvBwdIdeal Cert.ConvBwdIdeal.Gen Idealize.ShloMosaic Idealize.ShloMosaic.TcCoe Idealize.SL.Sem
open Idealize.ShloMosaic.Pipeline (Dat)

variable (m : (ℓ : Loc nD τ sig) → Buf (Elt Ideal) ℓ)

/-- The logistic function. -/
def logi (a : EReal) : EReal := Ideal.div 1 (1 + Ideal.exp (-a))

/-- The gate's logistic value at row `r`, column `j`. -/
def gate (z : FVec Ideal S2048x3584 .f32) (r : Fin 2048) (j : Fin 512) : EReal :=
  logi (z (ix2 r ⟨3072 + j.val, by omega⟩))

/-- The filter's input: the values times their gates. -/
def gated (z : FVec Ideal S2048x3584 .f32) (r : Fin 2048) (j : Fin 512) : EReal :=
  z (ix2 r ⟨2560 + j.val, by omega⟩) * gate z r j

/-- The derivative with respect to the values. -/
def gradV (z : FVec Ideal S2048x3584 .f32) (w : FVec Ideal S31x512 .f32) (g : FVec Ideal S2048x512 .f32) : FVec Ideal S2048x512 .bf16 := fun i =>
  (∑ d ∈ Finset.range 31, tap w g (i 0) (i 1) d) * gate z (i 0) (i 1)

/-- The derivative with respect to the gates. -/
def gradT (z : FVec Ideal S2048x3584 .f32) (w : FVec Ideal S31x512 .f32) (g : FVec Ideal S2048x512 .f32) : FVec Ideal S2048x512 .bf16 := fun i =>
  (∑ d ∈ Finset.range 31, tap w g (i 0) (i 1) d) * gated z (i 0) (i 1) * (1 - gate z (i 0) (i 1))

/-- The derivative with respect to the filter: each row a sum over the rows that reach it. -/
def gradW (z : FVec Ideal S2048x3584 .f32) (g : FVec Ideal S2048x512 .f32) : FVec Ideal S31x512 .f32 := fun i =>
  ∑ s : Fin 2048, if 30 ≤ (i 0).val + s.val then g (ix2 s (i 1)) * gated z ⟨(i 0).val + s.val - 30, by have := s.isLt; have h : (i 0).val < 31 := (i 0).isLt; omega⟩ (i 1) else 0

/-- The derivative with respect to the bias. -/
def gradB (g : FVec Ideal S2048x512 .f32) : FVec Ideal S1x512 .f32 := fun i => ∑ s : Fin 2048, g (ix2 s (i 1))

open Cert.ConvBwdRefIdeal.Read in
/-- The reference's derivative with respect to the values. -/
theorem gradV_eq (z : FVec Ideal S2048x3584 .f32) (w : FVec Ideal S31x512 .f32) (g : FVec Ideal S2048x512 .f32) :
    gradV z w g = val_main_v581 (F := Ideal) z w g := by
  funext i; idx_vars i
  pointwise [gradV, gate, logi, val_main_v581, val_main_v579, val_main_v8, val_main_v7, val_main_cst_1, val_main_v6, val_main_v5, val_main_cst_0, val_main_v4, val_main_v3, val_main_v2]
  rw [dh_ref]

open Cert.ConvBwdRefIdeal.Read in
/-- The reference's derivative with respect to the gates. -/
theorem gradT_eq (z : FVec Ideal S2048x3584 .f32) (w : FVec Ideal S31x512 .f32) (g : FVec Ideal S2048x512 .f32) :
    gradT z w g = val_main_v582 (F := Ideal) z w g := by
  funext i; idx_vars i
  pointwise [val_main_v582, val_main_v580, val_main_v578, val_main_v11, val_main_v10, val_main_v9, val_main_cst_2, val_main_v8, val_main_v7, val_main_cst_1, val_main_v6, val_main_v5, val_main_cst_0, val_main_v4, val_main_v3, val_main_v2, val_main_v1]
  rw [dh_ref]
  simp only [gradT, gated, gate, logi, ix2_0, ix2_1]
  ac_rfl

open Cert.ConvBwdRefIdeal.Read in
/-- The reference's derivative with respect to the filter. -/
theorem gradW_eq (z : FVec Ideal S2048x3584 .f32) (g : FVec Ideal S2048x512 .f32) :
    gradW z g = val_main_v575 (F := Ideal) z g := by
  funext i; idx_vars i
  rw [dw_ref]
  refine Finset.sum_congr rfl fun s _ => ?_
  pointwise [val_main_v14, val_main_v14, val_main_v13, val_main_cst_3, val_main_v12, val_main_v8, val_main_v7, val_main_cst_1, val_main_v6, val_main_v5, val_main_cst_0, val_main_v4, val_main_v3, val_main_v2, val_main_v1]
  simp only [gated, gate, logi, ix2_0, ix2_1]
  split_ifs <;> first | omega | simp

open Cert.ConvBwdRefIdeal.Read in
/-- The reference's derivative with respect to the bias. -/
theorem gradB_eq (g : FVec Ideal S2048x512 .f32) : gradB g = val_main_v236 (F := Ideal) g := by
  funext i; idx_vars i
  pointwise [gradB, val_main_v236, val_main_v235, val_main_cst_5]

/-- The windows' block numbers at each point. -/
theorem idx : ∀ t : Fin cfg0.N, win0_0.index t = ![0, 20 + t.val] ∧ win0_1.index t = ![0, 24 + t.val] ∧ win0_2.index t = ![0, t.val] ∧ win0_3.index t = ![t.val, 0, 0] ∧ win0_4.index t = ![0, t.val] ∧ win0_5.index t = ![0, t.val] ∧ win0_6.index t = ![0, t.val] ∧ win0_7.index t = ![0, t.val] :=
  (by decide +kernel : ∀ t : Fin grid0.N, _)

/-- The filter's rows in blocks of columns, at one place. -/
def packed (w : FVec Ideal S31x512 .f32) : FVec Ideal S4x32x128 .f32 := fun i =>
  if h : (i 1).val < 31 then w (ix2 ⟨(i 1).val, h⟩ ⟨(i 0).val * 128 + (i 2).val, by have := (i 0).isLt; have := (i 2).isLt; simp at *; omega⟩) else 0

/-- The filter's rows with a row of zeros below, at one place. -/
theorem padded (w : FVec Ideal S31x512 .f32) (r : Fin 32) (j : Fin 512) :
    pad S32x512 ![0, 0] ![1, 0] ![0, 0] w (sitofp (F := Ideal) .f32 (constantI S_ 32 0#32)) pads_S31x512_S32x512_010_000 h_S_ (ix2 r j)
      = if h : r.val < 31 then w (ix2 ⟨r.val, h⟩ j) else 0 := by
  have h : FloatOps.sitofp (F := Ideal) .f32 0#32 = (0 : EReal) := by
    show ((((0#32).toInt : ℤ) : ℝ) : EReal) = 0
    simp
  pointwise
  rw [h]

/-- The host lines leave the filter's rows in blocks of columns. -/
theorem V_w (c : Dev nD) : V m c main_v2 = packed (m ((c : Thread nD τ).loc main_arg1)) := by
  simp only [V, List.flatten_cons, List.flatten_nil, List.append_nil, List.cons_append, List.nil_append]
  entry_read
  funext i; idx_vars i
  pointwise [packed]
  exact padded _ i1 ⟨i0.val * 128 + i2.val, _⟩

/-- The block's cotangent, as the body reads it. -/
theorem dh_blk' (x0 x1 x2 : FVec Ideal S2048x128 .f32) (x3 : FVec Ideal S1x32x128 .f32) (r : Fin 2048) (j : Fin 128) :
    k0_pay75 (F := Ideal) x2 (k0_pay80 x0 x1 x2 x3) (k0_pay81 x0 x1 x2 x3) (View.ld x3 r0_63) (ix2 r j) = ∑ d ∈ Finset.range 31, btap x3 x2 r j d := by
  have h : View.ld (Val := Elt Ideal) (e' := .f32) x2 r0_0 = x2 := View.ld_unit_zero (Val := Elt Ideal) (e := .f32) (S := S2048x128) (off := ![0, 0]) (by decide) _ x2
  rw [← dh_blk x0 x1 x2 x3 r j, h]

/-- The block of the values' gradient. -/
theorem blkV (x0 x1 x2 : FVec Ideal S2048x128 .f32) (x3 : FVec Ideal S1x32x128 .f32) :
    k0_pay76 (F := Ideal) (k0_pay78 x0 x1 x2 x3) x2 (k0_pay80 x0 x1 x2 x3) (k0_pay81 x0 x1 x2 x3) (View.ld x3 r0_63)
      = fun i => (∑ d ∈ Finset.range 31, btap x3 x2 (i 0) (i 1) d) * logi (x1 (ix2 (i 0) (i 1))) := by
  funext i; idx_vars i
  pointwise [k0_pay76, k0_pay78, k0_pay1]
  rw [dh_blk', zero_sub]; rfl

/-- The block of the gates' gradient. -/
theorem blkT (x0 x1 x2 : FVec Ideal S2048x128 .f32) (x3 : FVec Ideal S1x32x128 .f32) :
    k0_pay77 (F := Ideal) x0 (k0_pay78 x0 x1 x2 x3) x2 (k0_pay80 x0 x1 x2 x3) (k0_pay81 x0 x1 x2 x3) (View.ld x3 r0_63)
      = fun i => (∑ d ∈ Finset.range 31, btap x3 x2 (i 0) (i 1) d) * (x0 (ix2 (i 0) (i 1)) * logi (x1 (ix2 (i 0) (i 1)))) * (1 - logi (x1 (ix2 (i 0) (i 1)))) := by
  funext i; idx_vars i
  pointwise [k0_pay77, k0_pay78, k0_pay1]
  rw [dh_blk', zero_sub]
  simp only [logi, mul_assoc]

/-- The taps over a point's blocks are the taps over the arrays. -/
theorem taps (c : Dev nD) (t : Fin cfg0.N) (r : Fin 2048) (j : Fin 128) :
    ∑ d ∈ Finset.range 31, btap (iblk m c 3 t) (iblk m c 2 t) r j d
      = ∑ d ∈ Finset.range 31, tap (m ((c : Thread nD τ).loc main_arg1)) (V m c main_arg2) r ⟨t.val * 128 + j.val, by have := lt_of_lt_of_eq t.isLt N_0; omega⟩ d := by
  refine Finset.sum_congr rfl fun d hd => ?_
  have hN : t.val < 4 := lt_of_lt_of_eq t.isLt N_0
  have h31 : d < 31 := Finset.mem_range.1 hd
  unfold btap tap
  by_cases h : r.val + d < 2048
  · have e : (r.val + d) % 2048 = r.val + d := Nat.mod_eq_of_lt h
    rw [if_pos (by omega), dif_pos ⟨by omega, h⟩]
    simp only [e]
    blk_point [iblk, V_w m c, packed, idx t]
    rw [dif_pos (show 30 - d < 31 by omega)]
    exact congrArg (fun k => m ((c : Thread nD τ).loc main_arg1) (ix2 _ k)) (Fin.ext (by simp))
  · rw [if_neg (by omega), dif_neg (by omega)]

/-- The array of the values' gradient. -/
theorem final4 (c : Dev nD) : (dats m 0 c).arrAt 4 (cfgs 0).N = gradV (m ((c : Thread nD τ).loc main_arg0)) (m ((c : Thread nD τ).loc main_arg1)) (m ((c : Thread nD τ).loc main_arg2)) := by
  rw [← V_main_arg0 m c, ← V_main_arg2 m c]
  refine (dats m 0 c).arrAt_eq_of_covers 4 _ (by decide +kernel) fun t _ y => ?_
  blk_simp
  rw [after0_4]
  frame_out
  rw [blkV]
  have hN : t.val < 4 := lt_of_lt_of_eq t.isLt N_0
  refine congrArg₂ (· * ·) ((taps m c t (y 0) (y 1)).trans ?_) ?_
  · refine Finset.sum_congr rfl fun d _ => congrArg₂ (fun a b => tap _ _ a b d) (Fin.ext ?_) (Fin.ext ?_)
    all_goals (blk_simp [idx t]; try simp)
  · blk_point [gate, logi, iblk, idx t]

/-- The array of the gates' gradient. -/
theorem final5 (c : Dev nD) : (dats m 0 c).arrAt 5 (cfgs 0).N = gradT (m ((c : Thread nD τ).loc main_arg0)) (m ((c : Thread nD τ).loc main_arg1)) (m ((c : Thread nD τ).loc main_arg2)) := by
  rw [← V_main_arg0 m c, ← V_main_arg2 m c]
  refine (dats m 0 c).arrAt_eq_of_covers 5 _ (by decide +kernel) fun t _ y => ?_
  blk_simp
  rw [after0_5]
  frame_out
  rw [blkT]
  have hN : t.val < 4 := lt_of_lt_of_eq t.isLt N_0
  refine congrArg₂ (· * ·) (congrArg₂ (· * ·) ((taps m c t (y 0) (y 1)).trans ?_) ?_) ?_
  · refine Finset.sum_congr rfl fun d _ => congrArg₂ (fun a b => tap _ _ a b d) (Fin.ext ?_) (Fin.ext ?_)
    all_goals (blk_simp [idx t]; try simp)
  · refine congrArg₂ (· * ·) ?_ (congrArg logi ?_)
    all_goals blk_point [iblk, idx t]
  · refine congrArg (fun a => 1 - logi a) ?_
    blk_point [iblk, idx t]

/-- The array of the bias's gradient. -/
theorem final7 (c : Dev nD) : (dats m 0 c).arrAt 7 (cfgs 0).N = gradB (m ((c : Thread nD τ).loc main_arg2)) := by
  rw [← V_main_arg2 m c]
  refine (dats m 0 c).arrAt_eq_of_covers 7 _ (by decide +kernel) fun t _ y => ?_
  blk_simp
  rw [after0_7]
  frame_out
  blk_point [k0_pay3, gradB, iblk, idx t]

end Cert.Conv
-- ==== Proof.Conv.lean ====
/- The gradient of the gated causal convolution with respect to its filter, and the four gradients together. -/
module

public import proofs.«01_k».proof.Proof.Gen.ConvBwdIdeal.Value
public import proofs.«01_k».proof.Proof.Gen.ConvBwdRefIdeal.Read
public import Idealize.ShloMosaic.Lib.Pipeline.ValueKit
public import proofs.«01_k».proof.Proof.ConvGrads
public import proofs.«01_k».proof.Defs

@[expose] public section

set_option maxRecDepth 16384

noncomputable section

namespace Cert.Conv

open Cert.ConvBwdIdeal Cert.ConvBwdIdeal.Gen Idealize.ShloMosaic Idealize.ShloMosaic.TcCoe Idealize.SL.Sem
open Idealize.ShloMosaic.Pipeline (Dat)

variable (m : (ℓ : Loc nD τ sig) → Buf (Elt Ideal) ℓ)

/-- A block's filter gradient at one row and column. -/
def bw (x0 x1 x2 : FVec Ideal S2048x128 .f32) (k : Fin 31) (j : Fin 128) : EReal :=
  ∑ s : Fin 2048, if 30 ≤ k.val + s.val then x2 (ix2 s j) * (x0 (ix2 ⟨k.val + s.val - 30, by have := s.isLt; have := k.isLt; omega⟩ j) * logi (x1 (ix2 ⟨k.val + s.val - 30, by have := s.isLt; have := k.isLt; omega⟩ j))) else 0

/-- The row of one shift. -/
theorem piece (x0 x1 x2 : FVec Ideal S2048x128 .f32) (k : Fin 31) (j : Fin 128) (D : ℕ) (hD : k.val + D = 30) :
    (∑ s : Fin 2048, if D ≤ s.val then x2 (ix2 s j) * (x0 (ix2 ⟨(s.val + 2048 - D) % 2048, Nat.mod_lt _ (by norm_num)⟩ j)
        * Ideal.div 1 (1 + Ideal.exp (0 - x1 (ix2 ⟨(s.val + 2048 - D) % 2048, Nat.mod_lt _ (by norm_num)⟩ j)))) else (0 : EReal))
      = bw x0 x1 x2 k j := by
  refine Finset.sum_congr rfl fun s _ => ?_
  have hs := s.isLt
  by_cases h : D ≤ s.val
  · have e : (s.val + 2048 - D) % 2048 = k.val + s.val - 30 := by omega
    rw [if_pos h, if_pos (by omega)]
    simp only [e, zero_sub, logi]
  · rw [if_neg h, if_neg (by omega)]

set_option maxHeartbeats 3200000 in
/-- The block the stores leave: each row its shift's. -/
theorem out6 (x0 x1 x2 : FVec Ideal S2048x128 .f32) (x3 : FVec Ideal S1x32x128 .f32) : out0_6 (F := Ideal) x0 x1 x2 x3 = (fun y => bw x0 x1 x2 (y 0) (y 1) : FVec Ideal S31x128 .f32) := by
  funext y
  unfold_out out0_6
  canon_tiles x h
  all_goals
    open_payloads
    pointwise
    try simp (disch := word_cmp_side) only [hlo_ix]
    first
      | (rw [show (y 1 : Fin 128) = x 1 from Fin.ext h1]; exact piece x0 x1 x2 (y 0) (x 1) _ (by omega))
      | (rw [show (y 1 : Fin 128) = x 1 from Fin.ext h1]; refine Eq.trans ?_ (piece x0 x1 x2 (y 0) (x 1) 0 (by omega))
         refine Finset.sum_congr rfl fun s _ => ?_
         have e : (s.val + 2048 - 0) % 2048 = s.val := by omega
         rw [if_pos (Nat.zero_le _)]
         simp only [e, Fin.eta])

/-- The array of the filter's gradient. -/
theorem final6 (c : Dev nD) : (dats m 0 c).arrAt 6 (cfgs 0).N = gradW (m ((c : Thread nD τ).loc main_arg0)) (m ((c : Thread nD τ).loc main_arg2)) := by
  rw [← V_main_arg0 m c, ← V_main_arg2 m c]
  refine (dats m 0 c).arrAt_eq_of_covers 6 _ (by decide +kernel) fun t _ y => ?_
  blk_simp
  rw [after0_6, out6]
  have hN : t.val < 4 := lt_of_lt_of_eq t.isLt N_0
  blk_point [bw, gradW, gated, gate, logi, iblk, idx t]
  refine congrArg₂ (· * ·) rfl (congrArg₂ (· * ·) ?_ (congrArg logi ?_))
  all_goals blk_point [iblk, idx t]

end Cert.Conv

/-- The kernel's four gradients are the reference's. -/
theorem Cert.Conv.pair : Cert.algebraic_ConvBwdIdeal_ConvBwdRefIdeal := by
  pair_intro
  · run_from Cert.ConvBwdIdeal.Value.run_blocks m g
  · refine Idealize.ShloMosaic.θ_run_mono (Cert.ConvBwdRefIdeal.Value.run m' g') fun r hr c => ?_
    obtain ⟨h0, h1, h2, h3, k⟩ := hr c
    obtain ⟨a0, a1, a2⟩ := hagree c
    refine ⟨h0.trans ((Cert.ConvBwdRefIdeal.Read.val_main_v581_eq _).trans ?_),
      h1.trans ((Cert.ConvBwdRefIdeal.Read.val_main_v582_eq _).trans ?_),
      h2.trans ((Cert.ConvBwdRefIdeal.Read.val_main_v575_eq _).trans ?_),
      h3.trans ((Cert.ConvBwdRefIdeal.Read.val_main_v236_eq _).trans ?_), k⟩
    · show Cert.ConvBwdRefIdeal.Read.val_main_v581 (F := Idealize.ShloMosaic.Ideal) (m' ((c.tc : Idealize.ShloMosaic.Thread _ _).loc Cert.ConvBwdRefIdeal.main_arg0)) (m' ((c.tc : Idealize.ShloMosaic.Thread _ _).loc Cert.ConvBwdRefIdeal.main_arg1)) (m' ((c.tc : Idealize.ShloMosaic.Thread _ _).loc Cert.ConvBwdRefIdeal.main_arg2)) = _
      rw [a0, a1, a2, ← Cert.Conv.gradV_eq]; exact (Cert.Conv.final4 m c).symm
    · show Cert.ConvBwdRefIdeal.Read.val_main_v582 (F := Idealize.ShloMosaic.Ideal) (m' ((c.tc : Idealize.ShloMosaic.Thread _ _).loc Cert.ConvBwdRefIdeal.main_arg0)) (m' ((c.tc : Idealize.ShloMosaic.Thread _ _).loc Cert.ConvBwdRefIdeal.main_arg1)) (m' ((c.tc : Idealize.ShloMosaic.Thread _ _).loc Cert.ConvBwdRefIdeal.main_arg2)) = _
      rw [a0, a1, a2, ← Cert.Conv.gradT_eq]; exact (Cert.Conv.final5 m c).symm
    · show Cert.ConvBwdRefIdeal.Read.val_main_v575 (F := Idealize.ShloMosaic.Ideal) (m' ((c.tc : Idealize.ShloMosaic.Thread _ _).loc Cert.ConvBwdRefIdeal.main_arg0)) (m' ((c.tc : Idealize.ShloMosaic.Thread _ _).loc Cert.ConvBwdRefIdeal.main_arg2)) = _
      rw [a0, a2, ← Cert.Conv.gradW_eq]; exact (Cert.Conv.final6 m c).symm
    · show Cert.ConvBwdRefIdeal.Read.val_main_v236 (F := Idealize.ShloMosaic.Ideal) (m' ((c.tc : Idealize.ShloMosaic.Thread _ _).loc Cert.ConvBwdRefIdeal.main_arg2)) = _
      rw [a2, ← Cert.Conv.gradB_eq]; exact (Cert.Conv.final7 m c).symm

end
-- ==== Proof.Rms.lean ====
/- The derivative of the root-mean-square norm on extended reals: the form with the inverse root factored out (the
   kernel's) against the form that differentiates the inverse root (the derivative's). -/
module

public import Idealize.ShloMosaic.Lib.Pipeline.ValueKit

@[expose] public section

noncomputable section

namespace Cert.Rms

open Idealize.ShloMosaic

/-- The row's length, as the word of 2048. -/
theorem n_bits : Ideal.ofBits .f32 1157627904#32 = ((2048 : ℝ) : EReal) := by
  simp [Ideal.ofBits, Ideal.ieee, -EReal.coe_mul]; norm_num

/-- The word of minus one half. -/
theorem half_bits : Ideal.ofBits .f32 3204448256#32 = ((-(1 / 2) : ℝ) : EReal) := by
  simp [Ideal.ofBits, Ideal.ieee, -EReal.coe_mul]; norm_num

/-- The norm's small constant is a positive real. -/
theorem eps_bits : ∃ e : ℝ, 0 < e ∧ Ideal.ofBits .f32 897988541#32 = (e : EReal) := by
  refine ⟨_, ?_, by simp [Ideal.ofBits, Ideal.ieee, -EReal.coe_mul]; rfl⟩
  norm_num

/-- A value and itself: twice the value. -/
theorem add_self (a : EReal) : a + a = ((2 : ℝ) : EReal) * a := by
  have h : ((2 : ℝ) : EReal) = 1 + 1 := by rw [← EReal.coe_one, ← EReal.coe_add]; norm_num
  rw [h, EReal.right_distrib_of_nonneg zero_le_one zero_le_one, one_mul]

/-- A nonnegative real factor goes into a sum. -/
theorem sum_mul_real {ι : Type} (s : Finset ι) (f : ι → EReal) {r : ℝ} (hr : 0 ≤ r) :
    ∑ j ∈ s, f j * (r : EReal) = (∑ j ∈ s, f j) * (r : EReal) := by
  classical
  induction s using Finset.induction_on with
  | empty => simp
  | insert a s ha ih =>
    rw [Finset.sum_insert ha, Finset.sum_insert ha, ih,
      EReal.right_distrib_of_nonneg_of_ne_top (by exact_mod_cast hr) (EReal.coe_ne_top r)]

/-- A square is not negative. -/
theorem sq_nonneg (a : EReal) : 0 ≤ a * a := by
  rcases le_total 0 a with h | h
  · exact mul_nonneg h h
  · rw [← neg_mul_neg]; exact mul_nonneg (EReal.neg_nonneg.2 h) (EReal.neg_nonneg.2 h)

/-- The mean square and the small constant: infinite, or a positive real. -/
theorem mean_cases {n : ℕ} (x : Fin n → EReal) :
    Ideal.div (∑ j, x j * x j) (Ideal.ofBits .f32 1157627904#32) + Ideal.ofBits .f32 897988541#32 = ⊤
    ∨ ∃ w : ℝ, 0 < w ∧ Ideal.div (∑ j, x j * x j) (Ideal.ofBits .f32 1157627904#32) + Ideal.ofBits .f32 897988541#32 = (w : EReal) := by
  obtain ⟨e, he, hb⟩ := eps_bits
  have h0 : 0 ≤ ∑ j, x j * x j := Finset.sum_nonneg fun j _ => sq_nonneg (x j)
  rw [hb, n_bits, Ideal.div_coe (by norm_num)]
  induction hs : (∑ j, x j * x j) using EReal.rec with
  | bot => rw [hs] at h0; exact absurd h0 (by simp)
  | top => left; rw [EReal.top_mul_coe_of_pos (by norm_num), EReal.top_add_coe]
  | coe s =>
    right
    rw [hs] at h0
    have h1 : 0 ≤ s := by exact_mod_cast h0
    exact ⟨s * (1 / 2048) + e, by positivity, by rw [EReal.coe_add, EReal.coe_mul]⟩

/-- The gradient of the norm at one place: `c` is the cotangent times the scale, `x` the row. -/
theorem dx_eq {n : ℕ} (x c : Fin n → EReal) (b : Fin n) :
    Ideal.rsqrt (Ideal.div (∑ j, x j * x j) (Ideal.ofBits .f32 1157627904#32) + Ideal.ofBits .f32 897988541#32) *
      (c b - x b * Ideal.rsqrt (Ideal.div (∑ j, x j * x j) (Ideal.ofBits .f32 1157627904#32) + Ideal.ofBits .f32 897988541#32) *
        Ideal.div (∑ j, c j * (x j * Ideal.rsqrt (Ideal.div (∑ j, x j * x j) (Ideal.ofBits .f32 1157627904#32) + Ideal.ofBits .f32 897988541#32)))
          (Ideal.ofBits .f32 1157627904#32))
    = c b * Ideal.rsqrt (Ideal.div (∑ j, x j * x j) (Ideal.ofBits .f32 1157627904#32) + Ideal.ofBits .f32 897988541#32)
      + x b * (∑ _i : Fin 1, Ideal.div ((∑ j, x j * c j) * (Ideal.ofBits .f32 3204448256#32 *
          Ideal.div (Ideal.rsqrt (Ideal.div (∑ j, x j * x j) (Ideal.ofBits .f32 1157627904#32) + Ideal.ofBits .f32 897988541#32))
            (Ideal.div (∑ j, x j * x j) (Ideal.ofBits .f32 1157627904#32) + Ideal.ofBits .f32 897988541#32)))
          (Ideal.ofBits .f32 1157627904#32))
      + (∑ _i : Fin 1, Ideal.div ((∑ j, x j * c j) * (Ideal.ofBits .f32 3204448256#32 *
          Ideal.div (Ideal.rsqrt (Ideal.div (∑ j, x j * x j) (Ideal.ofBits .f32 1157627904#32) + Ideal.ofBits .f32 897988541#32))
            (Ideal.div (∑ j, x j * x j) (Ideal.ofBits .f32 1157627904#32) + Ideal.ofBits .f32 897988541#32)))
          (Ideal.ofBits .f32 1157627904#32)) * x b := by
  rw [Fin.sum_univ_one]
  rcases mean_cases x with h | ⟨w, hw, h⟩
  · rw [h, Ideal.rsqrt_top]
    simp [Ideal.div, n_bits]
  · have hs : 0 < Real.sqrt w := Real.sqrt_pos.2 hw
    have hr : Ideal.rsqrt (w : EReal) = (((Real.sqrt w)⁻¹ : ℝ) : EReal) := by
      rw [Ideal.rsqrt_coe, if_neg (not_lt.2 hw.le), if_neg hw.ne']
    rw [h, hr, n_bits, half_bits, Ideal.div_coe hw.ne', Ideal.div_coe (by norm_num), Ideal.div_coe (by norm_num)]
    obtain ⟨ρ, hρ⟩ : ∃ ρ : ℝ, ρ = (Real.sqrt w)⁻¹ := ⟨_, rfl⟩
    have hρ0 : 0 ≤ ρ := by rw [hρ]; positivity
    have hρ2 : ρ * ρ = 1 / w := by rw [hρ, ← mul_inv, Real.mul_self_sqrt hw.le, one_div]
    rw [← hρ]
    simp only [← mul_assoc]
    rw [sum_mul_real _ _ hρ0]
    have hS : ∑ j, x j * c j = ∑ j, c j * x j := Finset.sum_congr rfl fun j _ => mul_comm _ _
    rw [hS]
    generalize (∑ j, c j * x j) = S
    rw [sub_eq_add_neg, EReal.left_distrib_of_nonneg_of_ne_top (by exact_mod_cast hρ0) (EReal.coe_ne_top ρ), add_assoc]
    have e1 : (ρ : EReal) * -(x b * ρ * (S * ρ) * ((1 / 2048 : ℝ) : EReal)) = x b * S * ((-(ρ * ρ * ρ / 2048) : ℝ) : EReal) := by
      have : ((-(ρ * ρ * ρ / 2048) : ℝ) : EReal) = -((ρ : EReal) * ρ * ρ * ((1 / 2048 : ℝ) : EReal)) := by
        rw [← EReal.coe_mul, ← EReal.coe_mul, ← EReal.coe_mul, ← EReal.coe_neg]; congr 1; ring
      rw [this, mul_neg, mul_neg]; congr 1; ac_rfl
    have e2 : S * ((-(1 / 2) : ℝ) : EReal) * ρ * ((1 / w : ℝ) : EReal) * ((1 / 2048 : ℝ) : EReal) * x b
        = x b * S * ((-(ρ * ρ * ρ / 4096) : ℝ) : EReal) := by
      have : ((-(ρ * ρ * ρ / 4096) : ℝ) : EReal) = ((-(1 / 2) : ℝ) : EReal) * ρ * ((1 / w : ℝ) : EReal) * ((1 / 2048 : ℝ) : EReal) := by
        rw [← EReal.coe_mul, ← EReal.coe_mul, ← EReal.coe_mul, ← hρ2]; congr 1; ring
      rw [this]; ac_rfl
    have e3 : x b * S * ((-(1 / 2) : ℝ) : EReal) * ρ * ((1 / w : ℝ) : EReal) * ((1 / 2048 : ℝ) : EReal)
        = x b * S * ((-(ρ * ρ * ρ / 4096) : ℝ) : EReal) := by rw [← e2]; ac_rfl
    rw [e1, e2, e3, add_self, mul_comm (ρ : EReal) (c b)]
    congr 1
    rw [mul_left_comm, ← EReal.coe_mul]; congr 2; ring

/-- The inverse root of a row. -/
def inv {n : ℕ} (x : Fin n → EReal) : EReal :=
  Ideal.rsqrt (Ideal.div (∑ j, x j * x j) (Ideal.ofBits .f32 1157627904#32) + Ideal.ofBits .f32 897988541#32)

/-- The gradient of the norm with respect to the row at one place, as the kernel writes it. -/
def dx {n : ℕ} (x c : Fin n → EReal) (b : Fin n) : EReal :=
  inv x * (c b - x b * inv x * Ideal.div (∑ j, c j * (x j * inv x)) (Ideal.ofBits .f32 1157627904#32))

/-- The same gradient as the derivative of the forward lines writes it. -/
theorem dx_ref {n : ℕ} (x c : Fin n → EReal) (b : Fin n) : dx x c b =
      c b * Ideal.rsqrt (Ideal.div (∑ j, x j * x j) (Ideal.ofBits .f32 1157627904#32) + Ideal.ofBits .f32 897988541#32)
      + x b * (∑ _i : Fin 1, Ideal.div ((∑ j, x j * c j) * (Ideal.ofBits .f32 3204448256#32 *
          Ideal.div (Ideal.rsqrt (Ideal.div (∑ j, x j * x j) (Ideal.ofBits .f32 1157627904#32) + Ideal.ofBits .f32 897988541#32))
            (Ideal.div (∑ j, x j * x j) (Ideal.ofBits .f32 1157627904#32) + Ideal.ofBits .f32 897988541#32)))
          (Ideal.ofBits .f32 1157627904#32))
      + (∑ _i : Fin 1, Ideal.div ((∑ j, x j * c j) * (Ideal.ofBits .f32 3204448256#32 *
          Ideal.div (Ideal.rsqrt (Ideal.div (∑ j, x j * x j) (Ideal.ofBits .f32 1157627904#32) + Ideal.ofBits .f32 897988541#32))
            (Ideal.div (∑ j, x j * x j) (Ideal.ofBits .f32 1157627904#32) + Ideal.ofBits .f32 897988541#32)))
          (Ideal.ofBits .f32 1157627904#32)) * x b :=
  dx_eq x c b

end Cert.Rms

end
-- ==== Proof.Softmax.lean ====
/- The derivative of a softmax on extended reals: the probabilities times the centred cotangent (the kernel's) against
   the quotient's derivative (the derivative's). -/
module

public import Idealize.ShloMosaic.Lib.Pipeline.ValueKit
public import proofs.«01_k».proof.Proof.Rms

@[expose] public section

noncomputable section

namespace Cert.Softmax

open Idealize.ShloMosaic

/-- The word from which a maximum starts is the least value. -/
theorem bot_bits : Ideal.ofBits .f32 4286578688#32 = ⊥ := by
  simp [Ideal.ofBits, Ideal.ieee]

/-- The scale of the scores is a real. -/
theorem scale_bits : ∃ r : ℝ, Ideal.ofBits .f32 1026884851#32 = (r : EReal) :=
  ⟨_, by simp [Ideal.ofBits, Ideal.ieee, -EReal.coe_mul]; rfl⟩

/-- The largest score. -/
def top {n : ℕ} (s : Fin n → EReal) : EReal := Finset.fold max (Ideal.ofBits .f32 4286578688#32) s Finset.univ

/-- The exponential of a score less the largest. -/
def expo {n : ℕ} (s : Fin n → EReal) (j : Fin n) : EReal := Ideal.exp (s j - top s)

/-- The larger of the start and the largest score is the largest score. -/
theorem max_top {n : ℕ} (s : Fin n → EReal) : max (Ideal.ofBits .f32 4286578688#32) (top s) = top s := by
  rw [bot_bits]; exact max_eq_right bot_le

/-- The largest of real scores is real. -/
theorem top_real {n : ℕ} (s : Fin (n + 1) → EReal) (h : ∀ j, ∃ r : ℝ, s j = (r : EReal)) : ∃ r : ℝ, top s = (r : EReal) := by
  have h1 : top s < ⊤ := by
    refine (Finset.fold_max_lt _).2 ⟨by rw [bot_bits]; exact bot_lt_top, fun j _ => ?_⟩
    obtain ⟨r, hr⟩ := h j
    rw [hr]; exact EReal.coe_lt_top r
  have h2 : ⊥ < top s := by
    obtain ⟨r, hr⟩ := h 0
    refine lt_of_lt_of_le (EReal.bot_lt_coe r) ((Finset.le_fold_max _).2 (Or.inr ⟨0, Finset.mem_univ _, ?_⟩))
    rw [hr]
  exact ⟨(top s).toReal, (EReal.coe_toReal h1.ne h2.ne').symm⟩

/-- The exponentials of real scores are positive reals. -/
theorem expo_real {n : ℕ} (s : Fin (n + 1) → EReal) (h : ∀ j, ∃ r : ℝ, s j = (r : EReal)) :
    ∃ e : Fin (n + 1) → ℝ, (∀ j, 0 < e j) ∧ expo s = fun j => (e j : EReal) := by
  obtain ⟨t, ht⟩ := top_real s h
  choose r hr using h
  refine ⟨fun j => Real.exp (r j - t), fun j => Real.exp_pos _, funext fun j => ?_⟩
  rw [expo, ht, hr, ← EReal.coe_sub, Ideal.exp_coe]

/-- A sum of reals is real. -/
theorem coe_sum {ι : Type} (s : Finset ι) (e : ι → ℝ) : ∑ j ∈ s, (e j : EReal) = ((∑ j ∈ s, e j : ℝ) : EReal) := by
  classical
  induction s using Finset.induction_on with
  | empty => simp
  | insert a s ha ih => rw [Finset.sum_insert ha, Finset.sum_insert ha, ih, EReal.coe_add]

/-- The derivative with respect to a score, the two ways; only the scores need be real. -/
theorem grad_eq {n : ℕ} (s : Fin (n + 1) → EReal) (h : ∀ j, ∃ r : ℝ, s j = (r : EReal)) (d : Fin (n + 1) → EReal) (c : EReal) (j : Fin (n + 1)) :
    Ideal.div (expo s j) (∑ x, expo s x) * (d j - ∑ x, d x * Ideal.div (expo s x) (∑ x, expo s x)) * c
      = (Ideal.div (d j) (∑ x, expo s x) + ∑ _x : Fin 1, -∑ x, d x * Ideal.div 1 ((∑ x, expo s x) * (∑ x, expo s x)) * expo s x) * expo s j * c := by
  obtain ⟨e, he, hs⟩ := expo_real s h
  have hL : 0 < ∑ x, e x := Finset.sum_pos (fun x _ => he x) ⟨0, Finset.mem_univ _⟩
  rw [hs]
  simp only [coe_sum]
  set L := ∑ x, e x with hLd
  have hr : (0 : ℝ) ≤ 1 / L := by positivity
  rw [← EReal.coe_mul, Ideal.div_coe (mul_pos hL hL).ne', Fin.sum_univ_one, one_mul]
  simp only [Ideal.div_coe hL.ne']
  have h1 : ∑ x, d x * ((1 / (L * L) : ℝ) : EReal) * (e x : EReal) = (∑ x, d x * ((e x : EReal) * ((1 / L : ℝ) : EReal))) * ((1 / L : ℝ) : EReal) := by
    rw [← Cert.Rms.sum_mul_real _ _ hr]
    refine Finset.sum_congr rfl fun x _ => ?_
    rw [show (1 / (L * L) : ℝ) = 1 / L * (1 / L) by ring, EReal.coe_mul]
    ac_rfl
  rw [h1, ← EReal.neg_mul, ← EReal.right_distrib_of_nonneg_of_ne_top (by exact_mod_cast hr) (EReal.coe_ne_top _), ← sub_eq_add_neg]
  ac_rfl

/-- The infinite word. -/
theorem top_bits : Ideal.ofBits .f32 2139095040#32 = ⊤ := by
  simp [Ideal.ofBits, Ideal.ieee]

/-- A number below the infinite word in absolute value is real. -/
theorem real_of_lt (a : EReal) (h : FloatOps.cmpf (F := Ideal) (φ := .f32) .olt (FloatOps.absf (F := Ideal) (φ := .f32) a) (Ideal.ofBits .f32 2139095040#32) = 1#1) :
    ∃ r : ℝ, a = (r : EReal) := by
  have h' : Ideal.cmp .olt (max a (-a)) (Ideal.ofBits .f32 2139095040#32) = 1#1 := h
  induction a using EReal.rec with
  | coe r => exact ⟨r, rfl⟩
  | bot => exfalso; revert h'; simp [top_bits, Ideal.cmp]
  | top => exfalso; revert h'; simp [top_bits, Ideal.cmp]

end Cert.Softmax

end
-- ==== Proof.AttnGrads.lean ====
/- The gradient of the attention over the memory, as functions of an index: they are the reference's where the scores are real. -/
module

public import proofs.«01_k».proof.Proof.Gen.AttnBwdIdeal.Value
public import proofs.«01_k».proof.Proof.Gen.AttnBwdRefIdeal.Read
public import Idealize.ShloMosaic.Lib.Pipeline.ValueKit
public import proofs.«01_k».proof.Proof.Softmax
public import proofs.«01_k».proof.Proof.Gen.Pre_attn_bwd_finite
public import proofs.«01_k».proof.Defs

@[expose] public section

set_option maxRecDepth 16384

noncomputable section

namespace Cert.Attn

open Cert.AttnBwdIdeal Cert.AttnBwdIdeal.Gen Idealize.ShloMosaic Idealize.ShloMosaic.TcCoe Idealize.SL.Sem
open Idealize.ShloMosaic.Pipeline (Dat)

variable (m : (ℓ : Loc nD τ sig) → Buf (Elt Ideal) ℓ)

open Cert.Softmax

/-- The scale of the scores. -/
def scale : EReal := Ideal.ofBits .f32 1026884851#32

/-- A row of `q` and a row of `k`, over head `h`'s columns. -/
def dots (q : FVec Ideal S2048x2048 .bf16) (k : FVec Ideal S256x2048 .bf16) (h : Fin 4) (i : Fin 2048) (j : Fin 256) : EReal :=
  ∑ x : Fin 512, q (ix2 i ⟨h.val * 512 + x.val, by omega⟩) * k (ix2 j ⟨h.val * 512 + x.val, by omega⟩)

/-- The same over a block. -/
def bdots (q : FVec Ideal S2048x512 .bf16) (k : FVec Ideal S256x512 .bf16) (i : Fin 2048) (j : Fin 256) : EReal :=
  ∑ x : Fin 512, q (ix2 i x) * k (ix2 j x)

/-- A probability, from its row of products. -/
def prob (s : Fin 256 → EReal) (j : Fin 256) : EReal :=
  Ideal.div (expo (fun x => s x * scale) j) (∑ x, expo (fun x => s x * scale) x)

/-- The derivative with respect to a product of `q` and `k`, from the row of products and the row of the probabilities' derivatives. -/
def dscore (s d : Fin 256 → EReal) (j : Fin 256) : EReal :=
  prob s j * (d j - ∑ x, d x * prob s x) * scale

/-- The head of a column. -/
def head (j : Fin 2048) : Fin 4 := ⟨j.val / 512, by omega⟩

/-- The derivative with respect to the queries. -/
def gradQ (q : FVec Ideal S2048x2048 .bf16) (k v : FVec Ideal S256x2048 .bf16) (a : FVec Ideal S2048x2048 .bf16) : FVec Ideal S2048x2048 .bf16 := fun i =>
  ∑ x : Fin 256, dscore (dots q k (head (i 1)) (i 0)) (dots a v (head (i 1)) (i 0)) x * k (ix2 x (i 1))

/-- The derivative with respect to the keys. -/
def gradK (q : FVec Ideal S2048x2048 .bf16) (k v : FVec Ideal S256x2048 .bf16) (a : FVec Ideal S2048x2048 .bf16) : FVec Ideal S256x2048 .bf16 := fun i =>
  ∑ x : Fin 2048, dscore (dots q k (head (i 1)) x) (dots a v (head (i 1)) x) (i 0) * q (ix2 x (i 1))

/-- The derivative with respect to the values. -/
def gradV (q : FVec Ideal S2048x2048 .bf16) (k : FVec Ideal S256x2048 .bf16) (a : FVec Ideal S2048x2048 .bf16) : FVec Ideal S256x2048 .bf16 := fun i =>
  ∑ x : Fin 2048, prob (dots q k (head (i 1)) x) (i 0) * a (ix2 x (i 1))

open Cert.AttnBwdRefIdeal.Read in
/-- The reference's exponentials. -/
theorem e_at (q : FVec Ideal S2048x2048 .bf16) (k : FVec Ideal S256x2048 .bf16) (h : Fin 4) (i : Fin 2048) (j : Fin 256) :
    val_main_v30 (F := Ideal) q k (ix3 h i j) = expo (fun x => dots q k h i x * scale) j := by
  pointwise [val_main_v30, val_main_v29, val_main_v28, val_main_v27, val_main_v17, val_main_v16, val_main_cst_2, val_main_v10, val_main_cst_0, val_main_v9, val_main_v8, val_main_cst, val_main_v7, val_main_v5, val_main_v4, val_main_v1, val_main_v0]
  exact congrArg (fun t => Ideal.exp (dots q k h i j * scale - t)) (max_top (fun x => dots q k h i x * scale))

open Cert.AttnBwdRefIdeal.Read in
/-- The reference's sums of exponentials. -/
theorem l_at (q : FVec Ideal S2048x2048 .bf16) (k : FVec Ideal S256x2048 .bf16) (h : Fin 4) (i : Fin 2048) :
    val_main_v31 (F := Ideal) q k (ix2 h i) = ∑ x, expo (fun x => dots q k h i x * scale) x := by
  pointwise [val_main_v31, val_main_cst_8]
  exact Finset.sum_congr rfl fun x _ => e_at q k h i x

open Cert.AttnBwdRefIdeal.Read in
/-- The reference's derivative with respect to a product, where the scores are real. -/
theorem ds_at (q : FVec Ideal S2048x2048 .bf16) (k v : FVec Ideal S256x2048 .bf16) (a : FVec Ideal S2048x2048 .bf16)
    (hs : ∀ h i j, ∃ r : ℝ, dots q k h i j * scale = (r : EReal)) (h : Fin 4) (i : Fin 2048) (j : Fin 256) :
    val_main_v59 (F := Ideal) q k v a (ix3 h i j) = dscore (dots q k h i) (dots a v h i) j := by
  pointwise [val_main_v59, val_main_v58, val_main_cst_12, val_main_v57, val_main_v56, val_main_v55, val_main_v54, val_main_cst_11, val_main_v53, val_main_v52, val_main_v51, val_main_v50, val_main_v49, val_main_cst_10, val_main_v48, val_main_v47, val_main_v46, val_main_v43, val_main_v42, val_main_v41, val_main_v37, val_main_v36, val_main_cst_9, val_main_v35, val_main_v32, val_main_v6, val_main_v3, val_main_v2]
  simp only [e_at, l_at]
  exact (grad_eq (fun x => dots q k h i x * scale) (hs h i) (dots a v h i) scale j).symm

open Cert.AttnBwdRefIdeal.Read in
/-- The reference's derivative with respect to the queries. -/
theorem gradQ_eq (q : FVec Ideal S2048x2048 .bf16) (k v : FVec Ideal S256x2048 .bf16) (a : FVec Ideal S2048x2048 .bf16)
    (hs : ∀ h i j, ∃ r : ℝ, dots q k h i j * scale = (r : EReal)) : gradQ q k v a = val_main_v67 (F := Ideal) q k v a := by
  funext i; idx_vars i
  pointwise [val_main_v67, val_main_v66, val_main_v63, val_main_v62]
  refine Finset.sum_congr rfl fun x _ => ?_
  rw [ds_at q k v a hs]
  refine congrArg₂ (· * ·) rfl ?_
  pointwise [gradQ, val_main_v5, val_main_v1]

open Cert.AttnBwdRefIdeal.Read in
/-- The reference's derivative with respect to the keys. -/
theorem gradK_eq (q : FVec Ideal S2048x2048 .bf16) (k v : FVec Ideal S256x2048 .bf16) (a : FVec Ideal S2048x2048 .bf16)
    (hs : ∀ h i j, ∃ r : ℝ, dots q k h i j * scale = (r : EReal)) : gradK q k v a = val_main_v68 (F := Ideal) q k v a := by
  funext i; idx_vars i
  pointwise [val_main_v68, val_main_v65, val_main_v61, val_main_v60]
  refine Finset.sum_congr rfl fun x _ => ?_
  rw [ds_at q k v a hs]
  refine congrArg₂ (· * ·) rfl ?_
  pointwise [gradK, val_main_v4, val_main_v0]

open Cert.AttnBwdRefIdeal.Read in
/-- The reference's derivative with respect to the values. -/
theorem gradV_eq (q : FVec Ideal S2048x2048 .bf16) (k : FVec Ideal S256x2048 .bf16) (a : FVec Ideal S2048x2048 .bf16) :
    gradV q k a = val_main_v69 (F := Ideal) q k a := by
  funext i; idx_vars i
  pointwise [val_main_v69, val_main_v64, val_main_v45, val_main_v44, val_main_v42, val_main_v41,val_main_v34, val_main_v33, val_main_v32]
  refine Finset.sum_congr rfl fun x _ => ?_
  rw [e_at, l_at]
  refine (mul_comm _ _).trans (congrArg₂ (· * ·) ?_ rfl)
  pointwise [gradV, val_main_v3]

/-- Where the queries and keys are finite the scores are real. -/
theorem real_scores [Cert.Pre_attn_bwd_finite.Facts] (q : FVec Ideal S2048x2048 .bf16) (k v : FVec Ideal S256x2048 .bf16) (a : FVec Ideal S2048x2048 .bf16)
    (h0 : (Cert.Pre_attn_bwd_finite.fn (F := Ideal) q k v a).1 = fun _ => 1#1) (h1 : (Cert.Pre_attn_bwd_finite.fn (F := Ideal) q k v a).2 = fun _ => 1#1)
    (h : Fin 4) (i : Fin 2048) (j : Fin 256) : ∃ r : ℝ, dots q k h i j * scale = (r : EReal) := by
  have hq : ∀ i, ∃ r : ℝ, q i = (r : EReal) := fun i => real_of_lt _ (congrFun h0 i)
  have hk : ∀ i, ∃ r : ℝ, k i = (r : EReal) := fun i => real_of_lt _ (congrFun h1 i)
  choose q' hq using hq
  choose k' hk using hk
  obtain ⟨r, hr⟩ := scale_bits
  simp only [dots, hq, hk, scale, hr, ← EReal.coe_mul, coe_sum]
  exact ⟨_, rfl⟩

end Cert.Attn
-- ==== Proof.Attn.lean ====
/- The gradient of the attention over the memory: the kernel's three arrays are the reference's. -/
module

public import proofs.«01_k».proof.Proof.Gen.AttnBwdIdeal.Value
public import proofs.«01_k».proof.Proof.Gen.AttnBwdRefIdeal.Read
public import Idealize.ShloMosaic.Lib.Pipeline.ValueKit
public import proofs.«01_k».proof.Proof.AttnGrads
public import proofs.«01_k».proof.Defs

@[expose] public section

set_option maxRecDepth 16384

noncomputable section

namespace Cert.Attn

open Cert.AttnBwdIdeal Cert.AttnBwdIdeal.Gen Idealize.ShloMosaic Idealize.ShloMosaic.TcCoe Idealize.SL.Sem
open Idealize.ShloMosaic.Pipeline (Dat)

variable (m : (ℓ : Loc nD τ sig) → Buf (Elt Ideal) ℓ)

open Cert.Softmax

/-- The windows' block numbers at each point. -/
theorem idx : ∀ t : Fin cfg0.N, win0_0.index t = ![0, t.val] ∧ win0_1.index t = ![0, t.val] ∧ win0_2.index t = ![0, t.val] ∧ win0_3.index t = ![0, t.val] ∧ win0_4.index t = ![0, t.val] ∧ win0_5.index t = ![0, t.val] ∧ win0_6.index t = ![0, t.val] :=
  (by decide +kernel : ∀ t : Fin grid0.N, _)

/-- The body's probabilities. -/
theorem p_at (q : FVec Ideal S2048x512 .bf16) (k : FVec Ideal S256x512 .bf16) (i : Fin 2048) (j : Fin 256) :
    k0_pay1 (F := Ideal) q k (ix2 i j) = prob (bdots q k i) j := by
  pointwise [k0_pay1]
  rfl

/-- The body's derivatives with respect to the products. -/
theorem bds_at (q : FVec Ideal S2048x512 .bf16) (k v : FVec Ideal S256x512 .bf16) (a : FVec Ideal S2048x512 .bf16) (i : Fin 2048) (j : Fin 256) :
    k0_pay3 (F := Ideal) q k v a (ix2 i j) = dscore (bdots q k i) (bdots a v i) j := by
  pointwise [k0_pay3]
  simp only [p_at]
  rfl

/-- The block of the queries' gradient. -/
theorem rowsQ (q : FVec Ideal S2048x512 .bf16) (k v : FVec Ideal S256x512 .bf16) (a : FVec Ideal S2048x512 .bf16) :
    k0_pay4 (F := Ideal) q k v a = fun i => ∑ x : Fin 256, dscore (bdots q k (i 0)) (bdots a v (i 0)) x * k (ix2 x (i 1)) := by
  funext i; idx_vars i
  pointwise [k0_pay4]
  simp only [bds_at]

/-- The block of the keys' gradient. -/
theorem rowsK (q : FVec Ideal S2048x512 .bf16) (k v : FVec Ideal S256x512 .bf16) (a : FVec Ideal S2048x512 .bf16) :
    k0_pay5 (F := Ideal) q k v a = fun i => ∑ x : Fin 2048, dscore (bdots q k x) (bdots a v x) (i 0) * q (ix2 x (i 1)) := by
  funext i; idx_vars i
  pointwise [k0_pay5]
  simp only [bds_at]

/-- The block of the values' gradient. -/
theorem rowsV (q : FVec Ideal S2048x512 .bf16) (k : FVec Ideal S256x512 .bf16) (a : FVec Ideal S2048x512 .bf16) :
    k0_pay2 (F := Ideal) q k a = fun i => ∑ x : Fin 2048, prob (bdots q k x) (i 0) * a (ix2 x (i 1)) := by
  funext i; idx_vars i
  pointwise [k0_pay2]
  simp only [p_at]

/-- A point's head. -/
def hd (t : Fin cfg0.N) : Fin 4 := ⟨t.val, lt_of_lt_of_eq t.isLt N_0⟩

/-- A point's block of queries and keys: their head's products. -/
theorem qk (c : Dev nD) (t : Fin cfg0.N) : bdots (iblk m c 0 t) (iblk m c 1 t) = dots (m ((c : Thread nD τ).loc main_arg0)) (m ((c : Thread nD τ).loc main_arg1)) (hd t) := by
  funext i j
  have hN : t.val < 4 := lt_of_lt_of_eq t.isLt N_0
  blk_point [bdots, dots, hd, iblk, V, idx t]

/-- A point's block of cotangents and values: their head's products. -/
theorem av (c : Dev nD) (t : Fin cfg0.N) : bdots (iblk m c 3 t) (iblk m c 2 t) = dots (m ((c : Thread nD τ).loc main_arg3)) (m ((c : Thread nD τ).loc main_arg2)) (hd t) := by
  funext i j
  have hN : t.val < 4 := lt_of_lt_of_eq t.isLt N_0
  blk_point [bdots, dots, hd, iblk, V, idx t]

/-- The array of the queries' gradient. -/
theorem final4 (c : Dev nD) : (dats m 0 c).arrAt 4 (cfgs 0).N = gradQ (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  have hN : t.val < 4 := lt_of_lt_of_eq t.isLt N_0
  rw [after0_4]
  frame_out
  rw [rowsQ, qk, av]
  refine (Finset.sum_congr rfl fun x _ => congrArg₂ (· * ·) (congrArg₂ (fun h r => dscore (dots (m ((c : Thread nD τ).loc main_arg0)) (m ((c : Thread nD τ).loc main_arg1)) h r) (dots (m ((c : Thread nD τ).loc main_arg3)) (m ((c : Thread nD τ).loc main_arg2)) h r) x) (Fin.ext ?_) (Fin.ext ?_)) ?_ : (_ : EReal) = _)
  · have h1 : (y 1).val < 512 := (y 1).isLt
    simp only [hd, head]; blk_simp [idx t]; omega
  · blk_simp [idx t]
  · blk_point [iblk, V, idx t]

/-- The array of the keys' gradient. -/
theorem final5 (c : Dev nD) : (dats m 0 c).arrAt 5 (cfgs 0).N = gradK (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  have hN : t.val < 4 := lt_of_lt_of_eq t.isLt N_0
  rw [after0_5]
  frame_out
  rw [rowsK, qk, av]
  refine (Finset.sum_congr rfl fun x _ => congrArg₂ (· * ·) (congrArg₂ (fun h r => dscore (dots (m ((c : Thread nD τ).loc main_arg0)) (m ((c : Thread nD τ).loc main_arg1)) h x) (dots (m ((c : Thread nD τ).loc main_arg3)) (m ((c : Thread nD τ).loc main_arg2)) h x) r) (Fin.ext ?_) (Fin.ext ?_)) ?_ : (_ : EReal) = _)
  · have h1 : (y 1).val < 512 := (y 1).isLt
    simp only [hd, head]; blk_simp [idx t]; omega
  · blk_simp [idx t]
  · blk_point [iblk, V, idx t]

/-- The array of the values' gradient. -/
theorem final6 (c : Dev nD) : (dats m 0 c).arrAt 6 (cfgs 0).N = gradV (m ((c : Thread nD τ).loc main_arg0)) (m ((c : Thread nD τ).loc main_arg1)) (m ((c : Thread nD τ).loc main_arg3)) := by
  refine (dats m 0 c).arrAt_eq_of_covers 6 _ (by decide +kernel) fun t _ y => ?_
  blk_simp
  have hN : t.val < 4 := lt_of_lt_of_eq t.isLt N_0
  rw [after0_6]
  frame_out
  rw [rowsV, qk]
  refine (Finset.sum_congr rfl fun x _ => congrArg₂ (· * ·) (congrArg₂ (fun h r => prob (dots (m ((c : Thread nD τ).loc main_arg0)) (m ((c : Thread nD τ).loc main_arg1)) h x) r) (Fin.ext ?_) (Fin.ext ?_)) ?_ : (_ : EReal) = _)
  · have h1 : (y 1).val < 512 := (y 1).isLt
    simp only [hd, head]; blk_simp [idx t]; omega
  · blk_simp [idx t]
  · blk_point [iblk, V, idx t]

end Cert.Attn

/-- Where the queries and keys are finite the kernel's three gradients are the reference's. -/
theorem Cert.Attn.pair : Cert.algebraic_AttnBwdIdeal_AttnBwdRefIdeal_pre_attn_bwd_finite := by
  pair_intro
  · run_from Cert.AttnBwdIdeal.Value.run_blocks m g
  · refine Idealize.ShloMosaic.θ_run_mono (Cert.AttnBwdRefIdeal.Value.run m' g') fun r hr c => ?_
    obtain ⟨h0, h1, h2, k⟩ := hr c
    obtain ⟨a0, a1, a2, a3⟩ := hagree c
    have hs := fun h i j => Cert.Attn.real_scores _ _ _ _ (hpre c).1 (hpre c).2 h i j
    refine ⟨h0.trans ((Cert.AttnBwdRefIdeal.Read.val_main_v67_eq m' c).trans ?_),
      h1.trans ((Cert.AttnBwdRefIdeal.Read.val_main_v68_eq m' c).trans ?_),
      h2.trans ((Cert.AttnBwdRefIdeal.Read.val_main_v69_eq _ _ _).trans ?_), k⟩
    · rw [a0, a1, a2, a3, ← Cert.Attn.gradQ_eq _ _ _ _ hs]; exact (Cert.Attn.final4 m c).symm
    · rw [a0, a1, a2, a3, ← Cert.Attn.gradK_eq _ _ _ _ hs]; exact (Cert.Attn.final5 m c).symm
    · rw [a0, a1, a3, ← Cert.Attn.gradV_eq]; exact (Cert.Attn.final6 m c).symm

end
-- ==== Proof.NormLast.lean ====
/- The gradient of the last residual norm: the kernel's three arrays are the reference's. -/
module

public import proofs.«01_k».proof.Proof.Gen.NormLastBwdIdeal.Value
public import proofs.«01_k».proof.Proof.Gen.NormLastBwdRefIdeal.Read
public import proofs.«01_k».proof.Proof.Rms
public import proofs.«01_k».proof.Defs

@[expose] public section

set_option maxRecDepth 16384

noncomputable section

namespace Cert.NormLast

open Cert.NormLastBwdIdeal Cert.NormLastBwdIdeal.Gen Idealize.ShloMosaic Idealize.ShloMosaic.TcCoe Idealize.SL.Sem
open Idealize.ShloMosaic.Pipeline (Dat)

variable (m : (ℓ : Loc nD τ sig) → Buf (Elt Ideal) ℓ)

/-- The derivative with respect to the normed rows, at one place. -/
def gradO (o : FVec Ideal S2048x2048 .f32) (g : FVec Ideal S1x2048 .f32) (d : FVec Ideal S2048x2048 .f32) : FVec Ideal S2048x2048 .bf16 := fun i =>
  Cert.Rms.dx (fun k => o (ix2 (i 0) k)) (fun k => d (ix2 (i 0) k) * g (ix2 0 k)) (i 1)

/-- The derivative with respect to the scale, at one place. -/
def gradG (o d : FVec Ideal S2048x2048 .f32) : FVec Ideal S1x2048 .f32 := fun i =>
  ∑ r : Fin 2048, d (ix2 r (i 1)) * (o (ix2 r (i 1)) * Cert.Rms.inv fun k => o (ix2 r k))

open Cert.NormLastBwdRefIdeal.Read in
/-- The reference's derivative with respect to the normed rows. -/
theorem gradO_eq (o : FVec Ideal S2048x2048 .f32) (g : FVec Ideal S1x2048 .f32) (d : FVec Ideal S2048x2048 .f32) :
    gradO o g d = val_main_v36 (F := Ideal) o g d := by
  funext i; idx_vars i
  pointwise [gradO, val_main_v36, val_main_v35, val_main_v34, val_main_v33, val_main_v32, val_main_v31, val_main_v30, val_main_cst_6, val_main_v29, val_main_v28, val_main_cst_5, val_main_v27, val_main_v26, val_main_v25, val_main_v24, val_main_v23, val_main_cst_4, val_main_v22, val_main_v21, val_main_v20, val_main_v16, val_main_v10, val_main_v9, val_main_cst_2, val_main_v8, val_main_v7, val_main_v6, val_main_v5, val_main_cst_1, val_main_v4, val_main_v3, val_main_cst_0, val_main_v2, val_main_v1, val_main_cst, val_main_v0]
  rw [Cert.Rms.dx_ref]

open Cert.NormLastBwdRefIdeal.Read in
/-- The reference's derivative with respect to the scale. -/
theorem gradG_eq (o d : FVec Ideal S2048x2048 .f32) : gradG o d = val_main_v19 (F := Ideal) o d := by
  funext i; idx_vars i
  pointwise [gradG, Cert.Rms.inv, val_main_v19, val_main_v18, val_main_cst_3, val_main_v17, val_main_v16, val_main_v12, val_main_v11, val_main_v7, val_main_v6, val_main_v5, val_main_cst_1, val_main_v4, val_main_v3, val_main_cst_0, val_main_v2, val_main_v1, val_main_cst, val_main_v0]
  exact Finset.sum_congr rfl fun _ _ => mul_comm _ _

/-- What the body stores for the normed rows of a block. -/
theorem rows (d o : FVec Ideal S256x2048 .f32) (g : FVec Ideal S1x2048 .f32) :
    k0_pay5 (F := Ideal) d o g = fun i : S256x2048.Idx =>
      Cert.Rms.dx (fun k => o (ix2 (i 0) k)) (fun k => d (ix2 (i 0) k) * g (ix2 0 k)) (i 1) := by
  funext i; idx_vars i
  pointwise [k0_pay5, k0_pay3, k0_pay2, Cert.Rms.dx, Cert.Rms.inv]

/-- What a block adds to the scale's gradient. -/
theorem part (d o : FVec Ideal S256x2048 .f32) :
    k0_pay4 (F := Ideal) d o = fun i : S1x2048.Idx =>
      ∑ r : Fin 256, d (ix2 r (i 1)) * (o (ix2 r (i 1)) * Cert.Rms.inv fun k => o (ix2 r k)) := by
  funext i; idx_vars i
  pointwise [k0_pay4, k0_pay3, k0_pay2, Cert.Rms.inv]

/-- The accumulating step. -/
theorem step (p a : FVec Ideal S1x2048 .f32) (j : S1x2048.Idx) :
    k0_pay1 (F := Ideal) p a j = a j + p j := by
  idx_vars j
  pointwise [k0_pay1]

/-- Every window's block index. -/
theorem idx : ∀ t : Fin cfg0.N, win0_0.index t = ![t.val, 0] ∧ win0_1.index t = ![t.val, 0] ∧ win0_2.index t = ![t.val, 0]
    ∧ win0_3.index t = ![0, 0] ∧ win0_4.index t = ![t.val, 0] ∧ win0_5.index t = ![t.val, 0] ∧ win0_6.index t = ![0, 0] :=
  (by decide +kernel : ∀ t : Fin grid0.N, _)

/-- The array of the residual's gradient is the cotangent. -/
theorem final4 (c : Dev nD) : (dats m 0 c).arrAt 4 (cfgs 0).N = m ((c : Thread nD τ).loc main_arg3) := by
  rw [← V_main_arg3 m c]
  refine (dats m 0 c).arrAt_eq_of_covers 4 _ (by decide +kernel) fun t _ y => ?_
  blk_simp
  have hN : t.val < 8 := lt_of_lt_of_eq t.isLt N_0
  rw [after0_4]
  by_cases h : t.val % 8 = 0
  · rw [outsAt0_A m c t h (by omega)]; frame_out
    blk_point [iblk, idx t]
  · rw [outsAt0_B m c t h (by omega)]; frame_out
    blk_point [iblk, idx t]

/-- The array of the normed rows' gradient. -/
theorem final5 (c : Dev nD) : (dats m 0 c).arrAt 5 (cfgs 0).N
    = gradO (m ((c : Thread nD τ).loc main_arg1)) (m ((c : Thread nD τ).loc main_arg2)) (m ((c : Thread nD τ).loc main_arg3)) := by
  rw [← V_main_arg1 m c, ← V_main_arg2 m c, ← V_main_arg3 m c]
  refine (dats m 0 c).arrAt_eq_of_covers 5 _ (by decide +kernel) fun t _ y => ?_
  blk_simp
  have hN : t.val < 8 := lt_of_lt_of_eq t.isLt N_0
  rw [after0_5]
  by_cases h : t.val % 8 = 0
  · rw [outsAt0_A m c t h (by omega)]; frame_out; rw [rows]
    blk_point [gradO, iblk, idx t]
  · rw [outsAt0_B m c t h (by omega)]; frame_out; rw [rows]
    blk_point [gradO, iblk, idx t]

/-- The array of the scale's gradient. -/
theorem final6 (c : Dev nD) : (dats m 0 c).arrAt 6 (cfgs 0).N
    = gradG (m ((c : Thread nD τ).loc main_arg1)) (m ((c : Thread nD τ).loc main_arg3)) := by
  rw [← V_main_arg1 m c, ← V_main_arg3 m c]
  refine (dats m 0 c).arrAt_eq_of_after_last 6 t0_7 (by decide +kernel) _ fun j => ?_
  blk_simp
  rw [after0_6, Pipeline.eq_sum_fin_of_reset_step_apply_last (fun n h => (outsAt0 m c n h).2.2) 8 (fun _ => 0)
    (fun t => k0_pay4 (F := Ideal) (iblk m c 0 t) (iblk m c 2 t))
    (fun t h j => by
      have hN : t.val < 8 := lt_of_lt_of_eq t.isLt N_0
      rw [outsAt0_A m c t h (by omega)]; frame_out; exact (zero_add _).symm)
    (fun t h j => by
      have hN : t.val < 8 := lt_of_lt_of_eq t.isLt N_0
      rw [outsAt0_B m c t h (by omega)]; frame_out; exact step _ _ j)
    (le_of_eq N_0) t0_7 rfl j, zero_add]
  simp only [part]
  refine Fin.sum_mul_add_congr (L := 2048) (S := 8) (n := 256) fun s k hl => ?_
  blk_point [iblk, idx s]

end Cert.NormLast

/-- The kernel's three gradients are the reference's. -/
theorem Cert.NormLast.pair : Cert.algebraic_NormLastBwdIdeal_NormLastBwdRefIdeal := by
  pair_intro
  · run_from Cert.NormLastBwdIdeal.Value.run_blocks m g
  · refine Idealize.ShloMosaic.θ_run_mono (Cert.NormLastBwdRefIdeal.Value.run m' g') fun r hr c => ?_
    obtain ⟨hx, h0, h1, k⟩ := hr c
    obtain ⟨a0, a1, a2, a3⟩ := hagree c
    refine ⟨hx.trans ?_, h0.trans ((Cert.NormLastBwdRefIdeal.Read.val_main_v36_eq _ _ _).trans ?_),
      h1.trans ((Cert.NormLastBwdRefIdeal.Read.val_main_v19_eq _ _).trans ?_), k⟩
    · rw [a3]; exact (Cert.NormLast.final4 m c).symm
    · rw [a1, a2, a3, ← Cert.NormLast.gradO_eq]; exact (Cert.NormLast.final5 m c).symm
    · rw [a1, a3, ← Cert.NormLast.gradG_eq]; exact (Cert.NormLast.final6 m c).symm

end
-- ==== Proof.NormMid.lean ====
/- The gradient of a residual norm followed by the next norm: the kernel's four arrays are the reference's. -/
module

public import proofs.«01_k».proof.Proof.Gen.NormMidBwdIdeal.Value
public import proofs.«01_k».proof.Proof.Gen.NormMidBwdRefIdeal.Read
public import proofs.«01_k».proof.Proof.Rms
public import proofs.«01_k».proof.Defs

@[expose] public section

set_option maxRecDepth 16384

noncomputable section

namespace Cert.NormMid

open Cert.NormMidBwdIdeal Cert.NormMidBwdIdeal.Gen Idealize.ShloMosaic Idealize.ShloMosaic.TcCoe Idealize.SL.Sem
open Idealize.ShloMosaic.Pipeline (Dat)

variable (m : (ℓ : Loc nD τ sig) → Buf (Elt Ideal) ℓ)

/-- The residual's rows, as the reference writes them. -/
abbrev resid (x o : FVec Ideal S2048x2048 .f32) (gp : FVec Ideal S1x2048 .f32) : FVec Ideal S2048x2048 .f32 := Cert.NormMidBwdRefIdeal.Read.val_main_v15 (F := Ideal) x o gp

/-- The derivative with respect to the residual's rows, at one place. -/
def gradX (x : FVec Ideal S2048x2048 .f32) (g : FVec Ideal S1x2048 .f32) (e d : FVec Ideal S2048x2048 .f32) : FVec Ideal S2048x2048 .f32 := fun i =>
  e (ix2 (i 0) (i 1)) + Cert.Rms.dx (fun k => x (ix2 (i 0) k)) (fun k => d (ix2 (i 0) k) * g (ix2 0 k)) (i 1)

/-- The derivative with respect to the normed rows, at one place. -/
def gradO (o : FVec Ideal S2048x2048 .f32) (g : FVec Ideal S1x2048 .f32) (d : FVec Ideal S2048x2048 .f32) : FVec Ideal S2048x2048 .bf16 := fun i =>
  Cert.Rms.dx (fun k => o (ix2 (i 0) k)) (fun k => d (ix2 (i 0) k) * g (ix2 0 k)) (i 1)

/-- The derivative with respect to a scale, at one place. -/
def gradG (o d : FVec Ideal S2048x2048 .f32) : FVec Ideal S1x2048 .f32 := fun i =>
  ∑ r : Fin 2048, d (ix2 r (i 1)) * (o (ix2 r (i 1)) * Cert.Rms.inv fun k => o (ix2 r k))

open Cert.NormMidBwdRefIdeal.Read in
/-- The reference's derivative with respect to the residual's rows. -/
theorem gradX_eq (x o : FVec Ideal S2048x2048 .f32) (gp gn : FVec Ideal S1x2048 .f32) (e d : FVec Ideal S2048x2048 .f32) :
    gradX (resid x o gp) gn e d = val_main_v50 (F := Ideal) x o gp gn e d := by
  funext i; idx_vars i
  pointwise [gradX, resid, val_main_v50, val_main_v49, val_main_v48, val_main_v47, val_main_v46, val_main_v45, val_main_cst_10, val_main_v44, val_main_v43, val_main_cst_9, val_main_v42, val_main_v41, val_main_v40, val_main_v39, val_main_v38, val_main_v37, val_main_cst_8, val_main_v36, val_main_v35, val_main_v34, val_main_v26, val_main_v25, val_main_cst_6, val_main_v24, val_main_v23, val_main_v22, val_main_v21, val_main_cst_5, val_main_v20, val_main_v19, val_main_cst_4, val_main_v18, val_main_v17, val_main_cst_3, val_main_v16]
  rw [Cert.Rms.dx_ref]; simp only [add_assoc]

open Cert.NormMidBwdRefIdeal.Read in
/-- The reference's derivative with respect to the normed rows. -/
theorem gradO_eq (x o : FVec Ideal S2048x2048 .f32) (gp gn : FVec Ideal S1x2048 .f32) (e d : FVec Ideal S2048x2048 .f32) :
    gradO o gp (val_main_v50 (F := Ideal) x o gp gn e d) = val_main_v71 (F := Ideal) x o gp gn e d := by
  funext i; idx_vars i
  pointwise [gradO, val_main_v71, val_main_v70, val_main_v69, val_main_v68, val_main_v67, val_main_v66, val_main_v65, val_main_cst_14, val_main_v64, val_main_v63, val_main_cst_13, val_main_v62, val_main_v61, val_main_v60, val_main_v59, val_main_v58, val_main_cst_12, val_main_v57, val_main_v56, val_main_v55, val_main_v51, val_main_v10, val_main_v9, val_main_cst_2, val_main_v8, val_main_v7, val_main_v6, val_main_v5, val_main_cst_1, val_main_v4, val_main_v3, val_main_cst_0, val_main_v2, val_main_v1, val_main_cst, val_main_v0]
  rw [Cert.Rms.dx_ref]

open Cert.NormMidBwdRefIdeal.Read in
/-- The reference's derivative with respect to the first scale. -/
theorem gradP_eq (x o : FVec Ideal S2048x2048 .f32) (gp gn : FVec Ideal S1x2048 .f32) (e d : FVec Ideal S2048x2048 .f32) :
    gradG o (val_main_v50 (F := Ideal) x o gp gn e d) = val_main_v54 (F := Ideal) x o gp gn e d := by
  funext i; idx_vars i
  pointwise [gradG, Cert.Rms.inv, val_main_v54, val_main_v53, val_main_cst_11, val_main_v52, val_main_v51, val_main_v12, val_main_v11, val_main_v7, val_main_v6, val_main_v5, val_main_cst_1, val_main_v4, val_main_v3, val_main_cst_0, val_main_v2, val_main_v1, val_main_cst, val_main_v0]
  exact Finset.sum_congr rfl fun _ _ => mul_comm _ _

open Cert.NormMidBwdRefIdeal.Read in
/-- The reference's derivative with respect to the second scale. -/
theorem gradN_eq (x o : FVec Ideal S2048x2048 .f32) (gp : FVec Ideal S1x2048 .f32) (d : FVec Ideal S2048x2048 .f32) :
    gradG (resid x o gp) d = val_main_v33 (F := Ideal) x o gp d := by
  funext i; idx_vars i
  pointwise [gradG, resid, Cert.Rms.inv, val_main_v33, val_main_v32, val_main_cst_7, val_main_v31, val_main_v28, val_main_v27, val_main_v23, val_main_v22, val_main_v21, val_main_cst_5, val_main_v20, val_main_v19, val_main_cst_4, val_main_v18, val_main_v17, val_main_cst_3, val_main_v16]
  exact Finset.sum_congr rfl fun _ _ => mul_comm _ _

/-- What the body stores for the residual's rows of a block. -/
theorem rowsX (e x : FVec Ideal S256x2048 .f32) (g : FVec Ideal S1x2048 .f32) (d : FVec Ideal S256x2048 .f32) :
    k0_pay10 (F := Ideal) e x g d = fun i : S256x2048.Idx =>
      e (ix2 (i 0) (i 1)) + Cert.Rms.dx (fun k => x (ix2 (i 0) k)) (fun k => d (ix2 (i 0) k) * g (ix2 0 k)) (i 1) := by
  funext i; idx_vars i
  pointwise [k0_pay10, k0_pay8, k0_pay7, k0_pay6, Cert.Rms.dx, Cert.Rms.inv]

/-- What the body stores for the normed rows of a block. -/
theorem rowsO (d o : FVec Ideal S256x2048 .f32) (g : FVec Ideal S1x2048 .f32) :
    k0_pay4 (F := Ideal) d o g = fun i : S256x2048.Idx =>
      Cert.Rms.dx (fun k => o (ix2 (i 0) k)) (fun k => d (ix2 (i 0) k) * g (ix2 0 k)) (i 1) := by
  funext i; idx_vars i
  pointwise [k0_pay4, k0_pay2, k0_pay1, Cert.Rms.dx, Cert.Rms.inv]

/-- What a block adds to the second scale's gradient. -/
theorem partN (x d : FVec Ideal S256x2048 .f32) :
    k0_pay9 (F := Ideal) x d = fun i : S1x2048.Idx =>
      ∑ r : Fin 256, d (ix2 r (i 1)) * (x (ix2 r (i 1)) * Cert.Rms.inv fun k => x (ix2 r k)) := by
  funext i; idx_vars i
  pointwise [k0_pay9, k0_pay8, k0_pay7, k0_pay6, Cert.Rms.inv]

/-- What a block adds to the first scale's gradient. -/
theorem partP (d o : FVec Ideal S256x2048 .f32) :
    k0_pay3 (F := Ideal) d o = fun i : S1x2048.Idx =>
      ∑ r : Fin 256, d (ix2 r (i 1)) * (o (ix2 r (i 1)) * Cert.Rms.inv fun k => o (ix2 r k)) := by
  funext i; idx_vars i
  pointwise [k0_pay3, k0_pay2, k0_pay1, Cert.Rms.inv]

/-- The accumulating step of the second scale. -/
theorem stepN (x d : FVec Ideal S256x2048 .f32) (a : FVec Ideal S1x2048 .f32) (j : S1x2048.Idx) :
    k0_pay11 (F := Ideal) x d a j = a j + k0_pay9 (F := Ideal) x d j := by
  idx_vars j
  pointwise [k0_pay11]

/-- The accumulating step of the first scale. -/
theorem stepP (d o : FVec Ideal S256x2048 .f32) (a : FVec Ideal S1x2048 .f32) (j : S1x2048.Idx) :
    k0_pay5 (F := Ideal) d o a j = a j + k0_pay3 (F := Ideal) d o j := by
  idx_vars j
  pointwise [k0_pay5]

/-- Every window's block index. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![t.val, 0]
    ∧ win0_7.index t = ![t.val, 0] ∧ win0_8.index t = ![0, 0] ∧ win0_9.index t = ![0, 0] :=
  (by decide +kernel : ∀ t : Fin grid0.N, _)

/-- The host lines leave the residual's rows. -/
theorem V_resid (c : Dev nD) : V m c main_v12 = resid (m ((c : Thread nD τ).loc main_arg0)) (m ((c : Thread nD τ).loc main_arg1)) (m ((c : Thread nD τ).loc main_arg2)) := by
  entry_read
  rfl

/-- The array of the residual's gradient. -/
theorem final6 (c : Dev nD) : (dats m 0 c).arrAt 6 (cfgs 0).N
    = gradX (resid (m ((c : Thread nD τ).loc main_arg0)) (m ((c : Thread nD τ).loc main_arg1)) (m ((c : Thread nD τ).loc main_arg2))) (m ((c : Thread nD τ).loc main_arg3)) (m ((c : Thread nD τ).loc main_arg4)) (m ((c : Thread nD τ).loc main_arg5)) := by
  rw [← V_resid m c, ← V_main_arg3 m c, ← V_main_arg4 m c, ← V_main_arg5 m c]
  refine (dats m 0 c).arrAt_eq_of_covers 6 _ (by decide +kernel) fun t _ y => ?_
  blk_simp
  have hN : t.val < 8 := lt_of_lt_of_eq t.isLt N_0
  have e : (outsAt0 m c t.val t.isLt).1 = k0_pay10 (F := Ideal) (iblk m c 0 t) (iblk m c 2 t) (iblk m c 5 t) (iblk m c 1 t) := by
    by_cases h : t.val % 8 = 0
    · rw [outsAt0_A m c t h (by omega) h (by omega)]; frame_out
    · rw [outsAt0_B m c t h (by omega) h (by omega)]; frame_out
  rw [after0_6, e, rowsX]
  blk_point [gradX, iblk, idx t]

/-- The array of the normed rows' gradient. -/
theorem final7 (c : Dev nD) : (dats m 0 c).arrAt 7 (cfgs 0).N
    = gradO (m ((c : Thread nD τ).loc main_arg1)) (m ((c : Thread nD τ).loc main_arg2)) (gradX (resid (m ((c : Thread nD τ).loc main_arg0)) (m ((c : Thread nD τ).loc main_arg1)) (m ((c : Thread nD τ).loc main_arg2))) (m ((c : Thread nD τ).loc main_arg3)) (m ((c : Thread nD τ).loc main_arg4)) (m ((c : Thread nD τ).loc main_arg5))) := by
  rw [← V_resid m c, ← V_main_arg1 m c, ← V_main_arg2 m c, ← V_main_arg3 m c, ← V_main_arg4 m c, ← V_main_arg5 m c]
  refine (dats m 0 c).arrAt_eq_of_covers 7 _ (by decide +kernel) fun t _ y => ?_
  blk_simp
  have hN : t.val < 8 := lt_of_lt_of_eq t.isLt N_0
  have e : (outsAt0 m c t.val t.isLt).2.1 = k0_pay4 (F := Ideal) (k0_pay10 (F := Ideal) (iblk m c 0 t) (iblk m c 2 t) (iblk m c 5 t) (iblk m c 1 t)) (iblk m c 3 t) (iblk m c 4 t) := by
    by_cases h : t.val % 8 = 0
    · rw [outsAt0_A m c t h (by omega) h (by omega)]; frame_out
    · rw [outsAt0_B m c t h (by omega) h (by omega)]; frame_out
  rw [after0_7, e, rowsO, rowsX]
  blk_point [gradO, gradX, iblk, idx t]
  all_goals (simp only [ix2_0, ix2_1]; blk_point [idx t])

/-- The array of the first scale's gradient. -/
theorem final8 (c : Dev nD) : (dats m 0 c).arrAt 8 (cfgs 0).N
    = gradG (m ((c : Thread nD τ).loc main_arg1)) (gradX (resid (m ((c : Thread nD τ).loc main_arg0)) (m ((c : Thread nD τ).loc main_arg1)) (m ((c : Thread nD τ).loc main_arg2))) (m ((c : Thread nD τ).loc main_arg3)) (m ((c : Thread nD τ).loc main_arg4)) (m ((c : Thread nD τ).loc main_arg5))) := by
  rw [← V_resid m c, ← V_main_arg1 m c, ← V_main_arg3 m c, ← V_main_arg4 m c, ← V_main_arg5 m c]
  refine (dats m 0 c).arrAt_eq_of_after_last 8 t0_7 (by decide +kernel) _ fun j => ?_
  blk_simp
  rw [after0_8, Pipeline.eq_sum_fin_of_reset_step_apply_last (fun n h => (outsAt0 m c n h).2.2.1) 8 (fun _ => 0)
    (fun t => k0_pay3 (F := Ideal) (k0_pay10 (F := Ideal) (iblk m c 0 t) (iblk m c 2 t) (iblk m c 5 t) (iblk m c 1 t)) (iblk m c 3 t))
    (fun t h j => by
      have hN : t.val < 8 := lt_of_lt_of_eq t.isLt N_0
      rw [outsAt0_A m c t h (by omega) h (by omega)]; frame_out; exact (zero_add _).symm)
    (fun t h j => by
      have hN : t.val < 8 := lt_of_lt_of_eq t.isLt N_0
      rw [outsAt0_B m c t h (by omega) h (by omega)]; frame_out; exact stepP _ _ _ j)
    (le_of_eq N_0) t0_7 rfl j, zero_add]
  simp only [partP, rowsX]
  refine Fin.sum_mul_add_congr (L := 2048) (S := 8) (n := 256) fun s k hl => ?_
  blk_point [gradX, iblk, idx s]
  all_goals (simp only [ix2_0, ix2_1]; blk_point [idx s])
  all_goals rfl

/-- The array of the second scale's gradient. -/
theorem final9 (c : Dev nD) : (dats m 0 c).arrAt 9 (cfgs 0).N
    = gradG (resid (m ((c : Thread nD τ).loc main_arg0)) (m ((c : Thread nD τ).loc main_arg1)) (m ((c : Thread nD τ).loc main_arg2))) (m ((c : Thread nD τ).loc main_arg5)) := by
  rw [← V_resid m c, ← V_main_arg5 m c]
  refine (dats m 0 c).arrAt_eq_of_after_last 9 t0_7 (by decide +kernel) _ fun j => ?_
  blk_simp
  rw [after0_9, Pipeline.eq_sum_fin_of_reset_step_apply_last (fun n h => (outsAt0 m c n h).2.2.2) 8 (fun _ => 0)
    (fun t => k0_pay9 (F := Ideal) (iblk m c 2 t) (iblk m c 1 t))
    (fun t h j => by
      have hN : t.val < 8 := lt_of_lt_of_eq t.isLt N_0
      rw [outsAt0_A m c t h (by omega) h (by omega)]; frame_out; exact (zero_add _).symm)
    (fun t h j => by
      have hN : t.val < 8 := lt_of_lt_of_eq t.isLt N_0
      rw [outsAt0_B m c t h (by omega) h (by omega)]; frame_out; exact stepN _ _ _ j)
    (le_of_eq N_0) t0_7 rfl j, zero_add]
  simp only [partN]
  refine Fin.sum_mul_add_congr (L := 2048) (S := 8) (n := 256) fun s k hl => ?_
  blk_point [iblk, idx s]

end Cert.NormMid

open Cert.NormMidBwdRefIdeal.Read in
/-- The kernel's four gradients are the reference's. -/
theorem Cert.NormMid.pair : Cert.algebraic_NormMidBwdIdeal_NormMidBwdRefIdeal := by
  pair_intro
  · run_from Cert.NormMidBwdIdeal.Value.run_blocks m g
  · refine Idealize.ShloMosaic.θ_run_mono (Cert.NormMidBwdRefIdeal.Value.run m' g') fun r hr c => ?_
    obtain ⟨h0, h1, h2, h3, k⟩ := hr c
    obtain ⟨a0, a1, a2, a3, a4, a5⟩ := hagree c
    refine ⟨h0.trans ((val_main_v50_eq m' c).trans ?_), h1.trans ((val_main_v71_eq m' c).trans ?_),
      h2.trans ((val_main_v54_eq m' c).trans ?_), h3.trans ((val_main_v33_eq _ _ _ _).trans ?_), k⟩
    · rw [a0, a1, a2, a3, a4, a5, ← Cert.NormMid.gradX_eq]; exact (Cert.NormMid.final6 m c).symm
    · rw [a0, a1, a2, a3, a4, a5, ← Cert.NormMid.gradO_eq, ← Cert.NormMid.gradX_eq]; exact (Cert.NormMid.final7 m c).symm
    · rw [a0, a1, a2, a3, a4, a5, ← Cert.NormMid.gradP_eq, ← Cert.NormMid.gradX_eq]; exact (Cert.NormMid.final8 m c).symm
    · rw [a0, a1, a2, a5, ← Cert.NormMid.gradN_eq]; exact (Cert.NormMid.final9 m c).symm

end
-- ==== Proof.NormMem.lean ====
/- The gradient of the norm of the memory rows: the kernel's two arrays are the reference's derivative. -/
module

public import proofs.«01_k».proof.Proof.Gen.NormMemBwdIdeal.Value
public import proofs.«01_k».proof.Proof.Gen.NormMemBwdRefIdeal.Read
public import proofs.«01_k».proof.Proof.Rms
public import proofs.«01_k».proof.Defs

@[expose] public section

set_option maxRecDepth 16384

noncomputable section

namespace Cert.NormMem

open Cert.NormMemBwdIdeal Cert.NormMemBwdIdeal.Gen Idealize.ShloMosaic Idealize.ShloMosaic.TcCoe Idealize.SL.Sem
open Idealize.ShloMosaic.Pipeline (Dat)

/-- The derivative with respect to the rows, as the reference writes it. -/
abbrev refX (x : FVec Ideal S256x2048 .f32) (g : FVec Ideal S1x2048 .f32) (d : FVec Ideal S256x2048 .f32) :
    FVec Ideal S256x2048 .f32 := Cert.NormMemBwdRefIdeal.Read.val_main_v33 (F := Ideal) x g d

/-- The derivative with respect to the scale, as the reference writes it. -/
abbrev refG (x : FVec Ideal S256x2048 .f32) (d : FVec Ideal S256x2048 .f32) :
    FVec Ideal S1x2048 .f32 := Cert.NormMemBwdRefIdeal.Read.val_main_v17 (F := Ideal) x d

variable (m : (ℓ : Loc nD τ sig) → Buf (Elt Ideal) ℓ)

/-- Every window's block index. -/
theorem idx : ∀ t : Fin cfg0.N, win0_0.index t = ![0, 0] ∧ win0_1.index t = ![0, 0] ∧ win0_2.index t = ![0, 0]
    ∧ win0_3.index t = ![0, 0] ∧ win0_4.index t = ![0, 0] :=
  (by decide +kernel : ∀ t : Fin grid0.N, _)

open Cert.NormMemBwdRefIdeal.Read in
/-- What the body stores for the rows is the derivative. -/
theorem rows (x : FVec Ideal S256x2048 .f32) (g : FVec Ideal S1x2048 .f32) (d : FVec Ideal S256x2048 .f32) :
    k0_pay3 (F := Ideal) x g d = refX x g d := by
  funext i; idx_vars i
  pointwise [k0_pay3, k0_pay2, k0_pay1, refX, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0,
   val_main_cst, val_main_cst_0, val_main_cst_1, val_main_cst_2, val_main_cst_3, val_main_cst_4, val_main_cst_5, val_main_cst_6]
  exact Cert.Rms.dx_eq (fun k => x (ix2 i0 k)) (fun k => d (ix2 i0 k) * g (ix2 0 k)) i1

open Cert.NormMemBwdRefIdeal.Read in
/-- What the body stores for the scale is the derivative. -/
theorem scale (x : FVec Ideal S256x2048 .f32) (d : FVec Ideal S256x2048 .f32) :
    k0_pay4 (F := Ideal) x d = refG x d := by
  funext i; idx_vars i
  pointwise! [k0_pay4, k0_pay2, k0_pay1, refG, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0,
   val_main_cst, val_main_cst_0, val_main_cst_1, val_main_cst_2, val_main_cst_3]

/-- The array of the rows' gradient. -/
theorem final3 (c : Dev nD) : (dats m 0 c).arrAt 3 (cfgs 0).N
    = refX (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; unfold outsAt0; frame_out
  rw [← rows]
  blk_point [iblk, V, idx t]

/-- The array of the scale's gradient. -/
theorem final4 (c : Dev nD) : (dats m 0 c).arrAt 4 (cfgs 0).N
    = refG (m ((c : Thread nD τ).loc main_arg0)) (m ((c : Thread nD τ).loc main_arg2)) := by
  refine (dats m 0 c).arrAt_eq_of_covers 4 _ (by decide +kernel) fun t _ y => ?_
  blk_simp
  rw [after0_4]; unfold outsAt0; frame_out
  rw [← scale]
  blk_point [iblk, V, idx t]

end Cert.NormMem

/-- The kernel's two gradients are the reference's. -/
theorem Cert.NormMem.pair : Cert.algebraic_NormMemBwdIdeal_NormMemBwdRefIdeal := by
  pair_intro
  · run_from Cert.NormMemBwdIdeal.Value.run_blocks m g
  · refine Idealize.ShloMosaic.θ_run_mono (Cert.NormMemBwdRefIdeal.Value.run m' g') fun r hr c => ?_
    obtain ⟨h0, h1, k⟩ := hr c
    obtain ⟨a0, a1, a2⟩ := hagree c
    refine ⟨h0.trans ((Cert.NormMemBwdRefIdeal.Read.val_main_v33_eq _ _ _).trans ?_),
      h1.trans ((Cert.NormMemBwdRefIdeal.Read.val_main_v17_eq _ _).trans ?_), k⟩
    · rw [a0, a1, a2]; exact (Cert.NormMem.final3 m c).symm
    · rw [a0, a2]; exact (Cert.NormMem.final4 m c).symm

end
-- ==== Proof.NormFirst.lean ====
/- The gradient of the first norm with the cotangent of its input added: the kernel's two arrays are the reference's. -/
module

public import proofs.«01_k».proof.Proof.Gen.NormFirstBwdIdeal.Value
public import proofs.«01_k».proof.Proof.Gen.NormFirstBwdRefIdeal.Read
public import proofs.«01_k».proof.Proof.Rms
public import proofs.«01_k».proof.Defs

@[expose] public section

set_option maxRecDepth 16384

noncomputable section

namespace Cert.NormFirst

open Cert.NormFirstBwdIdeal Cert.NormFirstBwdIdeal.Gen Idealize.ShloMosaic Idealize.ShloMosaic.TcCoe Idealize.SL.Sem
open Idealize.ShloMosaic.Pipeline (Dat)

variable (m : (ℓ : Loc nD τ sig) → Buf (Elt Ideal) ℓ)

/-- The derivative with respect to the rows, at one place. -/
def gradX (x : FVec Ideal S2048x2048 .f32) (g : FVec Ideal S1x2048 .f32) (e d : FVec Ideal S2048x2048 .f32) :
    FVec Ideal S2048x2048 .f32 := fun i =>
  e (ix2 (i 0) (i 1)) + Cert.Rms.dx (fun k => x (ix2 (i 0) k)) (fun k => d (ix2 (i 0) k) * g (ix2 0 k)) (i 1)

/-- The derivative with respect to the scale, at one place. -/
def gradG (x d : FVec Ideal S2048x2048 .f32) : FVec Ideal S1x2048 .f32 := fun i =>
  ∑ r : Fin 2048, d (ix2 r (i 1)) * (x (ix2 r (i 1)) * Cert.Rms.inv fun k => x (ix2 r k))

open Cert.NormFirstBwdRefIdeal.Read in
/-- The reference's derivative with respect to the rows. -/
theorem gradX_eq (x : FVec Ideal S2048x2048 .f32) (g : FVec Ideal S1x2048 .f32) (e d : FVec Ideal S2048x2048 .f32) :
    gradX x g e d = val_main_v34 (F := Ideal) x g e d := by
  funext i; idx_vars i
  pointwise [gradX, val_main_v34, val_main_v33, val_main_v32, val_main_v31, val_main_v30, val_main_v29, val_main_cst_6, val_main_v28, val_main_v27, val_main_cst_5, val_main_v26, val_main_v25, val_main_v24, val_main_v23, val_main_v22, val_main_v21, val_main_cst_4, val_main_v20, val_main_v19, val_main_v18, val_main_v10, val_main_v9, val_main_cst_2, val_main_v8, val_main_v7, val_main_v6, val_main_v5, val_main_cst_1, val_main_v4, val_main_v3, val_main_cst_0, val_main_v2, val_main_v1, val_main_cst, val_main_v0]
  rw [Cert.Rms.dx_ref]; simp only [add_assoc]

open Cert.NormFirstBwdRefIdeal.Read in
/-- The reference's derivative with respect to the scale. -/
theorem gradG_eq (x d : FVec Ideal S2048x2048 .f32) : gradG x d = val_main_v17 (F := Ideal) x d := by
  funext i; idx_vars i
  pointwise [gradG, Cert.Rms.inv, val_main_v17, val_main_v16, val_main_cst_3, val_main_v15, val_main_v12, val_main_v11, val_main_v7, val_main_v6, val_main_v5, val_main_cst_1, val_main_v4, val_main_v3, val_main_cst_0, val_main_v2, val_main_v1, val_main_cst, val_main_v0]
  exact Finset.sum_congr rfl fun _ _ => mul_comm _ _

/-- What the body stores for the rows of a block. -/
theorem rows (e x : FVec Ideal S256x2048 .f32) (g : FVec Ideal S1x2048 .f32) (d : FVec Ideal S256x2048 .f32) :
    k0_pay4 (F := Ideal) e x g d = fun i : S256x2048.Idx =>
      e (ix2 (i 0) (i 1)) + Cert.Rms.dx (fun k => x (ix2 (i 0) k)) (fun k => d (ix2 (i 0) k) * g (ix2 0 k)) (i 1) := by
  funext i; idx_vars i
  pointwise [k0_pay4, k0_pay2, k0_pay1, Cert.Rms.dx, Cert.Rms.inv]

/-- What a block adds to the scale's gradient. -/
theorem part (x d : FVec Ideal S256x2048 .f32) :
    k0_pay3 (F := Ideal) x d = fun i : S1x2048.Idx =>
      ∑ r : Fin 256, d (ix2 r (i 1)) * (x (ix2 r (i 1)) * Cert.Rms.inv fun k => x (ix2 r k)) := by
  funext i; idx_vars i
  pointwise [k0_pay3, k0_pay2, k0_pay1, Cert.Rms.inv]

/-- The accumulating step. -/
theorem step (x d : FVec Ideal S256x2048 .f32) (a : FVec Ideal S1x2048 .f32) (j : S1x2048.Idx) :
    k0_pay5 (F := Ideal) x d a j = a j + k0_pay3 (F := Ideal) x d j := by
  idx_vars j
  pointwise [k0_pay5]

/-- Every window's block index. -/
theorem idx : ∀ t : Fin cfg0.N, win0_0.index t = ![t.val, 0] ∧ win0_1.index t = ![t.val, 0] ∧ win0_2.index t = ![t.val, 0]
    ∧ win0_3.index t = ![0, 0] ∧ win0_4.index t = ![t.val, 0] ∧ win0_5.index t = ![0, 0] :=
  (by decide +kernel : ∀ t : Fin grid0.N, _)

/-- The array of the rows' gradient. -/
theorem final4 (c : Dev nD) : (dats m 0 c).arrAt 4 (cfgs 0).N
    = gradX (m ((c : Thread nD τ).loc main_arg0)) (m ((c : Thread nD τ).loc main_arg1)) (m ((c : Thread nD τ).loc main_arg2))
        (m ((c : Thread nD τ).loc main_arg3)) := by
  refine (dats m 0 c).arrAt_eq_of_covers 4 _ (by decide +kernel) fun t _ y => ?_
  blk_simp
  have hN : t.val < 8 := lt_of_lt_of_eq t.isLt N_0
  rw [after0_4]
  by_cases h : t.val % 8 = 0
  · rw [outsAt0_A m c t h (by omega)]; frame_out; rw [rows]
    blk_point [gradX, iblk, V, idx t]
  · rw [outsAt0_B m c t h (by omega)]; frame_out; rw [rows]
    blk_point [gradX, iblk, V, idx t]

/-- The array of the scale's gradient. -/
theorem final5 (c : Dev nD) : (dats m 0 c).arrAt 5 (cfgs 0).N
    = gradG (m ((c : Thread nD τ).loc main_arg0)) (m ((c : Thread nD τ).loc main_arg3)) := by
  refine (dats m 0 c).arrAt_eq_of_after_last 5 t0_7 (by decide +kernel) _ fun j => ?_
  blk_simp
  rw [after0_5, Pipeline.eq_sum_fin_of_reset_step_apply_last (fun n h => (outsAt0 m c n h).2) 8 (fun _ => 0)
    (fun t => k0_pay3 (F := Ideal) (iblk m c 2 t) (iblk m c 1 t))
    (fun t h j => by
      have hN : t.val < 8 := lt_of_lt_of_eq t.isLt N_0
      rw [outsAt0_A m c t h (by omega)]; frame_out; exact (zero_add _).symm)
    (fun t h j => by
      have hN : t.val < 8 := lt_of_lt_of_eq t.isLt N_0
      rw [outsAt0_B m c t h (by omega)]; frame_out; exact step _ _ _ j)
    (le_of_eq N_0) t0_7 rfl j, zero_add]
  simp only [part]
  refine Fin.sum_mul_add_congr (L := 2048) (S := 8) (n := 256) fun s k hl => ?_
  blk_point [iblk, V, idx s]

end Cert.NormFirst

/-- The kernel's two gradients are the reference's. -/
theorem Cert.NormFirst.pair : Cert.algebraic_NormFirstBwdIdeal_NormFirstBwdRefIdeal := by
  pair_intro
  · run_from Cert.NormFirstBwdIdeal.Value.run_blocks m g
  · refine Idealize.ShloMosaic.θ_run_mono (Cert.NormFirstBwdRefIdeal.Value.run m' g') fun r hr c => ?_
    obtain ⟨h0, h1, k⟩ := hr c
    obtain ⟨a0, a1, a2, a3⟩ := hagree c
    refine ⟨h0.trans ((Cert.NormFirstBwdRefIdeal.Read.val_main_v34_eq _ _ _ _).trans ?_),
      h1.trans ((Cert.NormFirstBwdRefIdeal.Read.val_main_v17_eq _ _).trans ?_), k⟩
    · rw [a0, a1, a2, a3, ← Cert.NormFirst.gradX_eq]; exact (Cert.NormFirst.final4 m c).symm
    · rw [a0, a3, ← Cert.NormFirst.gradG_eq]; exact (Cert.NormFirst.final5 m c).symm

end
-- ==== Proof.LossHead.lean ====
/- The loss and its gradient: the kernel's two results are the reference's. -/
module

public import proofs.«01_k».proof.Proof.Gen.LossIdeal.Frame
public import proofs.«01_k».proof.Proof.Gen.LossRefIdeal.Read
public import Idealize.ShloMosaic.Lib.Pipeline.ValueKit
public import proofs.«01_k».proof.Proof.Rms
public import proofs.«01_k».proof.Defs

@[expose] public section

set_option maxRecDepth 16384

noncomputable section

namespace Cert.LossHead

open Cert.LossIdeal Cert.LossIdeal.Gen Idealize.ShloMosaic Idealize.ShloMosaic.TcCoe Idealize.SL.Sem
open Idealize.ShloMosaic.Pipeline (Dat)

variable (m : (ℓ : Loc nD τ sig) → Buf (Elt Ideal) ℓ)

/-- The gradient: the difference over the row's length. -/
def grad (y t : FVec Ideal S2048x2048 .f32) : FVec Ideal S2048x2048 .f32 := fun i =>
  (y (ix2 (i 0) (i 1)) - t (ix2 (i 0) (i 1))) * ((1 / 2048 : ℝ) : EReal)

/-- The square of the difference. -/
def sq (y t : FVec Ideal S2048x2048 .f32) (r c : Fin 2048) : EReal :=
  (y (ix2 r c) - t (ix2 r c)) * (y (ix2 r c) - t (ix2 r c))

/-- Each column's part of the loss. -/
def parts (y t : FVec Ideal S2048x2048 .f32) : FVec Ideal S1x2048 .f32 := fun i =>
  ∑ r : Fin 2048, sq y t r (i 1) * ((1 / 4096 : ℝ) : EReal)

/-- The word of one over the row's length. -/
theorem inv_bits : Ideal.ofBits .f32 973078528#32 = ((1 / 2048 : ℝ) : EReal) := by
  simp [Ideal.ofBits, Ideal.ieee, -EReal.coe_mul]; norm_num

/-- The word of one half over the row's length. -/
theorem half_inv_bits : Ideal.ofBits .f32 964689920#32 = ((1 / 4096 : ℝ) : EReal) := by
  simp [Ideal.ofBits, Ideal.ieee, -EReal.coe_mul]; norm_num

/-- The word of one half. -/
theorem half_bits : Ideal.ofBits .f32 1056964608#32 = ((1 / 2 : ℝ) : EReal) := by
  simp [Ideal.ofBits, Ideal.ieee, -EReal.coe_mul]; norm_num

/-- The word of two. -/
theorem two_bits : Ideal.ofBits .f32 1073741824#32 = ((2 : ℝ) : EReal) := by
  simp [Ideal.ofBits, Ideal.ieee, -EReal.coe_mul]; norm_num

open Cert.LossRefIdeal.Read in
/-- The reference's gradient. -/
theorem grad_eq (y t : FVec Ideal S2048x2048 .f32) : grad y t = val_main_v14 (F := Ideal) y t := by
  funext i; idx_vars i
  pointwise [grad, val_main_v14, val_main_v13, val_main_v12, val_main_v11, val_main_cst_6, val_main_v10, val_main_v9, val_main_cst_5, val_main_cst_4, val_main_v3, val_main_v2, val_main_cst, val_main_v0]
  rw [half_bits, two_bits, Cert.Rms.n_bits, Ideal.div_coe (by norm_num), ← mul_assoc,
    ← EReal.coe_mul, ← EReal.coe_mul, mul_comm]
  norm_num

open Cert.LossRefIdeal.Read in
/-- The reference's loss. -/
theorem loss_eq (y t : FVec Ideal S2048x2048 .f32) :
    (Host.reduceAdd (F := Ideal) (parts y t) (constant S_ .f32 0x00000000#32) reducesTo_S1x2048_S_d0_1 h_S_) = val_main_v8 (F := Ideal) y t := by
  funext i
  pointwise [parts, sq, val_main_v8, val_main_cst_3, val_main_v7, val_main_cst_2, val_main_v6, val_main_v5, val_main_cst_1, val_main_v4, val_main_cst_0, val_main_v1, val_main_v0]
  rw [half_bits, Cert.Rms.n_bits]
  simp only [Fin.sum_univ_one, Ideal.div_coe (show (2048 : ℝ) ≠ 0 by norm_num), Cert.Rms.sum_mul_real _ _ (show (0 : ℝ) ≤ 1 / 2048 by norm_num),
    Cert.Rms.sum_mul_real _ _ (show (0 : ℝ) ≤ 1 / 4096 by norm_num)]
  rw [Finset.sum_comm, mul_comm ((1 / 2 : ℝ) : EReal), mul_assoc, ← EReal.coe_mul]
  norm_num

/-- The block of the gradient. -/
theorem rows (y t : FVec Ideal S256x2048 .f32) :
    k0_pay2 (F := Ideal) y t = fun i : S256x2048.Idx => (y (ix2 (i 0) (i 1)) - t (ix2 (i 0) (i 1))) * ((1 / 2048 : ℝ) : EReal) := by
  funext i; idx_vars i
  pointwise [k0_pay2, k0_pay1]
  rw [inv_bits]

/-- What a block adds to the columns' parts. -/
theorem part (y t : FVec Ideal S256x2048 .f32) :
    k0_pay3 (F := Ideal) y t = fun i : S1x2048.Idx =>
      ∑ r : Fin 256, (y (ix2 r (i 1)) - t (ix2 r (i 1))) * (y (ix2 r (i 1)) - t (ix2 r (i 1))) * ((1 / 4096 : ℝ) : EReal) := by
  funext i; idx_vars i
  pointwise [k0_pay3, k0_pay1]
  rw [half_inv_bits, Cert.Rms.sum_mul_real _ _ (by norm_num)]

/-- The accumulating step. -/
theorem step (y t : FVec Ideal S256x2048 .f32) (a : FVec Ideal S1x2048 .f32) (j : S1x2048.Idx) :
    k0_pay4 (F := Ideal) y t a j = a j + k0_pay3 (F := Ideal) y t j := by
  idx_vars j
  pointwise [k0_pay4]

/-- Every window's block index. -/
theorem idx : ∀ t : Fin cfg0.N, win0_0.index t = ![t.val, 0] ∧ win0_1.index t = ![t.val, 0] ∧ win0_2.index t = ![t.val, 0]
    ∧ win0_3.index t = ![0, 0] :=
  (by decide +kernel : ∀ t : Fin grid0.N, _)

/-- The array of the gradient. -/
theorem final2 (c : Dev nD) : (dats m 0 c).arrAt 2 (cfgs 0).N
    = grad (m ((c : Thread nD τ).loc main_arg0)) (m ((c : Thread nD τ).loc main_arg1)) := by
  refine (dats m 0 c).arrAt_eq_of_covers 2 _ (by decide +kernel) fun t _ y => ?_
  blk_simp
  have hN : t.val < 8 := lt_of_lt_of_eq t.isLt N_0
  rw [after0_2]
  by_cases h : t.val % 8 = 0
  · rw [outsAt0_A m c t h (by omega)]; frame_out; rw [rows]
    blk_point [grad, iblk, V, idx t]
  · rw [outsAt0_B m c t h (by omega)]; frame_out; rw [rows]
    blk_point [grad, iblk, V, idx t]

/-- The array of the columns' parts. -/
theorem final3 (c : Dev nD) : (dats m 0 c).arrAt 3 (cfgs 0).N
    = parts (m ((c : Thread nD τ).loc main_arg0)) (m ((c : Thread nD τ).loc main_arg1)) := by
  refine (dats m 0 c).arrAt_eq_of_after_last 3 t0_7 (by decide +kernel) _ fun j => ?_
  blk_simp
  rw [after0_3, Pipeline.eq_sum_fin_of_reset_step_apply_last (fun n h => (outsAt0 m c n h).2) 8 (fun _ => 0)
    (fun t => k0_pay3 (F := Ideal) (iblk m c 0 t) (iblk m c 1 t))
    (fun t h j => by
      have hN : t.val < 8 := lt_of_lt_of_eq t.isLt N_0
      rw [outsAt0_A m c t h (by omega)]; frame_out; exact (zero_add _).symm)
    (fun t h j => by
      have hN : t.val < 8 := lt_of_lt_of_eq t.isLt N_0
      rw [outsAt0_B m c t h (by omega)]; frame_out; exact step _ _ _ j)
    (le_of_eq N_0) t0_7 rfl j, zero_add]
  simp only [part]
  refine Fin.sum_mul_add_congr (L := 2048) (S := 8) (n := 256) fun s k hl => ?_
  refine congrArg (· * ((1 / 4096 : ℝ) : EReal)) (congrArg₂ (fun a b => (a - b) * (a - b)) ?_ ?_) <;> blk_point [iblk, V, idx s]

/-- The loss is the sum of the columns' parts. -/
theorem tail (c : Dev nD) : Pipeline.afterTail₀ cfgs (dats m) 0 (V0 m) [hostOps1] c main_v1
    = Host.reduceAdd (F := Ideal) (φ := .f32) (parts (m ((c : Thread nD τ).loc main_arg0)) (m ((c : Thread nD τ).loc main_arg1)))
        (constant S_ .f32 0x00000000#32) reducesTo_S1x2048_S_d0_1 h_S_ := by
  rw [← final3]
  simp only [Pipeline.afterTail₀, List.flatten_cons, List.flatten_nil, List.append_nil]
  have h := Pipeline.withArrays_arr (cfgs 0).spec winFacts0.arr_inj c (V0 m c) (fun w => (dats m 0 c).arrAt w (cfgs 0).N) 3
  after_results
  exact congrArg (fun x => Host.reduceAdd (F := Ideal) (φ := .f32) (s := S1x2048) x _ _ _) h

end Cert.LossHead

/-- The kernel's loss and gradient are the reference's. -/
theorem Cert.LossHead.pair : Cert.algebraic_LossIdeal_LossRefIdeal := by
  pair_intro
  · run_from Cert.LossIdeal.Gen.run_main m g
  · refine Idealize.ShloMosaic.θ_run_mono (Cert.LossRefIdeal.Value.run m' g') fun r hr c => ?_
    obtain ⟨h0, h1, k⟩ := hr c
    obtain ⟨a0, a1⟩ := hagree c
    refine ⟨h0.trans ((Cert.LossRefIdeal.Read.val_main_v8_eq _ _).trans ?_),
      h1.trans ((Cert.LossRefIdeal.Read.val_main_v14_eq _ _).trans ?_), k⟩
    · rw [a0, a1, ← Cert.LossHead.loss_eq]; exact (Cert.LossHead.tail m c).symm
    · rw [a0, a1, ← Cert.LossHead.grad_eq]; exact (Cert.LossHead.final2 m c).symm

end
-- ==== Proof.Down.lean ====
/- The gradient of the squared rectifier, fused with the product before it: what the kernel's array holds is the
   reference's derivative. -/
module

public import proofs.«01_k».proof.Proof.Gen.DownBwdIdeal.Value
public import proofs.«01_k».proof.Proof.Gen.DownBwdRefIdeal.Read
public import Idealize.ShloMosaic.Lib.Pipeline.ValueKit
public import proofs.«01_k».proof.Defs

@[expose] public section

set_option maxRecDepth 16384

noncomputable section

namespace Cert.Down

open Cert.DownBwdIdeal Cert.DownBwdIdeal.Gen Idealize.ShloMosaic Idealize.ShloMosaic.TcCoe Idealize.SL.Sem
open Idealize.ShloMosaic.Pipeline (Dat)

/-- The reference's result over its three arguments. -/
abbrev ref (up : FVec Ideal S2048x8192 .bf16) (w : FVec Ideal S8192x2048 .bf16) (d : FVec Ideal S2048x2048 .bf16) :
    FVec Ideal S2048x8192 .bf16 := Cert.DownBwdRefIdeal.Read.val_main_v15 (F := Ideal) up w d

variable (m : (ℓ : Loc nD τ sig) → Buf (Elt Ideal) ℓ)

/-- Every window's block index at a grid point. -/
theorem idx : ∀ t : Fin cfg0.N, win0_0.index t = ![t.val / 8, 0] ∧ win0_1.index t = ![t.val % 8, 0]
    ∧ win0_2.index t = ![t.val / 8, t.val % 8] ∧ win0_3.index t = ![t.val / 8, t.val % 8] :=
  (by decide +kernel : ∀ t : Fin grid0.N, _)

/-- The word of the constant two in the short format and in the long one is the same number. -/
theorem two_bits : Ideal.ofBits .bf16 0x4000#16 = Ideal.ofBits .f32 0x40000000#32 := by
  simp [Ideal.ofBits, Ideal.ieee, -EReal.coe_mul]; norm_num

open Cert.DownBwdRefIdeal.Read in
/-- The derivative at an index: the product of the cotangent with the weight, times twice the rectified value. -/
theorem ref_at (up : FVec Ideal S2048x8192 .bf16) (w : FVec Ideal S8192x2048 .bf16) (d : FVec Ideal S2048x2048 .bf16)
    (a : Fin 2048) (b : Fin 8192) :
    ref up w d (ix2 a b) = (∑ k : Fin 2048, d (ix2 a k) * w (ix2 b k)) * (Ideal.ofBits .bf16 0x4000#16 * max (up (ix2 a b)) 0) := by
  pointwise [ref, val_main_v15, val_main_v14, val_main_v13, val_main_cst_2, val_main_v12, val_main_v11, val_main_v10, val_main_v8,
    val_main_v7, val_main_v6, val_main_cst_1, val_main_v3, val_main_v2, val_main_cst, val_main_v1, val_main_call0_v0, val_main_call0_cst, val_main_v0]
  rw [two_bits]
  by_cases h : 0 < up (ix2 a b)
  · rw [if_pos h]
  · rw [if_neg h, max_eq_right (not_lt.1 h), mul_zero, mul_zero]

/-- The derivative as one function of an index. -/
def grad (up : FVec Ideal S2048x8192 .bf16) (w : FVec Ideal S8192x2048 .bf16) (d : FVec Ideal S2048x2048 .bf16) : FVec Ideal S2048x8192 .bf16 :=
  fun i => (∑ k : Fin 2048, d (ix2 (i 0) k) * w (ix2 (i 1) k)) * (Ideal.ofBits .bf16 0x4000#16 * max (up i) 0)

/-- The reference is that function. -/
theorem ref_eq (up : FVec Ideal S2048x8192 .bf16) (w : FVec Ideal S8192x2048 .bf16) (d : FVec Ideal S2048x2048 .bf16) :
    grad up w d = ref up w d := by
  funext i; idx_vars i
  exact (ref_at up w d i0 i1).symm

/-- What the body stores at an index of a block. -/
theorem pay_at (x0 x1 : FVec Ideal S1024x2048 .bf16) (x2 : FVec Ideal S1024x1024 .bf16) (a b : Fin 1024) :
    k0_pay1 (F := Ideal) x0 x1 x2 (ix2 a b) = (∑ k : Fin 2048, x0 (ix2 a k) * x1 (ix2 b k)) * (Ideal.ofBits .bf16 0x4000#16 * max (x2 (ix2 a b)) 0) := by
  pointwise [k0_pay1]

/-- The result array is the reference's. -/
theorem final (c : Dev nD) : (dats m 0 c).arrAt 3 (cfgs 0).N
    = ref (m ((c : Thread nD τ).loc main_arg0)) (m ((c : Thread nD τ).loc main_arg1)) (m ((c : Thread nD τ).loc main_arg2)) := by
  rw [← ref_eq]
  refine (dats m 0 c).arrAt_eq_of_covers 3 _ (by decide +kernel) fun t _ y => ?_
  blk_simp
  rw [after0_3]
  frame_out
  idx_vars y
  refine (pay_at _ _ _ _ _).trans ?_
  blk_point [grad, iblk, V, idx t]

end Cert.Down

/-- The kernel's gradient and the derivative of the forward lines agree. -/
theorem Cert.Down.pair : Cert.algebraic_DownBwdIdeal_DownBwdRefIdeal := by
  pair_intro
  · run_from Cert.DownBwdIdeal.Value.run_blocks m g
  · run_from Cert.DownBwdRefIdeal.Value.run m' g'
    rw [Cert.Down.final m c]
    exact Cert.DownBwdRefIdeal.Read.val_main_v15_eq _ _ _

end
-- ==== Proof.LayerNorm.lean ====
/- The derivative of the layer norm on extended reals: the form of the derivative of the centred rows' mean square (the
   kernel's) against the form of the derivative of the square (the reference's). -/
module

public import proofs.«01_k».proof.Proof.Rms
public import proofs.«01_k».proof.Proof.Softmax

@[expose] public section

noncomputable section

namespace Cert.LayerNorm

open Idealize.ShloMosaic

variable {n : ℕ} (N : EReal)

/-- A row less its mean. -/
def cen (x : Fin n → EReal) (j : Fin n) : EReal := x j - Ideal.div (∑ k, x k) N

/-- The mean square of the centred row and the small constant. -/
def var (x : Fin n → EReal) : EReal :=
  Ideal.div (∑ k, cen N x k * cen N x k) N + Ideal.ofBits .f32 925353388#32

/-- The inverse root. -/
def inv (x : Fin n → EReal) : EReal := Ideal.rsqrt (var N x)

/-- The factor of the derivative of the mean square; `c` is the cotangent times the scale. -/
def fac (x c : Fin n → EReal) : EReal :=
  ∑ _i : Fin 1, Ideal.div ((∑ k, cen N x k * c k) * (Ideal.ofBits .f32 3204448256#32 * Ideal.div (inv N x) (var N x))) N

/-- The derivative with respect to the centred row, the factor added twice. -/
def dcen (x c : Fin n → EReal) (j : Fin n) : EReal :=
  c j * inv N x + cen N x j * fac N x c + fac N x c * cen N x j

/-- The derivative with respect to the row, the mean's share at once. -/
def dx (x c : Fin n → EReal) (j : Fin n) : EReal :=
  dcen N x c j + ∑ _i : Fin 1, Ideal.div (∑ k, -(dcen N x c k)) N

/-- The derivative with respect to the row, the mean's share in two sums. -/
def dx' (x c : Fin n → EReal) (j : Fin n) : EReal :=
  c j * inv N x + fac N x c * (Ideal.ofBits .f32 1073741824#32 * cen N x j)
    + ∑ _i : Fin 1, Ideal.div ((∑ k, -(c k * inv N x)) + ∑ k, -(fac N x c * (Ideal.ofBits .f32 1073741824#32 * cen N x k))) N

/-- The word of two. -/
theorem two_bits : Ideal.ofBits .f32 1073741824#32 = ((2 : ℝ) : EReal) := by
  simp [Ideal.ofBits, Ideal.ieee, -EReal.coe_mul]; norm_num

/-- The norm's small constant is a positive real. -/
theorem eps_bits : ∃ e : ℝ, 0 < e ∧ Ideal.ofBits .f32 925353388#32 = (e : EReal) := by
  refine ⟨_, ?_, by simp [Ideal.ofBits, Ideal.ieee, -EReal.coe_mul]; rfl⟩
  norm_num

/-- The mean square and the small constant: infinite, or a positive real over a real row. -/
theorem var_cases {ν : ℝ} (hν : 0 < ν) (x : Fin n → EReal) :
    var (ν : EReal) x = ⊤ ∨ ∃ w : ℝ, 0 < w ∧ var (ν : EReal) x = (w : EReal) ∧ ∃ ξ : Fin n → ℝ, ∀ j, cen (ν : EReal) x j = (ξ j : EReal) := by
  obtain ⟨e, he, hb⟩ := eps_bits
  have h0 : 0 ≤ ∑ k, cen (ν : EReal) x k * cen (ν : EReal) x k := Finset.sum_nonneg fun k _ => Cert.Rms.sq_nonneg _
  unfold var
  rw [hb, Ideal.div_coe hν.ne']
  induction hs : (∑ k, cen (ν : EReal) x k * cen (ν : EReal) x k) using EReal.rec with
  | bot => rw [hs] at h0; exact absurd h0 (by simp)
  | top => left; rw [EReal.top_mul_coe_of_pos (by positivity), EReal.top_add_coe]
  | coe s =>
    right
    have h1 : 0 ≤ s := by rw [hs] at h0; exact_mod_cast h0
    refine ⟨s * (1 / ν) + e, by positivity, by rw [EReal.coe_add, EReal.coe_mul], ?_⟩
    have hj : ∀ j, ∃ r : ℝ, cen (ν : EReal) x j = (r : EReal) := fun j => by
      have hle : cen (ν : EReal) x j * cen (ν : EReal) x j ≤ (s : EReal) :=
        hs ▸ Finset.single_le_sum (f := fun k => cen (ν : EReal) x k * cen (ν : EReal) x k)
          (fun k _ => Cert.Rms.sq_nonneg _) (Finset.mem_univ j)
      induction hc : cen (ν : EReal) x j using EReal.rec with
      | coe r => exact ⟨r, rfl⟩
      | bot => rw [hc] at hle; exact absurd hle (by simp)
      | top => rw [hc] at hle; exact absurd hle (by simp)
    choose ξ h using hj
    exact ⟨ξ, h⟩

/-- The two forms of the derivative agree where the cotangents are finite. -/
theorem dx_eq {ν : ℝ} (hν : 0 < ν) (x c : Fin n → EReal) (hc : ∀ j, ∃ r : ℝ, c j = (r : EReal)) (b : Fin n) :
    dx (ν : EReal) x c b = dx' (ν : EReal) x c b := by
  rcases var_cases hν x with h | ⟨w, hw, h, ξ, hξ⟩
  · have hi : inv (ν : EReal) x = 0 := by rw [inv, h]; rfl
    have hf : fac (ν : EReal) x c = 0 := by
      simp [fac, hi, h, Ideal.div_coe hν.ne', Ideal.div, hν.ne']
    simp [dx, dx', dcen, hi, hf]
  · choose γ hγ using hc
    have hi : inv (ν : EReal) x = (((Real.sqrt w)⁻¹ : ℝ) : EReal) := by
      rw [inv, h]; show (if w < 0 then (⊥ : EReal) else if w = 0 then ⊤ else _) = _
      rw [if_neg (not_lt.2 hw.le), if_neg hw.ne']
    obtain ⟨f, hf⟩ : ∃ f : ℝ, fac (ν : EReal) x c = (f : EReal) := by
      simp only [fac, hi, h, hξ, hγ, Cert.Rms.half_bits, Ideal.div_coe hν.ne', Ideal.div_coe hw.ne', Fin.sum_univ_one,
        ← EReal.coe_mul, Cert.Softmax.coe_sum]
      exact ⟨_, rfl⟩
    simp only [dx, dx', dcen, hi, hf, hξ, hγ, two_bits, Fin.sum_univ_one, Ideal.div_coe hν.ne', ← EReal.coe_mul, ← EReal.coe_add,
      ← EReal.coe_neg, Cert.Softmax.coe_sum]
    congr 1
    simp only [Finset.sum_neg_distrib, Finset.sum_add_distrib, ← Finset.mul_sum, ← Finset.sum_mul]
    ring

end Cert.LayerNorm

end
-- ==== Proof.GmlpGrads.lean ====
/- The gradients of the spatial gating unit as functions of a place, and that the reference computes them. -/
module

public import proofs.«01_k».proof.Proof.Gen.GmlpBwdIdeal.Value
public import proofs.«01_k».proof.Proof.Gen.GmlpBwdRefIdeal.Read
public import Idealize.ShloMosaic.Lib.Pipeline.ValueKit
public import proofs.«01_k».proof.Proof.LayerNorm
public import proofs.«01_k».proof.Defs

@[expose] public section

set_option maxRecDepth 16384

noncomputable section

namespace Cert.Gmlp

open Cert.GmlpBwdIdeal Cert.GmlpBwdIdeal.Gen Idealize.ShloMosaic Idealize.ShloMosaic.TcCoe Idealize.SL.Sem
open Idealize.ShloMosaic.Pipeline (Dat)

variable (m : (ℓ : Loc nD τ sig) → Buf (Elt Ideal) ℓ)

open Cert.LayerNorm

/-- The hyperbolic tangent in the gate's approximation. -/
def th (x : EReal) : EReal := Ideal.tanh (Ideal.ofBits .f32 1061962282#32 * (x + Ideal.ofBits .f32 1027024659#32 * (x * (x * x))))

/-- The gate. -/
def gel (x : EReal) : EReal := x * (Ideal.ofBits .f32 1056964608#32 * (1 + th x))

/-- The gate's derivative at `x` times the cotangent `y`. -/
def dgel (x y : EReal) : EReal :=
  y * (Ideal.ofBits .f32 1056964608#32 * (1 + th x))
    + Ideal.ofBits .f32 1061962282#32 * (Ideal.ofBits .f32 1056964608#32 * (x * y) * ((1 + th x) * (1 - th x)))
    + Ideal.ofBits .f32 1027024659#32 * (Ideal.ofBits .f32 1061962282#32 * (Ideal.ofBits .f32 1056964608#32 * (x * y) * ((1 + th x) * (1 - th x))))
      * (Ideal.ofBits .f32 1077936128#32 * (x * x))

/-- A sum along the first and the last of four axes. -/
theorem red03 {n0 n1 n2 n3 : ℕ} (h : (⟨4, ![n0, n1, n2, n3]⟩ : Shape).ReducesTo [0, 3] ⟨2, ![n1, n2]⟩) (v : (⟨4, ![n0, n1, n2, n3]⟩ : Shape).Idx → EReal)
    (e : EReal) (r : Fin n1) (s : Fin n2) :
    Ideal.hostReduceAdd h v e (ix2 r s) = e + ∑ n : Fin n0, ∑ k : Fin n3, v (ix4 n r s k) := by
  refine congrArg (e + ·) ((Finset.sum_filter_eq_sum_of_fiber _ (fun k : Fin n0 × Fin n3 => ix4 k.1 r s k.2)
    (fun _ _ e => Prod.ext (congrFun e 0) (congrFun e 3)) (fun i => ⟨fun hi => ⟨(i 0, i 3), ?_⟩, ?_⟩) v).trans ?_)
  · funext a; apply Fin.ext
    match a with
    | ⟨0, _⟩ => rfl
    | ⟨1, _⟩ => exact (congrArg Fin.val (congrFun hi 0)).symm
    | ⟨2, _⟩ => exact (congrArg Fin.val (congrFun hi 1)).symm
    | ⟨3, _⟩ => rfl
  · rintro ⟨k, rfl⟩
    funext b
    apply Fin.ext
    match b with
    | ⟨0, _⟩ => rfl
    | ⟨1, _⟩ => rfl
  · simp only [Fintype.sum_prod_type]

/-- The triangle as a comparison of words. -/
theorem tri (i k : Fin 128) (x y : EReal) :
    Scalar.select (IntOp.cmpi CmpIPredicate.sge (IntOp.addi (BitVec.ofNat 32 i.val) 0#32) (BitVec.ofNat 32 k.val)) x y = if k.val ≤ i.val then x else y := by
  have h := (by decide +kernel : ∀ i k : Fin 128, IntOp.cmpi CmpIPredicate.sge (IntOp.addi (BitVec.ofNat 32 i.val) 0#32) (BitVec.ofNat 32 k.val) = if k.val ≤ i.val then 1#1 else 0#1) i k
  rw [h]
  by_cases hk : k.val ≤ i.val
  · rw [if_pos hk, if_pos hk]; rfl
  · rw [if_neg hk, if_neg hk]; rfl

section
variable (a v d w : Fin 128 → Fin 128 → EReal) (g b : Fin 128 → EReal)

/-- The normalised gate at row `i` of a chunk. -/
def vh (i j : Fin 128) : EReal :=
  cen (Ideal.ofBits .f32 1124073472#32) (fun k => gel (v i k)) j * LayerNorm.inv (Ideal.ofBits .f32 1124073472#32) (fun k => gel (v i k))

/-- The same, scaled. -/
def vn (i j : Fin 128) : EReal := vh v i j * g j

/-- The lower triangle of the mixing matrix. -/
def wm (i k : Fin 128) : EReal := if k.val ≤ i.val then w i k else 0

/-- The cotangent of the mixed rows. -/
def ud (i j : Fin 128) : EReal := gel (a i j) * d i j

/-- The mixed rows. -/
def mix (i j : Fin 128) : EReal := (∑ k, wm w i k * vn v g k j) + b i

/-- The gradient with respect to the first half. -/
def dU (i j : Fin 128) : EReal := dgel (a i j) (d i j * mix v w g b i j)

/-- The cotangent of the normalised rows. -/
def dn (i j : Fin 128) : EReal := ∑ k, wm w k i * ud a d k j

/-- A chunk's part of the scale's gradient. -/
def dG (j : Fin 128) : EReal := ∑ i, vh v i j * dn a d w i j

/-- A chunk's part of the mixing matrix's gradient. -/
def dW (i k : Fin 128) : EReal := if k.val ≤ i.val then ∑ j, ud a d i j * vn v g k j else 0

/-- A chunk's part of the shift's gradient. -/
def dB (i : Fin 128) : EReal := ∑ j, ud a d i j

/-- The gradient with respect to the second half, the mean's share at once. -/
def dV (i j : Fin 128) : EReal :=
  dgel (v i j) (dx (Ideal.ofBits .f32 1124073472#32) (fun k => gel (v i k)) (fun k => dn a d w i k * g k) j)

/-- The gradient with respect to the second half, the mean's share in two sums. -/
def dV' (i j : Fin 128) : EReal :=
  dgel (v i j) (dx' (Ideal.ofBits .f32 1124073472#32) (fun k => gel (v i k)) (fun k => dn a d w i k * g k) j)
end

/-- The chunk `n` of head `h` of an array, its columns from `o` on. -/
def ch {L : ℕ} (x : Fin 2048 → Fin L → EReal) (o : ℕ) (hL : o + 1024 ≤ L) (n : Fin 16) (h : Fin 8) (r c : Fin 128) : EReal :=
  x ⟨n.val * 128 + r.val, by omega⟩ ⟨o + (h.val * 128 + c.val), by omega⟩

section
variable (z : FVec Ideal S2048x3584 .f32) (g : FVec Ideal S8x128 .f32) (w : FVec Ideal S8x128x128 .f32) (b : FVec Ideal S8x128 .f32)
  (d : FVec Ideal S2048x2048 .f32)

/-- A chunk of the first half. -/
def zu (n : Fin 16) (h : Fin 8) : Fin 128 → Fin 128 → EReal := ch (fun r c => z (ix2 r c)) 0 (by decide) n h
/-- A chunk of the second half. -/
def zv (n : Fin 16) (h : Fin 8) : Fin 128 → Fin 128 → EReal := ch (fun r c => z (ix2 r c)) 1024 (by decide) n h
/-- A chunk of the cotangent. -/
def dd (n : Fin 16) (h : Fin 8) : Fin 128 → Fin 128 → EReal := ch (fun r c => d (ix2 r c)) 0 (by decide) n h

open Cert.GmlpBwdRefIdeal.Read

/-- A cube, associated the other way. -/
theorem cube (x : EReal) : x * x * x = x * (x * x) := mul_assoc x x x

/-- The reference's gate of the first half. -/
theorem r22 (n : Fin 16) (h : Fin 8) (r c : Fin 128) :
    val_main_v22 (F := Ideal) z (ix2 ⟨n.val * 128 + r.val, by omega⟩ ⟨h.val * 128 + c.val, by omega⟩) = gel (zu z n h r c) := by
  pointwise [val_main_v22, val_main_v21, val_main_v20, val_main_cst_5, val_main_v19, val_main_v18, val_main_cst_4, val_main_v12, val_main_v11, val_main_v10, val_main_cst_1, val_main_v9, val_main_v8, val_main_v7, val_main_cst_0, val_main_v3, val_main_v2, val_main_v0]
  simp only [cube, gel, th, zu, ch, zero_add]

/-- The reference's gate of the second half. -/
theorem r43 (n : Fin 16) (h : Fin 8) (r c : Fin 128) :
    val_main_v43 (F := Ideal) z (ix2 ⟨n.val * 128 + r.val, by omega⟩ ⟨h.val * 128 + c.val, by omega⟩) = gel (zv z n h r c) := by
  pointwise [val_main_v43, val_main_v42, val_main_v41, val_main_cst_12, val_main_v40, val_main_v39, val_main_cst_11, val_main_v33, val_main_v32, val_main_v31, val_main_cst_8, val_main_v30, val_main_v29, val_main_v28, val_main_cst_7, val_main_v24, val_main_v23, val_main_v1]
  simp only [cube, gel, th, zv, ch]

/-- The reference's normalised rows. -/
theorem r68 (n : Fin 16) (h : Fin 8) (r c : Fin 128) :
    val_main_v68 (F := Ideal) z (ix3 ⟨n.val * 128 + r.val, by omega⟩ h c) = vh (zv z n h) r c := by
  pointwise [vh, cen, LayerNorm.inv, var, val_main_v68, val_main_v67, val_main_v63, val_main_v62, val_main_v61, val_main_cst_18, val_main_v60, val_main_v59, val_main_v58, val_main_v57, val_main_cst_17, val_main_v56, val_main_v55, val_main_cst_16, val_main_v52, val_main_v51, val_main_v50, val_main_v49, val_main_v48, val_main_cst_14, val_main_v47, val_main_v46, val_main_cst_13, val_main_v45]
  simp only [r43]

/-- The reference's scaled rows. -/
theorem r74 (n : Fin 16) (h : Fin 8) (r c : Fin 128) :
    val_main_v74 (F := Ideal) z g (ix4 n r h c) = vn (zv z n h) (fun k => g (ix2 h k)) r c := by
  pointwise [vn, val_main_v74, val_main_v71, val_main_v70, val_main_v69]
  simp only [r68]

/-- The reference's triangle. -/
theorem r77 (h : Fin 8) (i k : Fin 128) :
    val_main_v77 (F := Ideal) w (ix3 h i k) = wm (fun i k => w (ix3 h i k)) i k := by
  pointwise [wm, val_main_v77, val_main_v76, val_main_v75, val_main_v73, val_main_call0_v5, val_main_call0_cst, val_main_call0_v4, val_main_call0_v3, val_main_call0_v2, val_main_call0_v1, val_main_call0_c, val_main_call0_v0, val_main_v72, val_main_cst_20]
  rw [tri]

/-- The reference's mixed rows. -/
theorem r84 (n : Fin 16) (h : Fin 8) (r c : Fin 128) :
    val_main_v84 (F := Ideal) z g w b (ix3 ⟨n.val * 128 + r.val, by omega⟩ h c) = mix (zv z n h) (fun i k => w (ix3 h i k)) (fun k => g (ix2 h k)) (fun k => b (ix2 h k)) r c := by
  pointwise [mix, val_main_v84, val_main_v83, val_main_v82, val_main_v81, val_main_v80, val_main_v79, val_main_v78]
  simp only [r74, r77, mul_comm]

/-- The reference's cotangent of the mixed rows. -/
theorem r91 (n : Fin 16) (h : Fin 8) (r c : Fin 128) :
    val_main_v91 (F := Ideal) z d (ix4 n r h c) = ud (zu z n h) (dd d n h) r c := by
  pointwise [ud, val_main_v91, val_main_v89, val_main_v88, val_main_v87, val_main_v44]
  simp only [r22, dd, ch, zero_add]

/-- The reference's cotangent of the normalised rows. -/
theorem r102 (n : Fin 16) (h : Fin 8) (r c : Fin 128) :
    val_main_v102 (F := Ideal) z w d (ix3 ⟨n.val * 128 + r.val, by omega⟩ h c) = dn (zu z n h) (dd d n h) (fun i k => w (ix3 h i k)) r c := by
  pointwise [dn, val_main_v102, val_main_v99, val_main_v98, val_main_v96]
  simp only [r91, r77, mul_comm]

/-- The reference's gradient with respect to the first half. -/
theorem r159 (n : Fin 16) (h : Fin 8) (r c : Fin 128) :
    val_main_v159 (F := Ideal) z g w b d (ix2 ⟨n.val * 128 + r.val, by omega⟩ ⟨h.val * 128 + c.val, by omega⟩)
      = dU (zu z n h) (zv z n h) (dd d n h) (fun i k => w (ix3 h i k)) (fun k => g (ix2 h k)) (fun k => b (ix2 h k)) r c := by
  pointwise [val_main_v159, val_main_v158, val_main_v157, val_main_v156, val_main_v155, val_main_cst_37, val_main_v154, val_main_v153, val_main_v152, val_main_cst_36, val_main_v151, val_main_v150, val_main_v149, val_main_cst_35, val_main_v148, val_main_v147, val_main_v134, val_main_v90, val_main_v88, val_main_v87, val_main_v21, val_main_v20, val_main_cst_5, val_main_v19, val_main_v18, val_main_cst_4, val_main_v17, val_main_v16, val_main_v15, val_main_cst_3, val_main_v14, val_main_v13, val_main_cst_2, val_main_v12, val_main_v11, val_main_v10, val_main_cst_1, val_main_v9, val_main_v8, val_main_v7, val_main_cst_0, val_main_v6, val_main_v5, val_main_cst, val_main_v4, val_main_v3, val_main_v2, val_main_v0]
  simp only [cube, r84, dU, dgel, th, zu, dd, ch, zero_add]

/-- The reference's derivative through the norm. -/
theorem r132 (n : Fin 16) (h : Fin 8) (r c : Fin 128) :
    val_main_v132 (F := Ideal) z g w d (ix3 ⟨n.val * 128 + r.val, by omega⟩ h c)
      = dx' (Ideal.ofBits .f32 1124073472#32) (fun k => gel (zv z n h r k))
          (fun k => dn (zu z n h) (dd d n h) (fun i k => w (ix3 h i k)) r k * g (ix2 h k)) c := by
  pointwise [dx', fac, cen, LayerNorm.inv, var, val_main_v132, val_main_v131, val_main_v130, val_main_cst_31, val_main_v129, val_main_v128, val_main_cst_30, val_main_v127, val_main_v126, val_main_v125, val_main_v124, val_main_cst_29, val_main_v123, val_main_v122, val_main_v121, val_main_v120, val_main_cst_28, val_main_v119, val_main_v118, val_main_cst_27, val_main_v117, val_main_v116, val_main_cst_26, val_main_v115, val_main_v114, val_main_v113, val_main_v112, val_main_v111, val_main_v110, val_main_cst_25, val_main_v109, val_main_v107, val_main_v106, val_main_v69, val_main_v66, val_main_v65, val_main_cst_19, val_main_v64, val_main_v63, val_main_v62, val_main_v61, val_main_cst_18, val_main_v60, val_main_v59, val_main_v58, val_main_v57, val_main_cst_17, val_main_v56, val_main_v55, val_main_cst_16, val_main_v54, val_main_v53, val_main_cst_15, val_main_v52, val_main_v51, val_main_v50, val_main_v49, val_main_v48, val_main_cst_14, val_main_v47, val_main_v46, val_main_cst_13, val_main_v45]
  simp only [r102, r43]

/-- The reference's gradient with respect to the second half. -/
theorem r160 (n : Fin 16) (h : Fin 8) (r c : Fin 128) :
    val_main_v160 (F := Ideal) z g w d (ix2 ⟨n.val * 128 + r.val, by omega⟩ ⟨h.val * 128 + c.val, by omega⟩)
      = dV' (zu z n h) (zv z n h) (dd d n h) (fun i k => w (ix3 h i k)) (fun k => g (ix2 h k)) r c := by
  pointwise [val_main_v160, val_main_v146, val_main_v145, val_main_v144, val_main_v143, val_main_cst_34, val_main_v142, val_main_v141, val_main_v140, val_main_cst_33, val_main_v139, val_main_v138, val_main_v137, val_main_cst_32, val_main_v136, val_main_v135, val_main_v133, val_main_v42, val_main_v41, val_main_cst_12, val_main_v40, val_main_v39, val_main_cst_11, val_main_v38, val_main_v37, val_main_v36, val_main_cst_10, val_main_v35, val_main_v34, val_main_cst_9, val_main_v33, val_main_v32, val_main_v31, val_main_cst_8, val_main_v30, val_main_v29, val_main_v28, val_main_cst_7, val_main_v27, val_main_v26, val_main_cst_6, val_main_v25, val_main_v24, val_main_v23, val_main_v1]
  simp only [cube, r132, dV', dgel, th, zv, ch]

/-- The reference's gradient with respect to the mixing matrix. -/
theorem r101 (h : Fin 8) (i k : Fin 128) :
    val_main_v101 (F := Ideal) z g d (ix3 h i k)
      = ∑ n : Fin 16, dW (zu z n h) (zv z n h) (dd d n h) (fun k => g (ix2 h k)) i k := by
  pointwise [val_main_v101, val_main_v100, val_main_v97, val_main_v96, val_main_v75, val_main_v73, val_main_call0_v5, val_main_call0_cst, val_main_call0_v4, val_main_call0_v3, val_main_call0_v2, val_main_call0_v1, val_main_call0_c, val_main_call0_v0, val_main_v72, val_main_cst_20]
  simp only [r91, r74, tri, dW]
  by_cases hk : k.val ≤ i.val
  · simp only [if_pos hk]
  · simp only [if_neg hk, Finset.sum_const_zero]

/-- The reference's gradient with respect to the scale. -/
theorem r161 (h : Fin 8) (c : Fin 128) :
    val_main_v161 (F := Ideal) z w d (ix3 h 0 c)
      = ∑ n : Fin 16, dG (zu z n h) (zv z n h) (dd d n h) (fun i k => w (ix3 h i k)) c := by
  pointwise [val_main_v161, val_main_v108, val_main_cst_24, val_main_v105, val_main_v104, val_main_cst_23, val_main_v103]
  rw [Fin.sum_univ_one]
  refine (Fin.sum_mul_add_congr (L := 2048) (S := 16) (n := 128) fun s k hl => ?_).symm
  exact (congrArg₂ (· * ·) (r68 z s h k c) (r102 z w d s h k c)).symm

/-- The sums along the chunks and the columns. -/
theorem e92 (r : Fin 128) (h : Fin 8) :
    val_main_v92 (F := Ideal) z d (ix2 r h) = ∑ n : Fin 16, ∑ c : Fin 128, val_main_v91 (F := Ideal) z d (ix4 n r h c) := by
  rw [val_main_v92]
  refine (red03 _ _ _ r h).trans ?_
  pointwise [val_main_cst_21]

/-- The same, summed along two axes of one place. -/
theorem e94 (r : Fin 128) (h : Fin 8) :
    val_main_v94 (F := Ideal) z d (ix2 r h) = val_main_v92 (F := Ideal) z d (ix2 r h) := by
  rw [val_main_v94]
  refine (red03 _ _ _ r h).trans ?_
  rw [Fin.sum_univ_one, Fin.sum_univ_one]
  pointwise [val_main_v93, val_main_cst_22]

/-- The reference's gradient with respect to the shift. -/
theorem r162 (h : Fin 8) (r : Fin 128) :
    val_main_v162 (F := Ideal) z d (ix3 h r 0)
      = ∑ n : Fin 16, dB (zu z n h) (dd d n h) r := by
  pointwise [val_main_v162, val_main_v95]
  simp only [e94, e92, r91, dB]
end

end Cert.Gmlp
-- ==== Proof.GmlpChunk.lean ====
/- What the kernel computes of one chunk of the spatial gating unit. -/
module

public import proofs.«01_k».proof.Proof.Gen.GmlpBwdIdeal.Value
public import proofs.«01_k».proof.Proof.Gen.GmlpBwdRefIdeal.Read
public import Idealize.ShloMosaic.Lib.Pipeline.ValueKit
public import proofs.«01_k».proof.Proof.GmlpGrads
public import proofs.«01_k».proof.Defs

@[expose] public section

set_option maxRecDepth 16384

noncomputable section

namespace Cert.Gmlp

open Cert.GmlpBwdIdeal Cert.GmlpBwdIdeal.Gen Idealize.ShloMosaic Idealize.ShloMosaic.TcCoe Idealize.SL.Sem
open Idealize.ShloMosaic.Pipeline (Dat)

variable (m : (ℓ : Loc nD τ sig) → Buf (Elt Ideal) ℓ)

open Cert.LayerNorm

section
variable (a v d : FVec Ideal S128x128 .f32) (g : FVec Ideal S1x1x128 .f32) (w : FVec Ideal S1x128x128 .f32) (b : FVec Ideal S1x128x1 .f32)

/-- A chunk as a function of its row and column. -/
def M (x : FVec Ideal S128x128 .f32) (i j : Fin 128) : EReal := x (ix2 i j)
/-- The head's scale. -/
def Mg (k : Fin 128) : EReal := g (ix3 0 0 k)
/-- The head's mixing matrix. -/
def Mw (i k : Fin 128) : EReal := w (ix3 0 i k)
/-- The head's shift. -/
def Mb (k : Fin 128) : EReal := b (ix3 0 k 0)

/-- The triangle as a comparison of words, with no zero added. -/
theorem tri0 (i k : Fin 128) (x y : EReal) :
    Scalar.select (IntOp.cmpi CmpIPredicate.sge (BitVec.ofNat 32 i.val) (BitVec.ofNat 32 k.val)) x y = if k.val ≤ i.val then x else y := by
  have h := tri i k x y
  have h0 : IntOp.addi (BitVec.ofNat 32 i.val) 0#32 = BitVec.ofNat 32 i.val := by simp [IntOp.addi]
  rwa [h0] at h

/-- The gate of the first half. -/
theorem k16 (r c : Fin 128) : k0_pay16 (F := Ideal) a (ix2 r c) = gel (M a r c) := by
  pointwise [gel, th, M, k0_pay16, k0_pay15, k0_pay13]

/-- The centred gate of the second half. -/
theorem k22 (r c : Fin 128) : k0_pay22 (F := Ideal) v (k0_pay18 v) (ix2 r c)
    = cen (Ideal.ofBits .f32 1124073472#32) (fun k => gel (M v r k)) c := by
  pointwise [gel, th, M, cen, k0_pay22, k0_pay21, k0_pay18]

/-- Its mean square. -/
theorem k23 (r : Fin 128) : k0_pay23 (F := Ideal) v (k0_pay18 v) (ix2 r 0)
    = var (Ideal.ofBits .f32 1124073472#32) (fun k => gel (M v r k)) := by
  pointwise [var, k0_pay23]
  simp only [k22]

/-- The inverse root. -/
theorem k24 (r : Fin 128) : k0_pay24 (F := Ideal) v (k0_pay18 v) (ix2 r 0)
    = LayerNorm.inv (Ideal.ofBits .f32 1124073472#32) (fun k => gel (M v r k)) := by
  pointwise [LayerNorm.inv, k0_pay24]
  simp only [k23]

/-- The derivative of the inverse root. -/
theorem k25 (r : Fin 128) : k0_pay25 (F := Ideal) v (k0_pay18 v) (ix2 r 0)
    = Ideal.ofBits .f32 3204448256#32 * Ideal.div (LayerNorm.inv (Ideal.ofBits .f32 1124073472#32) (fun k => gel (M v r k))) (var (Ideal.ofBits .f32 1124073472#32) (fun k => gel (M v r k))) := by
  pointwise [k0_pay25]
  simp only [k23, k24]

/-- The normalised rows. -/
theorem k26 (r c : Fin 128) : k0_pay26 (F := Ideal) v (k0_pay18 v) (ix2 r c) = vh (M v) r c := by
  pointwise [vh, k0_pay26]
  simp only [k22, k24]

/-- The scaled rows. -/
theorem k27 (r c : Fin 128) : k0_pay27 (F := Ideal) (k0_pay1 g) v (k0_pay18 v) (ix2 r c) = vn (M v) (Mg g) r c := by
  pointwise [vn, Mg, k0_pay27, k0_pay1]
  simp only [k26]

/-- The lower triangle. -/
theorem k29 (i k : Fin 128) : k0_pay29 (F := Ideal) (k0_pay2 w) (ix2 i k) = wm (Mw w) i k := by
  pointwise [wm, Mw, k0_pay29, k0_pay28, k0_pay2]
  simp only [tri0]

/-- The cotangent of the first gate. -/
theorem k31 (r c : Fin 128) : k0_pay31 (F := Ideal) (k0_pay1 g) (k0_pay2 w) (k0_pay3 b) v (k0_pay18 v) d (ix2 r c)
    = M d r c * mix (M v) (Mw w) (Mg g) (Mb b) r c := by
  pointwise [mix, M, Mb, k0_pay31, k0_pay3]
  simp only [k29, k27]

/-- The cotangent of the mixed rows. -/
theorem k33 (r c : Fin 128) : k0_pay33 (F := Ideal) (k0_pay16 a) d (ix2 r c) = ud (M a) (M d) r c := by
  pointwise [ud, M, k0_pay33, k0_pay30]
  simp only [k16, M]

/-- The cotangent of the normalised rows. -/
theorem k35 (r c : Fin 128) : k0_pay35 (F := Ideal) (k0_pay29 (k0_pay2 w)) (k0_pay33 (k0_pay16 a) d) (ix2 r c) = dn (M a) (M d) (Mw w) r c := by
  pointwise [dn, k0_pay35]
  simp only [k29, k33]

/-- A chunk's rows of the first gradient. -/
def E39 : FVec Ideal S128x128 .bf16 := k0_pay39 (F := Ideal) a (k0_pay12 a) (k0_pay14 a) (k0_pay15 a) (k0_pay31 (k0_pay1 g) (k0_pay2 w) (k0_pay3 b) v (k0_pay18 v) d)
/-- A chunk's rows of the second gradient. -/
def E40 : FVec Ideal S128x128 .bf16 := k0_pay40 (F := Ideal) (k0_pay38 (k0_pay1 g) v (k0_pay17 v) (k0_pay20 (k0_pay18 v) (k0_pay19 v) (FloatOps.ofBits FTy.f32 1065353216#32))
  (k0_pay21 (k0_pay18 v)) (k0_pay22 v (k0_pay18 v)) (k0_pay24 v (k0_pay18 v)) (k0_pay25 v (k0_pay18 v)) (k0_pay29 (k0_pay2 w)) (k0_pay33 (k0_pay16 a) d))
/-- A chunk's part of the scale's gradient. -/
def E37 : FVec Ideal S1x128 .f32 := k0_pay37 (F := Ideal) (k0_pay26 v (k0_pay18 v)) (k0_pay29 (k0_pay2 w)) (k0_pay33 (k0_pay16 a) d)
/-- A chunk's part of the mixing matrix's gradient. -/
def E36 : FVec Ideal S128x128 .f32 := k0_pay36 (F := Ideal) k0_pay28 (k0_pay33 (k0_pay16 a) d) (k0_pay34 (k0_pay1 g) v (k0_pay18 v)) (constant S128x128 FTy.f32 0#32)
/-- A chunk's part of the shift's gradient. -/
def E32 : FVec Ideal S128x1 .f32 := k0_pay32 (F := Ideal) (k0_pay16 a) d

/-- The first gradient. -/
theorem e39 (r c : Fin 128) : E39 a v d g w b (ix2 r c) = dU (M a) (M v) (M d) (Mw w) (Mg g) (Mb b) r c := by
  unfold E39
  pointwise [dU, dgel, th, k0_pay39, k0_pay12, k0_pay14, k0_pay15, k0_pay13]
  simp only [k31]
  rfl

/-- The word of one, as the kernel passes it. -/
theorem k20 (r c : Fin 128) : k0_pay20 (F := Ideal) (k0_pay18 v) (k0_pay19 v) 1 (ix2 r c)
    = (1 + th (M v r c)) * (1 - th (M v r c)) := by
  pointwise [th, M, k0_pay20, k0_pay19, k0_pay18]

/-- The scale as the kernel reads it. -/
theorem k1 (c : Fin 128) : k0_pay1 (F := Ideal) g (ix2 0 c) = Mg g c := by
  pointwise [Mg, k0_pay1]

/-- The second gradient. -/
theorem e40 (r c : Fin 128) : E40 a v d g w (ix2 r c) = dV (M a) (M v) (M d) (Mw w) (Mg g) r c := by
  unfold E40
  pointwise [k0_pay40, k0_pay38, k0_pay17]
  simp only [k20]
  pointwise [k0_pay21]
  simp only [k35, k22, k24, Fin.sum_univ_one, k25, k1, zero_sub]
  unfold dV dx dcen fac
  simp only [Fin.sum_univ_one]
  rfl

/-- The scale's part. -/
theorem e37 (c : Fin 128) : E37 a v d w (ix2 0 c) = dG (M a) (M v) (M d) (Mw w) c := by
  unfold E37
  pointwise [dG, k0_pay37]
  simp only [k26, k35]

/-- The matrix's part. -/
theorem e36 (i k : Fin 128) : E36 a v d g (ix2 i k) = dW (M a) (M v) (M d) (Mg g) i k := by
  unfold E36
  pointwise [dW, k0_pay36, k0_pay34, k0_pay28]
  simp only [k33, k27, tri0]

/-- The shift's part. -/
theorem e32 (i : Fin 128) : E32 a d (ix2 i 0) = dB (M a) (M d) i := by
  unfold E32
  pointwise [dB, ud, k0_pay32, k0_pay30]
  simp only [k16]
  rfl

/-- Chunk 0 of a trip computes the same. -/
theorem same0 : k0_pay39 (F := Ideal) a (k0_pay12 a) (k0_pay14 a) (k0_pay15 a) (k0_pay31 (k0_pay1 g) (k0_pay2 w) (k0_pay3 b) v (k0_pay18 v) d) = E39 a v d g w b
    ∧ k0_pay40 (k0_pay38 (k0_pay1 g) v (k0_pay17 v) (k0_pay20 (k0_pay18 v) (k0_pay19 v) (FloatOps.ofBits (F := Ideal) FTy.f32 1065353216#32)) (k0_pay21 (k0_pay18 v)) (k0_pay22 v (k0_pay18 v)) (k0_pay24 v (k0_pay18 v)) (k0_pay25 v (k0_pay18 v)) (k0_pay29 (k0_pay2 w)) (k0_pay33 (k0_pay16 a) d)) = E40 a v d g w
    ∧ (∀ x, k0_pay41 x (k0_pay37 (k0_pay26 v (k0_pay18 v)) (k0_pay29 (k0_pay2 w)) (k0_pay33 (k0_pay16 a) d)) = addf x (E37 a v d w))
    ∧ (∀ x, k0_pay42 x (k0_pay36 k0_pay28 (k0_pay33 (k0_pay16 a) d) (k0_pay34 (k0_pay1 g) v (k0_pay18 v)) (constant S128x128 FTy.f32 0#32)) = addf x (E36 a v d g))
    ∧ (∀ x, k0_pay43 x (k0_pay32 (k0_pay16 a) d) = addf x (E32 a d)) :=
  ⟨rfl, rfl, fun _ => rfl, fun _ => rfl, fun _ => rfl⟩

/-- Chunk 1 of a trip computes the same. -/
theorem same1 : k0_pay72 (F := Ideal) a (k0_pay44 a) (k0_pay48 (k0_pay45 a) (k0_pay46 a) k0_pay47) (k0_pay49 (k0_pay45 a)) (k0_pay64 (k0_pay1 g) (k0_pay2 w) (k0_pay3 b) (k0_pay55 v) (k0_pay57 v) d) = E39 a v d g w b
    ∧ k0_pay73 v (k0_pay51 v) (k0_pay53 v) (k0_pay54 v) (k0_pay70 (k0_pay1 g) (k0_pay2 w) (k0_pay50 a (k0_pay45 a)) (k0_pay55 v) (k0_pay57 v) (k0_pay58 v) d) k0_pay71 = E40 a v d g w
    ∧ (∀ x, k0_pay74 x (k0_pay69 (k0_pay2 w) (k0_pay50 a (k0_pay45 a)) (k0_pay55 v) (k0_pay57 v) d) = addf x (E37 a v d w))
    ∧ (∀ x, k0_pay75 x (k0_pay68 (k0_pay1 g) (k0_pay50 a (k0_pay45 a)) (k0_pay55 v) (k0_pay57 v) d) = addf x (E36 a v d g))
    ∧ (∀ x, k0_pay76 x (k0_pay65 (k0_pay50 a (k0_pay45 a)) d) = addf x (E32 a d)) :=
  ⟨rfl, rfl, fun _ => rfl, fun _ => rfl, fun _ => rfl⟩

/-- Chunk 2 of a trip computes the same. -/
theorem same2 : k0_pay107 (F := Ideal) (k0_pay77 a) (k0_pay105 (k0_pay80 a) (k0_pay96 (k0_pay1 g) (k0_pay2 w) (k0_pay3 b) v (k0_pay85 v) d)) (k0_pay106 a (k0_pay79 a) (k0_pay96 (k0_pay1 g) (k0_pay2 w) (k0_pay3 b) v (k0_pay85 v) d)) = E39 a v d g w b
    ∧ k0_pay108 (k0_pay104 (k0_pay1 g) v (k0_pay82 v) (k0_pay84 v) (k0_pay86 (k0_pay85 v)) (k0_pay87 v (k0_pay85 v)) (k0_pay89 v (k0_pay85 v)) (k0_pay90 v (k0_pay85 v)) (k0_pay100 (k0_pay2 w) (k0_pay81 a) d)) = E40 a v d g w
    ∧ (∀ x, k0_pay109 x (k0_pay103 (k0_pay91 v (k0_pay85 v)) (k0_pay100 (k0_pay2 w) (k0_pay81 a) d)) = addf x (E37 a v d w))
    ∧ (∀ x, k0_pay110 x (k0_pay102 k0_pay93 (k0_pay99 (k0_pay1 g) v (k0_pay81 a) (k0_pay85 v) d) k0_pay101) = addf x (E36 a v d g))
    ∧ (∀ x, k0_pay111 x (k0_pay97 (k0_pay81 a) d) = addf x (E32 a d)) :=
  ⟨rfl, rfl, fun _ => rfl, fun _ => rfl, fun _ => rfl⟩

/-- Chunk 3 of a trip computes the same. -/
theorem same3 : k0_pay140 (F := Ideal) a (k0_pay112 a) (k0_pay114 a) (k0_pay116 (k0_pay115 a) (FloatOps.ofBits (F := Ideal) FTy.f32 1056964608#32)) (k0_pay131 (k0_pay2 w) (k0_pay3 b) (k0_pay127 (k0_pay1 g) v) (iota Kind.tc S128x128 32 [0] iota_S128x128_d0_w32) (iota Kind.tc S128x128 32 [1] iota_S128x128_d1_w32) d) = E39 a v d g w b
    ∧ k0_pay141 v (k0_pay118 v) (k0_pay120 v) (k0_pay121 v) (k0_pay137 (k0_pay1 g) (k0_pay2 w) (k0_pay117 a (k0_pay115 a) (FloatOps.ofBits (F := Ideal) FTy.f32 1056964608#32)) (k0_pay122 v) (k0_pay124 v) (k0_pay125 v) (iota Kind.tc S128x128 32 [0] iota_S128x128_d0_w32) (iota Kind.tc S128x128 32 [1] iota_S128x128_d1_w32) d) (k0_pay138 (k0_pay1 g) (k0_pay2 w) (k0_pay117 a (k0_pay115 a) (FloatOps.ofBits (F := Ideal) FTy.f32 1056964608#32)) (k0_pay122 v) (k0_pay124 v) (k0_pay125 v) (iota Kind.tc S128x128 32 [0] iota_S128x128_d0_w32) (iota Kind.tc S128x128 32 [1] iota_S128x128_d1_w32) d) k0_pay139 = E40 a v d g w
    ∧ (∀ x, k0_pay142 x (k0_pay136 (k0_pay2 w) (k0_pay117 a (k0_pay115 a) (FloatOps.ofBits (F := Ideal) FTy.f32 1056964608#32)) (k0_pay126 v) (iota Kind.tc S128x128 32 [0] iota_S128x128_d0_w32) (iota Kind.tc S128x128 32 [1] iota_S128x128_d1_w32) d) = addf x (E37 a v d w))
    ∧ (∀ x, k0_pay7 x (k0_pay135 (k0_pay117 a (k0_pay115 a) (FloatOps.ofBits (F := Ideal) FTy.f32 1056964608#32)) (k0_pay127 (k0_pay1 g) v) (iota Kind.tc S128x128 32 [0] iota_S128x128_d0_w32) (iota Kind.tc S128x128 32 [1] iota_S128x128_d1_w32) d) = addf x (E36 a v d g))
    ∧ (∀ x, k0_pay8 x (k0_pay132 (k0_pay117 a (k0_pay115 a) (FloatOps.ofBits (F := Ideal) FTy.f32 1056964608#32)) d) = addf x (E32 a d)) :=
  ⟨rfl, rfl, fun _ => rfl, fun _ => rfl, fun _ => rfl⟩

end

end Cert.Gmlp
-- ==== Proof.Gmlp.lean ====
/- The gradient of the spatial gating unit, written by hand, against the derivative of the forward lines. -/
module

public import proofs.«01_k».proof.Proof.Gen.GmlpBwdIdeal.Value
public import proofs.«01_k».proof.Proof.Gen.GmlpBwdRefIdeal.Read
public import Idealize.ShloMosaic.Lib.Pipeline.ValueKit
public import proofs.«01_k».proof.Proof.GmlpChunk
public import proofs.«01_k».proof.Proof.Gen.Pre_gmlp_bwd_finite
public import proofs.«01_k».proof.Defs

@[expose] public section

set_option maxRecDepth 16384

noncomputable section

namespace Cert.Gmlp

open Cert.GmlpBwdIdeal Cert.GmlpBwdIdeal.Gen Idealize.ShloMosaic Idealize.ShloMosaic.TcCoe Idealize.SL.Sem
open Idealize.ShloMosaic.Pipeline (Dat)

variable (m : (ℓ : Loc nD τ sig) → Buf (Elt Ideal) ℓ)

open Cert.LayerNorm

/-- The arrays the call reads. -/
abbrev Z (c : Dev nD) : FVec Ideal S2048x3584 .f32 := (m ((c : Thread nD τ).loc main_arg0))
/-- The scales. -/
abbrev Gv (c : Dev nD) : FVec Ideal S8x128 .f32 := (m ((c : Thread nD τ).loc main_arg1))
/-- The mixing matrices. -/
abbrev Ws (c : Dev nD) : FVec Ideal S8x128x128 .f32 := (m ((c : Thread nD τ).loc main_arg2))
/-- The shifts. -/
abbrev Bs (c : Dev nD) : FVec Ideal S8x128 .f32 := (m ((c : Thread nD τ).loc main_arg3))
/-- The cotangent. -/
abbrev Dy (c : Dev nD) : FVec Ideal S2048x2048 .f32 := (m ((c : Thread nD τ).loc main_arg4))

/-- The loop runs four times. -/
theorem trips : k0_t1_loop.trips = 4 := by decide +kernel

/-- The head a step of the grid works on. -/
abbrev hd (t : Fin cfg0.N) : Fin 8 := ⟨t.val, lt_of_lt_of_eq t.isLt N_0⟩
/-- The chunk that part `q` of trip `k` works on. -/
abbrev cn (k : Fin k0_t1_loop.trips) (q : Fin 4) : Fin 16 :=
  ⟨k.val * 4 + q.val, by have := lt_of_lt_of_eq k.isLt trips; omega⟩

/-- The loop's state before trip `k`. -/
abbrev ST (c : Dev nD) (t : Fin cfg0.N) (k : ℕ) := st_k0_t1 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 3 t) (iblk m c 4 t) (iblk m c 5 t) ((hs0_0 t).unread (iblk m c 0 t)) ((hs0_1 t).unread (iblk m c 1 t)) ((hs0_2 t).unread (iblk m c 2 t)) (k0_pay4, k0_pay5, k0_pay6) k
/-- What trip `k` carries on. -/
abbrev TR (c : Dev nD) (t : Fin cfg0.N) (k : Fin k0_t1_loop.trips) := tripR_k0_t1 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 3 t) (iblk m c 4 t) (iblk m c 5 t) ((hs0_0 t).unread (iblk m c 0 t)) ((hs0_1 t).unread (iblk m c 1 t)) ((hs0_2 t).unread (iblk m c 2 t)) k
/-- What trip `k` stores. -/
abbrev TL (c : Dev nD) (t : Fin cfg0.N) (k : Fin k0_t1_loop.trips) := tripL_k0_t1 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 3 t) (iblk m c 4 t) (iblk m c 5 t) ((hs0_0 t).unread (iblk m c 0 t)) ((hs0_1 t).unread (iblk m c 1 t)) ((hs0_2 t).unread (iblk m c 2 t)) k

/-- Every window's block index. -/
theorem idx : ∀ t : Fin cfg0.N, win0_0.index t = ![0, t.val] ∧ win0_1.index t = ![0, 8 + t.val] ∧ win0_2.index t = ![0, t.val]
    ∧ win0_3.index t = ![t.val, 0, 0] ∧ win0_4.index t = ![t.val, 0, 0] ∧ win0_5.index t = ![t.val, 0, 0]
    ∧ win0_6.index t = ![0, t.val] ∧ win0_7.index t = ![0, t.val] ∧ win0_8.index t = ![t.val, 0, 0] ∧ win0_9.index t = ![t.val, 0, 0] ∧ win0_10.index t = ![t.val, 0, 0] :=
  (by decide +kernel : ∀ t : Fin grid0.N, _)

/-- The rows of a chunk in its block. -/
theorem emb (k : Fin k0_t1_loop.trips) (q : Fin 4) (h) (x : S128x128.Idx) :
    (Rect.unit (s := S2048x128) (k0_off1 k (BitVec.ofNat 32 q.val)) ![128, 128] h).emb x
    = ix2 ⟨(cn k q).val * 128 + (x 0).val, by have := (cn k q).isLt; have := (x 0).isLt; change _ < 128 at this; omega⟩ ⟨(x 1).val, (x 1).isLt⟩ := by
  have e := k0_off1_eq k q
  funext a
  refine Fin.ext ?_
  show k0_off1 k (BitVec.ofNat 32 q.val) a + 1 * (x a).val = _
  rw [e]
  match a with
  | 0 => show 512 * k.val + 128 * q.val + 1 * (x 0).val = (k.val * 4 + q.val) * 128 + (x 0).val; omega
  | 1 => show 0 + 1 * (x 1).val = (x 1).val; omega

/-- The chunk of the first gate's argument. -/
theorem ld0 (c : Dev nD) (t : Fin cfg0.N) (k : Fin k0_t1_loop.trips) (q : Fin 4) (h) :
    M (View.ld (iblk m c 0 t) (Rect.unit (s := S2048x128) (k0_off1 k (BitVec.ofNat 32 q.val)) ![128, 128] h)) = zu (Z m c) (cn k q) (hd t) := by
  funext r s
  show iblk m c 0 t ((Rect.unit (s := S2048x128) (k0_off1 k (BitVec.ofNat 32 q.val)) ![128, 128] h).emb (ix2 r s)) = _
  rw [emb]
  blk_point [iblk, V, zu, ch, idx t]

/-- The chunk of the second gate's argument. -/
theorem ld1 (c : Dev nD) (t : Fin cfg0.N) (k : Fin k0_t1_loop.trips) (q : Fin 4) (h) :
    M (View.ld (iblk m c 1 t) (Rect.unit (s := S2048x128) (k0_off1 k (BitVec.ofNat 32 q.val)) ![128, 128] h)) = zv (Z m c) (cn k q) (hd t) := by
  funext r s
  show iblk m c 1 t ((Rect.unit (s := S2048x128) (k0_off1 k (BitVec.ofNat 32 q.val)) ![128, 128] h).emb (ix2 r s)) = _
  rw [emb]
  blk_point [iblk, V, zv, ch, idx t]

/-- The chunk of the cotangent. -/
theorem ld2 (c : Dev nD) (t : Fin cfg0.N) (k : Fin k0_t1_loop.trips) (q : Fin 4) (h) :
    M (View.ld (iblk m c 2 t) (Rect.unit (s := S2048x128) (k0_off1 k (BitVec.ofNat 32 q.val)) ![128, 128] h)) = dd (Dy m c) (cn k q) (hd t) := by
  funext r s
  show iblk m c 2 t ((Rect.unit (s := S2048x128) (k0_off1 k (BitVec.ofNat 32 q.val)) ![128, 128] h).emb (ix2 r s)) = _
  rw [emb]
  blk_point [iblk, V, dd, ch, idx t]

/-- The mixing matrix of the head. -/
theorem blk4 (c : Dev nD) (t : Fin cfg0.N) : Mw (iblk m c 4 t) = fun i k => Ws m c (ix3 (hd t) i k) := by
  funext i k
  blk_point [Mw, iblk, V, idx t]

/-- The scales as the call reads them. -/
theorem host0 (c : Dev nD) : V m c main_v0 = fun i : S8x1x128.Idx => Gv m c (ix2 (i 0) (i 2)) := by
  entry_read
  funext i; idx_vars i
  pointwise []

/-- The shifts as the call reads them. -/
theorem host1 (c : Dev nD) : V m c main_v1 = fun i : S8x128x1.Idx => Bs m c (ix2 (i 0) (i 1)) := by
  entry_read
  funext i; idx_vars i
  pointwise []

/-- The scale of the head. -/
theorem blk3 (c : Dev nD) (t : Fin cfg0.N) : Mg (iblk m c 3 t) = fun k => Gv m c (ix2 (hd t) k) := by
  funext k
  have h := host0 m c
  blk_point [Mg, iblk, idx t, h]

/-- The shift of the head. -/
theorem blk5 (c : Dev nD) (t : Fin cfg0.N) : Mb (iblk m c 5 t) = fun k => Bs m c (ix2 (hd t) k) := by
  funext k
  have h := host1 m c
  blk_point [Mb, iblk, idx t, h]

/-- The reference's first gradient at a place of a block. -/
def blkU (c : Dev nD) (t : Fin cfg0.N) (y : S2048x128.Idx) : EReal :=
  Cert.GmlpBwdRefIdeal.Read.val_main_v159 (F := Ideal) (Z m c) (Gv m c) (Ws m c) (Bs m c) (Dy m c)
    (ix2 (y 0) ⟨(hd t).val * 128 + (y 1).val, by have := (hd t).isLt; have := (y 1).isLt; change _ < 128 at this; omega⟩)

/-- The reference's second gradient at a place of a block. -/
def blkV (c : Dev nD) (t : Fin cfg0.N) (y : S2048x128.Idx) : EReal :=
  Cert.GmlpBwdRefIdeal.Read.val_main_v160 (F := Ideal) (Z m c) (Gv m c) (Ws m c) (Dy m c)
    (ix2 (y 0) ⟨(hd t).val * 128 + (y 1).val, by have := (hd t).isLt; have := (y 1).isLt; change _ < 128 at this; omega⟩)

/-- The two forms of the second gradient agree. -/
def Agree (c : Dev nD) : Prop := ∀ (n : Fin 16) (h : Fin 8) (i j : Fin 128),
  dV (zu (Z m c) n h) (zv (Z m c) n h) (dd (Dy m c) n h) (fun i k => Ws m c (ix3 h i k)) (fun k => Gv m c (ix2 h k)) i j
  = dV' (zu (Z m c) n h) (zv (Z m c) n h) (dd (Dy m c) n h) (fun i k => Ws m c (ix3 h i k)) (fun k => Gv m c (ix2 h k)) i j

section
variable (c : Dev nD) (t : Fin cfg0.N) (k : Fin k0_t1_loop.trips) (q : Fin 4)

/-- A chunk's rows of the first gradient are the reference's. -/
theorem at6 (h0 h1 h2 h3) (x : S128x128.Idx) :
    E39 (View.ld (iblk m c 0 t) (Rect.unit (s := S2048x128) (k0_off1 k (BitVec.ofNat 32 q.val)) ![128, 128] h0))
      (View.ld (iblk m c 1 t) (Rect.unit (s := S2048x128) (k0_off1 k (BitVec.ofNat 32 q.val)) ![128, 128] h1))
      (View.ld (iblk m c 2 t) (Rect.unit (s := S2048x128) (k0_off1 k (BitVec.ofNat 32 q.val)) ![128, 128] h2)) (iblk m c 3 t) (iblk m c 4 t) (iblk m c 5 t) x
    = blkU m c t ((Rect.unit (s := S2048x128) (k0_off1 k (BitVec.ofNat 32 q.val)) ![128, 128] h3).emb x) := by
  idx_vars x
  rw [e39, ld0, ld1, ld2, blk3, blk4, blk5, emb]
  exact (r159 ..).symm

/-- A chunk's rows of the second gradient are the reference's. -/
theorem at7 (hp : Agree m c) (h0 h1 h2 h3) (x : S128x128.Idx) :
    E40 (View.ld (iblk m c 0 t) (Rect.unit (s := S2048x128) (k0_off1 k (BitVec.ofNat 32 q.val)) ![128, 128] h0))
      (View.ld (iblk m c 1 t) (Rect.unit (s := S2048x128) (k0_off1 k (BitVec.ofNat 32 q.val)) ![128, 128] h1))
      (View.ld (iblk m c 2 t) (Rect.unit (s := S2048x128) (k0_off1 k (BitVec.ofNat 32 q.val)) ![128, 128] h2)) (iblk m c 3 t) (iblk m c 4 t) x
    = blkV m c t ((Rect.unit (s := S2048x128) (k0_off1 k (BitVec.ofNat 32 q.val)) ![128, 128] h3).emb x) := by
  idx_vars x
  rw [e40, ld0, ld1, ld2, blk3, blk4, emb, hp]
  exact (r160 ..).symm

/-- What a trip stores of the first gradient is the reference's. -/
theorem trip6 (acc) : ∀ p ∈ (TL m c t k acc).1, ∀ x, p.2 x = blkU m c t (p.1.emb x) := by
  unfold TL tripL_k0_t1
  dsimp only
  unfold trip_k0_t1
  dsimp only
  frame_out
  intro p hp
  simp only [List.mem_cons, List.not_mem_nil, or_false] at hp
  rcases hp with rfl | rfl | rfl | rfl <;> intro x
  · exact (congrFun (same3 ..).1 x).trans (at6 m c t k 3 _ _ _ (k0_off1_inb k 3) x)
  · exact (congrFun (same2 ..).1 x).trans (at6 m c t k 2 _ _ _ (k0_off1_inb k 2) x)
  · exact (congrFun (same1 ..).1 x).trans (at6 m c t k 1 _ _ _ (k0_off1_inb k 1) x)
  · exact (congrFun (same0 ..).1 x).trans (at6 m c t k 0 _ _ _ (k0_off1_inb k 0) x)

/-- What a trip stores of the second gradient is the reference's. -/
theorem trip7 (hp : Agree m c) (acc) : ∀ p ∈ (TL m c t k acc).2, ∀ x, p.2 x = blkV m c t (p.1.emb x) := by
  unfold TL tripL_k0_t1
  dsimp only
  unfold trip_k0_t1
  dsimp only
  frame_out
  intro p h
  simp only [List.mem_cons, List.not_mem_nil, or_false] at h
  rcases h with rfl | rfl | rfl | rfl <;> intro x
  · exact (congrFun (same3 _ _ _ _ _ (iblk m c 5 t)).2.1 x).trans (at7 m c t k 3 hp _ _ _ (k0_off1_inb k 3) x)
  · exact (congrFun (same2 _ _ _ _ _ (iblk m c 5 t)).2.1 x).trans (at7 m c t k 2 hp _ _ _ (k0_off1_inb k 2) x)
  · exact (congrFun (same1 _ _ _ _ _ (iblk m c 5 t)).2.1 x).trans (at7 m c t k 1 hp _ _ _ (k0_off1_inb k 1) x)
  · exact (congrFun (same0 _ _ _ _ _ (iblk m c 5 t)).2.1 x).trans (at7 m c t k 0 hp _ _ _ (k0_off1_inb k 0) x)

/-- A chunk's part of the scale's gradient. -/
def partG (n : Fin 16) (j : Fin 128) : EReal :=
  dG (zu (Z m c) n (hd t)) (zv (Z m c) n (hd t)) (dd (Dy m c) n (hd t)) (fun i k => Ws m c (ix3 (hd t) i k)) j
/-- A chunk's part of the mixing matrix's gradient. -/
def partW (n : Fin 16) (i j : Fin 128) : EReal :=
  dW (zu (Z m c) n (hd t)) (zv (Z m c) n (hd t)) (dd (Dy m c) n (hd t)) (fun k => Gv m c (ix2 (hd t) k)) i j
/-- A chunk's part of the shift's gradient. -/
def partB (n : Fin 16) (i : Fin 128) : EReal := dB (zu (Z m c) n (hd t)) (dd (Dy m c) n (hd t)) i

/-- Four equal parts. -/
theorem four {x a b c d a' b' c' d' : EReal} (ha : a = a') (hb : b = b') (hc : c = c') (hd : d = d') :
    x + a + b + c + d = x + a' + b' + c' + d' := by rw [ha, hb, hc, hd]

/-- Four trips of four parts add sixteen. -/
theorem acc_sum (f : Fin 16 → EReal) (s : ℕ → EReal) (h0 : s 0 = 0)
    (hs : ∀ (k : ℕ) (h : k < 4), s (k + 1) = s k + f ⟨k * 4 + 0, by omega⟩ + f ⟨k * 4 + 1, by omega⟩ + f ⟨k * 4 + 2, by omega⟩ + f ⟨k * 4 + 3, by omega⟩) :
    s 4 = ∑ n, f n := by
  rw [hs 3 (by decide), hs 2 (by decide), hs 1 (by decide), hs 0 (by decide), h0]
  simp only [Fin.sum_univ_castSucc, Fin.sum_univ_zero]
  rfl

/-- A chunk's part of the scale's gradient. -/
theorem at8 (h0 h1 h2) (j : Fin 128) :
    E37 (View.ld (iblk m c 0 t) (Rect.unit (s := S2048x128) (k0_off1 k (BitVec.ofNat 32 q.val)) ![128, 128] h0)) (View.ld (iblk m c 1 t) (Rect.unit (s := S2048x128) (k0_off1 k (BitVec.ofNat 32 q.val)) ![128, 128] h1)) (View.ld (iblk m c 2 t) (Rect.unit (s := S2048x128) (k0_off1 k (BitVec.ofNat 32 q.val)) ![128, 128] h2)) (iblk m c 4 t) (ix2 0 j) = partG m c t (cn k q) j := by
  rw [e37, ld0, ld1, ld2, blk4]
  rfl

/-- A trip adds four parts of the scale's gradient. -/
theorem trip8 (acc) (j : Fin 128) : (TR m c t k acc).1 (ix2 0 j)
    = acc.1 (ix2 0 j) + partG m c t (cn k 0) j + partG m c t (cn k 1) j + partG m c t (cn k 2) j + partG m c t (cn k 3) j := by
  unfold TR tripR_k0_t1
  unfold trip_k0_t1
  dsimp only
  frame_out
  rw [(same3 _ _ _ (iblk m c 3 t) (iblk m c 4 t) (iblk m c 5 t)).2.2.1, (same2 _ _ _ (iblk m c 3 t) (iblk m c 4 t) (iblk m c 5 t)).2.2.1,
    (same1 _ _ _ (iblk m c 3 t) (iblk m c 4 t) (iblk m c 5 t)).2.2.1, (same0 _ _ _ (iblk m c 3 t) (iblk m c 4 t) (iblk m c 5 t)).2.2.1]
  exact four (at8 m c t k 0 _ _ _ j) (at8 m c t k 1 _ _ _ j) (at8 m c t k 2 _ _ _ j) (at8 m c t k 3 _ _ _ j)

/-- The four trips add all the parts of the scale's gradient. -/
theorem st8 (j : Fin 128) : (ST m c t 4).1.1 (ix2 0 j) = ∑ n : Fin 16, partG m c t n j := by
  refine acc_sum (fun n => partG m c t n j) (fun k => (ST m c t k).1.1 (ix2 0 j)) ?_ fun k hk => ?_
  · show k0_pay4 (F := Ideal) (ix2 0 j) = 0
    pointwise [k0_pay4]
  · have h := st_k0_t1_succ (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 3 t) (iblk m c 4 t) (iblk m c 5 t) ((hs0_0 t).unread (iblk m c 0 t)) ((hs0_1 t).unread (iblk m c 1 t)) ((hs0_2 t).unread (iblk m c 2 t)) (k0_pay4, k0_pay5, k0_pay6) ⟨k, hk.trans_eq trips.symm⟩
    exact (congrArg (fun s => s.1.1 (ix2 0 j)) h).trans (trip8 m c t ⟨k, hk.trans_eq trips.symm⟩ _ j)

/-- A chunk's part of the matrix's gradient. -/
theorem at9 (h0 h1 h2) (i j : Fin 128) :
    E36 (View.ld (iblk m c 0 t) (Rect.unit (s := S2048x128) (k0_off1 k (BitVec.ofNat 32 q.val)) ![128, 128] h0)) (View.ld (iblk m c 1 t) (Rect.unit (s := S2048x128) (k0_off1 k (BitVec.ofNat 32 q.val)) ![128, 128] h1)) (View.ld (iblk m c 2 t) (Rect.unit (s := S2048x128) (k0_off1 k (BitVec.ofNat 32 q.val)) ![128, 128] h2)) (iblk m c 3 t) (ix2 i j) = partW m c t (cn k q) i j := by
  rw [e36, ld0, ld1, ld2, blk3]
  rfl

/-- A trip adds four parts of the matrix's gradient. -/
theorem trip9 (acc) (i j : Fin 128) : (TR m c t k acc).2.1 (ix2 i j)
    = acc.2.1 (ix2 i j) + partW m c t (cn k 0) i j + partW m c t (cn k 1) i j + partW m c t (cn k 2) i j + partW m c t (cn k 3) i j := by
  unfold TR tripR_k0_t1
  unfold trip_k0_t1
  dsimp only
  frame_out
  rw [(same3 _ _ _ (iblk m c 3 t) (iblk m c 4 t) (iblk m c 5 t)).2.2.2.1, (same2 _ _ _ (iblk m c 3 t) (iblk m c 4 t) (iblk m c 5 t)).2.2.2.1,
    (same1 _ _ _ (iblk m c 3 t) (iblk m c 4 t) (iblk m c 5 t)).2.2.2.1, (same0 _ _ _ (iblk m c 3 t) (iblk m c 4 t) (iblk m c 5 t)).2.2.2.1]
  exact four (at9 m c t k 0 _ _ _ i j) (at9 m c t k 1 _ _ _ i j) (at9 m c t k 2 _ _ _ i j) (at9 m c t k 3 _ _ _ i j)

/-- The four trips add all the parts of the matrix's gradient. -/
theorem st9 (i j : Fin 128) : (ST m c t 4).1.2.1 (ix2 i j) = ∑ n : Fin 16, partW m c t n i j := by
  refine acc_sum (fun n => partW m c t n i j) (fun k => (ST m c t k).1.2.1 (ix2 i j)) ?_ fun k hk => ?_
  · show k0_pay5 (F := Ideal) (ix2 i j) = 0
    pointwise [k0_pay5]
  · have h := st_k0_t1_succ (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 3 t) (iblk m c 4 t) (iblk m c 5 t) ((hs0_0 t).unread (iblk m c 0 t)) ((hs0_1 t).unread (iblk m c 1 t)) ((hs0_2 t).unread (iblk m c 2 t)) (k0_pay4, k0_pay5, k0_pay6) ⟨k, hk.trans_eq trips.symm⟩
    exact (congrArg (fun s => s.1.2.1 (ix2 i j)) h).trans (trip9 m c t ⟨k, hk.trans_eq trips.symm⟩ _ i j)

/-- A chunk's part of the shift's gradient. -/
theorem at10 (h0 h2) (i : Fin 128) :
    E32 (View.ld (iblk m c 0 t) (Rect.unit (s := S2048x128) (k0_off1 k (BitVec.ofNat 32 q.val)) ![128, 128] h0)) (View.ld (iblk m c 2 t) (Rect.unit (s := S2048x128) (k0_off1 k (BitVec.ofNat 32 q.val)) ![128, 128] h2)) (ix2 i 0) = partB m c t (cn k q) i := by
  rw [e32, ld0, ld2]
  rfl

/-- A trip adds four parts of the shift's gradient. -/
theorem trip10 (acc) (i : Fin 128) : (TR m c t k acc).2.2 (ix2 i 0)
    = acc.2.2 (ix2 i 0) + partB m c t (cn k 0) i + partB m c t (cn k 1) i + partB m c t (cn k 2) i + partB m c t (cn k 3) i := by
  unfold TR tripR_k0_t1
  unfold trip_k0_t1
  dsimp only
  frame_out
  rw [(same3 _ (fun _ => 0) _ (iblk m c 3 t) (iblk m c 4 t) (iblk m c 5 t)).2.2.2.2, (same2 _ (fun _ => 0) _ (iblk m c 3 t) (iblk m c 4 t) (iblk m c 5 t)).2.2.2.2,
    (same1 _ (fun _ => 0) _ (iblk m c 3 t) (iblk m c 4 t) (iblk m c 5 t)).2.2.2.2, (same0 _ (fun _ => 0) _ (iblk m c 3 t) (iblk m c 4 t) (iblk m c 5 t)).2.2.2.2]
  exact four (at10 m c t k 0 _ _ i) (at10 m c t k 1 _ _ i) (at10 m c t k 2 _ _ i) (at10 m c t k 3 _ _ i)

/-- The four trips add all the parts of the shift's gradient. -/
theorem st10 (i : Fin 128) : (ST m c t 4).1.2.2 (ix2 i 0) = ∑ n : Fin 16, partB m c t n i := by
  refine acc_sum (fun n => partB m c t n i) (fun k => (ST m c t k).1.2.2 (ix2 i 0)) ?_ fun k hk => ?_
  · show k0_pay6 (F := Ideal) (ix2 i 0) = 0
    pointwise [k0_pay6]
  · have h := st_k0_t1_succ (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 3 t) (iblk m c 4 t) (iblk m c 5 t) ((hs0_0 t).unread (iblk m c 0 t)) ((hs0_1 t).unread (iblk m c 1 t)) ((hs0_2 t).unread (iblk m c 2 t)) (k0_pay4, k0_pay5, k0_pay6) ⟨k, hk.trans_eq trips.symm⟩
    exact (congrArg (fun s => s.1.2.2 (ix2 i 0)) h).trans (trip10 m c t ⟨k, hk.trans_eq trips.symm⟩ _ i)

/-- All that the trips store in window 6 is the reference's. -/
theorem st6 (n : ℕ) (hn : n ≤ 4) : ∀ p ∈ (ST m c t n).2.1, ∀ x, p.2 x = blkU m c t (p.1.emb x) := by
  induction n with
  | zero => intro p hp; exact absurd hp List.not_mem_nil
  | succ n ih =>
    have h := congrArg (fun s => s.2.1) (st_k0_t1_succ (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 3 t) (iblk m c 4 t) (iblk m c 5 t) ((hs0_0 t).unread (iblk m c 0 t)) ((hs0_1 t).unread (iblk m c 1 t)) ((hs0_2 t).unread (iblk m c 2 t)) (k0_pay4, k0_pay5, k0_pay6) ⟨n, hn.trans_eq trips.symm⟩)
    intro p hm
    rcases List.mem_append.1 ((congrArg (p ∈ ·) h).mp hm) with h | h
    · exact trip6 m c t _ _ p h
    · exact ih (by omega) p h

/-- All that the trips store in window 7 is the reference's. -/
theorem st7 (hp : Agree m c) (n : ℕ) (hn : n ≤ 4) : ∀ p ∈ (ST m c t n).2.2, ∀ x, p.2 x = blkV m c t (p.1.emb x) := by
  induction n with
  | zero => intro p hp; exact absurd hp List.not_mem_nil
  | succ n ih =>
    have h := congrArg (fun s => s.2.2) (st_k0_t1_succ (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 3 t) (iblk m c 4 t) (iblk m c 5 t) ((hs0_0 t).unread (iblk m c 0 t)) ((hs0_1 t).unread (iblk m c 1 t)) ((hs0_2 t).unread (iblk m c 2 t)) (k0_pay4, k0_pay5, k0_pay6) ⟨n, hn.trans_eq trips.symm⟩)
    intro p hm
    rcases List.mem_append.1 ((congrArg (p ∈ ·) h).mp hm) with h | h
    · exact trip7 m c t _ hp _ p h
    · exact ih (by omega) p h

end

/-- The trips' stores cover the block of window 6. -/
theorem cover6 (c : Dev nD) (t : Fin cfg0.N) (y : S2048x128.Idx) : ∃ p ∈ (ST m c t 4).2.1, y ∈ p.1.set :=
  View.cover_of_tiledL (ST m c t 4).2.1 S128x128.size (by sl_kernel_rfl) y

/-- The array of window 6. -/
theorem final6 (c : Dev nD) : (dats m 0 c).arrAt 6 (cfgs 0).N
    = Cert.GmlpBwdRefIdeal.Read.val_main_v159 (F := Ideal) (Z m c) (Gv m c) (Ws m c) (Bs m c) (Dy m c) := by
  refine (dats m 0 c).arrAt_eq_of_covers 6 _ (by decide +kernel) fun t _ y => ?_
  blk_simp
  rw [after0_6]
  unfold outsAt0
  dsimp only
  frame_out
  refine (View.canon_apply_of_pieces (blkU m c t) _ (st6 m c t 4 le_rfl) y (cover6 m c t y)).trans ?_
  unfold blkU
  refine congrArg _ (funext fun a => Fin.ext ?_)
  idx_vars y
  match a with
  | 0 => blk_simp [idx t]
  | 1 => blk_simp [idx t]

/-- The trips' stores cover the block of window 7. -/
theorem cover7 (c : Dev nD) (t : Fin cfg0.N) (y : S2048x128.Idx) : ∃ p ∈ (ST m c t 4).2.2, y ∈ p.1.set :=
  View.cover_of_tiledL (ST m c t 4).2.2 S128x128.size (by sl_kernel_rfl) y

/-- The array of window 7. -/
theorem final7 (c : Dev nD) (hp : Agree m c) : (dats m 0 c).arrAt 7 (cfgs 0).N
    = Cert.GmlpBwdRefIdeal.Read.val_main_v160 (F := Ideal) (Z m c) (Gv m c) (Ws m c) (Dy m c) := by
  refine (dats m 0 c).arrAt_eq_of_covers 7 _ (by decide +kernel) fun t _ y => ?_
  blk_simp
  rw [after0_7]
  unfold outsAt0
  dsimp only
  frame_out
  refine (View.canon_apply_of_pieces (blkV m c t) _ (st7 m c t hp 4 le_rfl) y (cover7 m c t y)).trans ?_
  unfold blkV
  refine congrArg _ (funext fun a => Fin.ext ?_)
  idx_vars y
  match a with
  | 0 => blk_simp [idx t]
  | 1 => blk_simp [idx t]

/-- The array of window 8. -/
theorem final8 (c : Dev nD) : (dats m 0 c).arrAt 8 (cfgs 0).N
    = Cert.GmlpBwdRefIdeal.Read.val_main_v161 (F := Ideal) (Z m c) (Ws m c) (Dy m c) := by
  refine (dats m 0 c).arrAt_eq_of_covers 8 _ (by decide +kernel) fun t _ y => ?_
  blk_simp
  rw [after0_8]
  unfold outsAt0
  dsimp only
  frame_out
  idx_vars y
  pointwise [k0_pay9]
  refine (st8 m c t y2).trans ((r161 ..).symm.trans ?_)
  refine congrArg _ (funext fun a => Fin.ext ?_)
  match a with
  | 0 => blk_simp [idx t]
  | 1 => blk_simp [idx t]; rfl
  | 2 => blk_simp [idx t]

/-- The array of window 9. -/
theorem final9 (c : Dev nD) : (dats m 0 c).arrAt 9 (cfgs 0).N
    = Cert.GmlpBwdRefIdeal.Read.val_main_v101 (F := Ideal) (Z m c) (Gv m c) (Dy m c) := by
  refine (dats m 0 c).arrAt_eq_of_covers 9 _ (by decide +kernel) fun t _ y => ?_
  blk_simp
  rw [after0_9]
  unfold outsAt0
  dsimp only
  frame_out
  idx_vars y
  pointwise [k0_pay10]
  refine (st9 m c t y1 y2).trans ((r101 ..).symm.trans ?_)
  refine congrArg _ (funext fun a => Fin.ext ?_)
  match a with
  | 0 => blk_simp [idx t]
  | 1 => blk_simp [idx t]
  | 2 => blk_simp [idx t]

/-- The array of window 10. -/
theorem final10 (c : Dev nD) : (dats m 0 c).arrAt 10 (cfgs 0).N
    = Cert.GmlpBwdRefIdeal.Read.val_main_v162 (F := Ideal) (Z m c) (Dy m c) := by
  refine (dats m 0 c).arrAt_eq_of_covers 10 _ (by decide +kernel) fun t _ y => ?_
  blk_simp
  rw [after0_10]
  unfold outsAt0
  dsimp only
  frame_out
  idx_vars y
  pointwise [k0_pay11]
  refine (st10 m c t y1).trans ((r162 ..).symm.trans ?_)
  refine congrArg _ (funext fun a => Fin.ext ?_)
  match a with
  | 0 => blk_simp [idx t]
  | 1 => blk_simp [idx t]
  | 2 => blk_simp [idx t]; rfl

/-- The hyperbolic tangent is real everywhere. -/
theorem tanh_real (x : EReal) : ∃ r : ℝ, Ideal.tanh x = (r : EReal) := by
  induction x using EReal.rec with
  | bot => exact ⟨-1, by show (-1 : EReal) = _; simp⟩
  | coe r => exact ⟨Real.tanh r, rfl⟩
  | top => exact ⟨1, by show (1 : EReal) = _; simp⟩

/-- The word of one half. -/
theorem half_word : Ideal.ofBits .f32 1056964608#32 = ((1 / 2 : ℝ) : EReal) := by
  simp [Ideal.ofBits, Ideal.ieee, -EReal.coe_mul]; norm_num

/-- The word of one hundred and twenty-eight. -/
theorem n_word : Ideal.ofBits .f32 1124073472#32 = ((128 : ℝ) : EReal) := by
  simp [Ideal.ofBits, Ideal.ieee, -EReal.coe_mul]; norm_num

/-- The gate of a real is real. -/
theorem gel_real (r : ℝ) : ∃ s : ℝ, gel (r : EReal) = (s : EReal) := by
  obtain ⟨u, hu⟩ := tanh_real (Ideal.ofBits .f32 1061962282#32 * ((r : EReal) + Ideal.ofBits .f32 1027024659#32 * ((r : EReal) * ((r : EReal) * (r : EReal)))))
  refine ⟨r * (1 / 2 * (1 + u)), ?_⟩
  unfold gel th
  rw [hu, half_word]
  simp only [EReal.coe_mul, EReal.coe_add, EReal.coe_one]

/-- The cotangent of the normalised rows is real where what it is made of is. -/
theorem dn_real (a d w : Fin 128 → Fin 128 → EReal) (ha : ∀ i j, ∃ r : ℝ, a i j = (r : EReal)) (hd : ∀ i j, ∃ r : ℝ, d i j = (r : EReal))
    (hw : ∀ i j, ∃ r : ℝ, w i j = (r : EReal)) (i j : Fin 128) : ∃ r : ℝ, dn a d w i j = (r : EReal) := by
  have h : ∀ k, ∃ r : ℝ, wm w k i * ud a d k j = (r : EReal) := fun k => by
    obtain ⟨x, hx⟩ := ha k j
    obtain ⟨y, hy⟩ := hd k j
    obtain ⟨z, hz⟩ := hw k i
    obtain ⟨s, hs⟩ := gel_real x
    unfold wm ud
    rw [hx, hs, hy, hz]
    split_ifs
    · exact ⟨z * (s * y), by simp only [EReal.coe_mul]⟩
    · exact ⟨0, by simp⟩
  choose f hf using h
  exact ⟨∑ k, f k, by unfold dn; simp only [hf, Cert.Softmax.coe_sum]⟩

/-- Where the inputs the gradient reads are finite its two forms agree. -/
theorem agree [Cert.Pre_gmlp_bwd_finite.Facts] (c : Dev nD)
    (h0 : (Cert.Pre_gmlp_bwd_finite.fn (F := Ideal) (Z m c) (Gv m c) (Ws m c) (Bs m c) (Dy m c)).1 = fun _ => 1#1)
    (h1 : (Cert.Pre_gmlp_bwd_finite.fn (F := Ideal) (Z m c) (Gv m c) (Ws m c) (Bs m c) (Dy m c)).2.1 = fun _ => 1#1)
    (h2 : (Cert.Pre_gmlp_bwd_finite.fn (F := Ideal) (Z m c) (Gv m c) (Ws m c) (Bs m c) (Dy m c)).2.2.1 = fun _ => 1#1)
    (h3 : (Cert.Pre_gmlp_bwd_finite.fn (F := Ideal) (Z m c) (Gv m c) (Ws m c) (Bs m c) (Dy m c)).2.2.2 = fun _ => 1#1) : Agree m c := by
  intro n h i j
  unfold dV dV'
  rw [n_word]
  refine congrArg _ (dx_eq (by norm_num) _ _ (fun k => ?_) _)
  obtain ⟨u, hu⟩ := Cert.Softmax.real_of_lt (Gv m c (ix2 h k)) (congrFun h1 (ix2 h k))
  obtain ⟨v, hv⟩ := dn_real (zu (Z m c) n h) (dd (Dy m c) n h) (fun i k => Ws m c (ix3 h i k))
    (fun r s => Cert.Softmax.real_of_lt _ (by
      have e := congrFun h0 (ix2 ⟨n.val * 128 + r.val, by omega⟩ ⟨h.val * 128 + s.val, by omega⟩)
      exact (by pointwise [zu, ch] : zu (Z m c) n h r s = extractStridedSlice S2048x1024 ![0, 0] (Z m c) Cert.Pre_gmlp_bwd_finite.Facts.slices_S2048x3584_S2048x1024_0_0
        (ix2 ⟨n.val * 128 + r.val, by omega⟩ ⟨h.val * 128 + s.val, by omega⟩)) ▸ e))
    (fun r s => Cert.Softmax.real_of_lt _ (by
      have e := congrFun h3 (ix2 ⟨n.val * 128 + r.val, by omega⟩ ⟨h.val * 128 + s.val, by omega⟩)
      exact (by pointwise [dd, ch] : dd (Dy m c) n h r s = extractStridedSlice S2048x1024 ![0, 0] (Dy m c) Cert.Pre_gmlp_bwd_finite.Facts.slices_S2048x2048_S2048x1024_0_0
        (ix2 ⟨n.val * 128 + r.val, by omega⟩ ⟨h.val * 128 + s.val, by omega⟩)) ▸ e))
    (fun r s => Cert.Softmax.real_of_lt _ (congrFun h2 (ix3 h r s))) i k
  exact ⟨v * u, by rw [EReal.coe_mul, ← hu, ← hv]⟩

end Cert.Gmlp

/-- Where the inputs are finite the kernel's five gradients are the reference's. -/
theorem Cert.Gmlp.pair : Cert.algebraic_GmlpBwdIdeal_GmlpBwdRefIdeal_pre_gmlp_bwd_finite := by
  pair_intro
  · run_from Cert.GmlpBwdIdeal.Value.run_blocks m g
  · refine Idealize.ShloMosaic.θ_run_mono (Cert.GmlpBwdRefIdeal.Value.run m' g') fun r hr c => ?_
    obtain ⟨h0, h1, h2, h3, h4, k⟩ := hr c
    obtain ⟨a0, a1, a2, a3, a4⟩ := hagree c
    refine ⟨h0.trans ((Cert.GmlpBwdRefIdeal.Read.val_main_v159_eq _).trans ?_),
      h1.trans ((Cert.GmlpBwdRefIdeal.Read.val_main_v160_eq _).trans ?_),
      h2.trans ((Cert.GmlpBwdRefIdeal.Read.val_main_v161_eq _).trans ?_),
      h3.trans ((Cert.GmlpBwdRefIdeal.Read.val_main_v101_eq _).trans ?_),
      h4.trans ((Cert.GmlpBwdRefIdeal.Read.val_main_v162_eq _).trans ?_), k⟩
    · change Cert.GmlpBwdRefIdeal.Read.val_main_v159 (F := Idealize.ShloMosaic.Ideal) (m' (c.tc.loc Cert.GmlpBwdRefIdeal.main_arg0)) (m' (c.tc.loc Cert.GmlpBwdRefIdeal.main_arg1)) (m' (c.tc.loc Cert.GmlpBwdRefIdeal.main_arg2)) (m' (c.tc.loc Cert.GmlpBwdRefIdeal.main_arg3)) (m' (c.tc.loc Cert.GmlpBwdRefIdeal.main_arg4)) = _
      rw [a0, a1, a2, a3, a4]; exact (Cert.Gmlp.final6 m c).symm
    · change Cert.GmlpBwdRefIdeal.Read.val_main_v160 (F := Idealize.ShloMosaic.Ideal) (m' (c.tc.loc Cert.GmlpBwdRefIdeal.main_arg0)) (m' (c.tc.loc Cert.GmlpBwdRefIdeal.main_arg1)) (m' (c.tc.loc Cert.GmlpBwdRefIdeal.main_arg2)) (m' (c.tc.loc Cert.GmlpBwdRefIdeal.main_arg4)) = _
      rw [a0, a1, a2, a4]
      exact (Cert.Gmlp.final7 m c (Cert.Gmlp.agree m c (hpre c).1 (hpre c).2.1 (hpre c).2.2.1 (hpre c).2.2.2)).symm
    · change Cert.GmlpBwdRefIdeal.Read.val_main_v161 (F := Idealize.ShloMosaic.Ideal) (m' (c.tc.loc Cert.GmlpBwdRefIdeal.main_arg0)) (m' (c.tc.loc Cert.GmlpBwdRefIdeal.main_arg2)) (m' (c.tc.loc Cert.GmlpBwdRefIdeal.main_arg4)) = _
      rw [a0, a2, a4]; exact (Cert.Gmlp.final8 m c).symm
    · change Cert.GmlpBwdRefIdeal.Read.val_main_v101 (F := Idealize.ShloMosaic.Ideal) (m' (c.tc.loc Cert.GmlpBwdRefIdeal.main_arg0)) (m' (c.tc.loc Cert.GmlpBwdRefIdeal.main_arg1)) (m' (c.tc.loc Cert.GmlpBwdRefIdeal.main_arg4)) = _
      rw [a0, a1, a4]; exact (Cert.Gmlp.final9 m c).symm
    · change Cert.GmlpBwdRefIdeal.Read.val_main_v162 (F := Idealize.ShloMosaic.Ideal) (m' (c.tc.loc Cert.GmlpBwdRefIdeal.main_arg0)) (m' (c.tc.loc Cert.GmlpBwdRefIdeal.main_arg4)) = _
      rw [a0, a4]; exact (Cert.Gmlp.final10 m c).symm

end
-- ==== Proof.PoolSums.lean ====
/- Sliding sums along rows: by doubling, by differences of prefix sums, by suffix sums of differences. -/
module

public import Idealize.ShloMosaic.Lib.Pipeline.ValueKit

@[expose] public section

set_option maxRecDepth 16384

noncomputable section

namespace Cert.Pool

open Idealize.ShloMosaic

/-- A column of 2048 rows, zero outside. -/
def ex {α : Type} [Zero α] (x : Fin 2048 → α) (i : ℤ) : α := if h : 0 ≤ i ∧ i < 2048 then x ⟨i.toNat, by omega⟩ else 0

section
variable {α : Type} [AddCommMonoid α]

/-- Inside, the column. -/
theorem ex_in (x : Fin 2048 → α) (i : ℤ) (r : Fin 2048) (h : (r.val : ℤ) = i) : ex x i = x r := by
  have := r.isLt
  rw [ex, dif_pos ⟨by omega, by omega⟩]
  exact congrArg x (Fin.ext (show i.toNat = r.val by omega))

/-- Outside, zero. -/
theorem ex_out (x : Fin 2048 → α) (i : ℤ) (h : i < 0 ∨ 2048 ≤ i) : ex x i = 0 := dif_neg (by omega)

/-- The sum of `n` rows up to a row. -/
def back (n : ℕ) (x : Fin 2048 → α) (r : Fin 2048) : α := ∑ j ∈ Finset.range n, ex x ((r.val : ℤ) - (j : ℕ))
/-- The sum of `n` rows from a row on, `s` apart. -/
def fore (s n : ℕ) (x : Fin 2048 → α) (r : Fin 2048) : α := ∑ j ∈ Finset.range n, ex x ((r.val : ℤ) + (s * j : ℕ))

/-- The same at any row that is not after the last. -/
theorem ex_back (n : ℕ) (x : Fin 2048 → α) (i : ℤ) (hi : i < 2048) :
    ex (back n x) i = ∑ j ∈ Finset.range n, ex x (i - (j : ℕ)) := by
  by_cases h : 0 ≤ i
  · rw [ex_in _ i ⟨i.toNat, by omega⟩ (by show ((i.toNat : ℕ) : ℤ) = i; omega), back]
    refine Finset.sum_congr rfl fun j _ => ?_
    rw [show (((⟨i.toNat, by omega⟩ : Fin 2048).val : ℕ) : ℤ) = i by show ((i.toNat : ℕ) : ℤ) = i; omega]
  · rw [ex_out _ i (by omega)]
    exact (Finset.sum_eq_zero fun j _ => ex_out _ _ (by omega)).symm

/-- The same at any row that is not before the first. -/
theorem ex_fore (s n : ℕ) (x : Fin 2048 → α) (i : ℤ) (hi : 0 ≤ i) :
    ex (fore s n x) i = ∑ j ∈ Finset.range n, ex x (i + (s * j : ℕ)) := by
  by_cases h : i < 2048
  · rw [ex_in _ i ⟨i.toNat, by omega⟩ (by show ((i.toNat : ℕ) : ℤ) = i; omega), fore]
    refine Finset.sum_congr rfl fun j _ => ?_
    rw [show (((⟨i.toNat, by omega⟩ : Fin 2048).val : ℕ) : ℤ) = i by show ((i.toNat : ℕ) : ℤ) = i; omega]
  · rw [ex_out _ i (by omega)]
    exact (Finset.sum_eq_zero fun j _ => ex_out _ _ (by omega)).symm

/-- The sum of one row. -/
theorem back_one (x : Fin 2048 → α) : back 1 x = x := by
  funext r; rw [back, Finset.sum_range_one]; exact ex_in _ _ _ (by simp)

/-- The sum of one row. -/
theorem fore_one (s : ℕ) (x : Fin 2048 → α) : fore s 1 x = x := by
  funext r; rw [fore, Finset.sum_range_one]; exact ex_in _ _ _ (by simp)

/-- Two runs of rows side by side, backwards. -/
theorem back_double (n : ℕ) (x : Fin 2048 → α) (r : Fin 2048) :
    back n x r + ex (back n x) ((r.val : ℤ) - n) = back (n + n) x r := by
  have := r.isLt
  rw [ex_back _ _ _ (by omega), back, back, Finset.sum_range_add]
  refine congrArg _ (Finset.sum_congr rfl fun j _ => congrArg _ ?_)
  push_cast; omega

/-- The even and the odd places of a sum. -/
theorem sum_halve (f : ℕ → α) (n : ℕ) :
    ∑ j ∈ Finset.range n, f (2 * j) + ∑ j ∈ Finset.range n, f (2 * j + 1) = ∑ j ∈ Finset.range (2 * n), f j := by
  induction n with
  | zero => simp
  | succ n ih =>
    rw [Finset.sum_range_succ, Finset.sum_range_succ, show 2 * (n + 1) = 2 * n + 1 + 1 by ring, Finset.sum_range_succ, Finset.sum_range_succ, ← ih]
    ac_rfl

/-- Two interleaved runs of rows, forwards. -/
theorem fore_halve (s t n : ℕ) (x : Fin 2048 → α) (r : Fin 2048) (ht : t = 2 * s) :
    fore t n x r + ex (fore t n x) ((r.val : ℤ) + s) = fore s (2 * n) x r := by
  subst ht
  rw [ex_fore _ _ _ _ (by omega), fore, fore, ← sum_halve]
  refine congrArg₂ _ (Finset.sum_congr rfl fun j _ => congrArg _ ?_) (Finset.sum_congr rfl fun j _ => congrArg _ ?_) <;> push_cast <;> ring

end

/-- A row moved down by `k`. -/
theorem ex_down {α : Type} [AddCommMonoid α] (x : Fin 2048 → α) (k : ℕ) (r : Fin 2048) :
    ex x ((r.val : ℤ) - k) = if h : k ≤ r.val then x ⟨r.val - k, by omega⟩ else 0 := by
  have := r.isLt
  by_cases h : k ≤ r.val
  · rw [dif_pos h]; exact ex_in _ _ _ (by show ((r.val - k : ℕ) : ℤ) = _; omega)
  · rw [dif_neg h]; exact ex_out _ _ (by omega)

/-- A row moved up by `k`. -/
theorem ex_up {α : Type} [AddCommMonoid α] (x : Fin 2048 → α) (k : ℕ) (r : Fin 2048) :
    ex x ((r.val : ℤ) + k) = if h : r.val + k < 2048 then x ⟨r.val + k, h⟩ else 0 := by
  by_cases h : r.val + k < 2048
  · rw [dif_pos h]; exact ex_in _ _ _ (by show ((r.val + k : ℕ) : ℤ) = _; omega)
  · rw [dif_neg h]; exact ex_out _ _ (by omega)

/-- A difference of prefix sums is a sum of few rows. -/
theorem prefix_sub (x : Fin 2048 → ℝ) (w : ℕ) (i : ℤ) (hi : i < 2048) :
    ∑ j ∈ Finset.range 2048, ex x (i - (j : ℕ)) - ∑ j ∈ Finset.range 2048, ex x (i - w - (j : ℕ)) = ∑ j ∈ Finset.range w, ex x (i - (j : ℕ)) := by
  induction w with
  | zero => simp
  | succ w ih =>
    rw [Finset.sum_range_succ _ w, ← ih]
    have e : ∑ j ∈ Finset.range 2048, ex x (i - w - (j : ℕ)) - ∑ j ∈ Finset.range 2048, ex x (i - (w + 1 : ℕ) - (j : ℕ)) = ex x (i - w) := by
      rw [← Finset.sum_sub_distrib, Finset.sum_congr rfl (g := fun j : ℕ => (fun j : ℕ => ex x (i - w - (j : ℕ))) j - (fun j : ℕ => ex x (i - w - (j : ℕ))) (j + 1)) (fun j _ => by
        rw [show i - ((w + 1 : ℕ) : ℤ) - (j : ℤ) = i - w - ((j + 1 : ℕ) : ℤ) by push_cast; ring]), Finset.sum_range_sub']
      rw [ex_out x (i - w - ((2048 : ℕ) : ℤ)) (by omega), sub_zero]
      exact congrArg _ (by push_cast; ring)
    linarith

/-- A sum of differences is a sum of few rows. -/
theorem suffix_sub (x : Fin 2048 → ℝ) (w : ℕ) (i : ℤ) (hi : 0 ≤ i) :
    ∑ j ∈ Finset.range 2048, (ex x (i + (j : ℕ)) - ex x (i + w + (j : ℕ))) = ∑ j ∈ Finset.range w, ex x (i + (j : ℕ)) := by
  induction w with
  | zero => simp
  | succ w ih =>
    rw [Finset.sum_range_succ _ w, ← ih]
    have e : ∑ j ∈ Finset.range 2048, (ex x (i + w + (j : ℕ)) - ex x (i + (w + 1 : ℕ) + (j : ℕ))) = ex x (i + w) := by
      rw [Finset.sum_congr rfl (g := fun j : ℕ => (fun j : ℕ => ex x (i + w + (j : ℕ))) j - (fun j : ℕ => ex x (i + w + (j : ℕ))) (j + 1)) (fun j _ => by
        rw [show i + ((w + 1 : ℕ) : ℤ) + (j : ℤ) = i + w + ((j + 1 : ℕ) : ℤ) by push_cast; ring]), Finset.sum_range_sub']
      rw [ex_out x (i + w + ((2048 : ℕ) : ℤ)) (by omega), sub_zero]
      exact congrArg _ (by push_cast; ring)
    rw [Finset.sum_sub_distrib] at e ⊢
    rw [Finset.sum_sub_distrib]
    linarith

/-- A column of reals. -/
theorem ex_coe (x : Fin 2048 → ℝ) (i : ℤ) : ex (fun r => ((x r : ℝ) : EReal)) i = ((ex x i : ℝ) : EReal) := by
  unfold ex; split <;> rfl

/-- A left fold of additions is a sum. -/
theorem foldl_add {N : ℕ} (f : Fin N → EReal) (v : EReal) : (List.finRange N).foldl (fun r n => r + f n) v = v + ∑ n, f n := by
  have h : ∀ (l : List (Fin N)) (v : EReal), l.foldl (fun r n => r + f n) v = v + (l.map f).sum := by
    intro l
    induction l with
    | nil => intro v; simp
    | cons a l ih => intro v; rw [List.foldl_cons, ih, List.map_cons, List.sum_cons, add_assoc]
  rw [h, Fin.sum_univ_def]

/-- The window's position `n`. -/
theorem win_pos (n : Fin (⟨3, ![2048, 1, 1]⟩ : Shape).numel) :
    ((⟨3, ![2048, 1, 1]⟩ : Shape).rowMajor.symm n 0).val = n.val ∧ ((⟨3, ![2048, 1, 1]⟩ : Shape).rowMajor.symm n 1).val = 0
      ∧ ((⟨3, ![2048, 1, 1]⟩ : Shape).rowMajor.symm n 2).val = 0 := by
  have h := Shape.rowMajor_val_three ((⟨3, ![2048, 1, 1]⟩ : Shape).rowMajor.symm n)
  rw [Equiv.apply_symm_apply] at h
  have h1 : ((⟨3, ![2048, 1, 1]⟩ : Shape).rowMajor.symm n 1).val < 1 := ((⟨3, ![2048, 1, 1]⟩ : Shape).rowMajor.symm n 1).isLt
  have h2 : ((⟨3, ![2048, 1, 1]⟩ : Shape).rowMajor.symm n 2).val < 1 := ((⟨3, ![2048, 1, 1]⟩ : Shape).rowMajor.symm n 2).isLt
  change n.val = (((⟨3, ![2048, 1, 1]⟩ : Shape).rowMajor.symm n 0).val * 1 + ((⟨3, ![2048, 1, 1]⟩ : Shape).rowMajor.symm n 1).val) * 1
    + ((⟨3, ![2048, 1, 1]⟩ : Shape).rowMajor.symm n 2).val at h
  omega

/-- A sum over windows of 2048 rows that begin `l` rows early. -/
theorem window_sum (l u : ℕ) (x : FVec Ideal (⟨3, ![2048, 4, 128]⟩ : Shape) .f32) (init : (⟨0, ![]⟩ : Shape).Idx → Ideal .f32)
    (h : (⟨3, ![2048, 4, 128]⟩ : Shape).ReduceWindows ![2048, 1, 1] ![1, 1, 1] ![l, 0, 0] ![u, 0, 0] (⟨3, ![2048, 4, 128]⟩ : Shape))
    (hu : 0 < (⟨0, ![]⟩ : Shape).numel) (hi : ∀ i, init i = (0 : EReal)) (r : Fin 2048) (g : Fin 4) (c : Fin 128) :
    Host.reduceWindowAdd (F := Ideal) ![2048, 1, 1] ![1, 1, 1] ![l, 0, 0] ![u, 0, 0] x init h hu (ix3 r g c)
      = ∑ n ∈ Finset.range 2048, ex (fun k => x (ix3 k g c)) ((r.val : ℤ) + (n : ℕ) - l) := by
  unfold Host.reduceWindowAdd
  rw [Ideal.hostReduceWindowAdd_def, hi]
  unfold Ideal.hostReduceWindowAdd Host.reduceWindow
  have hN : (⟨3, ![2048, 1, 1]⟩ : Shape).numel = 2048 := by decide +kernel
  refine (foldl_add _ _).trans ((zero_add _).trans ?_)
  rw [← Fin.sum_univ_eq_sum_range (fun n => ex (fun k => x (ix3 k g c)) ((r.val : ℤ) + (n : ℕ) - l)) 2048]
  refine Fintype.sum_equiv (finCongr hN) _ _ fun n => ?_
  obtain ⟨h0, h1, h2⟩ := win_pos n
  have hn : n.val < 2048 := lt_of_lt_of_eq n.isLt hN
  dsimp only
  split
  · next hin =>
    have q := hin 0
    change l ≤ r.val * 1 + ((⟨3, ![2048, 1, 1]⟩ : Shape).rowMajor.symm n 0).val
      ∧ r.val * 1 + ((⟨3, ![2048, 1, 1]⟩ : Shape).rowMajor.symm n 0).val - l < 2048 at q
    rw [h0] at q
    rw [ex_in _ _ ⟨r.val + n.val - l, by omega⟩ (by show ((r.val + n.val - l : ℕ) : ℤ) = (r.val : ℤ) + (n.val : ℕ) - l; omega)]
    refine congrArg x (funext fun a => Fin.ext ?_)
    match a with
    | ⟨0, _⟩ =>
      show r.val * 1 + ((⟨3, ![2048, 1, 1]⟩ : Shape).rowMajor.symm n 0).val - l = r.val + n.val - l
      rw [h0, Nat.mul_one]
    | ⟨1, _⟩ =>
      show g.val * 1 + ((⟨3, ![2048, 1, 1]⟩ : Shape).rowMajor.symm n 1).val - 0 = g.val
      rw [h1]; omega
    | ⟨2, _⟩ =>
      show c.val * 1 + ((⟨3, ![2048, 1, 1]⟩ : Shape).rowMajor.symm n 2).val - 0 = c.val
      rw [h2]; omega
  · next hin =>
    refine (ex_out _ _ ?_).symm
    show (r.val : ℤ) + (n.val : ℕ) - l < 0 ∨ 2048 ≤ (r.val : ℤ) + (n.val : ℕ) - l
    by_contra hc
    refine hin fun a => ?_
    have hg := g.isLt
    have hcc := c.isLt
    match a with
    | ⟨0, _⟩ =>
      show l ≤ r.val * 1 + ((⟨3, ![2048, 1, 1]⟩ : Shape).rowMajor.symm n 0).val
        ∧ r.val * 1 + ((⟨3, ![2048, 1, 1]⟩ : Shape).rowMajor.symm n 0).val - l < 2048
      rw [h0]; omega
    | ⟨1, _⟩ =>
      show 0 ≤ g.val * 1 + ((⟨3, ![2048, 1, 1]⟩ : Shape).rowMajor.symm n 1).val ∧ g.val * 1 + ((⟨3, ![2048, 1, 1]⟩ : Shape).rowMajor.symm n 1).val - 0 < 4
      rw [h1]; omega
    | ⟨2, _⟩ =>
      show 0 ≤ c.val * 1 + ((⟨3, ![2048, 1, 1]⟩ : Shape).rowMajor.symm n 2).val ∧ c.val * 1 + ((⟨3, ![2048, 1, 1]⟩ : Shape).rowMajor.symm n 2).val - 0 < 128
      rw [h2]; omega

end Cert.Pool
-- ==== Proof.PoolBody.lean ====
/- The payloads of the pooling gradient as sliding sums. -/
module

public import proofs.«01_k».proof.Proof.Gen.PoolBwdIdeal.Value
public import proofs.«01_k».proof.Proof.Gen.PoolBwdRefIdeal.Read
public import Idealize.ShloMosaic.Lib.Pipeline.ValueKit
public import proofs.«01_k».proof.Proof.PoolSums
public import proofs.«01_k».proof.Defs

@[expose] public section

set_option maxRecDepth 16384

noncomputable section

namespace Cert.Pool

open Cert.PoolBwdIdeal Cert.PoolBwdIdeal.Gen Idealize.ShloMosaic Idealize.ShloMosaic.TcCoe Idealize.SL.Sem
open Idealize.ShloMosaic.Pipeline (Dat)

variable (m : (ℓ : Loc nD τ sig) → Buf (Elt Ideal) ℓ)

/-- A column of a block. -/
abbrev col (x : FVec Ideal S2048x128 .f32) (c : Fin 128) : Fin 2048 → EReal := fun r => x (ix2 r c)

/-- The block moved down by `k` rows. -/
def shDn (k : BitVec 32) (x : FVec Ideal S2048x128 .f32) : FVec Ideal S2048x128 .f32 :=
  select (cmpi .sge (iota .tc S2048x128 32 [0] Gen.facts.iota_S2048x128_d0_w32) (broadcast S2048x128 k))
    (dynamicRotate 0 k none x Gen.facts.rotates_S2048x128_d0) (broadcast S2048x128 (Scalar.ofBits (F := Ideal) .f32 0x00000000#32))

/-- The block moved up by `2048 - k` rows. -/
def shUp (k : BitVec 32) (x : FVec Ideal S2048x128 .f32) : FVec Ideal S2048x128 .f32 :=
  select (cmpi .slt (iota .tc S2048x128 32 [0] Gen.facts.iota_S2048x128_d0_w32) (broadcast S2048x128 k))
    (dynamicRotate 0 k none x Gen.facts.rotates_S2048x128_d0) (broadcast S2048x128 (Scalar.ofBits (F := Ideal) .f32 0x00000000#32))

/-- The block and the block moved down. -/
def stDn (k : BitVec 32) (x : FVec Ideal S2048x128 .f32) : FVec Ideal S2048x128 .f32 := addf x (shDn k x)
/-- The block and the block moved up. -/
def stUp (k : BitVec 32) (x : FVec Ideal S2048x128 .f32) : FVec Ideal S2048x128 .f32 := addf x (shUp k x)

/-- A moved block at a row. -/
theorem shDn_at (k : ℕ) (hk : k = 1 ∨ k = 2 ∨ k = 4 ∨ k = 8) (x : FVec Ideal S2048x128 .f32) (r : Fin 2048) (c : Fin 128) :
    shDn (BitVec.ofNat 32 k) x (ix2 r c) = ex (col x c) ((r.val : ℤ) - k) := by
  have hr := r.isLt
  rw [ex_down]
  rcases hk with rfl | rfl | rfl | rfl <;>
  · pointwise [shDn, col]
    simp (disch := word_cmp_side) only [hlo_ix]
    split
    · refine congrArg (fun q => x (ix2 q c)) (Fin.ext ?_)
      dsimp only
      omega
    · rfl

/-- A moved block at a row. -/
theorem shUp_at (k m : ℕ) (hk : k = 1 ∧ m = 2047 ∨ k = 2 ∧ m = 2046 ∨ k = 4 ∧ m = 2044 ∨ k = 8 ∧ m = 2040) (x : FVec Ideal S2048x128 .f32)
    (r : Fin 2048) (c : Fin 128) : shUp (BitVec.ofNat 32 m) x (ix2 r c) = ex (col x c) ((r.val : ℤ) + k) := by
  have hr := r.isLt
  rw [ex_up]
  rcases hk with ⟨rfl, rfl⟩ | ⟨rfl, rfl⟩ | ⟨rfl, rfl⟩ | ⟨rfl, rfl⟩ <;>
  · pointwise [shUp, col]
    simp (disch := word_cmp_side) only [hlo_ix]
    split
    · rw [dif_pos (by omega)]
      refine congrArg (fun q => x (ix2 q c)) (Fin.ext ?_)
      dsimp only
      omega
    · rw [dif_neg (by omega)]

/-- One doubling backwards. -/
theorem stDn_col (k : ℕ) (hk : k = 1 ∨ k = 2 ∨ k = 4 ∨ k = 8) (x : FVec Ideal S2048x128 .f32) (c : Fin 128) (y : Fin 2048 → EReal)
    (h : col x c = back k y) : col (stDn (BitVec.ofNat 32 k) x) c = back (k + k) y := by
  funext r
  rw [← back_double, ← h, ← shDn_at k hk]
  rfl

/-- One doubling forwards. -/
theorem stUp_col (k m n : ℕ) (hk : k = 1 ∧ m = 2047 ∨ k = 2 ∧ m = 2046 ∨ k = 4 ∧ m = 2044 ∨ k = 8 ∧ m = 2040) (x : FVec Ideal S2048x128 .f32)
    (c : Fin 128) (y : Fin 2048 → EReal) (h : col x c = fore (2 * k) n y) : col (stUp (BitVec.ofNat 32 m) x) c = fore k (2 * n) y := by
  funext r
  rw [← fore_halve k (2 * k) n y r rfl, ← h, ← shUp_at k m hk]
  rfl

/-- The sums of two, four, eight and sixteen rows up to a row. -/
theorem dn2 (x : FVec Ideal S2048x128 .f32) (c : Fin 128) : col (stDn 1#32 x) c = back 2 (col x c) :=
  stDn_col 1 (by omega) x c _ (back_one _).symm
/-- Four rows. -/
theorem dn4 (x : FVec Ideal S2048x128 .f32) (c : Fin 128) : col (stDn 2#32 (stDn 1#32 x)) c = back 4 (col x c) :=
  stDn_col 2 (by omega) _ c _ (dn2 x c)
/-- Eight rows. -/
theorem dn8 (x : FVec Ideal S2048x128 .f32) (c : Fin 128) : col (stDn 4#32 (stDn 2#32 (stDn 1#32 x))) c = back 8 (col x c) :=
  stDn_col 4 (by omega) _ c _ (dn4 x c)
/-- Sixteen rows. -/
theorem dn16 (x : FVec Ideal S2048x128 .f32) (c : Fin 128) :
    col (stDn 8#32 (stDn 4#32 (stDn 2#32 (stDn 1#32 x)))) c = back 16 (col x c) :=
  stDn_col 8 (by omega) _ c _ (dn8 x c)

/-- The sums of two, four, eight and sixteen rows from a row on. -/
theorem up2 (x : FVec Ideal S2048x128 .f32) (c : Fin 128) : col (stUp 2047#32 x) c = fore 1 2 (col x c) :=
  stUp_col 1 2047 1 (by omega) x c _ (fore_one _ _).symm
/-- Four rows. -/
theorem up4 (x : FVec Ideal S2048x128 .f32) (c : Fin 128) : col (stUp 2047#32 (stUp 2046#32 x)) c = fore 1 4 (col x c) :=
  stUp_col 1 2047 2 (by omega) _ c _ (stUp_col 2 2046 1 (by omega) x c _ (fore_one _ _).symm)
/-- Eight rows. -/
theorem up8 (x : FVec Ideal S2048x128 .f32) (c : Fin 128) : col (stUp 2047#32 (stUp 2046#32 (stUp 2044#32 x))) c = fore 1 8 (col x c) :=
  stUp_col 1 2047 4 (by omega) _ c _ (stUp_col 2 2046 2 (by omega) _ c _ (stUp_col 4 2044 1 (by omega) x c _ (fore_one _ _).symm))
/-- Sixteen rows. -/
theorem up16 (x : FVec Ideal S2048x128 .f32) (c : Fin 128) :
    col (stUp 2047#32 (stUp 2046#32 (stUp 2044#32 (stUp 2040#32 x)))) c = fore 1 16 (col x c) :=
  stUp_col 1 2047 8 (by omega) _ c _ (stUp_col 2 2046 4 (by omega) _ c _ (stUp_col 4 2044 2 (by omega) _ c _
    (stUp_col 8 2040 1 (by omega) x c _ (fore_one _ _).symm)))

/-- How many rows a window holds. -/
def cnt (b : BitVec 32) (r : Fin 2048) : EReal := min (FloatOps.sitofp (F := Ideal) .f32 (BitVec.ofNat 32 r.val) + 1) (Ideal.ofBits .f32 b)

/-- The same for every row. -/
def cntV (b : BitVec 32) : FVec Ideal S2048x1 .f32 :=
  minimumf (addf (sitofp (F := Ideal) .f32 (iota .tc S2048x1 32 [0] Gen.facts.iota_S2048x1_d0_w32)) (broadcast S2048x1 (Scalar.ofBits (F := Ideal) .f32 0x3F800000#32)))
    (broadcast S2048x1 (Scalar.ofBits (F := Ideal) .f32 b))

/-- A block over the window's count. -/
def quo (b : BitVec 32) (y : FVec Ideal S2048x128 .f32) : FVec Ideal S2048x128 .f32 :=
  divf y (broadcastTo S2048x128 (cntV b) Gen.facts.broadcasts_S2048x1_S2048x128)

/-- The quotient at a place. -/
theorem quo_at (b : BitVec 32) (y : FVec Ideal S2048x128 .f32) (r : Fin 2048) (c : Fin 128) :
    quo b y (ix2 r c) = Ideal.div (y (ix2 r c)) (cnt b r) := by
  pointwise [quo, cntV, cnt]

/-- The rows' gradient from a group's cotangent `D` of the pooled rows: the window's steps forwards. -/
def dpV (D Y : FVec Ideal S2048x128 .f32) : FVec Ideal S2048x128 .bf16 :=
  truncf .bf16 (addf (addf (subf (broadcast S2048x128 (Scalar.ofBits (F := Ideal) .f32 0x00000000#32)) D) Y) (shUp 2047#32 Y)) Gen.facts.bitsLt_bf16_f32

/-- The rows' gradient of group 0. -/
theorem dp0 (W : FVec Ideal S1x128x128 .f32) (s : FVec Ideal S1x128 .f32) (d : FVec Ideal S2048x128 .f32) :
    k0_pay12 (F := Ideal) (k0_pay10 W s d) (k0_pay11 W s d) 2047#32
      = dpV (k0_pay42 (k0_pay3 W) s d) (quo 0x40000000#32 (k0_pay42 (k0_pay3 W) s d)) := rfl
/-- The rows' gradient of group 1. -/
theorem dp1 (W : FVec Ideal S1x128x128 .f32) (s : FVec Ideal S1x128 .f32) (d : FVec Ideal S2048x128 .f32) :
    k0_pay23 (F := Ideal) (k0_pay14 W) s k0_pay16 k0_pay17 d
      = dpV (k0_pay42 (k0_pay3 W) s d) (stUp 2046#32 (quo 0x40800000#32 (k0_pay42 (k0_pay3 W) s d))) := rfl
/-- The rows' gradient of group 2. -/
theorem dp2 (W : FVec Ideal S1x128x128 .f32) (s : FVec Ideal S1x128 .f32) (d : FVec Ideal S2048x128 .f32) :
    k0_pay32 (F := Ideal) (k0_pay25 W) s k0_pay26 d
      = dpV (k0_pay42 (k0_pay3 W) s d) (stUp 2046#32 (stUp 2044#32 (quo 0x41000000#32 (k0_pay42 (k0_pay3 W) s d)))) := rfl
/-- The rows' gradient of group 3. -/
theorem dp3 (W : FVec Ideal S1x128x128 .f32) (s : FVec Ideal S1x128 .f32) (d : FVec Ideal S2048x128 .f32) :
    k0_pay1 (F := Ideal) (k0_pay44 (k0_pay34 W) s d) (k0_pay45 (k0_pay34 W) s d)
      = dpV (k0_pay42 (k0_pay3 W) s d) (stUp 2046#32 (stUp 2044#32 (stUp 2040#32 (quo 0x41800000#32 (k0_pay42 (k0_pay3 W) s d))))) := rfl

/-- The scale's gradient of group 0. -/
theorem ds0 (p : FVec Ideal S2048x128 .f32) (W : FVec Ideal S1x128x128 .f32) (d : FVec Ideal S2048x128 .f32) :
    k0_pay6 (F := Ideal) p W d = k0_pay29 p (k0_pay3 W) (quo 0x40000000#32 (stDn 1#32 p)) d := rfl
/-- The scale's gradient of group 1. -/
theorem ds1 (p : FVec Ideal S2048x128 .f32) (W : FVec Ideal S1x128x128 .f32) (d : FVec Ideal S2048x128 .f32) :
    k0_pay20 (F := Ideal) p (k0_pay14 W) (k0_pay15 p) k0_pay16 k0_pay17 d
      = k0_pay29 p (k0_pay3 W) (quo 0x40800000#32 (stDn 2#32 (stDn 1#32 p))) d := rfl
/-- The scale's gradient of group 2. -/
theorem ds2 (p : FVec Ideal S2048x128 .f32) (W : FVec Ideal S1x128x128 .f32) (d : FVec Ideal S2048x128 .f32) :
    k0_pay29 (F := Ideal) p (k0_pay25 W) (k0_pay27 p) d
      = k0_pay29 p (k0_pay3 W) (quo 0x41000000#32 (stDn 4#32 (stDn 2#32 (stDn 1#32 p)))) d := rfl
/-- The scale's gradient of group 3. -/
theorem ds3 (p : FVec Ideal S2048x128 .f32) (W : FVec Ideal S1x128x128 .f32) (d : FVec Ideal S2048x128 .f32) :
    k0_pay40 (F := Ideal) p (k0_pay34 W) (k0_pay35 p) (k0_pay36 p) k0_pay37 d
      = k0_pay29 p (k0_pay3 W) (quo 0x41800000#32 (stDn 8#32 (stDn 4#32 (stDn 2#32 (stDn 1#32 p))))) d := rfl

/-- The matrix's gradient of group 0. -/
theorem dw0 (p : FVec Ideal S2048x128 .f32) (s : FVec Ideal S1x128 .f32) (d : FVec Ideal S2048x128 .f32) :
    k0_pay13 (F := Ideal) (k0_pay9 p s d) = k0_pay33 (k0_pay31 p s (quo 0x40000000#32 (stDn 1#32 p)) d) := rfl
/-- The matrix's gradient of group 1. -/
theorem dw1 (p : FVec Ideal S2048x128 .f32) (s : FVec Ideal S1x128 .f32) (d : FVec Ideal S2048x128 .f32) :
    k0_pay24 (F := Ideal) (k0_pay22 p s (k0_pay15 p) k0_pay16 k0_pay17 d) = k0_pay33 (k0_pay31 p s (quo 0x40800000#32 (stDn 2#32 (stDn 1#32 p))) d) := rfl
/-- The matrix's gradient of group 2. -/
theorem dw2 (p : FVec Ideal S2048x128 .f32) (s : FVec Ideal S1x128 .f32) (d : FVec Ideal S2048x128 .f32) :
    k0_pay33 (F := Ideal) (k0_pay31 p s (k0_pay27 p) d) = k0_pay33 (k0_pay31 p s (quo 0x41000000#32 (stDn 4#32 (stDn 2#32 (stDn 1#32 p)))) d) := rfl
/-- The matrix's gradient of group 3. -/
theorem dw3 (p : FVec Ideal S2048x128 .f32) (s : FVec Ideal S1x128 .f32) (d : FVec Ideal S2048x128 .f32) :
    k0_pay2 (F := Ideal) (k0_pay43 p s (k0_pay35 p) (k0_pay36 p) k0_pay37 d)
      = k0_pay33 (k0_pay31 p s (quo 0x41800000#32 (stDn 8#32 (stDn 4#32 (stDn 2#32 (stDn 1#32 p))))) d) := rfl

/-- The cotangent of the pooled rows. -/
theorem cotan (W : FVec Ideal S1x128x128 .f32) (s : FVec Ideal S1x128 .f32) (d : FVec Ideal S2048x128 .f32) (r : Fin 2048) (c : Fin 128) :
    k0_pay42 (F := Ideal) (k0_pay3 W) s d (ix2 r c) = ∑ k : Fin 128, d (ix2 r k) * s (ix2 0 k) * W (ix3 0 c k) := by
  pointwise [k0_pay42, k0_pay41, k0_pay3]

/-- The scale's gradient. -/
theorem sums (p Q : FVec Ideal S2048x128 .f32) (W : FVec Ideal S1x128x128 .f32) (d : FVec Ideal S2048x128 .f32) (c : Fin 128) :
    k0_pay29 (F := Ideal) p (k0_pay3 W) Q d (ix2 0 c) = ∑ r : Fin 2048, (∑ k : Fin 128, (Q (ix2 r k) - p (ix2 r k)) * W (ix3 0 k c)) * d (ix2 r c) := by
  pointwise [k0_pay29, k0_pay28, k0_pay3]

/-- The matrix's gradient. -/
theorem prods (p Q : FVec Ideal S2048x128 .f32) (s : FVec Ideal S1x128 .f32) (d : FVec Ideal S2048x128 .f32) (c k : Fin 128) :
    k0_pay33 (F := Ideal) (k0_pay31 p s Q d) (ix3 0 c k) = ∑ r : Fin 2048, (Q (ix2 r c) - p (ix2 r c)) * (d (ix2 r k) * s (ix2 0 k)) := by
  pointwise [k0_pay33, k0_pay31, k0_pay30, k0_pay28]

/-- The rows' gradient. -/
theorem rows (D Y : FVec Ideal S2048x128 .f32) (r : Fin 2048) (c : Fin 128) :
    dpV D Y (ix2 r c) = -(D (ix2 r c)) + col (stUp 2047#32 Y) c r := by
  have h : stUp 2047#32 Y (ix2 r c) = Y (ix2 r c) + shUp 2047#32 Y (ix2 r c) := rfl
  show _ = _ + stUp 2047#32 Y (ix2 r c)
  rw [h, ← add_assoc]
  pointwise [dpV]
  rw [zero_sub]

end Cert.Pool
-- ==== Proof.PoolGrads.lean ====
/- The pooling gradient of the reference as sliding sums. -/
module

public import proofs.«01_k».proof.Proof.Gen.PoolBwdIdeal.Value
public import proofs.«01_k».proof.Proof.Gen.PoolBwdRefIdeal.Read
public import Idealize.ShloMosaic.Lib.Pipeline.ValueKit
public import Idealize.ShloMosaic.Lib.KernelVsHost
public import proofs.«01_k».proof.Proof.PoolBody
public import proofs.«01_k».proof.Proof.Softmax
public import proofs.«01_k».proof.Defs

@[expose] public section

set_option maxRecDepth 16384

noncomputable section

namespace Cert.Pool

open Cert.PoolBwdIdeal Cert.PoolBwdIdeal.Gen Idealize.ShloMosaic Idealize.ShloMosaic.TcCoe Idealize.SL.Sem
open Idealize.ShloMosaic.Pipeline (Dat)

variable (m : (ℓ : Loc nD τ sig) → Buf (Elt Ideal) ℓ)

/-- How many rows each group's window holds. -/
def wn : Fin 4 → ℕ := ![2, 4, 8, 16]
/-- The same as words. -/
def wb : Fin 4 → BitVec 32 := ![0x40000000#32, 0x40800000#32, 0x41000000#32, 0x41800000#32]

/-- The count of a window is a real number that is not zero. -/
theorem cnt_real (g : Fin 4) (r : Fin 2048) : ∃ q : ℝ, q ≠ 0 ∧ cnt (wb g) r = (q : EReal) := by
  have hr := r.isLt
  have h1 : (FloatOps.sitofp (F := Ideal) .f32 (BitVec.ofNat 32 r.val) : EReal) = ((r.val : ℝ) : EReal) := by
    show (((BitVec.ofNat 32 r.val).toInt : ℝ) : EReal) = _
    rw [BitVec.toInt_ofNat', Int.bmod_eq_of_le (by push_cast; omega) (by push_cast; omega)]
    norm_cast
  have h2 : ∃ q : ℝ, 0 < q ∧ Ideal.ofBits .f32 (wb g) = (q : EReal) := by
    match g with
    | 0 => exact ⟨2, by norm_num, by simp [wb, Ideal.ofBits, Ideal.ieee, -EReal.coe_mul]; norm_num⟩
    | 1 => exact ⟨4, by norm_num, by simp [wb, Ideal.ofBits, Ideal.ieee, -EReal.coe_mul]; norm_num⟩
    | 2 => exact ⟨8, by norm_num, by simp [wb, Ideal.ofBits, Ideal.ieee, -EReal.coe_mul]; norm_num⟩
    | 3 => exact ⟨16, by norm_num, by simp [wb, Ideal.ofBits, Ideal.ieee, -EReal.coe_mul]; norm_num⟩
  obtain ⟨q, hq, e⟩ := h2
  refine ⟨min ((r.val : ℝ) + 1) q, ne_of_gt (lt_min (by positivity) hq), ?_⟩
  rw [cnt, h1, e, ← EReal.coe_one, ← EReal.coe_add]
  exact (EReal.coe_strictMono.monotone.map_min).symm

section
variable (z : FVec Ideal S2048x3584 .f32) (w : FVec Ideal S4x128x128 .f32) (s : FVec Ideal S1x512 .f32) (d : FVec Ideal S2048x2048 .f32)

/-- A column of a group. -/
def pc (g : Fin 4) (c : Fin 128) (r : Fin 2048) : EReal := z (ix2 r ⟨2048 + (g.val * 128 + c.val), by omega⟩)
/-- The cotangent times the scale. -/
def dz (g : Fin 4) (k : Fin 128) (r : Fin 2048) : EReal := d (ix2 r ⟨1024 + (g.val * 128 + k.val), by omega⟩) * s (ix2 0 ⟨g.val * 128 + k.val, by omega⟩)
/-- The window's mean less the row. -/
def pool (g : Fin 4) (c : Fin 128) (r : Fin 2048) : EReal := Ideal.div (back (wn g) (pc z g c) r) (cnt (wb g) r) - pc z g c r
/-- The cotangent of the pooled rows. -/
def dpl (g : Fin 4) (c : Fin 128) (r : Fin 2048) : EReal := ∑ k : Fin 128, dz s d g k r * w (ix3 g c k)
/-- The same over the window's count. -/
def avg (g : Fin 4) (c : Fin 128) (r : Fin 2048) : EReal := Ideal.div (dpl w s d g c r) (cnt (wb g) r)

/-- The rows' gradient. -/
def gP (g : Fin 4) (c : Fin 128) (r : Fin 2048) : EReal := -(dpl w s d g c r) + fore 1 (wn g) (avg w s d g c) r
/-- The matrix's gradient. -/
def gW (g : Fin 4) (c k : Fin 128) : EReal := ∑ r : Fin 2048, pool z g c r * dz s d g k r
/-- The scale's gradient. -/
def gS (g : Fin 4) (c : Fin 128) : EReal :=
  ∑ r : Fin 2048, (∑ k : Fin 128, pool z g k r * w (ix3 g k c)) * d (ix2 r ⟨1024 + (g.val * 128 + c.val), by omega⟩)

open Cert.PoolBwdRefIdeal.Read

/-- The prefix sums. -/
theorem r2 (r : Fin 2048) (g : Fin 4) (c : Fin 128) :
    val_main_v2 (F := Ideal) z (ix3 r g c) = ∑ j ∈ Finset.range 2048, ex (pc z g c) ((r.val : ℤ) - (j : ℕ)) := by
  refine (window_sum 2047 0 (val_main_v1 (F := Ideal) z) _ _ _ (fun _ => ?_) r g c).trans ?_
  · pointwise [val_main_call0_call0_v0, val_main_call0_call0_cst]
  rw [← Finset.sum_range_reflect]
  refine Finset.sum_congr rfl fun j hj => ?_
  have hj := Finset.mem_range.1 hj
  refine congrArg₂ ex (funext fun k => ?_) ?_
  · pointwise [val_main_v1, val_main_v0, pc]
  · push_cast; omega

/-- A difference of prefix sums of real rows. -/
theorem win (n : ℕ) (x : Fin 2048 → EReal) (hx : ∀ r, ∃ q : ℝ, x r = (q : EReal)) (r : Fin 2048) (W : EReal)
    (h0 : r.val < n → W = 0)
    (h1 : ∀ h : n ≤ r.val, W = ∑ j ∈ Finset.range 2048, ex x (((⟨r.val - n, by omega⟩ : Fin 2048).val : ℤ) - (j : ℕ))) :
    ∑ j ∈ Finset.range 2048, ex x ((r.val : ℤ) - (j : ℕ)) - W = back n x r := by
  have hr := r.isLt
  have hW : W = ∑ j ∈ Finset.range 2048, ex x ((r.val : ℤ) - n - (j : ℕ)) := by
    by_cases h : r.val < n
    · rw [h0 h]
      exact (Finset.sum_eq_zero fun j _ => ex_out _ _ (by omega)).symm
    · rw [h1 (by omega)]
      exact Finset.sum_congr rfl fun j _ => congrArg _ (by show ((r.val - n : ℕ) : ℤ) - (j : ℕ) = _; omega)
  choose y hy using hx
  obtain rfl : x = fun r => ((y r : ℝ) : EReal) := funext hy
  rw [hW, back]
  simp only [ex_coe, Cert.Softmax.coe_sum]
  rw [← EReal.coe_sub, prefix_sub y n r (by omega)]

/-- The cotangent of the pooled rows. -/
theorem r79 (r : Fin 2048) (g : Fin 4) (c : Fin 128) : val_main_v79 (F := Ideal) w s d (ix3 r g c) = dpl w s d g c r := by
  pointwise [val_main_v79, val_main_v78, val_main_v77, val_main_v74, val_main_v73, val_main_v69, val_main_v68, val_main_v64, val_main_v63, dpl, dz]

/-- The pooled rows. -/
theorem r60 (hz : ∀ r g c, ∃ q : ℝ, pc z g c r = (q : EReal)) (r : Fin 2048) (g : Fin 4) (c : Fin 128) :
    val_main_v60 (F := Ideal) z (ix3 r g c) = pool z g c r := by
  have hr := r.isLt
  match g with
  | 0 =>
    pointwise [val_main_v60, val_main_v59, val_main_v58, val_main_v57, val_main_v56, val_main_v55, val_main_v54, val_main_v53, val_main_v52, val_main_v51, val_main_v50, val_main_cst_8, val_main_v49, val_main_v48, val_main_cst_7, val_main_v47, val_main_v46, val_main_v45, val_main_v44, val_main_v43, val_main_v42, val_main_v41, val_main_v40, val_main_v39, val_main_v38, val_main_cst_6, val_main_v37, val_main_v36, val_main_cst_5, val_main_v35, val_main_v34, val_main_v33, val_main_v32, val_main_v31, val_main_v30, val_main_v29, val_main_v28, val_main_v27, val_main_v26, val_main_cst_4, val_main_v25, val_main_v24, val_main_cst_3, val_main_v23, val_main_v22, val_main_v21, val_main_v20, val_main_v19, val_main_v18, val_main_v17, val_main_v16, val_main_v15, val_main_v14, val_main_cst_2, val_main_v13, val_main_v12, val_main_cst_1, val_main_v11, val_main_v10, val_main_v9, val_main_v8, val_main_v7, val_main_v6, val_main_v4, val_main_v3, val_main_cst, val_main_v1, val_main_v0, pool, pc, cnt, wb, r2]
    refine congrArg (· - _) (congrArg (Ideal.div · _) (win 2 _ (hz · _ c) r _ (fun h => dif_pos (by omega)) fun h => (dif_neg (by omega)).trans ?_))
    exact Finset.sum_congr rfl fun j _ => congrArg _ (by simp only []; omega)
  | 1 =>
    pointwise [val_main_v60, val_main_v59, val_main_v58, val_main_v57, val_main_v56, val_main_v55, val_main_v54, val_main_v53, val_main_v52, val_main_v51, val_main_v50, val_main_cst_8, val_main_v49, val_main_v48, val_main_cst_7, val_main_v47, val_main_v46, val_main_v45, val_main_v44, val_main_v43, val_main_v42, val_main_v41, val_main_v40, val_main_v39, val_main_v38, val_main_cst_6, val_main_v37, val_main_v36, val_main_cst_5, val_main_v35, val_main_v34, val_main_v33, val_main_v32, val_main_v31, val_main_v30, val_main_v29, val_main_v28, val_main_v27, val_main_v26, val_main_cst_4, val_main_v25, val_main_v24, val_main_cst_3, val_main_v23, val_main_v22, val_main_v21, val_main_v20, val_main_v19, val_main_v18, val_main_v17, val_main_v16, val_main_v15, val_main_v14, val_main_cst_2, val_main_v13, val_main_v12, val_main_cst_1, val_main_v11, val_main_v10, val_main_v9, val_main_v8, val_main_v7, val_main_v6, val_main_v4, val_main_v3, val_main_cst, val_main_v1, val_main_v0, pool, pc, cnt, wb, r2]
    refine congrArg (· - _) (congrArg (Ideal.div · _) (win 4 _ (hz · _ c) r _ (fun h => dif_pos (by omega)) fun h => (dif_neg (by omega)).trans ?_))
    exact Finset.sum_congr rfl fun j _ => congrArg _ (by simp only []; omega)
  | 2 =>
    pointwise [val_main_v60, val_main_v59, val_main_v58, val_main_v57, val_main_v56, val_main_v55, val_main_v54, val_main_v53, val_main_v52, val_main_v51, val_main_v50, val_main_cst_8, val_main_v49, val_main_v48, val_main_cst_7, val_main_v47, val_main_v46, val_main_v45, val_main_v44, val_main_v43, val_main_v42, val_main_v41, val_main_v40, val_main_v39, val_main_v38, val_main_cst_6, val_main_v37, val_main_v36, val_main_cst_5, val_main_v35, val_main_v34, val_main_v33, val_main_v32, val_main_v31, val_main_v30, val_main_v29, val_main_v28, val_main_v27, val_main_v26, val_main_cst_4, val_main_v25, val_main_v24, val_main_cst_3, val_main_v23, val_main_v22, val_main_v21, val_main_v20, val_main_v19, val_main_v18, val_main_v17, val_main_v16, val_main_v15, val_main_v14, val_main_cst_2, val_main_v13, val_main_v12, val_main_cst_1, val_main_v11, val_main_v10, val_main_v9, val_main_v8, val_main_v7, val_main_v6, val_main_v4, val_main_v3, val_main_cst, val_main_v1, val_main_v0, pool, pc, cnt, wb, r2]
    refine congrArg (· - _) (congrArg (Ideal.div · _) (win 8 _ (hz · _ c) r _ (fun h => dif_pos (by omega)) fun h => (dif_neg (by omega)).trans ?_))
    exact Finset.sum_congr rfl fun j _ => congrArg _ (by simp only []; omega)
  | 3 =>
    pointwise [val_main_v60, val_main_v59, val_main_v58, val_main_v57, val_main_v56, val_main_v55, val_main_v54, val_main_v53, val_main_v52, val_main_v51, val_main_v50, val_main_cst_8, val_main_v49, val_main_v48, val_main_cst_7, val_main_v47, val_main_v46, val_main_v45, val_main_v44, val_main_v43, val_main_v42, val_main_v41, val_main_v40, val_main_v39, val_main_v38, val_main_cst_6, val_main_v37, val_main_v36, val_main_cst_5, val_main_v35, val_main_v34, val_main_v33, val_main_v32, val_main_v31, val_main_v30, val_main_v29, val_main_v28, val_main_v27, val_main_v26, val_main_cst_4, val_main_v25, val_main_v24, val_main_cst_3, val_main_v23, val_main_v22, val_main_v21, val_main_v20, val_main_v19, val_main_v18, val_main_v17, val_main_v16, val_main_v15, val_main_v14, val_main_cst_2, val_main_v13, val_main_v12, val_main_cst_1, val_main_v11, val_main_v10, val_main_v9, val_main_v8, val_main_v7, val_main_v6, val_main_v4, val_main_v3, val_main_cst, val_main_v1, val_main_v0, pool, pc, cnt, wb, r2]
    refine congrArg (· - _) (congrArg (Ideal.div · _) (win 16 _ (hz · _ c) r _ (fun h => dif_pos h) fun h => (dif_neg (by omega)).trans ?_))
    rfl

/-- The matrix's gradient. -/
theorem r81 (hz : ∀ r g c, ∃ q : ℝ, pc z g c r = (q : EReal)) (g : Fin 4) (c k : Fin 128) : val_main_v81 (F := Ideal) z s d (ix3 g c k) = gW z s d g c k := by
  pointwise [val_main_v81, val_main_v80, val_main_v77, val_main_v74, val_main_v73, val_main_v69, val_main_v68, val_main_v64, val_main_v63, gW, dz]
  exact Finset.sum_congr rfl fun r _ => by rw [r60 z hz, mul_comm]

/-- The scale's gradient. -/
theorem r76 (hz : ∀ r g c, ∃ q : ℝ, pc z g c r = (q : EReal)) (g : Fin 4) (c : Fin 128) :
    val_main_v76 (F := Ideal) z w d (ix2 0 ⟨g.val * 128 + c.val, by omega⟩) = gS z w d g c := by
  pointwise [val_main_v76, val_main_v75, val_main_cst_10, val_main_v72, val_main_v71, val_main_cst_9, val_main_v70, val_main_v69, val_main_v68, val_main_v62, val_main_v61, gS]
  rw [Fin.sum_univ_one]
  exact Finset.sum_congr rfl fun r _ => congrArg (· * _) (Finset.sum_congr rfl fun k _ => by rw [r60 z hz, mul_comm])

/-- The four groups' cotangents over their counts. -/
theorem m0 (r : Fin 2048) (c : Fin 128) : val_main_v118 (F := Ideal) w s d (ix2 r c) = avg w s d 0 c r := by
  pointwise [val_main_v118, val_main_v117, val_main_v84, val_main_v83, val_main_v16, val_main_v15, val_main_v14, val_main_cst_2, val_main_v13, val_main_v12, val_main_cst_1, val_main_v6, avg, cnt, wb, r79]
/-- The second group's. -/
theorem m1 (r : Fin 2048) (c : Fin 128) : val_main_v109 (F := Ideal) w s d (ix2 r c) = avg w s d 1 c r := by
  pointwise [val_main_v109, val_main_v108, val_main_v86, val_main_v85, val_main_v28, val_main_v27, val_main_v26, val_main_cst_4, val_main_v25, val_main_v24, val_main_cst_3, val_main_v6, avg, cnt, wb, r79]
/-- The third group's. -/
theorem m2 (r : Fin 2048) (c : Fin 128) : val_main_v100 (F := Ideal) w s d (ix2 r c) = avg w s d 2 c r := by
  pointwise [val_main_v100, val_main_v99, val_main_v88, val_main_v87, val_main_v40, val_main_v39, val_main_v38, val_main_cst_6, val_main_v37, val_main_v36, val_main_cst_5, val_main_v6, avg, cnt, wb, r79]
/-- The fourth group's. -/
theorem m3 (r : Fin 2048) (c : Fin 128) : val_main_v92 (F := Ideal) w s d (ix2 r c) = avg w s d 3 c r := by
  pointwise [val_main_v92, val_main_v91, val_main_v90, val_main_v89, val_main_v52, val_main_v51, val_main_v50, val_main_cst_8, val_main_v49, val_main_v48, val_main_cst_7, val_main_v6, avg, cnt, wb, r79]

/-- A group's rows set `o` rows down among the groups. -/
theorem pad_at (o q : ℕ) (hi : Fin 3 → ℕ) (x : FVec Ideal Cert.PoolBwdRefIdeal.S2048x1x128 .f32) (v : FVec Ideal Cert.PoolBwdRefIdeal.S_ .f32) (hv : ∀ i, v i = (0 : EReal))
    (h : Cert.PoolBwdRefIdeal.S2048x1x128.Pads ![o, q, 0] hi ![0, 0, 0] Cert.PoolBwdRefIdeal.S2064x4x128) (hu : 0 < Cert.PoolBwdRefIdeal.S_.numel)
    (c : Fin 128) (X : Fin 2048 → EReal) (hX : ∀ k, x (ix3 k 0 c) = X k) (m : Fin 2064) (g : Fin 4) :
    pad Cert.PoolBwdRefIdeal.S2064x4x128 ![o, q, 0] hi ![0, 0, 0] x v h hu (ix3 m g c) = if g.val = q then ex X ((m.val : ℤ) - o) else (0 : EReal) := by
  by_cases hg : g.val = q
  · rw [if_pos hg]
    by_cases hm : o ≤ m.val ∧ m.val < o + 2048
    · rw [ex_in X _ ⟨m.val - o, by omega⟩ (by show ((m.val - o : ℕ) : ℤ) = _; omega), ← hX]
      refine pad_apply_of_inside _ _ _ x v h hu (ix3 m g c) (ix3 ⟨m.val - o, by omega⟩ 0 c) fun a => ?_
      match a with
      | ⟨0, _⟩ => show m.val = o + (m.val - o) * (0 + 1); omega
      | ⟨1, _⟩ => show g.val = q + 0 * (0 + 1); omega
      | ⟨2, _⟩ => show c.val = 0 + c.val * (0 + 1); omega
    · rw [ex_out X _ (by omega)]
      refine (pad_apply_of_not_inside _ _ _ x v h hu (ix3 m g c) 0 fun hc => hm ?_).trans (hv _)
      have h1 : o ≤ m.val := hc.1
      have h2 : (m.val - o) / (0 + 1) < 2048 := hc.2.2
      omega
  · rw [if_neg hg]
    refine (pad_apply_of_not_inside _ _ _ x v h hu (ix3 m g c) 1 fun hc => hg ?_).trans (hv _)
    have h1 : q ≤ g.val := hc.1
    have h2 : (g.val - q) / (0 + 1) < 1 := hc.2.2
    omega

/-- The negative of a column. -/
theorem ex_neg (x : Fin 2048 → EReal) (i : ℤ) : ex (fun r => -(x r)) i = -(ex x i) := by
  unfold ex
  split
  · rfl
  · exact neg_zero.symm

/-- One piece of the sum over the groups. -/
theorem p95 (m : Fin 2064) (g : Fin 4) (c : Fin 128) :
    val_main_v95 (F := Ideal) w s d (ix3 m g c) = if g.val = 3 then ex (fun k => -(avg w s d 3 c k)) ((m.val : ℤ) - (0 : ℕ)) else (0 : EReal) := by
  refine pad_at 0 3 _ (val_main_v94 (F := Ideal) w s d) (val_main_cst_11 (F := Ideal)) (fun i => ?_) _ _ c _ (fun k => ?_) m g
  · pointwise [val_main_cst_11]
  · pointwise [val_main_v94, val_main_v93, m3]

/-- One piece of the sum over the groups. -/
theorem p97 (m : Fin 2064) (g : Fin 4) (c : Fin 128) :
    val_main_v97 (F := Ideal) w s d (ix3 m g c) = if g.val = 3 then ex (fun k => avg w s d 3 c k) ((m.val : ℤ) - (16 : ℕ)) else (0 : EReal) := by
  refine pad_at 16 3 _ (val_main_v96 (F := Ideal) w s d) (val_main_cst_12 (F := Ideal)) (fun i => ?_) _ _ c _ (fun k => ?_) m g
  · pointwise [val_main_cst_12]
  · pointwise [val_main_v96, m3]

/-- One piece of the sum over the groups. -/
theorem p103 (m : Fin 2064) (g : Fin 4) (c : Fin 128) :
    val_main_v103 (F := Ideal) w s d (ix3 m g c) = if g.val = 2 then ex (fun k => -(avg w s d 2 c k)) ((m.val : ℤ) - (8 : ℕ)) else (0 : EReal) := by
  refine pad_at 8 2 _ (val_main_v102 (F := Ideal) w s d) (val_main_cst_13 (F := Ideal)) (fun i => ?_) _ _ c _ (fun k => ?_) m g
  · pointwise [val_main_cst_13]
  · pointwise [val_main_v102, val_main_v101, m2]

/-- One piece of the sum over the groups. -/
theorem p106 (m : Fin 2064) (g : Fin 4) (c : Fin 128) :
    val_main_v106 (F := Ideal) w s d (ix3 m g c) = if g.val = 2 then ex (fun k => avg w s d 2 c k) ((m.val : ℤ) - (16 : ℕ)) else (0 : EReal) := by
  refine pad_at 16 2 _ (val_main_v105 (F := Ideal) w s d) (val_main_cst_14 (F := Ideal)) (fun i => ?_) _ _ c _ (fun k => ?_) m g
  · pointwise [val_main_cst_14]
  · pointwise [val_main_v105, m2]

/-- One piece of the sum over the groups. -/
theorem p112 (m : Fin 2064) (g : Fin 4) (c : Fin 128) :
    val_main_v112 (F := Ideal) w s d (ix3 m g c) = if g.val = 1 then ex (fun k => -(avg w s d 1 c k)) ((m.val : ℤ) - (12 : ℕ)) else (0 : EReal) := by
  refine pad_at 12 1 _ (val_main_v111 (F := Ideal) w s d) (val_main_cst_15 (F := Ideal)) (fun i => ?_) _ _ c _ (fun k => ?_) m g
  · pointwise [val_main_cst_15]
  · pointwise [val_main_v111, val_main_v110, m1]

/-- One piece of the sum over the groups. -/
theorem p115 (m : Fin 2064) (g : Fin 4) (c : Fin 128) :
    val_main_v115 (F := Ideal) w s d (ix3 m g c) = if g.val = 1 then ex (fun k => avg w s d 1 c k) ((m.val : ℤ) - (16 : ℕ)) else (0 : EReal) := by
  refine pad_at 16 1 _ (val_main_v114 (F := Ideal) w s d) (val_main_cst_16 (F := Ideal)) (fun i => ?_) _ _ c _ (fun k => ?_) m g
  · pointwise [val_main_cst_16]
  · pointwise [val_main_v114, m1]

/-- One piece of the sum over the groups. -/
theorem p121 (m : Fin 2064) (g : Fin 4) (c : Fin 128) :
    val_main_v121 (F := Ideal) w s d (ix3 m g c) = if g.val = 0 then ex (fun k => -(avg w s d 0 c k)) ((m.val : ℤ) - (14 : ℕ)) else (0 : EReal) := by
  refine pad_at 14 0 _ (val_main_v120 (F := Ideal) w s d) (val_main_cst_17 (F := Ideal)) (fun i => ?_) _ _ c _ (fun k => ?_) m g
  · pointwise [val_main_cst_17]
  · pointwise [val_main_v120, val_main_v119, m0]

/-- One piece of the sum over the groups. -/
theorem p124 (m : Fin 2064) (g : Fin 4) (c : Fin 128) :
    val_main_v124 (F := Ideal) w s d (ix3 m g c) = if g.val = 0 then ex (fun k => avg w s d 0 c k) ((m.val : ℤ) - (16 : ℕ)) else (0 : EReal) := by
  refine pad_at 16 0 _ (val_main_v123 (F := Ideal) w s d) (val_main_cst_18 (F := Ideal)) (fun i => ?_) _ _ c _ (fun k => ?_) m g
  · pointwise [val_main_cst_18]
  · pointwise [val_main_v123, m0]

/-- The sum of the pieces. -/
theorem r127 (r : Fin 2048) (g : Fin 4) (c : Fin 128) :
    val_main_v127 (F := Ideal) w s d (ix3 r g c) = -(ex (avg w s d g c) ((r.val : ℤ) + (wn g : ℕ))) + ex (avg w s d g c) (r.val : ℤ) := by
  pointwise [val_main_v127, val_main_v125, val_main_v122, val_main_v116, val_main_v113, val_main_v107, val_main_v104, val_main_v98, p95, p97, p103, p106, p112, p115, p121, p124]
  match g with
  | 0 => simp [ex_neg, wn]; exact congrArg₂ (fun a b => -(ex _ a) + b) (by omega) rfl
  | 1 => simp [ex_neg, wn]; exact congrArg₂ (fun a b => -(ex _ a) + b) (by omega) rfl
  | 2 => simp [ex_neg, wn]; exact congrArg₂ (fun a b => -(ex _ a) + b) (by omega) rfl
  | 3 => simp [ex_neg, wn]; exact congrArg₂ (fun a b => -(ex _ a) + b) (by omega) rfl

/-- The suffix sums of the differences of real rows. -/
theorem suf (n : ℕ) (x u : Fin 2048 → EReal) (hx : ∀ r, ∃ q : ℝ, x r = (q : EReal))
    (hu : ∀ k : Fin 2048, u k = -(ex x ((k.val : ℤ) + (n : ℕ))) + ex x (k.val : ℤ)) (r : Fin 2048) :
    ∑ j ∈ Finset.range 2048, ex u ((r.val : ℤ) + (j : ℕ) - (0 : ℕ)) = fore 1 n x r := by
  choose y hy using hx
  obtain rfl : x = fun r => ((y r : ℝ) : EReal) := funext hy
  have e : ∀ j ∈ Finset.range 2048, ex u ((r.val : ℤ) + (j : ℕ) - (0 : ℕ)) = ((ex y ((r.val : ℤ) + (j : ℕ)) - ex y ((r.val : ℤ) + n + (j : ℕ)) : ℝ) : EReal) := by
    intro j _
    by_cases h : r.val + j < 2048
    · rw [ex_in u _ ⟨r.val + j, h⟩ (by push_cast; omega), hu, ex_coe, ex_coe, add_comm, ← sub_eq_add_neg, ← EReal.coe_sub]
      congr 3 <;> (push_cast; ring)
    · rw [ex_out _ _ (by push_cast; omega), ex_out y _ (by omega), ex_out y _ (by omega), sub_zero]; rfl
  rw [Finset.sum_congr rfl e, Cert.Softmax.coe_sum, suffix_sub y n r (by omega), fore]
  simp only [ex_coe, Cert.Softmax.coe_sum, one_mul]

/-- The rows' gradient. -/
theorem r131 (hm : ∀ g c r, ∃ q : ℝ, avg w s d g c r = (q : EReal)) (r : Fin 2048) (g : Fin 4) (c : Fin 128) :
    val_main_v131 (F := Ideal) w s d (ix2 r ⟨g.val * 128 + c.val, by omega⟩) = gP w s d g c r := by
  have h : val_main_v128 (F := Ideal) w s d (ix3 r g c) = fore 1 (wn g) (avg w s d g c) r :=
    (window_sum 0 2047 (val_main_v127 (F := Ideal) w s d) _ _ _ (fun _ => by pointwise [val_main_call1_call0_v0, val_main_call1_call0_cst]) r g c).trans
      (suf (wn g) _ _ (hm g c) (fun k => r127 w s d k g c) r)
  rw [gP, ← h, ← r79]
  pointwise [val_main_v131, val_main_v130, val_main_v129, val_main_v82]

end

end Cert.Pool
-- ==== Proof.Pool.lean ====
/- The pooling gradient, kernel against reference. -/
module

public import proofs.«01_k».proof.Proof.Gen.PoolBwdIdeal.Value
public import proofs.«01_k».proof.Proof.Gen.PoolBwdRefIdeal.Read
public import proofs.«01_k».proof.Proof.PoolGrads
public import proofs.«01_k».proof.Proof.Gen.Pre_pool_bwd_finite
public import proofs.«01_k».proof.Defs

@[expose] public section

set_option maxRecDepth 16384

noncomputable section

namespace Cert.Pool

open Cert.PoolBwdIdeal Cert.PoolBwdIdeal.Gen Idealize.ShloMosaic Idealize.ShloMosaic.TcCoe Idealize.SL.Sem
open Idealize.ShloMosaic.Pipeline (Dat)

variable (m : (ℓ : Loc nD τ sig) → Buf (Elt Ideal) ℓ)

section
variable (z : FVec Ideal S2048x3584 .f32) (w : FVec Ideal S4x128x128 .f32) (s : FVec Ideal S1x512 .f32) (d : FVec Ideal S2048x2048 .f32)

/-- The rows' gradient of a group, from its blocks. -/
theorem rowsG (g : Fin 4) (W : FVec Ideal S1x128x128 .f32) (S : FVec Ideal S1x128 .f32) (D Y : FVec Ideal S2048x128 .f32)
    (r : Fin 2048) (c : Fin 128)
    (hW : ∀ c k, W (ix3 0 c k) = w (ix3 g c k)) (hS : ∀ k : Fin 128, S (ix2 0 k) = s (ix2 0 ⟨g.val * 128 + k.val, by omega⟩))
    (hD : ∀ r (k : Fin 128), D (ix2 r k) = d (ix2 r ⟨1024 + (g.val * 128 + k.val), by omega⟩))
    (hY : col (stUp 2047#32 Y) c = fore 1 (wn g) (col (quo (wb g) (k0_pay42 (F := Ideal) (k0_pay3 W) S D)) c)) :
    dpV (k0_pay42 (F := Ideal) (k0_pay3 W) S D) Y (ix2 r c) = gP w s d g c r := by
  have e : ∀ r c, k0_pay42 (F := Ideal) (k0_pay3 W) S D (ix2 r c) = dpl w s d g c r := fun r c => by
    rw [cotan, dpl]
    exact Finset.sum_congr rfl fun k _ => by rw [hW, hS, hD, dz]
  rw [rows, hY, gP, e]
  refine congrArg (fun x => _ + fore 1 (wn g) x r) (funext fun k => ?_)
  exact (quo_at _ _ k c).trans (by rw [e, avg])

/-- The pooled rows of a group, from its block. -/
theorem poolG (g : Fin 4) (P Y : FVec Ideal S2048x128 .f32)
    (hP : ∀ r (k : Fin 128), P (ix2 r k) = z (ix2 r ⟨2048 + (g.val * 128 + k.val), by omega⟩))
    (hY : ∀ c, col Y c = back (wn g) (col P c)) (r : Fin 2048) (c : Fin 128) :
    quo (wb g) Y (ix2 r c) - P (ix2 r c) = pool z g c r := by
  rw [quo_at, pool, hP]
  refine congrArg (fun x => Ideal.div x _ - _) ((congrFun (hY c) r).trans ?_)
  exact congrArg (fun x => back (wn g) x r) (funext fun k => hP k c)

/-- The matrix's gradient of a group, from its blocks. -/
theorem prodsG (g : Fin 4) (P Y : FVec Ideal S2048x128 .f32) (S : FVec Ideal S1x128 .f32) (D : FVec Ideal S2048x128 .f32) (c k : Fin 128)
    (hP : ∀ r (k : Fin 128), P (ix2 r k) = z (ix2 r ⟨2048 + (g.val * 128 + k.val), by omega⟩))
    (hS : ∀ k : Fin 128, S (ix2 0 k) = s (ix2 0 ⟨g.val * 128 + k.val, by omega⟩))
    (hD : ∀ r (k : Fin 128), D (ix2 r k) = d (ix2 r ⟨1024 + (g.val * 128 + k.val), by omega⟩))
    (hY : ∀ c, col Y c = back (wn g) (col P c)) :
    k0_pay33 (F := Ideal) (k0_pay31 P S (quo (wb g) Y) D) (ix3 0 c k) = gW z s d g c k := by
  rw [prods, gW]
  exact Finset.sum_congr rfl fun r _ => by rw [poolG z g P Y hP hY, hS, hD, dz]

/-- The scale's gradient of a group, from its blocks. -/
theorem sumsG (g : Fin 4) (P Y : FVec Ideal S2048x128 .f32) (W : FVec Ideal S1x128x128 .f32) (D : FVec Ideal S2048x128 .f32) (c : Fin 128)
    (hP : ∀ r (k : Fin 128), P (ix2 r k) = z (ix2 r ⟨2048 + (g.val * 128 + k.val), by omega⟩))
    (hW : ∀ c k, W (ix3 0 c k) = w (ix3 g c k))
    (hD : ∀ r (k : Fin 128), D (ix2 r k) = d (ix2 r ⟨1024 + (g.val * 128 + k.val), by omega⟩))
    (hY : ∀ c, col Y c = back (wn g) (col P c)) :
    k0_pay29 (F := Ideal) P (k0_pay3 W) (quo (wb g) Y) D (ix2 0 c) = gS z w d g c := by
  rw [sums, gS]
  refine Finset.sum_congr rfl fun r _ => ?_
  rw [hD]
  exact congrArg (· * _) (Finset.sum_congr rfl fun k _ => by rw [poolG z g P Y hP hY, hW])

open Cert.PoolBwdRefIdeal.Read

/-- An index of the rows by its group and its column. -/
theorem ix2_of (y : S2048x512.Idx) (g : Fin 4) (r : Fin 2048) (c : Fin 128) (h0 : (y 0).val = r.val) (h1 : (y 1).val = g.val * 128 + c.val) :
    y = (ix2 r ⟨g.val * 128 + c.val, by omega⟩ : S2048x512.Idx) :=
  funext fun a => match a with | 0 => Fin.ext h0 | 1 => Fin.ext h1

/-- An index of the matrices by its group. -/
theorem ix3_of (y : S4x128x128.Idx) (g : Fin 4) (r c : Fin 128) (h0 : (y 0).val = g.val) (h1 : (y 1).val = r.val) (h2 : (y 2).val = c.val) :
    y = (ix3 g r c : S4x128x128.Idx) :=
  funext fun a => match a with | 0 => Fin.ext h0 | 1 => Fin.ext h1 | 2 => Fin.ext h2

/-- An index of the scale by its group and its column. -/
theorem ix1_of (y : S1x512.Idx) (g : Fin 4) (c : Fin 128) (h1 : (y 1).val = g.val * 128 + c.val) :
    y = (ix2 0 ⟨g.val * 128 + c.val, by omega⟩ : S1x512.Idx) :=
  funext fun a => match a with | 0 => Fin.ext (by have : (y 0).val < 1 := (y 0).isLt; show (y 0).val = 0; omega) | 1 => Fin.ext h1

section
variable (g : Fin 4) (P D Y : FVec Ideal S2048x128 .f32) (W : FVec Ideal S1x128x128 .f32) (S : FVec Ideal S1x128 .f32)
  (hP : ∀ r (k : Fin 128), P (ix2 r k) = z (ix2 r ⟨2048 + (g.val * 128 + k.val), by omega⟩))
  (hW : ∀ c k, W (ix3 0 c k) = w (ix3 g c k)) (hS : ∀ k : Fin 128, S (ix2 0 k) = s (ix2 0 ⟨g.val * 128 + k.val, by omega⟩))
  (hD : ∀ r (k : Fin 128), D (ix2 r k) = d (ix2 r ⟨1024 + (g.val * 128 + k.val), by omega⟩))

include hW hS hD in
/-- A group's rows are the reference's. -/
theorem rowsP (A : FVec Ideal S2048x128 .bf16) (hA : A = dpV (k0_pay42 (F := Ideal) (k0_pay3 W) S D) Y)
    (hY : ∀ c, col (stUp 2047#32 Y) c = fore 1 (wn g) (col (quo (wb g) (k0_pay42 (F := Ideal) (k0_pay3 W) S D)) c))
    (hm : ∀ g c r, ∃ q : ℝ, avg w s d g c r = (q : EReal)) (y : S2048x512.Idx) (x : S2048x128.Idx)
    (h0 : (y 0).val = (x 0).val) (h1 : (y 1).val = g.val * 128 + (x 1).val) : A x = val_main_v131 (F := Ideal) w s d y := by
  rw [ix2_of y g (x 0) (x 1) h0 h1, r131 w s d hm (x 0) g (x 1), hA]
  refine Eq.trans (congrArg _ ?_) (rowsG w s d g W S D Y (x 0) (x 1) hW hS hD (hY _))
  exact funext fun a => match a with | 0 => rfl | 1 => rfl

include hP hS hD in
/-- A group's matrix is the reference's. -/
theorem prodsP (hz : ∀ r g c, ∃ q : ℝ, pc z g c r = (q : EReal)) (A : FVec Ideal S1x128x128 .f32)
    (hA : A = k0_pay33 (F := Ideal) (k0_pay31 P S (quo (wb g) Y) D))
    (hY : ∀ c, col Y c = back (wn g) (col P c)) (y : S4x128x128.Idx) (x : S1x128x128.Idx)
    (h0 : (y 0).val = g.val) (h1 : (y 1).val = (x 1).val) (h2 : (y 2).val = (x 2).val) : A x = val_main_v81 (F := Ideal) z s d y := by
  rw [ix3_of y g (x 1) (x 2) h0 h1 h2, r81 z s d hz g (x 1) (x 2), hA]
  refine Eq.trans (congrArg _ ?_) (prodsG z s d g P Y S D (x 1) (x 2) hP hS hD hY)
  exact funext fun a => match a with | 0 => Fin.ext (Nat.lt_one_iff.1 (x 0).isLt) | 1 => rfl | 2 => rfl

include hP hW hD in
/-- A group's scale is the reference's. -/
theorem sumsP (hz : ∀ r g c, ∃ q : ℝ, pc z g c r = (q : EReal)) (A : FVec Ideal S1x128 .f32)
    (hA : A = k0_pay29 (F := Ideal) P (k0_pay3 W) (quo (wb g) Y) D)
    (hY : ∀ c, col Y c = back (wn g) (col P c)) (y : S1x512.Idx) (x : S1x128.Idx)
    (h1 : (y 1).val = g.val * 128 + (x 1).val) : A x = val_main_v76 (F := Ideal) z w d y := by
  rw [ix1_of y g (x 1) h1, r76 z w d hz g (x 1), hA]
  refine Eq.trans (congrArg _ ?_) (sumsG z w d g P Y W D (x 1) hP hW hD hY)
  exact funext fun a => match a with | 0 => Fin.ext (Nat.lt_one_iff.1 (x 0).isLt) | 1 => rfl
end

section
variable (x0 x1 : FVec Ideal S2048x512 .f32) (x2 : FVec Ideal S4x128x128 .f32) (x3 : FVec Ideal S1x512 .f32)
  (e0 : ∀ r (j : Fin 512), x0 (ix2 r j) = z (ix2 r ⟨2048 + j.val, by omega⟩))
  (e1 : ∀ r (j : Fin 512), x1 (ix2 r j) = d (ix2 r ⟨1024 + j.val, by omega⟩))
  (e2 : ∀ g c k, x2 (ix3 g c k) = w (ix3 g c k)) (e3 : ∀ j, x3 (ix2 0 j) = s (ix2 0 j))

include e1 e2 e3 in
/-- The stored rows' gradient. -/
theorem out4 (hm : ∀ g c r, ∃ q : ℝ, avg w s d g c r = (q : EReal)) (y : S2048x512.Idx) :
    out0_4 (F := Ideal) x0 x1 x2 x3 y = val_main_v131 (F := Ideal) w s d y := by
  unfold_out out0_4
  canon_tiles x h
  · refine rowsP w s d 3 _ _ _ _ ?_ ?_ ?_ _ (dp3 _ _ _) (fun c => up16 _ _) hm y x h0 (by simpa using h1)
    all_goals (intros; pointwise [e1, e2, e3])
  · refine rowsP w s d 2 _ _ _ _ ?_ ?_ ?_ _ (dp2 _ _ _) (fun c => up8 _ _) hm y x h0 (by simpa using h1)
    all_goals (intros; pointwise [e1, e2, e3])
  · refine rowsP w s d 1 _ _ _ _ ?_ ?_ ?_ _ (dp1 _ _ _) (fun c => up4 _ _) hm y x h0 (by simpa using h1)
    all_goals (intros; pointwise [e1, e2, e3])
  · refine rowsP w s d 0 _ _ _ _ ?_ ?_ ?_ _ (dp0 _ _ _) (fun c => up2 _ _) hm y x h0 (by simpa using h1)
    all_goals (intros; pointwise [e1, e2, e3])

include e0 e1 e3 in
/-- The stored matrices' gradient. -/
theorem out5 (hz : ∀ r g c, ∃ q : ℝ, pc z g c r = (q : EReal)) (y : S4x128x128.Idx) :
    out0_5 (F := Ideal) x0 x1 x2 x3 y = val_main_v81 (F := Ideal) z s d y := by
  unfold_out out0_5
  canon_tiles x h
  · refine prodsP z s d 3 _ _ _ _ ?_ ?_ ?_ hz _ (dw3 _ _ _) (fun c => dn16 _ _) y x (by simp at *; omega) h1 h2
    all_goals (intros; pointwise [e0, e1, e3])
  · refine prodsP z s d 2 _ _ _ _ ?_ ?_ ?_ hz _ (dw2 _ _ _) (fun c => dn8 _ _) y x (by simp at *; omega) h1 h2
    all_goals (intros; pointwise [e0, e1, e3])
  · refine prodsP z s d 1 _ _ _ _ ?_ ?_ ?_ hz _ (dw1 _ _ _) (fun c => dn4 _ _) y x (by simp at *; omega) h1 h2
    all_goals (intros; pointwise [e0, e1, e3])
  · refine prodsP z s d 0 _ _ _ _ ?_ ?_ ?_ hz _ (dw0 _ _ _) (fun c => dn2 _ _) y x (by simp at *; omega) h1 h2
    all_goals (intros; pointwise [e0, e1, e3])

include e0 e1 e2 in
/-- The stored scale's gradient. -/
theorem out6 (hz : ∀ r g c, ∃ q : ℝ, pc z g c r = (q : EReal)) (y : S1x512.Idx) :
    out0_6 (F := Ideal) x0 x1 x2 x3 y = val_main_v76 (F := Ideal) z w d y := by
  unfold_out out0_6
  canon_tiles x h
  · refine sumsP z w d 3 _ _ _ _ ?_ ?_ ?_ hz _ (ds3 _ _ _) (fun c => dn16 _ _) y x (by simpa using h1)
    all_goals (intros; pointwise [e0, e1, e2])
  · refine sumsP z w d 2 _ _ _ _ ?_ ?_ ?_ hz _ (ds2 _ _ _) (fun c => dn8 _ _) y x (by simpa using h1)
    all_goals (intros; pointwise [e0, e1, e2])
  · refine sumsP z w d 1 _ _ _ _ ?_ ?_ ?_ hz _ (ds1 _ _ _) (fun c => dn4 _ _) y x (by simpa using h1)
    all_goals (intros; pointwise [e0, e1, e2])
  · refine sumsP z w d 0 _ _ _ _ ?_ ?_ ?_ hz _ (ds0 _ _ _) (fun c => dn2 _ _) y x (by simpa using h1)
    all_goals (intros; pointwise [e0, e1, e2])
end

/-- The mean of a window of real cotangents is real. -/
theorem avg_real (hw : ∀ g c k, ∃ q : ℝ, w (ix3 g c k) = (q : EReal)) (hs : ∀ j, ∃ q : ℝ, s (ix2 0 j) = (q : EReal))
    (hd : ∀ r (j : Fin 512), ∃ q : ℝ, d (ix2 r ⟨1024 + j.val, by omega⟩) = (q : EReal)) (g : Fin 4) (c : Fin 128) (r : Fin 2048) :
    ∃ q : ℝ, avg w s d g c r = (q : EReal) := by
  choose u hu using fun k : Fin 128 => hd r ⟨g.val * 128 + k.val, by omega⟩
  choose v hv using fun k : Fin 128 => hs ⟨g.val * 128 + k.val, by omega⟩
  choose a ha using fun k : Fin 128 => hw g c k
  obtain ⟨q, hq, e⟩ := cnt_real g r
  have h : dpl w s d g c r = ((∑ k, u k * v k * a k : ℝ) : EReal) := by
    rw [dpl, ← Cert.Softmax.coe_sum]
    exact Finset.sum_congr rfl fun k _ => by rw [dz, hu, hv, ha, EReal.coe_mul, EReal.coe_mul]
  exact ⟨(∑ k, u k * v k * a k) * (1 / q), by rw [avg, h, e, Ideal.div_coe hq, EReal.coe_mul]⟩

end

/-- The windows' blocks. -/
theorem idx : ∀ t : Fin cfg0.N, win0_0.index t = ![0, 4] ∧ win0_1.index t = ![0, 2] ∧ win0_2.index t = ![0, 0, 0] ∧ win0_3.index t = ![0, 0]
    ∧ win0_4.index t = ![0, 0] ∧ win0_5.index t = ![0, 0, 0] ∧ win0_6.index t = ![0, 0] :=
  (by decide +kernel : ∀ t : Fin grid0.N, _)

/-- The array of the preactivations. -/
abbrev Z (c : Dev nD) : FVec Ideal S2048x3584 .f32 := m ((c : Thread nD τ).loc main_arg0)
/-- The array of the matrices. -/
abbrev W (c : Dev nD) : FVec Ideal S4x128x128 .f32 := m ((c : Thread nD τ).loc main_arg1)
/-- The array of the scale. -/
abbrev Sc (c : Dev nD) : FVec Ideal S1x512 .f32 := m ((c : Thread nD τ).loc main_arg2)
/-- The array of the cotangent. -/
abbrev Dy (c : Dev nD) : FVec Ideal S2048x2048 .f32 := m ((c : Thread nD τ).loc main_arg3)

section
variable (c : Dev nD) (t : Fin cfg0.N)
/-- The block of the preactivations. -/
theorem b0 (r : Fin 2048) (j : Fin 512) : (iblk m c 0 t : FVec Ideal S2048x512 .f32) (ix2 r j) = Z m c (ix2 r ⟨2048 + j.val, by omega⟩) := by
  blk_point [iblk, V, idx t]
/-- The block of the cotangent. -/
theorem b1 (r : Fin 2048) (j : Fin 512) : (iblk m c 1 t : FVec Ideal S2048x512 .f32) (ix2 r j) = Dy m c (ix2 r ⟨1024 + j.val, by omega⟩) := by
  blk_point [iblk, V, idx t]
/-- The block of the matrices. -/
theorem b2 (g : Fin 4) (i k : Fin 128) : (iblk m c 2 t : FVec Ideal S4x128x128 .f32) (ix3 g i k) = W m c (ix3 g i k) := by
  blk_point [iblk, V, idx t]
/-- The block of the scale. -/
theorem b3 (j : Fin 512) : (iblk m c 3 t : FVec Ideal S1x512 .f32) (ix2 0 j) = Sc m c (ix2 0 j) := by
  blk_point [iblk, V, idx t]
end

/-- The array of the rows' gradient. -/
theorem final4 (c : Dev nD) (hm : ∀ g k r, ∃ q : ℝ, avg (W m c) (Sc m c) (Dy m c) g k r = (q : EReal)) :
    (dats m 0 c).arrAt 4 (cfgs 0).N = Cert.PoolBwdRefIdeal.Read.val_main_v131 (F := Ideal) (W m c) (Sc m c) (Dy m c) := by
  refine (dats m 0 c).arrAt_eq_of_covers 4 _ (by decide +kernel) fun t _ y => ?_
  blk_simp
  rw [after0_4]
  refine (out4 _ _ _ _ _ _ _ (b1 m c t) (b2 m c t) (b3 m c t) hm y).trans (congrArg _ (funext fun a => Fin.ext ?_))
  match a with
  | 0 => blk_simp [idx t]
  | 1 => blk_simp [idx t]

/-- The array of the matrices' gradient. -/
theorem final5 (c : Dev nD) (hz : ∀ r g k, ∃ q : ℝ, pc (Z m c) g k r = (q : EReal)) :
    (dats m 0 c).arrAt 5 (cfgs 0).N = Cert.PoolBwdRefIdeal.Read.val_main_v81 (F := Ideal) (Z m c) (Sc m c) (Dy m c) := by
  refine (dats m 0 c).arrAt_eq_of_covers 5 _ (by decide +kernel) fun t _ y => ?_
  blk_simp
  rw [after0_5]
  refine (out5 _ _ _ _ _ _ _ (b0 m c t) (b1 m c t) (b3 m c t) hz y).trans (congrArg _ (funext fun a => Fin.ext ?_))
  match a with
  | 0 => blk_simp [idx t]
  | 1 => blk_simp [idx t]
  | 2 => blk_simp [idx t]

/-- The array of the scale's gradient. -/
theorem final6 (c : Dev nD) (hz : ∀ r g k, ∃ q : ℝ, pc (Z m c) g k r = (q : EReal)) :
    (dats m 0 c).arrAt 6 (cfgs 0).N = Cert.PoolBwdRefIdeal.Read.val_main_v76 (F := Ideal) (Z m c) (W m c) (Dy m c) := by
  refine (dats m 0 c).arrAt_eq_of_covers 6 _ (by decide +kernel) fun t _ y => ?_
  blk_simp
  rw [after0_6]
  refine (out6 _ _ _ _ _ _ _ (b0 m c t) (b1 m c t) (b2 m c t) hz y).trans (congrArg _ (funext fun a => Fin.ext ?_))
  match a with
  | 0 => blk_simp [idx t]
  | 1 => blk_simp [idx t]

/-- The rows the precondition makes real. -/
theorem rows_real [Cert.Pre_pool_bwd_finite.Facts] (c : Dev nD)
    (h0 : (Cert.Pre_pool_bwd_finite.fn (F := Ideal) (Z m c) (W m c) (Sc m c) (Dy m c)).1 = fun _ => 1#1)
    (r : Fin 2048) (g : Fin 4) (k : Fin 128) : ∃ q : ℝ, pc (Z m c) g k r = (q : EReal) :=
  Cert.Softmax.real_of_lt _ (by
    have e := congrFun h0 (ix2 r ⟨g.val * 128 + k.val, by omega⟩)
    exact (by pointwise [pc] : pc (Z m c) g k r = extractStridedSlice S2048x512 ![0, 2048] (Z m c) Cert.Pre_pool_bwd_finite.Facts.slices_S2048x3584_S2048x512_0_2048
      (ix2 r ⟨g.val * 128 + k.val, by omega⟩)) ▸ e)

/-- The means the precondition makes real. -/
theorem means_real [Cert.Pre_pool_bwd_finite.Facts] (c : Dev nD)
    (h1 : (Cert.Pre_pool_bwd_finite.fn (F := Ideal) (Z m c) (W m c) (Sc m c) (Dy m c)).2.1 = fun _ => 1#1)
    (h2 : (Cert.Pre_pool_bwd_finite.fn (F := Ideal) (Z m c) (W m c) (Sc m c) (Dy m c)).2.2.1 = fun _ => 1#1)
    (h3 : (Cert.Pre_pool_bwd_finite.fn (F := Ideal) (Z m c) (W m c) (Sc m c) (Dy m c)).2.2.2 = fun _ => 1#1)
    (g : Fin 4) (k : Fin 128) (r : Fin 2048) : ∃ q : ℝ, avg (W m c) (Sc m c) (Dy m c) g k r = (q : EReal) :=
  avg_real _ _ _ (fun g c k => Cert.Softmax.real_of_lt _ (congrFun h1 (ix3 g c k))) (fun j => Cert.Softmax.real_of_lt _ (congrFun h2 (ix2 0 j)))
    (fun r j => Cert.Softmax.real_of_lt _ (by
      have e := congrFun h3 (ix2 r j)
      exact (by pointwise [] : Dy m c (ix2 r ⟨1024 + j.val, by omega⟩) = extractStridedSlice S2048x512 ![0, 1024] (Dy m c) Cert.Pre_pool_bwd_finite.Facts.slices_S2048x2048_S2048x512_0_1024
        (ix2 r j)) ▸ e)) g k r

end Cert.Pool

/-- Where the inputs are finite the kernel's three gradients are the reference's. -/
theorem Cert.Pool.pair : Cert.algebraic_PoolBwdIdeal_PoolBwdRefIdeal_pre_pool_bwd_finite := by
  pair_intro
  · run_from Cert.PoolBwdIdeal.Value.run_blocks m g
  · refine Idealize.ShloMosaic.θ_run_mono (Cert.PoolBwdRefIdeal.Value.run m' g') fun r hr c => ?_
    obtain ⟨h0, h1, h2, k⟩ := hr c
    obtain ⟨a0, a1, a2, a3⟩ := hagree c
    refine ⟨h0.trans ((Cert.PoolBwdRefIdeal.Read.val_main_v131_eq m' c).trans ?_),
      h1.trans ((Cert.PoolBwdRefIdeal.Read.val_main_v81_eq m' c).trans ?_),
      h2.trans ((Cert.PoolBwdRefIdeal.Read.val_main_v76_eq m' c).trans ?_), k⟩
    · rw [a1, a2, a3]
      exact (Cert.Pool.final4 m c (Cert.Pool.means_real m c (hpre c).2.1 (hpre c).2.2.1 (hpre c).2.2.2)).symm
    · rw [a0, a2, a3]
      exact (Cert.Pool.final5 m c (Cert.Pool.rows_real m c (hpre c).1)).symm
    · rw [a0, a1, a3]
      exact (Cert.Pool.final6 m c (Cert.Pool.rows_real m c (hpre c).1)).symm

end
-- ==== Proof.Swish.lean ====
/- The gradient of the layer norm under the swish: the kernel's three arrays are the reference's. -/
module

public import proofs.«01_k».proof.Proof.Gen.SwishBwdIdeal.Value
public import proofs.«01_k».proof.Proof.Gen.SwishBwdRefIdeal.Read
public import Idealize.ShloMosaic.Lib.Pipeline.ValueKit
public import proofs.«01_k».proof.Proof.LayerNorm
public import proofs.«01_k».proof.Proof.Gen.Pre_swish_bwd_finite
public import proofs.«01_k».proof.Defs

@[expose] public section

set_option maxRecDepth 16384

noncomputable section

namespace Cert.Swish

open Cert.SwishBwdIdeal Cert.SwishBwdIdeal.Gen Idealize.ShloMosaic Idealize.ShloMosaic.TcCoe Idealize.SL.Sem
open Idealize.ShloMosaic.Pipeline (Dat)

variable (m : (ℓ : Loc nD τ sig) → Buf (Elt Ideal) ℓ)

open Cert.LayerNorm

/-- The row's length, as the word of 512. -/
theorem n_bits : Ideal.ofBits .f32 1140850688#32 = ((512 : ℝ) : EReal) := by
  simp [Ideal.ofBits, Ideal.ieee, -EReal.coe_mul]; norm_num

/-- The word of one. -/
theorem one_bits : (Scalar.ofBits .f32 0x3F800000#32 : Ideal .f32) = (1 : EReal) := by
  simp [Scalar.ofBits, Ideal.ofBits, Ideal.ieee, -EReal.coe_mul]; try norm_num

/-- The exponential of minus the least place. -/
theorem exp_bot : Ideal.exp (-(⊥ : EReal)) = ⊤ := by rw [EReal.neg_bot]; exact Ideal.exp_top

/-- The exponential of minus the greatest place. -/
theorem exp_top : Ideal.exp (-(⊤ : EReal)) = 0 := by rw [EReal.neg_top]; exact Ideal.exp_bot

/-- The exponential of minus a real. -/
theorem exp_real (r : ℝ) : Ideal.exp (-(r : EReal)) = (Real.exp (-r) : EReal) := by rw [← EReal.coe_neg]; exact Ideal.exp_coe _

/-- One and infinity. -/
theorem one_add_top : (1 : EReal) + ⊤ = ⊤ := EReal.coe_add_top 1

/-- One over infinity. -/
theorem div_top : Ideal.div 1 ⊤ = 0 := by simp [Ideal.div]

/-- One less one. -/
theorem one_sub_one : (1 : EReal) - 1 = 0 := by rw [← EReal.coe_one, ← EReal.coe_sub, sub_self]; rfl

/-- The logistic function. -/
def logi (z : EReal) : EReal := Ideal.div 1 (1 + Ideal.exp (-z))

/-- The derivative of the swish times its cotangent. -/
def dz (z d : EReal) : EReal := d * logi z + z * d * (logi z * (1 - logi z))

/-- The derivative with the square of the denominator. -/
theorem dz_eq (z d : EReal) :
    d * logi z + -(-(z * d * Ideal.div 1 ((1 + Ideal.exp (-z)) * (1 + Ideal.exp (-z)))) * Ideal.exp (-z)) = dz z d := by
  have hn : ∀ p e : EReal, -(-p * e) = p * e := fun p e => by rw [EReal.neg_mul, neg_neg]
  rw [hn]
  refine congrArg (d * logi z + ·) ?_
  rw [mul_assoc (z * d)]
  unfold logi
  induction z using EReal.rec with
  | bot =>
    rw [exp_bot, one_add_top, EReal.top_mul_top, div_top, zero_mul, zero_mul]
  | top =>
    have h1 : Ideal.div 1 ((1 : EReal) + 0) = 1 := by simp [Ideal.div]
    rw [exp_top, h1, mul_zero, one_sub_one, mul_zero, mul_zero, mul_zero]
  | coe r =>
    have hp : (0 : ℝ) < 1 + Real.exp (-r) := by positivity
    rw [exp_real, ← EReal.coe_one, ← EReal.coe_add, ← EReal.coe_mul, Ideal.div_coe hp.ne', Ideal.div_coe (mul_pos hp hp).ne']
    refine congrArg ((r : EReal) * d * ·) ?_
    norm_cast
    field_simp
    ring

/-- Of a real cotangent the derivative is real. -/
theorem dz_real (z : EReal) (d : ℝ) : ∃ r : ℝ, dz z d = (r : EReal) := by
  unfold dz logi
  induction z using EReal.rec with
  | bot =>
    exact ⟨0, by rw [exp_bot, one_add_top, div_top, zero_mul, mul_zero, mul_zero, add_zero]; rfl⟩
  | top =>
    have h1 : Ideal.div 1 ((1 : EReal) + 0) = 1 := by simp [Ideal.div]
    exact ⟨d, by rw [exp_top, h1, one_sub_one, mul_zero, mul_zero, mul_one, add_zero]⟩
  | coe r =>
    have hp : (0 : ℝ) < 1 + Real.exp (-r) := by positivity
    rw [exp_real, ← EReal.coe_one, ← EReal.coe_add, Ideal.div_coe hp.ne']
    norm_cast
    exact ⟨_, rfl⟩

/-- The norm's output. -/
def out (x g b : Fin 512 → EReal) (j : Fin 512) : EReal :=
  cen (Ideal.ofBits .f32 1140850688#32) x j * LayerNorm.inv (Ideal.ofBits .f32 1140850688#32) x * g j + b j

/-- The derivative with respect to the norm's output. -/
def gy (x g b d : Fin 512 → EReal) (j : Fin 512) : EReal := dz (out x g b j) (d j)

/-- The derivative with respect to the rows, at one place. -/
def gradX (x : FVec Ideal S2048x512 .f32) (g b : FVec Ideal S1x512 .f32) (d : FVec Ideal S2048x2048 .f32) : FVec Ideal S2048x512 .f32 := fun i =>
  dx' (Ideal.ofBits .f32 1140850688#32) (fun k => x (ix2 (i 0) k))
    (fun k => gy (fun k => x (ix2 (i 0) k)) (fun k => g (ix2 0 k)) (fun k => b (ix2 0 k)) (fun k => d (ix2 (i 0) ⟨1536 + k.val, by omega⟩)) k * g (ix2 0 k)) (i 1)

/-- The derivative with respect to the rows, at one place, the mean's share at once. -/
def gradX0 (x : FVec Ideal S2048x512 .f32) (g b : FVec Ideal S1x512 .f32) (d : FVec Ideal S2048x2048 .f32) : FVec Ideal S2048x512 .f32 := fun i =>
  dx (Ideal.ofBits .f32 1140850688#32) (fun k => x (ix2 (i 0) k))
    (fun k => gy (fun k => x (ix2 (i 0) k)) (fun k => g (ix2 0 k)) (fun k => b (ix2 0 k)) (fun k => d (ix2 (i 0) ⟨1536 + k.val, by omega⟩)) k * g (ix2 0 k)) (i 1)

/-- The derivative with respect to the scale, at one place. -/
def gradG (x : FVec Ideal S2048x512 .f32) (g b : FVec Ideal S1x512 .f32) (d : FVec Ideal S2048x2048 .f32) : FVec Ideal S1x512 .f32 := fun i =>
  ∑ r : Fin 2048, cen (Ideal.ofBits .f32 1140850688#32) (fun k => x (ix2 r k)) (i 1) * LayerNorm.inv (Ideal.ofBits .f32 1140850688#32) (fun k => x (ix2 r k))
    * gy (fun k => x (ix2 r k)) (fun k => g (ix2 0 k)) (fun k => b (ix2 0 k)) (fun k => d (ix2 r ⟨1536 + k.val, by omega⟩)) (i 1)

/-- The derivative with respect to the shift, at one place. -/
def gradB (x : FVec Ideal S2048x512 .f32) (g b : FVec Ideal S1x512 .f32) (d : FVec Ideal S2048x2048 .f32) : FVec Ideal S1x512 .f32 := fun i =>
  ∑ r : Fin 2048, gy (fun k => x (ix2 r k)) (fun k => g (ix2 0 k)) (fun k => b (ix2 0 k)) (fun k => d (ix2 r ⟨1536 + k.val, by omega⟩)) (i 1)

open Cert.SwishBwdRefIdeal.Read in
/-- The reference's derivative with respect to the norm's output. -/
theorem gy_at (x : FVec Ideal S2048x512 .f32) (g b : FVec Ideal S1x512 .f32) (d : FVec Ideal S2048x2048 .f32) (r : Fin 2048) (j : Fin 512) :
    val_main_v29 (F := Ideal) x g b d (ix2 r j) = gy (fun k => x (ix2 r k)) (fun k => g (ix2 0 k)) (fun k => b (ix2 0 k)) (fun k => d (ix2 r ⟨1536 + k.val, by omega⟩)) j := by
  pointwise [gy, dz, logi, out, cen, LayerNorm.inv, var, val_main_v29, val_main_call1_v2, val_main_call1_v1, val_main_call1_v0, val_main_v28, val_main_v27_1, val_main_call0_v7, val_main_call0_v6, val_main_call0_cst_1, val_main_v27_2, val_main_call0_v4, val_main_call0_cst_0, val_main_call0_v3, val_main_call0_v2, val_main_call0_cst, val_main_call0_v1, val_main_call0_v0, val_main_v26, val_main_v25, val_main_v24, val_main_v23, val_main_v22, val_main_v21, val_main_v17, val_main_v16, val_main_v15, val_main_cst_4, val_main_v14, val_main_v13, val_main_v12, val_main_v11, val_main_cst_3, val_main_v10, val_main_v9, val_main_cst_2, val_main_v6, val_main_v5, val_main_v4, val_main_v3, val_main_v2, val_main_cst_0, val_main_v1, val_main_v0, val_main_cst]

open Cert.SwishBwdRefIdeal.Read in
/-- The reference's derivative with respect to the rows. -/
theorem gradX_eq (x : FVec Ideal S2048x512 .f32) (g b : FVec Ideal S1x512 .f32) (d : FVec Ideal S2048x2048 .f32) :
    gradX x g b d = val_main_v60 (F := Ideal) x g b d := by
  funext i; idx_vars i
  pointwise [gradX, dx', fac, cen, LayerNorm.inv, var, val_main_v60, val_main_v59, val_main_v58, val_main_cst_14, val_main_v57, val_main_v56, val_main_cst_13, val_main_v55, val_main_v54, val_main_v53, val_main_v52, val_main_cst_12, val_main_v51, val_main_v50, val_main_v49, val_main_v48, val_main_cst_11, val_main_v47, val_main_v46, val_main_cst_10, val_main_v45, val_main_v44, val_main_cst_9, val_main_v43, val_main_v42, val_main_v41, val_main_v40, val_main_v39, val_main_v38, val_main_cst_8, val_main_v37, val_main_v36, val_main_v35, val_main_v20, val_main_v19, val_main_cst_5, val_main_v18, val_main_v17, val_main_v16, val_main_v15, val_main_cst_4, val_main_v14, val_main_v13, val_main_v12, val_main_v11, val_main_cst_3, val_main_v10, val_main_v9, val_main_cst_2, val_main_v8, val_main_v7, val_main_cst_1, val_main_v6, val_main_v5, val_main_v4, val_main_v3, val_main_v2, val_main_cst_0, val_main_v1, val_main_v0, val_main_cst]
  all_goals first | rfl | (simp only [gy_at]; done) | (simp only [gy_at]; rfl)

open Cert.SwishBwdRefIdeal.Read in
/-- The reference's derivative with respect to the scale. -/
theorem gradG_eq (x : FVec Ideal S2048x512 .f32) (g b : FVec Ideal S1x512 .f32) (d : FVec Ideal S2048x2048 .f32) :
    gradG x g b d = val_main_v34 (F := Ideal) x g b d := by
  funext i; idx_vars i
  pointwise [gradG, cen, LayerNorm.inv, var, val_main_v34, val_main_v33, val_main_cst_7, val_main_v32, val_main_v22, val_main_v21, val_main_v17, val_main_v16, val_main_v15, val_main_cst_4, val_main_v14, val_main_v13, val_main_v12, val_main_v11, val_main_cst_3, val_main_v10, val_main_v9, val_main_cst_2, val_main_v6, val_main_v5, val_main_v4, val_main_v3, val_main_v2, val_main_cst_0, val_main_v1, val_main_v0, val_main_cst]
  all_goals first | rfl | (simp only [gy_at]; done) | (simp only [gy_at]; rfl)

open Cert.SwishBwdRefIdeal.Read in
/-- The reference's derivative with respect to the shift. -/
theorem gradB_eq (x : FVec Ideal S2048x512 .f32) (g b : FVec Ideal S1x512 .f32) (d : FVec Ideal S2048x2048 .f32) :
    gradB x g b d = val_main_v31 (F := Ideal) x g b d := by
  funext i; idx_vars i
  pointwise [gradB, val_main_v31, val_main_v30, val_main_cst_6]
  all_goals first | rfl | (simp only [gy_at]; done) | (simp only [gy_at]; rfl)

/-- The body's derivative with respect to the norm's output. -/
theorem p13 (x : FVec Ideal S256x512 .f32) (g b : FVec Ideal S1x512 .f32) (d : FVec Ideal S256x512 .f32) (r : Fin 256) (j : Fin 512) :
    k0_pay13 (F := Ideal) (k0_pay9 x g b) (k0_pay11 x g b d) (k0_pay12 x g b d) (Scalar.ofBits .f32 0x3F800000#32) (ix2 r j)
      = gy (fun k => x (ix2 r k)) (fun k => g (ix2 0 k)) (fun k => b (ix2 0 k)) (fun k => d (ix2 r k)) j := by
  rw [gy, ← dz_eq]
  pointwise [logi, out, cen, LayerNorm.inv, var, k0_pay13, k0_pay12, k0_pay11, k0_pay10, k0_pay9, k0_pay8, k0_pay7, k0_pay5, k0_pay4, k0_pay3]
  all_goals (simp only [zero_sub, mul_one])
  all_goals first | done | rfl

/-- What the body stores for the rows of a block. -/
theorem rows (x : FVec Ideal S256x512 .f32) (g b : FVec Ideal S1x512 .f32) (d : FVec Ideal S256x512 .f32) :
    k0_pay16 (F := Ideal) g (k0_pay3 x) (k0_pay5 x) (k0_pay6 x) (k0_pay9 x g b) (k0_pay11 x g b d) (k0_pay12 x g b d) (Scalar.ofBits .f32 0x3F800000#32)
      = fun i : S256x512.Idx => dx (Ideal.ofBits .f32 1140850688#32) (fun k => x (ix2 (i 0) k))
          (fun k => gy (fun k => x (ix2 (i 0) k)) (fun k => g (ix2 0 k)) (fun k => b (ix2 0 k)) (fun k => d (ix2 (i 0) k)) k * g (ix2 0 k)) (i 1) := by
  funext i; idx_vars i
  pointwise [dx, dcen, fac, cen, LayerNorm.inv, var, k0_pay16, k0_pay6, k0_pay5, k0_pay4, k0_pay3]
  all_goals (have h := fun r j => (congrArg (fun o => k0_pay13 (F := Ideal) (k0_pay9 x g b) (k0_pay11 x g b d) (k0_pay12 x g b d) o (ix2 r j)) one_bits).symm.trans (p13 x g b d r j))
  all_goals (simp only [h, zero_sub])
  all_goals first | done | rfl

/-- What a block adds to the scale's gradient. -/
theorem partG (x : FVec Ideal S256x512 .f32) (g b : FVec Ideal S1x512 .f32) (d : FVec Ideal S256x512 .f32) :
    k0_pay15 (F := Ideal) (k0_pay7 x) (k0_pay9 x g b) (k0_pay11 x g b d) (k0_pay12 x g b d) (Scalar.ofBits .f32 0x3F800000#32)
      = fun i : S1x512.Idx => ∑ r : Fin 256, cen (Ideal.ofBits .f32 1140850688#32) (fun k => x (ix2 r k)) (i 1) * LayerNorm.inv (Ideal.ofBits .f32 1140850688#32) (fun k => x (ix2 r k))
          * gy (fun k => x (ix2 r k)) (fun k => g (ix2 0 k)) (fun k => b (ix2 0 k)) (fun k => d (ix2 r k)) (i 1) := by
  funext i; idx_vars i
  pointwise [cen, LayerNorm.inv, var, k0_pay15, k0_pay7, k0_pay5, k0_pay4, k0_pay3]
  all_goals (have h := fun r j => (congrArg (fun o => k0_pay13 (F := Ideal) (k0_pay9 x g b) (k0_pay11 x g b d) (k0_pay12 x g b d) o (ix2 r j)) one_bits).symm.trans (p13 x g b d r j))
  all_goals (simp only [h, zero_sub])
  all_goals first | done | rfl

/-- What a block adds to the shift's gradient. -/
theorem partB (x : FVec Ideal S256x512 .f32) (g b : FVec Ideal S1x512 .f32) (d : FVec Ideal S256x512 .f32) :
    k0_pay14 (F := Ideal) (k0_pay9 x g b) (k0_pay11 x g b d) (k0_pay12 x g b d) (Scalar.ofBits .f32 0x3F800000#32)
      = fun i : S1x512.Idx => ∑ r : Fin 256, gy (fun k => x (ix2 r k)) (fun k => g (ix2 0 k)) (fun k => b (ix2 0 k)) (fun k => d (ix2 r k)) (i 1) := by
  funext i; idx_vars i
  pointwise [k0_pay14]
  all_goals (have h := fun r j => (congrArg (fun o => k0_pay13 (F := Ideal) (k0_pay9 x g b) (k0_pay11 x g b d) (k0_pay12 x g b d) o (ix2 r j)) one_bits).symm.trans (p13 x g b d r j))
  all_goals (simp only [h, zero_sub])
  all_goals first | done | rfl

/-- The accumulating steps. -/
theorem stepG (p a : FVec Ideal S1x512 .f32) (j : S1x512.Idx) : k0_pay1 (F := Ideal) p a j = a j + p j := by
  idx_vars j
  pointwise [k0_pay1]

/-- Where the scale and the cotangent are finite the two forms of the rows' gradient agree. -/
theorem real_cot [Cert.Pre_swish_bwd_finite.Facts] (x : FVec Ideal S2048x512 .f32) (g b : FVec Ideal S1x512 .f32) (d : FVec Ideal S2048x2048 .f32)
    (h0 : (Cert.Pre_swish_bwd_finite.fn (F := Ideal) x g b d).1 = fun _ => 1#1) (h1 : (Cert.Pre_swish_bwd_finite.fn (F := Ideal) x g b d).2 = fun _ => 1#1)
    (X G B : Fin 512 → EReal) (r : Fin 2048) (j : Fin 512) :
    ∃ a : ℝ, gy X G B (fun k => d (ix2 r ⟨1536 + k.val, by omega⟩)) j * g (ix2 0 j) = (a : EReal) := by
  obtain ⟨u, hu⟩ := Cert.Softmax.real_of_lt (g (ix2 0 j)) (congrFun h0 (ix2 0 j))
  have hd : ∃ a : ℝ, d (ix2 r ⟨1536 + j.val, by omega⟩) = (a : EReal) := by
    refine Cert.Softmax.real_of_lt _ ?_
    have h := congrFun h1 (ix2 r j)
    exact (by pointwise [] : d (ix2 r ⟨1536 + j.val, by omega⟩) = extractStridedSlice S2048x512 ![0, 1536] d Cert.Pre_swish_bwd_finite.Facts.slices_S2048x2048_S2048x512_0_1536 (ix2 r j)) ▸ h
  obtain ⟨v, hv⟩ := hd
  obtain ⟨w, hw⟩ := dz_real (out X G B j) v
  refine ⟨w * u, ?_⟩
  rw [EReal.coe_mul, ← hu, ← hw, ← hv]
  rfl

/-- The two forms of the rows' gradient. -/
theorem gradX0_eq [Cert.Pre_swish_bwd_finite.Facts] (x : FVec Ideal S2048x512 .f32) (g b : FVec Ideal S1x512 .f32) (d : FVec Ideal S2048x2048 .f32)
    (h0 : (Cert.Pre_swish_bwd_finite.fn (F := Ideal) x g b d).1 = fun _ => 1#1) (h1 : (Cert.Pre_swish_bwd_finite.fn (F := Ideal) x g b d).2 = fun _ => 1#1) :
    gradX0 x g b d = gradX x g b d := by
  funext i
  unfold gradX0 gradX
  rw [n_bits]
  exact dx_eq (by norm_num) _ _ (fun j => real_cot x g b d h0 h1 _ _ _ _ j) _

/-- Every window's block index. -/
theorem idx : ∀ t : Fin cfg0.N, win0_0.index t = ![t.val, 0] ∧ win0_1.index t = ![t.val, 3] ∧ win0_2.index t = ![0, 0]
    ∧ win0_3.index t = ![0, 0] ∧ win0_4.index t = ![t.val, 0] ∧ win0_5.index t = ![0, 0] ∧ win0_6.index t = ![0, 0] :=
  (by decide +kernel : ∀ t : Fin grid0.N, _)

/-- The array of the rows' gradient. -/
theorem final4 (c : Dev nD) :
    (dats m 0 c).arrAt 4 (cfgs 0).N
    = gradX0 (m ((c : Thread nD τ).loc main_arg0)) (m ((c : Thread nD τ).loc main_arg1)) (m ((c : Thread nD τ).loc main_arg2))
        (m ((c : Thread nD τ).loc main_arg3)) := by
  refine (dats m 0 c).arrAt_eq_of_covers 4 _ (by decide +kernel) fun t _ y => ?_
  blk_simp
  have hN : t.val < 8 := lt_of_lt_of_eq t.isLt N_0
  rw [after0_4]
  by_cases h : t.val % 8 = 0
  · rw [outsAt0_A m c t h (by omega)]; frame_out; rw [rows]
    blk_point [gradX0, iblk, V, idx t]
    all_goals (refine congrArg _ (Fin.ext ?_); blk_simp [idx t])
  · rw [outsAt0_B m c t h (by omega)]; frame_out; rw [rows]
    blk_point [gradX0, iblk, V, idx t]
    all_goals (refine congrArg _ (Fin.ext ?_); blk_simp [idx t])

/-- The array of the scale's gradient. -/
theorem final5 (c : Dev nD) : (dats m 0 c).arrAt 5 (cfgs 0).N
    = gradG (m ((c : Thread nD τ).loc main_arg0)) (m ((c : Thread nD τ).loc main_arg1)) (m ((c : Thread nD τ).loc main_arg2))
        (m ((c : Thread nD τ).loc main_arg3)) := by
  refine (dats m 0 c).arrAt_eq_of_after_last 5 t0_7 (by decide +kernel) _ fun j => ?_
  blk_simp
  rw [after0_5, Pipeline.eq_sum_fin_of_reset_step_apply_last (fun n h => (outsAt0 m c n h).2.1) 8 (fun _ => 0)
    (fun t => k0_pay15 (F := Ideal) (k0_pay7 (iblk m c 0 t)) (k0_pay9 (iblk m c 0 t) (iblk m c 2 t) (iblk m c 3 t))
      (k0_pay11 (iblk m c 0 t) (iblk m c 2 t) (iblk m c 3 t) (iblk m c 1 t)) (k0_pay12 (iblk m c 0 t) (iblk m c 2 t) (iblk m c 3 t) (iblk m c 1 t))
      (Scalar.ofBits .f32 0x3F800000#32))
    (fun t h j => by
      have hN : t.val < 8 := lt_of_lt_of_eq t.isLt N_0
      rw [outsAt0_A m c t h (by omega)]; frame_out; exact (zero_add _).symm)
    (fun t h j => by
      have hN : t.val < 8 := lt_of_lt_of_eq t.isLt N_0
      rw [outsAt0_B m c t h (by omega)]; frame_out; exact stepG _ _ j)
    (le_of_eq N_0) t0_7 rfl j, zero_add]
  simp only [partG]
  refine Fin.sum_mul_add_congr (L := 2048) (S := 8) (n := 256) fun s k hl => ?_
  blk_point [gradG, gradB, iblk, V, idx s]

/-- The array of the shift's gradient. -/
theorem final6 (c : Dev nD) : (dats m 0 c).arrAt 6 (cfgs 0).N
    = gradB (m ((c : Thread nD τ).loc main_arg0)) (m ((c : Thread nD τ).loc main_arg1)) (m ((c : Thread nD τ).loc main_arg2))
        (m ((c : Thread nD τ).loc main_arg3)) := by
  refine (dats m 0 c).arrAt_eq_of_after_last 6 t0_7 (by decide +kernel) _ fun j => ?_
  blk_simp
  rw [after0_6, Pipeline.eq_sum_fin_of_reset_step_apply_last (fun n h => (outsAt0 m c n h).2.2) 8 (fun _ => 0)
    (fun t => k0_pay14 (F := Ideal) (k0_pay9 (iblk m c 0 t) (iblk m c 2 t) (iblk m c 3 t))
      (k0_pay11 (iblk m c 0 t) (iblk m c 2 t) (iblk m c 3 t) (iblk m c 1 t)) (k0_pay12 (iblk m c 0 t) (iblk m c 2 t) (iblk m c 3 t) (iblk m c 1 t))
      (Scalar.ofBits .f32 0x3F800000#32))
    (fun t h j => by
      have hN : t.val < 8 := lt_of_lt_of_eq t.isLt N_0
      rw [outsAt0_A m c t h (by omega)]; frame_out; exact (zero_add _).symm)
    (fun t h j => by
      have hN : t.val < 8 := lt_of_lt_of_eq t.isLt N_0
      rw [outsAt0_B m c t h (by omega)]; frame_out; exact stepG _ _ j)
    (le_of_eq N_0) t0_7 rfl j, zero_add]
  simp only [partB]
  refine Fin.sum_mul_add_congr (L := 2048) (S := 8) (n := 256) fun s k hl => ?_
  blk_point [gradG, gradB, iblk, V, idx s]

end Cert.Swish

/-- Where the scale and the cotangent are finite the kernel's three gradients are the reference's. -/
theorem Cert.Swish.pair : Cert.algebraic_SwishBwdIdeal_SwishBwdRefIdeal_pre_swish_bwd_finite := by
  pair_intro
  · run_from Cert.SwishBwdIdeal.Value.run_blocks m g
  · refine Idealize.ShloMosaic.θ_run_mono (Cert.SwishBwdRefIdeal.Value.run m' g') fun r hr c => ?_
    obtain ⟨h0, h1, h2, k⟩ := hr c
    obtain ⟨a0, a1, a2, a3⟩ := hagree c
    refine ⟨h0.trans ((Cert.SwishBwdRefIdeal.Read.val_main_v60_eq m' c).trans ?_),
      h1.trans ((Cert.SwishBwdRefIdeal.Read.val_main_v34_eq m' c).trans ?_),
      h2.trans ((Cert.SwishBwdRefIdeal.Read.val_main_v31_eq m' c).trans ?_), k⟩
    · rw [a0, a1, a2, a3, ← Cert.Swish.gradX_eq, ← Cert.Swish.gradX0_eq _ _ _ _ (hpre c).1 (hpre c).2]
      exact (Cert.Swish.final4 m c).symm
    · rw [a0, a1, a2, a3, ← Cert.Swish.gradG_eq]; exact (Cert.Swish.final5 m c).symm
    · rw [a0, a1, a2, a3, ← Cert.Swish.gradB_eq]; exact (Cert.Swish.final6 m c).symm

end
-- ==== Proof.AttnOut.lean ====
/- The attention over the memory: the kernel's array is the reference's. -/
module

public import proofs.«01_k».proof.Proof.Gen.AttnFwdIdeal.Value
public import proofs.«01_k».proof.Proof.Gen.AttnFwdRefIdeal.Read
public import Idealize.ShloMosaic.Lib.Pipeline.ValueKit
public import proofs.«01_k».proof.Proof.AttnGrads
public import proofs.«01_k».proof.Defs

@[expose] public section

set_option maxRecDepth 16384

noncomputable section

namespace Cert.AttnOut

open Cert.AttnFwdIdeal Cert.AttnFwdIdeal.Gen Idealize.ShloMosaic Idealize.ShloMosaic.TcCoe Idealize.SL.Sem
open Idealize.ShloMosaic.Pipeline (Dat)

variable (m : (ℓ : Loc nD τ sig) → Buf (Elt Ideal) ℓ)

open Cert.Softmax
open Cert.Attn (dots bdots prob head scale)

/-- The windows' block numbers at each point. -/
theorem idx : ∀ t : Fin cfg0.N, win0_0.index t = ![0, t.val] ∧ win0_1.index t = ![0, t.val] ∧ win0_2.index t = ![0, t.val] ∧ win0_3.index t = ![0, t.val] :=
  (by decide +kernel : ∀ t : Fin grid0.N, _)

/-- The attention's rows. -/
def attn (q : FVec Ideal S2048x2048 .bf16) (k v : FVec Ideal S256x2048 .bf16) : FVec Ideal S2048x2048 .bf16 := fun i =>
  ∑ x : Fin 256, prob (dots q k (head (i 1)) (i 0)) x * v (ix2 x (i 1))

open Cert.AttnFwdRefIdeal.Read in
/-- The reference's exponentials. -/
theorem e_at (q : FVec Ideal S2048x2048 .bf16) (k : FVec Ideal S256x2048 .bf16) (h : Fin 4) (i : Fin 2048) (j : Fin 256) :
    val_main_v15 (F := Ideal) q k (ix3 h i j) = expo (fun x => dots q k h i x * scale) j := by
  pointwise [val_main_v15, val_main_v14, val_main_v13, val_main_v12, val_main_v11, val_main_v10, val_main_v9, val_main_v8, val_main_v7, val_main_v6, val_main_v4, val_main_v3, val_main_v1, val_main_v0, val_main_cst, val_main_cst_0, val_main_cst_1]
  exact congrArg (fun t => Ideal.exp (dots q k h i j * scale - t)) (max_top (fun x => dots q k h i x * scale))

open Cert.AttnFwdRefIdeal.Read in
/-- The reference's sums of exponentials. -/
theorem l_at (q : FVec Ideal S2048x2048 .bf16) (k : FVec Ideal S256x2048 .bf16) (h : Fin 4) (i : Fin 2048) :
    val_main_v16 (F := Ideal) q k (ix2 h i) = ∑ x, expo (fun x => dots q k h i x * scale) x := by
  pointwise [val_main_v16, val_main_cst_2]
  exact Finset.sum_congr rfl fun x _ => e_at q k h i x

open Cert.AttnFwdRefIdeal.Read in
/-- The reference's rows. -/
theorem attn_eq (q : FVec Ideal S2048x2048 .bf16) (k v : FVec Ideal S256x2048 .bf16) : attn q k v = val_main_v23 (F := Ideal) q k v := by
  funext i; idx_vars i
  pointwise [val_main_v23, val_main_v22, val_main_v21, val_main_v20, val_main_v19, val_main_v18, val_main_v17]
  refine Finset.sum_congr rfl fun x _ => ?_
  rw [e_at, l_at]
  refine (mul_comm _ _).trans (congrArg₂ (· * ·) ?_ rfl)
  pointwise [attn, val_main_v5, val_main_v2]

/-- The block of the attention's rows. -/
theorem rows (q : FVec Ideal S2048x512 .bf16) (k v : FVec Ideal S256x512 .bf16) :
    k0_pay1 (F := Ideal) q k v = fun i => ∑ x : Fin 256, prob (bdots q k (i 0)) x * v (ix2 x (i 1)) := by
  funext i; idx_vars i
  pointwise [k0_pay1]
  rfl

/-- A point's head. -/
def hd (t : Fin cfg0.N) : Fin 4 := ⟨t.val, lt_of_lt_of_eq t.isLt N_0⟩

/-- A point's block of queries and keys: their head's products. -/
theorem qk (c : Dev nD) (t : Fin cfg0.N) : bdots (iblk m c 0 t) (iblk m c 1 t) = dots (m ((c : Thread nD τ).loc main_arg0)) (m ((c : Thread nD τ).loc main_arg1)) (hd t) := by
  funext i j
  have hN : t.val < 4 := lt_of_lt_of_eq t.isLt N_0
  blk_point [bdots, dots, hd, iblk, V, idx t]

/-- The array of the attention's rows. -/
theorem final3 (c : Dev nD) : (dats m 0 c).arrAt 3 (cfgs 0).N = attn (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  have hN : t.val < 4 := lt_of_lt_of_eq t.isLt N_0
  rw [after0_3]
  frame_out
  rw [rows, qk]
  refine (Finset.sum_congr rfl fun x _ => congrArg₂ (· * ·) (congrArg₂ (fun h r => prob (dots (m ((c : Thread nD τ).loc main_arg0)) (m ((c : Thread nD τ).loc main_arg1)) h r) x) (Fin.ext ?_) (Fin.ext ?_)) ?_ : (_ : EReal) = _)
  · have h1 : (y 1).val < 512 := (y 1).isLt
    simp only [hd, head]; blk_simp [idx t]; omega
  · blk_simp [idx t]
  · blk_point [iblk, V, idx t]

/-- The same array is the reference's. -/
theorem final (c : Dev nD) : (dats m 0 c).arrAt 3 (cfgs 0).N = Cert.AttnFwdRefIdeal.Read.val_main_v23 (F := Ideal) (m ((c : Thread nD τ).loc main_arg0)) (m ((c : Thread nD τ).loc main_arg1)) (m ((c : Thread nD τ).loc main_arg2)) :=
  (final3 m c).trans (attn_eq _ _ _)

end Cert.AttnOut

/-- The kernel's attention is the reference's. -/
theorem Cert.AttnOut.pair : Cert.algebraic_AttnFwdIdeal_AttnFwdRefIdeal := by
  pair_intro
  · run_from Cert.AttnFwdIdeal.Value.run_blocks m g
  · refine Idealize.ShloMosaic.θ_run_mono (Cert.AttnFwdRefIdeal.Value.run m' g') fun r hr c => ?_
    obtain ⟨h0, k⟩ := hr c
    obtain ⟨a0, a1, a2⟩ := hagree c
    refine ⟨h0.trans ((Cert.AttnFwdRefIdeal.Read.val_main_v23_eq _ _ _).trans ?_), k⟩
    rw [a0, a1, a2]
    exact (Cert.AttnOut.final m c).symm

end
-- ==== Proof.GmlpOut.lean ====
/- The spatial gating unit, kernel against reference. -/
module

public import proofs.«01_k».proof.Proof.Gen.GmlpFwdIdeal.Value
public import proofs.«01_k».proof.Proof.Gen.GmlpFwdRefIdeal.Read
public import Idealize.ShloMosaic.Lib.Pipeline.ValueKit
public import proofs.«01_k».proof.Proof.GmlpChunk
public import proofs.«01_k».proof.Defs

@[expose] public section

set_option maxRecDepth 16384

noncomputable section

namespace Cert.GmlpOut

open Cert.GmlpFwdIdeal Cert.GmlpFwdIdeal.Gen Idealize.ShloMosaic Idealize.ShloMosaic.TcCoe Idealize.SL.Sem
open Idealize.ShloMosaic.Pipeline (Dat)

variable (m : (ℓ : Loc nD τ sig) → Buf (Elt Ideal) ℓ)

open Cert.LayerNorm
open Cert.Gmlp (gel th mix vn vh wm zu zv ch M Mg Mw Mb tri tri0 cube)

/-- The arrays the call reads. -/
abbrev Z (c : Dev nD) : FVec Ideal S2048x3584 .f32 := m ((c : Thread nD τ).loc main_arg0)
/-- The scales. -/
abbrev Gv (c : Dev nD) : FVec Ideal S8x128 .f32 := m ((c : Thread nD τ).loc main_arg1)
/-- The mixing matrices. -/
abbrev Ws (c : Dev nD) : FVec Ideal S8x128x128 .f32 := m ((c : Thread nD τ).loc main_arg2)
/-- The shifts. -/
abbrev Bs (c : Dev nD) : FVec Ideal S8x128 .f32 := m ((c : Thread nD τ).loc main_arg3)

section
variable (a v : FVec Ideal S128x128 .f32) (g : FVec Ideal S1x1x128 .f32) (w : FVec Ideal S1x128x128 .f32) (b : FVec Ideal S1x128x1 .f32)

/-- The gate of the first half. -/
theorem k2 (r c : Fin 128) : k0_pay2 (F := Ideal) a (ix2 r c) = gel (M a r c) := by
  pointwise [gel, th, Gmlp.M, k0_pay2]

/-- The centred gate of the second half. -/
theorem k3 (r c : Fin 128) : k0_pay3 (F := Ideal) v (ix2 r c) = cen (Ideal.ofBits .f32 1124073472#32) (fun k => gel (M v r k)) c := by
  pointwise [gel, th, Gmlp.M, cen, k0_pay3]

/-- Its mean square. -/
theorem k4 (r : Fin 128) : k0_pay4 (F := Ideal) v (ix2 r 0) = Ideal.div (∑ k, cen (Ideal.ofBits .f32 1124073472#32) (fun k => gel (M v r k)) k * cen (Ideal.ofBits .f32 1124073472#32) (fun k => gel (M v r k)) k) (Ideal.ofBits .f32 1124073472#32) := by
  pointwise [k0_pay4]
  simp only [k3]

/-- A chunk's rows. -/
def E : FVec Ideal S128x128 .bf16 := k0_pay1 (F := Ideal) g w b (k0_pay2 a) (k0_pay3 v) (k0_pay4 v) (FloatOps.ofBits FTy.f32 0x3727C5AC#32)

/-- A chunk's rows are the gate times the mixed rows. -/
theorem e_at (r c : Fin 128) : E a v g w b (ix2 r c) = gel (M a r c) * mix (M v) (Mw w) (Mg g) (Mb b) r c := by
  unfold E
  pointwise [mix, wm, vn, vh, LayerNorm.inv, Mw, Mg, Mb, k0_pay1]
  simp only [k2, k3, k4, tri0, var, ite_mul, zero_mul]
end

section
variable (z : FVec Ideal S2048x3584 .f32) (g : FVec Ideal S8x128 .f32) (w : FVec Ideal S8x128x128 .f32) (b : FVec Ideal S8x128 .f32)
open Cert.GmlpFwdRefIdeal.Read

/-- The reference's gate. -/
theorem r13 (r c : Fin 2048) : val_main_v13 (F := Ideal) z (ix2 r c) = gel (z (ix2 r ⟨c.val, by omega⟩)) := by
  pointwise [val_main_v13, val_main_v12, val_main_v11, val_main_cst_2, val_main_v10, val_main_v9, val_main_cst_1, val_main_v8, val_main_v7, val_main_v6, val_main_cst_0, val_main_v5, val_main_v4, val_main_v3, val_main_cst, val_main_v2, val_main_v1, val_main_v0]
  simp only [cube, gel, th, zero_add]

/-- The reference's gate of the second half, in heads. -/
theorem r17 (n : Fin 16) (h : Fin 8) (r c : Fin 128) :
    val_main_v17 (F := Ideal) z (ix3 ⟨n.val * 128 + r.val, by omega⟩ h c) = gel (zv z n h r c) := by
  pointwise [val_main_v17, val_main_v15, zv, ch]
  rw [r13]

/-- The reference's scaled rows. -/
theorem r41 (n : Fin 16) (h : Fin 8) (r c : Fin 128) :
    val_main_v41 (F := Ideal) z g (ix4 n r h c) = vn (zv z n h) (fun k => g (ix2 h k)) r c := by
  pointwise [vn, vh, cen, LayerNorm.inv, var, val_main_v41, val_main_v38, val_main_v37, val_main_v36, val_main_v35, val_main_v34, val_main_v33, val_main_v32, val_main_v31, val_main_cst_7, val_main_v30, val_main_v29, val_main_v28, val_main_v27, val_main_cst_6, val_main_v26, val_main_v25, val_main_cst_5, val_main_v24, val_main_v23, val_main_v22, val_main_v21, val_main_v20, val_main_cst_4, val_main_v19, val_main_v18, val_main_cst_3]
  simp only [r17]

/-- The reference's triangle. -/
theorem r44 (h : Fin 8) (i k : Fin 128) :
    val_main_v44 (F := Ideal) w (ix3 h i k) = wm (fun i k => w (ix3 h i k)) i k := by
  pointwise [wm, val_main_v44, val_main_v43, val_main_v42, val_main_v40, val_main_call0_v5, val_main_call0_cst, val_main_call0_v4, val_main_call0_v3, val_main_call0_v2, val_main_call0_v1, val_main_call0_c, val_main_call0_v0, val_main_v39, val_main_cst_8]
  rw [tri]

/-- The reference's rows. -/
theorem ref_at (n : Fin 16) (h : Fin 8) (r c : Fin 128) :
    val_main_v54 (F := Ideal) z g w b (ix2 ⟨n.val * 128 + r.val, by omega⟩ ⟨h.val * 128 + c.val, by omega⟩)
      = gel (zu z n h r c) * mix (zv z n h) (fun i k => w (ix3 h i k)) (fun k => g (ix2 h k)) (fun k => b (ix2 h k)) r c := by
  pointwise [mix, zu, ch, val_main_v54, val_main_v53, val_main_v52, val_main_v51, val_main_v50, val_main_v49, val_main_v48, val_main_v47, val_main_v46, val_main_v45, val_main_v16, val_main_v14]
  simp only [r41, r44, r13, zero_add]
  refine congrArg₂ (· * ·) rfl (congrArg (· + _) (Finset.sum_congr rfl fun k _ => mul_comm _ _))
end

/-- The loop runs sixteen times. -/
theorem trips : k0_t1_loop.trips = 16 := by decide +kernel

/-- The head a step of the grid works on. -/
abbrev hd (t : Fin cfg0.N) : Fin 8 := ⟨t.val, lt_of_lt_of_eq t.isLt N_0⟩
/-- The chunk of trip `k`. -/
abbrev cn (k : Fin k0_t1_loop.trips) : Fin 16 := ⟨k.val, lt_of_lt_of_eq k.isLt trips⟩

/-- What the trips before `n` store. -/
abbrev PB (c : Dev nD) (t : Fin cfg0.N) (n : ℕ) := pb_k0_t1 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (iblk m c 2 t) (iblk m c 3 t) (iblk m c 4 t) ((hs0_0 t).unread (iblk m c 0 t)) ((hs0_1 t).unread (iblk m c 1 t)) n
/-- What trip `k` stores. -/
abbrev TL (c : Dev nD) (t : Fin cfg0.N) (k : Fin k0_t1_loop.trips) := tripL_k0_t1 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (iblk m c 2 t) (iblk m c 3 t) (iblk m c 4 t) ((hs0_0 t).unread (iblk m c 0 t)) ((hs0_1 t).unread (iblk m c 1 t)) k

/-- Every window's block index. -/
theorem idx : ∀ t : Fin cfg0.N, win0_0.index t = ![0, t.val] ∧ win0_1.index t = ![0, 8 + t.val]
    ∧ win0_2.index t = ![t.val, 0, 0] ∧ win0_3.index t = ![t.val, 0, 0] ∧ win0_4.index t = ![t.val, 0, 0] ∧ win0_5.index t = ![0, t.val] :=
  (by decide +kernel : ∀ t : Fin grid0.N, _)

/-- The rows of a chunk in its block. -/
theorem emb (k : Fin k0_t1_loop.trips) (h) (x : S128x128.Idx) :
    (Rect.unit (s := S2048x128) (k0_off1 k) ![128, 128] h).emb x
    = ix2 ⟨(cn k).val * 128 + (x 0).val, by have := (cn k).isLt; have := (x 0).isLt; change _ < 128 at this; omega⟩ ⟨(x 1).val, (x 1).isLt⟩ := by
  have e := k0_off1_eq k
  funext a
  refine Fin.ext ?_
  show k0_off1 k a + 1 * (x a).val = _
  rw [e]
  match a with
  | 0 => show 128 * k.val + 1 * (x 0).val = k.val * 128 + (x 0).val; omega
  | 1 => show 0 + 1 * (x 1).val = (x 1).val; omega

/-- The chunk of the first gate's argument. -/
theorem ld0 (c : Dev nD) (t : Fin cfg0.N) (k : Fin k0_t1_loop.trips) (h) :
    M (View.ld (iblk m c 0 t) (Rect.unit (s := S2048x128) (k0_off1 k) ![128, 128] h)) = zu (Z m c) (cn k) (hd t) := by
  funext r s
  show iblk m c 0 t ((Rect.unit (s := S2048x128) (k0_off1 k) ![128, 128] h).emb (ix2 r s)) = _
  rw [emb]
  blk_point [iblk, V, zu, ch, idx t]

/-- The chunk of the second gate's argument. -/
theorem ld1 (c : Dev nD) (t : Fin cfg0.N) (k : Fin k0_t1_loop.trips) (h) :
    M (View.ld (iblk m c 1 t) (Rect.unit (s := S2048x128) (k0_off1 k) ![128, 128] h)) = zv (Z m c) (cn k) (hd t) := by
  funext r s
  show iblk m c 1 t ((Rect.unit (s := S2048x128) (k0_off1 k) ![128, 128] h).emb (ix2 r s)) = _
  rw [emb]
  blk_point [iblk, V, zv, ch, idx t]

/-- The mixing matrix of the head. -/
theorem blk3 (c : Dev nD) (t : Fin cfg0.N) : Mw (iblk m c 3 t) = fun i k => Ws m c (ix3 (hd t) i k) := by
  funext i k
  blk_point [Mw, iblk, V, idx t]

/-- The scales as the call reads them. -/
theorem host0 (c : Dev nD) : V m c main_v0 = fun i : S8x1x128.Idx => Gv m c (ix2 (i 0) (i 2)) := by
  entry_read
  funext i; idx_vars i
  pointwise []

/-- The shifts as the call reads them. -/
theorem host1 (c : Dev nD) : V m c main_v1 = fun i : S8x128x1.Idx => Bs m c (ix2 (i 0) (i 1)) := by
  entry_read
  funext i; idx_vars i
  pointwise []

/-- The scale of the head. -/
theorem blk2 (c : Dev nD) (t : Fin cfg0.N) : Mg (iblk m c 2 t) = fun k => Gv m c (ix2 (hd t) k) := by
  funext k
  have h := host0 m c
  blk_point [Mg, iblk, idx t, h]

/-- The shift of the head. -/
theorem blk4 (c : Dev nD) (t : Fin cfg0.N) : Mb (iblk m c 4 t) = fun k => Bs m c (ix2 (hd t) k) := by
  funext k
  have h := host1 m c
  blk_point [Mb, iblk, idx t, h]

/-- The reference at a place of a block. -/
def blkY (c : Dev nD) (t : Fin cfg0.N) (y : S2048x128.Idx) : EReal :=
  Cert.GmlpFwdRefIdeal.Read.val_main_v54 (F := Ideal) (Z m c) (Gv m c) (Ws m c) (Bs m c)
    (ix2 (y 0) ⟨(hd t).val * 128 + (y 1).val, by have := (hd t).isLt; have := (y 1).isLt; change _ < 128 at this; omega⟩)

section
variable (c : Dev nD) (t : Fin cfg0.N) (k : Fin k0_t1_loop.trips)

/-- A chunk's rows are the reference's. -/
theorem atY (h0 h1 h3) (x : S128x128.Idx) :
    E (View.ld (iblk m c 0 t) (Rect.unit (s := S2048x128) (k0_off1 k) ![128, 128] h0))
      (View.ld (iblk m c 1 t) (Rect.unit (s := S2048x128) (k0_off1 k) ![128, 128] h1)) (iblk m c 2 t) (iblk m c 3 t) (iblk m c 4 t) x
    = blkY m c t ((Rect.unit (s := S2048x128) (k0_off1 k) ![128, 128] h3).emb x) := by
  idx_vars x
  rw [e_at, ld0, ld1, blk2, blk3, blk4, emb]
  exact (ref_at ..).symm

/-- What a trip stores is the reference's. -/
theorem tripY : ∀ p ∈ TL m c t k, ∀ x, p.2 x = blkY m c t (p.1.emb x) := by
  unfold TL tripL_k0_t1
  unfold trip_k0_t1
  dsimp only
  frame_out
  intro p hp
  simp only [List.mem_cons, List.not_mem_nil, or_false] at hp
  obtain rfl := hp
  intro x
  exact atY m c t k _ _ (k0_off1_inb k) x

/-- All that the trips store is the reference's. -/
theorem stY (n : ℕ) (hn : n ≤ 16) : ∀ p ∈ PB m c t n, ∀ x, p.2 x = blkY m c t (p.1.emb x) := by
  induction n with
  | zero => intro p hp; exact absurd hp List.not_mem_nil
  | succ n ih =>
    have h := pb_k0_t1_succ (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (iblk m c 2 t) (iblk m c 3 t) (iblk m c 4 t) ((hs0_0 t).unread (iblk m c 0 t)) ((hs0_1 t).unread (iblk m c 1 t)) ⟨n, hn.trans_eq trips.symm⟩
    intro p hm
    rcases List.mem_append.1 ((congrArg (p ∈ ·) h).mp hm) with h | h
    · exact tripY m c t _ p h
    · exact ih (by omega) p h
end

/-- The trips' stores cover the block. -/
theorem cover (c : Dev nD) (t : Fin cfg0.N) (y : S2048x128.Idx) : ∃ p ∈ PB m c t 16, y ∈ p.1.set :=
  View.cover_of_tiledL (PB m c t 16) S128x128.size (by sl_kernel_rfl) y

/-- The array of the rows. -/
theorem final (c : Dev nD) : (dats m 0 c).arrAt 5 (cfgs 0).N
    = Cert.GmlpFwdRefIdeal.Read.val_main_v54 (F := Ideal) (Z m c) (Gv m c) (Ws m c) (Bs m c) := by
  refine (dats m 0 c).arrAt_eq_of_covers 5 _ (by decide +kernel) fun t _ y => ?_
  blk_simp
  rw [after0_5]
  unfold outsAt0
  dsimp only
  frame_out
  refine (View.canon_apply_of_pieces (blkY m c t) _ (stY m c t 16 le_rfl) y (cover m c t y)).trans ?_
  unfold blkY
  refine congrArg _ (funext fun a => Fin.ext ?_)
  idx_vars y
  match a with
  | 0 => blk_simp [idx t]
  | 1 => blk_simp [idx t]

end Cert.GmlpOut

/-- The kernel's rows are the reference's. -/
theorem Cert.GmlpOut.pair : Cert.algebraic_GmlpFwdIdeal_GmlpFwdRefIdeal := by
  pair_intro
  · run_from Cert.GmlpFwdIdeal.Value.run_blocks m g
  · refine Idealize.ShloMosaic.θ_run_mono (Cert.GmlpFwdRefIdeal.Value.run m' g') fun r hr c => ?_
    obtain ⟨h0, k⟩ := hr c
    obtain ⟨a0, a1, a2, a3⟩ := hagree c
    refine ⟨h0.trans ((Cert.GmlpFwdRefIdeal.Read.val_main_v54_eq _ _).trans ?_), k⟩
    rw [a0, a1, a2, a3]
    exact (Cert.GmlpOut.final m c).symm

end
-- ==== Proof.PoolOut.lean ====
/- The pooling, kernel against reference. -/
module

public import proofs.«01_k».proof.Proof.Gen.PoolFwdIdeal.Value
public import proofs.«01_k».proof.Proof.Gen.PoolFwdRefIdeal.Read
public import Idealize.ShloMosaic.Lib.Pipeline.ValueKit
public import proofs.«01_k».proof.Proof.PoolGrads
public import proofs.«01_k».proof.Proof.Gen.Pre_pool_fwd_finite
public import proofs.«01_k».proof.Defs

@[expose] public section

set_option maxRecDepth 16384

noncomputable section

namespace Cert.PoolOut

open Cert.PoolFwdIdeal Cert.PoolFwdIdeal.Gen Idealize.ShloMosaic Idealize.ShloMosaic.TcCoe Idealize.SL.Sem
open Idealize.ShloMosaic.Pipeline (Dat)

variable (m : (ℓ : Loc nD τ sig) → Buf (Elt Ideal) ℓ)

open Cert.Pool (pc pool wn wb col quo stDn dn2 dn4 dn8 dn16 back quo_at)

section
variable (z : FVec Ideal S2048x3584 .f32) (w : FVec Ideal S4x128x128 .f32) (s : FVec Ideal S1x512 .f32)

/-- The pooled rows through a group's matrix and scale. -/
def mixed (g : Fin 4) (c : Fin 128) (r : Fin 2048) : EReal :=
  (∑ k : Fin 128, pool z g k r * w (ix3 g k c)) * s (ix2 0 ⟨g.val * 128 + c.val, by omega⟩)

/-- The pooled rows of the reference are those of the gradient's reference. -/
theorem pooled_eq : Cert.PoolFwdRefIdeal.Read.val_main_v59 (F := Ideal) z = Cert.PoolBwdRefIdeal.Read.val_main_v60 (F := Ideal) z := rfl

open Cert.PoolFwdRefIdeal.Read in
/-- The reference at a group's place. -/
theorem ref_at (hz : ∀ r g c, ∃ q : ℝ, pc z g c r = (q : EReal)) (r : Fin 2048) (g : Fin 4) (c : Fin 128) :
    val_main_v67 (F := Ideal) z w s (ix2 r ⟨g.val * 128 + c.val, by omega⟩) = mixed z w s g c r := by
  pointwise [val_main_v67, val_main_v66, val_main_v65, val_main_v64, val_main_v63, val_main_v62, val_main_v61, val_main_v60, mixed]
  refine congrArg (· * _) (Finset.sum_congr rfl fun k _ => ?_)
  rw [pooled_eq, Cert.Pool.r60 z hz, mul_comm]

/-- A group's block: the pooled rows `Q - P` through the matrix and the scale. -/
def outV (P Q : FVec Ideal S2048x128 .f32) (W : FVec Ideal S1x128x128 .f32) (S : FVec Ideal S1x128 .f32) : FVec Ideal S2048x128 .bf16 :=
  truncf .bf16 (mulf (matmul dot_S2048x128_S128x128_S2048x128_1_0_0_1_n_n none (truncf .bf16 (subf Q P) Gen.facts.bitsLt_bf16_f32)
    (truncf .bf16 (k0_pay3 W) Gen.facts.bitsLt_bf16_f32) (constant S2048x128 .f32 0x00000000#32)) (broadcastTo S2048x128 S Gen.facts.broadcasts_S1x128_S2048x128)) Gen.facts.bitsLt_bf16_f32

/-- The block at a place. -/
theorem outV_at (P Q : FVec Ideal S2048x128 .f32) (W : FVec Ideal S1x128x128 .f32) (S : FVec Ideal S1x128 .f32) (r : Fin 2048) (c : Fin 128) :
    outV P Q W S (ix2 r c) = (∑ k : Fin 128, (Q (ix2 r k) - P (ix2 r k)) * W (ix3 0 k c)) * S (ix2 0 c) := by
  pointwise [outV, k0_pay3]

/-- The block of group 0. -/
theorem o0 (P : FVec Ideal S2048x128 .f32) (W : FVec Ideal S1x128x128 .f32) (S : FVec Ideal S1x128 .f32) :
    k0_pay2 (F := Ideal) P W S = outV P (quo 0x40000000#32 (stDn 1#32 P)) W S := rfl
/-- The block of group 1. -/
theorem o1 (P : FVec Ideal S2048x128 .f32) (W : FVec Ideal S1x128x128 .f32) (S : FVec Ideal S1x128 .f32) :
    k0_pay6 (F := Ideal) P (k0_pay3 W) S (k0_pay4 P) (iota .tc S2048x128 32 [0] Gen.facts.iota_S2048x128_d0_w32) k0_pay5 = outV P (quo 0x40800000#32 (stDn 2#32 (stDn 1#32 P))) W S := rfl
/-- The block of group 2. -/
theorem o2 (P : FVec Ideal S2048x128 .f32) (W : FVec Ideal S1x128x128 .f32) (S : FVec Ideal S1x128 .f32) :
    k0_pay10 (F := Ideal) P (k0_pay7 W) S (k0_pay8 P) (k0_pay9 P) = outV P (quo 0x41000000#32 (stDn 4#32 (stDn 2#32 (stDn 1#32 P)))) W S := rfl
/-- The block of group 3. -/
theorem o3 (P : FVec Ideal S2048x128 .f32) (W : FVec Ideal S1x128x128 .f32) (S : FVec Ideal S1x128 .f32) :
    k0_pay1 (F := Ideal) P (k0_pay11 W) S (k0_pay12 P) = outV P (quo 0x41800000#32 (stDn 8#32 (stDn 4#32 (stDn 2#32 (stDn 1#32 P))))) W S := rfl

/-- An index of the rows by its group and its column. -/
theorem ix2_of (y : S2048x512.Idx) (g : Fin 4) (r : Fin 2048) (c : Fin 128) (h0 : (y 0).val = r.val) (h1 : (y 1).val = g.val * 128 + c.val) :
    y = (ix2 r ⟨g.val * 128 + c.val, by omega⟩ : S2048x512.Idx) :=
  funext fun a => match a with | 0 => Fin.ext h0 | 1 => Fin.ext h1

/-- A group's block at a place. -/
theorem outG (g : Fin 4) (P Y : FVec Ideal S2048x128 .f32) (W : FVec Ideal S1x128x128 .f32) (S : FVec Ideal S1x128 .f32)
    (hP : ∀ r (k : Fin 128), P (ix2 r k) = z (ix2 r ⟨2048 + (g.val * 128 + k.val), by omega⟩))
    (hW : ∀ c k, W (ix3 0 c k) = w (ix3 g c k)) (hS : ∀ k : Fin 128, S (ix2 0 k) = s (ix2 0 ⟨g.val * 128 + k.val, by omega⟩))
    (hY : ∀ c, col Y c = back (wn g) (col P c)) (r : Fin 2048) (c : Fin 128) :
    outV P (quo (wb g) Y) W S (ix2 r c) = mixed z w s g c r := by
  rw [outV_at, hS, mixed]
  refine congrArg (· * _) (Finset.sum_congr rfl fun k _ => ?_)
  rw [hW, quo_at, hP]
  refine congrArg (fun x => (Ideal.div x _ - _) * _) ((congrFun (hY k) r).trans ?_)
  exact congrArg (fun x => back (wn g) x r) (funext fun r => hP r k)

/-- A group's block is the reference's. -/
theorem outP (g : Fin 4) (P Y : FVec Ideal S2048x128 .f32) (W : FVec Ideal S1x128x128 .f32) (S : FVec Ideal S1x128 .f32)
    (hP : ∀ r (k : Fin 128), P (ix2 r k) = z (ix2 r ⟨2048 + (g.val * 128 + k.val), by omega⟩))
    (hW : ∀ c k, W (ix3 0 c k) = w (ix3 g c k)) (hS : ∀ k : Fin 128, S (ix2 0 k) = s (ix2 0 ⟨g.val * 128 + k.val, by omega⟩))
    (hz : ∀ r g c, ∃ q : ℝ, pc z g c r = (q : EReal)) (A : FVec Ideal S2048x128 .bf16)
    (hA : A = outV P (quo (wb g) Y) W S) (hY : ∀ c, col Y c = back (wn g) (col P c)) (y : S2048x512.Idx) (x : S2048x128.Idx)
    (h0 : (y 0).val = (x 0).val) (h1 : (y 1).val = g.val * 128 + (x 1).val) : A x = Cert.PoolFwdRefIdeal.Read.val_main_v67 (F := Ideal) z w s y := by
  rw [ix2_of y g (x 0) (x 1) h0 h1, ref_at z w s hz (x 0) g (x 1), hA]
  refine Eq.trans (congrArg _ ?_) (outG z w s g P Y W S hP hW hS hY (x 0) (x 1))
  exact funext fun a => match a with | 0 => rfl | 1 => rfl

/-- The stored rows. -/
theorem out3 (x0 : FVec Ideal S2048x512 .f32) (x1 : FVec Ideal S4x128x128 .f32) (x2 : FVec Ideal S1x512 .f32)
    (e0 : ∀ r (j : Fin 512), x0 (ix2 r j) = z (ix2 r ⟨2048 + j.val, by omega⟩))
    (e1 : ∀ g c k, x1 (ix3 g c k) = w (ix3 g c k)) (e2 : ∀ j, x2 (ix2 0 j) = s (ix2 0 j))
    (hz : ∀ r g c, ∃ q : ℝ, pc z g c r = (q : EReal)) (y : S2048x512.Idx) :
    out0_3 (F := Ideal) x0 x1 x2 y = Cert.PoolFwdRefIdeal.Read.val_main_v67 (F := Ideal) z w s y := by
  unfold out0_3
  canon_tiles x h
  · refine outP z w s 3 _ _ _ _ ?_ ?_ ?_ hz _ (o3 _ _ _) (fun c => dn16 _ _) y x h0 (by simpa using h1)
    all_goals (intros; pointwise [e0, e1, e2])
  · refine outP z w s 2 _ _ _ _ ?_ ?_ ?_ hz _ (o2 _ _ _) (fun c => dn8 _ _) y x h0 (by simpa using h1)
    all_goals (intros; pointwise [e0, e1, e2])
  · refine outP z w s 1 _ _ _ _ ?_ ?_ ?_ hz _ (o1 _ _ _) (fun c => dn4 _ _) y x h0 (by simpa using h1)
    all_goals (intros; pointwise [e0, e1, e2])
  · refine outP z w s 0 _ _ _ _ ?_ ?_ ?_ hz _ (o0 _ _ _) (fun c => dn2 _ _) y x h0 (by simpa using h1)
    all_goals (intros; pointwise [e0, e1, e2])
end

/-- The windows' blocks. -/
theorem idx : ∀ t : Fin cfg0.N, win0_0.index t = ![0, 4] ∧ win0_1.index t = ![0, 0, 0] ∧ win0_2.index t = ![0, 0] ∧ win0_3.index t = ![0, 0] :=
  (by decide +kernel : ∀ t : Fin grid0.N, _)

/-- The array of the preactivations. -/
abbrev Z (c : Dev nD) : FVec Ideal S2048x3584 .f32 := m ((c : Thread nD τ).loc main_arg0)
/-- The array of the matrices. -/
abbrev W (c : Dev nD) : FVec Ideal S4x128x128 .f32 := m ((c : Thread nD τ).loc main_arg1)
/-- The array of the scale. -/
abbrev Sc (c : Dev nD) : FVec Ideal S1x512 .f32 := m ((c : Thread nD τ).loc main_arg2)

section
variable (c : Dev nD) (t : Fin cfg0.N)
/-- The block of the preactivations. -/
theorem b0 (r : Fin 2048) (j : Fin 512) : (iblk m c 0 t : FVec Ideal S2048x512 .f32) (ix2 r j) = Z m c (ix2 r ⟨2048 + j.val, by omega⟩) := by
  blk_point [iblk, V, idx t]
/-- The block of the matrices. -/
theorem b1 (g : Fin 4) (i k : Fin 128) : (iblk m c 1 t : FVec Ideal S4x128x128 .f32) (ix3 g i k) = W m c (ix3 g i k) := by
  blk_point [iblk, V, idx t]
/-- The block of the scale. -/
theorem b2 (j : Fin 512) : (iblk m c 2 t : FVec Ideal S1x512 .f32) (ix2 0 j) = Sc m c (ix2 0 j) := by
  blk_point [iblk, V, idx t]
end

/-- The array of the rows. -/
theorem final (c : Dev nD) (hz : ∀ r g k, ∃ q : ℝ, pc (Z m c) g k r = (q : EReal)) :
    (dats m 0 c).arrAt 3 (cfgs 0).N = Cert.PoolFwdRefIdeal.Read.val_main_v67 (F := Ideal) (Z m c) (W m c) (Sc m c) := by
  refine (dats m 0 c).arrAt_eq_of_covers 3 _ (by decide +kernel) fun t _ y => ?_
  blk_simp
  rw [after0_3]
  refine (out3 _ _ _ _ _ _ (b0 m c t) (b1 m c t) (b2 m c t) hz y).trans (congrArg _ (funext fun a => Fin.ext ?_))
  match a with
  | 0 => blk_simp [idx t]
  | 1 => blk_simp [idx t]

/-- The rows the precondition makes real. -/
theorem rows_real [Cert.Pre_pool_fwd_finite.Facts] (c : Dev nD)
    (h0 : Cert.Pre_pool_fwd_finite.fn (F := Ideal) (Z m c) (W m c) (Sc m c) = fun _ => 1#1)
    (r : Fin 2048) (g : Fin 4) (k : Fin 128) : ∃ q : ℝ, pc (Z m c) g k r = (q : EReal) :=
  Cert.Softmax.real_of_lt _ (by
    have e := congrFun h0 (ix2 r ⟨g.val * 128 + k.val, by omega⟩)
    exact (by pointwise [pc] : pc (Z m c) g k r = extractStridedSlice S2048x512 ![0, 2048] (Z m c) Cert.Pre_pool_fwd_finite.Facts.slices_S2048x3584_S2048x512_0_2048
      (ix2 r ⟨g.val * 128 + k.val, by omega⟩)) ▸ e)

end Cert.PoolOut

/-- Where the pooled columns are finite the kernel's rows are the reference's. -/
theorem Cert.PoolOut.pair : Cert.algebraic_PoolFwdIdeal_PoolFwdRefIdeal_pre_pool_fwd_finite := by
  pair_intro
  · run_from Cert.PoolFwdIdeal.Value.run_blocks m g
  · refine Idealize.ShloMosaic.θ_run_mono (Cert.PoolFwdRefIdeal.Value.run m' g') fun r hr c => ?_
    obtain ⟨h0, k⟩ := hr c
    obtain ⟨a0, a1, a2⟩ := hagree c
    refine ⟨h0.trans ((Cert.PoolFwdRefIdeal.Read.val_main_v67_eq _ _).trans ?_), k⟩
    rw [a0, a1, a2]
    exact (Cert.PoolOut.final m c (Cert.PoolOut.rows_real m c (hpre c))).symm

end
-- ==== Proof.ConvOut.lean ====
/- The gated causal convolution: the kernel's array is the reference's. -/
module

public import proofs.«01_k».proof.Proof.Gen.ConvFwdIdeal.Value
public import proofs.«01_k».proof.Proof.Gen.ConvFwdRefIdeal.Read
public import Idealize.ShloMosaic.Lib.Pipeline.ValueKit
public import proofs.«01_k».proof.Proof.ConvGrads
public import proofs.«01_k».proof.Defs

@[expose] public section

set_option maxRecDepth 16384

noncomputable section

namespace Cert.ConvOut

open Cert.ConvFwdIdeal Cert.ConvFwdIdeal.Gen Idealize.ShloMosaic Idealize.ShloMosaic.TcCoe Idealize.SL.Sem
open Idealize.ShloMosaic.Pipeline (Dat)

variable (m : (ℓ : Loc nD τ sig) → Buf (Elt Ideal) ℓ)

open Cert.Conv (gated gate logi packed padded)

/-- One tap of the filter at row `r`, column `j`: nothing before the first row. -/
def tap (z : FVec Ideal S2048x3584 .f32) (w : FVec Ideal S31x512 .f32) (r : Fin 2048) (j : Fin 512) (d : ℕ) : EReal :=
  if h : d ≤ 30 ∧ d ≤ r.val then w (ix2 ⟨30 - d, by omega⟩ j) * gated z ⟨r.val - d, by omega⟩ j else 0

/-- The convolution's rows. -/
def conv (z : FVec Ideal S2048x3584 .f32) (w : FVec Ideal S31x512 .f32) (b : FVec Ideal S1x512 .f32) : FVec Ideal S2048x512 .f32 := fun i =>
  b (ix2 0 (i 1)) + ∑ d ∈ Finset.range 31, tap z w (i 0) (i 1) d

open Cert.ConvFwdRefIdeal.Read in
/-- The reference's padded rows. -/
theorem rows_at (z : FVec Ideal S2048x3584 .f32) (r : Fin 2078) (j : Fin 512) :
    val_main_v10 (F := Ideal) z (ix2 r j) = if h : 30 ≤ r.val then gated z ⟨r.val - 30, by omega⟩ j else 0 := by
  pointwise [val_main_v10, val_main_v9, val_main_v8, val_main_v7, val_main_v6, val_main_v5, val_main_v4, val_main_v3, val_main_v2, val_main_v1, val_main_v0, val_main_cst, val_main_cst_0, val_main_cst_1]
  simp only [gated, gate, logi, ix2_0, ix2_1]
  by_cases h : 30 ≤ r.val
  · rw [dif_pos h]; split_ifs <;> first | omega | rfl
  · rw [dif_neg h]; split_ifs <;> first | omega | rfl

/-- One product of the reference's sum. -/
def rtap (p : FVec Ideal Cert.ConvFwdRefIdeal.S2078x512 .f32) (w : FVec Ideal S31x512 .f32) (r : Fin 2048) (j : Fin 512) (k : ℕ) : EReal :=
  if h : k < 31 then w (ix2 ⟨k, h⟩ j) * p (ix2 ⟨k + r.val, by omega⟩ j) else 0

set_option maxHeartbeats 3200000 in
open Cert.ConvFwdRefIdeal.Read in
/-- The reference's sum of products. -/
theorem sum_ref (z : FVec Ideal S2048x3584 .f32) (w : FVec Ideal S31x512 .f32) (r : Fin 2048) (j : Fin 512) :
    val_main_v226 (F := Ideal) z w (ix2 r j) = ∑ k ∈ Finset.range 31, rtap (val_main_v10 (F := Ideal) z) w r j k := by
  generalize hp : val_main_v10 (F := Ideal) z = p
  pointwise [val_main_v226, val_main_v225, val_main_v224, val_main_v223, val_main_v222, val_main_v221, val_main_v220, val_main_v219, val_main_v218, val_main_v217, val_main_v216, val_main_v215, val_main_v214, val_main_v213, val_main_v212, val_main_v211, val_main_v210, val_main_v209, val_main_v208, val_main_v207, val_main_v206, val_main_v205, val_main_v204, val_main_v203, val_main_v202, val_main_v201, val_main_v200, val_main_v199, val_main_v198, val_main_v197, val_main_v196, val_main_v195, val_main_v194, val_main_v193, val_main_v192, val_main_v191, val_main_v190, val_main_v189, val_main_v188, val_main_v187, val_main_v186, val_main_v185, val_main_v184, val_main_v183, val_main_v182, val_main_v181, val_main_v180, val_main_v179, val_main_v178, val_main_v177, val_main_v176, val_main_v175, val_main_v174, val_main_v173, val_main_v172, val_main_v171, val_main_v170, val_main_v169, val_main_v168, val_main_v167, val_main_v166, val_main_v165, val_main_v164, val_main_v163, val_main_v162, val_main_v161, val_main_v160, val_main_v159, val_main_v158, val_main_v157, val_main_v156, val_main_v155, val_main_v154, val_main_v153, val_main_v152, val_main_v151, val_main_v150, val_main_v149, val_main_v148, val_main_v147, val_main_v146, val_main_v145, val_main_v144, val_main_v143, val_main_v142, val_main_v141, val_main_v140, val_main_v139, val_main_v138, val_main_v137, val_main_v136, val_main_v135, val_main_v134, val_main_v133, val_main_v132, val_main_v131, val_main_v130, val_main_v129, val_main_v128, val_main_v127, val_main_v126, val_main_v125, val_main_v124, val_main_v123, val_main_v122, val_main_v121, val_main_v120, val_main_v119, val_main_v118, val_main_v117, val_main_v116, val_main_v115, val_main_v114, val_main_v113, val_main_v112, val_main_v111, val_main_v110, val_main_v109, val_main_v108, val_main_v107, val_main_v106, val_main_v105, val_main_v104, val_main_v103, val_main_v102, val_main_v101, val_main_v100, val_main_v99, val_main_v98, val_main_v97, val_main_v96, val_main_v95, val_main_v94, val_main_v93, val_main_v92, val_main_v91, val_main_v90, val_main_v89, val_main_v88, val_main_v87, val_main_v86, val_main_v85, val_main_v84, val_main_v83, val_main_v82, val_main_v81, val_main_v80, val_main_v79, val_main_v78, val_main_v77, val_main_v76, val_main_v75, val_main_v74, val_main_v73, val_main_v72, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11]
  simp only [hp, Finset.sum_range_succ, Finset.sum_range_zero, zero_add, rtap]
  blk_point []
  all_goals first | (exfalso; omega) | rfl

open Cert.ConvFwdRefIdeal.Read in
/-- The reference's rows. -/
theorem conv_eq (z : FVec Ideal S2048x3584 .f32) (w : FVec Ideal S31x512 .f32) (b : FVec Ideal S1x512 .f32) : conv z w b = val_main_v228 (F := Ideal) z w b := by
  funext i; idx_vars i
  pointwise [val_main_v228, val_main_v227]
  rw [sum_ref, ← Finset.sum_range_reflect, add_comm]
  simp only [conv, ix2_0, ix2_1]
  refine congrArg (b (ix2 0 i1) + ·) (Finset.sum_congr rfl fun d hd => ?_)
  have h31 : d < 31 := Finset.mem_range.1 hd
  unfold tap rtap
  rw [dif_pos (show 31 - 1 - d < 31 by omega), rows_at]
  by_cases h : d ≤ i0.val
  · rw [dif_pos ⟨by omega, h⟩, dif_pos (show 30 ≤ 31 - 1 - d + i0.val by omega)]
    exact congrArg (fun q => w _ * gated z q i1) (Fin.ext (show i0.val - d = 31 - 1 - d + i0.val - 30 by omega))
  · rw [dif_neg (by omega), dif_neg (show ¬ 30 ≤ 31 - 1 - d + i0.val by omega), mul_zero]

/-- The same tap on a block of columns. -/
def btap (w : FVec Ideal S1x32x128 .f32) (g : FVec Ideal S2048x128 .f32) (r : Fin 2048) (j : Fin 128) (d : ℕ) : EReal :=
  if d ≤ r.val then w (ix3 0 ⟨30 - d, by omega⟩ j) * g (ix2 ⟨(r.val + 2048 - d) % 2048, Nat.mod_lt _ (by decide)⟩ j) else 0

/-- The block the kernel stores. -/
def blk (x y : FVec Ideal S2048x128 .f32) (w : FVec Ideal S1x32x128 .f32) (b : FVec Ideal S1x128 .f32) : FVec Ideal S2048x128 .f32 :=
  k0_pay1 (k0_pay26 (k0_pay2 x y) (k0_pay23 (k0_pay2 x y) (k0_pay20 (k0_pay2 x y) (k0_pay18 (k0_pay2 x y) (k0_pay15 (k0_pay2 x y) (k0_pay13 (k0_pay2 x y) (k0_pay8 (k0_pay2 x y) (k0_pay7 (k0_pay2 x y) (k0_pay3 x y b (View.ld w r0_2) (View.ld w r0_3)) (k0_pay4 (View.ld w r0_4)) (k0_pay5 x y) k0_pay6 (Scalar.ofBits .f32 0x00000000#32) (View.ld w r0_5) (View.ld w r0_6) (View.ld w r0_7)) (View.ld w r0_8) (View.ld w r0_9) (View.ld w r0_10)) (k0_pay9 (View.ld w r0_11)) (k0_pay10 (k0_pay2 x y)) k0_pay11 (k0_pay12 (F := Ideal)) (View.ld w r0_12) (View.ld w r0_13) (View.ld w r0_14)) (k0_pay14 (View.ld w r0_15)) (View.ld w r0_16) (View.ld w r0_17)) (k0_pay16 (View.ld w r0_18)) (k0_pay17 (k0_pay2 x y)) (View.ld w r0_19) (View.ld w r0_20) (View.ld w r0_21)) (k0_pay19 (View.ld w r0_22)) 20#32 (View.ld w r0_23) (View.ld w r0_24)) (k0_pay21 (k0_pay2 x y)) (k0_pay22 (View.ld w r0_25)) (View.ld w r0_26) (View.ld w r0_27) (View.ld w r0_28)) (k0_pay24 (View.ld w r0_29)) (k0_pay25 (k0_pay2 x y)) (View.ld w r0_30) (View.ld w r0_31)) (k0_pay27 (k0_pay2 x y) (View.ld w r0_32))

set_option maxHeartbeats 3200000 in
/-- The block is the sum of the taps over the gated rows. -/
theorem blk_at (x y : FVec Ideal S2048x128 .f32) (w : FVec Ideal S1x32x128 .f32) (b : FVec Ideal S1x128 .f32) (r : Fin 2048) (j : Fin 128) :
    blk x y w b (ix2 r j) = b (ix2 0 j) + ∑ d ∈ Finset.range 31, btap w (k0_pay2 (F := Ideal) x y) r j d := by
  unfold blk k0_pay3 k0_pay5
  generalize k0_pay2 (F := Ideal) x y = g
  pointwise [k0_pay1, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27]
  simp (disch := word_cmp_side) only [hlo_ix, Nat.reduceSub, Finset.sum_range_succ, Finset.sum_range_zero, zero_add, ← add_assoc, btap]
  blk_point []
  all_goals first | (exfalso; omega) | (rw [if_pos (Nat.zero_le _)]; blk_point [] <;> omega)

/-- The gated rows of a block. -/
theorem gated_at (x y : FVec Ideal S2048x128 .f32) (r : Fin 2048) (j : Fin 128) :
    k0_pay2 (F := Ideal) x y (ix2 r j) = x (ix2 r j) * logi (y (ix2 r j)) := by
  pointwise [k0_pay2, logi]
  rw [zero_sub]

/-- The windows' block numbers at each point. -/
theorem idx : ∀ t : Fin cfg0.N, win0_0.index t = ![0, 20 + t.val] ∧ win0_1.index t = ![0, 24 + t.val] ∧ win0_2.index t = ![t.val, 0, 0] ∧ win0_3.index t = ![0, t.val] ∧ win0_4.index t = ![0, t.val] :=
  (by decide +kernel : ∀ t : Fin grid0.N, _)

/-- The host lines leave the filter's rows in blocks of columns. -/
theorem V_w (c : Dev nD) : V m c main_v2 = packed (m ((c : Thread nD τ).loc main_arg1)) := by
  simp only [V, List.flatten_cons, List.flatten_nil, List.append_nil, List.cons_append, List.nil_append]
  entry_read
  funext i; idx_vars i
  pointwise [packed]
  exact padded _ i1 ⟨i0.val * 128 + i2.val, _⟩

/-- The taps over a point's blocks are the taps over the arrays. -/
theorem taps (c : Dev nD) (t : Fin cfg0.N) (r : Fin 2048) (j : Fin 128) :
    ∑ d ∈ Finset.range 31, btap (iblk m c 2 t) (k0_pay2 (F := Ideal) (iblk m c 0 t) (iblk m c 1 t)) r j d
      = ∑ d ∈ Finset.range 31, tap (m ((c : Thread nD τ).loc main_arg0)) (m ((c : Thread nD τ).loc main_arg1)) r ⟨t.val * 128 + j.val, by have := lt_of_lt_of_eq t.isLt N_0; omega⟩ d := by
  refine Finset.sum_congr rfl fun d hd => ?_
  have hN : t.val < 4 := lt_of_lt_of_eq t.isLt N_0
  have h31 : d < 31 := Finset.mem_range.1 hd
  unfold btap tap
  by_cases h : d ≤ r.val
  · have e : (r.val + 2048 - d) % 2048 = r.val - d := by omega
    rw [if_pos h, dif_pos ⟨by omega, h⟩, gated_at]
    simp only [e]
    refine congrArg₂ (· * ·) ?_ (congrArg₂ (· * ·) ?_ (congrArg logi ?_))
    · blk_simp [iblk, V_w m c, packed, idx t]
      rw [dif_pos (show 30 - d < 31 by omega)]
      exact congrArg (fun k => m ((c : Thread nD τ).loc main_arg1) (ix2 _ k)) (Fin.ext (by simp))
    · blk_point [iblk, V_main_arg0 m c, idx t]
    · blk_point [iblk, V_main_arg0 m c, idx t]
  · rw [if_neg h, dif_neg (by omega)]

/-- The block the store leaves. -/
theorem out4 (x y : FVec Ideal S2048x128 .f32) (w : FVec Ideal S1x32x128 .f32) (b : FVec Ideal S1x128 .f32) : out0_4 (F := Ideal) x y w b = fun i => b (ix2 0 (i 1)) + ∑ d ∈ Finset.range 31, btap w (k0_pay2 (F := Ideal) x y) (i 0) (i 1) d := by
  have h0 : ∀ v : FVec Ideal S2048x128 .f32, View.ld (Val := Elt Ideal) (e' := .f32) v r0_0 = v := fun v => View.ld_unit_zero (Val := Elt Ideal) (e := .f32) (S := S2048x128) (off := ![0, 0]) (by decide) _ v
  have h1 : View.ld (Val := Elt Ideal) (e' := .f32) b r0_1 = b := View.ld_unit_zero (Val := Elt Ideal) (e := .f32) (S := S1x128) (off := ![0, 0]) (by decide) _ b
  have hc : ∀ q : FVec Ideal S2048x128 .f32, View.canon (Val := Elt Ideal) (e := .f32) [⟨r0_0, q⟩] = q := fun q => by frame_out
  have hb : blk x y w b = fun i => b (ix2 0 (i 1)) + ∑ d ∈ Finset.range 31, btap w (k0_pay2 (F := Ideal) x y) (i 0) (i 1) d := by
    funext i; idx_vars i
    exact blk_at x y w b i0 i1
  rw [← hb]
  unfold out0_4 k0_pay28 blk
  rw [h0 x, h0 y, h1]
  exact hc _

/-- The array of the convolution's rows. -/
theorem final4 (c : Dev nD) : (dats m 0 c).arrAt 4 (cfgs 0).N = conv (m ((c : Thread nD τ).loc main_arg0)) (m ((c : Thread nD τ).loc main_arg1)) (m ((c : Thread nD τ).loc main_arg2)) := by
  rw [← V_main_arg2 m c]
  refine (dats m 0 c).arrAt_eq_of_covers 4 _ (by decide +kernel) fun t _ y => ?_
  have hN : t.val < 4 := lt_of_lt_of_eq t.isLt N_0
  blk_simp
  rw [after0_4, out4]
  refine congrArg₂ (· + ·) ?_ ((taps m c t (y 0) (y 1)).trans ?_)
  · blk_point [iblk, idx t]
  · refine Finset.sum_congr rfl fun d _ => congrArg₂ (fun a b => tap _ _ a b d) (Fin.ext ?_) (Fin.ext ?_)
    all_goals (blk_simp [idx t]; try simp)

/-- The kernel's array is the reference's. -/
theorem final (c : Dev nD) : (dats m 0 c).arrAt 4 (cfgs 0).N = Cert.ConvFwdRefIdeal.Read.val_main_v228 (F := Ideal) (m ((c : Thread nD τ).loc main_arg0)) (m ((c : Thread nD τ).loc main_arg1)) (m ((c : Thread nD τ).loc main_arg2)) :=
  (final4 m c).trans (conv_eq _ _ _)

end Cert.ConvOut

/-- The convolution's rows agree with the reference's. -/
theorem Cert.ConvOut.pair : Cert.algebraic_ConvFwdIdeal_ConvFwdRefIdeal := by
  pair_intro
  · run_from Cert.ConvFwdIdeal.Value.run_blocks m g
  · refine Idealize.ShloMosaic.θ_run_mono (Cert.ConvFwdRefIdeal.Value.run m' g') fun r hr c => ?_
    obtain ⟨h0, k⟩ := hr c
    obtain ⟨a0, a1, a2⟩ := hagree c
    refine ⟨h0.trans ((Cert.ConvFwdRefIdeal.Read.val_main_v228_eq _).trans ?_), k⟩
    show Cert.ConvFwdRefIdeal.Read.val_main_v228 (F := Idealize.ShloMosaic.Ideal) (m' ((c.tc : Idealize.ShloMosaic.Thread _ _).loc Cert.ConvFwdRefIdeal.main_arg0)) (m' ((c.tc : Idealize.ShloMosaic.Thread _ _).loc Cert.ConvFwdRefIdeal.main_arg1)) (m' ((c.tc : Idealize.ShloMosaic.Thread _ _).loc Cert.ConvFwdRefIdeal.main_arg2)) = _
    rw [a0, a1, a2]
    exact (Cert.ConvOut.final m c).symm

end
-- ==== Proof.SwishOut.lean ====
/- The layer norm with the swish: the kernel's array is the reference's. -/
module

public import proofs.«01_k».proof.Proof.Gen.SwishFwdIdeal.Value
public import proofs.«01_k».proof.Proof.Gen.SwishFwdRefIdeal.Read
public import Idealize.ShloMosaic.Lib.Pipeline.ValueKit
public import proofs.«01_k».proof.Defs

@[expose] public section

set_option maxRecDepth 16384

noncomputable section

namespace Cert.SwishOut

open Cert.SwishFwdIdeal Cert.SwishFwdIdeal.Gen Idealize.ShloMosaic Idealize.ShloMosaic.TcCoe Idealize.SL.Sem
open Idealize.ShloMosaic.Pipeline (Dat)

variable (m : (ℓ : Loc nD τ sig) → Buf (Elt Ideal) ℓ)

/-- The windows' block numbers at each point. -/
theorem idx : ∀ t : Fin cfg0.N, win0_0.index t = ![t.val, 0] ∧ win0_1.index t = ![0, 0] ∧ win0_2.index t = ![0, 0] ∧ win0_3.index t = ![t.val, 0] :=
  (by decide +kernel : ∀ t : Fin grid0.N, _)

/-- A row less its mean. -/
def cen (x : Fin 512 → EReal) (j : Fin 512) : EReal := x j - Ideal.div (∑ k, x k) (Ideal.ofBits .f32 1140850688#32)

/-- The layer norm of a row at one place. -/
def ln (x : Fin 512 → EReal) (g b : EReal) (j : Fin 512) : EReal :=
  cen x j * Ideal.rsqrt (Ideal.div (∑ k, cen x k * cen x k) (Ideal.ofBits .f32 1140850688#32) + Ideal.ofBits .f32 925353388#32) * g + b

/-- The swish. -/
def swish (y : EReal) : EReal := y * Ideal.div 1 (1 + Ideal.exp (-y))

/-- The rows. -/
def act (x : FVec Ideal S2048x512 .f32) (g b : FVec Ideal S1x512 .f32) : FVec Ideal S2048x512 .bf16 := fun i =>
  swish (ln (fun k => x (ix2 (i 0) k)) (g (ix2 0 (i 1))) (b (ix2 0 (i 1))) (i 1))

open Cert.SwishFwdRefIdeal.Read in
/-- The reference's layer norm. -/
theorem ln_eq (x : FVec Ideal S2048x512 .f32) (g b : FVec Ideal S1x512 .f32) (r : Fin 2048) (j : Fin 512) :
    val_main_v21 (F := Ideal) x g b (ix2 r j) = ln (fun k => x (ix2 r k)) (g (ix2 0 j)) (b (ix2 0 j)) j := by
  pointwise [ln, cen, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3]

open Cert.SwishFwdRefIdeal.Read in
/-- The reference is that function. -/
theorem act_eq (x : FVec Ideal S2048x512 .f32) (g b : FVec Ideal S1x512 .f32) : act x g b = val_main_v23 (F := Ideal) x g b := by
  funext i; idx_vars i
  pointwise [act, swish, val_main_v23, val_main_v22, val_main_call0_v5, val_main_call0_v4, val_main_call0_v3, val_main_call0_v2, val_main_call0_v1, val_main_call0_v0, val_main_call0_cst, val_main_call0_cst_0]
  simp only [ln_eq]

/-- The block of the rows. -/
theorem rows (x : FVec Ideal S256x512 .f32) (g b : FVec Ideal S1x512 .f32) :
    k0_pay1 (F := Ideal) x g b = (fun i => swish (ln (fun k => x (ix2 (i 0) k)) (g (ix2 0 (i 1))) (b (ix2 0 (i 1))) (i 1)) : FVec Ideal S256x512 .bf16) := by
  funext i; idx_vars i
  pointwise [k0_pay1, swish, ln, cen]
  simp only [zero_sub]

/-- The array of the rows is the reference's. -/
theorem final (c : Dev nD) : (dats m 0 c).arrAt 3 (cfgs 0).N = Cert.SwishFwdRefIdeal.Read.val_main_v23 (F := Ideal) (m ((c : Thread nD τ).loc main_arg0)) (m ((c : Thread nD τ).loc main_arg1)) (m ((c : Thread nD τ).loc main_arg2)) := by
  rw [← act_eq]
  refine (dats m 0 c).arrAt_eq_of_covers 3 _ (by decide +kernel) fun t _ y => ?_
  blk_simp
  rw [after0_3]
  frame_out
  rw [rows]
  blk_point [act, swish, ln, cen, iblk, V, idx t]

end Cert.SwishOut

/-- The kernel's activation is the reference's. -/
theorem Cert.SwishOut.pair : Cert.algebraic_SwishFwdIdeal_SwishFwdRefIdeal := by
  pair_intro
  · run_from Cert.SwishFwdIdeal.Value.run_blocks m g
  · refine Idealize.ShloMosaic.θ_run_mono (Cert.SwishFwdRefIdeal.Value.run m' g') fun r hr c => ?_
    obtain ⟨h0, k⟩ := hr c
    obtain ⟨a0, a1, a2⟩ := hagree c
    refine ⟨h0.trans ((Cert.SwishFwdRefIdeal.Read.val_main_v23_eq _ _ _).trans ?_), k⟩
    rw [a0, a1, a2]
    exact (Cert.SwishOut.final m c).symm

end
-- ==== Proof.NormFirstOut.lean ====
/- A norm alone: the kernel's array is the reference's. -/
module

public import proofs.«01_k».proof.Proof.Gen.NormFirstFwdIdeal.Value
public import proofs.«01_k».proof.Proof.Gen.NormFirstFwdRefIdeal.Read
public import Idealize.ShloMosaic.Lib.Pipeline.ValueKit
public import proofs.«01_k».proof.Proof.Rms
public import proofs.«01_k».proof.Defs

@[expose] public section

set_option maxRecDepth 16384

noncomputable section

namespace Cert.NormFirstOut

open Cert.NormFirstFwdIdeal Cert.NormFirstFwdIdeal.Gen Idealize.ShloMosaic Idealize.ShloMosaic.TcCoe Idealize.SL.Sem
open Idealize.ShloMosaic.Pipeline (Dat)

variable (m : (ℓ : Loc nD τ sig) → Buf (Elt Ideal) ℓ)

/-- The windows' block numbers at each point. -/
theorem idx : ∀ t : Fin cfg0.N, win0_0.index t = ![t.val, 0] ∧ win0_1.index t = ![0, 0] ∧ win0_2.index t = ![t.val, 0] :=
  (by decide +kernel : ∀ t : Fin grid0.N, _)

/-- A norm's rows, as one function of an index. -/
def normed (x : FVec Ideal S2048x2048 .f32) (g : FVec Ideal S1x2048 .f32) : FVec Ideal S2048x2048 .bf16 := fun i =>
  x i * Cert.Rms.inv (fun k => x (ix2 (i 0) k)) * g (ix2 0 (i 1))

open Cert.NormFirstFwdRefIdeal.Read in
/-- The reference is that function. -/
theorem normed_eq (x : FVec Ideal S2048x2048 .f32) (g : FVec Ideal S1x2048 .f32) : normed x g = val_main_v12 (F := Ideal) x g := by
  funext i; idx_vars i
  pointwise [normed, Cert.Rms.inv, val_main_v12, val_main_v11, val_main_v10, val_main_v9, val_main_v8, val_main_v7, val_main_v6, val_main_v5, val_main_v4, val_main_v3, val_main_v2, val_main_v1, val_main_v0, val_main_cst, val_main_cst_0, val_main_cst_1]

/-- The block of the norm's rows. -/
theorem rows (x : FVec Ideal S256x2048 .f32) (g : FVec Ideal S1x2048 .f32) :
    k0_pay1 (F := Ideal) x g = (fun i => x i * Cert.Rms.inv (fun k => x (ix2 (i 0) k)) * g (ix2 0 (i 1)) : FVec Ideal S256x2048 .bf16) := by
  funext i; idx_vars i
  pointwise [k0_pay1, Cert.Rms.inv]

/-- The array of the norm's rows is the reference's. -/
theorem final (c : Dev nD) : (dats m 0 c).arrAt 2 (cfgs 0).N = Cert.NormFirstFwdRefIdeal.Read.val_main_v12 (F := Ideal) (m ((c : Thread nD τ).loc main_arg0)) (m ((c : Thread nD τ).loc main_arg1)) := by
  rw [← normed_eq]
  refine (dats m 0 c).arrAt_eq_of_covers 2 _ (by decide +kernel) fun t _ y => ?_
  blk_simp
  rw [after0_2]
  frame_out
  rw [rows]
  blk_point [normed, iblk, V, idx t]

end Cert.NormFirstOut

/-- The kernel's norm is the reference's. -/
theorem Cert.NormFirstOut.pair : Cert.algebraic_NormFirstFwdIdeal_NormFirstFwdRefIdeal := by
  pair_intro
  · run_from Cert.NormFirstFwdIdeal.Value.run_blocks m g
  · refine Idealize.ShloMosaic.θ_run_mono (Cert.NormFirstFwdRefIdeal.Value.run m' g') fun r hr c => ?_
    obtain ⟨h0, k⟩ := hr c
    obtain ⟨a0, a1⟩ := hagree c
    refine ⟨h0.trans ((Cert.NormFirstFwdRefIdeal.Read.val_main_v12_eq _ _).trans ?_), k⟩
    rw [a0, a1]
    exact (Cert.NormFirstOut.final m c).symm

end
-- ==== Proof.NormMemOut.lean ====
/- A norm alone: the kernel's array is the reference's. -/
module

public import proofs.«01_k».proof.Proof.Gen.NormMemFwdIdeal.Value
public import proofs.«01_k».proof.Proof.Gen.NormMemFwdRefIdeal.Read
public import Idealize.ShloMosaic.Lib.Pipeline.ValueKit
public import proofs.«01_k».proof.Proof.Rms
public import proofs.«01_k».proof.Defs

@[expose] public section

set_option maxRecDepth 16384

noncomputable section

namespace Cert.NormMemOut

open Cert.NormMemFwdIdeal Cert.NormMemFwdIdeal.Gen Idealize.ShloMosaic Idealize.ShloMosaic.TcCoe Idealize.SL.Sem
open Idealize.ShloMosaic.Pipeline (Dat)

variable (m : (ℓ : Loc nD τ sig) → Buf (Elt Ideal) ℓ)

/-- The windows' block numbers at each point. -/
theorem idx : ∀ t : Fin cfg0.N, win0_0.index t = ![t.val, 0] ∧ win0_1.index t = ![0, 0] ∧ win0_2.index t = ![t.val, 0] :=
  (by decide +kernel : ∀ t : Fin grid0.N, _)

/-- A norm's rows, as one function of an index. -/
def normed (x : FVec Ideal S256x2048 .f32) (g : FVec Ideal S1x2048 .f32) : FVec Ideal S256x2048 .bf16 := fun i =>
  x i * Cert.Rms.inv (fun k => x (ix2 (i 0) k)) * g (ix2 0 (i 1))

open Cert.NormMemFwdRefIdeal.Read in
/-- The reference is that function. -/
theorem normed_eq (x : FVec Ideal S256x2048 .f32) (g : FVec Ideal S1x2048 .f32) : normed x g = val_main_v12 (F := Ideal) x g := by
  funext i; idx_vars i
  pointwise [normed, Cert.Rms.inv, val_main_v12, val_main_v11, val_main_v10, val_main_v9, val_main_v8, val_main_v7, val_main_v6, val_main_v5, val_main_v4, val_main_v3, val_main_v2, val_main_v1, val_main_v0, val_main_cst, val_main_cst_0, val_main_cst_1]

/-- The block of the norm's rows. -/
theorem rows (x : FVec Ideal S256x2048 .f32) (g : FVec Ideal S1x2048 .f32) :
    k0_pay1 (F := Ideal) x g = (fun i => x i * Cert.Rms.inv (fun k => x (ix2 (i 0) k)) * g (ix2 0 (i 1)) : FVec Ideal S256x2048 .bf16) := by
  funext i; idx_vars i
  pointwise [k0_pay1, Cert.Rms.inv]

/-- The array of the norm's rows is the reference's. -/
theorem final (c : Dev nD) : (dats m 0 c).arrAt 2 (cfgs 0).N = Cert.NormMemFwdRefIdeal.Read.val_main_v12 (F := Ideal) (m ((c : Thread nD τ).loc main_arg0)) (m ((c : Thread nD τ).loc main_arg1)) := by
  rw [← normed_eq]
  refine (dats m 0 c).arrAt_eq_of_covers 2 _ (by decide +kernel) fun t _ y => ?_
  blk_simp
  rw [after0_2]
  frame_out
  rw [rows]
  blk_point [normed, iblk, V, idx t]

end Cert.NormMemOut

/-- The kernel's norm is the reference's. -/
theorem Cert.NormMemOut.pair : Cert.algebraic_NormMemFwdIdeal_NormMemFwdRefIdeal := by
  pair_intro
  · run_from Cert.NormMemFwdIdeal.Value.run_blocks m g
  · refine Idealize.ShloMosaic.θ_run_mono (Cert.NormMemFwdRefIdeal.Value.run m' g') fun r hr c => ?_
    obtain ⟨h0, k⟩ := hr c
    obtain ⟨a0, a1⟩ := hagree c
    refine ⟨h0.trans ((Cert.NormMemFwdRefIdeal.Read.val_main_v12_eq _ _).trans ?_), k⟩
    rw [a0, a1]
    exact (Cert.NormMemOut.final m c).symm

end
-- ==== Proof.NormMidOut.lean ====
/- A residual with two norms: the kernel's two arrays are the reference's. -/
module

public import proofs.«01_k».proof.Proof.Gen.NormMidFwdIdeal.Value
public import proofs.«01_k».proof.Proof.Gen.NormMidFwdRefIdeal.Read
public import Idealize.ShloMosaic.Lib.Pipeline.ValueKit
public import proofs.«01_k».proof.Proof.Rms
public import proofs.«01_k».proof.Defs

@[expose] public section

set_option maxRecDepth 16384

noncomputable section

namespace Cert.NormMidOut

open Cert.NormMidFwdIdeal Cert.NormMidFwdIdeal.Gen Idealize.ShloMosaic Idealize.ShloMosaic.TcCoe Idealize.SL.Sem
open Idealize.ShloMosaic.Pipeline (Dat)

variable (m : (ℓ : Loc nD τ sig) → Buf (Elt Ideal) ℓ)

/-- The windows' block numbers at each point. -/
theorem idx : ∀ t : Fin cfg0.N, win0_0.index t = ![t.val, 0] ∧ win0_1.index t = ![t.val, 0] ∧ win0_2.index t = ![0, 0] ∧ win0_3.index t = ![0, 0]
    ∧ win0_4.index t = ![t.val, 0] ∧ win0_5.index t = ![t.val, 0] :=
  (by decide +kernel : ∀ t : Fin grid0.N, _)

/-- The rows with the normed rows added, as one function of an index. -/
def added (x o : FVec Ideal S2048x2048 .f32) (g : FVec Ideal S1x2048 .f32) : FVec Ideal S2048x2048 .f32 := fun i =>
  x i + o i * Cert.Rms.inv (fun k => o (ix2 (i 0) k)) * g (ix2 0 (i 1))

open Cert.NormMidFwdRefIdeal.Read in
/-- The reference is that function. -/
theorem added_eq (x o : FVec Ideal S2048x2048 .f32) (g : FVec Ideal S1x2048 .f32) : added x o g = val_main_v12 (F := Ideal) x o g := by
  funext i; idx_vars i
  pointwise [added, Cert.Rms.inv, val_main_v12, val_main_v11, val_main_v10, val_main_v9, val_main_v8, val_main_v7, val_main_v6, val_main_v5, val_main_v4, val_main_v3, val_main_v2, val_main_v1, val_main_v0, val_main_cst, val_main_cst_0, val_main_cst_1]

/-- The block of the rows. -/
theorem rows (x o : FVec Ideal S256x2048 .f32) (g : FVec Ideal S1x2048 .f32) :
    k0_pay1 (F := Ideal) x o g = (fun i => x i + o i * Cert.Rms.inv (fun k => o (ix2 (i 0) k)) * g (ix2 0 (i 1)) : FVec Ideal S256x2048 .f32) := by
  funext i; idx_vars i
  pointwise [k0_pay1, Cert.Rms.inv]

/-- The array of the rows is the reference's. -/
theorem final (c : Dev nD) : (dats m 0 c).arrAt 4 (cfgs 0).N = Cert.NormMidFwdRefIdeal.Read.val_main_v12 (F := Ideal) (m ((c : Thread nD τ).loc main_arg0)) (m ((c : Thread nD τ).loc main_arg1)) (m ((c : Thread nD τ).loc main_arg2)) := by
  rw [← added_eq]
  refine (dats m 0 c).arrAt_eq_of_covers 4 _ (by decide +kernel) fun t _ y => ?_
  blk_simp
  rw [after0_4]
  frame_out
  rw [rows]
  blk_point [added, iblk, V, idx t]

/-- The next norm's rows. -/
def next (x o : FVec Ideal S2048x2048 .f32) (g h : FVec Ideal S1x2048 .f32) : FVec Ideal S2048x2048 .bf16 := fun i =>
  added x o g i * Cert.Rms.inv (fun k => added x o g (ix2 (i 0) k)) * h (ix2 0 (i 1))

open Cert.NormMidFwdRefIdeal.Read in
/-- The reference is that function. -/
theorem next_eq (x o : FVec Ideal S2048x2048 .f32) (g h : FVec Ideal S1x2048 .f32) : next x o g h = val_main_v25 (F := Ideal) x o g h := by
  funext i; idx_vars i
  pointwise [next, Cert.Rms.inv, val_main_v25, val_main_v24, val_main_v23, val_main_v22, val_main_v21, val_main_v20, val_main_v19, val_main_v18, val_main_v17, val_main_v16, val_main_v15, val_main_v14, val_main_v13, val_main_cst_2, val_main_cst_3, val_main_cst_4, added_eq]

/-- The block of the next norm's rows. -/
theorem nexts (x o : FVec Ideal S256x2048 .f32) (g h : FVec Ideal S1x2048 .f32) :
    k0_pay2 (F := Ideal) x o g h = (fun i => k0_pay1 (F := Ideal) x o g i * Cert.Rms.inv (fun k => k0_pay1 (F := Ideal) x o g (ix2 (i 0) k)) * h (ix2 0 (i 1)) : FVec Ideal S256x2048 .bf16) := by
  funext i; idx_vars i
  pointwise [k0_pay2, Cert.Rms.inv]

/-- A point's block of the rows: its rows of the array. -/
theorem blk (c : Dev nD) (t : Fin cfg0.N) : k0_pay1 (F := Ideal) (iblk m c 0 t) (iblk m c 1 t) (iblk m c 2 t)
    = (fun y => added (m ((c : Thread nD τ).loc main_arg0)) (m ((c : Thread nD τ).loc main_arg1)) (m ((c : Thread nD τ).loc main_arg2))
        (ix2 ⟨t.val * 256 + (y 0).val, by have : (y 0).val < 256 := (y 0).isLt; have := lt_of_lt_of_eq t.isLt N_0; omega⟩ (y 1)) : FVec Ideal S256x2048 .f32) := by
  rw [rows]
  funext y
  have hN : t.val < 8 := lt_of_lt_of_eq t.isLt N_0
  blk_point [added, iblk, V, idx t]

/-- The array of the next norm's rows is the reference's. -/
theorem final5 (c : Dev nD) : (dats m 0 c).arrAt 5 (cfgs 0).N = Cert.NormMidFwdRefIdeal.Read.val_main_v25 (F := Ideal) (m ((c : Thread nD τ).loc main_arg0)) (m ((c : Thread nD τ).loc main_arg1)) (m ((c : Thread nD τ).loc main_arg2)) (m ((c : Thread nD τ).loc main_arg3)) := by
  rw [← next_eq]
  refine (dats m 0 c).arrAt_eq_of_covers 5 _ (by decide +kernel) fun t _ y => ?_
  blk_simp
  rw [after0_5]
  frame_out
  rw [nexts, blk]
  have hN : t.val < 8 := lt_of_lt_of_eq t.isLt N_0
  blk_point [next, iblk, V, idx t]

end Cert.NormMidOut

/-- The kernel's residual and its norm are the reference's. -/
theorem Cert.NormMidOut.pair : Cert.algebraic_NormMidFwdIdeal_NormMidFwdRefIdeal := by
  pair_intro
  · run_from Cert.NormMidFwdIdeal.Value.run_blocks m g
  · refine Idealize.ShloMosaic.θ_run_mono (Cert.NormMidFwdRefIdeal.Value.run m' g') fun r hr c => ?_
    obtain ⟨h0, h1, k⟩ := hr c
    obtain ⟨a0, a1, a2, a3⟩ := hagree c
    refine ⟨h0.trans ((Cert.NormMidFwdRefIdeal.Read.val_main_v12_eq _ _ _).trans ?_),
      h1.trans ((Cert.NormMidFwdRefIdeal.Read.val_main_v25_eq _ _ _ _).trans ?_), k⟩
    · rw [a0, a1, a2]; exact (Cert.NormMidOut.final m c).symm
    · rw [a0, a1, a2, a3]; exact (Cert.NormMidOut.final5 m c).symm

end
-- ==== Proof.NormLastOut.lean ====
/- A residual with a norm: the kernel's array is the reference's. -/
module

public import proofs.«01_k».proof.Proof.Gen.NormLastFwdIdeal.Value
public import proofs.«01_k».proof.Proof.Gen.NormLastFwdRefIdeal.Read
public import Idealize.ShloMosaic.Lib.Pipeline.ValueKit
public import proofs.«01_k».proof.Proof.Rms
public import proofs.«01_k».proof.Defs

@[expose] public section

set_option maxRecDepth 16384

noncomputable section

namespace Cert.NormLastOut

open Cert.NormLastFwdIdeal Cert.NormLastFwdIdeal.Gen Idealize.ShloMosaic Idealize.ShloMosaic.TcCoe Idealize.SL.Sem
open Idealize.ShloMosaic.Pipeline (Dat)

variable (m : (ℓ : Loc nD τ sig) → Buf (Elt Ideal) ℓ)

/-- The windows' block numbers at each point. -/
theorem idx : ∀ t : Fin cfg0.N, win0_0.index t = ![t.val, 0] ∧ win0_1.index t = ![t.val, 0] ∧ win0_2.index t = ![0, 0] ∧ win0_3.index t = ![t.val, 0] :=
  (by decide +kernel : ∀ t : Fin grid0.N, _)

/-- The rows with the normed rows added, as one function of an index. -/
def added (x o : FVec Ideal S2048x2048 .f32) (g : FVec Ideal S1x2048 .f32) : FVec Ideal S2048x2048 .f32 := fun i =>
  x i + o i * Cert.Rms.inv (fun k => o (ix2 (i 0) k)) * g (ix2 0 (i 1))

open Cert.NormLastFwdRefIdeal.Read in
/-- The reference is that function. -/
theorem added_eq (x o : FVec Ideal S2048x2048 .f32) (g : FVec Ideal S1x2048 .f32) : added x o g = val_main_v12 (F := Ideal) x o g := by
  funext i; idx_vars i
  pointwise [added, Cert.Rms.inv, val_main_v12, val_main_v11, val_main_v10, val_main_v9, val_main_v8, val_main_v7, val_main_v6, val_main_v5, val_main_v4, val_main_v3, val_main_v2, val_main_v1, val_main_v0, val_main_cst, val_main_cst_0, val_main_cst_1]

/-- The block of the rows. -/
theorem rows (x o : FVec Ideal S256x2048 .f32) (g : FVec Ideal S1x2048 .f32) :
    k0_pay1 (F := Ideal) x o g = (fun i => x i + o i * Cert.Rms.inv (fun k => o (ix2 (i 0) k)) * g (ix2 0 (i 1)) : FVec Ideal S256x2048 .f32) := by
  funext i; idx_vars i
  pointwise [k0_pay1, Cert.Rms.inv]

/-- The array of the rows is the reference's. -/
theorem final (c : Dev nD) : (dats m 0 c).arrAt 3 (cfgs 0).N = Cert.NormLastFwdRefIdeal.Read.val_main_v12 (F := Ideal) (m ((c : Thread nD τ).loc main_arg0)) (m ((c : Thread nD τ).loc main_arg1)) (m ((c : Thread nD τ).loc main_arg2)) := by
  rw [← added_eq]
  refine (dats m 0 c).arrAt_eq_of_covers 3 _ (by decide +kernel) fun t _ y => ?_
  blk_simp
  rw [after0_3]
  frame_out
  rw [rows]
  blk_point [added, iblk, V, idx t]

end Cert.NormLastOut

/-- The kernel's residual is the reference's. -/
theorem Cert.NormLastOut.pair : Cert.algebraic_NormLastFwdIdeal_NormLastFwdRefIdeal := by
  pair_intro
  · run_from Cert.NormLastFwdIdeal.Value.run_blocks m g
  · refine Idealize.ShloMosaic.θ_run_mono (Cert.NormLastFwdRefIdeal.Value.run m' g') fun r hr c => ?_
    obtain ⟨h0, k⟩ := hr c
    obtain ⟨a0, a1, a2⟩ := hagree c
    refine ⟨h0.trans ((Cert.NormLastFwdRefIdeal.Read.val_main_v12_eq _ _ _).trans ?_), k⟩
    rw [a0, a1, a2]
    exact (Cert.NormLastOut.final m c).symm

end
-- ==== Proof.UpOut.lean ====
/- The widening product with the squared rectifier: the kernel's two arrays are the reference's. -/
module

public import proofs.«01_k».proof.Proof.Gen.UpFwdIdeal.Value
public import proofs.«01_k».proof.Proof.Gen.UpFwdRefIdeal.Read
public import Idealize.ShloMosaic.Lib.Pipeline.ValueKit
public import proofs.«01_k».proof.Defs

@[expose] public section

set_option maxRecDepth 16384

noncomputable section

namespace Cert.UpOut

open Cert.UpFwdIdeal Cert.UpFwdIdeal.Gen Idealize.ShloMosaic Idealize.ShloMosaic.TcCoe Idealize.SL.Sem
open Idealize.ShloMosaic.Pipeline (Dat)

variable (m : (ℓ : Loc nD τ sig) → Buf (Elt Ideal) ℓ)

/-- The windows' block numbers at each point. -/
theorem idx : ∀ t : Fin cfg0.N, win0_0.index t = ![t.val / 8, 0] ∧ win0_1.index t = ![t.val % 8 / 2, 0, t.val % 8 % 2]
    ∧ win0_2.index t = ![t.val / 8, t.val % 8] ∧ win0_3.index t = ![t.val / 8, t.val % 8] :=
  (by decide +kernel : ∀ t : Fin grid0.N, _)

/-- The weight in blocks of columns. -/
theorem host0 (c : Dev nD) : V m c main_v1 = (fun i => (m ((c : Thread nD τ).loc main_arg1) : FVec Ideal S2048x8192 .bf16) (ix2 (i 1) ⟨(i 0).val * 2048 + (i 2).val, by
    have : (i 0).val < 4 := (i 0).isLt; have : (i 2).val < 2048 := (i 2).isLt; omega⟩) : FVec Ideal S4x2048x2048 .bf16) := by
  entry_read; funext i; idx_vars i; pointwise []

/-- The product. -/
def prod (h : FVec Ideal S2048x2048 .bf16) (w : FVec Ideal S2048x8192 .bf16) (i : Fin 2048) (j : Fin 8192) : EReal :=
  ∑ x : Fin 2048, h (ix2 i x) * w (ix2 x j)

open Cert.UpFwdRefIdeal.Read in
/-- The reference's product. -/
theorem up_eq (h : FVec Ideal S2048x2048 .bf16) (w : FVec Ideal S2048x8192 .bf16) :
    (fun i => prod h w (i 0) (i 1) : FVec Ideal S2048x8192 .bf16) = val_main_v3 (F := Ideal) h w := by
  funext i; idx_vars i
  pointwise [prod, val_main_v3, val_main_v2, val_main_v1, val_main_v0]

open Cert.UpFwdRefIdeal.Read in
/-- The reference's squared rectifier. -/
theorem sq_eq (h : FVec Ideal S2048x2048 .bf16) (w : FVec Ideal S2048x8192 .bf16) :
    (fun i => max (prod h w (i 0) (i 1)) 0 * max (prod h w (i 0) (i 1)) 0 : FVec Ideal S2048x8192 .bf16) = val_main_v6 (F := Ideal) h w := by
  funext i; idx_vars i
  pointwise [prod, val_main_v6, val_main_v5, val_main_v4, val_main_call0_v0, val_main_call0_cst, val_main_v2, val_main_v1, val_main_v0]

/-- A point's product: its block of the product. -/
theorem blk (c : Dev nD) (t : Fin cfg0.N) : k0_pay1 (F := Ideal) (iblk m c 0 t) (iblk m c 1 t)
    = (fun y => prod (m ((c : Thread nD τ).loc main_arg0)) (m ((c : Thread nD τ).loc main_arg1))
        ⟨t.val / 8 * 1024 + (y 0).val, by have : (y 0).val < 1024 := (y 0).isLt; have := lt_of_lt_of_eq t.isLt N_0; omega⟩
        ⟨t.val % 8 * 1024 + (y 1).val, by have : (y 1).val < 1024 := (y 1).isLt; omega⟩ : FVec Ideal S1024x1024 .f32) := by
  funext y
  have hN : t.val < 16 := lt_of_lt_of_eq t.isLt N_0
  have h := host0 m c
  idx_vars y
  pointwise [k0_pay1]
  blk_point [prod, iblk, idx t, h]

/-- The array of the products is the reference's. -/
theorem final2 (c : Dev nD) : (dats m 0 c).arrAt 2 (cfgs 0).N = Cert.UpFwdRefIdeal.Read.val_main_v3 (F := Ideal) (m ((c : Thread nD τ).loc main_arg0)) (m ((c : Thread nD τ).loc main_arg1)) := by
  rw [← up_eq]
  refine (dats m 0 c).arrAt_eq_of_covers 2 _ (by decide +kernel) fun t _ y => ?_
  blk_simp
  rw [after0_2]
  frame_out
  refine (congrFun (blk m c t) y).trans ?_
  exact congrArg₂ (prod _ _) (Fin.ext (by blk_simp [idx t])) (Fin.ext (by blk_simp [idx t]))

/-- The array of the squared rectifiers is the reference's. -/
theorem final3 (c : Dev nD) : (dats m 0 c).arrAt 3 (cfgs 0).N = Cert.UpFwdRefIdeal.Read.val_main_v6 (F := Ideal) (m ((c : Thread nD τ).loc main_arg0)) (m ((c : Thread nD τ).loc main_arg1)) := by
  rw [← sq_eq]
  refine (dats m 0 c).arrAt_eq_of_covers 3 _ (by decide +kernel) fun t _ y => ?_
  blk_simp
  rw [after0_3]
  frame_out
  have e : ∀ a b : FVec Ideal S1024x1024 .f32, a = b → ∀ z : EReal, b y = z → (truncf .bf16 (mulf (maximumf a (broadcast S1024x1024 (Scalar.ofBits (F := Ideal) .f32 0x00000000#32))) (maximumf a (broadcast S1024x1024 (Scalar.ofBits (F := Ideal) .f32 0x00000000#32)))) Gen.facts.bitsLt_bf16_f32 : FVec Ideal S1024x1024 .bf16) y = max z 0 * max z 0 := by
    rintro a _ rfl z rfl
    pointwise []
  refine e _ _ (blk m c t) _ ?_
  exact congrArg₂ (prod _ _) (Fin.ext (by blk_simp [idx t])) (Fin.ext (by blk_simp [idx t]))

end Cert.UpOut

/-- The kernel's product and its squared rectifier are the reference's. -/
theorem Cert.UpOut.pair : Cert.algebraic_UpFwdIdeal_UpFwdRefIdeal := by
  pair_intro
  · run_from Cert.UpFwdIdeal.Value.run_blocks m g
  · refine Idealize.ShloMosaic.θ_run_mono (Cert.UpFwdRefIdeal.Value.run m' g') fun r hr c => ?_
    obtain ⟨h0, h1, k⟩ := hr c
    obtain ⟨a0, a1⟩ := hagree c
    refine ⟨h0.trans ((Cert.UpFwdRefIdeal.Read.val_main_v3_eq _ _).trans ?_),
      h1.trans ((Cert.UpFwdRefIdeal.Read.val_main_v6_eq _ _).trans ?_), k⟩
    · rw [a0, a1]; exact (Cert.UpOut.final2 m c).symm
    · rw [a0, a1]; exact (Cert.UpOut.final3 m c).symm

end
-- ==== Proof.DownOut.lean ====
/- The last product, summed over two halves of the rows' length: the kernel's array is the reference's. -/
module

public import proofs.«01_k».proof.Proof.Gen.DownFwdIdeal.Value
public import proofs.«01_k».proof.Proof.Gen.DownFwdRefIdeal.Read
public import Idealize.ShloMosaic.Lib.Pipeline.ValueKit
public import proofs.«01_k».proof.Defs

@[expose] public section

set_option maxRecDepth 16384

noncomputable section

namespace Cert.DownOut

open Cert.DownFwdIdeal Cert.DownFwdIdeal.Gen Idealize.ShloMosaic Idealize.ShloMosaic.TcCoe Idealize.SL.Sem
open Idealize.ShloMosaic.Pipeline (Dat)

variable (m : (ℓ : Loc nD τ sig) → Buf (Elt Ideal) ℓ)

/-- The windows' block numbers at each point. -/
theorem idx : ∀ t : Fin cfg0.N, win0_0.index t = ![t.val / 4, t.val % 2] ∧ win0_1.index t = ![t.val % 2, t.val / 2 % 2] ∧ win0_2.index t = ![t.val / 4, t.val / 2 % 2] :=
  (by decide +kernel : ∀ t : Fin grid0.N, _)

/-- The product of the rows with the weight. -/
def prod (r : FVec Ideal S2048x8192 .bf16) (w : FVec Ideal S8192x2048 .bf16) : FVec Ideal S2048x2048 .f32 := fun i =>
  ∑ x : Fin 8192, r (ix2 (i 0) x) * w (ix2 x (i 1))

open Cert.DownFwdRefIdeal.Read in
/-- The reference is that product. -/
theorem ref_eq (r : FVec Ideal S2048x8192 .bf16) (w : FVec Ideal S8192x2048 .bf16) : prod r w = val_main_v2 (F := Ideal) r w := by
  funext i; idx_vars i
  pointwise [prod, val_main_v2, val_main_v1, val_main_v0]

/-- A block's part of the product. -/
def part (a : FVec Ideal S1024x4096 .bf16) (b : FVec Ideal S4096x1024 .bf16) : FVec Ideal S1024x1024 .f32 := fun y =>
  ∑ x : Fin 4096, a (ix2 (y 0) x) * b (ix2 x (y 1))

/-- What the first of two points keeps. -/
theorem first_at (a : FVec Ideal S1024x4096 .bf16) (b : FVec Ideal S4096x1024 .bf16) : k0_pay2 (F := Ideal) a b = part a b := by
  funext y; idx_vars y
  pointwise [k0_pay2, k0_pay1, part]

/-- What the second of two points stores: the part kept, and its own. -/
theorem last_at (a : FVec Ideal S1024x4096 .bf16) (b : FVec Ideal S4096x1024 .bf16) (s : FVec Ideal S1024x1024 .f32) :
    k0_pay4 (F := Ideal) a b s = fun y => s y + part a b y := by
  funext y; idx_vars y
  pointwise [k0_pay4, k0_pay1, part]

/-- At the second of two points the block holds the sum of the two parts. -/
theorem sum_at (c : Dev nD) (t : Fin cfg0.N) (h : t.val % 2 = 1) (y : S1024x1024.Idx) : (outsAt0 m c t.val t.isLt).1 y
    = part (iblk m c 0 ⟨t.val - 1, by omega⟩) (iblk m c 1 ⟨t.val - 1, by omega⟩) y + part (iblk m c 0 t) (iblk m c 1 t) y := by
  rw [outsAt0_B m c t (by omega) h]
  frame_out
  rw [last_at]
  refine congrArg (· + part (iblk m c 0 t) (iblk m c 1 t) y) ?_
  have e := outsAt0_A m c ⟨t.val - 1, by omega⟩ (show (t.val - 1) % 2 = 0 by omega) (show ¬ (t.val - 1) % 2 = 1 by omega)
  rw [e]
  frame_out
  rw [first_at]
  exact congrFun ((Memref.isWhole_whole cc0_scratch0).read_unread (Val := Elt Ideal) _) y

/-- A sum over the rows' length in its two halves. -/
theorem halves (f : Fin 8192 → EReal) : (∑ k : Fin 4096, f ⟨k.val, by omega⟩) + ∑ k : Fin 4096, f ⟨4096 + k.val, by omega⟩ = ∑ x, f x :=
  (Fin.sum_univ_add (M := EReal) (a := 4096) (b := 4096) f).symm

/-- The result array is the reference's. -/
theorem final (c : Dev nD) : (dats m 0 c).arrAt 2 (cfgs 0).N = Cert.DownFwdRefIdeal.Read.val_main_v2 (F := Ideal) (m ((c : Thread nD τ).loc main_arg0)) (m ((c : Thread nD τ).loc main_arg1)) := by
  rw [← ref_eq]
  refine (dats m 0 c).arrAt_eq_of_covers 2 _ (by decide +kernel) fun t hf y => ?_
  have hN : t.val < 8 := lt_of_lt_of_eq t.isLt N_0
  have h1 : t.val % 2 = 1 := (flush0_2 t).mp hf
  have hi := idx ⟨t.val - 1, Nat.lt_of_le_of_lt (Nat.sub_le _ _) t.isLt⟩
  blk_simp
  rw [after0_2]
  refine (sum_at m c t h1 y).trans ?_
  idx_vars y
  refine Eq.trans ?_ (halves _)
  refine congrArg₂ (· + ·) (Finset.sum_congr rfl fun k _ => ?_) (Finset.sum_congr rfl fun k _ => ?_)
  · blk_point [iblk, V, idx t, hi]
  · blk_point [iblk, V, idx t, hi]

end Cert.DownOut

/-- The kernel's product and the reference's agree. -/
theorem Cert.DownOut.pair : Cert.algebraic_DownFwdIdeal_DownFwdRefIdeal := by
  pair_intro
  · run_from Cert.DownFwdIdeal.Value.run_blocks m g
  · refine Idealize.ShloMosaic.θ_run_mono (Cert.DownFwdRefIdeal.Value.run m' g') fun r hr c => ?_
    obtain ⟨h0, k⟩ := hr c
    obtain ⟨a0, a1⟩ := hagree c
    refine ⟨h0.trans ((Cert.DownFwdRefIdeal.Read.val_main_v2_eq _ _).trans ?_), k⟩
    rw [a0, a1]
    exact (Cert.DownOut.final m c).symm

end
-- ==== Proof.InOut.lean ====
/- The product before the convolution: the kernel's array is the reference's. -/
module

public import proofs.«01_k».proof.Proof.Gen.InFwdIdeal.Value
public import proofs.«01_k».proof.Proof.Gen.InFwdRefIdeal.Read
public import Idealize.ShloMosaic.Lib.Pipeline.ValueKit
public import proofs.«01_k».proof.Defs

@[expose] public section

set_option maxRecDepth 16384

noncomputable section

namespace Cert.InOut

open Cert.InFwdIdeal Cert.InFwdIdeal.Gen Idealize.ShloMosaic Idealize.ShloMosaic.TcCoe Idealize.SL.Sem
open Idealize.ShloMosaic.Pipeline (Dat)

variable (m : (ℓ : Loc nD τ sig) → Buf (Elt Ideal) ℓ)

/-- The windows' block numbers at each point. -/
theorem idx : ∀ t : Fin cfg0.N, win0_0.index t = ![t.val / 4, 0] ∧ win0_1.index t = ![t.val % 4, 0, 0] ∧ win0_2.index t = ![t.val / 4, t.val % 4] :=
  (by decide +kernel : ∀ t : Fin grid0.N, _)

/-- The weight in four blocks of columns. -/
theorem host0 (c : Dev nD) : V m c main_v1 = (fun i => (m ((c : Thread nD τ).loc main_arg1) : FVec Ideal S2048x3584 .bf16) (ix2 (i 1) ⟨(i 0).val * 896 + (i 2).val, by
    have : (i 0).val < 4 := (i 0).isLt; have : (i 2).val < 896 := (i 2).isLt; omega⟩) : FVec Ideal S4x2048x896 .bf16) := by
  entry_read; funext i; idx_vars i; pointwise []

/-- The product of the rows with the weight. -/
def prod (h : FVec Ideal S2048x2048 .bf16) (w : FVec Ideal S2048x3584 .bf16) : FVec Ideal S2048x3584 .f32 := fun i =>
  ∑ x : Fin 2048, h (ix2 (i 0) x) * w (ix2 x (i 1))

open Cert.InFwdRefIdeal.Read in
/-- The reference is that product. -/
theorem ref_eq (h : FVec Ideal S2048x2048 .bf16) (w : FVec Ideal S2048x3584 .bf16) : prod h w = val_main_v2 (F := Ideal) h w := by
  funext i; idx_vars i
  pointwise [prod, val_main_v2, val_main_v1, val_main_v0]

/-- What a point stores. -/
theorem pay_at (a : FVec Ideal S1024x2048 .bf16) (b : FVec Ideal S1x2048x896 .bf16) (i : Fin 1024) (j : Fin 896) :
    k0_pay1 (F := Ideal) a b (ix2 i j) = ∑ x : Fin 2048, a (ix2 i x) * b (ix3 0 x j) := by
  pointwise [k0_pay1]

/-- The result array is the reference's. -/
theorem final (c : Dev nD) : (dats m 0 c).arrAt 2 (cfgs 0).N = Cert.InFwdRefIdeal.Read.val_main_v2 (F := Ideal) (m ((c : Thread nD τ).loc main_arg0)) (m ((c : Thread nD τ).loc main_arg1)) := by
  rw [← ref_eq]
  refine (dats m 0 c).arrAt_eq_of_covers 2 _ (by decide +kernel) fun t _ y => ?_
  have h := host0 m c
  blk_simp
  rw [after0_2]
  frame_out
  idx_vars y
  refine (pay_at _ _ _ _).trans ?_
  blk_point [prod, iblk, idx t, h]

end Cert.InOut

/-- The kernel's product and the reference's agree. -/
theorem Cert.InOut.pair : Cert.algebraic_InFwdIdeal_InFwdRefIdeal := by
  pair_intro
  · run_from Cert.InFwdIdeal.Value.run_blocks m g
  · refine Idealize.ShloMosaic.θ_run_mono (Cert.InFwdRefIdeal.Value.run m' g') fun r hr c => ?_
    obtain ⟨h0, k⟩ := hr c
    obtain ⟨a0, a1⟩ := hagree c
    refine ⟨h0.trans ((Cert.InFwdRefIdeal.Read.val_main_v2_eq _ _).trans ?_), k⟩
    rw [a0, a1]
    exact (Cert.InOut.final m c).symm

end
-- ==== Proof.OutGrad.lean ====
/- The gradient of the product after the attention with respect to its rows: the kernel's array is the reference's derivative. -/
module

public import proofs.«01_k».proof.Proof.Gen.OutDxIdeal.Value
public import proofs.«01_k».proof.Proof.Gen.OutDxRefIdeal.Read
public import Idealize.ShloMosaic.Lib.Pipeline.ValueKit
public import proofs.«01_k».proof.Defs

@[expose] public section

set_option maxRecDepth 16384

noncomputable section

namespace Cert.OutGrad

open Cert.OutDxIdeal Cert.OutDxIdeal.Gen Idealize.ShloMosaic Idealize.ShloMosaic.TcCoe Idealize.SL.Sem
open Idealize.ShloMosaic.Pipeline (Dat)

variable (m : (ℓ : Loc nD τ sig) → Buf (Elt Ideal) ℓ)

/-- The windows' block numbers at each point. -/
theorem idx : ∀ t : Fin cfg0.N, win0_0.index t = ![t.val / 2, 0] ∧ win0_1.index t = ![t.val % 2, 0] ∧ win0_2.index t = ![t.val / 2, t.val % 2] :=
  (by decide +kernel : ∀ t : Fin grid0.N, _)

/-- The product of the cotangent with the weight turned over. -/
def prod (w d : FVec Ideal S2048x2048 .bf16) : FVec Ideal S2048x2048 .f32 := fun i => ∑ x : Fin 2048, d (ix2 (i 0) x) * w (ix2 (i 1) x)

open Cert.OutDxRefIdeal.Read in
/-- The reference's derivative is that product. -/
theorem ref_eq (w d : FVec Ideal S2048x2048 .bf16) : prod w d = val_main_v4 (F := Ideal) w d := by
  funext i; idx_vars i
  pointwise [prod, val_main_v4, val_main_v3, val_main_v1]

/-- What a point stores. -/
theorem pay_at (a b : FVec Ideal S1024x2048 .bf16) (i j : Fin 1024) :
    k0_pay1 (F := Ideal) a b (ix2 i j) = ∑ x : Fin 2048, a (ix2 i x) * b (ix2 j x) := by
  pointwise [k0_pay1]

/-- The result array is the reference's. -/
theorem final (c : Dev nD) : (dats m 0 c).arrAt 2 (cfgs 0).N = Cert.OutDxRefIdeal.Read.val_main_v4 (F := Ideal) (m ((c : Thread nD τ).loc main_arg0)) (m ((c : Thread nD τ).loc main_arg1)) := by
  rw [← ref_eq]
  refine (dats m 0 c).arrAt_eq_of_covers 2 _ (by decide +kernel) fun t _ y => ?_
  blk_simp
  rw [after0_2]
  frame_out
  idx_vars y
  refine (pay_at _ _ _ _).trans ?_
  blk_point [prod, iblk, V, idx t]

end Cert.OutGrad

/-- The kernel's product and the derivative of the reference's agree. -/
theorem Cert.OutGrad.pair : Cert.algebraic_OutDxIdeal_OutDxRefIdeal := by
  pair_intro
  · run_from Cert.OutDxIdeal.Value.run_blocks m g
  · refine Idealize.ShloMosaic.θ_run_mono (Cert.OutDxRefIdeal.Value.run m' g') fun r hr c => ?_
    obtain ⟨h0, k⟩ := hr c
    obtain ⟨a0, a1⟩ := hagree c
    refine ⟨h0.trans ((Cert.OutDxRefIdeal.Read.val_main_v4_eq _ _).trans ?_), k⟩
    rw [a0, a1]
    exact (Cert.OutGrad.final m c).symm

end
-- ==== Proof.UpGrad.lean ====
/- The gradient of the wide product with respect to its rows, summed over four blocks of columns: the kernel's array is the reference's derivative. -/
module

public import proofs.«01_k».proof.Proof.Gen.UpDxIdeal.Value
public import proofs.«01_k».proof.Proof.Gen.UpDxRefIdeal.Read
public import Idealize.ShloMosaic.Lib.Pipeline.ValueKit
public import proofs.«01_k».proof.Defs

@[expose] public section

set_option maxRecDepth 16384

noncomputable section

namespace Cert.UpGrad

open Cert.UpDxIdeal Cert.UpDxIdeal.Gen Idealize.ShloMosaic Idealize.ShloMosaic.TcCoe Idealize.SL.Sem
open Idealize.ShloMosaic.Pipeline (Dat)

variable (m : (ℓ : Loc nD τ sig) → Buf (Elt Ideal) ℓ)

/-- The windows' block numbers at each point. -/
theorem idx : ∀ t : Fin cfg0.N, win0_0.index t = ![t.val / 8, t.val % 4] ∧ win0_1.index t = ![t.val % 4, t.val / 4 % 2, 0] ∧ win0_2.index t = ![t.val / 8, t.val / 4 % 2] :=
  (by decide +kernel : ∀ t : Fin grid0.N, _)

/-- The weight in four blocks of columns. -/
theorem host0 (c : Dev nD) : V m c main_v1 = (fun i => (m ((c : Thread nD τ).loc main_arg0) : FVec Ideal S2048x8192 .bf16) (ix2 (i 1) ⟨(i 0).val * 2048 + (i 2).val, by
    have : (i 0).val < 4 := (i 0).isLt; have : (i 2).val < 2048 := (i 2).isLt; omega⟩) : FVec Ideal S4x2048x2048 .bf16) := by
  entry_read; funext i; idx_vars i; pointwise []

/-- The product of the cotangent with the weight turned over. -/
def prod (w d : FVec Ideal S2048x8192 .bf16) : FVec Ideal S2048x2048 .f32 := fun i => ∑ x : Fin 8192, d (ix2 (i 0) x) * w (ix2 (i 1) x)

open Cert.UpDxRefIdeal.Read in
/-- The reference's derivative is that product. -/
theorem ref_eq (w d : FVec Ideal S2048x8192 .bf16) : prod w d = val_main_v4 (F := Ideal) w d := by
  funext i; idx_vars i
  pointwise [prod, val_main_v4, val_main_v3, val_main_v1]

/-- A block's part of the product. -/
def part (a : FVec Ideal S1024x2048 .bf16) (b : FVec Ideal S1x1024x2048 .bf16) : FVec Ideal S1024x1024 .f32 := fun y =>
  ∑ x : Fin 2048, a (ix2 (y 0) x) * b (ix3 0 (y 1) x)

/-- What the first of four points keeps. -/
theorem first_at (a : FVec Ideal S1024x2048 .bf16) (b : FVec Ideal S1x1024x2048 .bf16) : k0_pay2 (F := Ideal) a b = part a b := by
  funext y; idx_vars y
  pointwise [k0_pay2, k0_pay1, part]

/-- What a point between keeps: what was kept, and its own part. -/
theorem next_at (a : FVec Ideal S1024x2048 .bf16) (b : FVec Ideal S1x1024x2048 .bf16) (s : FVec Ideal S1024x1024 .f32) :
    k0_pay3 (F := Ideal) a b s = fun y => s y + part a b y := by
  funext y; idx_vars y
  pointwise [k0_pay3, k0_pay1, part]

/-- What the last of four points stores: what was kept, and its own part. -/
theorem last_at (a : FVec Ideal S1024x2048 .bf16) (b : FVec Ideal S1x1024x2048 .bf16) (s : FVec Ideal S1024x1024 .f32) :
    k0_pay4 (F := Ideal) a b s = fun y => s y + part a b y := by
  funext y; idx_vars y
  pointwise [k0_pay4, k0_pay1, part]

/-- The sum so far: in the block at the last of four points, in what is kept at the others. -/
def sofar (c : Dev nD) (n : ℕ) (h : n < cfg0.N) : FVec Ideal S1024x1024 .f32 := if n % 4 = 3 then (outsAt0 m c n h).1 else (outsAt0 m c n h).2

/-- The sum so far at the first of four points. -/
theorem sofar_first (c : Dev nD) (t : Fin cfg0.N) (h : t.val % 4 = 0) (y : S1024x1024.Idx) :
    sofar m c t.val t.isLt y = (fun _ => (0 : EReal)) y + part (iblk m c 0 t) (iblk m c 1 t) y := by
  unfold sofar
  rw [if_neg (by omega), outsAt0_A m c t h (by omega) (by omega)]
  frame_out
  rw [first_at, zero_add]

/-- The sum so far at another point: the sum before it and its own part. -/
theorem sofar_next (c : Dev nD) (t : Fin cfg0.N) (h : ¬ t.val % 4 = 0) (y : S1024x1024.Idx) :
    sofar m c t.val t.isLt y = sofar m c (t.val - 1) (Nat.lt_of_le_of_lt (Nat.sub_le _ _) t.isLt) y + part (iblk m c 0 t) (iblk m c 1 t) y := by
  unfold sofar
  rw [if_neg (show ¬ (t.val - 1) % 4 = 3 by omega)]
  by_cases h3 : t.val % 4 = 3
  · rw [if_pos h3, outsAt0_C m c t h (by omega) h3]
    frame_out
    rw [last_at]
    exact congrArg (· + part (iblk m c 0 t) (iblk m c 1 t) y) (congrFun ((Memref.isWhole_whole cc0_scratch0).read_unread (Val := Elt Ideal) _) y)
  · rw [if_neg h3, outsAt0_B m c t h (by omega) h3]
    frame_out
    rw [next_at]
    exact congrArg (· + part (iblk m c 0 t) (iblk m c 1 t) y) (congrFun ((Memref.isWhole_whole cc0_scratch0).read_unread (Val := Elt Ideal) _) y)

/-- The result array is the reference's. -/
theorem final (c : Dev nD) : (dats m 0 c).arrAt 2 (cfgs 0).N = Cert.UpDxRefIdeal.Read.val_main_v4 (F := Ideal) (m ((c : Thread nD τ).loc main_arg0)) (m ((c : Thread nD τ).loc main_arg1)) := by
  rw [← ref_eq]
  refine (dats m 0 c).arrAt_eq_of_covers 2 _ (by decide +kernel) fun t hf y => ?_
  have hN : t.val < 16 := lt_of_lt_of_eq t.isLt N_0
  have h3 : t.val % 4 = 3 := (flush0_2 t).mp hf
  have hh := host0 m c
  blk_simp
  rw [after0_2]
  have e : (outsAt0 m c t.val t.isLt).1 = sofar m c t.val t.isLt := by unfold sofar; rw [if_pos h3]
  rw [e, Pipeline.eq_sum_fin_of_reset_step_apply_of_flush (sofar m c) 4 (fun _ => 0) (fun p => part (iblk m c 0 p) (iblk m c 1 p))
    (sofar_first m c) (sofar_next m c) t h3 y, zero_add]
  idx_vars y
  refine Fin.sum_mul_add_congr fun s k hl => ?_
  blk_point [iblk, idx t, hh, idx ⟨_, Pipeline.run_point_lt_of_flush t h3 s⟩]

end Cert.UpGrad

/-- The kernel's product and the derivative of the reference's agree. -/
theorem Cert.UpGrad.pair : Cert.algebraic_UpDxIdeal_UpDxRefIdeal := by
  pair_intro
  · run_from Cert.UpDxIdeal.Value.run_blocks m g
  · refine Idealize.ShloMosaic.θ_run_mono (Cert.UpDxRefIdeal.Value.run m' g') fun r hr c => ?_
    obtain ⟨h0, k⟩ := hr c
    obtain ⟨a0, a1⟩ := hagree c
    refine ⟨h0.trans ((Cert.UpDxRefIdeal.Read.val_main_v4_eq _ _).trans ?_), k⟩
    rw [a0, a1]
    exact (Cert.UpGrad.final m c).symm

end
-- ==== Proof.DownWeight.lean ====
/- The gradient of the last product with respect to its weight: the kernel's array is the reference's derivative. -/
module

public import proofs.«01_k».proof.Proof.Gen.DownDwIdeal.Value
public import proofs.«01_k».proof.Proof.Gen.DownDwRefIdeal.Read
public import Idealize.ShloMosaic.Lib.Pipeline.ValueKit
public import proofs.«01_k».proof.Defs

@[expose] public section

set_option maxRecDepth 16384

noncomputable section

namespace Cert.DownWeight

open Cert.DownDwIdeal Cert.DownDwIdeal.Gen Idealize.ShloMosaic Idealize.ShloMosaic.TcCoe Idealize.SL.Sem
open Idealize.ShloMosaic.Pipeline (Dat)

variable (m : (ℓ : Loc nD τ sig) → Buf (Elt Ideal) ℓ)

/-- The windows' block numbers at each point. -/
theorem idx : ∀ t : Fin cfg0.N, win0_0.index t = ![0, t.val / 2] ∧ win0_1.index t = ![0, t.val % 2] ∧ win0_2.index t = ![t.val / 2, t.val % 2] :=
  (by decide +kernel : ∀ t : Fin grid0.N, _)

/-- The rows turned over, times the cotangent. -/
def prod (r : FVec Ideal S2048x8192 .bf16) (d : FVec Ideal S2048x2048 .bf16) : FVec Ideal S8192x2048 .bf16 := fun i =>
  ∑ x : Fin 2048, r (ix2 x (i 0)) * d (ix2 x (i 1))

open Cert.DownDwRefIdeal.Read in
/-- The reference's derivative is that product. -/
theorem ref_eq (r : FVec Ideal S2048x8192 .bf16) (d : FVec Ideal S2048x2048 .bf16) : prod r d = val_main_v6 (F := Ideal) r d := by
  funext i; idx_vars i
  pointwise [prod, val_main_v6, val_main_v5, val_main_v4, val_main_v3, val_main_v1]
  exact Finset.sum_congr rfl fun x _ => mul_comm _ _

/-- What a point stores. -/
theorem pay_at (a b : FVec Ideal S2048x1024 .bf16) (i j : Fin 1024) :
    k0_pay1 (F := Ideal) a b (ix2 i j) = ∑ x : Fin 2048, a (ix2 x i) * b (ix2 x j) := by
  pointwise [k0_pay1]

/-- The result array is the reference's. -/
theorem final (c : Dev nD) : (dats m 0 c).arrAt 2 (cfgs 0).N = Cert.DownDwRefIdeal.Read.val_main_v6 (F := Ideal) (m ((c : Thread nD τ).loc main_arg0)) (m ((c : Thread nD τ).loc main_arg1)) := by
  rw [← ref_eq]
  refine (dats m 0 c).arrAt_eq_of_covers 2 _ (by decide +kernel) fun t _ y => ?_
  blk_simp
  rw [after0_2]
  frame_out
  idx_vars y
  refine (pay_at _ _ _ _).trans ?_
  blk_point [prod, iblk, V, idx t]

end Cert.DownWeight

/-- The kernel's product and the derivative of the reference's agree. -/
theorem Cert.DownWeight.pair : Cert.algebraic_DownDwIdeal_DownDwRefIdeal := by
  pair_intro
  · run_from Cert.DownDwIdeal.Value.run_blocks m g
  · refine Idealize.ShloMosaic.θ_run_mono (Cert.DownDwRefIdeal.Value.run m' g') fun r hr c => ?_
    obtain ⟨h0, k⟩ := hr c
    obtain ⟨a0, a1⟩ := hagree c
    refine ⟨h0.trans ((Cert.DownDwRefIdeal.Read.val_main_v6_eq _ _).trans ?_), k⟩
    rw [a0, a1]
    exact (Cert.DownWeight.final m c).symm

end
-- ==== Proof.UpWeight.lean ====
/- The gradient of the wide product with respect to its weight, in four blocks of columns: the kernel's array is the reference's derivative. -/
module

public import proofs.«01_k».proof.Proof.Gen.UpDwIdeal.Value
public import proofs.«01_k».proof.Proof.Gen.UpDwRefIdeal.Read
public import Idealize.ShloMosaic.Lib.Pipeline.ValueKit
public import proofs.«01_k».proof.Defs

@[expose] public section

set_option maxRecDepth 16384

noncomputable section

namespace Cert.UpWeight

open Cert.UpDwIdeal Cert.UpDwIdeal.Gen Idealize.ShloMosaic Idealize.ShloMosaic.TcCoe Idealize.SL.Sem
open Idealize.ShloMosaic.Pipeline (Dat)

variable (m : (ℓ : Loc nD τ sig) → Buf (Elt Ideal) ℓ)

/-- The windows' block numbers at each point. -/
theorem idx : ∀ t : Fin cfg0.N, win0_0.index t = ![0, t.val / 8] ∧ win0_1.index t = ![0, t.val % 8] ∧ win0_2.index t = ![t.val % 8 / 2, t.val / 8, t.val % 8 % 2] :=
  (by decide +kernel : ∀ t : Fin grid0.N, _)

/-- The rows turned over, times a column of the cotangent. -/
def col (h : FVec Ideal S2048x2048 .bf16) (d : FVec Ideal S2048x8192 .bf16) (i : Fin 2048) (j : Fin 8192) : EReal :=
  ∑ x : Fin 2048, h (ix2 x i) * d (ix2 x j)

/-- The same in four blocks of columns. -/
def prod (h : FVec Ideal S2048x2048 .bf16) (d : FVec Ideal S2048x8192 .bf16) : FVec Ideal S4x2048x2048 .bf16 := fun i =>
  col h d (i 1) ⟨(i 0).val * 2048 + (i 2).val, by have : (i 0).val < 4 := (i 0).isLt; have : (i 2).val < 2048 := (i 2).isLt; omega⟩

open Cert.UpDwRefIdeal.Read in
/-- The reference's derivative is that product. -/
theorem ref_eq (h : FVec Ideal S2048x2048 .bf16) (d : FVec Ideal S2048x8192 .bf16) : prod h d = val_main_v8 (F := Ideal) h d := by
  funext i; idx_vars i
  pointwise [prod, col, val_main_v8, val_main_v7, val_main_v6, val_main_v5, val_main_v4, val_main_v3, val_main_v1]
  exact Finset.sum_congr rfl fun x _ => mul_comm _ _

/-- What a point stores. -/
theorem pay_at (a b : FVec Ideal S2048x1024 .bf16) (u : Fin 1) (i j : Fin 1024) :
    k0_pay1 (F := Ideal) a b (ix3 u i j) = ∑ x : Fin 2048, a (ix2 x i) * b (ix2 x j) := by
  pointwise [k0_pay1]

/-- The result array is the reference's. -/
theorem final (c : Dev nD) : (dats m 0 c).arrAt 2 (cfgs 0).N = Cert.UpDwRefIdeal.Read.val_main_v8 (F := Ideal) (m ((c : Thread nD τ).loc main_arg0)) (m ((c : Thread nD τ).loc main_arg1)) := by
  rw [← ref_eq]
  refine (dats m 0 c).arrAt_eq_of_covers 2 _ (by decide +kernel) fun t _ y => ?_
  have hN : t.val < 16 := lt_of_lt_of_eq t.isLt N_0
  blk_simp
  rw [after0_2]
  frame_out
  idx_vars y
  refine (pay_at _ _ _ _ _).trans ?_
  blk_point [prod, col, iblk, V, idx t]

end Cert.UpWeight

/-- The kernel's product and the derivative of the reference's agree. -/
theorem Cert.UpWeight.pair : Cert.algebraic_UpDwIdeal_UpDwRefIdeal := by
  pair_intro
  · run_from Cert.UpDwIdeal.Value.run_blocks m g
  · refine Idealize.ShloMosaic.θ_run_mono (Cert.UpDwRefIdeal.Value.run m' g') fun r hr c => ?_
    obtain ⟨h0, k⟩ := hr c
    obtain ⟨a0, a1⟩ := hagree c
    refine ⟨h0.trans ((Cert.UpDwRefIdeal.Read.val_main_v8_eq _ _).trans ?_), k⟩
    rw [a0, a1]
    exact (Cert.UpWeight.final m c).symm

end
-- ==== Proof.Adam.lean ====
/- One step of the optimiser on single numbers. -/
module

public import Idealize.ShloMosaic.Lib.Pipeline.ValueKit

@[expose] public section

noncomputable section

namespace Cert.Adam

open Idealize.ShloMosaic

/-- The new mean of the gradients. -/
def mean (g a : EReal) : EReal := Ideal.ofBits .f32 0x3F666666#32 * a + Ideal.ofBits .f32 0x3DCCCCCD#32 * g

/-- The new mean of their squares. -/
def square (g b : EReal) : EReal := Ideal.ofBits .f32 0x3F7FBE77#32 * b + Ideal.ofBits .f32 0x3A83126F#32 * (g * g)

/-- The change of the weight. -/
def change (w g a b : EReal) : EReal :=
  Ideal.ofBits .f32 0xBA83126F#32 * (Ideal.div (Ideal.div (mean g a) (Ideal.ofBits .f32 0x3F26BD02#32))
    (Ideal.sqrt (Ideal.div (square g b) (Ideal.ofBits .f32 0x3C231ACC#32)) + Ideal.ofBits .f32 0x322BCC77#32) + Ideal.ofBits .f32 0x3C23D70A#32 * w)

end Cert.Adam

end
-- ==== Proof.AdamLayer.lean ====
/- One step of the optimiser on the first of two layers, the other layer left as it was: the kernel's four arrays are the reference's. -/
module

public import proofs.«01_k».proof.Proof.Gen.AdamwUpIdeal.Value
public import proofs.«01_k».proof.Proof.Gen.AdamwUpRefIdeal.Read
public import Idealize.ShloMosaic.Lib.Pipeline.ValueKit
public import proofs.«01_k».proof.Proof.Adam
public import proofs.«01_k».proof.Defs

@[expose] public section

set_option maxRecDepth 16384

noncomputable section

namespace Cert.AdamLayer

open Cert.AdamwUpIdeal Cert.AdamwUpIdeal.Gen Idealize.ShloMosaic Idealize.ShloMosaic.TcCoe Idealize.SL.Sem
open Idealize.ShloMosaic.Pipeline (Dat)

variable (m : (ℓ : Loc nD τ sig) → Buf (Elt Ideal) ℓ)

open Cert.AdamwUpRefIdeal.Read
open Cert.Adam

/-- The windows' block numbers at each point. -/
theorem idx : ∀ t : Fin cfg0.N, win0_0.index t = ![0, t.val, 0] ∧ win0_1.index t = ![t.val, 0] ∧ win0_2.index t = ![0, t.val, 0] ∧ win0_3.index t = ![0, t.val, 0]
    ∧ win0_4.index t = ![0, t.val, 0] ∧ win0_5.index t = ![0, t.val, 0] ∧ win0_6.index t = ![0, t.val, 0] ∧ win0_7.index t = ![0, t.val, 0] :=
  (by decide +kernel : ∀ t : Fin grid0.N, _)

/-- The first of two layers at the place of an index. -/
def layer (a : FVec Ideal S2x2048x2048 .f32) (i : S2x2048x2048.Idx) : EReal := a (ix3 0 (i 1) (i 2))

/-- One layer at the place of an index. -/
def one (a : FVec Ideal S2048x2048 .f32) (i : S2x2048x2048.Idx) : EReal := a (ix2 (i 1) (i 2))

/-- New values in the first layer, the others left. -/
def put (u : S2x2048x2048.Idx → EReal) (a : FVec Ideal S2x2048x2048 .f32) : FVec Ideal S2x2048x2048 .f32 :=
  fun i => if (i 0 : ℕ) < 1 then u i else a i

/-- The reference's gradients. -/
theorem grad_eq (g : FVec Ideal S2048x2048 .f32) (p : FVec Ideal S2x2048x2048 .f32) : put (one g) p = val_main_v34 (F := Ideal) g p := by
  funext i; idx_vars i
  pointwise [put, one, val_main_v34, val_main_v33, val_main_v32, val_main_v31, val_main_v30]
  blk_point []
  all_goals exfalso; omega

/-- The reference's new mean. -/
theorem mean_eq (g : FVec Ideal S2048x2048 .f32) (a p : FVec Ideal S2x2048x2048 .f32) :
    put (fun i => mean (one g i) (layer a i)) p = val_main_v44 (F := Ideal) g a p := by
  funext i; idx_vars i
  pointwise [put, one, layer, mean, val_main_v44, val_main_v43, val_main_v42, val_main_v41, val_main_v40, val_main_v10, val_main_v9, val_main_v8, val_main_cst_0, val_main_v7, val_main_v6, val_main_cst, val_main_v3, val_main_v2]
  blk_point []
  all_goals exfalso; omega

/-- The reference's new mean of the squares. -/
theorem square_eq (g : FVec Ideal S2048x2048 .f32) (b p : FVec Ideal S2x2048x2048 .f32) :
    put (fun i => square (one g i) (layer b i)) p = val_main_v49 (F := Ideal) g b p := by
  funext i; idx_vars i
  pointwise [put, one, layer, square, val_main_v49, val_main_v48, val_main_v47, val_main_v46, val_main_v45, val_main_v16, val_main_v15, val_main_v14, val_main_cst_2, val_main_v13, val_main_v12, val_main_v11, val_main_cst_1, val_main_v5, val_main_v4]
  blk_point []
  all_goals exfalso; omega

/-- The reference's change of the weight. -/
theorem change_eq (w : FVec Ideal S2x2048x2048 .f32) (g : FVec Ideal S2048x2048 .f32) (a b p : FVec Ideal S2x2048x2048 .f32) :
    put (fun i => change (layer w i) (one g i) (layer a i) (layer b i)) p = val_main_v39 (F := Ideal) w g a b p := by
  funext i; idx_vars i
  pointwise [put, one, layer, change, mean, square, val_main_v39, val_main_v38, val_main_v37, val_main_v36, val_main_v35, val_main_v29, val_main_v28, val_main_cst_7, val_main_v27, val_main_v26, val_main_v25, val_main_cst_6, val_main_v24, val_main_v23, val_main_v22, val_main_cst_5, val_main_v21, val_main_v20, val_main_v19, val_main_cst_4, val_main_v18, val_main_v17, val_main_cst_3, val_main_v16, val_main_v15, val_main_v14, val_main_cst_2, val_main_v13, val_main_v12, val_main_v11, val_main_cst_1, val_main_v10, val_main_v9, val_main_v8, val_main_cst_0, val_main_v7, val_main_v6, val_main_cst, val_main_v5, val_main_v4, val_main_v3, val_main_v2, val_main_v1, val_main_v0]
  blk_point []
  all_goals exfalso; omega

/-- The stored gradient at an index. -/
theorem grad_at (g : FVec Ideal S256x2048 .f32) (u : Fin 1) (i : Fin 256) (j : Fin 2048) : k0_pay7 (F := Ideal) g (ix3 u i j) = g (ix2 i j) := by
  pointwise [k0_pay7]

/-- The stored mean at an index. -/
theorem mean_at (g : FVec Ideal S256x2048 .f32) (a : FVec Ideal S1x256x2048 .f32) (u : Fin 1) (i : Fin 256) (j : Fin 2048) :
    k0_pay2 (F := Ideal) (k0_pay4 g a) (ix3 u i j) = mean (g (ix2 i j)) (a (ix3 0 i j)) := by
  pointwise [k0_pay2, k0_pay4, mean]

/-- The stored mean of the squares at an index. -/
theorem square_at (g : FVec Ideal S256x2048 .f32) (b : FVec Ideal S1x256x2048 .f32) (u : Fin 1) (i : Fin 256) (j : Fin 2048) :
    k0_pay3 (F := Ideal) (k0_pay5 g b) (ix3 u i j) = square (g (ix2 i j)) (b (ix3 0 i j)) := by
  pointwise [k0_pay3, k0_pay5, square]

/-- The stored change at an index. -/
theorem change_at (g : FVec Ideal S256x2048 .f32) (w a b : FVec Ideal S1x256x2048 .f32) (u : Fin 1) (i : Fin 256) (j : Fin 2048) :
    k0_pay1 (F := Ideal) (k0_pay6 g w a b) (ix3 u i j) = change (w (ix3 0 i j)) (g (ix2 i j)) (a (ix3 0 i j)) (b (ix3 0 i j)) := by
  pointwise [k0_pay1, k0_pay6, k0_pay5, k0_pay4, change, mean, square]

/-- The array of gradients is the reference's. -/
theorem final4 (c : Dev nD) : (dats m 0 c).arrAt 4 (cfgs 0).N = val_main_v34 (F := Ideal) (m ((c : Thread nD τ).loc main_arg1)) (m ((c : Thread nD τ).loc main_arg4)) := by
  rw [← grad_eq]
  have e : V m c main_v0_0 = m ((c : Thread nD τ).loc main_arg4) := by entry_read; rfl
  rw [← e]
  refine (dats m 0 c).arrAt_eq_of_coversWhere 4 _ (fun β => β 0 = 0) (by decide +kernel) (fun t hf y => ?_) (fun j => by blk_simp [Pipeline.Window.cell_apply]; omega)
  blk_simp
  rw [after0_4]
  unfold outsAt0
  frame_out
  idx_vars y
  refine (grad_at _ _ _ _).trans ?_
  blk_point [one, iblk, V, idx t]

/-- The array of changes is the reference's. -/
theorem final5 (c : Dev nD) : (dats m 0 c).arrAt 5 (cfgs 0).N = val_main_v39 (F := Ideal) (m ((c : Thread nD τ).loc main_arg0)) (m ((c : Thread nD τ).loc main_arg1))
    (m ((c : Thread nD τ).loc main_arg2)) (m ((c : Thread nD τ).loc main_arg3)) (m ((c : Thread nD τ).loc main_arg5)) := by
  rw [← change_eq]
  have e : V m c main_v0_1 = m ((c : Thread nD τ).loc main_arg5) := by entry_read; rfl
  rw [← e]
  refine (dats m 0 c).arrAt_eq_of_coversWhere 5 _ (fun β => β 0 = 0) (by decide +kernel) (fun t hf y => ?_) (fun j => by blk_simp [Pipeline.Window.cell_apply]; omega)
  blk_simp
  rw [after0_5]
  unfold outsAt0
  frame_out
  idx_vars y
  refine (change_at _ _ _ _ _ _ _).trans ?_
  blk_point [one, layer, iblk, V, idx t]

/-- The array of means is the reference's. -/
theorem final6 (c : Dev nD) : (dats m 0 c).arrAt 6 (cfgs 0).N = val_main_v44 (F := Ideal) (m ((c : Thread nD τ).loc main_arg1))
    (m ((c : Thread nD τ).loc main_arg2)) (m ((c : Thread nD τ).loc main_arg6)) := by
  rw [← mean_eq]
  have e : V m c main_v0_2 = m ((c : Thread nD τ).loc main_arg6) := by entry_read; rfl
  rw [← e]
  refine (dats m 0 c).arrAt_eq_of_coversWhere 6 _ (fun β => β 0 = 0) (by decide +kernel) (fun t hf y => ?_) (fun j => by blk_simp [Pipeline.Window.cell_apply]; omega)
  blk_simp
  rw [after0_6]
  unfold outsAt0
  frame_out
  idx_vars y
  refine (mean_at _ _ _ _ _).trans ?_
  blk_point [one, layer, iblk, V, idx t]

/-- The array of means of the squares is the reference's. -/
theorem final7 (c : Dev nD) : (dats m 0 c).arrAt 7 (cfgs 0).N = val_main_v49 (F := Ideal) (m ((c : Thread nD τ).loc main_arg1))
    (m ((c : Thread nD τ).loc main_arg3)) (m ((c : Thread nD τ).loc main_arg7)) := by
  rw [← square_eq]
  have e : V m c main_v0_3 = m ((c : Thread nD τ).loc main_arg7) := by entry_read; rfl
  rw [← e]
  refine (dats m 0 c).arrAt_eq_of_coversWhere 7 _ (fun β => β 0 = 0) (by decide +kernel) (fun t hf y => ?_) (fun j => by blk_simp [Pipeline.Window.cell_apply]; omega)
  blk_simp
  rw [after0_7]
  unfold outsAt0
  frame_out
  idx_vars y
  refine (square_at _ _ _ _ _).trans ?_
  blk_point [one, layer, iblk, V, idx t]

end Cert.AdamLayer

/-- The kernel's step of the optimiser on a layer and the reference's agree. -/
theorem Cert.AdamLayer.pair : Cert.algebraic_AdamwUpIdeal_AdamwUpRefIdeal := by
  pair_intro
  · run_from Cert.AdamwUpIdeal.Value.run_blocks m g
  · refine Idealize.ShloMosaic.θ_run_mono (Cert.AdamwUpRefIdeal.Value.run m' g') fun r hr c => ?_
    obtain ⟨r0, r1, r2, r3, k⟩ := hr c
    obtain ⟨a0, a1, a2, a3, a4, a5, a6, a7⟩ := hagree c
    refine ⟨r0.trans ((Cert.AdamwUpRefIdeal.Read.val_main_v34_eq _ _).trans ?_), r1.trans ((Cert.AdamwUpRefIdeal.Read.val_main_v39_eq _ _ _ _ _).trans ?_),
      r2.trans ((Cert.AdamwUpRefIdeal.Read.val_main_v44_eq _ _ _).trans ?_), r3.trans ((Cert.AdamwUpRefIdeal.Read.val_main_v49_eq _ _ _).trans ?_), k⟩
    · rw [a1, a4]; exact (Cert.AdamLayer.final4 m c).symm
    · rw [a0, a1, a2, a3, a5]; exact (Cert.AdamLayer.final5 m c).symm
    · rw [a1, a2, a6]; exact (Cert.AdamLayer.final6 m c).symm
    · rw [a1, a3, a7]; exact (Cert.AdamLayer.final7 m c).symm

end
-- ==== Proof.AdamFlat.lean ====
/- One step of the optimiser on an array of rows: the kernel's three arrays are the reference's. -/
module

public import proofs.«01_k».proof.Proof.Gen.AdamwTapsIdeal.Value
public import proofs.«01_k».proof.Proof.Gen.AdamwTapsRefIdeal.Read
public import Idealize.ShloMosaic.Lib.Pipeline.ValueKit
public import proofs.«01_k».proof.Proof.Adam
public import proofs.«01_k».proof.Defs

@[expose] public section

set_option maxRecDepth 16384

noncomputable section

namespace Cert.AdamFlat

open Cert.AdamwTapsIdeal Cert.AdamwTapsIdeal.Gen Idealize.ShloMosaic Idealize.ShloMosaic.TcCoe Idealize.SL.Sem
open Idealize.ShloMosaic.Pipeline (Dat)

variable (m : (ℓ : Loc nD τ sig) → Buf (Elt Ideal) ℓ)

open Cert.AdamwTapsRefIdeal.Read
open Cert.Adam

/-- The windows' block numbers at the one point. -/
theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] := (by decide +kernel : ∀ t : Fin grid0.N, _)

/-- The place of a row of sixty-two among two layers of thirty-one. -/
def place (i : S62x128.Idx) : S2x31x128.Idx :=
  ix3 ⟨(i 0).val / 31, by have : (i 0).val < 62 := (i 0).isLt; omega⟩ ⟨(i 0).val % 31, by omega⟩ (i 1)

/-- Two layers of thirty-one rows as sixty-two rows. -/
def rows (a : FVec Ideal S2x31x128 .f32) : FVec Ideal S62x128 .f32 := fun i => a (place i)

/-- The first argument seen as sixty-two rows. -/
theorem host0 (c : Dev nD) : V m c main_v0 = rows (m ((c : Thread nD τ).loc main_arg0)) := by
  entry_read; funext i; idx_vars i; pointwise [rows, place]

/-- The second argument seen as sixty-two rows. -/
theorem host1 (c : Dev nD) : V m c main_v1 = rows (m ((c : Thread nD τ).loc main_arg1)) := by
  entry_read; funext i; idx_vars i; pointwise [rows, place]

/-- The third argument seen as sixty-two rows. -/
theorem host2 (c : Dev nD) : V m c main_v2 = rows (m ((c : Thread nD τ).loc main_arg2)) := by
  entry_read; funext i; idx_vars i; pointwise [rows, place]

/-- The fourth argument seen as sixty-two rows. -/
theorem host3 (c : Dev nD) : V m c main_v3 = rows (m ((c : Thread nD τ).loc main_arg3)) := by
  entry_read; funext i; idx_vars i; pointwise [rows, place]

/-- The reference's new mean. -/
theorem mean_eq (g a : FVec Ideal S2x31x128 .f32) : (fun i => mean (rows g i) (rows a i) : FVec Ideal S62x128 .f32) = val_main_v25 (F := Ideal) g a := by
  funext i; idx_vars i
  pointwise [mean, rows, place, val_main_v25, val_main_v4, val_main_v3, val_main_v2, val_main_cst_0, val_main_v1, val_main_v0, val_main_cst]

/-- The reference's new mean of the squares. -/
theorem square_eq (g b : FVec Ideal S2x31x128 .f32) : (fun i => square (rows g i) (rows b i) : FVec Ideal S62x128 .f32) = val_main_v26 (F := Ideal) g b := by
  funext i; idx_vars i
  pointwise [square, rows, place, val_main_v26, val_main_v10, val_main_v9, val_main_v8, val_main_cst_2, val_main_v7, val_main_v6, val_main_v5, val_main_cst_1]

/-- The reference's change of the weight. -/
theorem change_eq (w g a b : FVec Ideal S2x31x128 .f32) :
    (fun i => change (rows w i) (rows g i) (rows a i) (rows b i) : FVec Ideal S62x128 .f32) = val_main_v24 (F := Ideal) w g a b := by
  funext i; idx_vars i
  pointwise [change, mean, square, rows, place, val_main_v24, val_main_v23, val_main_v22, val_main_cst_7, val_main_v21, val_main_v20, val_main_v19, val_main_cst_6, val_main_v18, val_main_v17, val_main_v16, val_main_cst_5, val_main_v15, val_main_v14, val_main_v13, val_main_cst_4, val_main_v12, val_main_v11, val_main_cst_3, val_main_v10, val_main_v9, val_main_v8, val_main_cst_2, val_main_v7, val_main_v6, val_main_v5, val_main_cst_1, val_main_v4, val_main_v3, val_main_v2, val_main_cst_0, val_main_v1, val_main_v0, val_main_cst]

/-- The stored mean at an index. -/
theorem mean_at (g a : FVec Ideal S62x128 .f32) (i : Fin 62) (j : Fin 128) : k0_pay2 (F := Ideal) g a (ix2 i j) = mean (g (ix2 i j)) (a (ix2 i j)) := by
  pointwise [k0_pay2, k0_pay1, mean]

/-- The stored mean of the squares at an index. -/
theorem square_at (g b : FVec Ideal S62x128 .f32) (i : Fin 62) (j : Fin 128) : k0_pay3 (F := Ideal) g b (ix2 i j) = square (g (ix2 i j)) (b (ix2 i j)) := by
  pointwise [k0_pay3, k0_pay1, square]

/-- The stored change at an index. -/
theorem change_at (w g a b : FVec Ideal S62x128 .f32) (i : Fin 62) (j : Fin 128) :
    k0_pay4 (F := Ideal) w g a b (ix2 i j) = change (w (ix2 i j)) (g (ix2 i j)) (a (ix2 i j)) (b (ix2 i j)) := by
  pointwise [k0_pay4, k0_pay3, k0_pay2, k0_pay1, change, mean, square]

/-- The array of changes is the reference's. -/
theorem final4 (c : Dev nD) : (dats m 0 c).arrAt 4 (cfgs 0).N = val_main_v24 (F := Ideal) (m ((c : Thread nD τ).loc main_arg0))
    (m ((c : Thread nD τ).loc main_arg1)) (m ((c : Thread nD τ).loc main_arg2)) (m ((c : Thread nD τ).loc main_arg3)) := by
  rw [← change_eq]
  refine (dats m 0 c).arrAt_eq_of_covers 4 _ (by decide +kernel) fun t _ y => ?_
  have h0 := host0 m c; have h1 := host1 m c; have h2 := host2 m c; have h3 := host3 m c
  blk_simp
  rw [after0_4]
  frame_out
  idx_vars y
  refine (change_at _ _ _ _ _ _).trans ?_
  blk_point [iblk, idx t, h0, h1, h2, h3]

/-- The array of means is the reference's. -/
theorem final5 (c : Dev nD) : (dats m 0 c).arrAt 5 (cfgs 0).N = val_main_v25 (F := Ideal)
    (m ((c : Thread nD τ).loc main_arg1)) (m ((c : Thread nD τ).loc main_arg2)) := by
  rw [← mean_eq]
  refine (dats m 0 c).arrAt_eq_of_covers 5 _ (by decide +kernel) fun t _ y => ?_
  have h1 := host1 m c; have h2 := host2 m c
  blk_simp
  rw [after0_5]
  frame_out
  idx_vars y
  refine (mean_at _ _ _ _).trans ?_
  blk_point [iblk, idx t, h1, h2]

/-- The array of means of the squares is the reference's. -/
theorem final6 (c : Dev nD) : (dats m 0 c).arrAt 6 (cfgs 0).N = val_main_v26 (F := Ideal)
    (m ((c : Thread nD τ).loc main_arg1)) (m ((c : Thread nD τ).loc main_arg3)) := by
  rw [← square_eq]
  refine (dats m 0 c).arrAt_eq_of_covers 6 _ (by decide +kernel) fun t _ y => ?_
  have h1 := host1 m c; have h3 := host3 m c
  blk_simp
  rw [after0_6]
  frame_out
  idx_vars y
  refine (square_at _ _ _ _).trans ?_
  blk_point [iblk, idx t, h1, h3]

end Cert.AdamFlat

/-- The kernel's step of the optimiser and the reference's agree. -/
theorem Cert.AdamFlat.pair : Cert.algebraic_AdamwTapsIdeal_AdamwTapsRefIdeal := by
  pair_intro
  · run_from Cert.AdamwTapsIdeal.Value.run_blocks m g
  · refine Idealize.ShloMosaic.θ_run_mono (Cert.AdamwTapsRefIdeal.Value.run m' g') fun r hr c => ?_
    obtain ⟨r0, r1, r2, k⟩ := hr c
    obtain ⟨a0, a1, a2, a3⟩ := hagree c
    refine ⟨r0.trans ((Cert.AdamwTapsRefIdeal.Read.val_main_v24_eq _ _ _ _).trans ?_), r1.trans ((Cert.AdamwTapsRefIdeal.Read.val_main_v25_eq _ _).trans ?_),
      r2.trans ((Cert.AdamwTapsRefIdeal.Read.val_main_v26_eq _ _).trans ?_), k⟩
    · rw [a0, a1, a2, a3]; exact (Cert.AdamFlat.final4 m c).symm
    · rw [a1, a2]; exact (Cert.AdamFlat.final5 m c).symm
    · rw [a1, a3]; exact (Cert.AdamFlat.final6 m c).symm

end
-- ==== Proof.SumDevices.lean ====
/- The sum of eight parts: the kernel's array is the reference's. -/
module

public import proofs.«01_k».proof.Proof.Gen.DeviceSumIdeal.Value
public import proofs.«01_k».proof.Proof.Gen.DeviceSumRefIdeal.Read
public import Idealize.ShloMosaic.Lib.Pipeline.ValueKit
public import proofs.«01_k».proof.Defs

@[expose] public section

set_option maxRecDepth 16384

noncomputable section

namespace Cert.SumDevices

open Cert.DeviceSumIdeal Cert.DeviceSumIdeal.Gen Idealize.ShloMosaic Idealize.ShloMosaic.TcCoe Idealize.SL.Sem
open Idealize.ShloMosaic.Pipeline (Dat)

variable (m : (ℓ : Loc nD τ sig) → Buf (Elt Ideal) ℓ)

/-- The windows' block numbers at the one point. -/
theorem idx : ∀ t : Fin cfg0.N, win0_0.index t = ![0, 0, 0] ∧ win0_1.index t = ![0, 0] := (by decide +kernel : ∀ t : Fin grid0.N, _)

/-- The sum of the parts. -/
def total (p : FVec Ideal S8x1808x128 .f32) : FVec Ideal S1808x128 .f32 := fun i => ∑ x : Fin 8, p (ix3 x (i 0) (i 1))

open Cert.DeviceSumRefIdeal.Read in
/-- The reference is that sum. -/
theorem ref_eq (p : FVec Ideal S8x1808x128 .f32) : total p = val_main_v0 (F := Ideal) p := by
  funext i; idx_vars i
  pointwise [total, val_main_v0, val_main_cst]

/-- The result array is the reference's. -/
theorem final (c : Dev nD) : (dats m 0 c).arrAt 1 (cfgs 0).N = Cert.DeviceSumRefIdeal.Read.val_main_v0 (F := Ideal) (m ((c : Thread nD τ).loc main_arg0)) := by
  rw [← ref_eq]
  refine (dats m 0 c).arrAt_eq_of_covers 1 _ (by decide +kernel) fun t _ y => ?_
  blk_simp
  rw [after0_1]
  frame_out
  idx_vars y
  pointwise [k0_pay1, total]
  rw [Fin.sum_univ_eight]
  blk_point [iblk, V, idx t]

end Cert.SumDevices

/-- The kernel's sum and the reference's agree. -/
theorem Cert.SumDevices.pair : Cert.algebraic_DeviceSumIdeal_DeviceSumRefIdeal := by
  pair_intro
  · run_from Cert.DeviceSumIdeal.Value.run_blocks m g
  · refine Idealize.ShloMosaic.θ_run_mono (Cert.DeviceSumRefIdeal.Value.run m' g') fun r hr c => ?_
    obtain ⟨h0, k⟩ := hr c
    have a0 := hagree c
    refine ⟨h0.trans ((Cert.DeviceSumRefIdeal.Read.val_main_v0_eq _).trans ?_), k⟩
    rw [a0]
    exact (Cert.SumDevices.final m c).symm

end
-- ==== Proof.lean ====
/- The certificate: every program runs, keeps its arguments and ends with every counter at zero; the programs at exact
   numbers are the printed ones; and each pair of `Proof/` gives its algebraic claim. -/
module

public import proofs.«01_k».proof.Defs
public import proofs.«01_k».proof.Proof.Gen.ConvBwd.Frame
public import proofs.«01_k».proof.Proof.Gen.ConvBwdIdeal.Frame
public import proofs.«01_k».proof.Proof.Gen.ConvBwdRefIdeal.Run
public import proofs.«01_k».proof.Proof.Gen.AttnBwd.Frame
public import proofs.«01_k».proof.Proof.Gen.AttnBwdIdeal.Frame
public import proofs.«01_k».proof.Proof.Gen.AttnBwdRefIdeal.Run
public import proofs.«01_k».proof.Proof.Gen.NormLastBwd.Frame
public import proofs.«01_k».proof.Proof.Gen.NormLastBwdIdeal.Frame
public import proofs.«01_k».proof.Proof.Gen.NormLastBwdRefIdeal.Run
public import proofs.«01_k».proof.Proof.Gen.NormMidBwd.Frame
public import proofs.«01_k».proof.Proof.Gen.NormMidBwdIdeal.Frame
public import proofs.«01_k».proof.Proof.Gen.NormMidBwdRefIdeal.Run
public import proofs.«01_k».proof.Proof.Gen.NormMemBwd.Frame
public import proofs.«01_k».proof.Proof.Gen.NormMemBwdIdeal.Frame
public import proofs.«01_k».proof.Proof.Gen.NormMemBwdRefIdeal.Run
public import proofs.«01_k».proof.Proof.Gen.NormFirstBwd.Frame
public import proofs.«01_k».proof.Proof.Gen.NormFirstBwdIdeal.Frame
public import proofs.«01_k».proof.Proof.Gen.NormFirstBwdRefIdeal.Run
public import proofs.«01_k».proof.Proof.Gen.Loss.Frame
public import proofs.«01_k».proof.Proof.Gen.LossIdeal.Frame
public import proofs.«01_k».proof.Proof.Gen.LossRefIdeal.Run
public import proofs.«01_k».proof.Proof.Gen.DownBwd.Frame
public import proofs.«01_k».proof.Proof.Gen.DownBwdIdeal.Frame
public import proofs.«01_k».proof.Proof.Gen.DownBwdRefIdeal.Run
public import proofs.«01_k».proof.Proof.Gen.GmlpBwd.Frame
public import proofs.«01_k».proof.Proof.Gen.GmlpBwdIdeal.Frame
public import proofs.«01_k».proof.Proof.Gen.GmlpBwdRefIdeal.Run
public import proofs.«01_k».proof.Proof.Gen.PoolBwd.Frame
public import proofs.«01_k».proof.Proof.Gen.PoolBwdIdeal.Frame
public import proofs.«01_k».proof.Proof.Gen.PoolBwdRefIdeal.Run
public import proofs.«01_k».proof.Proof.Gen.SwishBwd.Frame
public import proofs.«01_k».proof.Proof.Gen.SwishBwdIdeal.Frame
public import proofs.«01_k».proof.Proof.Gen.SwishBwdRefIdeal.Run
public import proofs.«01_k».proof.Proof.Gen.AttnFwd.Frame
public import proofs.«01_k».proof.Proof.Gen.AttnFwdIdeal.Frame
public import proofs.«01_k».proof.Proof.Gen.AttnFwdRefIdeal.Run
public import proofs.«01_k».proof.Proof.Gen.GmlpFwd.Frame
public import proofs.«01_k».proof.Proof.Gen.GmlpFwdIdeal.Frame
public import proofs.«01_k».proof.Proof.Gen.GmlpFwdRefIdeal.Run
public import proofs.«01_k».proof.Proof.Gen.PoolFwd.Frame
public import proofs.«01_k».proof.Proof.Gen.PoolFwdIdeal.Frame
public import proofs.«01_k».proof.Proof.Gen.PoolFwdRefIdeal.Run
public import proofs.«01_k».proof.Proof.Gen.ConvFwd.Frame
public import proofs.«01_k».proof.Proof.Gen.ConvFwdIdeal.Frame
public import proofs.«01_k».proof.Proof.Gen.ConvFwdRefIdeal.Run
public import proofs.«01_k».proof.Proof.Gen.SwishFwd.Frame
public import proofs.«01_k».proof.Proof.Gen.SwishFwdIdeal.Frame
public import proofs.«01_k».proof.Proof.Gen.SwishFwdRefIdeal.Run
public import proofs.«01_k».proof.Proof.Gen.NormFirstFwd.Frame
public import proofs.«01_k».proof.Proof.Gen.NormFirstFwdIdeal.Frame
public import proofs.«01_k».proof.Proof.Gen.NormFirstFwdRefIdeal.Run
public import proofs.«01_k».proof.Proof.Gen.NormMemFwd.Frame
public import proofs.«01_k».proof.Proof.Gen.NormMemFwdIdeal.Frame
public import proofs.«01_k».proof.Proof.Gen.NormMemFwdRefIdeal.Run
public import proofs.«01_k».proof.Proof.Gen.NormMidFwd.Frame
public import proofs.«01_k».proof.Proof.Gen.NormMidFwdIdeal.Frame
public import proofs.«01_k».proof.Proof.Gen.NormMidFwdRefIdeal.Run
public import proofs.«01_k».proof.Proof.Gen.NormLastFwd.Frame
public import proofs.«01_k».proof.Proof.Gen.NormLastFwdIdeal.Frame
public import proofs.«01_k».proof.Proof.Gen.NormLastFwdRefIdeal.Run
public import proofs.«01_k».proof.Proof.Gen.UpFwd.Frame
public import proofs.«01_k».proof.Proof.Gen.UpFwdIdeal.Frame
public import proofs.«01_k».proof.Proof.Gen.UpFwdRefIdeal.Run
public import proofs.«01_k».proof.Proof.Gen.DownFwd.Frame
public import proofs.«01_k».proof.Proof.Gen.DownFwdIdeal.Frame
public import proofs.«01_k».proof.Proof.Gen.DownFwdRefIdeal.Run
public import proofs.«01_k».proof.Proof.Gen.InFwd.Frame
public import proofs.«01_k».proof.Proof.Gen.InFwdIdeal.Frame
public import proofs.«01_k».proof.Proof.Gen.InFwdRefIdeal.Run
public import proofs.«01_k».proof.Proof.Gen.OutDx.Frame
public import proofs.«01_k».proof.Proof.Gen.OutDxIdeal.Frame
public import proofs.«01_k».proof.Proof.Gen.OutDxRefIdeal.Run
public import proofs.«01_k».proof.Proof.Gen.UpDx.Frame
public import proofs.«01_k».proof.Proof.Gen.UpDxIdeal.Frame
public import proofs.«01_k».proof.Proof.Gen.UpDxRefIdeal.Run
public import proofs.«01_k».proof.Proof.Gen.DownDw.Frame
public import proofs.«01_k».proof.Proof.Gen.DownDwIdeal.Frame
public import proofs.«01_k».proof.Proof.Gen.DownDwRefIdeal.Run
public import proofs.«01_k».proof.Proof.Gen.UpDw.Frame
public import proofs.«01_k».proof.Proof.Gen.UpDwIdeal.Frame
public import proofs.«01_k».proof.Proof.Gen.UpDwRefIdeal.Run
public import proofs.«01_k».proof.Proof.Gen.AdamwUp.Frame
public import proofs.«01_k».proof.Proof.Gen.AdamwUpIdeal.Frame
public import proofs.«01_k».proof.Proof.Gen.AdamwUpRefIdeal.Run
public import proofs.«01_k».proof.Proof.Gen.AdamwTaps.Frame
public import proofs.«01_k».proof.Proof.Gen.AdamwTapsIdeal.Frame
public import proofs.«01_k».proof.Proof.Gen.AdamwTapsRefIdeal.Run
public import proofs.«01_k».proof.Proof.Gen.DeviceSum.Frame
public import proofs.«01_k».proof.Proof.Gen.DeviceSumIdeal.Frame
public import proofs.«01_k».proof.Proof.Gen.DeviceSumRefIdeal.Run
public import proofs.«01_k».proof.Proof.Gen.Pre_attn_bwd_finite
public import proofs.«01_k».proof.Proof.Gen.Pre_gmlp_bwd_finite
public import proofs.«01_k».proof.Proof.Gen.Pre_pool_bwd_finite
public import proofs.«01_k».proof.Proof.Gen.Pre_swish_bwd_finite
public import proofs.«01_k».proof.Proof.Gen.Pre_pool_fwd_finite
public import proofs.«01_k».proof.Proof.Gen.ConvBwdRefIdeal.Read
public import proofs.«01_k».proof.Proof.Gen.ConvBwdIdeal.Value
public import proofs.«01_k».proof.Proof.Conv
public import proofs.«01_k».proof.Proof.Gen.AttnBwdRefIdeal.Read
public import proofs.«01_k».proof.Proof.Gen.AttnBwdIdeal.Value
public import proofs.«01_k».proof.Proof.Attn
public import proofs.«01_k».proof.Proof.Gen.NormLastBwdRefIdeal.Read
public import proofs.«01_k».proof.Proof.Gen.NormLastBwdIdeal.Value
public import proofs.«01_k».proof.Proof.NormLast
public import proofs.«01_k».proof.Proof.Gen.NormMidBwdRefIdeal.Read
public import proofs.«01_k».proof.Proof.Gen.NormMidBwdIdeal.Value
public import proofs.«01_k».proof.Proof.NormMid
public import proofs.«01_k».proof.Proof.Gen.NormMemBwdRefIdeal.Read
public import proofs.«01_k».proof.Proof.Gen.NormMemBwdIdeal.Value
public import proofs.«01_k».proof.Proof.NormMem
public import proofs.«01_k».proof.Proof.Gen.NormFirstBwdRefIdeal.Read
public import proofs.«01_k».proof.Proof.Gen.NormFirstBwdIdeal.Value
public import proofs.«01_k».proof.Proof.NormFirst
public import proofs.«01_k».proof.Proof.Gen.LossRefIdeal.Read
public import proofs.«01_k».proof.Proof.LossHead
public import proofs.«01_k».proof.Proof.Gen.DownBwdRefIdeal.Read
public import proofs.«01_k».proof.Proof.Gen.DownBwdIdeal.Value
public import proofs.«01_k».proof.Proof.Down
public import proofs.«01_k».proof.Proof.Gen.GmlpBwdRefIdeal.Read
public import proofs.«01_k».proof.Proof.Gen.GmlpBwdIdeal.Value
public import proofs.«01_k».proof.Proof.Gmlp
public import proofs.«01_k».proof.Proof.Gen.PoolBwdRefIdeal.Read
public import proofs.«01_k».proof.Proof.Gen.PoolBwdIdeal.Value
public import proofs.«01_k».proof.Proof.Pool
public import proofs.«01_k».proof.Proof.Gen.SwishBwdRefIdeal.Read
public import proofs.«01_k».proof.Proof.Gen.SwishBwdIdeal.Value
public import proofs.«01_k».proof.Proof.Swish
public import proofs.«01_k».proof.Proof.Gen.AttnFwdRefIdeal.Read
public import proofs.«01_k».proof.Proof.Gen.AttnFwdIdeal.Value
public import proofs.«01_k».proof.Proof.AttnOut
public import proofs.«01_k».proof.Proof.Gen.GmlpFwdRefIdeal.Read
public import proofs.«01_k».proof.Proof.Gen.GmlpFwdIdeal.Value
public import proofs.«01_k».proof.Proof.GmlpOut
public import proofs.«01_k».proof.Proof.Gen.PoolFwdRefIdeal.Read
public import proofs.«01_k».proof.Proof.Gen.PoolFwdIdeal.Value
public import proofs.«01_k».proof.Proof.PoolOut
public import proofs.«01_k».proof.Proof.Gen.ConvFwdRefIdeal.Read
public import proofs.«01_k».proof.Proof.Gen.ConvFwdIdeal.Value
public import proofs.«01_k».proof.Proof.ConvOut
public import proofs.«01_k».proof.Proof.Gen.SwishFwdRefIdeal.Read
public import proofs.«01_k».proof.Proof.Gen.SwishFwdIdeal.Value
public import proofs.«01_k».proof.Proof.SwishOut
public import proofs.«01_k».proof.Proof.Gen.NormFirstFwdRefIdeal.Read
public import proofs.«01_k».proof.Proof.Gen.NormFirstFwdIdeal.Value
public import proofs.«01_k».proof.Proof.NormFirstOut
public import proofs.«01_k».proof.Proof.Gen.NormMemFwdRefIdeal.Read
public import proofs.«01_k».proof.Proof.Gen.NormMemFwdIdeal.Value
public import proofs.«01_k».proof.Proof.NormMemOut
public import proofs.«01_k».proof.Proof.Gen.NormMidFwdRefIdeal.Read
public import proofs.«01_k».proof.Proof.Gen.NormMidFwdIdeal.Value
public import proofs.«01_k».proof.Proof.NormMidOut
public import proofs.«01_k».proof.Proof.Gen.NormLastFwdRefIdeal.Read
public import proofs.«01_k».proof.Proof.Gen.NormLastFwdIdeal.Value
public import proofs.«01_k».proof.Proof.NormLastOut
public import proofs.«01_k».proof.Proof.Gen.UpFwdRefIdeal.Read
public import proofs.«01_k».proof.Proof.Gen.UpFwdIdeal.Value
public import proofs.«01_k».proof.Proof.UpOut
public import proofs.«01_k».proof.Proof.Gen.DownFwdRefIdeal.Read
public import proofs.«01_k».proof.Proof.Gen.DownFwdIdeal.Value
public import proofs.«01_k».proof.Proof.DownOut
public import proofs.«01_k».proof.Proof.Gen.InFwdRefIdeal.Read
public import proofs.«01_k».proof.Proof.Gen.InFwdIdeal.Value
public import proofs.«01_k».proof.Proof.InOut
public import proofs.«01_k».proof.Proof.Gen.OutDxRefIdeal.Read
public import proofs.«01_k».proof.Proof.Gen.OutDxIdeal.Value
public import proofs.«01_k».proof.Proof.OutGrad
public import proofs.«01_k».proof.Proof.Gen.UpDxRefIdeal.Read
public import proofs.«01_k».proof.Proof.Gen.UpDxIdeal.Value
public import proofs.«01_k».proof.Proof.UpGrad
public import proofs.«01_k».proof.Proof.Gen.DownDwRefIdeal.Read
public import proofs.«01_k».proof.Proof.Gen.DownDwIdeal.Value
public import proofs.«01_k».proof.Proof.DownWeight
public import proofs.«01_k».proof.Proof.Gen.UpDwRefIdeal.Read
public import proofs.«01_k».proof.Proof.Gen.UpDwIdeal.Value
public import proofs.«01_k».proof.Proof.UpWeight
public import proofs.«01_k».proof.Proof.Gen.AdamwUpRefIdeal.Read
public import proofs.«01_k».proof.Proof.Gen.AdamwUpIdeal.Value
public import proofs.«01_k».proof.Proof.AdamLayer
public import proofs.«01_k».proof.Proof.Gen.AdamwTapsRefIdeal.Read
public import proofs.«01_k».proof.Proof.Gen.AdamwTapsIdeal.Value
public import proofs.«01_k».proof.Proof.AdamFlat
public import proofs.«01_k».proof.Proof.Gen.DeviceSumRefIdeal.Read
public import proofs.«01_k».proof.Proof.Gen.DeviceSumIdeal.Value
public import proofs.«01_k».proof.Proof.SumDevices
public import Idealize.ShloMosaic.Adequacy
public import Idealize.ShloMosaic.Init
public import Idealize.ShloMosaic.Lib.Claim

@[expose] public section

noncomputable section

namespace Cert.Proof

open Idealize.ShloMosaic Idealize.SL.Sem

/-- The reference `ConvBwdRefIdeal` runs, keeps its arguments, and declares no semaphore. -/
theorem ref_ConvBwdRefIdeal : Cert.quiescent_ConvBwdRefIdeal := fun m g _ =>
  (θ_run Cert.ConvBwdRefIdeal.defs _ _).mono (fun r h => ⟨fun c => (h c).2.2.2.2, Idealize.ShloMosaic.sem_eq_zero_of_no_sems (by decide) r.2⟩)
    (Cert.ConvBwdRefIdeal.Value.run m g)

/-- The reference `AttnBwdRefIdeal` runs, keeps its arguments, and declares no semaphore. -/
theorem ref_AttnBwdRefIdeal : Cert.quiescent_AttnBwdRefIdeal := fun m g _ =>
  (θ_run Cert.AttnBwdRefIdeal.defs _ _).mono (fun r h => ⟨fun c => (h c).2.2.2, Idealize.ShloMosaic.sem_eq_zero_of_no_sems (by decide) r.2⟩)
    (Cert.AttnBwdRefIdeal.Value.run m g)

/-- The reference `NormLastBwdRefIdeal` runs, keeps its arguments, and declares no semaphore. -/
theorem ref_NormLastBwdRefIdeal : Cert.quiescent_NormLastBwdRefIdeal := fun m g _ =>
  (θ_run Cert.NormLastBwdRefIdeal.defs _ _).mono (fun r h => ⟨fun c => (h c).2.2.2, Idealize.ShloMosaic.sem_eq_zero_of_no_sems (by decide) r.2⟩)
    (Cert.NormLastBwdRefIdeal.Value.run m g)

/-- The reference `NormMidBwdRefIdeal` runs, keeps its arguments, and declares no semaphore. -/
theorem ref_NormMidBwdRefIdeal : Cert.quiescent_NormMidBwdRefIdeal := fun m g _ =>
  (θ_run Cert.NormMidBwdRefIdeal.defs _ _).mono (fun r h => ⟨fun c => (h c).2.2.2.2, Idealize.ShloMosaic.sem_eq_zero_of_no_sems (by decide) r.2⟩)
    (Cert.NormMidBwdRefIdeal.Value.run m g)

/-- The reference `NormMemBwdRefIdeal` runs, keeps its arguments, and declares no semaphore. -/
theorem ref_NormMemBwdRefIdeal : Cert.quiescent_NormMemBwdRefIdeal := fun m g _ =>
  (θ_run Cert.NormMemBwdRefIdeal.defs _ _).mono (fun r h => ⟨fun c => (h c).2.2, Idealize.ShloMosaic.sem_eq_zero_of_no_sems (by decide) r.2⟩)
    (Cert.NormMemBwdRefIdeal.Value.run m g)

/-- The reference `NormFirstBwdRefIdeal` runs, keeps its arguments, and declares no semaphore. -/
theorem ref_NormFirstBwdRefIdeal : Cert.quiescent_NormFirstBwdRefIdeal := fun m g _ =>
  (θ_run Cert.NormFirstBwdRefIdeal.defs _ _).mono (fun r h => ⟨fun c => (h c).2.2, Idealize.ShloMosaic.sem_eq_zero_of_no_sems (by decide) r.2⟩)
    (Cert.NormFirstBwdRefIdeal.Value.run m g)

/-- The reference `LossRefIdeal` runs, keeps its arguments, and declares no semaphore. -/
theorem ref_LossRefIdeal : Cert.quiescent_LossRefIdeal := fun m g _ =>
  (θ_run Cert.LossRefIdeal.defs _ _).mono (fun r h => ⟨fun c => (h c).2.2, Idealize.ShloMosaic.sem_eq_zero_of_no_sems (by decide) r.2⟩)
    (Cert.LossRefIdeal.Value.run m g)

/-- The reference `DownBwdRefIdeal` runs, keeps its arguments, and declares no semaphore. -/
theorem ref_DownBwdRefIdeal : Cert.quiescent_DownBwdRefIdeal := fun m g _ =>
  (θ_run Cert.DownBwdRefIdeal.defs _ _).mono (fun r h => ⟨fun c => (h c).2, Idealize.ShloMosaic.sem_eq_zero_of_no_sems (by decide) r.2⟩)
    (Cert.DownBwdRefIdeal.Value.run m g)

/-- The reference `GmlpBwdRefIdeal` runs, keeps its arguments, and declares no semaphore. -/
theorem ref_GmlpBwdRefIdeal : Cert.quiescent_GmlpBwdRefIdeal := fun m g _ =>
  (θ_run Cert.GmlpBwdRefIdeal.defs _ _).mono (fun r h => ⟨fun c => (h c).2.2.2.2.2, Idealize.ShloMosaic.sem_eq_zero_of_no_sems (by decide) r.2⟩)
    (Cert.GmlpBwdRefIdeal.Value.run m g)

/-- The reference `PoolBwdRefIdeal` runs, keeps its arguments, and declares no semaphore. -/
theorem ref_PoolBwdRefIdeal : Cert.quiescent_PoolBwdRefIdeal := fun m g _ =>
  (θ_run Cert.PoolBwdRefIdeal.defs _ _).mono (fun r h => ⟨fun c => (h c).2.2.2, Idealize.ShloMosaic.sem_eq_zero_of_no_sems (by decide) r.2⟩)
    (Cert.PoolBwdRefIdeal.Value.run m g)

/-- The reference `SwishBwdRefIdeal` runs, keeps its arguments, and declares no semaphore. -/
theorem ref_SwishBwdRefIdeal : Cert.quiescent_SwishBwdRefIdeal := fun m g _ =>
  (θ_run Cert.SwishBwdRefIdeal.defs _ _).mono (fun r h => ⟨fun c => (h c).2.2.2, Idealize.ShloMosaic.sem_eq_zero_of_no_sems (by decide) r.2⟩)
    (Cert.SwishBwdRefIdeal.Value.run m g)

/-- The reference `AttnFwdRefIdeal` runs, keeps its arguments, and declares no semaphore. -/
theorem ref_AttnFwdRefIdeal : Cert.quiescent_AttnFwdRefIdeal := fun m g _ =>
  (θ_run Cert.AttnFwdRefIdeal.defs _ _).mono (fun r h => ⟨fun c => (h c).2, Idealize.ShloMosaic.sem_eq_zero_of_no_sems (by decide) r.2⟩)
    (Cert.AttnFwdRefIdeal.Value.run m g)

/-- The reference `GmlpFwdRefIdeal` runs, keeps its arguments, and declares no semaphore. -/
theorem ref_GmlpFwdRefIdeal : Cert.quiescent_GmlpFwdRefIdeal := fun m g _ =>
  (θ_run Cert.GmlpFwdRefIdeal.defs _ _).mono (fun r h => ⟨fun c => (h c).2, Idealize.ShloMosaic.sem_eq_zero_of_no_sems (by decide) r.2⟩)
    (Cert.GmlpFwdRefIdeal.Value.run m g)

/-- The reference `PoolFwdRefIdeal` runs, keeps its arguments, and declares no semaphore. -/
theorem ref_PoolFwdRefIdeal : Cert.quiescent_PoolFwdRefIdeal := fun m g _ =>
  (θ_run Cert.PoolFwdRefIdeal.defs _ _).mono (fun r h => ⟨fun c => (h c).2, Idealize.ShloMosaic.sem_eq_zero_of_no_sems (by decide) r.2⟩)
    (Cert.PoolFwdRefIdeal.Value.run m g)

/-- The reference `ConvFwdRefIdeal` runs, keeps its arguments, and declares no semaphore. -/
theorem ref_ConvFwdRefIdeal : Cert.quiescent_ConvFwdRefIdeal := fun m g _ =>
  (θ_run Cert.ConvFwdRefIdeal.defs _ _).mono (fun r h => ⟨fun c => (h c).2, Idealize.ShloMosaic.sem_eq_zero_of_no_sems (by decide) r.2⟩)
    (Cert.ConvFwdRefIdeal.Value.run m g)

/-- The reference `SwishFwdRefIdeal` runs, keeps its arguments, and declares no semaphore. -/
theorem ref_SwishFwdRefIdeal : Cert.quiescent_SwishFwdRefIdeal := fun m g _ =>
  (θ_run Cert.SwishFwdRefIdeal.defs _ _).mono (fun r h => ⟨fun c => (h c).2, Idealize.ShloMosaic.sem_eq_zero_of_no_sems (by decide) r.2⟩)
    (Cert.SwishFwdRefIdeal.Value.run m g)

/-- The reference `NormFirstFwdRefIdeal` runs, keeps its arguments, and declares no semaphore. -/
theorem ref_NormFirstFwdRefIdeal : Cert.quiescent_NormFirstFwdRefIdeal := fun m g _ =>
  (θ_run Cert.NormFirstFwdRefIdeal.defs _ _).mono (fun r h => ⟨fun c => (h c).2, Idealize.ShloMosaic.sem_eq_zero_of_no_sems (by decide) r.2⟩)
    (Cert.NormFirstFwdRefIdeal.Value.run m g)

/-- The reference `NormMemFwdRefIdeal` runs, keeps its arguments, and declares no semaphore. -/
theorem ref_NormMemFwdRefIdeal : Cert.quiescent_NormMemFwdRefIdeal := fun m g _ =>
  (θ_run Cert.NormMemFwdRefIdeal.defs _ _).mono (fun r h => ⟨fun c => (h c).2, Idealize.ShloMosaic.sem_eq_zero_of_no_sems (by decide) r.2⟩)
    (Cert.NormMemFwdRefIdeal.Value.run m g)

/-- The reference `NormMidFwdRefIdeal` runs, keeps its arguments, and declares no semaphore. -/
theorem ref_NormMidFwdRefIdeal : Cert.quiescent_NormMidFwdRefIdeal := fun m g _ =>
  (θ_run Cert.NormMidFwdRefIdeal.defs _ _).mono (fun r h => ⟨fun c => (h c).2.2, Idealize.ShloMosaic.sem_eq_zero_of_no_sems (by decide) r.2⟩)
    (Cert.NormMidFwdRefIdeal.Value.run m g)

/-- The reference `NormLastFwdRefIdeal` runs, keeps its arguments, and declares no semaphore. -/
theorem ref_NormLastFwdRefIdeal : Cert.quiescent_NormLastFwdRefIdeal := fun m g _ =>
  (θ_run Cert.NormLastFwdRefIdeal.defs _ _).mono (fun r h => ⟨fun c => (h c).2, Idealize.ShloMosaic.sem_eq_zero_of_no_sems (by decide) r.2⟩)
    (Cert.NormLastFwdRefIdeal.Value.run m g)

/-- The reference `UpFwdRefIdeal` runs, keeps its arguments, and declares no semaphore. -/
theorem ref_UpFwdRefIdeal : Cert.quiescent_UpFwdRefIdeal := fun m g _ =>
  (θ_run Cert.UpFwdRefIdeal.defs _ _).mono (fun r h => ⟨fun c => (h c).2.2, Idealize.ShloMosaic.sem_eq_zero_of_no_sems (by decide) r.2⟩)
    (Cert.UpFwdRefIdeal.Value.run m g)

/-- The reference `DownFwdRefIdeal` runs, keeps its arguments, and declares no semaphore. -/
theorem ref_DownFwdRefIdeal : Cert.quiescent_DownFwdRefIdeal := fun m g _ =>
  (θ_run Cert.DownFwdRefIdeal.defs _ _).mono (fun r h => ⟨fun c => (h c).2, Idealize.ShloMosaic.sem_eq_zero_of_no_sems (by decide) r.2⟩)
    (Cert.DownFwdRefIdeal.Value.run m g)

/-- The reference `InFwdRefIdeal` runs, keeps its arguments, and declares no semaphore. -/
theorem ref_InFwdRefIdeal : Cert.quiescent_InFwdRefIdeal := fun m g _ =>
  (θ_run Cert.InFwdRefIdeal.defs _ _).mono (fun r h => ⟨fun c => (h c).2, Idealize.ShloMosaic.sem_eq_zero_of_no_sems (by decide) r.2⟩)
    (Cert.InFwdRefIdeal.Value.run m g)

/-- The reference `OutDxRefIdeal` runs, keeps its arguments, and declares no semaphore. -/
theorem ref_OutDxRefIdeal : Cert.quiescent_OutDxRefIdeal := fun m g _ =>
  (θ_run Cert.OutDxRefIdeal.defs _ _).mono (fun r h => ⟨fun c => (h c).2, Idealize.ShloMosaic.sem_eq_zero_of_no_sems (by decide) r.2⟩)
    (Cert.OutDxRefIdeal.Value.run m g)

/-- The reference `UpDxRefIdeal` runs, keeps its arguments, and declares no semaphore. -/
theorem ref_UpDxRefIdeal : Cert.quiescent_UpDxRefIdeal := fun m g _ =>
  (θ_run Cert.UpDxRefIdeal.defs _ _).mono (fun r h => ⟨fun c => (h c).2, Idealize.ShloMosaic.sem_eq_zero_of_no_sems (by decide) r.2⟩)
    (Cert.UpDxRefIdeal.Value.run m g)

/-- The reference `DownDwRefIdeal` runs, keeps its arguments, and declares no semaphore. -/
theorem ref_DownDwRefIdeal : Cert.quiescent_DownDwRefIdeal := fun m g _ =>
  (θ_run Cert.DownDwRefIdeal.defs _ _).mono (fun r h => ⟨fun c => (h c).2, Idealize.ShloMosaic.sem_eq_zero_of_no_sems (by decide) r.2⟩)
    (Cert.DownDwRefIdeal.Value.run m g)

/-- The reference `UpDwRefIdeal` runs, keeps its arguments, and declares no semaphore. -/
theorem ref_UpDwRefIdeal : Cert.quiescent_UpDwRefIdeal := fun m g _ =>
  (θ_run Cert.UpDwRefIdeal.defs _ _).mono (fun r h => ⟨fun c => (h c).2, Idealize.ShloMosaic.sem_eq_zero_of_no_sems (by decide) r.2⟩)
    (Cert.UpDwRefIdeal.Value.run m g)

/-- The reference `AdamwUpRefIdeal` runs, keeps its arguments, and declares no semaphore. -/
theorem ref_AdamwUpRefIdeal : Cert.quiescent_AdamwUpRefIdeal := fun m g _ =>
  (θ_run Cert.AdamwUpRefIdeal.defs _ _).mono (fun r h => ⟨fun c => (h c).2.2.2.2, Idealize.ShloMosaic.sem_eq_zero_of_no_sems (by decide) r.2⟩)
    (Cert.AdamwUpRefIdeal.Value.run m g)

/-- The reference `AdamwTapsRefIdeal` runs, keeps its arguments, and declares no semaphore. -/
theorem ref_AdamwTapsRefIdeal : Cert.quiescent_AdamwTapsRefIdeal := fun m g _ =>
  (θ_run Cert.AdamwTapsRefIdeal.defs _ _).mono (fun r h => ⟨fun c => (h c).2.2.2, Idealize.ShloMosaic.sem_eq_zero_of_no_sems (by decide) r.2⟩)
    (Cert.AdamwTapsRefIdeal.Value.run m g)

/-- The reference `DeviceSumRefIdeal` runs, keeps its arguments, and declares no semaphore. -/
theorem ref_DeviceSumRefIdeal : Cert.quiescent_DeviceSumRefIdeal := fun m g _ =>
  (θ_run Cert.DeviceSumRefIdeal.defs _ _).mono (fun r h => ⟨fun c => (h c).2, Idealize.ShloMosaic.sem_eq_zero_of_no_sems (by decide) r.2⟩)
    (Cert.DeviceSumRefIdeal.Value.run m g)

/-- Everything that is claimed. -/
theorem claim : Cert.Claim :=
  ⟨Cert.ConvBwd.Gen.facts, Cert.ConvBwdIdeal.Gen.facts, Cert.ConvBwdRefIdeal.Gen.facts, Cert.AttnBwd.Gen.facts, Cert.AttnBwdIdeal.Gen.facts, Cert.AttnBwdRefIdeal.Gen.facts, Cert.NormLastBwd.Gen.facts, Cert.NormLastBwdIdeal.Gen.facts, Cert.NormLastBwdRefIdeal.Gen.facts, Cert.NormMidBwd.Gen.facts, Cert.NormMidBwdIdeal.Gen.facts, Cert.NormMidBwdRefIdeal.Gen.facts, Cert.NormMemBwd.Gen.facts, Cert.NormMemBwdIdeal.Gen.facts, Cert.NormMemBwdRefIdeal.Gen.facts, Cert.NormFirstBwd.Gen.facts, Cert.NormFirstBwdIdeal.Gen.facts, Cert.NormFirstBwdRefIdeal.Gen.facts, Cert.Loss.Gen.facts, Cert.LossIdeal.Gen.facts, Cert.LossRefIdeal.Gen.facts, Cert.DownBwd.Gen.facts, Cert.DownBwdIdeal.Gen.facts, Cert.DownBwdRefIdeal.Gen.facts, Cert.GmlpBwd.Gen.facts, Cert.GmlpBwdIdeal.Gen.facts, Cert.GmlpBwdRefIdeal.Gen.facts, Cert.PoolBwd.Gen.facts, Cert.PoolBwdIdeal.Gen.facts, Cert.PoolBwdRefIdeal.Gen.facts, Cert.SwishBwd.Gen.facts, Cert.SwishBwdIdeal.Gen.facts, Cert.SwishBwdRefIdeal.Gen.facts, Cert.AttnFwd.Gen.facts, Cert.AttnFwdIdeal.Gen.facts, Cert.AttnFwdRefIdeal.Gen.facts, Cert.GmlpFwd.Gen.facts, Cert.GmlpFwdIdeal.Gen.facts, Cert.GmlpFwdRefIdeal.Gen.facts, Cert.PoolFwd.Gen.facts, Cert.PoolFwdIdeal.Gen.facts, Cert.PoolFwdRefIdeal.Gen.facts, Cert.ConvFwd.Gen.facts, Cert.ConvFwdIdeal.Gen.facts, Cert.ConvFwdRefIdeal.Gen.facts, Cert.SwishFwd.Gen.facts, Cert.SwishFwdIdeal.Gen.facts, Cert.SwishFwdRefIdeal.Gen.facts, Cert.NormFirstFwd.Gen.facts, Cert.NormFirstFwdIdeal.Gen.facts, Cert.NormFirstFwdRefIdeal.Gen.facts, Cert.NormMemFwd.Gen.facts, Cert.NormMemFwdIdeal.Gen.facts, Cert.NormMemFwdRefIdeal.Gen.facts, Cert.NormMidFwd.Gen.facts, Cert.NormMidFwdIdeal.Gen.facts, Cert.NormMidFwdRefIdeal.Gen.facts, Cert.NormLastFwd.Gen.facts, Cert.NormLastFwdIdeal.Gen.facts, Cert.NormLastFwdRefIdeal.Gen.facts, Cert.UpFwd.Gen.facts, Cert.UpFwdIdeal.Gen.facts, Cert.UpFwdRefIdeal.Gen.facts, Cert.DownFwd.Gen.facts, Cert.DownFwdIdeal.Gen.facts, Cert.DownFwdRefIdeal.Gen.facts, Cert.InFwd.Gen.facts, Cert.InFwdIdeal.Gen.facts, Cert.InFwdRefIdeal.Gen.facts, Cert.OutDx.Gen.facts, Cert.OutDxIdeal.Gen.facts, Cert.OutDxRefIdeal.Gen.facts, Cert.UpDx.Gen.facts, Cert.UpDxIdeal.Gen.facts, Cert.UpDxRefIdeal.Gen.facts, Cert.DownDw.Gen.facts, Cert.DownDwIdeal.Gen.facts, Cert.DownDwRefIdeal.Gen.facts, Cert.UpDw.Gen.facts, Cert.UpDwIdeal.Gen.facts, Cert.UpDwRefIdeal.Gen.facts, Cert.AdamwUp.Gen.facts, Cert.AdamwUpIdeal.Gen.facts, Cert.AdamwUpRefIdeal.Gen.facts, Cert.AdamwTaps.Gen.facts, Cert.AdamwTapsIdeal.Gen.facts, Cert.AdamwTapsRefIdeal.Gen.facts, Cert.DeviceSum.Gen.facts, Cert.DeviceSumIdeal.Gen.facts, Cert.DeviceSumRefIdeal.Gen.facts, Cert.Pre_attn_bwd_finite.Gen.facts, Cert.Pre_gmlp_bwd_finite.Gen.facts, Cert.Pre_pool_bwd_finite.Gen.facts, Cert.Pre_swish_bwd_finite.Gen.facts, Cert.Pre_pool_fwd_finite.Gen.facts,
    fun m g _ => Cert.ConvBwd.Gen.frame m g,
    fun m g _ => Cert.ConvBwdIdeal.Gen.frame m g,
    fun m g _ => ref_ConvBwdRefIdeal m g trivial,
    fun m g _ => Cert.AttnBwd.Gen.frame m g,
    fun m g _ => Cert.AttnBwdIdeal.Gen.frame m g,
    fun m g _ => Cert.AttnBwdIdeal.Gen.frame m g,
    fun m g _ => ref_AttnBwdRefIdeal m g trivial,
    fun m g _ => ref_AttnBwdRefIdeal m g trivial,
    fun m g _ => Cert.NormLastBwd.Gen.frame m g,
    fun m g _ => Cert.NormLastBwdIdeal.Gen.frame m g,
    fun m g _ => ref_NormLastBwdRefIdeal m g trivial,
    fun m g _ => Cert.NormMidBwd.Gen.frame m g,
    fun m g _ => Cert.NormMidBwdIdeal.Gen.frame m g,
    fun m g _ => ref_NormMidBwdRefIdeal m g trivial,
    fun m g _ => Cert.NormMemBwd.Gen.frame m g,
    fun m g _ => Cert.NormMemBwdIdeal.Gen.frame m g,
    fun m g _ => ref_NormMemBwdRefIdeal m g trivial,
    fun m g _ => Cert.NormFirstBwd.Gen.frame m g,
    fun m g _ => Cert.NormFirstBwdIdeal.Gen.frame m g,
    fun m g _ => ref_NormFirstBwdRefIdeal m g trivial,
    fun m g _ => Cert.Loss.Gen.frame m g,
    fun m g _ => Cert.LossIdeal.Gen.frame m g,
    fun m g _ => ref_LossRefIdeal m g trivial,
    fun m g _ => Cert.DownBwd.Gen.frame m g,
    fun m g _ => Cert.DownBwdIdeal.Gen.frame m g,
    fun m g _ => ref_DownBwdRefIdeal m g trivial,
    fun m g _ => Cert.GmlpBwd.Gen.frame m g,
    fun m g _ => Cert.GmlpBwdIdeal.Gen.frame m g,
    fun m g _ => Cert.GmlpBwdIdeal.Gen.frame m g,
    fun m g _ => ref_GmlpBwdRefIdeal m g trivial,
    fun m g _ => ref_GmlpBwdRefIdeal m g trivial,
    fun m g _ => Cert.PoolBwd.Gen.frame m g,
    fun m g _ => Cert.PoolBwdIdeal.Gen.frame m g,
    fun m g _ => Cert.PoolBwdIdeal.Gen.frame m g,
    fun m g _ => ref_PoolBwdRefIdeal m g trivial,
    fun m g _ => ref_PoolBwdRefIdeal m g trivial,
    fun m g _ => Cert.SwishBwd.Gen.frame m g,
    fun m g _ => Cert.SwishBwdIdeal.Gen.frame m g,
    fun m g _ => Cert.SwishBwdIdeal.Gen.frame m g,
    fun m g _ => ref_SwishBwdRefIdeal m g trivial,
    fun m g _ => ref_SwishBwdRefIdeal m g trivial,
    fun m g _ => Cert.AttnFwd.Gen.frame m g,
    fun m g _ => Cert.AttnFwdIdeal.Gen.frame m g,
    fun m g _ => ref_AttnFwdRefIdeal m g trivial,
    fun m g _ => Cert.GmlpFwd.Gen.frame m g,
    fun m g _ => Cert.GmlpFwdIdeal.Gen.frame m g,
    fun m g _ => ref_GmlpFwdRefIdeal m g trivial,
    fun m g _ => Cert.PoolFwd.Gen.frame m g,
    fun m g _ => Cert.PoolFwdIdeal.Gen.frame m g,
    fun m g _ => Cert.PoolFwdIdeal.Gen.frame m g,
    fun m g _ => ref_PoolFwdRefIdeal m g trivial,
    fun m g _ => ref_PoolFwdRefIdeal m g trivial,
    fun m g _ => Cert.ConvFwd.Gen.frame m g,
    fun m g _ => Cert.ConvFwdIdeal.Gen.frame m g,
    fun m g _ => ref_ConvFwdRefIdeal m g trivial,
    fun m g _ => Cert.SwishFwd.Gen.frame m g,
    fun m g _ => Cert.SwishFwdIdeal.Gen.frame m g,
    fun m g _ => ref_SwishFwdRefIdeal m g trivial,
    fun m g _ => Cert.NormFirstFwd.Gen.frame m g,
    fun m g _ => Cert.NormFirstFwdIdeal.Gen.frame m g,
    fun m g _ => ref_NormFirstFwdRefIdeal m g trivial,
    fun m g _ => Cert.NormMemFwd.Gen.frame m g,
    fun m g _ => Cert.NormMemFwdIdeal.Gen.frame m g,
    fun m g _ => ref_NormMemFwdRefIdeal m g trivial,
    fun m g _ => Cert.NormMidFwd.Gen.frame m g,
    fun m g _ => Cert.NormMidFwdIdeal.Gen.frame m g,
    fun m g _ => ref_NormMidFwdRefIdeal m g trivial,
    fun m g _ => Cert.NormLastFwd.Gen.frame m g,
    fun m g _ => Cert.NormLastFwdIdeal.Gen.frame m g,
    fun m g _ => ref_NormLastFwdRefIdeal m g trivial,
    fun m g _ => Cert.UpFwd.Gen.frame m g,
    fun m g _ => Cert.UpFwdIdeal.Gen.frame m g,
    fun m g _ => ref_UpFwdRefIdeal m g trivial,
    fun m g _ => Cert.DownFwd.Gen.frame m g,
    fun m g _ => Cert.DownFwdIdeal.Gen.frame m g,
    fun m g _ => ref_DownFwdRefIdeal m g trivial,
    fun m g _ => Cert.InFwd.Gen.frame m g,
    fun m g _ => Cert.InFwdIdeal.Gen.frame m g,
    fun m g _ => ref_InFwdRefIdeal m g trivial,
    fun m g _ => Cert.OutDx.Gen.frame m g,
    fun m g _ => Cert.OutDxIdeal.Gen.frame m g,
    fun m g _ => ref_OutDxRefIdeal m g trivial,
    fun m g _ => Cert.UpDx.Gen.frame m g,
    fun m g _ => Cert.UpDxIdeal.Gen.frame m g,
    fun m g _ => ref_UpDxRefIdeal m g trivial,
    fun m g _ => Cert.DownDw.Gen.frame m g,
    fun m g _ => Cert.DownDwIdeal.Gen.frame m g,
    fun m g _ => ref_DownDwRefIdeal m g trivial,
    fun m g _ => Cert.UpDw.Gen.frame m g,
    fun m g _ => Cert.UpDwIdeal.Gen.frame m g,
    fun m g _ => ref_UpDwRefIdeal m g trivial,
    fun m g _ => Cert.AdamwUp.Gen.frame m g,
    fun m g _ => Cert.AdamwUpIdeal.Gen.frame m g,
    fun m g _ => ref_AdamwUpRefIdeal m g trivial,
    fun m g _ => Cert.AdamwTaps.Gen.frame m g,
    fun m g _ => Cert.AdamwTapsIdeal.Gen.frame m g,
    fun m g _ => ref_AdamwTapsRefIdeal m g trivial,
    fun m g _ => Cert.DeviceSum.Gen.frame m g,
    fun m g _ => Cert.DeviceSumIdeal.Gen.frame m g,
    fun m g _ => ref_DeviceSumRefIdeal m g trivial,
    trivial,
    Cert.Conv.pair,
    trivial,
    Cert.Attn.pair,
    trivial,
    Cert.NormLast.pair,
    trivial,
    Cert.NormMid.pair,
    trivial,
    Cert.NormMem.pair,
    trivial,
    Cert.NormFirst.pair,
    trivial,
    Cert.LossHead.pair,
    trivial,
    Cert.Down.pair,
    trivial,
    Cert.Gmlp.pair,
    trivial,
    Cert.Pool.pair,
    trivial,
    Cert.Swish.pair,
    trivial,
    Cert.AttnOut.pair,
    trivial,
    Cert.GmlpOut.pair,
    trivial,
    Cert.PoolOut.pair,
    trivial,
    Cert.ConvOut.pair,
    trivial,
    Cert.SwishOut.pair,
    trivial,
    Cert.NormFirstOut.pair,
    trivial,
    Cert.NormMemOut.pair,
    trivial,
    Cert.NormMidOut.pair,
    trivial,
    Cert.NormLastOut.pair,
    trivial,
    Cert.UpOut.pair,
    trivial,
    Cert.DownOut.pair,
    trivial,
    Cert.InOut.pair,
    trivial,
    Cert.OutGrad.pair,
    trivial,
    Cert.UpGrad.pair,
    trivial,
    Cert.DownWeight.pair,
    trivial,
    Cert.UpWeight.pair,
    trivial,
    Cert.AdamLayer.pair,
    trivial,
    Cert.AdamFlat.pair,
    trivial,
    Cert.SumDevices.pair⟩

end Cert.Proof

end
